-- ==== Defs.lean ====
def Pre_Kernel [hPre_edges_in_range : Cert.Pre_edges_in_range.Facts] (m : (ℓ : Loc Cert.Kernel.nD Cert.Kernel.τ Cert.Kernel.sig) → Buf (Elt Bits) ℓ) : Prop :=
  ∀ c : Dev Cert.Kernel.nD,
    (Cert.Pre_edges_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_edges_in_range : Cert.Pre_edges_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_edges_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_edges_in_range [hPre_edges_in_range : Cert.Pre_edges_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_edges_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Degrees [hPre_columns_in_range : Cert.Pre_columns_in_range.Facts] (m : (ℓ : Loc Cert.Degrees.nD Cert.Degrees.τ Cert.Degrees.sig) → Buf (Elt Bits) ℓ) : Prop :=
  ∀ c : Dev Cert.Degrees.nD,
    (Cert.Pre_columns_in_range.fn (F := Bits) (m ((c.tc : Thread Cert.Degrees.nD Cert.Degrees.τ).loc Cert.Degrees.main_arg0)) (m ((c.tc : Thread Cert.Degrees.nD Cert.Degrees.τ).loc Cert.Degrees.main_arg1))) = (fun _ => 1#1)

def Pre_DegreesIdeal [hPre_columns_in_range : Cert.Pre_columns_in_range.Facts] (m : (ℓ : Loc Cert.DegreesIdeal.nD Cert.DegreesIdeal.τ Cert.DegreesIdeal.sig) → Buf (Elt Ideal) ℓ) : Prop :=
  ∀ c : Dev Cert.DegreesIdeal.nD,
    (Cert.Pre_columns_in_range.fn (F := Ideal) (m ((c.tc : Thread Cert.DegreesIdeal.nD Cert.DegreesIdeal.τ).loc Cert.DegreesIdeal.main_arg0)) (m ((c.tc : Thread Cert.DegreesIdeal.nD Cert.DegreesIdeal.τ).loc Cert.DegreesIdeal.main_arg1))) = (fun _ => 1#1)

def Pre_DegreesReferenceIdeal (m : (ℓ : Loc Cert.DegreesReferenceIdeal.nD Cert.DegreesReferenceIdeal.τ Cert.DegreesReferenceIdeal.sig) → Buf (Elt Ideal) ℓ) : Prop :=
  True

def Pre_DegreesReferenceIdeal_columns_in_range [hPre_columns_in_range : Cert.Pre_columns_in_range.Facts] (m : (ℓ : Loc Cert.DegreesReferenceIdeal.nD Cert.DegreesReferenceIdeal.τ Cert.DegreesReferenceIdeal.sig) → Buf (Elt Ideal) ℓ) : Prop :=
  ∀ c : Dev Cert.DegreesReferenceIdeal.nD,
    (Cert.Pre_columns_in_range.fn (F := Ideal) (m ((c.tc : Thread Cert.DegreesReferenceIdeal.nD Cert.DegreesReferenceIdeal.τ).loc Cert.DegreesReferenceIdeal.main_arg0)) (m ((c.tc : Thread Cert.DegreesReferenceIdeal.nD Cert.DegreesReferenceIdeal.τ).loc Cert.DegreesReferenceIdeal.main_arg1))) = (fun _ => 1#1)

def Pre_Project (m : (ℓ : Loc Cert.Project.nD Cert.Project.τ Cert.Project.sig) → Buf (Elt Bits) ℓ) : Prop :=
  True

def Pre_ProjectIdeal (m : (ℓ : Loc Cert.ProjectIdeal.nD Cert.ProjectIdeal.τ Cert.ProjectIdeal.sig) → Buf (Elt Ideal) ℓ) : Prop :=
  True

def Pre_ProjectReferenceIdeal (m : (ℓ : Loc Cert.ProjectReferenceIdeal.nD Cert.ProjectReferenceIdeal.τ Cert.ProjectReferenceIdeal.sig) → Buf (Elt Ideal) ℓ) : Prop :=
  True

def Pre_Scale (m : (ℓ : Loc Cert.Scale.nD Cert.Scale.τ Cert.Scale.sig) → Buf (Elt Bits) ℓ) : Prop :=
  True

def Pre_ScaleIdeal (m : (ℓ : Loc Cert.ScaleIdeal.nD Cert.ScaleIdeal.τ Cert.ScaleIdeal.sig) → Buf (Elt Ideal) ℓ) : Prop :=
  True

def Pre_ScaleReferenceIdeal (m : (ℓ : Loc Cert.ScaleReferenceIdeal.nD Cert.ScaleReferenceIdeal.τ Cert.ScaleReferenceIdeal.sig) → Buf (Elt Ideal) ℓ) : Prop :=
  True

def Pre_First (m : (ℓ : Loc Cert.First.nD Cert.First.τ Cert.First.sig) → Buf (Elt Bits) ℓ) : Prop :=
  True

def Pre_FirstIdeal (m : (ℓ : Loc Cert.FirstIdeal.nD Cert.FirstIdeal.τ Cert.FirstIdeal.sig) → Buf (Elt Ideal) ℓ) : Prop :=
  True

def Pre_FirstReferenceIdeal (m : (ℓ : Loc Cert.FirstReferenceIdeal.nD Cert.FirstReferenceIdeal.τ Cert.FirstReferenceIdeal.sig) → Buf (Elt Ideal) ℓ) : Prop :=
  True

def Pre_Middle (m : (ℓ : Loc Cert.Middle.nD Cert.Middle.τ Cert.Middle.sig) → Buf (Elt Bits) ℓ) : Prop :=
  True

def Pre_MiddleIdeal (m : (ℓ : Loc Cert.MiddleIdeal.nD Cert.MiddleIdeal.τ Cert.MiddleIdeal.sig) → Buf (Elt Ideal) ℓ) : Prop :=
  True

def Pre_MiddleReferenceIdeal (m : (ℓ : Loc Cert.MiddleReferenceIdeal.nD Cert.MiddleReferenceIdeal.τ Cert.MiddleReferenceIdeal.sig) → Buf (Elt Ideal) ℓ) : Prop :=
  True

def Pre_Last (m : (ℓ : Loc Cert.Last.nD Cert.Last.τ Cert.Last.sig) → Buf (Elt Bits) ℓ) : Prop :=
  True

def Pre_LastIdeal (m : (ℓ : Loc Cert.LastIdeal.nD Cert.LastIdeal.τ Cert.LastIdeal.sig) → Buf (Elt Ideal) ℓ) : Prop :=
  True

def Pre_LastReferenceIdeal (m : (ℓ : Loc Cert.LastReferenceIdeal.nD Cert.LastReferenceIdeal.τ Cert.LastReferenceIdeal.sig) → Buf (Elt Ideal) ℓ) : Prop :=
  True

def quiescent_Kernel [hKernel : Cert.Kernel.Facts] [hPre_edges_in_range : Cert.Pre_edges_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_edges_in_range : Cert.Pre_edges_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_edges_in_range [hReferenceIdeal : Cert.ReferenceIdeal.Facts] [hPre_edges_in_range : Cert.Pre_edges_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_edges_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Degrees [hDegrees : Cert.Degrees.Facts] [hPre_columns_in_range : Cert.Pre_columns_in_range.Facts] : Prop :=
  ∀ (m : (ℓ : Loc Cert.Degrees.nD Cert.Degrees.τ Cert.Degrees.sig) → Buf (Elt Bits) ℓ) (g : Dev Cert.Degrees.nD → PrngReg), Pre_Degrees m →
    θ_run (Cert.Degrees.defs (F := Bits)) (Cert.Degrees.threads (F := Bits)) ⟨m, fun _ => 0, g⟩ (fun r => (∀ c : Dev Cert.Degrees.nD,
      r.2.mem ((c.tc : Thread Cert.Degrees.nD Cert.Degrees.τ).loc Cert.Degrees.main_arg0) = m ((c.tc : Thread Cert.Degrees.nD Cert.Degrees.τ).loc Cert.Degrees.main_arg0)
      ∧ r.2.mem ((c.tc : Thread Cert.Degrees.nD Cert.Degrees.τ).loc Cert.Degrees.main_arg1) = m ((c.tc : Thread Cert.Degrees.nD Cert.Degrees.τ).loc Cert.Degrees.main_arg1))
      ∧ r.2.sem = fun _ => 0)

def quiescent_DegreesIdeal [hDegreesIdeal : Cert.DegreesIdeal.Facts] [hPre_columns_in_range : Cert.Pre_columns_in_range.Facts] : Prop :=
  ∀ (m : (ℓ : Loc Cert.DegreesIdeal.nD Cert.DegreesIdeal.τ Cert.DegreesIdeal.sig) → Buf (Elt Ideal) ℓ) (g : Dev Cert.DegreesIdeal.nD → PrngReg), Pre_DegreesIdeal m →
    θ_run (Cert.DegreesIdeal.defs (F := Ideal)) (Cert.DegreesIdeal.threads (F := Ideal)) ⟨m, fun _ => 0, g⟩ (fun r => (∀ c : Dev Cert.DegreesIdeal.nD,
      r.2.mem ((c.tc : Thread Cert.DegreesIdeal.nD Cert.DegreesIdeal.τ).loc Cert.DegreesIdeal.main_arg0) = m ((c.tc : Thread Cert.DegreesIdeal.nD Cert.DegreesIdeal.τ).loc Cert.DegreesIdeal.main_arg0)
      ∧ r.2.mem ((c.tc : Thread Cert.DegreesIdeal.nD Cert.DegreesIdeal.τ).loc Cert.DegreesIdeal.main_arg1) = m ((c.tc : Thread Cert.DegreesIdeal.nD Cert.DegreesIdeal.τ).loc Cert.DegreesIdeal.main_arg1))
      ∧ r.2.sem = fun _ => 0)

def quiescent_DegreesReferenceIdeal [hDegreesReferenceIdeal : Cert.DegreesReferenceIdeal.Facts] : Prop :=
  ∀ (m : (ℓ : Loc Cert.DegreesReferenceIdeal.nD Cert.DegreesReferenceIdeal.τ Cert.DegreesReferenceIdeal.sig) → Buf (Elt Ideal) ℓ) (g : Dev Cert.DegreesReferenceIdeal.nD → PrngReg), Pre_DegreesReferenceIdeal m →
    θ_run (Cert.DegreesReferenceIdeal.defs (F := Ideal)) (onTc (τ := Cert.DegreesReferenceIdeal.τ) (Cert.DegreesReferenceIdeal.main (F := Ideal))) ⟨m, fun _ => 0, g⟩ (fun r => (∀ c : Dev Cert.DegreesReferenceIdeal.nD,
      r.2.mem ((c.tc : Thread Cert.DegreesReferenceIdeal.nD Cert.DegreesReferenceIdeal.τ).loc Cert.DegreesReferenceIdeal.main_arg0) = m ((c.tc : Thread Cert.DegreesReferenceIdeal.nD Cert.DegreesReferenceIdeal.τ).loc Cert.DegreesReferenceIdeal.main_arg0)
      ∧ r.2.mem ((c.tc : Thread Cert.DegreesReferenceIdeal.nD Cert.DegreesReferenceIdeal.τ).loc Cert.DegreesReferenceIdeal.main_arg1) = m ((c.tc : Thread Cert.DegreesReferenceIdeal.nD Cert.DegreesReferenceIdeal.τ).loc Cert.DegreesReferenceIdeal.main_arg1))
      ∧ r.2.sem = fun _ => 0)

def quiescent_DegreesReferenceIdeal_pre_columns_in_range [hDegreesReferenceIdeal : Cert.DegreesReferenceIdeal.Facts] [hPre_columns_in_range : Cert.Pre_columns_in_range.Facts] : Prop :=
  ∀ (m : (ℓ : Loc Cert.DegreesReferenceIdeal.nD Cert.DegreesReferenceIdeal.τ Cert.DegreesReferenceIdeal.sig) → Buf (Elt Ideal) ℓ) (g : Dev Cert.DegreesReferenceIdeal.nD → PrngReg), Pre_DegreesReferenceIdeal_columns_in_range m →
    θ_run (Cert.DegreesReferenceIdeal.defs (F := Ideal)) (onTc (τ := Cert.DegreesReferenceIdeal.τ) (Cert.DegreesReferenceIdeal.main (F := Ideal))) ⟨m, fun _ => 0, g⟩ (fun r => (∀ c : Dev Cert.DegreesReferenceIdeal.nD,
      r.2.mem ((c.tc : Thread Cert.DegreesReferenceIdeal.nD Cert.DegreesReferenceIdeal.τ).loc Cert.DegreesReferenceIdeal.main_arg0) = m ((c.tc : Thread Cert.DegreesReferenceIdeal.nD Cert.DegreesReferenceIdeal.τ).loc Cert.DegreesReferenceIdeal.main_arg0)
      ∧ r.2.mem ((c.tc : Thread Cert.DegreesReferenceIdeal.nD Cert.DegreesReferenceIdeal.τ).loc Cert.DegreesReferenceIdeal.main_arg1) = m ((c.tc : Thread Cert.DegreesReferenceIdeal.nD Cert.DegreesReferenceIdeal.τ).loc Cert.DegreesReferenceIdeal.main_arg1))
      ∧ r.2.sem = fun _ => 0)

def quiescent_Project [hProject : Cert.Project.Facts] : Prop :=
  ∀ (m : (ℓ : Loc Cert.Project.nD Cert.Project.τ Cert.Project.sig) → Buf (Elt Bits) ℓ) (g : Dev Cert.Project.nD → PrngReg), Pre_Project m →
    θ_run (Cert.Project.defs (F := Bits)) (onTc (τ := Cert.Project.τ) (Cert.Project.main (F := Bits))) ⟨m, fun _ => 0, g⟩ (fun r => (∀ c : Dev Cert.Project.nD,
      r.2.mem ((c.tc : Thread Cert.Project.nD Cert.Project.τ).loc Cert.Project.main_arg0) = m ((c.tc : Thread Cert.Project.nD Cert.Project.τ).loc Cert.Project.main_arg0)
      ∧ r.2.mem ((c.tc : Thread Cert.Project.nD Cert.Project.τ).loc Cert.Project.main_arg1) = m ((c.tc : Thread Cert.Project.nD Cert.Project.τ).loc Cert.Project.main_arg1))
      ∧ r.2.sem = fun _ => 0)

def quiescent_ProjectIdeal [hProjectIdeal : Cert.ProjectIdeal.Facts] : Prop :=
  ∀ (m : (ℓ : Loc Cert.ProjectIdeal.nD Cert.ProjectIdeal.τ Cert.ProjectIdeal.sig) → Buf (Elt Ideal) ℓ) (g : Dev Cert.ProjectIdeal.nD → PrngReg), Pre_ProjectIdeal m →
    θ_run (Cert.ProjectIdeal.defs (F := Ideal)) (onTc (τ := Cert.ProjectIdeal.τ) (Cert.ProjectIdeal.main (F := Ideal))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1))
      ∧ r.2.sem = fun _ => 0)

def quiescent_ProjectReferenceIdeal [hProjectReferenceIdeal : Cert.ProjectReferenceIdeal.Facts] : Prop :=
  ∀ (m : (ℓ : Loc Cert.ProjectReferenceIdeal.nD Cert.ProjectReferenceIdeal.τ Cert.ProjectReferenceIdeal.sig) → Buf (Elt Ideal) ℓ) (g : Dev Cert.ProjectReferenceIdeal.nD → PrngReg), Pre_ProjectReferenceIdeal m →
    θ_run (Cert.ProjectReferenceIdeal.defs (F := Ideal)) (onTc (τ := Cert.ProjectReferenceIdeal.τ) (Cert.ProjectReferenceIdeal.main (F := Ideal))) ⟨m, fun _ => 0, g⟩ (fun r => (∀ c : Dev Cert.ProjectReferenceIdeal.nD,
      r.2.mem ((c.tc : Thread Cert.ProjectReferenceIdeal.nD Cert.ProjectReferenceIdeal.τ).loc Cert.ProjectReferenceIdeal.main_arg0) = m ((c.tc : Thread Cert.ProjectReferenceIdeal.nD Cert.ProjectReferenceIdeal.τ).loc Cert.ProjectReferenceIdeal.main_arg0)
      ∧ r.2.mem ((c.tc : Thread Cert.ProjectReferenceIdeal.nD Cert.ProjectReferenceIdeal.τ).loc Cert.ProjectReferenceIdeal.main_arg1) = m ((c.tc : Thread Cert.ProjectReferenceIdeal.nD Cert.ProjectReferenceIdeal.τ).loc Cert.ProjectReferenceIdeal.main_arg1))
      ∧ r.2.sem = fun _ => 0)

def quiescent_Scale [hScale : Cert.Scale.Facts] : Prop :=
  ∀ (m : (ℓ : Loc Cert.Scale.nD Cert.Scale.τ Cert.Scale.sig) → Buf (Elt Bits) ℓ) (g : Dev Cert.Scale.nD → PrngReg), Pre_Scale m →
    θ_run (Cert.Scale.defs (F := Bits)) (onTc (τ := Cert.Scale.τ) (Cert.Scale.main (F := Bits))) ⟨m, fun _ => 0, g⟩ (fun r => (∀ c : Dev Cert.Scale.nD,
      r.2.mem ((c.tc : Thread Cert.Scale.nD Cert.Scale.τ).loc Cert.Scale.main_arg0) = m ((c.tc : Thread Cert.Scale.nD Cert.Scale.τ).loc Cert.Scale.main_arg0)
      ∧ r.2.mem ((c.tc : Thread Cert.Scale.nD Cert.Scale.τ).loc Cert.Scale.main_arg1) = m ((c.tc : Thread Cert.Scale.nD Cert.Scale.τ).loc Cert.Scale.main_arg1))
      ∧ r.2.sem = fun _ => 0)

def quiescent_ScaleIdeal [hScaleIdeal : Cert.ScaleIdeal.Facts] : Prop :=
  ∀ (m : (ℓ : Loc Cert.ScaleIdeal.nD Cert.ScaleIdeal.τ Cert.ScaleIdeal.sig) → Buf (Elt Ideal) ℓ) (g : Dev Cert.ScaleIdeal.nD → PrngReg), Pre_ScaleIdeal m →
    θ_run (Cert.ScaleIdeal.defs (F := Ideal)) (onTc (τ := Cert.ScaleIdeal.τ) (Cert.ScaleIdeal.main (F := Ideal))) ⟨m, fun _ => 0, g⟩ (fun r => (∀ c : Dev Cert.ScaleIdeal.nD,
      r.2.mem ((c.tc : Thread Cert.ScaleIdeal.nD Cert.ScaleIdeal.τ).loc Cert.ScaleIdeal.main_arg0) = m ((c.tc : Thread Cert.ScaleIdeal.nD Cert.ScaleIdeal.τ).loc Cert.ScaleIdeal.main_arg0)
      ∧ r.2.mem ((c.tc : Thread Cert.ScaleIdeal.nD Cert.ScaleIdeal.τ).loc Cert.ScaleIdeal.main_arg1) = m ((c.tc : Thread Cert.ScaleIdeal.nD Cert.ScaleIdeal.τ).loc Cert.ScaleIdeal.main_arg1))
      ∧ r.2.sem = fun _ => 0)

def quiescent_ScaleReferenceIdeal [hScaleReferenceIdeal : Cert.ScaleReferenceIdeal.Facts] : Prop :=
  ∀ (m : (ℓ : Loc Cert.ScaleReferenceIdeal.nD Cert.ScaleReferenceIdeal.τ Cert.ScaleReferenceIdeal.sig) → Buf (Elt Ideal) ℓ) (g : Dev Cert.ScaleReferenceIdeal.nD → PrngReg), Pre_ScaleReferenceIdeal m →
    θ_run (Cert.ScaleReferenceIdeal.defs (F := Ideal)) (onTc (τ := Cert.ScaleReferenceIdeal.τ) (Cert.ScaleReferenceIdeal.main (F := Ideal))) ⟨m, fun _ => 0, g⟩ (fun r => (∀ c : Dev Cert.ScaleReferenceIdeal.nD,
      r.2.mem ((c.tc : Thread Cert.ScaleReferenceIdeal.nD Cert.ScaleReferenceIdeal.τ).loc Cert.ScaleReferenceIdeal.main_arg0) = m ((c.tc : Thread Cert.ScaleReferenceIdeal.nD Cert.ScaleReferenceIdeal.τ).loc Cert.ScaleReferenceIdeal.main_arg0)
      ∧ r.2.mem ((c.tc : Thread Cert.ScaleReferenceIdeal.nD Cert.ScaleReferenceIdeal.τ).loc Cert.ScaleReferenceIdeal.main_arg1) = m ((c.tc : Thread Cert.ScaleReferenceIdeal.nD Cert.ScaleReferenceIdeal.τ).loc Cert.ScaleReferenceIdeal.main_arg1))
      ∧ r.2.sem = fun _ => 0)

def quiescent_First [hFirst : Cert.First.Facts] : Prop :=
  ∀ (m : (ℓ : Loc Cert.First.nD Cert.First.τ Cert.First.sig) → Buf (Elt Bits) ℓ) (g : Dev Cert.First.nD → PrngReg), Pre_First m →
    θ_run (Cert.First.defs (F := Bits)) (onTc (τ := Cert.First.τ) (Cert.First.main (F := Bits))) ⟨m, fun _ => 0, g⟩ (fun r => (∀ c : Dev Cert.First.nD,
      r.2.mem ((c.tc : Thread Cert.First.nD Cert.First.τ).loc Cert.First.main_arg0) = m ((c.tc : Thread Cert.First.nD Cert.First.τ).loc Cert.First.main_arg0)
      ∧ r.2.mem ((c.tc : Thread Cert.First.nD Cert.First.τ).loc Cert.First.main_arg1) = m ((c.tc : Thread Cert.First.nD Cert.First.τ).loc Cert.First.main_arg1)
      ∧ r.2.mem ((c.tc : Thread Cert.First.nD Cert.First.τ).loc Cert.First.main_arg2) = m ((c.tc : Thread Cert.First.nD Cert.First.τ).loc Cert.First.main_arg2)
      ∧ r.2.mem ((c.tc : Thread Cert.First.nD Cert.First.τ).loc Cert.First.main_arg3) = m ((c.tc : Thread Cert.First.nD Cert.First.τ).loc Cert.First.main_arg3)
      ∧ r.2.mem ((c.tc : Thread Cert.First.nD Cert.First.τ).loc Cert.First.main_arg4) = m ((c.tc : Thread Cert.First.nD Cert.First.τ).loc Cert.First.main_arg4)
      ∧ r.2.mem ((c.tc : Thread Cert.First.nD Cert.First.τ).loc Cert.First.main_arg5) = m ((c.tc : Thread Cert.First.nD Cert.First.τ).loc Cert.First.main_arg5)
      ∧ r.2.mem ((c.tc : Thread Cert.First.nD Cert.First.τ).loc Cert.First.main_arg6) = m ((c.tc : Thread Cert.First.nD Cert.First.τ).loc Cert.First.main_arg6))
      ∧ r.2.sem = fun _ => 0)

def quiescent_FirstIdeal [hFirstIdeal : Cert.FirstIdeal.Facts] : Prop :=
  ∀ (m : (ℓ : Loc Cert.FirstIdeal.nD Cert.FirstIdeal.τ Cert.FirstIdeal.sig) → Buf (Elt Ideal) ℓ) (g : Dev Cert.FirstIdeal.nD → PrngReg), Pre_FirstIdeal m →
    θ_run (Cert.FirstIdeal.defs (F := Ideal)) (onTc (τ := Cert.FirstIdeal.τ) (Cert.FirstIdeal.main (F := Ideal))) ⟨m, fun _ => 0, g⟩ (fun r => (∀ c : Dev Cert.FirstIdeal.nD,
      r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
      ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1)
      ∧ r.2.mem ((c.tc : Thread Cert.FirstIdeal.nD Cert.FirstIdeal.τ).loc Cert.FirstIdeal.main_arg2) = m ((c.tc : Thread Cert.FirstIdeal.nD Cert.FirstIdeal.τ).loc Cert.FirstIdeal.main_arg2)
      ∧ r.2.mem ((c.tc : Thread Cert.FirstIdeal.nD Cert.FirstIdeal.τ).loc Cert.FirstIdeal.main_arg3) = m ((c.tc : Thread Cert.FirstIdeal.nD Cert.FirstIdeal.τ).loc Cert.FirstIdeal.main_arg3)
      ∧ r.2.mem ((c.tc : Thread Cert.FirstIdeal.nD Cert.FirstIdeal.τ).loc Cert.FirstIdeal.main_arg4) = m ((c.tc : Thread Cert.FirstIdeal.nD Cert.FirstIdeal.τ).loc Cert.FirstIdeal.main_arg4)
      ∧ r.2.mem ((c.tc : Thread Cert.FirstIdeal.nD Cert.FirstIdeal.τ).loc Cert.FirstIdeal.main_arg5) = m ((c.tc : Thread Cert.FirstIdeal.nD Cert.FirstIdeal.τ).loc Cert.FirstIdeal.main_arg5)
      ∧ r.2.mem ((c.tc : Thread Cert.FirstIdeal.nD Cert.FirstIdeal.τ).loc Cert.FirstIdeal.main_arg6) = m ((c.tc : Thread Cert.FirstIdeal.nD Cert.FirstIdeal.τ).loc Cert.FirstIdeal.main_arg6))
      ∧ r.2.sem = fun _ => 0)

def quiescent_FirstReferenceIdeal [hFirstReferenceIdeal : Cert.FirstReferenceIdeal.Facts] : Prop :=
  ∀ (m : (ℓ : Loc Cert.FirstReferenceIdeal.nD Cert.FirstReferenceIdeal.τ Cert.FirstReferenceIdeal.sig) → Buf (Elt Ideal) ℓ) (g : Dev Cert.FirstReferenceIdeal.nD → PrngReg), Pre_FirstReferenceIdeal m →
    θ_run (Cert.FirstReferenceIdeal.defs (F := Ideal)) (onTc (τ := Cert.FirstReferenceIdeal.τ) (Cert.FirstReferenceIdeal.main (F := Ideal))) ⟨m, fun _ => 0, g⟩ (fun r => (∀ c : Dev Cert.FirstReferenceIdeal.nD,
      r.2.mem ((c.tc : Thread Cert.FirstReferenceIdeal.nD Cert.FirstReferenceIdeal.τ).loc Cert.FirstReferenceIdeal.main_arg0) = m ((c.tc : Thread Cert.FirstReferenceIdeal.nD Cert.FirstReferenceIdeal.τ).loc Cert.FirstReferenceIdeal.main_arg0)
      ∧ r.2.mem ((c.tc : Thread Cert.FirstReferenceIdeal.nD Cert.FirstReferenceIdeal.τ).loc Cert.FirstReferenceIdeal.main_arg1) = m ((c.tc : Thread Cert.FirstReferenceIdeal.nD Cert.FirstReferenceIdeal.τ).loc Cert.FirstReferenceIdeal.main_arg1)
      ∧ r.2.mem ((c.tc : Thread Cert.FirstReferenceIdeal.nD Cert.FirstReferenceIdeal.τ).loc Cert.FirstReferenceIdeal.main_arg2) = m ((c.tc : Thread Cert.FirstReferenceIdeal.nD Cert.FirstReferenceIdeal.τ).loc Cert.FirstReferenceIdeal.main_arg2)
      ∧ r.2.mem ((c.tc : Thread Cert.FirstReferenceIdeal.nD Cert.FirstReferenceIdeal.τ).loc Cert.FirstReferenceIdeal.main_arg3) = m ((c.tc : Thread Cert.FirstReferenceIdeal.nD Cert.FirstReferenceIdeal.τ).loc Cert.FirstReferenceIdeal.main_arg3)
      ∧ r.2.mem ((c.tc : Thread Cert.FirstReferenceIdeal.nD Cert.FirstReferenceIdeal.τ).loc Cert.FirstReferenceIdeal.main_arg4) = m ((c.tc : Thread Cert.FirstReferenceIdeal.nD Cert.FirstReferenceIdeal.τ).loc Cert.FirstReferenceIdeal.main_arg4)
      ∧ r.2.mem ((c.tc : Thread Cert.FirstReferenceIdeal.nD Cert.FirstReferenceIdeal.τ).loc Cert.FirstReferenceIdeal.main_arg5) = m ((c.tc : Thread Cert.FirstReferenceIdeal.nD Cert.FirstReferenceIdeal.τ).loc Cert.FirstReferenceIdeal.main_arg5)
      ∧ r.2.mem ((c.tc : Thread Cert.FirstReferenceIdeal.nD Cert.FirstReferenceIdeal.τ).loc Cert.FirstReferenceIdeal.main_arg6) = m ((c.tc : Thread Cert.FirstReferenceIdeal.nD Cert.FirstReferenceIdeal.τ).loc Cert.FirstReferenceIdeal.main_arg6))
      ∧ r.2.sem = fun _ => 0)

def quiescent_Middle [hMiddle : Cert.Middle.Facts] : Prop :=
  ∀ (m : (ℓ : Loc Cert.Middle.nD Cert.Middle.τ Cert.Middle.sig) → Buf (Elt Bits) ℓ) (g : Dev Cert.Middle.nD → PrngReg), Pre_Middle m →
    θ_run (Cert.Middle.defs (F := Bits)) (onTc (τ := Cert.Middle.τ) (Cert.Middle.main (F := Bits))) ⟨m, fun _ => 0, g⟩ (fun r => (∀ c : Dev Cert.Middle.nD,
      r.2.mem ((c.tc : Thread Cert.Middle.nD Cert.Middle.τ).loc Cert.Middle.main_arg0) = m ((c.tc : Thread Cert.Middle.nD Cert.Middle.τ).loc Cert.Middle.main_arg0)
      ∧ r.2.mem ((c.tc : Thread Cert.Middle.nD Cert.Middle.τ).loc Cert.Middle.main_arg1) = m ((c.tc : Thread Cert.Middle.nD Cert.Middle.τ).loc Cert.Middle.main_arg1)
      ∧ r.2.mem ((c.tc : Thread Cert.Middle.nD Cert.Middle.τ).loc Cert.Middle.main_arg2) = m ((c.tc : Thread Cert.Middle.nD Cert.Middle.τ).loc Cert.Middle.main_arg2)
      ∧ r.2.mem ((c.tc : Thread Cert.Middle.nD Cert.Middle.τ).loc Cert.Middle.main_arg3) = m ((c.tc : Thread Cert.Middle.nD Cert.Middle.τ).loc Cert.Middle.main_arg3)
      ∧ r.2.mem ((c.tc : Thread Cert.Middle.nD Cert.Middle.τ).loc Cert.Middle.main_arg4) = m ((c.tc : Thread Cert.Middle.nD Cert.Middle.τ).loc Cert.Middle.main_arg4)
      ∧ r.2.mem ((c.tc : Thread Cert.Middle.nD Cert.Middle.τ).loc Cert.Middle.main_arg5) = m ((c.tc : Thread Cert.Middle.nD Cert.Middle.τ).loc Cert.Middle.main_arg5)
      ∧ r.2.mem ((c.tc : Thread Cert.Middle.nD Cert.Middle.τ).loc Cert.Middle.main_arg6) = m ((c.tc : Thread Cert.Middle.nD Cert.Middle.τ).loc Cert.Middle.main_arg6)
      ∧ r.2.mem ((c.tc : Thread Cert.Middle.nD Cert.Middle.τ).loc Cert.Middle.main_arg7) = m ((c.tc : Thread Cert.Middle.nD Cert.Middle.τ).loc Cert.Middle.main_arg7))
      ∧ r.2.sem = fun _ => 0)

def quiescent_MiddleIdeal [hMiddleIdeal : Cert.MiddleIdeal.Facts] : Prop :=
  ∀ (m : (ℓ : Loc Cert.MiddleIdeal.nD Cert.MiddleIdeal.τ Cert.MiddleIdeal.sig) → Buf (Elt Ideal) ℓ) (g : Dev Cert.MiddleIdeal.nD → PrngReg), Pre_MiddleIdeal m →
    θ_run (Cert.MiddleIdeal.defs (F := Ideal)) (onTc (τ := Cert.MiddleIdeal.τ) (Cert.MiddleIdeal.main (F := Ideal))) ⟨m, fun _ => 0, g⟩ (fun r => (∀ c : Dev Cert.MiddleIdeal.nD,
      r.2.mem ((c.tc : Thread Cert.MiddleIdeal.nD Cert.MiddleIdeal.τ).loc Cert.MiddleIdeal.main_arg0) = m ((c.tc : Thread Cert.MiddleIdeal.nD Cert.MiddleIdeal.τ).loc Cert.MiddleIdeal.main_arg0)
      ∧ r.2.mem ((c.tc : Thread Cert.MiddleIdeal.nD Cert.MiddleIdeal.τ).loc Cert.MiddleIdeal.main_arg1) = m ((c.tc : Thread Cert.MiddleIdeal.nD Cert.MiddleIdeal.τ).loc Cert.MiddleIdeal.main_arg1)
      ∧ r.2.mem ((c.tc : Thread Cert.MiddleIdeal.nD Cert.MiddleIdeal.τ).loc Cert.MiddleIdeal.main_arg2) = m ((c.tc : Thread Cert.MiddleIdeal.nD Cert.MiddleIdeal.τ).loc Cert.MiddleIdeal.main_arg2)
      ∧ r.2.mem ((c.tc : Thread Cert.MiddleIdeal.nD Cert.MiddleIdeal.τ).loc Cert.MiddleIdeal.main_arg3) = m ((c.tc : Thread Cert.MiddleIdeal.nD Cert.MiddleIdeal.τ).loc Cert.MiddleIdeal.main_arg3)
      ∧ r.2.mem ((c.tc : Thread Cert.MiddleIdeal.nD Cert.MiddleIdeal.τ).loc Cert.MiddleIdeal.main_arg4) = m ((c.tc : Thread Cert.MiddleIdeal.nD Cert.MiddleIdeal.τ).loc Cert.MiddleIdeal.main_arg4)
      ∧ r.2.mem ((c.tc : Thread Cert.MiddleIdeal.nD Cert.MiddleIdeal.τ).loc Cert.MiddleIdeal.main_arg5) = m ((c.tc : Thread Cert.MiddleIdeal.nD Cert.MiddleIdeal.τ).loc Cert.MiddleIdeal.main_arg5)
      ∧ r.2.mem ((c.tc : Thread Cert.MiddleIdeal.nD Cert.MiddleIdeal.τ).loc Cert.MiddleIdeal.main_arg6) = m ((c.tc : Thread Cert.MiddleIdeal.nD Cert.MiddleIdeal.τ).loc Cert.MiddleIdeal.main_arg6)
      ∧ r.2.mem ((c.tc : Thread Cert.MiddleIdeal.nD Cert.MiddleIdeal.τ).loc Cert.MiddleIdeal.main_arg7) = m ((c.tc : Thread Cert.MiddleIdeal.nD Cert.MiddleIdeal.τ).loc Cert.MiddleIdeal.main_arg7))
      ∧ r.2.sem = fun _ => 0)

def quiescent_MiddleReferenceIdeal [hMiddleReferenceIdeal : Cert.MiddleReferenceIdeal.Facts] : Prop :=
  ∀ (m : (ℓ : Loc Cert.MiddleReferenceIdeal.nD Cert.MiddleReferenceIdeal.τ Cert.MiddleReferenceIdeal.sig) → Buf (Elt Ideal) ℓ) (g : Dev Cert.MiddleReferenceIdeal.nD → PrngReg), Pre_MiddleReferenceIdeal m →
    θ_run (Cert.MiddleReferenceIdeal.defs (F := Ideal)) (onTc (τ := Cert.MiddleReferenceIdeal.τ) (Cert.MiddleReferenceIdeal.main (F := Ideal))) ⟨m, fun _ => 0, g⟩ (fun r => (∀ c : Dev Cert.MiddleReferenceIdeal.nD,
      r.2.mem ((c.tc : Thread Cert.MiddleReferenceIdeal.nD Cert.MiddleReferenceIdeal.τ).loc Cert.MiddleReferenceIdeal.main_arg0) = m ((c.tc : Thread Cert.MiddleReferenceIdeal.nD Cert.MiddleReferenceIdeal.τ).loc Cert.MiddleReferenceIdeal.main_arg0)
      ∧ r.2.mem ((c.tc : Thread Cert.MiddleReferenceIdeal.nD Cert.MiddleReferenceIdeal.τ).loc Cert.MiddleReferenceIdeal.main_arg1) = m ((c.tc : Thread Cert.MiddleReferenceIdeal.nD Cert.MiddleReferenceIdeal.τ).loc Cert.MiddleReferenceIdeal.main_arg1)
      ∧ r.2.mem ((c.tc : Thread Cert.MiddleReferenceIdeal.nD Cert.MiddleReferenceIdeal.τ).loc Cert.MiddleReferenceIdeal.main_arg2) = m ((c.tc : Thread Cert.MiddleReferenceIdeal.nD Cert.MiddleReferenceIdeal.τ).loc Cert.MiddleReferenceIdeal.main_arg2)
      ∧ r.2.mem ((c.tc : Thread Cert.MiddleReferenceIdeal.nD Cert.MiddleReferenceIdeal.τ).loc Cert.MiddleReferenceIdeal.main_arg3) = m ((c.tc : Thread Cert.MiddleReferenceIdeal.nD Cert.MiddleReferenceIdeal.τ).loc Cert.MiddleReferenceIdeal.main_arg3)
      ∧ r.2.mem ((c.tc : Thread Cert.MiddleReferenceIdeal.nD Cert.MiddleReferenceIdeal.τ).loc Cert.MiddleReferenceIdeal.main_arg4) = m ((c.tc : Thread Cert.MiddleReferenceIdeal.nD Cert.MiddleReferenceIdeal.τ).loc Cert.MiddleReferenceIdeal.main_arg4)
      ∧ r.2.mem ((c.tc : Thread Cert.MiddleReferenceIdeal.nD Cert.MiddleReferenceIdeal.τ).loc Cert.MiddleReferenceIdeal.main_arg5) = m ((c.tc : Thread Cert.MiddleReferenceIdeal.nD Cert.MiddleReferenceIdeal.τ).loc Cert.MiddleReferenceIdeal.main_arg5)
      ∧ r.2.mem ((c.tc : Thread Cert.MiddleReferenceIdeal.nD Cert.MiddleReferenceIdeal.τ).loc Cert.MiddleReferenceIdeal.main_arg6) = m ((c.tc : Thread Cert.MiddleReferenceIdeal.nD Cert.MiddleReferenceIdeal.τ).loc Cert.MiddleReferenceIdeal.main_arg6)
      ∧ r.2.mem ((c.tc : Thread Cert.MiddleReferenceIdeal.nD Cert.MiddleReferenceIdeal.τ).loc Cert.MiddleReferenceIdeal.main_arg7) = m ((c.tc : Thread Cert.MiddleReferenceIdeal.nD Cert.MiddleReferenceIdeal.τ).loc Cert.MiddleReferenceIdeal.main_arg7))
      ∧ r.2.sem = fun _ => 0)

def quiescent_Last [hLast : Cert.Last.Facts] : Prop :=
  ∀ (m : (ℓ : Loc Cert.Last.nD Cert.Last.τ Cert.Last.sig) → Buf (Elt Bits) ℓ) (g : Dev Cert.Last.nD → PrngReg), Pre_Last m →
    θ_run (Cert.Last.defs (F := Bits)) (onTc (τ := Cert.Last.τ) (Cert.Last.main (F := Bits))) ⟨m, fun _ => 0, g⟩ (fun r => (∀ c : Dev Cert.Last.nD,
      r.2.mem ((c.tc : Thread Cert.Last.nD Cert.Last.τ).loc Cert.Last.main_arg0) = m ((c.tc : Thread Cert.Last.nD Cert.Last.τ).loc Cert.Last.main_arg0)
      ∧ r.2.mem ((c.tc : Thread Cert.Last.nD Cert.Last.τ).loc Cert.Last.main_arg1) = m ((c.tc : Thread Cert.Last.nD Cert.Last.τ).loc Cert.Last.main_arg1)
      ∧ r.2.mem ((c.tc : Thread Cert.Last.nD Cert.Last.τ).loc Cert.Last.main_arg2) = m ((c.tc : Thread Cert.Last.nD Cert.Last.τ).loc Cert.Last.main_arg2)
      ∧ r.2.mem ((c.tc : Thread Cert.Last.nD Cert.Last.τ).loc Cert.Last.main_arg3) = m ((c.tc : Thread Cert.Last.nD Cert.Last.τ).loc Cert.Last.main_arg3)
      ∧ r.2.mem ((c.tc : Thread Cert.Last.nD Cert.Last.τ).loc Cert.Last.main_arg4) = m ((c.tc : Thread Cert.Last.nD Cert.Last.τ).loc Cert.Last.main_arg4)
      ∧ r.2.mem ((c.tc : Thread Cert.Last.nD Cert.Last.τ).loc Cert.Last.main_arg5) = m ((c.tc : Thread Cert.Last.nD Cert.Last.τ).loc Cert.Last.main_arg5)
      ∧ r.2.mem ((c.tc : Thread Cert.Last.nD Cert.Last.τ).loc Cert.Last.main_arg6) = m ((c.tc : Thread Cert.Last.nD Cert.Last.τ).loc Cert.Last.main_arg6)
      ∧ r.2.mem ((c.tc : Thread Cert.Last.nD Cert.Last.τ).loc Cert.Last.main_arg7) = m ((c.tc : Thread Cert.Last.nD Cert.Last.τ).loc Cert.Last.main_arg7)
      ∧ r.2.mem ((c.tc : Thread Cert.Last.nD Cert.Last.τ).loc Cert.Last.main_arg8) = m ((c.tc : Thread Cert.Last.nD Cert.Last.τ).loc Cert.Last.main_arg8)
      ∧ r.2.mem ((c.tc : Thread Cert.Last.nD Cert.Last.τ).loc Cert.Last.main_arg9) = m ((c.tc : Thread Cert.Last.nD Cert.Last.τ).loc Cert.Last.main_arg9)
      ∧ r.2.mem ((c.tc : Thread Cert.Last.nD Cert.Last.τ).loc Cert.Last.main_arg10) = m ((c.tc : Thread Cert.Last.nD Cert.Last.τ).loc Cert.Last.main_arg10))
      ∧ r.2.sem = fun _ => 0)

def quiescent_LastIdeal [hLastIdeal : Cert.LastIdeal.Facts] : Prop :=
  ∀ (m : (ℓ : Loc Cert.LastIdeal.nD Cert.LastIdeal.τ Cert.LastIdeal.sig) → Buf (Elt Ideal) ℓ) (g : Dev Cert.LastIdeal.nD → PrngReg), Pre_LastIdeal m →
    θ_run (Cert.LastIdeal.defs (F := Ideal)) (onTc (τ := Cert.LastIdeal.τ) (Cert.LastIdeal.main (F := Ideal))) ⟨m, fun _ => 0, g⟩ (fun r => (∀ c : Dev Cert.LastIdeal.nD,
      r.2.mem ((c.tc : Thread Cert.LastIdeal.nD Cert.LastIdeal.τ).loc Cert.LastIdeal.main_arg0) = m ((c.tc : Thread Cert.LastIdeal.nD Cert.LastIdeal.τ).loc Cert.LastIdeal.main_arg0)
      ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
      ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
      ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
      ∧ r.2.mem ((c.tc : Thread Cert.LastIdeal.nD Cert.LastIdeal.τ).loc Cert.LastIdeal.main_arg4) = m ((c.tc : Thread Cert.LastIdeal.nD Cert.LastIdeal.τ).loc Cert.LastIdeal.main_arg4)
      ∧ r.2.mem ((c.tc : Thread Cert.LastIdeal.nD Cert.LastIdeal.τ).loc Cert.LastIdeal.main_arg5) = m ((c.tc : Thread Cert.LastIdeal.nD Cert.LastIdeal.τ).loc Cert.LastIdeal.main_arg5)
      ∧ r.2.mem ((c.tc : Thread Cert.LastIdeal.nD Cert.LastIdeal.τ).loc Cert.LastIdeal.main_arg6) = m ((c.tc : Thread Cert.LastIdeal.nD Cert.LastIdeal.τ).loc Cert.LastIdeal.main_arg6)
      ∧ r.2.mem ((c.tc : Thread Cert.LastIdeal.nD Cert.LastIdeal.τ).loc Cert.LastIdeal.main_arg7) = m ((c.tc : Thread Cert.LastIdeal.nD Cert.LastIdeal.τ).loc Cert.LastIdeal.main_arg7)
      ∧ r.2.mem ((c.tc : Thread Cert.LastIdeal.nD Cert.LastIdeal.τ).loc Cert.LastIdeal.main_arg8) = m ((c.tc : Thread Cert.LastIdeal.nD Cert.LastIdeal.τ).loc Cert.LastIdeal.main_arg8)
      ∧ r.2.mem ((c.tc : Thread Cert.LastIdeal.nD Cert.LastIdeal.τ).loc Cert.LastIdeal.main_arg9) = m ((c.tc : Thread Cert.LastIdeal.nD Cert.LastIdeal.τ).loc Cert.LastIdeal.main_arg9)
      ∧ r.2.mem ((c.tc : Thread Cert.LastIdeal.nD Cert.LastIdeal.τ).loc Cert.LastIdeal.main_arg10) = m ((c.tc : Thread Cert.LastIdeal.nD Cert.LastIdeal.τ).loc Cert.LastIdeal.main_arg10))
      ∧ r.2.sem = fun _ => 0)

def quiescent_LastReferenceIdeal [hLastReferenceIdeal : Cert.LastReferenceIdeal.Facts] : Prop :=
  ∀ (m : (ℓ : Loc Cert.LastReferenceIdeal.nD Cert.LastReferenceIdeal.τ Cert.LastReferenceIdeal.sig) → Buf (Elt Ideal) ℓ) (g : Dev Cert.LastReferenceIdeal.nD → PrngReg), Pre_LastReferenceIdeal m →
    θ_run (Cert.LastReferenceIdeal.defs (F := Ideal)) (onTc (τ := Cert.LastReferenceIdeal.τ) (Cert.LastReferenceIdeal.main (F := Ideal))) ⟨m, fun _ => 0, g⟩ (fun r => (∀ c : Dev Cert.LastReferenceIdeal.nD,
      r.2.mem ((c.tc : Thread Cert.LastReferenceIdeal.nD Cert.LastReferenceIdeal.τ).loc Cert.LastReferenceIdeal.main_arg0) = m ((c.tc : Thread Cert.LastReferenceIdeal.nD Cert.LastReferenceIdeal.τ).loc Cert.LastReferenceIdeal.main_arg0)
      ∧ r.2.mem ((c.tc : Thread Cert.LastReferenceIdeal.nD Cert.LastReferenceIdeal.τ).loc Cert.LastReferenceIdeal.main_arg1) = m ((c.tc : Thread Cert.LastReferenceIdeal.nD Cert.LastReferenceIdeal.τ).loc Cert.LastReferenceIdeal.main_arg1)
      ∧ r.2.mem ((c.tc : Thread Cert.LastReferenceIdeal.nD Cert.LastReferenceIdeal.τ).loc Cert.LastReferenceIdeal.main_arg2) = m ((c.tc : Thread Cert.LastReferenceIdeal.nD Cert.LastReferenceIdeal.τ).loc Cert.LastReferenceIdeal.main_arg2)
      ∧ r.2.mem ((c.tc : Thread Cert.LastReferenceIdeal.nD Cert.LastReferenceIdeal.τ).loc Cert.LastReferenceIdeal.main_arg3) = m ((c.tc : Thread Cert.LastReferenceIdeal.nD Cert.LastReferenceIdeal.τ).loc Cert.LastReferenceIdeal.main_arg3)
      ∧ r.2.mem ((c.tc : Thread Cert.LastReferenceIdeal.nD Cert.LastReferenceIdeal.τ).loc Cert.LastReferenceIdeal.main_arg4) = m ((c.tc : Thread Cert.LastReferenceIdeal.nD Cert.LastReferenceIdeal.τ).loc Cert.LastReferenceIdeal.main_arg4)
      ∧ r.2.mem ((c.tc : Thread Cert.LastReferenceIdeal.nD Cert.LastReferenceIdeal.τ).loc Cert.LastReferenceIdeal.main_arg5) = m ((c.tc : Thread Cert.LastReferenceIdeal.nD Cert.LastReferenceIdeal.τ).loc Cert.LastReferenceIdeal.main_arg5)
      ∧ r.2.mem ((c.tc : Thread Cert.LastReferenceIdeal.nD Cert.LastReferenceIdeal.τ).loc Cert.LastReferenceIdeal.main_arg6) = m ((c.tc : Thread Cert.LastReferenceIdeal.nD Cert.LastReferenceIdeal.τ).loc Cert.LastReferenceIdeal.main_arg6)
      ∧ r.2.mem ((c.tc : Thread Cert.LastReferenceIdeal.nD Cert.LastReferenceIdeal.τ).loc Cert.LastReferenceIdeal.main_arg7) = m ((c.tc : Thread Cert.LastReferenceIdeal.nD Cert.LastReferenceIdeal.τ).loc Cert.LastReferenceIdeal.main_arg7)
      ∧ r.2.mem ((c.tc : Thread Cert.LastReferenceIdeal.nD Cert.LastReferenceIdeal.τ).loc Cert.LastReferenceIdeal.main_arg8) = m ((c.tc : Thread Cert.LastReferenceIdeal.nD Cert.LastReferenceIdeal.τ).loc Cert.LastReferenceIdeal.main_arg8)
      ∧ r.2.mem ((c.tc : Thread Cert.LastReferenceIdeal.nD Cert.LastReferenceIdeal.τ).loc Cert.LastReferenceIdeal.main_arg9) = m ((c.tc : Thread Cert.LastReferenceIdeal.nD Cert.LastReferenceIdeal.τ).loc Cert.LastReferenceIdeal.main_arg9)
      ∧ r.2.mem ((c.tc : Thread Cert.LastReferenceIdeal.nD Cert.LastReferenceIdeal.τ).loc Cert.LastReferenceIdeal.main_arg10) = m ((c.tc : Thread Cert.LastReferenceIdeal.nD Cert.LastReferenceIdeal.τ).loc Cert.LastReferenceIdeal.main_arg10))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_edges_in_range : Cert.Pre_edges_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Degrees_DegreesIdeal : Prop :=
  True

def algebraic_DegreesIdeal_DegreesReferenceIdeal [hDegreesIdeal : Cert.DegreesIdeal.Facts] [hDegreesReferenceIdeal : Cert.DegreesReferenceIdeal.Facts] [hPre_columns_in_range : Cert.Pre_columns_in_range.Facts] : Prop :=
  ∀ (m : (ℓ : Loc Cert.DegreesIdeal.nD Cert.DegreesIdeal.τ Cert.DegreesIdeal.sig) → Buf (Elt Ideal) ℓ) (g : Dev Cert.DegreesIdeal.nD → PrngReg)
    (m' : (ℓ : Loc Cert.DegreesReferenceIdeal.nD Cert.DegreesReferenceIdeal.τ Cert.DegreesReferenceIdeal.sig) → Buf (Elt Ideal) ℓ) (g' : Dev Cert.DegreesReferenceIdeal.nD → PrngReg), Pre_DegreesIdeal m →
    (∀ c : Dev Cert.DegreesIdeal.nD,
      m' ((c.tc : Thread Cert.DegreesReferenceIdeal.nD Cert.DegreesReferenceIdeal.τ).loc Cert.DegreesReferenceIdeal.main_arg0) = m ((c.tc : Thread Cert.DegreesIdeal.nD Cert.DegreesIdeal.τ).loc Cert.DegreesIdeal.main_arg0)
      ∧ m' ((c.tc : Thread Cert.DegreesReferenceIdeal.nD Cert.DegreesReferenceIdeal.τ).loc Cert.DegreesReferenceIdeal.main_arg1) = m ((c.tc : Thread Cert.DegreesIdeal.nD Cert.DegreesIdeal.τ).loc Cert.DegreesIdeal.main_arg1)) →
    ∃ (v0 : (c : Dev Cert.DegreesIdeal.nD) → Buf (Elt Ideal) ((c.tc : Thread Cert.DegreesIdeal.nD Cert.DegreesIdeal.τ).loc Cert.DegreesIdeal.main_v0)),
      θ_run (Cert.DegreesIdeal.defs (F := Ideal)) (Cert.DegreesIdeal.threads (F := Ideal)) ⟨m, fun _ => 0, g⟩ (fun r => ∀ c : Dev Cert.DegreesIdeal.nD,
          r.2.mem ((c.tc : Thread Cert.DegreesIdeal.nD Cert.DegreesIdeal.τ).loc Cert.DegreesIdeal.main_v0) = v0 c
          ∧ r.2.mem ((c.tc : Thread Cert.DegreesIdeal.nD Cert.DegreesIdeal.τ).loc Cert.DegreesIdeal.main_arg0) = m ((c.tc : Thread Cert.DegreesIdeal.nD Cert.DegreesIdeal.τ).loc Cert.DegreesIdeal.main_arg0)
          ∧ r.2.mem ((c.tc : Thread Cert.DegreesIdeal.nD Cert.DegreesIdeal.τ).loc Cert.DegreesIdeal.main_arg1) = m ((c.tc : Thread Cert.DegreesIdeal.nD Cert.DegreesIdeal.τ).loc Cert.DegreesIdeal.main_arg1))
      ∧ θ_run (Cert.DegreesReferenceIdeal.defs (F := Ideal)) (onTc (τ := Cert.DegreesReferenceIdeal.τ) (Cert.DegreesReferenceIdeal.main (F := Ideal))) ⟨m', fun _ => 0, g'⟩ (fun r => ∀ c : Dev Cert.DegreesReferenceIdeal.nD,
          r.2.mem ((c.tc : Thread Cert.DegreesReferenceIdeal.nD Cert.DegreesReferenceIdeal.τ).loc Cert.DegreesReferenceIdeal.main_v9) = v0 c
          ∧ r.2.mem ((c.tc : Thread Cert.DegreesReferenceIdeal.nD Cert.DegreesReferenceIdeal.τ).loc Cert.DegreesReferenceIdeal.main_arg0) = m' ((c.tc : Thread Cert.DegreesReferenceIdeal.nD Cert.DegreesReferenceIdeal.τ).loc Cert.DegreesReferenceIdeal.main_arg0)
          ∧ r.2.mem ((c.tc : Thread Cert.DegreesReferenceIdeal.nD Cert.DegreesReferenceIdeal.τ).loc Cert.DegreesReferenceIdeal.main_arg1) = m' ((c.tc : Thread Cert.DegreesReferenceIdeal.nD Cert.DegreesReferenceIdeal.τ).loc Cert.DegreesReferenceIdeal.main_arg1))

def preserves_Project_ProjectIdeal : Prop :=
  True

def algebraic_ProjectIdeal_ProjectReferenceIdeal [hProjectIdeal : Cert.ProjectIdeal.Facts] [hProjectReferenceIdeal : Cert.ProjectReferenceIdeal.Facts] : Prop :=
  ∀ (m : (ℓ : Loc Cert.ProjectIdeal.nD Cert.ProjectIdeal.τ Cert.ProjectIdeal.sig) → Buf (Elt Ideal) ℓ) (g : Dev Cert.ProjectIdeal.nD → PrngReg)
    (m' : (ℓ : Loc Cert.ProjectReferenceIdeal.nD Cert.ProjectReferenceIdeal.τ Cert.ProjectReferenceIdeal.sig) → Buf (Elt Ideal) ℓ) (g' : Dev Cert.ProjectReferenceIdeal.nD → PrngReg), Pre_ProjectIdeal m →
    (∀ c : Dev Cert.ProjectIdeal.nD,
      m' ((c.tc : Thread Cert.ProjectReferenceIdeal.nD Cert.ProjectReferenceIdeal.τ).loc Cert.ProjectReferenceIdeal.main_arg0) = m ((c.tc : Thread Cert.ProjectIdeal.nD Cert.ProjectIdeal.τ).loc Cert.ProjectIdeal.main_arg0)
      ∧ m' ((c.tc : Thread Cert.ProjectReferenceIdeal.nD Cert.ProjectReferenceIdeal.τ).loc Cert.ProjectReferenceIdeal.main_arg1) = m ((c.tc : Thread Cert.ProjectIdeal.nD Cert.ProjectIdeal.τ).loc Cert.ProjectIdeal.main_arg1)) →
    ∃ (v0 : (c : Dev Cert.ProjectIdeal.nD) → Buf (Elt Ideal) ((c.tc : Thread Cert.ProjectIdeal.nD Cert.ProjectIdeal.τ).loc Cert.ProjectIdeal.main_v0)),
      θ_run (Cert.ProjectIdeal.defs (F := Ideal)) (onTc (τ := Cert.ProjectIdeal.τ) (Cert.ProjectIdeal.main (F := Ideal))) ⟨m, fun _ => 0, g⟩ (fun r => ∀ c : Dev Cert.ProjectIdeal.nD,
          r.2.mem ((c.tc : Thread Cert.ProjectIdeal.nD Cert.ProjectIdeal.τ).loc Cert.ProjectIdeal.main_v0) = v0 c
          ∧ r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
          ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1))
      ∧ θ_run (Cert.ProjectReferenceIdeal.defs (F := Ideal)) (onTc (τ := Cert.ProjectReferenceIdeal.τ) (Cert.ProjectReferenceIdeal.main (F := Ideal))) ⟨m', fun _ => 0, g'⟩ (fun r => ∀ c : Dev Cert.ProjectReferenceIdeal.nD,
          r.2.mem ((c.tc : Thread Cert.ProjectReferenceIdeal.nD Cert.ProjectReferenceIdeal.τ).loc Cert.ProjectReferenceIdeal.main_v1) = v0 c
          ∧ r.2.mem ((c.tc : Thread Cert.ProjectReferenceIdeal.nD Cert.ProjectReferenceIdeal.τ).loc Cert.ProjectReferenceIdeal.main_arg0) = m' ((c.tc : Thread Cert.ProjectReferenceIdeal.nD Cert.ProjectReferenceIdeal.τ).loc Cert.ProjectReferenceIdeal.main_arg0)
          ∧ r.2.mem ((c.tc : Thread Cert.ProjectReferenceIdeal.nD Cert.ProjectReferenceIdeal.τ).loc Cert.ProjectReferenceIdeal.main_arg1) = m' ((c.tc : Thread Cert.ProjectReferenceIdeal.nD Cert.ProjectReferenceIdeal.τ).loc Cert.ProjectReferenceIdeal.main_arg1))

def preserves_Scale_ScaleIdeal : Prop :=
  True

def algebraic_ScaleIdeal_ScaleReferenceIdeal [hScaleIdeal : Cert.ScaleIdeal.Facts] [hScaleReferenceIdeal : Cert.ScaleReferenceIdeal.Facts] : Prop :=
  ∀ (m : (ℓ : Loc Cert.ScaleIdeal.nD Cert.ScaleIdeal.τ Cert.ScaleIdeal.sig) → Buf (Elt Ideal) ℓ) (g : Dev Cert.ScaleIdeal.nD → PrngReg)
    (m' : (ℓ : Loc Cert.ScaleReferenceIdeal.nD Cert.ScaleReferenceIdeal.τ Cert.ScaleReferenceIdeal.sig) → Buf (Elt Ideal) ℓ) (g' : Dev Cert.ScaleReferenceIdeal.nD → PrngReg), Pre_ScaleIdeal m →
    (∀ c : Dev Cert.ScaleIdeal.nD,
      m' ((c.tc : Thread Cert.ScaleReferenceIdeal.nD Cert.ScaleReferenceIdeal.τ).loc Cert.ScaleReferenceIdeal.main_arg0) = m ((c.tc : Thread Cert.ScaleIdeal.nD Cert.ScaleIdeal.τ).loc Cert.ScaleIdeal.main_arg0)
      ∧ m' ((c.tc : Thread Cert.ScaleReferenceIdeal.nD Cert.ScaleReferenceIdeal.τ).loc Cert.ScaleReferenceIdeal.main_arg1) = m ((c.tc : Thread Cert.ScaleIdeal.nD Cert.ScaleIdeal.τ).loc Cert.ScaleIdeal.main_arg1)) →
    ∃ (v0 : (c : Dev Cert.ScaleIdeal.nD) → Buf (Elt Ideal) ((c.tc : Thread Cert.ScaleIdeal.nD Cert.ScaleIdeal.τ).loc Cert.ScaleIdeal.main_v0_0)) (v1 : (c : Dev Cert.ScaleIdeal.nD) → Buf (Elt Ideal) ((c.tc : Thread Cert.ScaleIdeal.nD Cert.ScaleIdeal.τ).loc Cert.ScaleIdeal.main_v0_1)),
      θ_run (Cert.ScaleIdeal.defs (F := Ideal)) (onTc (τ := Cert.ScaleIdeal.τ) (Cert.ScaleIdeal.main (F := Ideal))) ⟨m, fun _ => 0, g⟩ (fun r => ∀ c : Dev Cert.ScaleIdeal.nD,
          r.2.mem ((c.tc : Thread Cert.ScaleIdeal.nD Cert.ScaleIdeal.τ).loc Cert.ScaleIdeal.main_v0_0) = v0 c
          ∧ r.2.mem ((c.tc : Thread Cert.ScaleIdeal.nD Cert.ScaleIdeal.τ).loc Cert.ScaleIdeal.main_v0_1) = v1 c
          ∧ r.2.mem ((c.tc : Thread Cert.ScaleIdeal.nD Cert.ScaleIdeal.τ).loc Cert.ScaleIdeal.main_arg0) = m ((c.tc : Thread Cert.ScaleIdeal.nD Cert.ScaleIdeal.τ).loc Cert.ScaleIdeal.main_arg0)
          ∧ r.2.mem ((c.tc : Thread Cert.ScaleIdeal.nD Cert.ScaleIdeal.τ).loc Cert.ScaleIdeal.main_arg1) = m ((c.tc : Thread Cert.ScaleIdeal.nD Cert.ScaleIdeal.τ).loc Cert.ScaleIdeal.main_arg1))
      ∧ θ_run (Cert.ScaleReferenceIdeal.defs (F := Ideal)) (onTc (τ := Cert.ScaleReferenceIdeal.τ) (Cert.ScaleReferenceIdeal.main (F := Ideal))) ⟨m', fun _ => 0, g'⟩ (fun r => ∀ c : Dev Cert.ScaleReferenceIdeal.nD,
          r.2.mem ((c.tc : Thread Cert.ScaleReferenceIdeal.nD Cert.ScaleReferenceIdeal.τ).loc Cert.ScaleReferenceIdeal.main_v6) = v0 c
          ∧ r.2.mem ((c.tc : Thread Cert.ScaleReferenceIdeal.nD Cert.ScaleReferenceIdeal.τ).loc Cert.ScaleReferenceIdeal.main_v9) = v1 c
          ∧ r.2.mem ((c.tc : Thread Cert.ScaleReferenceIdeal.nD Cert.ScaleReferenceIdeal.τ).loc Cert.ScaleReferenceIdeal.main_arg0) = m' ((c.tc : Thread Cert.ScaleReferenceIdeal.nD Cert.ScaleReferenceIdeal.τ).loc Cert.ScaleReferenceIdeal.main_arg0)
          ∧ r.2.mem ((c.tc : Thread Cert.ScaleReferenceIdeal.nD Cert.ScaleReferenceIdeal.τ).loc Cert.ScaleReferenceIdeal.main_arg1) = m' ((c.tc : Thread Cert.ScaleReferenceIdeal.nD Cert.ScaleReferenceIdeal.τ).loc Cert.ScaleReferenceIdeal.main_arg1))

def preserves_First_FirstIdeal : Prop :=
  True

def algebraic_FirstIdeal_FirstReferenceIdeal [hFirstIdeal : Cert.FirstIdeal.Facts] [hFirstReferenceIdeal : Cert.FirstReferenceIdeal.Facts] : Prop :=
  ∀ (m : (ℓ : Loc Cert.FirstIdeal.nD Cert.FirstIdeal.τ Cert.FirstIdeal.sig) → Buf (Elt Ideal) ℓ) (g : Dev Cert.FirstIdeal.nD → PrngReg)
    (m' : (ℓ : Loc Cert.FirstReferenceIdeal.nD Cert.FirstReferenceIdeal.τ Cert.FirstReferenceIdeal.sig) → Buf (Elt Ideal) ℓ) (g' : Dev Cert.FirstReferenceIdeal.nD → PrngReg), Pre_FirstIdeal m →
    (∀ c : Dev Cert.FirstIdeal.nD,
      m' ((c.tc : Thread Cert.FirstReferenceIdeal.nD Cert.FirstReferenceIdeal.τ).loc Cert.FirstReferenceIdeal.main_arg0) = m ((c.tc : Thread Cert.FirstIdeal.nD Cert.FirstIdeal.τ).loc Cert.FirstIdeal.main_arg0)
      ∧ m' ((c.tc : Thread Cert.FirstReferenceIdeal.nD Cert.FirstReferenceIdeal.τ).loc Cert.FirstReferenceIdeal.main_arg1) = m ((c.tc : Thread Cert.FirstIdeal.nD Cert.FirstIdeal.τ).loc Cert.FirstIdeal.main_arg1)
      ∧ m' ((c.tc : Thread Cert.FirstReferenceIdeal.nD Cert.FirstReferenceIdeal.τ).loc Cert.FirstReferenceIdeal.main_arg2) = m ((c.tc : Thread Cert.FirstIdeal.nD Cert.FirstIdeal.τ).loc Cert.FirstIdeal.main_arg2)
      ∧ m' ((c.tc : Thread Cert.FirstReferenceIdeal.nD Cert.FirstReferenceIdeal.τ).loc Cert.FirstReferenceIdeal.main_arg3) = m ((c.tc : Thread Cert.FirstIdeal.nD Cert.FirstIdeal.τ).loc Cert.FirstIdeal.main_arg3)
      ∧ m' ((c.tc : Thread Cert.FirstReferenceIdeal.nD Cert.FirstReferenceIdeal.τ).loc Cert.FirstReferenceIdeal.main_arg4) = m ((c.tc : Thread Cert.FirstIdeal.nD Cert.FirstIdeal.τ).loc Cert.FirstIdeal.main_arg4)
      ∧ m' ((c.tc : Thread Cert.FirstReferenceIdeal.nD Cert.FirstReferenceIdeal.τ).loc Cert.FirstReferenceIdeal.main_arg5) = m ((c.tc : Thread Cert.FirstIdeal.nD Cert.FirstIdeal.τ).loc Cert.FirstIdeal.main_arg5)
      ∧ m' ((c.tc : Thread Cert.FirstReferenceIdeal.nD Cert.FirstReferenceIdeal.τ).loc Cert.FirstReferenceIdeal.main_arg6) = m ((c.tc : Thread Cert.FirstIdeal.nD Cert.FirstIdeal.τ).loc Cert.FirstIdeal.main_arg6)) →
    ∃ (v0 : (c : Dev Cert.FirstIdeal.nD) → Buf (Elt Ideal) ((c.tc : Thread Cert.FirstIdeal.nD Cert.FirstIdeal.τ).loc Cert.FirstIdeal.main_v0_0)) (v1 : (c : Dev Cert.FirstIdeal.nD) → Buf (Elt Ideal) ((c.tc : Thread Cert.FirstIdeal.nD Cert.FirstIdeal.τ).loc Cert.FirstIdeal.main_v0_1)) (v2 : (c : Dev Cert.FirstIdeal.nD) → Buf (Elt Ideal) ((c.tc : Thread Cert.FirstIdeal.nD Cert.FirstIdeal.τ).loc Cert.FirstIdeal.main_v0_2)),
      θ_run (Cert.FirstIdeal.defs (F := Ideal)) (onTc (τ := Cert.FirstIdeal.τ) (Cert.FirstIdeal.main (F := Ideal))) ⟨m, fun _ => 0, g⟩ (fun r => ∀ c : Dev Cert.FirstIdeal.nD,
          r.2.mem ((c.tc : Thread Cert.FirstIdeal.nD Cert.FirstIdeal.τ).loc Cert.FirstIdeal.main_v0_0) = v0 c
          ∧ r.2.mem ((c.tc : Thread Cert.FirstIdeal.nD Cert.FirstIdeal.τ).loc Cert.FirstIdeal.main_v0_1) = v1 c
          ∧ r.2.mem ((c.tc : Thread Cert.FirstIdeal.nD Cert.FirstIdeal.τ).loc Cert.FirstIdeal.main_v0_2) = v2 c
          ∧ r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
          ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1)
          ∧ r.2.mem ((c.tc : Thread Cert.FirstIdeal.nD Cert.FirstIdeal.τ).loc Cert.FirstIdeal.main_arg2) = m ((c.tc : Thread Cert.FirstIdeal.nD Cert.FirstIdeal.τ).loc Cert.FirstIdeal.main_arg2)
          ∧ r.2.mem ((c.tc : Thread Cert.FirstIdeal.nD Cert.FirstIdeal.τ).loc Cert.FirstIdeal.main_arg3) = m ((c.tc : Thread Cert.FirstIdeal.nD Cert.FirstIdeal.τ).loc Cert.FirstIdeal.main_arg3)
          ∧ r.2.mem ((c.tc : Thread Cert.FirstIdeal.nD Cert.FirstIdeal.τ).loc Cert.FirstIdeal.main_arg4) = m ((c.tc : Thread Cert.FirstIdeal.nD Cert.FirstIdeal.τ).loc Cert.FirstIdeal.main_arg4)
          ∧ r.2.mem ((c.tc : Thread Cert.FirstIdeal.nD Cert.FirstIdeal.τ).loc Cert.FirstIdeal.main_arg5) = m ((c.tc : Thread Cert.FirstIdeal.nD Cert.FirstIdeal.τ).loc Cert.FirstIdeal.main_arg5)
          ∧ r.2.mem ((c.tc : Thread Cert.FirstIdeal.nD Cert.FirstIdeal.τ).loc Cert.FirstIdeal.main_arg6) = m ((c.tc : Thread Cert.FirstIdeal.nD Cert.FirstIdeal.τ).loc Cert.FirstIdeal.main_arg6))
      ∧ θ_run (Cert.FirstReferenceIdeal.defs (F := Ideal)) (onTc (τ := Cert.FirstReferenceIdeal.τ) (Cert.FirstReferenceIdeal.main (F := Ideal))) ⟨m', fun _ => 0, g'⟩ (fun r => ∀ c : Dev Cert.FirstReferenceIdeal.nD,
          r.2.mem ((c.tc : Thread Cert.FirstReferenceIdeal.nD Cert.FirstReferenceIdeal.τ).loc Cert.FirstReferenceIdeal.main_v32) = v0 c
          ∧ r.2.mem ((c.tc : Thread Cert.FirstReferenceIdeal.nD Cert.FirstReferenceIdeal.τ).loc Cert.FirstReferenceIdeal.main_v33) = v1 c
          ∧ r.2.mem ((c.tc : Thread Cert.FirstReferenceIdeal.nD Cert.FirstReferenceIdeal.τ).loc Cert.FirstReferenceIdeal.main_v36) = v2 c
          ∧ r.2.mem ((c.tc : Thread Cert.FirstReferenceIdeal.nD Cert.FirstReferenceIdeal.τ).loc Cert.FirstReferenceIdeal.main_arg0) = m' ((c.tc : Thread Cert.FirstReferenceIdeal.nD Cert.FirstReferenceIdeal.τ).loc Cert.FirstReferenceIdeal.main_arg0)
          ∧ r.2.mem ((c.tc : Thread Cert.FirstReferenceIdeal.nD Cert.FirstReferenceIdeal.τ).loc Cert.FirstReferenceIdeal.main_arg1) = m' ((c.tc : Thread Cert.FirstReferenceIdeal.nD Cert.FirstReferenceIdeal.τ).loc Cert.FirstReferenceIdeal.main_arg1)
          ∧ r.2.mem ((c.tc : Thread Cert.FirstReferenceIdeal.nD Cert.FirstReferenceIdeal.τ).loc Cert.FirstReferenceIdeal.main_arg2) = m' ((c.tc : Thread Cert.FirstReferenceIdeal.nD Cert.FirstReferenceIdeal.τ).loc Cert.FirstReferenceIdeal.main_arg2)
          ∧ r.2.mem ((c.tc : Thread Cert.FirstReferenceIdeal.nD Cert.FirstReferenceIdeal.τ).loc Cert.FirstReferenceIdeal.main_arg3) = m' ((c.tc : Thread Cert.FirstReferenceIdeal.nD Cert.FirstReferenceIdeal.τ).loc Cert.FirstReferenceIdeal.main_arg3)
          ∧ r.2.mem ((c.tc : Thread Cert.FirstReferenceIdeal.nD Cert.FirstReferenceIdeal.τ).loc Cert.FirstReferenceIdeal.main_arg4) = m' ((c.tc : Thread Cert.FirstReferenceIdeal.nD Cert.FirstReferenceIdeal.τ).loc Cert.FirstReferenceIdeal.main_arg4)
          ∧ r.2.mem ((c.tc : Thread Cert.FirstReferenceIdeal.nD Cert.FirstReferenceIdeal.τ).loc Cert.FirstReferenceIdeal.main_arg5) = m' ((c.tc : Thread Cert.FirstReferenceIdeal.nD Cert.FirstReferenceIdeal.τ).loc Cert.FirstReferenceIdeal.main_arg5)
          ∧ r.2.mem ((c.tc : Thread Cert.FirstReferenceIdeal.nD Cert.FirstReferenceIdeal.τ).loc Cert.FirstReferenceIdeal.main_arg6) = m' ((c.tc : Thread Cert.FirstReferenceIdeal.nD Cert.FirstReferenceIdeal.τ).loc Cert.FirstReferenceIdeal.main_arg6))

def preserves_Middle_MiddleIdeal : Prop :=
  True

def algebraic_MiddleIdeal_MiddleReferenceIdeal [hMiddleIdeal : Cert.MiddleIdeal.Facts] [hMiddleReferenceIdeal : Cert.MiddleReferenceIdeal.Facts] : Prop :=
  ∀ (m : (ℓ : Loc Cert.MiddleIdeal.nD Cert.MiddleIdeal.τ Cert.MiddleIdeal.sig) → Buf (Elt Ideal) ℓ) (g : Dev Cert.MiddleIdeal.nD → PrngReg)
    (m' : (ℓ : Loc Cert.MiddleReferenceIdeal.nD Cert.MiddleReferenceIdeal.τ Cert.MiddleReferenceIdeal.sig) → Buf (Elt Ideal) ℓ) (g' : Dev Cert.MiddleReferenceIdeal.nD → PrngReg), Pre_MiddleIdeal m →
    (∀ c : Dev Cert.MiddleIdeal.nD,
      m' ((c.tc : Thread Cert.MiddleReferenceIdeal.nD Cert.MiddleReferenceIdeal.τ).loc Cert.MiddleReferenceIdeal.main_arg0) = m ((c.tc : Thread Cert.MiddleIdeal.nD Cert.MiddleIdeal.τ).loc Cert.MiddleIdeal.main_arg0)
      ∧ m' ((c.tc : Thread Cert.MiddleReferenceIdeal.nD Cert.MiddleReferenceIdeal.τ).loc Cert.MiddleReferenceIdeal.main_arg1) = m ((c.tc : Thread Cert.MiddleIdeal.nD Cert.MiddleIdeal.τ).loc Cert.MiddleIdeal.main_arg1)
      ∧ m' ((c.tc : Thread Cert.MiddleReferenceIdeal.nD Cert.MiddleReferenceIdeal.τ).loc Cert.MiddleReferenceIdeal.main_arg2) = m ((c.tc : Thread Cert.MiddleIdeal.nD Cert.MiddleIdeal.τ).loc Cert.MiddleIdeal.main_arg2)
      ∧ m' ((c.tc : Thread Cert.MiddleReferenceIdeal.nD Cert.MiddleReferenceIdeal.τ).loc Cert.MiddleReferenceIdeal.main_arg3) = m ((c.tc : Thread Cert.MiddleIdeal.nD Cert.MiddleIdeal.τ).loc Cert.MiddleIdeal.main_arg3)
      ∧ m' ((c.tc : Thread Cert.MiddleReferenceIdeal.nD Cert.MiddleReferenceIdeal.τ).loc Cert.MiddleReferenceIdeal.main_arg4) = m ((c.tc : Thread Cert.MiddleIdeal.nD Cert.MiddleIdeal.τ).loc Cert.MiddleIdeal.main_arg4)
      ∧ m' ((c.tc : Thread Cert.MiddleReferenceIdeal.nD Cert.MiddleReferenceIdeal.τ).loc Cert.MiddleReferenceIdeal.main_arg5) = m ((c.tc : Thread Cert.MiddleIdeal.nD Cert.MiddleIdeal.τ).loc Cert.MiddleIdeal.main_arg5)
      ∧ m' ((c.tc : Thread Cert.MiddleReferenceIdeal.nD Cert.MiddleReferenceIdeal.τ).loc Cert.MiddleReferenceIdeal.main_arg6) = m ((c.tc : Thread Cert.MiddleIdeal.nD Cert.MiddleIdeal.τ).loc Cert.MiddleIdeal.main_arg6)
      ∧ m' ((c.tc : Thread Cert.MiddleReferenceIdeal.nD Cert.MiddleReferenceIdeal.τ).loc Cert.MiddleReferenceIdeal.main_arg7) = m ((c.tc : Thread Cert.MiddleIdeal.nD Cert.MiddleIdeal.τ).loc Cert.MiddleIdeal.main_arg7)) →
    ∃ (v0 : (c : Dev Cert.MiddleIdeal.nD) → Buf (Elt Ideal) ((c.tc : Thread Cert.MiddleIdeal.nD Cert.MiddleIdeal.τ).loc Cert.MiddleIdeal.main_v0_0)) (v1 : (c : Dev Cert.MiddleIdeal.nD) → Buf (Elt Ideal) ((c.tc : Thread Cert.MiddleIdeal.nD Cert.MiddleIdeal.τ).loc Cert.MiddleIdeal.main_v0_1)) (v2 : (c : Dev Cert.MiddleIdeal.nD) → Buf (Elt Ideal) ((c.tc : Thread Cert.MiddleIdeal.nD Cert.MiddleIdeal.τ).loc Cert.MiddleIdeal.main_v0_2)),
      θ_run (Cert.MiddleIdeal.defs (F := Ideal)) (onTc (τ := Cert.MiddleIdeal.τ) (Cert.MiddleIdeal.main (F := Ideal))) ⟨m, fun _ => 0, g⟩ (fun r => ∀ c : Dev Cert.MiddleIdeal.nD,
          r.2.mem ((c.tc : Thread Cert.MiddleIdeal.nD Cert.MiddleIdeal.τ).loc Cert.MiddleIdeal.main_v0_0) = v0 c
          ∧ r.2.mem ((c.tc : Thread Cert.MiddleIdeal.nD Cert.MiddleIdeal.τ).loc Cert.MiddleIdeal.main_v0_1) = v1 c
          ∧ r.2.mem ((c.tc : Thread Cert.MiddleIdeal.nD Cert.MiddleIdeal.τ).loc Cert.MiddleIdeal.main_v0_2) = v2 c
          ∧ r.2.mem ((c.tc : Thread Cert.MiddleIdeal.nD Cert.MiddleIdeal.τ).loc Cert.MiddleIdeal.main_arg0) = m ((c.tc : Thread Cert.MiddleIdeal.nD Cert.MiddleIdeal.τ).loc Cert.MiddleIdeal.main_arg0)
          ∧ r.2.mem ((c.tc : Thread Cert.MiddleIdeal.nD Cert.MiddleIdeal.τ).loc Cert.MiddleIdeal.main_arg1) = m ((c.tc : Thread Cert.MiddleIdeal.nD Cert.MiddleIdeal.τ).loc Cert.MiddleIdeal.main_arg1)
          ∧ r.2.mem ((c.tc : Thread Cert.MiddleIdeal.nD Cert.MiddleIdeal.τ).loc Cert.MiddleIdeal.main_arg2) = m ((c.tc : Thread Cert.MiddleIdeal.nD Cert.MiddleIdeal.τ).loc Cert.MiddleIdeal.main_arg2)
          ∧ r.2.mem ((c.tc : Thread Cert.MiddleIdeal.nD Cert.MiddleIdeal.τ).loc Cert.MiddleIdeal.main_arg3) = m ((c.tc : Thread Cert.MiddleIdeal.nD Cert.MiddleIdeal.τ).loc Cert.MiddleIdeal.main_arg3)
          ∧ r.2.mem ((c.tc : Thread Cert.MiddleIdeal.nD Cert.MiddleIdeal.τ).loc Cert.MiddleIdeal.main_arg4) = m ((c.tc : Thread Cert.MiddleIdeal.nD Cert.MiddleIdeal.τ).loc Cert.MiddleIdeal.main_arg4)
          ∧ r.2.mem ((c.tc : Thread Cert.MiddleIdeal.nD Cert.MiddleIdeal.τ).loc Cert.MiddleIdeal.main_arg5) = m ((c.tc : Thread Cert.MiddleIdeal.nD Cert.MiddleIdeal.τ).loc Cert.MiddleIdeal.main_arg5)
          ∧ r.2.mem ((c.tc : Thread Cert.MiddleIdeal.nD Cert.MiddleIdeal.τ).loc Cert.MiddleIdeal.main_arg6) = m ((c.tc : Thread Cert.MiddleIdeal.nD Cert.MiddleIdeal.τ).loc Cert.MiddleIdeal.main_arg6)
          ∧ r.2.mem ((c.tc : Thread Cert.MiddleIdeal.nD Cert.MiddleIdeal.τ).loc Cert.MiddleIdeal.main_arg7) = m ((c.tc : Thread Cert.MiddleIdeal.nD Cert.MiddleIdeal.τ).loc Cert.MiddleIdeal.main_arg7))
      ∧ θ_run (Cert.MiddleReferenceIdeal.defs (F := Ideal)) (onTc (τ := Cert.MiddleReferenceIdeal.τ) (Cert.MiddleReferenceIdeal.main (F := Ideal))) ⟨m', fun _ => 0, g'⟩ (fun r => ∀ c : Dev Cert.MiddleReferenceIdeal.nD,
          r.2.mem ((c.tc : Thread Cert.MiddleReferenceIdeal.nD Cert.MiddleReferenceIdeal.τ).loc Cert.MiddleReferenceIdeal.main_v35) = v0 c
          ∧ r.2.mem ((c.tc : Thread Cert.MiddleReferenceIdeal.nD Cert.MiddleReferenceIdeal.τ).loc Cert.MiddleReferenceIdeal.main_v36) = v1 c
          ∧ r.2.mem ((c.tc : Thread Cert.MiddleReferenceIdeal.nD Cert.MiddleReferenceIdeal.τ).loc Cert.MiddleReferenceIdeal.main_v39) = v2 c
          ∧ r.2.mem ((c.tc : Thread Cert.MiddleReferenceIdeal.nD Cert.MiddleReferenceIdeal.τ).loc Cert.MiddleReferenceIdeal.main_arg0) = m' ((c.tc : Thread Cert.MiddleReferenceIdeal.nD Cert.MiddleReferenceIdeal.τ).loc Cert.MiddleReferenceIdeal.main_arg0)
          ∧ r.2.mem ((c.tc : Thread Cert.MiddleReferenceIdeal.nD Cert.MiddleReferenceIdeal.τ).loc Cert.MiddleReferenceIdeal.main_arg1) = m' ((c.tc : Thread Cert.MiddleReferenceIdeal.nD Cert.MiddleReferenceIdeal.τ).loc Cert.MiddleReferenceIdeal.main_arg1)
          ∧ r.2.mem ((c.tc : Thread Cert.MiddleReferenceIdeal.nD Cert.MiddleReferenceIdeal.τ).loc Cert.MiddleReferenceIdeal.main_arg2) = m' ((c.tc : Thread Cert.MiddleReferenceIdeal.nD Cert.MiddleReferenceIdeal.τ).loc Cert.MiddleReferenceIdeal.main_arg2)
          ∧ r.2.mem ((c.tc : Thread Cert.MiddleReferenceIdeal.nD Cert.MiddleReferenceIdeal.τ).loc Cert.MiddleReferenceIdeal.main_arg3) = m' ((c.tc : Thread Cert.MiddleReferenceIdeal.nD Cert.MiddleReferenceIdeal.τ).loc Cert.MiddleReferenceIdeal.main_arg3)
          ∧ r.2.mem ((c.tc : Thread Cert.MiddleReferenceIdeal.nD Cert.MiddleReferenceIdeal.τ).loc Cert.MiddleReferenceIdeal.main_arg4) = m' ((c.tc : Thread Cert.MiddleReferenceIdeal.nD Cert.MiddleReferenceIdeal.τ).loc Cert.MiddleReferenceIdeal.main_arg4)
          ∧ r.2.mem ((c.tc : Thread Cert.MiddleReferenceIdeal.nD Cert.MiddleReferenceIdeal.τ).loc Cert.MiddleReferenceIdeal.main_arg5) = m' ((c.tc : Thread Cert.MiddleReferenceIdeal.nD Cert.MiddleReferenceIdeal.τ).loc Cert.MiddleReferenceIdeal.main_arg5)
          ∧ r.2.mem ((c.tc : Thread Cert.MiddleReferenceIdeal.nD Cert.MiddleReferenceIdeal.τ).loc Cert.MiddleReferenceIdeal.main_arg6) = m' ((c.tc : Thread Cert.MiddleReferenceIdeal.nD Cert.MiddleReferenceIdeal.τ).loc Cert.MiddleReferenceIdeal.main_arg6)
          ∧ r.2.mem ((c.tc : Thread Cert.MiddleReferenceIdeal.nD Cert.MiddleReferenceIdeal.τ).loc Cert.MiddleReferenceIdeal.main_arg7) = m' ((c.tc : Thread Cert.MiddleReferenceIdeal.nD Cert.MiddleReferenceIdeal.τ).loc Cert.MiddleReferenceIdeal.main_arg7))

def preserves_Last_LastIdeal : Prop :=
  True

def algebraic_LastIdeal_LastReferenceIdeal [hLastIdeal : Cert.LastIdeal.Facts] [hLastReferenceIdeal : Cert.LastReferenceIdeal.Facts] : Prop :=
  ∀ (m : (ℓ : Loc Cert.LastIdeal.nD Cert.LastIdeal.τ Cert.LastIdeal.sig) → Buf (Elt Ideal) ℓ) (g : Dev Cert.LastIdeal.nD → PrngReg)
    (m' : (ℓ : Loc Cert.LastReferenceIdeal.nD Cert.LastReferenceIdeal.τ Cert.LastReferenceIdeal.sig) → Buf (Elt Ideal) ℓ) (g' : Dev Cert.LastReferenceIdeal.nD → PrngReg), Pre_LastIdeal m →
    (∀ c : Dev Cert.LastIdeal.nD,
      m' ((c.tc : Thread Cert.LastReferenceIdeal.nD Cert.LastReferenceIdeal.τ).loc Cert.LastReferenceIdeal.main_arg0) = m ((c.tc : Thread Cert.LastIdeal.nD Cert.LastIdeal.τ).loc Cert.LastIdeal.main_arg0)
      ∧ m' ((c.tc : Thread Cert.LastReferenceIdeal.nD Cert.LastReferenceIdeal.τ).loc Cert.LastReferenceIdeal.main_arg1) = m ((c.tc : Thread Cert.LastIdeal.nD Cert.LastIdeal.τ).loc Cert.LastIdeal.main_arg1)
      ∧ m' ((c.tc : Thread Cert.LastReferenceIdeal.nD Cert.LastReferenceIdeal.τ).loc Cert.LastReferenceIdeal.main_arg2) = m ((c.tc : Thread Cert.LastIdeal.nD Cert.LastIdeal.τ).loc Cert.LastIdeal.main_arg2)
      ∧ m' ((c.tc : Thread Cert.LastReferenceIdeal.nD Cert.LastReferenceIdeal.τ).loc Cert.LastReferenceIdeal.main_arg3) = m ((c.tc : Thread Cert.LastIdeal.nD Cert.LastIdeal.τ).loc Cert.LastIdeal.main_arg3)
      ∧ m' ((c.tc : Thread Cert.LastReferenceIdeal.nD Cert.LastReferenceIdeal.τ).loc Cert.LastReferenceIdeal.main_arg4) = m ((c.tc : Thread Cert.LastIdeal.nD Cert.LastIdeal.τ).loc Cert.LastIdeal.main_arg4)
      ∧ m' ((c.tc : Thread Cert.LastReferenceIdeal.nD Cert.LastReferenceIdeal.τ).loc Cert.LastReferenceIdeal.main_arg5) = m ((c.tc : Thread Cert.LastIdeal.nD Cert.LastIdeal.τ).loc Cert.LastIdeal.main_arg5)
      ∧ m' ((c.tc : Thread Cert.LastReferenceIdeal.nD Cert.LastReferenceIdeal.τ).loc Cert.LastReferenceIdeal.main_arg6) = m ((c.tc : Thread Cert.LastIdeal.nD Cert.LastIdeal.τ).loc Cert.LastIdeal.main_arg6)
      ∧ m' ((c.tc : Thread Cert.LastReferenceIdeal.nD Cert.LastReferenceIdeal.τ).loc Cert.LastReferenceIdeal.main_arg7) = m ((c.tc : Thread Cert.LastIdeal.nD Cert.LastIdeal.τ).loc Cert.LastIdeal.main_arg7)
      ∧ m' ((c.tc : Thread Cert.LastReferenceIdeal.nD Cert.LastReferenceIdeal.τ).loc Cert.LastReferenceIdeal.main_arg8) = m ((c.tc : Thread Cert.LastIdeal.nD Cert.LastIdeal.τ).loc Cert.LastIdeal.main_arg8)
      ∧ m' ((c.tc : Thread Cert.LastReferenceIdeal.nD Cert.LastReferenceIdeal.τ).loc Cert.LastReferenceIdeal.main_arg9) = m ((c.tc : Thread Cert.LastIdeal.nD Cert.LastIdeal.τ).loc Cert.LastIdeal.main_arg9)
      ∧ m' ((c.tc : Thread Cert.LastReferenceIdeal.nD Cert.LastReferenceIdeal.τ).loc Cert.LastReferenceIdeal.main_arg10) = m ((c.tc : Thread Cert.LastIdeal.nD Cert.LastIdeal.τ).loc Cert.LastIdeal.main_arg10)) →
    ∃ (v0 : (c : Dev Cert.LastIdeal.nD) → Buf (Elt Ideal) ((c.tc : Thread Cert.LastIdeal.nD Cert.LastIdeal.τ).loc Cert.LastIdeal.main_v0)),
      θ_run (Cert.LastIdeal.defs (F := Ideal)) (onTc (τ := Cert.LastIdeal.τ) (Cert.LastIdeal.main (F := Ideal))) ⟨m, fun _ => 0, g⟩ (fun r => ∀ c : Dev Cert.LastIdeal.nD,
          r.2.mem ((c.tc : Thread Cert.LastIdeal.nD Cert.LastIdeal.τ).loc Cert.LastIdeal.main_v0) = v0 c
          ∧ r.2.mem ((c.tc : Thread Cert.LastIdeal.nD Cert.LastIdeal.τ).loc Cert.LastIdeal.main_arg0) = m ((c.tc : Thread Cert.LastIdeal.nD Cert.LastIdeal.τ).loc Cert.LastIdeal.main_arg0)
          ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
          ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
          ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
          ∧ r.2.mem ((c.tc : Thread Cert.LastIdeal.nD Cert.LastIdeal.τ).loc Cert.LastIdeal.main_arg4) = m ((c.tc : Thread Cert.LastIdeal.nD Cert.LastIdeal.τ).loc Cert.LastIdeal.main_arg4)
          ∧ r.2.mem ((c.tc : Thread Cert.LastIdeal.nD Cert.LastIdeal.τ).loc Cert.LastIdeal.main_arg5) = m ((c.tc : Thread Cert.LastIdeal.nD Cert.LastIdeal.τ).loc Cert.LastIdeal.main_arg5)
          ∧ r.2.mem ((c.tc : Thread Cert.LastIdeal.nD Cert.LastIdeal.τ).loc Cert.LastIdeal.main_arg6) = m ((c.tc : Thread Cert.LastIdeal.nD Cert.LastIdeal.τ).loc Cert.LastIdeal.main_arg6)
          ∧ r.2.mem ((c.tc : Thread Cert.LastIdeal.nD Cert.LastIdeal.τ).loc Cert.LastIdeal.main_arg7) = m ((c.tc : Thread Cert.LastIdeal.nD Cert.LastIdeal.τ).loc Cert.LastIdeal.main_arg7)
          ∧ r.2.mem ((c.tc : Thread Cert.LastIdeal.nD Cert.LastIdeal.τ).loc Cert.LastIdeal.main_arg8) = m ((c.tc : Thread Cert.LastIdeal.nD Cert.LastIdeal.τ).loc Cert.LastIdeal.main_arg8)
          ∧ r.2.mem ((c.tc : Thread Cert.LastIdeal.nD Cert.LastIdeal.τ).loc Cert.LastIdeal.main_arg9) = m ((c.tc : Thread Cert.LastIdeal.nD Cert.LastIdeal.τ).loc Cert.LastIdeal.main_arg9)
          ∧ r.2.mem ((c.tc : Thread Cert.LastIdeal.nD Cert.LastIdeal.τ).loc Cert.LastIdeal.main_arg10) = m ((c.tc : Thread Cert.LastIdeal.nD Cert.LastIdeal.τ).loc Cert.LastIdeal.main_arg10))
      ∧ θ_run (Cert.LastReferenceIdeal.defs (F := Ideal)) (onTc (τ := Cert.LastReferenceIdeal.τ) (Cert.LastReferenceIdeal.main (F := Ideal))) ⟨m', fun _ => 0, g'⟩ (fun r => ∀ c : Dev Cert.LastReferenceIdeal.nD,
          r.2.mem ((c.tc : Thread Cert.LastReferenceIdeal.nD Cert.LastReferenceIdeal.τ).loc Cert.LastReferenceIdeal.main_v66) = v0 c
          ∧ r.2.mem ((c.tc : Thread Cert.LastReferenceIdeal.nD Cert.LastReferenceIdeal.τ).loc Cert.LastReferenceIdeal.main_arg0) = m' ((c.tc : Thread Cert.LastReferenceIdeal.nD Cert.LastReferenceIdeal.τ).loc Cert.LastReferenceIdeal.main_arg0)
          ∧ r.2.mem ((c.tc : Thread Cert.LastReferenceIdeal.nD Cert.LastReferenceIdeal.τ).loc Cert.LastReferenceIdeal.main_arg1) = m' ((c.tc : Thread Cert.LastReferenceIdeal.nD Cert.LastReferenceIdeal.τ).loc Cert.LastReferenceIdeal.main_arg1)
          ∧ r.2.mem ((c.tc : Thread Cert.LastReferenceIdeal.nD Cert.LastReferenceIdeal.τ).loc Cert.LastReferenceIdeal.main_arg2) = m' ((c.tc : Thread Cert.LastReferenceIdeal.nD Cert.LastReferenceIdeal.τ).loc Cert.LastReferenceIdeal.main_arg2)
          ∧ r.2.mem ((c.tc : Thread Cert.LastReferenceIdeal.nD Cert.LastReferenceIdeal.τ).loc Cert.LastReferenceIdeal.main_arg3) = m' ((c.tc : Thread Cert.LastReferenceIdeal.nD Cert.LastReferenceIdeal.τ).loc Cert.LastReferenceIdeal.main_arg3)
          ∧ r.2.mem ((c.tc : Thread Cert.LastReferenceIdeal.nD Cert.LastReferenceIdeal.τ).loc Cert.LastReferenceIdeal.main_arg4) = m' ((c.tc : Thread Cert.LastReferenceIdeal.nD Cert.LastReferenceIdeal.τ).loc Cert.LastReferenceIdeal.main_arg4)
          ∧ r.2.mem ((c.tc : Thread Cert.LastReferenceIdeal.nD Cert.LastReferenceIdeal.τ).loc Cert.LastReferenceIdeal.main_arg5) = m' ((c.tc : Thread Cert.LastReferenceIdeal.nD Cert.LastReferenceIdeal.τ).loc Cert.LastReferenceIdeal.main_arg5)
          ∧ r.2.mem ((c.tc : Thread Cert.LastReferenceIdeal.nD Cert.LastReferenceIdeal.τ).loc Cert.LastReferenceIdeal.main_arg6) = m' ((c.tc : Thread Cert.LastReferenceIdeal.nD Cert.LastReferenceIdeal.τ).loc Cert.LastReferenceIdeal.main_arg6)
          ∧ r.2.mem ((c.tc : Thread Cert.LastReferenceIdeal.nD Cert.LastReferenceIdeal.τ).loc Cert.LastReferenceIdeal.main_arg7) = m' ((c.tc : Thread Cert.LastReferenceIdeal.nD Cert.LastReferenceIdeal.τ).loc Cert.LastReferenceIdeal.main_arg7)
          ∧ r.2.mem ((c.tc : Thread Cert.LastReferenceIdeal.nD Cert.LastReferenceIdeal.τ).loc Cert.LastReferenceIdeal.main_arg8) = m' ((c.tc : Thread Cert.LastReferenceIdeal.nD Cert.LastReferenceIdeal.τ).loc Cert.LastReferenceIdeal.main_arg8)
          ∧ r.2.mem ((c.tc : Thread Cert.LastReferenceIdeal.nD Cert.LastReferenceIdeal.τ).loc Cert.LastReferenceIdeal.main_arg9) = m' ((c.tc : Thread Cert.LastReferenceIdeal.nD Cert.LastReferenceIdeal.τ).loc Cert.LastReferenceIdeal.main_arg9)
          ∧ r.2.mem ((c.tc : Thread Cert.LastReferenceIdeal.nD Cert.LastReferenceIdeal.τ).loc Cert.LastReferenceIdeal.main_arg10) = m' ((c.tc : Thread Cert.LastReferenceIdeal.nD Cert.LastReferenceIdeal.τ).loc Cert.LastReferenceIdeal.main_arg10))

def Claim : Prop :=
  ∃ (hKernel : Cert.Kernel.Facts) (hKernelIdeal : Cert.KernelIdeal.Facts) (hReferenceIdeal : Cert.ReferenceIdeal.Facts) (hDegrees : Cert.Degrees.Facts) (hDegreesIdeal : Cert.DegreesIdeal.Facts) (hDegreesReferenceIdeal : Cert.DegreesReferenceIdeal.Facts) (hProject : Cert.Project.Facts) (hProjectIdeal : Cert.ProjectIdeal.Facts) (hProjectReferenceIdeal : Cert.ProjectReferenceIdeal.Facts) (hScale : Cert.Scale.Facts) (hScaleIdeal : Cert.ScaleIdeal.Facts) (hScaleReferenceIdeal : Cert.ScaleReferenceIdeal.Facts) (hFirst : Cert.First.Facts) (hFirstIdeal : Cert.FirstIdeal.Facts) (hFirstReferenceIdeal : Cert.FirstReferenceIdeal.Facts) (hMiddle : Cert.Middle.Facts) (hMiddleIdeal : Cert.MiddleIdeal.Facts) (hMiddleReferenceIdeal : Cert.MiddleReferenceIdeal.Facts) (hLast : Cert.Last.Facts) (hLastIdeal : Cert.LastIdeal.Facts) (hLastReferenceIdeal : Cert.LastReferenceIdeal.Facts) (hPre_edges_in_range : Cert.Pre_edges_in_range.Facts) (hPre_columns_in_range : Cert.Pre_columns_in_range.Facts),
    quiescent_Kernel (hKernel := hKernel) (hPre_edges_in_range := hPre_edges_in_range)
    ∧ quiescent_KernelIdeal (hKernelIdeal := hKernelIdeal) (hPre_edges_in_range := hPre_edges_in_range)
    ∧ quiescent_ReferenceIdeal (hReferenceIdeal := hReferenceIdeal)
    ∧ quiescent_ReferenceIdeal_pre_edges_in_range (hReferenceIdeal := hReferenceIdeal) (hPre_edges_in_range := hPre_edges_in_range)
    ∧ quiescent_Degrees (hDegrees := hDegrees) (hPre_columns_in_range := hPre_columns_in_range)
    ∧ quiescent_DegreesIdeal (hDegreesIdeal := hDegreesIdeal) (hPre_columns_in_range := hPre_columns_in_range)
    ∧ quiescent_DegreesReferenceIdeal (hDegreesReferenceIdeal := hDegreesReferenceIdeal)
    ∧ quiescent_DegreesReferenceIdeal_pre_columns_in_range (hDegreesReferenceIdeal := hDegreesReferenceIdeal) (hPre_columns_in_range := hPre_columns_in_range)
    ∧ quiescent_Project (hProject := hProject)
    ∧ quiescent_ProjectIdeal (hProjectIdeal := hProjectIdeal)
    ∧ quiescent_ProjectReferenceIdeal (hProjectReferenceIdeal := hProjectReferenceIdeal)
    ∧ quiescent_Scale (hScale := hScale)
    ∧ quiescent_ScaleIdeal (hScaleIdeal := hScaleIdeal)
    ∧ quiescent_ScaleReferenceIdeal (hScaleReferenceIdeal := hScaleReferenceIdeal)
    ∧ quiescent_First (hFirst := hFirst)
    ∧ quiescent_FirstIdeal (hFirstIdeal := hFirstIdeal)
    ∧ quiescent_FirstReferenceIdeal (hFirstReferenceIdeal := hFirstReferenceIdeal)
    ∧ quiescent_Middle (hMiddle := hMiddle)
    ∧ quiescent_MiddleIdeal (hMiddleIdeal := hMiddleIdeal)
    ∧ quiescent_MiddleReferenceIdeal (hMiddleReferenceIdeal := hMiddleReferenceIdeal)
    ∧ quiescent_Last (hLast := hLast)
    ∧ quiescent_LastIdeal (hLastIdeal := hLastIdeal)
    ∧ quiescent_LastReferenceIdeal (hLastReferenceIdeal := hLastReferenceIdeal)
    ∧ preserves_Kernel_KernelIdeal
    ∧ algebraic_KernelIdeal_ReferenceIdeal (hKernelIdeal := hKernelIdeal) (hReferenceIdeal := hReferenceIdeal) (hPre_edges_in_range := hPre_edges_in_range)
    ∧ preserves_Degrees_DegreesIdeal
    ∧ algebraic_DegreesIdeal_DegreesReferenceIdeal (hDegreesIdeal := hDegreesIdeal) (hDegreesReferenceIdeal := hDegreesReferenceIdeal) (hPre_columns_in_range := hPre_columns_in_range)
    ∧ preserves_Project_ProjectIdeal
    ∧ algebraic_ProjectIdeal_ProjectReferenceIdeal (hProjectIdeal := hProjectIdeal) (hProjectReferenceIdeal := hProjectReferenceIdeal)
    ∧ preserves_Scale_ScaleIdeal
    ∧ algebraic_ScaleIdeal_ScaleReferenceIdeal (hScaleIdeal := hScaleIdeal) (hScaleReferenceIdeal := hScaleReferenceIdeal)
    ∧ preserves_First_FirstIdeal
    ∧ algebraic_FirstIdeal_FirstReferenceIdeal (hFirstIdeal := hFirstIdeal) (hFirstReferenceIdeal := hFirstReferenceIdeal)
    ∧ preserves_Middle_MiddleIdeal
    ∧ algebraic_MiddleIdeal_MiddleReferenceIdeal (hMiddleIdeal := hMiddleIdeal) (hMiddleReferenceIdeal := hMiddleReferenceIdeal)
    ∧ preserves_Last_LastIdeal
    ∧ algebraic_LastIdeal_LastReferenceIdeal (hLastIdeal := hLastIdeal) (hLastReferenceIdeal := hLastReferenceIdeal)
-- ==== Pre_columns_in_range.lean ====
abbrev S320000 : Shape := ⟨1, ![320000]⟩
abbrev S_ : Shape := ⟨0, ![]⟩

class Facts : Prop where
  bcast_S_S320000 : S_.BroadcastsInDim S320000 (![] : Fin 0 → Fin S320000.rank)

variable [Facts]

def fn {F : FTy → Type} [FloatOps F] (main_arg0 : IVec S320000 32) (main_arg1 : FVec F S320000 .f32) : IVec S320000 1 :=
  let main_c : IVec S_ 32 := constantI S_ 32 0#32
  let main_v0 : IVec S320000 32 := broadcastInDim S320000 ![] bcast_S_S320000 main_c
  let main_v1 : IVec S320000 1 := cmpi .sge main_arg0 main_v0
  let main_c_0 : IVec S_ 32 := constantI S_ 32 10000#32
  let main_v2 : IVec S320000 32 := broadcastInDim S320000 ![] bcast_S_S320000 main_c_0
  let main_v3 : IVec S320000 1 := cmpi .slt main_arg0 main_v2
  let main_v4 : IVec S320000 1 := andi main_v1 main_v3
  main_v4
-- ==== Pre_edges_in_range.lean ====
abbrev S200000 : Shape := ⟨1, ![200000]⟩
abbrev S320000 : Shape := ⟨1, ![320000]⟩
abbrev S_ : Shape := ⟨0, ![]⟩

class Facts : Prop where
  bcast_S_S320000 : S_.BroadcastsInDim S320000 (![] : Fin 0 → Fin S320000.rank)

variable [Facts]

def fn {F : FTy → Type} [FloatOps F] (main_arg0 : FVec F S200000 .f32) (main_arg1 : IVec S320000 32) (main_arg2 : IVec S320000 32) (main_arg3 : FVec F S320000 .f32) : IVec S320000 1 :=
  let main_c : IVec S_ 32 := constantI S_ 32 0#32
  let main_v0 : IVec S320000 32 := broadcastInDim S320000 ![] bcast_S_S320000 main_c
  let main_v1 : IVec S320000 1 := cmpi .sge main_arg1 main_v0
  let main_c_0 : IVec S_ 32 := constantI S_ 32 10000#32
  let main_v2 : IVec S320000 32 := broadcastInDim S320000 ![] bcast_S_S320000 main_c_0
  let main_v3 : IVec S320000 1 := cmpi .slt main_arg1 main_v2
  let main_v4 : IVec S320000 1 := andi main_v1 main_v3
  let main_c_1 : IVec S_ 32 := constantI S_ 32 0#32
  let main_v5 : IVec S320000 32 := broadcastInDim S320000 ![] bcast_S_S320000 main_c_1
  let main_v6 : IVec S320000 1 := cmpi .sge main_arg2 main_v5
  let main_v7 : IVec S320000 1 := andi main_v4 main_v6
  let main_c_2 : IVec S_ 32 := constantI S_ 32 10000#32
  let main_v8 : IVec S320000 32 := broadcastInDim S320000 ![] bcast_S_S320000 main_c_2
  let main_v9 : IVec S320000 1 := cmpi .slt main_arg2 main_v8
  let main_v10 : IVec S320000 1 := andi main_v7 main_v9
  main_v10
-- ==== Kernel.lean ====
abbrev S200000 : Shape := ⟨1, ![200000]⟩
abbrev S320000 : Shape := ⟨1, ![320000]⟩
abbrev S1600000 : Shape := ⟨1, ![1600000]⟩
abbrev S50048 : Shape := ⟨1, ![50048]⟩
abbrev S4000 : Shape := ⟨1, ![4000]⟩
abbrev S_ : Shape := ⟨0, ![]⟩
abbrev S50000 : Shape := ⟨1, ![50000]⟩
abbrev S16 : Shape := ⟨1, ![16]⟩

abbrev nBuf : Table → Nat
  | .hbm => 5
  | .local .scVector .vmem => 8
  | _ => 0

abbrev bufTy : (tb : Table) → Fin (nBuf tb) → BufTy
  | .hbm, ⟨0, _⟩ => ⟨S200000, .f32⟩
  | .hbm, ⟨1, _⟩ => ⟨S320000, .i32⟩
  | .hbm, ⟨2, _⟩ => ⟨S320000, .i32⟩
  | .hbm, ⟨3, _⟩ => ⟨S320000, .f32⟩
  | .hbm, ⟨4, _⟩ => ⟨S1600000, .f32⟩
  | .local .scVector .vmem, ⟨0, _⟩ => ⟨S50048, .f32⟩
  | .local .scVector .vmem, ⟨1, _⟩ => ⟨S50048, .f32⟩
  | .local .scVector .vmem, ⟨2, _⟩ => ⟨S4000, .i32⟩
  | .local .scVector .vmem, ⟨3, _⟩ => ⟨S4000, .i32⟩
  | .local .scVector .vmem, ⟨4, _⟩ => ⟨S4000, .f32⟩
  | .local .scVector .vmem, ⟨5, _⟩ => ⟨S4000, .i32⟩
  | .local .scVector .vmem, ⟨6, _⟩ => ⟨S4000, .i32⟩
  | .local .scVector .vmem, ⟨7, _⟩ => ⟨S4000, .f32⟩
  | _, _ => ⟨S200000, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_arg0_scv : Ref sig .scVector := ⟨.hbm, 0, rfl⟩
abbrev main_arg1_scv : Ref sig .scVector := ⟨.hbm, 1, rfl⟩
abbrev main_arg2_scv : Ref sig .scVector := ⟨.hbm, 2, rfl⟩
abbrev main_arg3_scv : Ref sig .scVector := ⟨.hbm, 3, rfl⟩
abbrev main_v0_scv : Ref sig .scVector := ⟨.hbm, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c50000_i32 : BitVec 32 := 50000#32
  let v29 : BitVec 32 := Scalar.muli v28 c50000_i32
  ![v29.toNat]
@[reducible] def k0_t1_loop : Scf.Loop 32 :=
  let c0_i32_13 : BitVec 32 := 0#32
  let c782_i32 : BitVec 32 := 782#32
  let v34 : BitVec 32 := Scalar.addi c0_i32_13 c782_i32
  let c1_i32_14 : BitVec 32 := 1#32
  ⟨c0_i32_13, v34, c1_i32_14⟩
def k0_off2 (k0_t1 : Fin k0_t1_loop.trips) (c0_i32_31 : BitVec 32) : Fin 1 → Nat :=
  let c0_i32_13 : BitVec 32 := 0#32
  let c1_i32_14 : BitVec 32 := 1#32
  let arg18 : BitVec 32 := Scf.iv c0_i32_13 c1_i32_14 k0_t1
  let c64_i32 : BitVec 32 := 64#32
  let v59 : BitVec 32 := Scalar.muli arg18 c64_i32
  let v60 : BitVec 32 := Scalar.addi v59 c0_i32_31
  let v61 : Index := Scalar.indexCast v60
  ![v61.toNat]
def k0_off3 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c40000_i32 : BitVec 32 := 40000#32
  let v41 : BitVec 32 := Scalar.muli v18 c40000_i32
  let c0_i32_19 : BitVec 32 := 0#32
  let v42 : BitVec 32 := Scalar.addi v41 c0_i32_19
  ![v42.toNat]
@[reducible] def k0_t2_loop : Scf.Loop 32 :=
  let c0_i32_21 : BitVec 32 := 0#32
  let c5_i32 : BitVec 32 := 5#32
  let v49 : BitVec 32 := Scalar.addi c0_i32_21 c5_i32
  let c1_i32_22 : BitVec 32 := 1#32
  ⟨c0_i32_21, v49, c1_i32_22⟩
def k0_off4 (i : grid0.Coords) (k0_t2 : Fin k0_t2_loop.trips) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c40000_i32_32 : BitVec 32 := 40000#32
  let v60 : BitVec 32 := Scalar.muli v18 c40000_i32_32
  let c2_i32 : BitVec 32 := 2#32
  let c0_i32_21 : BitVec 32 := 0#32
  let c1_i32_22 : BitVec 32 := 1#32
  let arg18 : BitVec 32 := Scf.iv c0_i32_21 c1_i32_22 k0_t2
  let v58 : BitVec 32 := Scalar.muli c2_i32 arg18
  let c1_i32_31 : BitVec 32 := 1#32
  let v59 : BitVec 32 := Scalar.addi v58 c1_i32_31
  let c4000_i32 : BitVec 32 := 4000#32
  let v61 : BitVec 32 := Scalar.muli v59 c4000_i32
  let v62 : BitVec 32 := Scalar.addi v60 v61
  ![v62.toNat]
@[reducible] def k0_t3_loop : Scf.Loop 32 :=
  let c0_i32_40 : BitVec 32 := 0#32
  let c50_i32 : BitVec 32 := 50#32
  let v75 : BitVec 32 := Scalar.addi c0_i32_40 c50_i32
  let c1_i32_41 : BitVec 32 := 1#32
  ⟨c0_i32_40, v75, c1_i32_41⟩
def k0_off5 (k0_t3 : Fin k0_t3_loop.trips) (c0_i32_64 : BitVec 32) : Fin 1 → Nat :=
  let c0_i32_40 : BitVec 32 := 0#32
  let c1_i32_41 : BitVec 32 := 1#32
  let arg20 : BitVec 32 := Scf.iv c0_i32_40 c1_i32_41 k0_t3
  let c80_i32 : BitVec 32 := 80#32
  let v106 : BitVec 32 := Scalar.muli arg20 c80_i32
  let v107 : BitVec 32 := Scalar.addi v106 c0_i32_64
  let v108 : Index := Scalar.indexCast v107
  ![v108.toNat]

def k0_chk1 (v154 : IVec S16 32) : Prop :=
  (∀ a x, ((![v154] : Fin 1 → IVec S16 32) a x).toNat < S50048.size a)
theorem k0_idx1_inb : ∀ (v154 : IVec S16 32) (k0_hw1 : k0_chk1 v154), ∀ a x, ((![v154] : Fin 1 → IVec S16 32) a x).toNat < S50048.size a := fun v154 k0_hw1 => k0_hw1

def k0_chk2 (v158 : IVec S16 32) : Prop :=
  (∀ a x, ((![v158] : Fin 1 → IVec S16 32) a x).toNat < S50048.size a)
theorem k0_idx2_inb : ∀ (v158 : IVec S16 32) (k0_hw2 : k0_chk2 v158), ∀ a x, ((![v158] : Fin 1 → IVec S16 32) a x).toNat < S50048.size a := fun v158 k0_hw2 => k0_hw2

def k0_chk3 (v162 : IVec S16 32) : Prop :=
  (∀ a x, ((![v162] : Fin 1 → IVec S16 32) a x).toNat < S50048.size a)
theorem k0_idx3_inb : ∀ (v162 : IVec S16 32) (k0_hw3 : k0_chk3 v162), ∀ a x, ((![v162] : Fin 1 → IVec S16 32) a x).toNat < S50048.size a := fun v162 k0_hw3 => k0_hw3

def k0_chk4 (v166 : IVec S16 32) : Prop :=
  (∀ a x, ((![v166] : Fin 1 → IVec S16 32) a x).toNat < S50048.size a)
theorem k0_idx4_inb : ∀ (v166 : IVec S16 32) (k0_hw4 : k0_chk4 v166), ∀ a x, ((![v166] : Fin 1 → IVec S16 32) a x).toNat < S50048.size a := fun v166 k0_hw4 => k0_hw4

def k0_chk5 (v170 : IVec S16 32) : Prop :=
  (∀ a x, ((![v170] : Fin 1 → IVec S16 32) a x).toNat < S50048.size a)
theorem k0_idx5_inb : ∀ (v170 : IVec S16 32) (k0_hw5 : k0_chk5 v170), ∀ a x, ((![v170] : Fin 1 → IVec S16 32) a x).toNat < S50048.size a := fun v170 k0_hw5 => k0_hw5

def k0_chk6 (v174 : IVec S16 32) : Prop :=
  (∀ a x, ((![v174] : Fin 1 → IVec S16 32) a x).toNat < S50048.size a)
theorem k0_idx6_inb : ∀ (v174 : IVec S16 32) (k0_hw6 : k0_chk6 v174), ∀ a x, ((![v174] : Fin 1 → IVec S16 32) a x).toNat < S50048.size a := fun v174 k0_hw6 => k0_hw6

def k0_chk7 (v176 : IVec S16 32) : Prop :=
  (∀ a x, ((![v176] : Fin 1 → IVec S16 32) a x).toNat < S50048.size a)
theorem k0_idx7_inb : ∀ (v176 : IVec S16 32) (k0_hw7 : k0_chk7 v176), ∀ a x, ((![v176] : Fin 1 → IVec S16 32) a x).toNat < S50048.size a := fun v176 k0_hw7 => k0_hw7

def k0_chk8 (v178 : IVec S16 32) : Prop :=
  (∀ a x, ((![v178] : Fin 1 → IVec S16 32) a x).toNat < S50048.size a)
theorem k0_idx8_inb : ∀ (v178 : IVec S16 32) (k0_hw8 : k0_chk8 v178), ∀ a x, ((![v178] : Fin 1 → IVec S16 32) a x).toNat < S50048.size a := fun v178 k0_hw8 => k0_hw8

def k0_chk9 (v180 : IVec S16 32) : Prop :=
  (∀ a x, ((![v180] : Fin 1 → IVec S16 32) a x).toNat < S50048.size a)
theorem k0_idx9_inb : ∀ (v180 : IVec S16 32) (k0_hw9 : k0_chk9 v180), ∀ a x, ((![v180] : Fin 1 → IVec S16 32) a x).toNat < S50048.size a := fun v180 k0_hw9 => k0_hw9

def k0_chk10 (v182 : IVec S16 32) : Prop :=
  (∀ a x, ((![v182] : Fin 1 → IVec S16 32) a x).toNat < S50048.size a)
theorem k0_idx10_inb : ∀ (v182 : IVec S16 32) (k0_hw10 : k0_chk10 v182), ∀ a x, ((![v182] : Fin 1 → IVec S16 32) a x).toNat < S50048.size a := fun v182 k0_hw10 => k0_hw10

def k0_chk11 (v193 : IVec S16 32) : Prop :=
  (∀ a x, ((![v193] : Fin 1 → IVec S16 32) a x).toNat < S50048.size a)
theorem k0_idx11_inb : ∀ (v193 : IVec S16 32) (k0_hw11 : k0_chk11 v193), ∀ a x, ((![v193] : Fin 1 → IVec S16 32) a x).toNat < S50048.size a := fun v193 k0_hw11 => k0_hw11

def k0_chk12 (v197 : IVec S16 32) : Prop :=
  (∀ a x, ((![v197] : Fin 1 → IVec S16 32) a x).toNat < S50048.size a)
theorem k0_idx12_inb : ∀ (v197 : IVec S16 32) (k0_hw12 : k0_chk12 v197), ∀ a x, ((![v197] : Fin 1 → IVec S16 32) a x).toNat < S50048.size a := fun v197 k0_hw12 => k0_hw12

def k0_chk13 (v201 : IVec S16 32) : Prop :=
  (∀ a x, ((![v201] : Fin 1 → IVec S16 32) a x).toNat < S50048.size a)
theorem k0_idx13_inb : ∀ (v201 : IVec S16 32) (k0_hw13 : k0_chk13 v201), ∀ a x, ((![v201] : Fin 1 → IVec S16 32) a x).toNat < S50048.size a := fun v201 k0_hw13 => k0_hw13

def k0_chk14 (v205 : IVec S16 32) : Prop :=
  (∀ a x, ((![v205] : Fin 1 → IVec S16 32) a x).toNat < S50048.size a)
theorem k0_idx14_inb : ∀ (v205 : IVec S16 32) (k0_hw14 : k0_chk14 v205), ∀ a x, ((![v205] : Fin 1 → IVec S16 32) a x).toNat < S50048.size a := fun v205 k0_hw14 => k0_hw14

def k0_chk15 (v209 : IVec S16 32) : Prop :=
  (∀ a x, ((![v209] : Fin 1 → IVec S16 32) a x).toNat < S50048.size a)
theorem k0_idx15_inb : ∀ (v209 : IVec S16 32) (k0_hw15 : k0_chk15 v209), ∀ a x, ((![v209] : Fin 1 → IVec S16 32) a x).toNat < S50048.size a := fun v209 k0_hw15 => k0_hw15

def k0_chk16 (v213 : IVec S16 32) : Prop :=
  (∀ a x, ((![v213] : Fin 1 → IVec S16 32) a x).toNat < S50048.size a)
theorem k0_idx16_inb : ∀ (v213 : IVec S16 32) (k0_hw16 : k0_chk16 v213), ∀ a x, ((![v213] : Fin 1 → IVec S16 32) a x).toNat < S50048.size a := fun v213 k0_hw16 => k0_hw16

def k0_chk17 (v215 : IVec S16 32) : Prop :=
  (∀ a x, ((![v215] : Fin 1 → IVec S16 32) a x).toNat < S50048.size a)
theorem k0_idx17_inb : ∀ (v215 : IVec S16 32) (k0_hw17 : k0_chk17 v215), ∀ a x, ((![v215] : Fin 1 → IVec S16 32) a x).toNat < S50048.size a := fun v215 k0_hw17 => k0_hw17

def k0_chk18 (v217 : IVec S16 32) : Prop :=
  (∀ a x, ((![v217] : Fin 1 → IVec S16 32) a x).toNat < S50048.size a)
theorem k0_idx18_inb : ∀ (v217 : IVec S16 32) (k0_hw18 : k0_chk18 v217), ∀ a x, ((![v217] : Fin 1 → IVec S16 32) a x).toNat < S50048.size a := fun v217 k0_hw18 => k0_hw18

def k0_chk19 (v219 : IVec S16 32) : Prop :=
  (∀ a x, ((![v219] : Fin 1 → IVec S16 32) a x).toNat < S50048.size a)
theorem k0_idx19_inb : ∀ (v219 : IVec S16 32) (k0_hw19 : k0_chk19 v219), ∀ a x, ((![v219] : Fin 1 → IVec S16 32) a x).toNat < S50048.size a := fun v219 k0_hw19 => k0_hw19

def k0_chk20 (v221 : IVec S16 32) : Prop :=
  (∀ a x, ((![v221] : Fin 1 → IVec S16 32) a x).toNat < S50048.size a)
theorem k0_idx20_inb : ∀ (v221 : IVec S16 32) (k0_hw20 : k0_chk20 v221), ∀ a x, ((![v221] : Fin 1 → IVec S16 32) a x).toNat < S50048.size a := fun v221 k0_hw20 => k0_hw20

def k0_chk21 (v232 : IVec S16 32) : Prop :=
  (∀ a x, ((![v232] : Fin 1 → IVec S16 32) a x).toNat < S50048.size a)
theorem k0_idx21_inb : ∀ (v232 : IVec S16 32) (k0_hw21 : k0_chk21 v232), ∀ a x, ((![v232] : Fin 1 → IVec S16 32) a x).toNat < S50048.size a := fun v232 k0_hw21 => k0_hw21

def k0_chk22 (v236 : IVec S16 32) : Prop :=
  (∀ a x, ((![v236] : Fin 1 → IVec S16 32) a x).toNat < S50048.size a)
theorem k0_idx22_inb : ∀ (v236 : IVec S16 32) (k0_hw22 : k0_chk22 v236), ∀ a x, ((![v236] : Fin 1 → IVec S16 32) a x).toNat < S50048.size a := fun v236 k0_hw22 => k0_hw22

def k0_chk23 (v240 : IVec S16 32) : Prop :=
  (∀ a x, ((![v240] : Fin 1 → IVec S16 32) a x).toNat < S50048.size a)
theorem k0_idx23_inb : ∀ (v240 : IVec S16 32) (k0_hw23 : k0_chk23 v240), ∀ a x, ((![v240] : Fin 1 → IVec S16 32) a x).toNat < S50048.size a := fun v240 k0_hw23 => k0_hw23

def k0_chk24 (v244 : IVec S16 32) : Prop :=
  (∀ a x, ((![v244] : Fin 1 → IVec S16 32) a x).toNat < S50048.size a)
theorem k0_idx24_inb : ∀ (v244 : IVec S16 32) (k0_hw24 : k0_chk24 v244), ∀ a x, ((![v244] : Fin 1 → IVec S16 32) a x).toNat < S50048.size a := fun v244 k0_hw24 => k0_hw24

def k0_chk25 (v248 : IVec S16 32) : Prop :=
  (∀ a x, ((![v248] : Fin 1 → IVec S16 32) a x).toNat < S50048.size a)
theorem k0_idx25_inb : ∀ (v248 : IVec S16 32) (k0_hw25 : k0_chk25 v248), ∀ a x, ((![v248] : Fin 1 → IVec S16 32) a x).toNat < S50048.size a := fun v248 k0_hw25 => k0_hw25

def k0_chk26 (v252 : IVec S16 32) : Prop :=
  (∀ a x, ((![v252] : Fin 1 → IVec S16 32) a x).toNat < S50048.size a)
theorem k0_idx26_inb : ∀ (v252 : IVec S16 32) (k0_hw26 : k0_chk26 v252), ∀ a x, ((![v252] : Fin 1 → IVec S16 32) a x).toNat < S50048.size a := fun v252 k0_hw26 => k0_hw26

def k0_chk27 (v254 : IVec S16 32) : Prop :=
  (∀ a x, ((![v254] : Fin 1 → IVec S16 32) a x).toNat < S50048.size a)
theorem k0_idx27_inb : ∀ (v254 : IVec S16 32) (k0_hw27 : k0_chk27 v254), ∀ a x, ((![v254] : Fin 1 → IVec S16 32) a x).toNat < S50048.size a := fun v254 k0_hw27 => k0_hw27

def k0_chk28 (v256 : IVec S16 32) : Prop :=
  (∀ a x, ((![v256] : Fin 1 → IVec S16 32) a x).toNat < S50048.size a)
theorem k0_idx28_inb : ∀ (v256 : IVec S16 32) (k0_hw28 : k0_chk28 v256), ∀ a x, ((![v256] : Fin 1 → IVec S16 32) a x).toNat < S50048.size a := fun v256 k0_hw28 => k0_hw28

def k0_chk29 (v258 : IVec S16 32) : Prop :=
  (∀ a x, ((![v258] : Fin 1 → IVec S16 32) a x).toNat < S50048.size a)
theorem k0_idx29_inb : ∀ (v258 : IVec S16 32) (k0_hw29 : k0_chk29 v258), ∀ a x, ((![v258] : Fin 1 → IVec S16 32) a x).toNat < S50048.size a := fun v258 k0_hw29 => k0_hw29

def k0_chk30 (v260 : IVec S16 32) : Prop :=
  (∀ a x, ((![v260] : Fin 1 → IVec S16 32) a x).toNat < S50048.size a)
theorem k0_idx30_inb : ∀ (v260 : IVec S16 32) (k0_hw30 : k0_chk30 v260), ∀ a x, ((![v260] : Fin 1 → IVec S16 32) a x).toNat < S50048.size a := fun v260 k0_hw30 => k0_hw30

def k0_chk31 (v271 : IVec S16 32) : Prop :=
  (∀ a x, ((![v271] : Fin 1 → IVec S16 32) a x).toNat < S50048.size a)
theorem k0_idx31_inb : ∀ (v271 : IVec S16 32) (k0_hw31 : k0_chk31 v271), ∀ a x, ((![v271] : Fin 1 → IVec S16 32) a x).toNat < S50048.size a := fun v271 k0_hw31 => k0_hw31

def k0_chk32 (v275 : IVec S16 32) : Prop :=
  (∀ a x, ((![v275] : Fin 1 → IVec S16 32) a x).toNat < S50048.size a)
theorem k0_idx32_inb : ∀ (v275 : IVec S16 32) (k0_hw32 : k0_chk32 v275), ∀ a x, ((![v275] : Fin 1 → IVec S16 32) a x).toNat < S50048.size a := fun v275 k0_hw32 => k0_hw32

def k0_chk33 (v279 : IVec S16 32) : Prop :=
  (∀ a x, ((![v279] : Fin 1 → IVec S16 32) a x).toNat < S50048.size a)
theorem k0_idx33_inb : ∀ (v279 : IVec S16 32) (k0_hw33 : k0_chk33 v279), ∀ a x, ((![v279] : Fin 1 → IVec S16 32) a x).toNat < S50048.size a := fun v279 k0_hw33 => k0_hw33

def k0_chk34 (v283 : IVec S16 32) : Prop :=
  (∀ a x, ((![v283] : Fin 1 → IVec S16 32) a x).toNat < S50048.size a)
theorem k0_idx34_inb : ∀ (v283 : IVec S16 32) (k0_hw34 : k0_chk34 v283), ∀ a x, ((![v283] : Fin 1 → IVec S16 32) a x).toNat < S50048.size a := fun v283 k0_hw34 => k0_hw34

def k0_chk35 (v287 : IVec S16 32) : Prop :=
  (∀ a x, ((![v287] : Fin 1 → IVec S16 32) a x).toNat < S50048.size a)
theorem k0_idx35_inb : ∀ (v287 : IVec S16 32) (k0_hw35 : k0_chk35 v287), ∀ a x, ((![v287] : Fin 1 → IVec S16 32) a x).toNat < S50048.size a := fun v287 k0_hw35 => k0_hw35

def k0_chk36 (v291 : IVec S16 32) : Prop :=
  (∀ a x, ((![v291] : Fin 1 → IVec S16 32) a x).toNat < S50048.size a)
theorem k0_idx36_inb : ∀ (v291 : IVec S16 32) (k0_hw36 : k0_chk36 v291), ∀ a x, ((![v291] : Fin 1 → IVec S16 32) a x).toNat < S50048.size a := fun v291 k0_hw36 => k0_hw36

def k0_chk37 (v293 : IVec S16 32) : Prop :=
  (∀ a x, ((![v293] : Fin 1 → IVec S16 32) a x).toNat < S50048.size a)
theorem k0_idx37_inb : ∀ (v293 : IVec S16 32) (k0_hw37 : k0_chk37 v293), ∀ a x, ((![v293] : Fin 1 → IVec S16 32) a x).toNat < S50048.size a := fun v293 k0_hw37 => k0_hw37

def k0_chk38 (v295 : IVec S16 32) : Prop :=
  (∀ a x, ((![v295] : Fin 1 → IVec S16 32) a x).toNat < S50048.size a)
theorem k0_idx38_inb : ∀ (v295 : IVec S16 32) (k0_hw38 : k0_chk38 v295), ∀ a x, ((![v295] : Fin 1 → IVec S16 32) a x).toNat < S50048.size a := fun v295 k0_hw38 => k0_hw38

def k0_chk39 (v297 : IVec S16 32) : Prop :=
  (∀ a x, ((![v297] : Fin 1 → IVec S16 32) a x).toNat < S50048.size a)
theorem k0_idx39_inb : ∀ (v297 : IVec S16 32) (k0_hw39 : k0_chk39 v297), ∀ a x, ((![v297] : Fin 1 → IVec S16 32) a x).toNat < S50048.size a := fun v297 k0_hw39 => k0_hw39

def k0_chk40 (v299 : IVec S16 32) : Prop :=
  (∀ a x, ((![v299] : Fin 1 → IVec S16 32) a x).toNat < S50048.size a)
theorem k0_idx40_inb : ∀ (v299 : IVec S16 32) (k0_hw40 : k0_chk40 v299), ∀ a x, ((![v299] : Fin 1 → IVec S16 32) a x).toNat < S50048.size a := fun v299 k0_hw40 => k0_hw40

def k0_chk41 (v310 : IVec S16 32) : Prop :=
  (∀ a x, ((![v310] : Fin 1 → IVec S16 32) a x).toNat < S50048.size a)
theorem k0_idx41_inb : ∀ (v310 : IVec S16 32) (k0_hw41 : k0_chk41 v310), ∀ a x, ((![v310] : Fin 1 → IVec S16 32) a x).toNat < S50048.size a := fun v310 k0_hw41 => k0_hw41

def k0_chk42 (v314 : IVec S16 32) : Prop :=
  (∀ a x, ((![v314] : Fin 1 → IVec S16 32) a x).toNat < S50048.size a)
theorem k0_idx42_inb : ∀ (v314 : IVec S16 32) (k0_hw42 : k0_chk42 v314), ∀ a x, ((![v314] : Fin 1 → IVec S16 32) a x).toNat < S50048.size a := fun v314 k0_hw42 => k0_hw42

def k0_chk43 (v318 : IVec S16 32) : Prop :=
  (∀ a x, ((![v318] : Fin 1 → IVec S16 32) a x).toNat < S50048.size a)
theorem k0_idx43_inb : ∀ (v318 : IVec S16 32) (k0_hw43 : k0_chk43 v318), ∀ a x, ((![v318] : Fin 1 → IVec S16 32) a x).toNat < S50048.size a := fun v318 k0_hw43 => k0_hw43

def k0_chk44 (v322 : IVec S16 32) : Prop :=
  (∀ a x, ((![v322] : Fin 1 → IVec S16 32) a x).toNat < S50048.size a)
theorem k0_idx44_inb : ∀ (v322 : IVec S16 32) (k0_hw44 : k0_chk44 v322), ∀ a x, ((![v322] : Fin 1 → IVec S16 32) a x).toNat < S50048.size a := fun v322 k0_hw44 => k0_hw44

def k0_chk45 (v326 : IVec S16 32) : Prop :=
  (∀ a x, ((![v326] : Fin 1 → IVec S16 32) a x).toNat < S50048.size a)
theorem k0_idx45_inb : ∀ (v326 : IVec S16 32) (k0_hw45 : k0_chk45 v326), ∀ a x, ((![v326] : Fin 1 → IVec S16 32) a x).toNat < S50048.size a := fun v326 k0_hw45 => k0_hw45

def k0_chk46 (v330 : IVec S16 32) : Prop :=
  (∀ a x, ((![v330] : Fin 1 → IVec S16 32) a x).toNat < S50048.size a)
theorem k0_idx46_inb : ∀ (v330 : IVec S16 32) (k0_hw46 : k0_chk46 v330), ∀ a x, ((![v330] : Fin 1 → IVec S16 32) a x).toNat < S50048.size a := fun v330 k0_hw46 => k0_hw46

def k0_chk47 (v332 : IVec S16 32) : Prop :=
  (∀ a x, ((![v332] : Fin 1 → IVec S16 32) a x).toNat < S50048.size a)
theorem k0_idx47_inb : ∀ (v332 : IVec S16 32) (k0_hw47 : k0_chk47 v332), ∀ a x, ((![v332] : Fin 1 → IVec S16 32) a x).toNat < S50048.size a := fun v332 k0_hw47 => k0_hw47

def k0_chk48 (v334 : IVec S16 32) : Prop :=
  (∀ a x, ((![v334] : Fin 1 → IVec S16 32) a x).toNat < S50048.size a)
theorem k0_idx48_inb : ∀ (v334 : IVec S16 32) (k0_hw48 : k0_chk48 v334), ∀ a x, ((![v334] : Fin 1 → IVec S16 32) a x).toNat < S50048.size a := fun v334 k0_hw48 => k0_hw48

def k0_chk49 (v336 : IVec S16 32) : Prop :=
  (∀ a x, ((![v336] : Fin 1 → IVec S16 32) a x).toNat < S50048.size a)
theorem k0_idx49_inb : ∀ (v336 : IVec S16 32) (k0_hw49 : k0_chk49 v336), ∀ a x, ((![v336] : Fin 1 → IVec S16 32) a x).toNat < S50048.size a := fun v336 k0_hw49 => k0_hw49

def k0_chk50 (v338 : IVec S16 32) : Prop :=
  (∀ a x, ((![v338] : Fin 1 → IVec S16 32) a x).toNat < S50048.size a)
theorem k0_idx50_inb : ∀ (v338 : IVec S16 32) (k0_hw50 : k0_chk50 v338), ∀ a x, ((![v338] : Fin 1 → IVec S16 32) a x).toNat < S50048.size a := fun v338 k0_hw50 => k0_hw50
@[reducible] def k0_t4_loop (v354 : BitVec 32) : Scf.Loop 32 :=
  let c1_i32_150 : BitVec 32 := 1#32
  let c1_i32_149 : BitVec 32 := 1#32
  let v355 : BitVec 32 := Scalar.addi v354 c1_i32_149
  let v356 : BitVec 32 := Scalar.subi v355 c1_i32_150
  let c1_i32_152 : BitVec 32 := 1#32
  let v358 : BitVec 32 := Scalar.divsi v356 c1_i32_152
  let v359 : BitVec 32 := Scalar.muli v358 c1_i32_152
  let v360 : BitVec 32 := Scalar.addi c1_i32_150 v359
  let c1_i32_153 : BitVec 32 := 1#32
  ⟨c1_i32_150, v360, c1_i32_153⟩
def k0_cond1 (v188 : BitVec 32) (v227 : BitVec 32) (v266 : BitVec 32) (v305 : BitVec 32) (v344 : BitVec 32) : BitVec 1 :=
  let c0_i32_91 : BitVec 32 := 0#32
  let v189 : BitVec 32 := Scalar.maxsi c0_i32_91 v188
  let v228 : BitVec 32 := Scalar.maxsi v189 v227
  let v267 : BitVec 32 := Scalar.maxsi v228 v266
  let v306 : BitVec 32 := Scalar.maxsi v267 v305
  let v345 : BitVec 32 := Scalar.maxsi v306 v344
  let c0_i32_144 : BitVec 32 := 0#32
  let v346 : BitVec 1 := Scalar.cmpi .sgt v345 c0_i32_144
  let v347 : BitVec 32 := Scalar.extui v346
  let c0_i32_145 : BitVec 32 := 0#32
  let v348 : BitVec 1 := Scalar.cmpi .ne v347 c0_i32_145
  v348

def k0_chk52 (v188 : BitVec 32) (v227 : BitVec 32) (v266 : BitVec 32) (v305 : BitVec 32) (v344 : BitVec 32) (v422 : IVec S16 32) : Prop :=
  (∀ (k0_h1 : k0_cond1 v188 v227 v266 v305 v344 = 1#1), ∀ a x, ((![v422] : Fin 1 → IVec S16 32) a x).toNat < S50048.size a)
theorem k0_idx51_inb : ∀ (v188 : BitVec 32) (v227 : BitVec 32) (v266 : BitVec 32) (v305 : BitVec 32) (v344 : BitVec 32) (v422 : IVec S16 32) (k0_hw52 : k0_chk52 v188 v227 v266 v305 v344 v422), ∀ (k0_h1 : k0_cond1 v188 v227 v266 v305 v344 = 1#1), ∀ a x, ((![v422] : Fin 1 → IVec S16 32) a x).toNat < S50048.size a := fun v188 v227 v266 v305 v344 v422 k0_hw52 k0_h1 => k0_hw52 k0_h1

def k0_chk53 (v188 : BitVec 32) (v227 : BitVec 32) (v266 : BitVec 32) (v305 : BitVec 32) (v344 : BitVec 32) (v426 : IVec S16 32) : Prop :=
  (∀ (k0_h1 : k0_cond1 v188 v227 v266 v305 v344 = 1#1), ∀ a x, ((![v426] : Fin 1 → IVec S16 32) a x).toNat < S50048.size a)
theorem k0_idx52_inb : ∀ (v188 : BitVec 32) (v227 : BitVec 32) (v266 : BitVec 32) (v305 : BitVec 32) (v344 : BitVec 32) (v426 : IVec S16 32) (k0_hw53 : k0_chk53 v188 v227 v266 v305 v344 v426), ∀ (k0_h1 : k0_cond1 v188 v227 v266 v305 v344 = 1#1), ∀ a x, ((![v426] : Fin 1 → IVec S16 32) a x).toNat < S50048.size a := fun v188 v227 v266 v305 v344 v426 k0_hw53 k0_h1 => k0_hw53 k0_h1

def k0_chk54 (v188 : BitVec 32) (v227 : BitVec 32) (v266 : BitVec 32) (v305 : BitVec 32) (v344 : BitVec 32) (v430 : IVec S16 32) : Prop :=
  (∀ (k0_h1 : k0_cond1 v188 v227 v266 v305 v344 = 1#1), ∀ a x, ((![v430] : Fin 1 → IVec S16 32) a x).toNat < S50048.size a)
theorem k0_idx53_inb : ∀ (v188 : BitVec 32) (v227 : BitVec 32) (v266 : BitVec 32) (v305 : BitVec 32) (v344 : BitVec 32) (v430 : IVec S16 32) (k0_hw54 : k0_chk54 v188 v227 v266 v305 v344 v430), ∀ (k0_h1 : k0_cond1 v188 v227 v266 v305 v344 = 1#1), ∀ a x, ((![v430] : Fin 1 → IVec S16 32) a x).toNat < S50048.size a := fun v188 v227 v266 v305 v344 v430 k0_hw54 k0_h1 => k0_hw54 k0_h1

def k0_chk55 (v188 : BitVec 32) (v227 : BitVec 32) (v266 : BitVec 32) (v305 : BitVec 32) (v344 : BitVec 32) (v434 : IVec S16 32) : Prop :=
  (∀ (k0_h1 : k0_cond1 v188 v227 v266 v305 v344 = 1#1), ∀ a x, ((![v434] : Fin 1 → IVec S16 32) a x).toNat < S50048.size a)
theorem k0_idx54_inb : ∀ (v188 : BitVec 32) (v227 : BitVec 32) (v266 : BitVec 32) (v305 : BitVec 32) (v344 : BitVec 32) (v434 : IVec S16 32) (k0_hw55 : k0_chk55 v188 v227 v266 v305 v344 v434), ∀ (k0_h1 : k0_cond1 v188 v227 v266 v305 v344 = 1#1), ∀ a x, ((![v434] : Fin 1 → IVec S16 32) a x).toNat < S50048.size a := fun v188 v227 v266 v305 v344 v434 k0_hw55 k0_h1 => k0_hw55 k0_h1

def k0_chk56 (v188 : BitVec 32) (v227 : BitVec 32) (v266 : BitVec 32) (v305 : BitVec 32) (v344 : BitVec 32) (v438 : IVec S16 32) : Prop :=
  (∀ (k0_h1 : k0_cond1 v188 v227 v266 v305 v344 = 1#1), ∀ a x, ((![v438] : Fin 1 → IVec S16 32) a x).toNat < S50048.size a)
theorem k0_idx55_inb : ∀ (v188 : BitVec 32) (v227 : BitVec 32) (v266 : BitVec 32) (v305 : BitVec 32) (v344 : BitVec 32) (v438 : IVec S16 32) (k0_hw56 : k0_chk56 v188 v227 v266 v305 v344 v438), ∀ (k0_h1 : k0_cond1 v188 v227 v266 v305 v344 = 1#1), ∀ a x, ((![v438] : Fin 1 → IVec S16 32) a x).toNat < S50048.size a := fun v188 v227 v266 v305 v344 v438 k0_hw56 k0_h1 => k0_hw56 k0_h1

def k0_chk57 (v188 : BitVec 32) (v227 : BitVec 32) (v266 : BitVec 32) (v305 : BitVec 32) (v344 : BitVec 32) (v442 : IVec S16 32) : Prop :=
  (∀ (k0_h1 : k0_cond1 v188 v227 v266 v305 v344 = 1#1), ∀ a x, ((![v442] : Fin 1 → IVec S16 32) a x).toNat < S50048.size a)
theorem k0_idx56_inb : ∀ (v188 : BitVec 32) (v227 : BitVec 32) (v266 : BitVec 32) (v305 : BitVec 32) (v344 : BitVec 32) (v442 : IVec S16 32) (k0_hw57 : k0_chk57 v188 v227 v266 v305 v344 v442), ∀ (k0_h1 : k0_cond1 v188 v227 v266 v305 v344 = 1#1), ∀ a x, ((![v442] : Fin 1 → IVec S16 32) a x).toNat < S50048.size a := fun v188 v227 v266 v305 v344 v442 k0_hw57 k0_h1 => k0_hw57 k0_h1

def k0_chk58 (v188 : BitVec 32) (v227 : BitVec 32) (v266 : BitVec 32) (v305 : BitVec 32) (v344 : BitVec 32) (v444 : IVec S16 32) : Prop :=
  (∀ (k0_h1 : k0_cond1 v188 v227 v266 v305 v344 = 1#1), ∀ a x, ((![v444] : Fin 1 → IVec S16 32) a x).toNat < S50048.size a)
theorem k0_idx57_inb : ∀ (v188 : BitVec 32) (v227 : BitVec 32) (v266 : BitVec 32) (v305 : BitVec 32) (v344 : BitVec 32) (v444 : IVec S16 32) (k0_hw58 : k0_chk58 v188 v227 v266 v305 v344 v444), ∀ (k0_h1 : k0_cond1 v188 v227 v266 v305 v344 = 1#1), ∀ a x, ((![v444] : Fin 1 → IVec S16 32) a x).toNat < S50048.size a := fun v188 v227 v266 v305 v344 v444 k0_hw58 k0_h1 => k0_hw58 k0_h1

def k0_chk59 (v188 : BitVec 32) (v227 : BitVec 32) (v266 : BitVec 32) (v305 : BitVec 32) (v344 : BitVec 32) (v446 : IVec S16 32) : Prop :=
  (∀ (k0_h1 : k0_cond1 v188 v227 v266 v305 v344 = 1#1), ∀ a x, ((![v446] : Fin 1 → IVec S16 32) a x).toNat < S50048.size a)
theorem k0_idx58_inb : ∀ (v188 : BitVec 32) (v227 : BitVec 32) (v266 : BitVec 32) (v305 : BitVec 32) (v344 : BitVec 32) (v446 : IVec S16 32) (k0_hw59 : k0_chk59 v188 v227 v266 v305 v344 v446), ∀ (k0_h1 : k0_cond1 v188 v227 v266 v305 v344 = 1#1), ∀ a x, ((![v446] : Fin 1 → IVec S16 32) a x).toNat < S50048.size a := fun v188 v227 v266 v305 v344 v446 k0_hw59 k0_h1 => k0_hw59 k0_h1

def k0_chk60 (v188 : BitVec 32) (v227 : BitVec 32) (v266 : BitVec 32) (v305 : BitVec 32) (v344 : BitVec 32) (v448 : IVec S16 32) : Prop :=
  (∀ (k0_h1 : k0_cond1 v188 v227 v266 v305 v344 = 1#1), ∀ a x, ((![v448] : Fin 1 → IVec S16 32) a x).toNat < S50048.size a)
theorem k0_idx59_inb : ∀ (v188 : BitVec 32) (v227 : BitVec 32) (v266 : BitVec 32) (v305 : BitVec 32) (v344 : BitVec 32) (v448 : IVec S16 32) (k0_hw60 : k0_chk60 v188 v227 v266 v305 v344 v448), ∀ (k0_h1 : k0_cond1 v188 v227 v266 v305 v344 = 1#1), ∀ a x, ((![v448] : Fin 1 → IVec S16 32) a x).toNat < S50048.size a := fun v188 v227 v266 v305 v344 v448 k0_hw60 k0_h1 => k0_hw60 k0_h1

def k0_chk61 (v188 : BitVec 32) (v227 : BitVec 32) (v266 : BitVec 32) (v305 : BitVec 32) (v344 : BitVec 32) (v450 : IVec S16 32) : Prop :=
  (∀ (k0_h1 : k0_cond1 v188 v227 v266 v305 v344 = 1#1), ∀ a x, ((![v450] : Fin 1 → IVec S16 32) a x).toNat < S50048.size a)
theorem k0_idx60_inb : ∀ (v188 : BitVec 32) (v227 : BitVec 32) (v266 : BitVec 32) (v305 : BitVec 32) (v344 : BitVec 32) (v450 : IVec S16 32) (k0_hw61 : k0_chk61 v188 v227 v266 v305 v344 v450), ∀ (k0_h1 : k0_cond1 v188 v227 v266 v305 v344 = 1#1), ∀ a x, ((![v450] : Fin 1 → IVec S16 32) a x).toNat < S50048.size a := fun v188 v227 v266 v305 v344 v450 k0_hw61 k0_h1 => k0_hw61 k0_h1
@[reducible] def k0_t5_loop (v354 : BitVec 32) : Scf.Loop 32 :=
  let c1_i32_150 : BitVec 32 := 1#32
  let c1_i32_149 : BitVec 32 := 1#32
  let v355 : BitVec 32 := Scalar.addi v354 c1_i32_149
  let v356 : BitVec 32 := Scalar.subi v355 c1_i32_150
  let c1_i32_152 : BitVec 32 := 1#32
  let v358 : BitVec 32 := Scalar.divsi v356 c1_i32_152
  let v359 : BitVec 32 := Scalar.muli v358 c1_i32_152
  let v360 : BitVec 32 := Scalar.addi c1_i32_150 v359
  let v357 : BitVec 32 := Scalar.addi c1_i32_150 v356
  let c1_i32_154 : BitVec 32 := 1#32
  ⟨v360, v357, c1_i32_154⟩

def k0_chk51 (v188 : BitVec 32) (v227 : BitVec 32) (v266 : BitVec 32) (v305 : BitVec 32) (v344 : BitVec 32) (v354 : BitVec 32) : Prop :=
  (∀ (k0_h1 : k0_cond1 v188 v227 v266 v305 v344 = 1#1), (k0_t4_loop v354).OK) ∧
  (∀ (k0_h1 : k0_cond1 v188 v227 v266 v305 v344 = 1#1), (k0_t5_loop v354).OK)
theorem k0_t4_ok : ∀ (v188 : BitVec 32) (v227 : BitVec 32) (v266 : BitVec 32) (v305 : BitVec 32) (v344 : BitVec 32) (v354 : BitVec 32) (k0_hw51 : k0_chk51 v188 v227 v266 v305 v344 v354), ∀ (k0_h1 : k0_cond1 v188 v227 v266 v305 v344 = 1#1), (k0_t4_loop v354).OK := fun v188 v227 v266 v305 v344 v354 k0_hw51 k0_h1 => k0_hw51.1 k0_h1
theorem k0_t5_ok : ∀ (v188 : BitVec 32) (v227 : BitVec 32) (v266 : BitVec 32) (v305 : BitVec 32) (v344 : BitVec 32) (v354 : BitVec 32) (k0_hw51 : k0_chk51 v188 v227 v266 v305 v344 v354), ∀ (k0_h1 : k0_cond1 v188 v227 v266 v305 v344 = 1#1), (k0_t5_loop v354).OK := fun v188 v227 v266 v305 v344 v354 k0_hw51 k0_h1 => k0_hw51.2 k0_h1

def k0_chk62 (v188 : BitVec 32) (v227 : BitVec 32) (v266 : BitVec 32) (v305 : BitVec 32) (v344 : BitVec 32) (v422 : IVec S16 32) : Prop :=
  (∀ (k0_h1 : k0_cond1 v188 v227 v266 v305 v344 = 1#1), ∀ a x, ((![v422] : Fin 1 → IVec S16 32) a x).toNat < S50048.size a)
theorem k0_idx61_inb : ∀ (v188 : BitVec 32) (v227 : BitVec 32) (v266 : BitVec 32) (v305 : BitVec 32) (v344 : BitVec 32) (v422 : IVec S16 32) (k0_hw62 : k0_chk62 v188 v227 v266 v305 v344 v422), ∀ (k0_h1 : k0_cond1 v188 v227 v266 v305 v344 = 1#1), ∀ a x, ((![v422] : Fin 1 → IVec S16 32) a x).toNat < S50048.size a := fun v188 v227 v266 v305 v344 v422 k0_hw62 k0_h1 => k0_hw62 k0_h1

def k0_chk63 (v188 : BitVec 32) (v227 : BitVec 32) (v266 : BitVec 32) (v305 : BitVec 32) (v344 : BitVec 32) (v426 : IVec S16 32) : Prop :=
  (∀ (k0_h1 : k0_cond1 v188 v227 v266 v305 v344 = 1#1), ∀ a x, ((![v426] : Fin 1 → IVec S16 32) a x).toNat < S50048.size a)
theorem k0_idx62_inb : ∀ (v188 : BitVec 32) (v227 : BitVec 32) (v266 : BitVec 32) (v305 : BitVec 32) (v344 : BitVec 32) (v426 : IVec S16 32) (k0_hw63 : k0_chk63 v188 v227 v266 v305 v344 v426), ∀ (k0_h1 : k0_cond1 v188 v227 v266 v305 v344 = 1#1), ∀ a x, ((![v426] : Fin 1 → IVec S16 32) a x).toNat < S50048.size a := fun v188 v227 v266 v305 v344 v426 k0_hw63 k0_h1 => k0_hw63 k0_h1

def k0_chk64 (v188 : BitVec 32) (v227 : BitVec 32) (v266 : BitVec 32) (v305 : BitVec 32) (v344 : BitVec 32) (v430 : IVec S16 32) : Prop :=
  (∀ (k0_h1 : k0_cond1 v188 v227 v266 v305 v344 = 1#1), ∀ a x, ((![v430] : Fin 1 → IVec S16 32) a x).toNat < S50048.size a)
theorem k0_idx63_inb : ∀ (v188 : BitVec 32) (v227 : BitVec 32) (v266 : BitVec 32) (v305 : BitVec 32) (v344 : BitVec 32) (v430 : IVec S16 32) (k0_hw64 : k0_chk64 v188 v227 v266 v305 v344 v430), ∀ (k0_h1 : k0_cond1 v188 v227 v266 v305 v344 = 1#1), ∀ a x, ((![v430] : Fin 1 → IVec S16 32) a x).toNat < S50048.size a := fun v188 v227 v266 v305 v344 v430 k0_hw64 k0_h1 => k0_hw64 k0_h1

def k0_chk65 (v188 : BitVec 32) (v227 : BitVec 32) (v266 : BitVec 32) (v305 : BitVec 32) (v344 : BitVec 32) (v434 : IVec S16 32) : Prop :=
  (∀ (k0_h1 : k0_cond1 v188 v227 v266 v305 v344 = 1#1), ∀ a x, ((![v434] : Fin 1 → IVec S16 32) a x).toNat < S50048.size a)
theorem k0_idx64_inb : ∀ (v188 : BitVec 32) (v227 : BitVec 32) (v266 : BitVec 32) (v305 : BitVec 32) (v344 : BitVec 32) (v434 : IVec S16 32) (k0_hw65 : k0_chk65 v188 v227 v266 v305 v344 v434), ∀ (k0_h1 : k0_cond1 v188 v227 v266 v305 v344 = 1#1), ∀ a x, ((![v434] : Fin 1 → IVec S16 32) a x).toNat < S50048.size a := fun v188 v227 v266 v305 v344 v434 k0_hw65 k0_h1 => k0_hw65 k0_h1

def k0_chk66 (v188 : BitVec 32) (v227 : BitVec 32) (v266 : BitVec 32) (v305 : BitVec 32) (v344 : BitVec 32) (v438 : IVec S16 32) : Prop :=
  (∀ (k0_h1 : k0_cond1 v188 v227 v266 v305 v344 = 1#1), ∀ a x, ((![v438] : Fin 1 → IVec S16 32) a x).toNat < S50048.size a)
theorem k0_idx65_inb : ∀ (v188 : BitVec 32) (v227 : BitVec 32) (v266 : BitVec 32) (v305 : BitVec 32) (v344 : BitVec 32) (v438 : IVec S16 32) (k0_hw66 : k0_chk66 v188 v227 v266 v305 v344 v438), ∀ (k0_h1 : k0_cond1 v188 v227 v266 v305 v344 = 1#1), ∀ a x, ((![v438] : Fin 1 → IVec S16 32) a x).toNat < S50048.size a := fun v188 v227 v266 v305 v344 v438 k0_hw66 k0_h1 => k0_hw66 k0_h1

def k0_chk67 (v188 : BitVec 32) (v227 : BitVec 32) (v266 : BitVec 32) (v305 : BitVec 32) (v344 : BitVec 32) (v442 : IVec S16 32) : Prop :=
  (∀ (k0_h1 : k0_cond1 v188 v227 v266 v305 v344 = 1#1), ∀ a x, ((![v442] : Fin 1 → IVec S16 32) a x).toNat < S50048.size a)
theorem k0_idx66_inb : ∀ (v188 : BitVec 32) (v227 : BitVec 32) (v266 : BitVec 32) (v305 : BitVec 32) (v344 : BitVec 32) (v442 : IVec S16 32) (k0_hw67 : k0_chk67 v188 v227 v266 v305 v344 v442), ∀ (k0_h1 : k0_cond1 v188 v227 v266 v305 v344 = 1#1), ∀ a x, ((![v442] : Fin 1 → IVec S16 32) a x).toNat < S50048.size a := fun v188 v227 v266 v305 v344 v442 k0_hw67 k0_h1 => k0_hw67 k0_h1

def k0_chk68 (v188 : BitVec 32) (v227 : BitVec 32) (v266 : BitVec 32) (v305 : BitVec 32) (v344 : BitVec 32) (v444 : IVec S16 32) : Prop :=
  (∀ (k0_h1 : k0_cond1 v188 v227 v266 v305 v344 = 1#1), ∀ a x, ((![v444] : Fin 1 → IVec S16 32) a x).toNat < S50048.size a)
theorem k0_idx67_inb : ∀ (v188 : BitVec 32) (v227 : BitVec 32) (v266 : BitVec 32) (v305 : BitVec 32) (v344 : BitVec 32) (v444 : IVec S16 32) (k0_hw68 : k0_chk68 v188 v227 v266 v305 v344 v444), ∀ (k0_h1 : k0_cond1 v188 v227 v266 v305 v344 = 1#1), ∀ a x, ((![v444] : Fin 1 → IVec S16 32) a x).toNat < S50048.size a := fun v188 v227 v266 v305 v344 v444 k0_hw68 k0_h1 => k0_hw68 k0_h1

def k0_chk69 (v188 : BitVec 32) (v227 : BitVec 32) (v266 : BitVec 32) (v305 : BitVec 32) (v344 : BitVec 32) (v446 : IVec S16 32) : Prop :=
  (∀ (k0_h1 : k0_cond1 v188 v227 v266 v305 v344 = 1#1), ∀ a x, ((![v446] : Fin 1 → IVec S16 32) a x).toNat < S50048.size a)
theorem k0_idx68_inb : ∀ (v188 : BitVec 32) (v227 : BitVec 32) (v266 : BitVec 32) (v305 : BitVec 32) (v344 : BitVec 32) (v446 : IVec S16 32) (k0_hw69 : k0_chk69 v188 v227 v266 v305 v344 v446), ∀ (k0_h1 : k0_cond1 v188 v227 v266 v305 v344 = 1#1), ∀ a x, ((![v446] : Fin 1 → IVec S16 32) a x).toNat < S50048.size a := fun v188 v227 v266 v305 v344 v446 k0_hw69 k0_h1 => k0_hw69 k0_h1

def k0_chk70 (v188 : BitVec 32) (v227 : BitVec 32) (v266 : BitVec 32) (v305 : BitVec 32) (v344 : BitVec 32) (v448 : IVec S16 32) : Prop :=
  (∀ (k0_h1 : k0_cond1 v188 v227 v266 v305 v344 = 1#1), ∀ a x, ((![v448] : Fin 1 → IVec S16 32) a x).toNat < S50048.size a)
theorem k0_idx69_inb : ∀ (v188 : BitVec 32) (v227 : BitVec 32) (v266 : BitVec 32) (v305 : BitVec 32) (v344 : BitVec 32) (v448 : IVec S16 32) (k0_hw70 : k0_chk70 v188 v227 v266 v305 v344 v448), ∀ (k0_h1 : k0_cond1 v188 v227 v266 v305 v344 = 1#1), ∀ a x, ((![v448] : Fin 1 → IVec S16 32) a x).toNat < S50048.size a := fun v188 v227 v266 v305 v344 v448 k0_hw70 k0_h1 => k0_hw70 k0_h1

def k0_chk71 (v188 : BitVec 32) (v227 : BitVec 32) (v266 : BitVec 32) (v305 : BitVec 32) (v344 : BitVec 32) (v450 : IVec S16 32) : Prop :=
  (∀ (k0_h1 : k0_cond1 v188 v227 v266 v305 v344 = 1#1), ∀ a x, ((![v450] : Fin 1 → IVec S16 32) a x).toNat < S50048.size a)
theorem k0_idx70_inb : ∀ (v188 : BitVec 32) (v227 : BitVec 32) (v266 : BitVec 32) (v305 : BitVec 32) (v344 : BitVec 32) (v450 : IVec S16 32) (k0_hw71 : k0_chk71 v188 v227 v266 v305 v344 v450), ∀ (k0_h1 : k0_cond1 v188 v227 v266 v305 v344 = 1#1), ∀ a x, ((![v450] : Fin 1 → IVec S16 32) a x).toNat < S50048.size a := fun v188 v227 v266 v305 v344 v450 k0_hw71 k0_h1 => k0_hw71 k0_h1
@[reducible] def k0_t6_loop (v368 : BitVec 32) : Scf.Loop 32 :=
  let c1_i32_158 : BitVec 32 := 1#32
  let c1_i32_157 : BitVec 32 := 1#32
  let v369 : BitVec 32 := Scalar.addi v368 c1_i32_157
  let v370 : BitVec 32 := Scalar.subi v369 c1_i32_158
  let c1_i32_160 : BitVec 32 := 1#32
  let v372 : BitVec 32 := Scalar.divsi v370 c1_i32_160
  let v373 : BitVec 32 := Scalar.muli v372 c1_i32_160
  let v374 : BitVec 32 := Scalar.addi c1_i32_158 v373
  let c1_i32_161 : BitVec 32 := 1#32
  ⟨c1_i32_158, v374, c1_i32_161⟩

def k0_chk73 (v188 : BitVec 32) (v227 : BitVec 32) (v266 : BitVec 32) (v305 : BitVec 32) (v344 : BitVec 32) (v422 : IVec S16 32) : Prop :=
  (∀ (k0_h1 : k0_cond1 v188 v227 v266 v305 v344 = 1#1), ∀ a x, ((![v422] : Fin 1 → IVec S16 32) a x).toNat < S50048.size a)
theorem k0_idx71_inb : ∀ (v188 : BitVec 32) (v227 : BitVec 32) (v266 : BitVec 32) (v305 : BitVec 32) (v344 : BitVec 32) (v422 : IVec S16 32) (k0_hw73 : k0_chk73 v188 v227 v266 v305 v344 v422), ∀ (k0_h1 : k0_cond1 v188 v227 v266 v305 v344 = 1#1), ∀ a x, ((![v422] : Fin 1 → IVec S16 32) a x).toNat < S50048.size a := fun v188 v227 v266 v305 v344 v422 k0_hw73 k0_h1 => k0_hw73 k0_h1

def k0_chk74 (v188 : BitVec 32) (v227 : BitVec 32) (v266 : BitVec 32) (v305 : BitVec 32) (v344 : BitVec 32) (v426 : IVec S16 32) : Prop :=
  (∀ (k0_h1 : k0_cond1 v188 v227 v266 v305 v344 = 1#1), ∀ a x, ((![v426] : Fin 1 → IVec S16 32) a x).toNat < S50048.size a)
theorem k0_idx72_inb : ∀ (v188 : BitVec 32) (v227 : BitVec 32) (v266 : BitVec 32) (v305 : BitVec 32) (v344 : BitVec 32) (v426 : IVec S16 32) (k0_hw74 : k0_chk74 v188 v227 v266 v305 v344 v426), ∀ (k0_h1 : k0_cond1 v188 v227 v266 v305 v344 = 1#1), ∀ a x, ((![v426] : Fin 1 → IVec S16 32) a x).toNat < S50048.size a := fun v188 v227 v266 v305 v344 v426 k0_hw74 k0_h1 => k0_hw74 k0_h1

def k0_chk75 (v188 : BitVec 32) (v227 : BitVec 32) (v266 : BitVec 32) (v305 : BitVec 32) (v344 : BitVec 32) (v430 : IVec S16 32) : Prop :=
  (∀ (k0_h1 : k0_cond1 v188 v227 v266 v305 v344 = 1#1), ∀ a x, ((![v430] : Fin 1 → IVec S16 32) a x).toNat < S50048.size a)
theorem k0_idx73_inb : ∀ (v188 : BitVec 32) (v227 : BitVec 32) (v266 : BitVec 32) (v305 : BitVec 32) (v344 : BitVec 32) (v430 : IVec S16 32) (k0_hw75 : k0_chk75 v188 v227 v266 v305 v344 v430), ∀ (k0_h1 : k0_cond1 v188 v227 v266 v305 v344 = 1#1), ∀ a x, ((![v430] : Fin 1 → IVec S16 32) a x).toNat < S50048.size a := fun v188 v227 v266 v305 v344 v430 k0_hw75 k0_h1 => k0_hw75 k0_h1

def k0_chk76 (v188 : BitVec 32) (v227 : BitVec 32) (v266 : BitVec 32) (v305 : BitVec 32) (v344 : BitVec 32) (v434 : IVec S16 32) : Prop :=
  (∀ (k0_h1 : k0_cond1 v188 v227 v266 v305 v344 = 1#1), ∀ a x, ((![v434] : Fin 1 → IVec S16 32) a x).toNat < S50048.size a)
theorem k0_idx74_inb : ∀ (v188 : BitVec 32) (v227 : BitVec 32) (v266 : BitVec 32) (v305 : BitVec 32) (v344 : BitVec 32) (v434 : IVec S16 32) (k0_hw76 : k0_chk76 v188 v227 v266 v305 v344 v434), ∀ (k0_h1 : k0_cond1 v188 v227 v266 v305 v344 = 1#1), ∀ a x, ((![v434] : Fin 1 → IVec S16 32) a x).toNat < S50048.size a := fun v188 v227 v266 v305 v344 v434 k0_hw76 k0_h1 => k0_hw76 k0_h1

def k0_chk77 (v188 : BitVec 32) (v227 : BitVec 32) (v266 : BitVec 32) (v305 : BitVec 32) (v344 : BitVec 32) (v438 : IVec S16 32) : Prop :=
  (∀ (k0_h1 : k0_cond1 v188 v227 v266 v305 v344 = 1#1), ∀ a x, ((![v438] : Fin 1 → IVec S16 32) a x).toNat < S50048.size a)
theorem k0_idx75_inb : ∀ (v188 : BitVec 32) (v227 : BitVec 32) (v266 : BitVec 32) (v305 : BitVec 32) (v344 : BitVec 32) (v438 : IVec S16 32) (k0_hw77 : k0_chk77 v188 v227 v266 v305 v344 v438), ∀ (k0_h1 : k0_cond1 v188 v227 v266 v305 v344 = 1#1), ∀ a x, ((![v438] : Fin 1 → IVec S16 32) a x).toNat < S50048.size a := fun v188 v227 v266 v305 v344 v438 k0_hw77 k0_h1 => k0_hw77 k0_h1

def k0_chk78 (v188 : BitVec 32) (v227 : BitVec 32) (v266 : BitVec 32) (v305 : BitVec 32) (v344 : BitVec 32) (v442 : IVec S16 32) : Prop :=
  (∀ (k0_h1 : k0_cond1 v188 v227 v266 v305 v344 = 1#1), ∀ a x, ((![v442] : Fin 1 → IVec S16 32) a x).toNat < S50048.size a)
theorem k0_idx76_inb : ∀ (v188 : BitVec 32) (v227 : BitVec 32) (v266 : BitVec 32) (v305 : BitVec 32) (v344 : BitVec 32) (v442 : IVec S16 32) (k0_hw78 : k0_chk78 v188 v227 v266 v305 v344 v442), ∀ (k0_h1 : k0_cond1 v188 v227 v266 v305 v344 = 1#1), ∀ a x, ((![v442] : Fin 1 → IVec S16 32) a x).toNat < S50048.size a := fun v188 v227 v266 v305 v344 v442 k0_hw78 k0_h1 => k0_hw78 k0_h1

def k0_chk79 (v188 : BitVec 32) (v227 : BitVec 32) (v266 : BitVec 32) (v305 : BitVec 32) (v344 : BitVec 32) (v444 : IVec S16 32) : Prop :=
  (∀ (k0_h1 : k0_cond1 v188 v227 v266 v305 v344 = 1#1), ∀ a x, ((![v444] : Fin 1 → IVec S16 32) a x).toNat < S50048.size a)
theorem k0_idx77_inb : ∀ (v188 : BitVec 32) (v227 : BitVec 32) (v266 : BitVec 32) (v305 : BitVec 32) (v344 : BitVec 32) (v444 : IVec S16 32) (k0_hw79 : k0_chk79 v188 v227 v266 v305 v344 v444), ∀ (k0_h1 : k0_cond1 v188 v227 v266 v305 v344 = 1#1), ∀ a x, ((![v444] : Fin 1 → IVec S16 32) a x).toNat < S50048.size a := fun v188 v227 v266 v305 v344 v444 k0_hw79 k0_h1 => k0_hw79 k0_h1

def k0_chk80 (v188 : BitVec 32) (v227 : BitVec 32) (v266 : BitVec 32) (v305 : BitVec 32) (v344 : BitVec 32) (v446 : IVec S16 32) : Prop :=
  (∀ (k0_h1 : k0_cond1 v188 v227 v266 v305 v344 = 1#1), ∀ a x, ((![v446] : Fin 1 → IVec S16 32) a x).toNat < S50048.size a)
theorem k0_idx78_inb : ∀ (v188 : BitVec 32) (v227 : BitVec 32) (v266 : BitVec 32) (v305 : BitVec 32) (v344 : BitVec 32) (v446 : IVec S16 32) (k0_hw80 : k0_chk80 v188 v227 v266 v305 v344 v446), ∀ (k0_h1 : k0_cond1 v188 v227 v266 v305 v344 = 1#1), ∀ a x, ((![v446] : Fin 1 → IVec S16 32) a x).toNat < S50048.size a := fun v188 v227 v266 v305 v344 v446 k0_hw80 k0_h1 => k0_hw80 k0_h1

def k0_chk81 (v188 : BitVec 32) (v227 : BitVec 32) (v266 : BitVec 32) (v305 : BitVec 32) (v344 : BitVec 32) (v448 : IVec S16 32) : Prop :=
  (∀ (k0_h1 : k0_cond1 v188 v227 v266 v305 v344 = 1#1), ∀ a x, ((![v448] : Fin 1 → IVec S16 32) a x).toNat < S50048.size a)
theorem k0_idx79_inb : ∀ (v188 : BitVec 32) (v227 : BitVec 32) (v266 : BitVec 32) (v305 : BitVec 32) (v344 : BitVec 32) (v448 : IVec S16 32) (k0_hw81 : k0_chk81 v188 v227 v266 v305 v344 v448), ∀ (k0_h1 : k0_cond1 v188 v227 v266 v305 v344 = 1#1), ∀ a x, ((![v448] : Fin 1 → IVec S16 32) a x).toNat < S50048.size a := fun v188 v227 v266 v305 v344 v448 k0_hw81 k0_h1 => k0_hw81 k0_h1

def k0_chk82 (v188 : BitVec 32) (v227 : BitVec 32) (v266 : BitVec 32) (v305 : BitVec 32) (v344 : BitVec 32) (v450 : IVec S16 32) : Prop :=
  (∀ (k0_h1 : k0_cond1 v188 v227 v266 v305 v344 = 1#1), ∀ a x, ((![v450] : Fin 1 → IVec S16 32) a x).toNat < S50048.size a)
theorem k0_idx80_inb : ∀ (v188 : BitVec 32) (v227 : BitVec 32) (v266 : BitVec 32) (v305 : BitVec 32) (v344 : BitVec 32) (v450 : IVec S16 32) (k0_hw82 : k0_chk82 v188 v227 v266 v305 v344 v450), ∀ (k0_h1 : k0_cond1 v188 v227 v266 v305 v344 = 1#1), ∀ a x, ((![v450] : Fin 1 → IVec S16 32) a x).toNat < S50048.size a := fun v188 v227 v266 v305 v344 v450 k0_hw82 k0_h1 => k0_hw82 k0_h1
@[reducible] def k0_t7_loop (v368 : BitVec 32) : Scf.Loop 32 :=
  let c1_i32_158 : BitVec 32 := 1#32
  let c1_i32_157 : BitVec 32 := 1#32
  let v369 : BitVec 32 := Scalar.addi v368 c1_i32_157
  let v370 : BitVec 32 := Scalar.subi v369 c1_i32_158
  let c1_i32_160 : BitVec 32 := 1#32
  let v372 : BitVec 32 := Scalar.divsi v370 c1_i32_160
  let v373 : BitVec 32 := Scalar.muli v372 c1_i32_160
  let v374 : BitVec 32 := Scalar.addi c1_i32_158 v373
  let v371 : BitVec 32 := Scalar.addi c1_i32_158 v370
  let c1_i32_162 : BitVec 32 := 1#32
  ⟨v374, v371, c1_i32_162⟩

def k0_chk72 (v188 : BitVec 32) (v227 : BitVec 32) (v266 : BitVec 32) (v305 : BitVec 32) (v344 : BitVec 32) (v368 : BitVec 32) : Prop :=
  (∀ (k0_h1 : k0_cond1 v188 v227 v266 v305 v344 = 1#1), (k0_t6_loop v368).OK) ∧
  (∀ (k0_h1 : k0_cond1 v188 v227 v266 v305 v344 = 1#1), (k0_t7_loop v368).OK)
theorem k0_t6_ok : ∀ (v188 : BitVec 32) (v227 : BitVec 32) (v266 : BitVec 32) (v305 : BitVec 32) (v344 : BitVec 32) (v368 : BitVec 32) (k0_hw72 : k0_chk72 v188 v227 v266 v305 v344 v368), ∀ (k0_h1 : k0_cond1 v188 v227 v266 v305 v344 = 1#1), (k0_t6_loop v368).OK := fun v188 v227 v266 v305 v344 v368 k0_hw72 k0_h1 => k0_hw72.1 k0_h1
theorem k0_t7_ok : ∀ (v188 : BitVec 32) (v227 : BitVec 32) (v266 : BitVec 32) (v305 : BitVec 32) (v344 : BitVec 32) (v368 : BitVec 32) (k0_hw72 : k0_chk72 v188 v227 v266 v305 v344 v368), ∀ (k0_h1 : k0_cond1 v188 v227 v266 v305 v344 = 1#1), (k0_t7_loop v368).OK := fun v188 v227 v266 v305 v344 v368 k0_hw72 k0_h1 => k0_hw72.2 k0_h1

def k0_chk83 (v188 : BitVec 32) (v227 : BitVec 32) (v266 : BitVec 32) (v305 : BitVec 32) (v344 : BitVec 32) (v422 : IVec S16 32) : Prop :=
  (∀ (k0_h1 : k0_cond1 v188 v227 v266 v305 v344 = 1#1), ∀ a x, ((![v422] : Fin 1 → IVec S16 32) a x).toNat < S50048.size a)
theorem k0_idx81_inb : ∀ (v188 : BitVec 32) (v227 : BitVec 32) (v266 : BitVec 32) (v305 : BitVec 32) (v344 : BitVec 32) (v422 : IVec S16 32) (k0_hw83 : k0_chk83 v188 v227 v266 v305 v344 v422), ∀ (k0_h1 : k0_cond1 v188 v227 v266 v305 v344 = 1#1), ∀ a x, ((![v422] : Fin 1 → IVec S16 32) a x).toNat < S50048.size a := fun v188 v227 v266 v305 v344 v422 k0_hw83 k0_h1 => k0_hw83 k0_h1

def k0_chk84 (v188 : BitVec 32) (v227 : BitVec 32) (v266 : BitVec 32) (v305 : BitVec 32) (v344 : BitVec 32) (v426 : IVec S16 32) : Prop :=
  (∀ (k0_h1 : k0_cond1 v188 v227 v266 v305 v344 = 1#1), ∀ a x, ((![v426] : Fin 1 → IVec S16 32) a x).toNat < S50048.size a)
theorem k0_idx82_inb : ∀ (v188 : BitVec 32) (v227 : BitVec 32) (v266 : BitVec 32) (v305 : BitVec 32) (v344 : BitVec 32) (v426 : IVec S16 32) (k0_hw84 : k0_chk84 v188 v227 v266 v305 v344 v426), ∀ (k0_h1 : k0_cond1 v188 v227 v266 v305 v344 = 1#1), ∀ a x, ((![v426] : Fin 1 → IVec S16 32) a x).toNat < S50048.size a := fun v188 v227 v266 v305 v344 v426 k0_hw84 k0_h1 => k0_hw84 k0_h1

def k0_chk85 (v188 : BitVec 32) (v227 : BitVec 32) (v266 : BitVec 32) (v305 : BitVec 32) (v344 : BitVec 32) (v430 : IVec S16 32) : Prop :=
  (∀ (k0_h1 : k0_cond1 v188 v227 v266 v305 v344 = 1#1), ∀ a x, ((![v430] : Fin 1 → IVec S16 32) a x).toNat < S50048.size a)
theorem k0_idx83_inb : ∀ (v188 : BitVec 32) (v227 : BitVec 32) (v266 : BitVec 32) (v305 : BitVec 32) (v344 : BitVec 32) (v430 : IVec S16 32) (k0_hw85 : k0_chk85 v188 v227 v266 v305 v344 v430), ∀ (k0_h1 : k0_cond1 v188 v227 v266 v305 v344 = 1#1), ∀ a x, ((![v430] : Fin 1 → IVec S16 32) a x).toNat < S50048.size a := fun v188 v227 v266 v305 v344 v430 k0_hw85 k0_h1 => k0_hw85 k0_h1

def k0_chk86 (v188 : BitVec 32) (v227 : BitVec 32) (v266 : BitVec 32) (v305 : BitVec 32) (v344 : BitVec 32) (v434 : IVec S16 32) : Prop :=
  (∀ (k0_h1 : k0_cond1 v188 v227 v266 v305 v344 = 1#1), ∀ a x, ((![v434] : Fin 1 → IVec S16 32) a x).toNat < S50048.size a)
theorem k0_idx84_inb : ∀ (v188 : BitVec 32) (v227 : BitVec 32) (v266 : BitVec 32) (v305 : BitVec 32) (v344 : BitVec 32) (v434 : IVec S16 32) (k0_hw86 : k0_chk86 v188 v227 v266 v305 v344 v434), ∀ (k0_h1 : k0_cond1 v188 v227 v266 v305 v344 = 1#1), ∀ a x, ((![v434] : Fin 1 → IVec S16 32) a x).toNat < S50048.size a := fun v188 v227 v266 v305 v344 v434 k0_hw86 k0_h1 => k0_hw86 k0_h1

def k0_chk87 (v188 : BitVec 32) (v227 : BitVec 32) (v266 : BitVec 32) (v305 : BitVec 32) (v344 : BitVec 32) (v438 : IVec S16 32) : Prop :=
  (∀ (k0_h1 : k0_cond1 v188 v227 v266 v305 v344 = 1#1), ∀ a x, ((![v438] : Fin 1 → IVec S16 32) a x).toNat < S50048.size a)
theorem k0_idx85_inb : ∀ (v188 : BitVec 32) (v227 : BitVec 32) (v266 : BitVec 32) (v305 : BitVec 32) (v344 : BitVec 32) (v438 : IVec S16 32) (k0_hw87 : k0_chk87 v188 v227 v266 v305 v344 v438), ∀ (k0_h1 : k0_cond1 v188 v227 v266 v305 v344 = 1#1), ∀ a x, ((![v438] : Fin 1 → IVec S16 32) a x).toNat < S50048.size a := fun v188 v227 v266 v305 v344 v438 k0_hw87 k0_h1 => k0_hw87 k0_h1

def k0_chk88 (v188 : BitVec 32) (v227 : BitVec 32) (v266 : BitVec 32) (v305 : BitVec 32) (v344 : BitVec 32) (v442 : IVec S16 32) : Prop :=
  (∀ (k0_h1 : k0_cond1 v188 v227 v266 v305 v344 = 1#1), ∀ a x, ((![v442] : Fin 1 → IVec S16 32) a x).toNat < S50048.size a)
theorem k0_idx86_inb : ∀ (v188 : BitVec 32) (v227 : BitVec 32) (v266 : BitVec 32) (v305 : BitVec 32) (v344 : BitVec 32) (v442 : IVec S16 32) (k0_hw88 : k0_chk88 v188 v227 v266 v305 v344 v442), ∀ (k0_h1 : k0_cond1 v188 v227 v266 v305 v344 = 1#1), ∀ a x, ((![v442] : Fin 1 → IVec S16 32) a x).toNat < S50048.size a := fun v188 v227 v266 v305 v344 v442 k0_hw88 k0_h1 => k0_hw88 k0_h1

def k0_chk89 (v188 : BitVec 32) (v227 : BitVec 32) (v266 : BitVec 32) (v305 : BitVec 32) (v344 : BitVec 32) (v444 : IVec S16 32) : Prop :=
  (∀ (k0_h1 : k0_cond1 v188 v227 v266 v305 v344 = 1#1), ∀ a x, ((![v444] : Fin 1 → IVec S16 32) a x).toNat < S50048.size a)
theorem k0_idx87_inb : ∀ (v188 : BitVec 32) (v227 : BitVec 32) (v266 : BitVec 32) (v305 : BitVec 32) (v344 : BitVec 32) (v444 : IVec S16 32) (k0_hw89 : k0_chk89 v188 v227 v266 v305 v344 v444), ∀ (k0_h1 : k0_cond1 v188 v227 v266 v305 v344 = 1#1), ∀ a x, ((![v444] : Fin 1 → IVec S16 32) a x).toNat < S50048.size a := fun v188 v227 v266 v305 v344 v444 k0_hw89 k0_h1 => k0_hw89 k0_h1

def k0_chk90 (v188 : BitVec 32) (v227 : BitVec 32) (v266 : BitVec 32) (v305 : BitVec 32) (v344 : BitVec 32) (v446 : IVec S16 32) : Prop :=
  (∀ (k0_h1 : k0_cond1 v188 v227 v266 v305 v344 = 1#1), ∀ a x, ((![v446] : Fin 1 → IVec S16 32) a x).toNat < S50048.size a)
theorem k0_idx88_inb : ∀ (v188 : BitVec 32) (v227 : BitVec 32) (v266 : BitVec 32) (v305 : BitVec 32) (v344 : BitVec 32) (v446 : IVec S16 32) (k0_hw90 : k0_chk90 v188 v227 v266 v305 v344 v446), ∀ (k0_h1 : k0_cond1 v188 v227 v266 v305 v344 = 1#1), ∀ a x, ((![v446] : Fin 1 → IVec S16 32) a x).toNat < S50048.size a := fun v188 v227 v266 v305 v344 v446 k0_hw90 k0_h1 => k0_hw90 k0_h1

def k0_chk91 (v188 : BitVec 32) (v227 : BitVec 32) (v266 : BitVec 32) (v305 : BitVec 32) (v344 : BitVec 32) (v448 : IVec S16 32) : Prop :=
  (∀ (k0_h1 : k0_cond1 v188 v227 v266 v305 v344 = 1#1), ∀ a x, ((![v448] : Fin 1 → IVec S16 32) a x).toNat < S50048.size a)
theorem k0_idx89_inb : ∀ (v188 : BitVec 32) (v227 : BitVec 32) (v266 : BitVec 32) (v305 : BitVec 32) (v344 : BitVec 32) (v448 : IVec S16 32) (k0_hw91 : k0_chk91 v188 v227 v266 v305 v344 v448), ∀ (k0_h1 : k0_cond1 v188 v227 v266 v305 v344 = 1#1), ∀ a x, ((![v448] : Fin 1 → IVec S16 32) a x).toNat < S50048.size a := fun v188 v227 v266 v305 v344 v448 k0_hw91 k0_h1 => k0_hw91 k0_h1

def k0_chk92 (v188 : BitVec 32) (v227 : BitVec 32) (v266 : BitVec 32) (v305 : BitVec 32) (v344 : BitVec 32) (v450 : IVec S16 32) : Prop :=
  (∀ (k0_h1 : k0_cond1 v188 v227 v266 v305 v344 = 1#1), ∀ a x, ((![v450] : Fin 1 → IVec S16 32) a x).toNat < S50048.size a)
theorem k0_idx90_inb : ∀ (v188 : BitVec 32) (v227 : BitVec 32) (v266 : BitVec 32) (v305 : BitVec 32) (v344 : BitVec 32) (v450 : IVec S16 32) (k0_hw92 : k0_chk92 v188 v227 v266 v305 v344 v450), ∀ (k0_h1 : k0_cond1 v188 v227 v266 v305 v344 = 1#1), ∀ a x, ((![v450] : Fin 1 → IVec S16 32) a x).toNat < S50048.size a := fun v188 v227 v266 v305 v344 v450 k0_hw92 k0_h1 => k0_hw92 k0_h1
@[reducible] def k0_t8_loop (v382 : BitVec 32) : Scf.Loop 32 :=
  let c1_i32_166 : BitVec 32 := 1#32
  let c1_i32_165 : BitVec 32 := 1#32
  let v383 : BitVec 32 := Scalar.addi v382 c1_i32_165
  let v384 : BitVec 32 := Scalar.subi v383 c1_i32_166
  let c1_i32_168 : BitVec 32 := 1#32
  let v386 : BitVec 32 := Scalar.divsi v384 c1_i32_168
  let v387 : BitVec 32 := Scalar.muli v386 c1_i32_168
  let v388 : BitVec 32 := Scalar.addi c1_i32_166 v387
  let c1_i32_169 : BitVec 32 := 1#32
  ⟨c1_i32_166, v388, c1_i32_169⟩

def k0_chk94 (v188 : BitVec 32) (v227 : BitVec 32) (v266 : BitVec 32) (v305 : BitVec 32) (v344 : BitVec 32) (v422 : IVec S16 32) : Prop :=
  (∀ (k0_h1 : k0_cond1 v188 v227 v266 v305 v344 = 1#1), ∀ a x, ((![v422] : Fin 1 → IVec S16 32) a x).toNat < S50048.size a)
theorem k0_idx91_inb : ∀ (v188 : BitVec 32) (v227 : BitVec 32) (v266 : BitVec 32) (v305 : BitVec 32) (v344 : BitVec 32) (v422 : IVec S16 32) (k0_hw94 : k0_chk94 v188 v227 v266 v305 v344 v422), ∀ (k0_h1 : k0_cond1 v188 v227 v266 v305 v344 = 1#1), ∀ a x, ((![v422] : Fin 1 → IVec S16 32) a x).toNat < S50048.size a := fun v188 v227 v266 v305 v344 v422 k0_hw94 k0_h1 => k0_hw94 k0_h1

def k0_chk95 (v188 : BitVec 32) (v227 : BitVec 32) (v266 : BitVec 32) (v305 : BitVec 32) (v344 : BitVec 32) (v426 : IVec S16 32) : Prop :=
  (∀ (k0_h1 : k0_cond1 v188 v227 v266 v305 v344 = 1#1), ∀ a x, ((![v426] : Fin 1 → IVec S16 32) a x).toNat < S50048.size a)
theorem k0_idx92_inb : ∀ (v188 : BitVec 32) (v227 : BitVec 32) (v266 : BitVec 32) (v305 : BitVec 32) (v344 : BitVec 32) (v426 : IVec S16 32) (k0_hw95 : k0_chk95 v188 v227 v266 v305 v344 v426), ∀ (k0_h1 : k0_cond1 v188 v227 v266 v305 v344 = 1#1), ∀ a x, ((![v426] : Fin 1 → IVec S16 32) a x).toNat < S50048.size a := fun v188 v227 v266 v305 v344 v426 k0_hw95 k0_h1 => k0_hw95 k0_h1

def k0_chk96 (v188 : BitVec 32) (v227 : BitVec 32) (v266 : BitVec 32) (v305 : BitVec 32) (v344 : BitVec 32) (v430 : IVec S16 32) : Prop :=
  (∀ (k0_h1 : k0_cond1 v188 v227 v266 v305 v344 = 1#1), ∀ a x, ((![v430] : Fin 1 → IVec S16 32) a x).toNat < S50048.size a)
theorem k0_idx93_inb : ∀ (v188 : BitVec 32) (v227 : BitVec 32) (v266 : BitVec 32) (v305 : BitVec 32) (v344 : BitVec 32) (v430 : IVec S16 32) (k0_hw96 : k0_chk96 v188 v227 v266 v305 v344 v430), ∀ (k0_h1 : k0_cond1 v188 v227 v266 v305 v344 = 1#1), ∀ a x, ((![v430] : Fin 1 → IVec S16 32) a x).toNat < S50048.size a := fun v188 v227 v266 v305 v344 v430 k0_hw96 k0_h1 => k0_hw96 k0_h1

def k0_chk97 (v188 : BitVec 32) (v227 : BitVec 32) (v266 : BitVec 32) (v305 : BitVec 32) (v344 : BitVec 32) (v434 : IVec S16 32) : Prop :=
  (∀ (k0_h1 : k0_cond1 v188 v227 v266 v305 v344 = 1#1), ∀ a x, ((![v434] : Fin 1 → IVec S16 32) a x).toNat < S50048.size a)
theorem k0_idx94_inb : ∀ (v188 : BitVec 32) (v227 : BitVec 32) (v266 : BitVec 32) (v305 : BitVec 32) (v344 : BitVec 32) (v434 : IVec S16 32) (k0_hw97 : k0_chk97 v188 v227 v266 v305 v344 v434), ∀ (k0_h1 : k0_cond1 v188 v227 v266 v305 v344 = 1#1), ∀ a x, ((![v434] : Fin 1 → IVec S16 32) a x).toNat < S50048.size a := fun v188 v227 v266 v305 v344 v434 k0_hw97 k0_h1 => k0_hw97 k0_h1

def k0_chk98 (v188 : BitVec 32) (v227 : BitVec 32) (v266 : BitVec 32) (v305 : BitVec 32) (v344 : BitVec 32) (v438 : IVec S16 32) : Prop :=
  (∀ (k0_h1 : k0_cond1 v188 v227 v266 v305 v344 = 1#1), ∀ a x, ((![v438] : Fin 1 → IVec S16 32) a x).toNat < S50048.size a)
theorem k0_idx95_inb : ∀ (v188 : BitVec 32) (v227 : BitVec 32) (v266 : BitVec 32) (v305 : BitVec 32) (v344 : BitVec 32) (v438 : IVec S16 32) (k0_hw98 : k0_chk98 v188 v227 v266 v305 v344 v438), ∀ (k0_h1 : k0_cond1 v188 v227 v266 v305 v344 = 1#1), ∀ a x, ((![v438] : Fin 1 → IVec S16 32) a x).toNat < S50048.size a := fun v188 v227 v266 v305 v344 v438 k0_hw98 k0_h1 => k0_hw98 k0_h1

def k0_chk99 (v188 : BitVec 32) (v227 : BitVec 32) (v266 : BitVec 32) (v305 : BitVec 32) (v344 : BitVec 32) (v442 : IVec S16 32) : Prop :=
  (∀ (k0_h1 : k0_cond1 v188 v227 v266 v305 v344 = 1#1), ∀ a x, ((![v442] : Fin 1 → IVec S16 32) a x).toNat < S50048.size a)
theorem k0_idx96_inb : ∀ (v188 : BitVec 32) (v227 : BitVec 32) (v266 : BitVec 32) (v305 : BitVec 32) (v344 : BitVec 32) (v442 : IVec S16 32) (k0_hw99 : k0_chk99 v188 v227 v266 v305 v344 v442), ∀ (k0_h1 : k0_cond1 v188 v227 v266 v305 v344 = 1#1), ∀ a x, ((![v442] : Fin 1 → IVec S16 32) a x).toNat < S50048.size a := fun v188 v227 v266 v305 v344 v442 k0_hw99 k0_h1 => k0_hw99 k0_h1

def k0_chk100 (v188 : BitVec 32) (v227 : BitVec 32) (v266 : BitVec 32) (v305 : BitVec 32) (v344 : BitVec 32) (v444 : IVec S16 32) : Prop :=
  (∀ (k0_h1 : k0_cond1 v188 v227 v266 v305 v344 = 1#1), ∀ a x, ((![v444] : Fin 1 → IVec S16 32) a x).toNat < S50048.size a)
theorem k0_idx97_inb : ∀ (v188 : BitVec 32) (v227 : BitVec 32) (v266 : BitVec 32) (v305 : BitVec 32) (v344 : BitVec 32) (v444 : IVec S16 32) (k0_hw100 : k0_chk100 v188 v227 v266 v305 v344 v444), ∀ (k0_h1 : k0_cond1 v188 v227 v266 v305 v344 = 1#1), ∀ a x, ((![v444] : Fin 1 → IVec S16 32) a x).toNat < S50048.size a := fun v188 v227 v266 v305 v344 v444 k0_hw100 k0_h1 => k0_hw100 k0_h1

def k0_chk101 (v188 : BitVec 32) (v227 : BitVec 32) (v266 : BitVec 32) (v305 : BitVec 32) (v344 : BitVec 32) (v446 : IVec S16 32) : Prop :=
  (∀ (k0_h1 : k0_cond1 v188 v227 v266 v305 v344 = 1#1), ∀ a x, ((![v446] : Fin 1 → IVec S16 32) a x).toNat < S50048.size a)
theorem k0_idx98_inb : ∀ (v188 : BitVec 32) (v227 : BitVec 32) (v266 : BitVec 32) (v305 : BitVec 32) (v344 : BitVec 32) (v446 : IVec S16 32) (k0_hw101 : k0_chk101 v188 v227 v266 v305 v344 v446), ∀ (k0_h1 : k0_cond1 v188 v227 v266 v305 v344 = 1#1), ∀ a x, ((![v446] : Fin 1 → IVec S16 32) a x).toNat < S50048.size a := fun v188 v227 v266 v305 v344 v446 k0_hw101 k0_h1 => k0_hw101 k0_h1

def k0_chk102 (v188 : BitVec 32) (v227 : BitVec 32) (v266 : BitVec 32) (v305 : BitVec 32) (v344 : BitVec 32) (v448 : IVec S16 32) : Prop :=
  (∀ (k0_h1 : k0_cond1 v188 v227 v266 v305 v344 = 1#1), ∀ a x, ((![v448] : Fin 1 → IVec S16 32) a x).toNat < S50048.size a)
theorem k0_idx99_inb : ∀ (v188 : BitVec 32) (v227 : BitVec 32) (v266 : BitVec 32) (v305 : BitVec 32) (v344 : BitVec 32) (v448 : IVec S16 32) (k0_hw102 : k0_chk102 v188 v227 v266 v305 v344 v448), ∀ (k0_h1 : k0_cond1 v188 v227 v266 v305 v344 = 1#1), ∀ a x, ((![v448] : Fin 1 → IVec S16 32) a x).toNat < S50048.size a := fun v188 v227 v266 v305 v344 v448 k0_hw102 k0_h1 => k0_hw102 k0_h1

def k0_chk103 (v188 : BitVec 32) (v227 : BitVec 32) (v266 : BitVec 32) (v305 : BitVec 32) (v344 : BitVec 32) (v450 : IVec S16 32) : Prop :=
  (∀ (k0_h1 : k0_cond1 v188 v227 v266 v305 v344 = 1#1), ∀ a x, ((![v450] : Fin 1 → IVec S16 32) a x).toNat < S50048.size a)
theorem k0_idx100_inb : ∀ (v188 : BitVec 32) (v227 : BitVec 32) (v266 : BitVec 32) (v305 : BitVec 32) (v344 : BitVec 32) (v450 : IVec S16 32) (k0_hw103 : k0_chk103 v188 v227 v266 v305 v344 v450), ∀ (k0_h1 : k0_cond1 v188 v227 v266 v305 v344 = 1#1), ∀ a x, ((![v450] : Fin 1 → IVec S16 32) a x).toNat < S50048.size a := fun v188 v227 v266 v305 v344 v450 k0_hw103 k0_h1 => k0_hw103 k0_h1
@[reducible] def k0_t9_loop (v382 : BitVec 32) : Scf.Loop 32 :=
  let c1_i32_166 : BitVec 32 := 1#32
  let c1_i32_165 : BitVec 32 := 1#32
  let v383 : BitVec 32 := Scalar.addi v382 c1_i32_165
  let v384 : BitVec 32 := Scalar.subi v383 c1_i32_166
  let c1_i32_168 : BitVec 32 := 1#32
  let v386 : BitVec 32 := Scalar.divsi v384 c1_i32_168
  let v387 : BitVec 32 := Scalar.muli v386 c1_i32_168
  let v388 : BitVec 32 := Scalar.addi c1_i32_166 v387
  let v385 : BitVec 32 := Scalar.addi c1_i32_166 v384
  let c1_i32_170 : BitVec 32 := 1#32
  ⟨v388, v385, c1_i32_170⟩

def k0_chk93 (v188 : BitVec 32) (v227 : BitVec 32) (v266 : BitVec 32) (v305 : BitVec 32) (v344 : BitVec 32) (v382 : BitVec 32) : Prop :=
  (∀ (k0_h1 : k0_cond1 v188 v227 v266 v305 v344 = 1#1), (k0_t8_loop v382).OK) ∧
  (∀ (k0_h1 : k0_cond1 v188 v227 v266 v305 v344 = 1#1), (k0_t9_loop v382).OK)
theorem k0_t8_ok : ∀ (v188 : BitVec 32) (v227 : BitVec 32) (v266 : BitVec 32) (v305 : BitVec 32) (v344 : BitVec 32) (v382 : BitVec 32) (k0_hw93 : k0_chk93 v188 v227 v266 v305 v344 v382), ∀ (k0_h1 : k0_cond1 v188 v227 v266 v305 v344 = 1#1), (k0_t8_loop v382).OK := fun v188 v227 v266 v305 v344 v382 k0_hw93 k0_h1 => k0_hw93.1 k0_h1
theorem k0_t9_ok : ∀ (v188 : BitVec 32) (v227 : BitVec 32) (v266 : BitVec 32) (v305 : BitVec 32) (v344 : BitVec 32) (v382 : BitVec 32) (k0_hw93 : k0_chk93 v188 v227 v266 v305 v344 v382), ∀ (k0_h1 : k0_cond1 v188 v227 v266 v305 v344 = 1#1), (k0_t9_loop v382).OK := fun v188 v227 v266 v305 v344 v382 k0_hw93 k0_h1 => k0_hw93.2 k0_h1

def k0_chk104 (v188 : BitVec 32) (v227 : BitVec 32) (v266 : BitVec 32) (v305 : BitVec 32) (v344 : BitVec 32) (v422 : IVec S16 32) : Prop :=
  (∀ (k0_h1 : k0_cond1 v188 v227 v266 v305 v344 = 1#1), ∀ a x, ((![v422] : Fin 1 → IVec S16 32) a x).toNat < S50048.size a)
theorem k0_idx101_inb : ∀ (v188 : BitVec 32) (v227 : BitVec 32) (v266 : BitVec 32) (v305 : BitVec 32) (v344 : BitVec 32) (v422 : IVec S16 32) (k0_hw104 : k0_chk104 v188 v227 v266 v305 v344 v422), ∀ (k0_h1 : k0_cond1 v188 v227 v266 v305 v344 = 1#1), ∀ a x, ((![v422] : Fin 1 → IVec S16 32) a x).toNat < S50048.size a := fun v188 v227 v266 v305 v344 v422 k0_hw104 k0_h1 => k0_hw104 k0_h1

def k0_chk105 (v188 : BitVec 32) (v227 : BitVec 32) (v266 : BitVec 32) (v305 : BitVec 32) (v344 : BitVec 32) (v426 : IVec S16 32) : Prop :=
  (∀ (k0_h1 : k0_cond1 v188 v227 v266 v305 v344 = 1#1), ∀ a x, ((![v426] : Fin 1 → IVec S16 32) a x).toNat < S50048.size a)
theorem k0_idx102_inb : ∀ (v188 : BitVec 32) (v227 : BitVec 32) (v266 : BitVec 32) (v305 : BitVec 32) (v344 : BitVec 32) (v426 : IVec S16 32) (k0_hw105 : k0_chk105 v188 v227 v266 v305 v344 v426), ∀ (k0_h1 : k0_cond1 v188 v227 v266 v305 v344 = 1#1), ∀ a x, ((![v426] : Fin 1 → IVec S16 32) a x).toNat < S50048.size a := fun v188 v227 v266 v305 v344 v426 k0_hw105 k0_h1 => k0_hw105 k0_h1

def k0_chk106 (v188 : BitVec 32) (v227 : BitVec 32) (v266 : BitVec 32) (v305 : BitVec 32) (v344 : BitVec 32) (v430 : IVec S16 32) : Prop :=
  (∀ (k0_h1 : k0_cond1 v188 v227 v266 v305 v344 = 1#1), ∀ a x, ((![v430] : Fin 1 → IVec S16 32) a x).toNat < S50048.size a)
theorem k0_idx103_inb : ∀ (v188 : BitVec 32) (v227 : BitVec 32) (v266 : BitVec 32) (v305 : BitVec 32) (v344 : BitVec 32) (v430 : IVec S16 32) (k0_hw106 : k0_chk106 v188 v227 v266 v305 v344 v430), ∀ (k0_h1 : k0_cond1 v188 v227 v266 v305 v344 = 1#1), ∀ a x, ((![v430] : Fin 1 → IVec S16 32) a x).toNat < S50048.size a := fun v188 v227 v266 v305 v344 v430 k0_hw106 k0_h1 => k0_hw106 k0_h1

def k0_chk107 (v188 : BitVec 32) (v227 : BitVec 32) (v266 : BitVec 32) (v305 : BitVec 32) (v344 : BitVec 32) (v434 : IVec S16 32) : Prop :=
  (∀ (k0_h1 : k0_cond1 v188 v227 v266 v305 v344 = 1#1), ∀ a x, ((![v434] : Fin 1 → IVec S16 32) a x).toNat < S50048.size a)
theorem k0_idx104_inb : ∀ (v188 : BitVec 32) (v227 : BitVec 32) (v266 : BitVec 32) (v305 : BitVec 32) (v344 : BitVec 32) (v434 : IVec S16 32) (k0_hw107 : k0_chk107 v188 v227 v266 v305 v344 v434), ∀ (k0_h1 : k0_cond1 v188 v227 v266 v305 v344 = 1#1), ∀ a x, ((![v434] : Fin 1 → IVec S16 32) a x).toNat < S50048.size a := fun v188 v227 v266 v305 v344 v434 k0_hw107 k0_h1 => k0_hw107 k0_h1

def k0_chk108 (v188 : BitVec 32) (v227 : BitVec 32) (v266 : BitVec 32) (v305 : BitVec 32) (v344 : BitVec 32) (v438 : IVec S16 32) : Prop :=
  (∀ (k0_h1 : k0_cond1 v188 v227 v266 v305 v344 = 1#1), ∀ a x, ((![v438] : Fin 1 → IVec S16 32) a x).toNat < S50048.size a)
theorem k0_idx105_inb : ∀ (v188 : BitVec 32) (v227 : BitVec 32) (v266 : BitVec 32) (v305 : BitVec 32) (v344 : BitVec 32) (v438 : IVec S16 32) (k0_hw108 : k0_chk108 v188 v227 v266 v305 v344 v438), ∀ (k0_h1 : k0_cond1 v188 v227 v266 v305 v344 = 1#1), ∀ a x, ((![v438] : Fin 1 → IVec S16 32) a x).toNat < S50048.size a := fun v188 v227 v266 v305 v344 v438 k0_hw108 k0_h1 => k0_hw108 k0_h1

def k0_chk109 (v188 : BitVec 32) (v227 : BitVec 32) (v266 : BitVec 32) (v305 : BitVec 32) (v344 : BitVec 32) (v442 : IVec S16 32) : Prop :=
  (∀ (k0_h1 : k0_cond1 v188 v227 v266 v305 v344 = 1#1), ∀ a x, ((![v442] : Fin 1 → IVec S16 32) a x).toNat < S50048.size a)
theorem k0_idx106_inb : ∀ (v188 : BitVec 32) (v227 : BitVec 32) (v266 : BitVec 32) (v305 : BitVec 32) (v344 : BitVec 32) (v442 : IVec S16 32) (k0_hw109 : k0_chk109 v188 v227 v266 v305 v344 v442), ∀ (k0_h1 : k0_cond1 v188 v227 v266 v305 v344 = 1#1), ∀ a x, ((![v442] : Fin 1 → IVec S16 32) a x).toNat < S50048.size a := fun v188 v227 v266 v305 v344 v442 k0_hw109 k0_h1 => k0_hw109 k0_h1

def k0_chk110 (v188 : BitVec 32) (v227 : BitVec 32) (v266 : BitVec 32) (v305 : BitVec 32) (v344 : BitVec 32) (v444 : IVec S16 32) : Prop :=
  (∀ (k0_h1 : k0_cond1 v188 v227 v266 v305 v344 = 1#1), ∀ a x, ((![v444] : Fin 1 → IVec S16 32) a x).toNat < S50048.size a)
theorem k0_idx107_inb : ∀ (v188 : BitVec 32) (v227 : BitVec 32) (v266 : BitVec 32) (v305 : BitVec 32) (v344 : BitVec 32) (v444 : IVec S16 32) (k0_hw110 : k0_chk110 v188 v227 v266 v305 v344 v444), ∀ (k0_h1 : k0_cond1 v188 v227 v266 v305 v344 = 1#1), ∀ a x, ((![v444] : Fin 1 → IVec S16 32) a x).toNat < S50048.size a := fun v188 v227 v266 v305 v344 v444 k0_hw110 k0_h1 => k0_hw110 k0_h1

def k0_chk111 (v188 : BitVec 32) (v227 : BitVec 32) (v266 : BitVec 32) (v305 : BitVec 32) (v344 : BitVec 32) (v446 : IVec S16 32) : Prop :=
  (∀ (k0_h1 : k0_cond1 v188 v227 v266 v305 v344 = 1#1), ∀ a x, ((![v446] : Fin 1 → IVec S16 32) a x).toNat < S50048.size a)
theorem k0_idx108_inb : ∀ (v188 : BitVec 32) (v227 : BitVec 32) (v266 : BitVec 32) (v305 : BitVec 32) (v344 : BitVec 32) (v446 : IVec S16 32) (k0_hw111 : k0_chk111 v188 v227 v266 v305 v344 v446), ∀ (k0_h1 : k0_cond1 v188 v227 v266 v305 v344 = 1#1), ∀ a x, ((![v446] : Fin 1 → IVec S16 32) a x).toNat < S50048.size a := fun v188 v227 v266 v305 v344 v446 k0_hw111 k0_h1 => k0_hw111 k0_h1

def k0_chk112 (v188 : BitVec 32) (v227 : BitVec 32) (v266 : BitVec 32) (v305 : BitVec 32) (v344 : BitVec 32) (v448 : IVec S16 32) : Prop :=
  (∀ (k0_h1 : k0_cond1 v188 v227 v266 v305 v344 = 1#1), ∀ a x, ((![v448] : Fin 1 → IVec S16 32) a x).toNat < S50048.size a)
theorem k0_idx109_inb : ∀ (v188 : BitVec 32) (v227 : BitVec 32) (v266 : BitVec 32) (v305 : BitVec 32) (v344 : BitVec 32) (v448 : IVec S16 32) (k0_hw112 : k0_chk112 v188 v227 v266 v305 v344 v448), ∀ (k0_h1 : k0_cond1 v188 v227 v266 v305 v344 = 1#1), ∀ a x, ((![v448] : Fin 1 → IVec S16 32) a x).toNat < S50048.size a := fun v188 v227 v266 v305 v344 v448 k0_hw112 k0_h1 => k0_hw112 k0_h1

def k0_chk113 (v188 : BitVec 32) (v227 : BitVec 32) (v266 : BitVec 32) (v305 : BitVec 32) (v344 : BitVec 32) (v450 : IVec S16 32) : Prop :=
  (∀ (k0_h1 : k0_cond1 v188 v227 v266 v305 v344 = 1#1), ∀ a x, ((![v450] : Fin 1 → IVec S16 32) a x).toNat < S50048.size a)
theorem k0_idx110_inb : ∀ (v188 : BitVec 32) (v227 : BitVec 32) (v266 : BitVec 32) (v305 : BitVec 32) (v344 : BitVec 32) (v450 : IVec S16 32) (k0_hw113 : k0_chk113 v188 v227 v266 v305 v344 v450), ∀ (k0_h1 : k0_cond1 v188 v227 v266 v305 v344 = 1#1), ∀ a x, ((![v450] : Fin 1 → IVec S16 32) a x).toNat < S50048.size a := fun v188 v227 v266 v305 v344 v450 k0_hw113 k0_h1 => k0_hw113 k0_h1
@[reducible] def k0_t10_loop (v396 : BitVec 32) : Scf.Loop 32 :=
  let c1_i32_174 : BitVec 32 := 1#32
  let c1_i32_173 : BitVec 32 := 1#32
  let v397 : BitVec 32 := Scalar.addi v396 c1_i32_173
  let v398 : BitVec 32 := Scalar.subi v397 c1_i32_174
  let c1_i32_176 : BitVec 32 := 1#32
  let v400 : BitVec 32 := Scalar.divsi v398 c1_i32_176
  let v401 : BitVec 32 := Scalar.muli v400 c1_i32_176
  let v402 : BitVec 32 := Scalar.addi c1_i32_174 v401
  let c1_i32_177 : BitVec 32 := 1#32
  ⟨c1_i32_174, v402, c1_i32_177⟩

def k0_chk115 (v188 : BitVec 32) (v227 : BitVec 32) (v266 : BitVec 32) (v305 : BitVec 32) (v344 : BitVec 32) (v422 : IVec S16 32) : Prop :=
  (∀ (k0_h1 : k0_cond1 v188 v227 v266 v305 v344 = 1#1), ∀ a x, ((![v422] : Fin 1 → IVec S16 32) a x).toNat < S50048.size a)
theorem k0_idx111_inb : ∀ (v188 : BitVec 32) (v227 : BitVec 32) (v266 : BitVec 32) (v305 : BitVec 32) (v344 : BitVec 32) (v422 : IVec S16 32) (k0_hw115 : k0_chk115 v188 v227 v266 v305 v344 v422), ∀ (k0_h1 : k0_cond1 v188 v227 v266 v305 v344 = 1#1), ∀ a x, ((![v422] : Fin 1 → IVec S16 32) a x).toNat < S50048.size a := fun v188 v227 v266 v305 v344 v422 k0_hw115 k0_h1 => k0_hw115 k0_h1

def k0_chk116 (v188 : BitVec 32) (v227 : BitVec 32) (v266 : BitVec 32) (v305 : BitVec 32) (v344 : BitVec 32) (v426 : IVec S16 32) : Prop :=
  (∀ (k0_h1 : k0_cond1 v188 v227 v266 v305 v344 = 1#1), ∀ a x, ((![v426] : Fin 1 → IVec S16 32) a x).toNat < S50048.size a)
theorem k0_idx112_inb : ∀ (v188 : BitVec 32) (v227 : BitVec 32) (v266 : BitVec 32) (v305 : BitVec 32) (v344 : BitVec 32) (v426 : IVec S16 32) (k0_hw116 : k0_chk116 v188 v227 v266 v305 v344 v426), ∀ (k0_h1 : k0_cond1 v188 v227 v266 v305 v344 = 1#1), ∀ a x, ((![v426] : Fin 1 → IVec S16 32) a x).toNat < S50048.size a := fun v188 v227 v266 v305 v344 v426 k0_hw116 k0_h1 => k0_hw116 k0_h1

def k0_chk117 (v188 : BitVec 32) (v227 : BitVec 32) (v266 : BitVec 32) (v305 : BitVec 32) (v344 : BitVec 32) (v430 : IVec S16 32) : Prop :=
  (∀ (k0_h1 : k0_cond1 v188 v227 v266 v305 v344 = 1#1), ∀ a x, ((![v430] : Fin 1 → IVec S16 32) a x).toNat < S50048.size a)
theorem k0_idx113_inb : ∀ (v188 : BitVec 32) (v227 : BitVec 32) (v266 : BitVec 32) (v305 : BitVec 32) (v344 : BitVec 32) (v430 : IVec S16 32) (k0_hw117 : k0_chk117 v188 v227 v266 v305 v344 v430), ∀ (k0_h1 : k0_cond1 v188 v227 v266 v305 v344 = 1#1), ∀ a x, ((![v430] : Fin 1 → IVec S16 32) a x).toNat < S50048.size a := fun v188 v227 v266 v305 v344 v430 k0_hw117 k0_h1 => k0_hw117 k0_h1

def k0_chk118 (v188 : BitVec 32) (v227 : BitVec 32) (v266 : BitVec 32) (v305 : BitVec 32) (v344 : BitVec 32) (v434 : IVec S16 32) : Prop :=
  (∀ (k0_h1 : k0_cond1 v188 v227 v266 v305 v344 = 1#1), ∀ a x, ((![v434] : Fin 1 → IVec S16 32) a x).toNat < S50048.size a)
theorem k0_idx114_inb : ∀ (v188 : BitVec 32) (v227 : BitVec 32) (v266 : BitVec 32) (v305 : BitVec 32) (v344 : BitVec 32) (v434 : IVec S16 32) (k0_hw118 : k0_chk118 v188 v227 v266 v305 v344 v434), ∀ (k0_h1 : k0_cond1 v188 v227 v266 v305 v344 = 1#1), ∀ a x, ((![v434] : Fin 1 → IVec S16 32) a x).toNat < S50048.size a := fun v188 v227 v266 v305 v344 v434 k0_hw118 k0_h1 => k0_hw118 k0_h1

def k0_chk119 (v188 : BitVec 32) (v227 : BitVec 32) (v266 : BitVec 32) (v305 : BitVec 32) (v344 : BitVec 32) (v438 : IVec S16 32) : Prop :=
  (∀ (k0_h1 : k0_cond1 v188 v227 v266 v305 v344 = 1#1), ∀ a x, ((![v438] : Fin 1 → IVec S16 32) a x).toNat < S50048.size a)
theorem k0_idx115_inb : ∀ (v188 : BitVec 32) (v227 : BitVec 32) (v266 : BitVec 32) (v305 : BitVec 32) (v344 : BitVec 32) (v438 : IVec S16 32) (k0_hw119 : k0_chk119 v188 v227 v266 v305 v344 v438), ∀ (k0_h1 : k0_cond1 v188 v227 v266 v305 v344 = 1#1), ∀ a x, ((![v438] : Fin 1 → IVec S16 32) a x).toNat < S50048.size a := fun v188 v227 v266 v305 v344 v438 k0_hw119 k0_h1 => k0_hw119 k0_h1

def k0_chk120 (v188 : BitVec 32) (v227 : BitVec 32) (v266 : BitVec 32) (v305 : BitVec 32) (v344 : BitVec 32) (v442 : IVec S16 32) : Prop :=
  (∀ (k0_h1 : k0_cond1 v188 v227 v266 v305 v344 = 1#1), ∀ a x, ((![v442] : Fin 1 → IVec S16 32) a x).toNat < S50048.size a)
theorem k0_idx116_inb : ∀ (v188 : BitVec 32) (v227 : BitVec 32) (v266 : BitVec 32) (v305 : BitVec 32) (v344 : BitVec 32) (v442 : IVec S16 32) (k0_hw120 : k0_chk120 v188 v227 v266 v305 v344 v442), ∀ (k0_h1 : k0_cond1 v188 v227 v266 v305 v344 = 1#1), ∀ a x, ((![v442] : Fin 1 → IVec S16 32) a x).toNat < S50048.size a := fun v188 v227 v266 v305 v344 v442 k0_hw120 k0_h1 => k0_hw120 k0_h1

def k0_chk121 (v188 : BitVec 32) (v227 : BitVec 32) (v266 : BitVec 32) (v305 : BitVec 32) (v344 : BitVec 32) (v444 : IVec S16 32) : Prop :=
  (∀ (k0_h1 : k0_cond1 v188 v227 v266 v305 v344 = 1#1), ∀ a x, ((![v444] : Fin 1 → IVec S16 32) a x).toNat < S50048.size a)
theorem k0_idx117_inb : ∀ (v188 : BitVec 32) (v227 : BitVec 32) (v266 : BitVec 32) (v305 : BitVec 32) (v344 : BitVec 32) (v444 : IVec S16 32) (k0_hw121 : k0_chk121 v188 v227 v266 v305 v344 v444), ∀ (k0_h1 : k0_cond1 v188 v227 v266 v305 v344 = 1#1), ∀ a x, ((![v444] : Fin 1 → IVec S16 32) a x).toNat < S50048.size a := fun v188 v227 v266 v305 v344 v444 k0_hw121 k0_h1 => k0_hw121 k0_h1

def k0_chk122 (v188 : BitVec 32) (v227 : BitVec 32) (v266 : BitVec 32) (v305 : BitVec 32) (v344 : BitVec 32) (v446 : IVec S16 32) : Prop :=
  (∀ (k0_h1 : k0_cond1 v188 v227 v266 v305 v344 = 1#1), ∀ a x, ((![v446] : Fin 1 → IVec S16 32) a x).toNat < S50048.size a)
theorem k0_idx118_inb : ∀ (v188 : BitVec 32) (v227 : BitVec 32) (v266 : BitVec 32) (v305 : BitVec 32) (v344 : BitVec 32) (v446 : IVec S16 32) (k0_hw122 : k0_chk122 v188 v227 v266 v305 v344 v446), ∀ (k0_h1 : k0_cond1 v188 v227 v266 v305 v344 = 1#1), ∀ a x, ((![v446] : Fin 1 → IVec S16 32) a x).toNat < S50048.size a := fun v188 v227 v266 v305 v344 v446 k0_hw122 k0_h1 => k0_hw122 k0_h1

def k0_chk123 (v188 : BitVec 32) (v227 : BitVec 32) (v266 : BitVec 32) (v305 : BitVec 32) (v344 : BitVec 32) (v448 : IVec S16 32) : Prop :=
  (∀ (k0_h1 : k0_cond1 v188 v227 v266 v305 v344 = 1#1), ∀ a x, ((![v448] : Fin 1 → IVec S16 32) a x).toNat < S50048.size a)
theorem k0_idx119_inb : ∀ (v188 : BitVec 32) (v227 : BitVec 32) (v266 : BitVec 32) (v305 : BitVec 32) (v344 : BitVec 32) (v448 : IVec S16 32) (k0_hw123 : k0_chk123 v188 v227 v266 v305 v344 v448), ∀ (k0_h1 : k0_cond1 v188 v227 v266 v305 v344 = 1#1), ∀ a x, ((![v448] : Fin 1 → IVec S16 32) a x).toNat < S50048.size a := fun v188 v227 v266 v305 v344 v448 k0_hw123 k0_h1 => k0_hw123 k0_h1

def k0_chk124 (v188 : BitVec 32) (v227 : BitVec 32) (v266 : BitVec 32) (v305 : BitVec 32) (v344 : BitVec 32) (v450 : IVec S16 32) : Prop :=
  (∀ (k0_h1 : k0_cond1 v188 v227 v266 v305 v344 = 1#1), ∀ a x, ((![v450] : Fin 1 → IVec S16 32) a x).toNat < S50048.size a)
theorem k0_idx120_inb : ∀ (v188 : BitVec 32) (v227 : BitVec 32) (v266 : BitVec 32) (v305 : BitVec 32) (v344 : BitVec 32) (v450 : IVec S16 32) (k0_hw124 : k0_chk124 v188 v227 v266 v305 v344 v450), ∀ (k0_h1 : k0_cond1 v188 v227 v266 v305 v344 = 1#1), ∀ a x, ((![v450] : Fin 1 → IVec S16 32) a x).toNat < S50048.size a := fun v188 v227 v266 v305 v344 v450 k0_hw124 k0_h1 => k0_hw124 k0_h1
@[reducible] def k0_t11_loop (v396 : BitVec 32) : Scf.Loop 32 :=
  let c1_i32_174 : BitVec 32 := 1#32
  let c1_i32_173 : BitVec 32 := 1#32
  let v397 : BitVec 32 := Scalar.addi v396 c1_i32_173
  let v398 : BitVec 32 := Scalar.subi v397 c1_i32_174
  let c1_i32_176 : BitVec 32 := 1#32
  let v400 : BitVec 32 := Scalar.divsi v398 c1_i32_176
  let v401 : BitVec 32 := Scalar.muli v400 c1_i32_176
  let v402 : BitVec 32 := Scalar.addi c1_i32_174 v401
  let v399 : BitVec 32 := Scalar.addi c1_i32_174 v398
  let c1_i32_178 : BitVec 32 := 1#32
  ⟨v402, v399, c1_i32_178⟩

def k0_chk114 (v188 : BitVec 32) (v227 : BitVec 32) (v266 : BitVec 32) (v305 : BitVec 32) (v344 : BitVec 32) (v396 : BitVec 32) : Prop :=
  (∀ (k0_h1 : k0_cond1 v188 v227 v266 v305 v344 = 1#1), (k0_t10_loop v396).OK) ∧
  (∀ (k0_h1 : k0_cond1 v188 v227 v266 v305 v344 = 1#1), (k0_t11_loop v396).OK)
theorem k0_t10_ok : ∀ (v188 : BitVec 32) (v227 : BitVec 32) (v266 : BitVec 32) (v305 : BitVec 32) (v344 : BitVec 32) (v396 : BitVec 32) (k0_hw114 : k0_chk114 v188 v227 v266 v305 v344 v396), ∀ (k0_h1 : k0_cond1 v188 v227 v266 v305 v344 = 1#1), (k0_t10_loop v396).OK := fun v188 v227 v266 v305 v344 v396 k0_hw114 k0_h1 => k0_hw114.1 k0_h1
theorem k0_t11_ok : ∀ (v188 : BitVec 32) (v227 : BitVec 32) (v266 : BitVec 32) (v305 : BitVec 32) (v344 : BitVec 32) (v396 : BitVec 32) (k0_hw114 : k0_chk114 v188 v227 v266 v305 v344 v396), ∀ (k0_h1 : k0_cond1 v188 v227 v266 v305 v344 = 1#1), (k0_t11_loop v396).OK := fun v188 v227 v266 v305 v344 v396 k0_hw114 k0_h1 => k0_hw114.2 k0_h1

def k0_chk125 (v188 : BitVec 32) (v227 : BitVec 32) (v266 : BitVec 32) (v305 : BitVec 32) (v344 : BitVec 32) (v422 : IVec S16 32) : Prop :=
  (∀ (k0_h1 : k0_cond1 v188 v227 v266 v305 v344 = 1#1), ∀ a x, ((![v422] : Fin 1 → IVec S16 32) a x).toNat < S50048.size a)
theorem k0_idx121_inb : ∀ (v188 : BitVec 32) (v227 : BitVec 32) (v266 : BitVec 32) (v305 : BitVec 32) (v344 : BitVec 32) (v422 : IVec S16 32) (k0_hw125 : k0_chk125 v188 v227 v266 v305 v344 v422), ∀ (k0_h1 : k0_cond1 v188 v227 v266 v305 v344 = 1#1), ∀ a x, ((![v422] : Fin 1 → IVec S16 32) a x).toNat < S50048.size a := fun v188 v227 v266 v305 v344 v422 k0_hw125 k0_h1 => k0_hw125 k0_h1

def k0_chk126 (v188 : BitVec 32) (v227 : BitVec 32) (v266 : BitVec 32) (v305 : BitVec 32) (v344 : BitVec 32) (v426 : IVec S16 32) : Prop :=
  (∀ (k0_h1 : k0_cond1 v188 v227 v266 v305 v344 = 1#1), ∀ a x, ((![v426] : Fin 1 → IVec S16 32) a x).toNat < S50048.size a)
theorem k0_idx122_inb : ∀ (v188 : BitVec 32) (v227 : BitVec 32) (v266 : BitVec 32) (v305 : BitVec 32) (v344 : BitVec 32) (v426 : IVec S16 32) (k0_hw126 : k0_chk126 v188 v227 v266 v305 v344 v426), ∀ (k0_h1 : k0_cond1 v188 v227 v266 v305 v344 = 1#1), ∀ a x, ((![v426] : Fin 1 → IVec S16 32) a x).toNat < S50048.size a := fun v188 v227 v266 v305 v344 v426 k0_hw126 k0_h1 => k0_hw126 k0_h1

def k0_chk127 (v188 : BitVec 32) (v227 : BitVec 32) (v266 : BitVec 32) (v305 : BitVec 32) (v344 : BitVec 32) (v430 : IVec S16 32) : Prop :=
  (∀ (k0_h1 : k0_cond1 v188 v227 v266 v305 v344 = 1#1), ∀ a x, ((![v430] : Fin 1 → IVec S16 32) a x).toNat < S50048.size a)
theorem k0_idx123_inb : ∀ (v188 : BitVec 32) (v227 : BitVec 32) (v266 : BitVec 32) (v305 : BitVec 32) (v344 : BitVec 32) (v430 : IVec S16 32) (k0_hw127 : k0_chk127 v188 v227 v266 v305 v344 v430), ∀ (k0_h1 : k0_cond1 v188 v227 v266 v305 v344 = 1#1), ∀ a x, ((![v430] : Fin 1 → IVec S16 32) a x).toNat < S50048.size a := fun v188 v227 v266 v305 v344 v430 k0_hw127 k0_h1 => k0_hw127 k0_h1

def k0_chk128 (v188 : BitVec 32) (v227 : BitVec 32) (v266 : BitVec 32) (v305 : BitVec 32) (v344 : BitVec 32) (v434 : IVec S16 32) : Prop :=
  (∀ (k0_h1 : k0_cond1 v188 v227 v266 v305 v344 = 1#1), ∀ a x, ((![v434] : Fin 1 → IVec S16 32) a x).toNat < S50048.size a)
theorem k0_idx124_inb : ∀ (v188 : BitVec 32) (v227 : BitVec 32) (v266 : BitVec 32) (v305 : BitVec 32) (v344 : BitVec 32) (v434 : IVec S16 32) (k0_hw128 : k0_chk128 v188 v227 v266 v305 v344 v434), ∀ (k0_h1 : k0_cond1 v188 v227 v266 v305 v344 = 1#1), ∀ a x, ((![v434] : Fin 1 → IVec S16 32) a x).toNat < S50048.size a := fun v188 v227 v266 v305 v344 v434 k0_hw128 k0_h1 => k0_hw128 k0_h1

def k0_chk129 (v188 : BitVec 32) (v227 : BitVec 32) (v266 : BitVec 32) (v305 : BitVec 32) (v344 : BitVec 32) (v438 : IVec S16 32) : Prop :=
  (∀ (k0_h1 : k0_cond1 v188 v227 v266 v305 v344 = 1#1), ∀ a x, ((![v438] : Fin 1 → IVec S16 32) a x).toNat < S50048.size a)
theorem k0_idx125_inb : ∀ (v188 : BitVec 32) (v227 : BitVec 32) (v266 : BitVec 32) (v305 : BitVec 32) (v344 : BitVec 32) (v438 : IVec S16 32) (k0_hw129 : k0_chk129 v188 v227 v266 v305 v344 v438), ∀ (k0_h1 : k0_cond1 v188 v227 v266 v305 v344 = 1#1), ∀ a x, ((![v438] : Fin 1 → IVec S16 32) a x).toNat < S50048.size a := fun v188 v227 v266 v305 v344 v438 k0_hw129 k0_h1 => k0_hw129 k0_h1

def k0_chk130 (v188 : BitVec 32) (v227 : BitVec 32) (v266 : BitVec 32) (v305 : BitVec 32) (v344 : BitVec 32) (v442 : IVec S16 32) : Prop :=
  (∀ (k0_h1 : k0_cond1 v188 v227 v266 v305 v344 = 1#1), ∀ a x, ((![v442] : Fin 1 → IVec S16 32) a x).toNat < S50048.size a)
theorem k0_idx126_inb : ∀ (v188 : BitVec 32) (v227 : BitVec 32) (v266 : BitVec 32) (v305 : BitVec 32) (v344 : BitVec 32) (v442 : IVec S16 32) (k0_hw130 : k0_chk130 v188 v227 v266 v305 v344 v442), ∀ (k0_h1 : k0_cond1 v188 v227 v266 v305 v344 = 1#1), ∀ a x, ((![v442] : Fin 1 → IVec S16 32) a x).toNat < S50048.size a := fun v188 v227 v266 v305 v344 v442 k0_hw130 k0_h1 => k0_hw130 k0_h1

def k0_chk131 (v188 : BitVec 32) (v227 : BitVec 32) (v266 : BitVec 32) (v305 : BitVec 32) (v344 : BitVec 32) (v444 : IVec S16 32) : Prop :=
  (∀ (k0_h1 : k0_cond1 v188 v227 v266 v305 v344 = 1#1), ∀ a x, ((![v444] : Fin 1 → IVec S16 32) a x).toNat < S50048.size a)
theorem k0_idx127_inb : ∀ (v188 : BitVec 32) (v227 : BitVec 32) (v266 : BitVec 32) (v305 : BitVec 32) (v344 : BitVec 32) (v444 : IVec S16 32) (k0_hw131 : k0_chk131 v188 v227 v266 v305 v344 v444), ∀ (k0_h1 : k0_cond1 v188 v227 v266 v305 v344 = 1#1), ∀ a x, ((![v444] : Fin 1 → IVec S16 32) a x).toNat < S50048.size a := fun v188 v227 v266 v305 v344 v444 k0_hw131 k0_h1 => k0_hw131 k0_h1

def k0_chk132 (v188 : BitVec 32) (v227 : BitVec 32) (v266 : BitVec 32) (v305 : BitVec 32) (v344 : BitVec 32) (v446 : IVec S16 32) : Prop :=
  (∀ (k0_h1 : k0_cond1 v188 v227 v266 v305 v344 = 1#1), ∀ a x, ((![v446] : Fin 1 → IVec S16 32) a x).toNat < S50048.size a)
theorem k0_idx128_inb : ∀ (v188 : BitVec 32) (v227 : BitVec 32) (v266 : BitVec 32) (v305 : BitVec 32) (v344 : BitVec 32) (v446 : IVec S16 32) (k0_hw132 : k0_chk132 v188 v227 v266 v305 v344 v446), ∀ (k0_h1 : k0_cond1 v188 v227 v266 v305 v344 = 1#1), ∀ a x, ((![v446] : Fin 1 → IVec S16 32) a x).toNat < S50048.size a := fun v188 v227 v266 v305 v344 v446 k0_hw132 k0_h1 => k0_hw132 k0_h1

def k0_chk133 (v188 : BitVec 32) (v227 : BitVec 32) (v266 : BitVec 32) (v305 : BitVec 32) (v344 : BitVec 32) (v448 : IVec S16 32) : Prop :=
  (∀ (k0_h1 : k0_cond1 v188 v227 v266 v305 v344 = 1#1), ∀ a x, ((![v448] : Fin 1 → IVec S16 32) a x).toNat < S50048.size a)
theorem k0_idx129_inb : ∀ (v188 : BitVec 32) (v227 : BitVec 32) (v266 : BitVec 32) (v305 : BitVec 32) (v344 : BitVec 32) (v448 : IVec S16 32) (k0_hw133 : k0_chk133 v188 v227 v266 v305 v344 v448), ∀ (k0_h1 : k0_cond1 v188 v227 v266 v305 v344 = 1#1), ∀ a x, ((![v448] : Fin 1 → IVec S16 32) a x).toNat < S50048.size a := fun v188 v227 v266 v305 v344 v448 k0_hw133 k0_h1 => k0_hw133 k0_h1

def k0_chk134 (v188 : BitVec 32) (v227 : BitVec 32) (v266 : BitVec 32) (v305 : BitVec 32) (v344 : BitVec 32) (v450 : IVec S16 32) : Prop :=
  (∀ (k0_h1 : k0_cond1 v188 v227 v266 v305 v344 = 1#1), ∀ a x, ((![v450] : Fin 1 → IVec S16 32) a x).toNat < S50048.size a)
theorem k0_idx130_inb : ∀ (v188 : BitVec 32) (v227 : BitVec 32) (v266 : BitVec 32) (v305 : BitVec 32) (v344 : BitVec 32) (v450 : IVec S16 32) (k0_hw134 : k0_chk134 v188 v227 v266 v305 v344 v450), ∀ (k0_h1 : k0_cond1 v188 v227 v266 v305 v344 = 1#1), ∀ a x, ((![v450] : Fin 1 → IVec S16 32) a x).toNat < S50048.size a := fun v188 v227 v266 v305 v344 v450 k0_hw134 k0_h1 => k0_hw134 k0_h1
@[reducible] def k0_t12_loop (v410 : BitVec 32) : Scf.Loop 32 :=
  let c1_i32_182 : BitVec 32 := 1#32
  let c1_i32_181 : BitVec 32 := 1#32
  let v411 : BitVec 32 := Scalar.addi v410 c1_i32_181
  let v412 : BitVec 32 := Scalar.subi v411 c1_i32_182
  let c1_i32_184 : BitVec 32 := 1#32
  let v414 : BitVec 32 := Scalar.divsi v412 c1_i32_184
  let v415 : BitVec 32 := Scalar.muli v414 c1_i32_184
  let v416 : BitVec 32 := Scalar.addi c1_i32_182 v415
  let c1_i32_185 : BitVec 32 := 1#32
  ⟨c1_i32_182, v416, c1_i32_185⟩

def k0_chk136 (v188 : BitVec 32) (v227 : BitVec 32) (v266 : BitVec 32) (v305 : BitVec 32) (v344 : BitVec 32) (v422 : IVec S16 32) : Prop :=
  (∀ (k0_h1 : k0_cond1 v188 v227 v266 v305 v344 = 1#1), ∀ a x, ((![v422] : Fin 1 → IVec S16 32) a x).toNat < S50048.size a)
theorem k0_idx131_inb : ∀ (v188 : BitVec 32) (v227 : BitVec 32) (v266 : BitVec 32) (v305 : BitVec 32) (v344 : BitVec 32) (v422 : IVec S16 32) (k0_hw136 : k0_chk136 v188 v227 v266 v305 v344 v422), ∀ (k0_h1 : k0_cond1 v188 v227 v266 v305 v344 = 1#1), ∀ a x, ((![v422] : Fin 1 → IVec S16 32) a x).toNat < S50048.size a := fun v188 v227 v266 v305 v344 v422 k0_hw136 k0_h1 => k0_hw136 k0_h1

def k0_chk137 (v188 : BitVec 32) (v227 : BitVec 32) (v266 : BitVec 32) (v305 : BitVec 32) (v344 : BitVec 32) (v426 : IVec S16 32) : Prop :=
  (∀ (k0_h1 : k0_cond1 v188 v227 v266 v305 v344 = 1#1), ∀ a x, ((![v426] : Fin 1 → IVec S16 32) a x).toNat < S50048.size a)
theorem k0_idx132_inb : ∀ (v188 : BitVec 32) (v227 : BitVec 32) (v266 : BitVec 32) (v305 : BitVec 32) (v344 : BitVec 32) (v426 : IVec S16 32) (k0_hw137 : k0_chk137 v188 v227 v266 v305 v344 v426), ∀ (k0_h1 : k0_cond1 v188 v227 v266 v305 v344 = 1#1), ∀ a x, ((![v426] : Fin 1 → IVec S16 32) a x).toNat < S50048.size a := fun v188 v227 v266 v305 v344 v426 k0_hw137 k0_h1 => k0_hw137 k0_h1

def k0_chk138 (v188 : BitVec 32) (v227 : BitVec 32) (v266 : BitVec 32) (v305 : BitVec 32) (v344 : BitVec 32) (v430 : IVec S16 32) : Prop :=
  (∀ (k0_h1 : k0_cond1 v188 v227 v266 v305 v344 = 1#1), ∀ a x, ((![v430] : Fin 1 → IVec S16 32) a x).toNat < S50048.size a)
theorem k0_idx133_inb : ∀ (v188 : BitVec 32) (v227 : BitVec 32) (v266 : BitVec 32) (v305 : BitVec 32) (v344 : BitVec 32) (v430 : IVec S16 32) (k0_hw138 : k0_chk138 v188 v227 v266 v305 v344 v430), ∀ (k0_h1 : k0_cond1 v188 v227 v266 v305 v344 = 1#1), ∀ a x, ((![v430] : Fin 1 → IVec S16 32) a x).toNat < S50048.size a := fun v188 v227 v266 v305 v344 v430 k0_hw138 k0_h1 => k0_hw138 k0_h1

def k0_chk139 (v188 : BitVec 32) (v227 : BitVec 32) (v266 : BitVec 32) (v305 : BitVec 32) (v344 : BitVec 32) (v434 : IVec S16 32) : Prop :=
  (∀ (k0_h1 : k0_cond1 v188 v227 v266 v305 v344 = 1#1), ∀ a x, ((![v434] : Fin 1 → IVec S16 32) a x).toNat < S50048.size a)
theorem k0_idx134_inb : ∀ (v188 : BitVec 32) (v227 : BitVec 32) (v266 : BitVec 32) (v305 : BitVec 32) (v344 : BitVec 32) (v434 : IVec S16 32) (k0_hw139 : k0_chk139 v188 v227 v266 v305 v344 v434), ∀ (k0_h1 : k0_cond1 v188 v227 v266 v305 v344 = 1#1), ∀ a x, ((![v434] : Fin 1 → IVec S16 32) a x).toNat < S50048.size a := fun v188 v227 v266 v305 v344 v434 k0_hw139 k0_h1 => k0_hw139 k0_h1

def k0_chk140 (v188 : BitVec 32) (v227 : BitVec 32) (v266 : BitVec 32) (v305 : BitVec 32) (v344 : BitVec 32) (v438 : IVec S16 32) : Prop :=
  (∀ (k0_h1 : k0_cond1 v188 v227 v266 v305 v344 = 1#1), ∀ a x, ((![v438] : Fin 1 → IVec S16 32) a x).toNat < S50048.size a)
theorem k0_idx135_inb : ∀ (v188 : BitVec 32) (v227 : BitVec 32) (v266 : BitVec 32) (v305 : BitVec 32) (v344 : BitVec 32) (v438 : IVec S16 32) (k0_hw140 : k0_chk140 v188 v227 v266 v305 v344 v438), ∀ (k0_h1 : k0_cond1 v188 v227 v266 v305 v344 = 1#1), ∀ a x, ((![v438] : Fin 1 → IVec S16 32) a x).toNat < S50048.size a := fun v188 v227 v266 v305 v344 v438 k0_hw140 k0_h1 => k0_hw140 k0_h1

def k0_chk141 (v188 : BitVec 32) (v227 : BitVec 32) (v266 : BitVec 32) (v305 : BitVec 32) (v344 : BitVec 32) (v442 : IVec S16 32) : Prop :=
  (∀ (k0_h1 : k0_cond1 v188 v227 v266 v305 v344 = 1#1), ∀ a x, ((![v442] : Fin 1 → IVec S16 32) a x).toNat < S50048.size a)
theorem k0_idx136_inb : ∀ (v188 : BitVec 32) (v227 : BitVec 32) (v266 : BitVec 32) (v305 : BitVec 32) (v344 : BitVec 32) (v442 : IVec S16 32) (k0_hw141 : k0_chk141 v188 v227 v266 v305 v344 v442), ∀ (k0_h1 : k0_cond1 v188 v227 v266 v305 v344 = 1#1), ∀ a x, ((![v442] : Fin 1 → IVec S16 32) a x).toNat < S50048.size a := fun v188 v227 v266 v305 v344 v442 k0_hw141 k0_h1 => k0_hw141 k0_h1

def k0_chk142 (v188 : BitVec 32) (v227 : BitVec 32) (v266 : BitVec 32) (v305 : BitVec 32) (v344 : BitVec 32) (v444 : IVec S16 32) : Prop :=
  (∀ (k0_h1 : k0_cond1 v188 v227 v266 v305 v344 = 1#1), ∀ a x, ((![v444] : Fin 1 → IVec S16 32) a x).toNat < S50048.size a)
theorem k0_idx137_inb : ∀ (v188 : BitVec 32) (v227 : BitVec 32) (v266 : BitVec 32) (v305 : BitVec 32) (v344 : BitVec 32) (v444 : IVec S16 32) (k0_hw142 : k0_chk142 v188 v227 v266 v305 v344 v444), ∀ (k0_h1 : k0_cond1 v188 v227 v266 v305 v344 = 1#1), ∀ a x, ((![v444] : Fin 1 → IVec S16 32) a x).toNat < S50048.size a := fun v188 v227 v266 v305 v344 v444 k0_hw142 k0_h1 => k0_hw142 k0_h1

def k0_chk143 (v188 : BitVec 32) (v227 : BitVec 32) (v266 : BitVec 32) (v305 : BitVec 32) (v344 : BitVec 32) (v446 : IVec S16 32) : Prop :=
  (∀ (k0_h1 : k0_cond1 v188 v227 v266 v305 v344 = 1#1), ∀ a x, ((![v446] : Fin 1 → IVec S16 32) a x).toNat < S50048.size a)
theorem k0_idx138_inb : ∀ (v188 : BitVec 32) (v227 : BitVec 32) (v266 : BitVec 32) (v305 : BitVec 32) (v344 : BitVec 32) (v446 : IVec S16 32) (k0_hw143 : k0_chk143 v188 v227 v266 v305 v344 v446), ∀ (k0_h1 : k0_cond1 v188 v227 v266 v305 v344 = 1#1), ∀ a x, ((![v446] : Fin 1 → IVec S16 32) a x).toNat < S50048.size a := fun v188 v227 v266 v305 v344 v446 k0_hw143 k0_h1 => k0_hw143 k0_h1

def k0_chk144 (v188 : BitVec 32) (v227 : BitVec 32) (v266 : BitVec 32) (v305 : BitVec 32) (v344 : BitVec 32) (v448 : IVec S16 32) : Prop :=
  (∀ (k0_h1 : k0_cond1 v188 v227 v266 v305 v344 = 1#1), ∀ a x, ((![v448] : Fin 1 → IVec S16 32) a x).toNat < S50048.size a)
theorem k0_idx139_inb : ∀ (v188 : BitVec 32) (v227 : BitVec 32) (v266 : BitVec 32) (v305 : BitVec 32) (v344 : BitVec 32) (v448 : IVec S16 32) (k0_hw144 : k0_chk144 v188 v227 v266 v305 v344 v448), ∀ (k0_h1 : k0_cond1 v188 v227 v266 v305 v344 = 1#1), ∀ a x, ((![v448] : Fin 1 → IVec S16 32) a x).toNat < S50048.size a := fun v188 v227 v266 v305 v344 v448 k0_hw144 k0_h1 => k0_hw144 k0_h1

def k0_chk145 (v188 : BitVec 32) (v227 : BitVec 32) (v266 : BitVec 32) (v305 : BitVec 32) (v344 : BitVec 32) (v450 : IVec S16 32) : Prop :=
  (∀ (k0_h1 : k0_cond1 v188 v227 v266 v305 v344 = 1#1), ∀ a x, ((![v450] : Fin 1 → IVec S16 32) a x).toNat < S50048.size a)
theorem k0_idx140_inb : ∀ (v188 : BitVec 32) (v227 : BitVec 32) (v266 : BitVec 32) (v305 : BitVec 32) (v344 : BitVec 32) (v450 : IVec S16 32) (k0_hw145 : k0_chk145 v188 v227 v266 v305 v344 v450), ∀ (k0_h1 : k0_cond1 v188 v227 v266 v305 v344 = 1#1), ∀ a x, ((![v450] : Fin 1 → IVec S16 32) a x).toNat < S50048.size a := fun v188 v227 v266 v305 v344 v450 k0_hw145 k0_h1 => k0_hw145 k0_h1
@[reducible] def k0_t13_loop (v410 : BitVec 32) : Scf.Loop 32 :=
  let c1_i32_182 : BitVec 32 := 1#32
  let c1_i32_181 : BitVec 32 := 1#32
  let v411 : BitVec 32 := Scalar.addi v410 c1_i32_181
  let v412 : BitVec 32 := Scalar.subi v411 c1_i32_182
  let c1_i32_184 : BitVec 32 := 1#32
  let v414 : BitVec 32 := Scalar.divsi v412 c1_i32_184
  let v415 : BitVec 32 := Scalar.muli v414 c1_i32_184
  let v416 : BitVec 32 := Scalar.addi c1_i32_182 v415
  let v413 : BitVec 32 := Scalar.addi c1_i32_182 v412
  let c1_i32_186 : BitVec 32 := 1#32
  ⟨v416, v413, c1_i32_186⟩

def k0_chk135 (v188 : BitVec 32) (v227 : BitVec 32) (v266 : BitVec 32) (v305 : BitVec 32) (v344 : BitVec 32) (v410 : BitVec 32) : Prop :=
  (∀ (k0_h1 : k0_cond1 v188 v227 v266 v305 v344 = 1#1), (k0_t12_loop v410).OK) ∧
  (∀ (k0_h1 : k0_cond1 v188 v227 v266 v305 v344 = 1#1), (k0_t13_loop v410).OK)
theorem k0_t12_ok : ∀ (v188 : BitVec 32) (v227 : BitVec 32) (v266 : BitVec 32) (v305 : BitVec 32) (v344 : BitVec 32) (v410 : BitVec 32) (k0_hw135 : k0_chk135 v188 v227 v266 v305 v344 v410), ∀ (k0_h1 : k0_cond1 v188 v227 v266 v305 v344 = 1#1), (k0_t12_loop v410).OK := fun v188 v227 v266 v305 v344 v410 k0_hw135 k0_h1 => k0_hw135.1 k0_h1
theorem k0_t13_ok : ∀ (v188 : BitVec 32) (v227 : BitVec 32) (v266 : BitVec 32) (v305 : BitVec 32) (v344 : BitVec 32) (v410 : BitVec 32) (k0_hw135 : k0_chk135 v188 v227 v266 v305 v344 v410), ∀ (k0_h1 : k0_cond1 v188 v227 v266 v305 v344 = 1#1), (k0_t13_loop v410).OK := fun v188 v227 v266 v305 v344 v410 k0_hw135 k0_h1 => k0_hw135.2 k0_h1

def k0_chk146 (v188 : BitVec 32) (v227 : BitVec 32) (v266 : BitVec 32) (v305 : BitVec 32) (v344 : BitVec 32) (v422 : IVec S16 32) : Prop :=
  (∀ (k0_h1 : k0_cond1 v188 v227 v266 v305 v344 = 1#1), ∀ a x, ((![v422] : Fin 1 → IVec S16 32) a x).toNat < S50048.size a)
theorem k0_idx141_inb : ∀ (v188 : BitVec 32) (v227 : BitVec 32) (v266 : BitVec 32) (v305 : BitVec 32) (v344 : BitVec 32) (v422 : IVec S16 32) (k0_hw146 : k0_chk146 v188 v227 v266 v305 v344 v422), ∀ (k0_h1 : k0_cond1 v188 v227 v266 v305 v344 = 1#1), ∀ a x, ((![v422] : Fin 1 → IVec S16 32) a x).toNat < S50048.size a := fun v188 v227 v266 v305 v344 v422 k0_hw146 k0_h1 => k0_hw146 k0_h1

def k0_chk147 (v188 : BitVec 32) (v227 : BitVec 32) (v266 : BitVec 32) (v305 : BitVec 32) (v344 : BitVec 32) (v426 : IVec S16 32) : Prop :=
  (∀ (k0_h1 : k0_cond1 v188 v227 v266 v305 v344 = 1#1), ∀ a x, ((![v426] : Fin 1 → IVec S16 32) a x).toNat < S50048.size a)
theorem k0_idx142_inb : ∀ (v188 : BitVec 32) (v227 : BitVec 32) (v266 : BitVec 32) (v305 : BitVec 32) (v344 : BitVec 32) (v426 : IVec S16 32) (k0_hw147 : k0_chk147 v188 v227 v266 v305 v344 v426), ∀ (k0_h1 : k0_cond1 v188 v227 v266 v305 v344 = 1#1), ∀ a x, ((![v426] : Fin 1 → IVec S16 32) a x).toNat < S50048.size a := fun v188 v227 v266 v305 v344 v426 k0_hw147 k0_h1 => k0_hw147 k0_h1

def k0_chk148 (v188 : BitVec 32) (v227 : BitVec 32) (v266 : BitVec 32) (v305 : BitVec 32) (v344 : BitVec 32) (v430 : IVec S16 32) : Prop :=
  (∀ (k0_h1 : k0_cond1 v188 v227 v266 v305 v344 = 1#1), ∀ a x, ((![v430] : Fin 1 → IVec S16 32) a x).toNat < S50048.size a)
theorem k0_idx143_inb : ∀ (v188 : BitVec 32) (v227 : BitVec 32) (v266 : BitVec 32) (v305 : BitVec 32) (v344 : BitVec 32) (v430 : IVec S16 32) (k0_hw148 : k0_chk148 v188 v227 v266 v305 v344 v430), ∀ (k0_h1 : k0_cond1 v188 v227 v266 v305 v344 = 1#1), ∀ a x, ((![v430] : Fin 1 → IVec S16 32) a x).toNat < S50048.size a := fun v188 v227 v266 v305 v344 v430 k0_hw148 k0_h1 => k0_hw148 k0_h1

def k0_chk149 (v188 : BitVec 32) (v227 : BitVec 32) (v266 : BitVec 32) (v305 : BitVec 32) (v344 : BitVec 32) (v434 : IVec S16 32) : Prop :=
  (∀ (k0_h1 : k0_cond1 v188 v227 v266 v305 v344 = 1#1), ∀ a x, ((![v434] : Fin 1 → IVec S16 32) a x).toNat < S50048.size a)
theorem k0_idx144_inb : ∀ (v188 : BitVec 32) (v227 : BitVec 32) (v266 : BitVec 32) (v305 : BitVec 32) (v344 : BitVec 32) (v434 : IVec S16 32) (k0_hw149 : k0_chk149 v188 v227 v266 v305 v344 v434), ∀ (k0_h1 : k0_cond1 v188 v227 v266 v305 v344 = 1#1), ∀ a x, ((![v434] : Fin 1 → IVec S16 32) a x).toNat < S50048.size a := fun v188 v227 v266 v305 v344 v434 k0_hw149 k0_h1 => k0_hw149 k0_h1

def k0_chk150 (v188 : BitVec 32) (v227 : BitVec 32) (v266 : BitVec 32) (v305 : BitVec 32) (v344 : BitVec 32) (v438 : IVec S16 32) : Prop :=
  (∀ (k0_h1 : k0_cond1 v188 v227 v266 v305 v344 = 1#1), ∀ a x, ((![v438] : Fin 1 → IVec S16 32) a x).toNat < S50048.size a)
theorem k0_idx145_inb : ∀ (v188 : BitVec 32) (v227 : BitVec 32) (v266 : BitVec 32) (v305 : BitVec 32) (v344 : BitVec 32) (v438 : IVec S16 32) (k0_hw150 : k0_chk150 v188 v227 v266 v305 v344 v438), ∀ (k0_h1 : k0_cond1 v188 v227 v266 v305 v344 = 1#1), ∀ a x, ((![v438] : Fin 1 → IVec S16 32) a x).toNat < S50048.size a := fun v188 v227 v266 v305 v344 v438 k0_hw150 k0_h1 => k0_hw150 k0_h1

def k0_chk151 (v188 : BitVec 32) (v227 : BitVec 32) (v266 : BitVec 32) (v305 : BitVec 32) (v344 : BitVec 32) (v442 : IVec S16 32) : Prop :=
  (∀ (k0_h1 : k0_cond1 v188 v227 v266 v305 v344 = 1#1), ∀ a x, ((![v442] : Fin 1 → IVec S16 32) a x).toNat < S50048.size a)
theorem k0_idx146_inb : ∀ (v188 : BitVec 32) (v227 : BitVec 32) (v266 : BitVec 32) (v305 : BitVec 32) (v344 : BitVec 32) (v442 : IVec S16 32) (k0_hw151 : k0_chk151 v188 v227 v266 v305 v344 v442), ∀ (k0_h1 : k0_cond1 v188 v227 v266 v305 v344 = 1#1), ∀ a x, ((![v442] : Fin 1 → IVec S16 32) a x).toNat < S50048.size a := fun v188 v227 v266 v305 v344 v442 k0_hw151 k0_h1 => k0_hw151 k0_h1

def k0_chk152 (v188 : BitVec 32) (v227 : BitVec 32) (v266 : BitVec 32) (v305 : BitVec 32) (v344 : BitVec 32) (v444 : IVec S16 32) : Prop :=
  (∀ (k0_h1 : k0_cond1 v188 v227 v266 v305 v344 = 1#1), ∀ a x, ((![v444] : Fin 1 → IVec S16 32) a x).toNat < S50048.size a)
theorem k0_idx147_inb : ∀ (v188 : BitVec 32) (v227 : BitVec 32) (v266 : BitVec 32) (v305 : BitVec 32) (v344 : BitVec 32) (v444 : IVec S16 32) (k0_hw152 : k0_chk152 v188 v227 v266 v305 v344 v444), ∀ (k0_h1 : k0_cond1 v188 v227 v266 v305 v344 = 1#1), ∀ a x, ((![v444] : Fin 1 → IVec S16 32) a x).toNat < S50048.size a := fun v188 v227 v266 v305 v344 v444 k0_hw152 k0_h1 => k0_hw152 k0_h1

def k0_chk153 (v188 : BitVec 32) (v227 : BitVec 32) (v266 : BitVec 32) (v305 : BitVec 32) (v344 : BitVec 32) (v446 : IVec S16 32) : Prop :=
  (∀ (k0_h1 : k0_cond1 v188 v227 v266 v305 v344 = 1#1), ∀ a x, ((![v446] : Fin 1 → IVec S16 32) a x).toNat < S50048.size a)
theorem k0_idx148_inb : ∀ (v188 : BitVec 32) (v227 : BitVec 32) (v266 : BitVec 32) (v305 : BitVec 32) (v344 : BitVec 32) (v446 : IVec S16 32) (k0_hw153 : k0_chk153 v188 v227 v266 v305 v344 v446), ∀ (k0_h1 : k0_cond1 v188 v227 v266 v305 v344 = 1#1), ∀ a x, ((![v446] : Fin 1 → IVec S16 32) a x).toNat < S50048.size a := fun v188 v227 v266 v305 v344 v446 k0_hw153 k0_h1 => k0_hw153 k0_h1

def k0_chk154 (v188 : BitVec 32) (v227 : BitVec 32) (v266 : BitVec 32) (v305 : BitVec 32) (v344 : BitVec 32) (v448 : IVec S16 32) : Prop :=
  (∀ (k0_h1 : k0_cond1 v188 v227 v266 v305 v344 = 1#1), ∀ a x, ((![v448] : Fin 1 → IVec S16 32) a x).toNat < S50048.size a)
theorem k0_idx149_inb : ∀ (v188 : BitVec 32) (v227 : BitVec 32) (v266 : BitVec 32) (v305 : BitVec 32) (v344 : BitVec 32) (v448 : IVec S16 32) (k0_hw154 : k0_chk154 v188 v227 v266 v305 v344 v448), ∀ (k0_h1 : k0_cond1 v188 v227 v266 v305 v344 = 1#1), ∀ a x, ((![v448] : Fin 1 → IVec S16 32) a x).toNat < S50048.size a := fun v188 v227 v266 v305 v344 v448 k0_hw154 k0_h1 => k0_hw154 k0_h1

def k0_chk155 (v188 : BitVec 32) (v227 : BitVec 32) (v266 : BitVec 32) (v305 : BitVec 32) (v344 : BitVec 32) (v450 : IVec S16 32) : Prop :=
  (∀ (k0_h1 : k0_cond1 v188 v227 v266 v305 v344 = 1#1), ∀ a x, ((![v450] : Fin 1 → IVec S16 32) a x).toNat < S50048.size a)
theorem k0_idx150_inb : ∀ (v188 : BitVec 32) (v227 : BitVec 32) (v266 : BitVec 32) (v305 : BitVec 32) (v344 : BitVec 32) (v450 : IVec S16 32) (k0_hw155 : k0_chk155 v188 v227 v266 v305 v344 v450), ∀ (k0_h1 : k0_cond1 v188 v227 v266 v305 v344 = 1#1), ∀ a x, ((![v450] : Fin 1 → IVec S16 32) a x).toNat < S50048.size a := fun v188 v227 v266 v305 v344 v450 k0_hw155 k0_h1 => k0_hw155 k0_h1
def k0_off6 (i : grid0.Coords) (k0_t2 : Fin k0_t2_loop.trips) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c40000_i32_50 : BitVec 32 := 40000#32
  let v89 : BitVec 32 := Scalar.muli v18 c40000_i32_50
  let c2_i32_43 : BitVec 32 := 2#32
  let c0_i32_21 : BitVec 32 := 0#32
  let c1_i32_22 : BitVec 32 := 1#32
  let arg18 : BitVec 32 := Scf.iv c0_i32_21 c1_i32_22 k0_t2
  let v77 : BitVec 32 := Scalar.muli c2_i32_43 arg18
  let c2_i32_44 : BitVec 32 := 2#32
  let v78 : BitVec 32 := Scalar.addi v77 c2_i32_44
  let c10_i32 : BitVec 32 := 10#32
  let c0_i32_45 : BitVec 32 := 0#32
  let v79 : BitVec 1 := Scalar.cmpi .eq c10_i32 c0_i32_45
  let c1_i32_46 : BitVec 32 := 1#32
  let v80 : BitVec 32 := Scalar.select v79 c1_i32_46 c10_i32
  let v81 : BitVec 32 := Scalar.remsi v78 v80
  let c0_i32_48 : BitVec 32 := 0#32
  let v83 : BitVec 1 := Scalar.cmpi .slt v81 c0_i32_48
  let c0_i32_49 : BitVec 32 := 0#32
  let v84 : BitVec 1 := Scalar.cmpi .slt v80 c0_i32_49
  let v85 : BitVec 1 := Scalar.xori v83 v84
  let c0_i32_47 : BitVec 32 := 0#32
  let v82 : BitVec 1 := Scalar.cmpi .ne v81 c0_i32_47
  let v86 : BitVec 1 := Scalar.andi v85 v82
  let v87 : BitVec 32 := Scalar.addi v81 v80
  let v88 : BitVec 32 := Scalar.select v86 v87 v81
  let c4000_i32_51 : BitVec 32 := 4000#32
  let v90 : BitVec 32 := Scalar.muli v88 c4000_i32_51
  let v91 : BitVec 32 := Scalar.addi v89 v90
  ![v91.toNat]
@[reducible] def k0_t14_loop : Scf.Loop 32 :=
  let c0_i32_59 : BitVec 32 := 0#32
  let c50_i32_60 : BitVec 32 := 50#32
  let v104 : BitVec 32 := Scalar.addi c0_i32_59 c50_i32_60
  let c1_i32_61 : BitVec 32 := 1#32
  ⟨c0_i32_59, v104, c1_i32_61⟩
def k0_off7 (k0_t14 : Fin k0_t14_loop.trips) (c0_i32_64 : BitVec 32) : Fin 1 → Nat :=
  let c0_i32_59 : BitVec 32 := 0#32
  let c1_i32_61 : BitVec 32 := 1#32
  let arg20 : BitVec 32 := Scf.iv c0_i32_59 c1_i32_61 k0_t14
  let c80_i32 : BitVec 32 := 80#32
  let v106 : BitVec 32 := Scalar.muli arg20 c80_i32
  let v107 : BitVec 32 := Scalar.addi v106 c0_i32_64
  let v108 : Index := Scalar.indexCast v107
  ![v108.toNat]

def k0_chk156 (v154 : IVec S16 32) : Prop :=
  (∀ a x, ((![v154] : Fin 1 → IVec S16 32) a x).toNat < S50048.size a)
theorem k0_idx151_inb : ∀ (v154 : IVec S16 32) (k0_hw156 : k0_chk156 v154), ∀ a x, ((![v154] : Fin 1 → IVec S16 32) a x).toNat < S50048.size a := fun v154 k0_hw156 => k0_hw156

def k0_chk157 (v158 : IVec S16 32) : Prop :=
  (∀ a x, ((![v158] : Fin 1 → IVec S16 32) a x).toNat < S50048.size a)
theorem k0_idx152_inb : ∀ (v158 : IVec S16 32) (k0_hw157 : k0_chk157 v158), ∀ a x, ((![v158] : Fin 1 → IVec S16 32) a x).toNat < S50048.size a := fun v158 k0_hw157 => k0_hw157

def k0_chk158 (v162 : IVec S16 32) : Prop :=
  (∀ a x, ((![v162] : Fin 1 → IVec S16 32) a x).toNat < S50048.size a)
theorem k0_idx153_inb : ∀ (v162 : IVec S16 32) (k0_hw158 : k0_chk158 v162), ∀ a x, ((![v162] : Fin 1 → IVec S16 32) a x).toNat < S50048.size a := fun v162 k0_hw158 => k0_hw158

def k0_chk159 (v166 : IVec S16 32) : Prop :=
  (∀ a x, ((![v166] : Fin 1 → IVec S16 32) a x).toNat < S50048.size a)
theorem k0_idx154_inb : ∀ (v166 : IVec S16 32) (k0_hw159 : k0_chk159 v166), ∀ a x, ((![v166] : Fin 1 → IVec S16 32) a x).toNat < S50048.size a := fun v166 k0_hw159 => k0_hw159

def k0_chk160 (v170 : IVec S16 32) : Prop :=
  (∀ a x, ((![v170] : Fin 1 → IVec S16 32) a x).toNat < S50048.size a)
theorem k0_idx155_inb : ∀ (v170 : IVec S16 32) (k0_hw160 : k0_chk160 v170), ∀ a x, ((![v170] : Fin 1 → IVec S16 32) a x).toNat < S50048.size a := fun v170 k0_hw160 => k0_hw160

def k0_chk161 (v174 : IVec S16 32) : Prop :=
  (∀ a x, ((![v174] : Fin 1 → IVec S16 32) a x).toNat < S50048.size a)
theorem k0_idx156_inb : ∀ (v174 : IVec S16 32) (k0_hw161 : k0_chk161 v174), ∀ a x, ((![v174] : Fin 1 → IVec S16 32) a x).toNat < S50048.size a := fun v174 k0_hw161 => k0_hw161

def k0_chk162 (v176 : IVec S16 32) : Prop :=
  (∀ a x, ((![v176] : Fin 1 → IVec S16 32) a x).toNat < S50048.size a)
theorem k0_idx157_inb : ∀ (v176 : IVec S16 32) (k0_hw162 : k0_chk162 v176), ∀ a x, ((![v176] : Fin 1 → IVec S16 32) a x).toNat < S50048.size a := fun v176 k0_hw162 => k0_hw162

def k0_chk163 (v178 : IVec S16 32) : Prop :=
  (∀ a x, ((![v178] : Fin 1 → IVec S16 32) a x).toNat < S50048.size a)
theorem k0_idx158_inb : ∀ (v178 : IVec S16 32) (k0_hw163 : k0_chk163 v178), ∀ a x, ((![v178] : Fin 1 → IVec S16 32) a x).toNat < S50048.size a := fun v178 k0_hw163 => k0_hw163

def k0_chk164 (v180 : IVec S16 32) : Prop :=
  (∀ a x, ((![v180] : Fin 1 → IVec S16 32) a x).toNat < S50048.size a)
theorem k0_idx159_inb : ∀ (v180 : IVec S16 32) (k0_hw164 : k0_chk164 v180), ∀ a x, ((![v180] : Fin 1 → IVec S16 32) a x).toNat < S50048.size a := fun v180 k0_hw164 => k0_hw164

def k0_chk165 (v182 : IVec S16 32) : Prop :=
  (∀ a x, ((![v182] : Fin 1 → IVec S16 32) a x).toNat < S50048.size a)
theorem k0_idx160_inb : ∀ (v182 : IVec S16 32) (k0_hw165 : k0_chk165 v182), ∀ a x, ((![v182] : Fin 1 → IVec S16 32) a x).toNat < S50048.size a := fun v182 k0_hw165 => k0_hw165

def k0_chk166 (v193 : IVec S16 32) : Prop :=
  (∀ a x, ((![v193] : Fin 1 → IVec S16 32) a x).toNat < S50048.size a)
theorem k0_idx161_inb : ∀ (v193 : IVec S16 32) (k0_hw166 : k0_chk166 v193), ∀ a x, ((![v193] : Fin 1 → IVec S16 32) a x).toNat < S50048.size a := fun v193 k0_hw166 => k0_hw166

def k0_chk167 (v197 : IVec S16 32) : Prop :=
  (∀ a x, ((![v197] : Fin 1 → IVec S16 32) a x).toNat < S50048.size a)
theorem k0_idx162_inb : ∀ (v197 : IVec S16 32) (k0_hw167 : k0_chk167 v197), ∀ a x, ((![v197] : Fin 1 → IVec S16 32) a x).toNat < S50048.size a := fun v197 k0_hw167 => k0_hw167

def k0_chk168 (v201 : IVec S16 32) : Prop :=
  (∀ a x, ((![v201] : Fin 1 → IVec S16 32) a x).toNat < S50048.size a)
theorem k0_idx163_inb : ∀ (v201 : IVec S16 32) (k0_hw168 : k0_chk168 v201), ∀ a x, ((![v201] : Fin 1 → IVec S16 32) a x).toNat < S50048.size a := fun v201 k0_hw168 => k0_hw168

def k0_chk169 (v205 : IVec S16 32) : Prop :=
  (∀ a x, ((![v205] : Fin 1 → IVec S16 32) a x).toNat < S50048.size a)
theorem k0_idx164_inb : ∀ (v205 : IVec S16 32) (k0_hw169 : k0_chk169 v205), ∀ a x, ((![v205] : Fin 1 → IVec S16 32) a x).toNat < S50048.size a := fun v205 k0_hw169 => k0_hw169

def k0_chk170 (v209 : IVec S16 32) : Prop :=
  (∀ a x, ((![v209] : Fin 1 → IVec S16 32) a x).toNat < S50048.size a)
theorem k0_idx165_inb : ∀ (v209 : IVec S16 32) (k0_hw170 : k0_chk170 v209), ∀ a x, ((![v209] : Fin 1 → IVec S16 32) a x).toNat < S50048.size a := fun v209 k0_hw170 => k0_hw170

def k0_chk171 (v213 : IVec S16 32) : Prop :=
  (∀ a x, ((![v213] : Fin 1 → IVec S16 32) a x).toNat < S50048.size a)
theorem k0_idx166_inb : ∀ (v213 : IVec S16 32) (k0_hw171 : k0_chk171 v213), ∀ a x, ((![v213] : Fin 1 → IVec S16 32) a x).toNat < S50048.size a := fun v213 k0_hw171 => k0_hw171

def k0_chk172 (v215 : IVec S16 32) : Prop :=
  (∀ a x, ((![v215] : Fin 1 → IVec S16 32) a x).toNat < S50048.size a)
theorem k0_idx167_inb : ∀ (v215 : IVec S16 32) (k0_hw172 : k0_chk172 v215), ∀ a x, ((![v215] : Fin 1 → IVec S16 32) a x).toNat < S50048.size a := fun v215 k0_hw172 => k0_hw172

def k0_chk173 (v217 : IVec S16 32) : Prop :=
  (∀ a x, ((![v217] : Fin 1 → IVec S16 32) a x).toNat < S50048.size a)
theorem k0_idx168_inb : ∀ (v217 : IVec S16 32) (k0_hw173 : k0_chk173 v217), ∀ a x, ((![v217] : Fin 1 → IVec S16 32) a x).toNat < S50048.size a := fun v217 k0_hw173 => k0_hw173

def k0_chk174 (v219 : IVec S16 32) : Prop :=
  (∀ a x, ((![v219] : Fin 1 → IVec S16 32) a x).toNat < S50048.size a)
theorem k0_idx169_inb : ∀ (v219 : IVec S16 32) (k0_hw174 : k0_chk174 v219), ∀ a x, ((![v219] : Fin 1 → IVec S16 32) a x).toNat < S50048.size a := fun v219 k0_hw174 => k0_hw174

def k0_chk175 (v221 : IVec S16 32) : Prop :=
  (∀ a x, ((![v221] : Fin 1 → IVec S16 32) a x).toNat < S50048.size a)
theorem k0_idx170_inb : ∀ (v221 : IVec S16 32) (k0_hw175 : k0_chk175 v221), ∀ a x, ((![v221] : Fin 1 → IVec S16 32) a x).toNat < S50048.size a := fun v221 k0_hw175 => k0_hw175

def k0_chk176 (v232 : IVec S16 32) : Prop :=
  (∀ a x, ((![v232] : Fin 1 → IVec S16 32) a x).toNat < S50048.size a)
theorem k0_idx171_inb : ∀ (v232 : IVec S16 32) (k0_hw176 : k0_chk176 v232), ∀ a x, ((![v232] : Fin 1 → IVec S16 32) a x).toNat < S50048.size a := fun v232 k0_hw176 => k0_hw176

def k0_chk177 (v236 : IVec S16 32) : Prop :=
  (∀ a x, ((![v236] : Fin 1 → IVec S16 32) a x).toNat < S50048.size a)
theorem k0_idx172_inb : ∀ (v236 : IVec S16 32) (k0_hw177 : k0_chk177 v236), ∀ a x, ((![v236] : Fin 1 → IVec S16 32) a x).toNat < S50048.size a := fun v236 k0_hw177 => k0_hw177

def k0_chk178 (v240 : IVec S16 32) : Prop :=
  (∀ a x, ((![v240] : Fin 1 → IVec S16 32) a x).toNat < S50048.size a)
theorem k0_idx173_inb : ∀ (v240 : IVec S16 32) (k0_hw178 : k0_chk178 v240), ∀ a x, ((![v240] : Fin 1 → IVec S16 32) a x).toNat < S50048.size a := fun v240 k0_hw178 => k0_hw178

def k0_chk179 (v244 : IVec S16 32) : Prop :=
  (∀ a x, ((![v244] : Fin 1 → IVec S16 32) a x).toNat < S50048.size a)
theorem k0_idx174_inb : ∀ (v244 : IVec S16 32) (k0_hw179 : k0_chk179 v244), ∀ a x, ((![v244] : Fin 1 → IVec S16 32) a x).toNat < S50048.size a := fun v244 k0_hw179 => k0_hw179

def k0_chk180 (v248 : IVec S16 32) : Prop :=
  (∀ a x, ((![v248] : Fin 1 → IVec S16 32) a x).toNat < S50048.size a)
theorem k0_idx175_inb : ∀ (v248 : IVec S16 32) (k0_hw180 : k0_chk180 v248), ∀ a x, ((![v248] : Fin 1 → IVec S16 32) a x).toNat < S50048.size a := fun v248 k0_hw180 => k0_hw180

def k0_chk181 (v252 : IVec S16 32) : Prop :=
  (∀ a x, ((![v252] : Fin 1 → IVec S16 32) a x).toNat < S50048.size a)
theorem k0_idx176_inb : ∀ (v252 : IVec S16 32) (k0_hw181 : k0_chk181 v252), ∀ a x, ((![v252] : Fin 1 → IVec S16 32) a x).toNat < S50048.size a := fun v252 k0_hw181 => k0_hw181

def k0_chk182 (v254 : IVec S16 32) : Prop :=
  (∀ a x, ((![v254] : Fin 1 → IVec S16 32) a x).toNat < S50048.size a)
theorem k0_idx177_inb : ∀ (v254 : IVec S16 32) (k0_hw182 : k0_chk182 v254), ∀ a x, ((![v254] : Fin 1 → IVec S16 32) a x).toNat < S50048.size a := fun v254 k0_hw182 => k0_hw182

def k0_chk183 (v256 : IVec S16 32) : Prop :=
  (∀ a x, ((![v256] : Fin 1 → IVec S16 32) a x).toNat < S50048.size a)
theorem k0_idx178_inb : ∀ (v256 : IVec S16 32) (k0_hw183 : k0_chk183 v256), ∀ a x, ((![v256] : Fin 1 → IVec S16 32) a x).toNat < S50048.size a := fun v256 k0_hw183 => k0_hw183

def k0_chk184 (v258 : IVec S16 32) : Prop :=
  (∀ a x, ((![v258] : Fin 1 → IVec S16 32) a x).toNat < S50048.size a)
theorem k0_idx179_inb : ∀ (v258 : IVec S16 32) (k0_hw184 : k0_chk184 v258), ∀ a x, ((![v258] : Fin 1 → IVec S16 32) a x).toNat < S50048.size a := fun v258 k0_hw184 => k0_hw184

def k0_chk185 (v260 : IVec S16 32) : Prop :=
  (∀ a x, ((![v260] : Fin 1 → IVec S16 32) a x).toNat < S50048.size a)
theorem k0_idx180_inb : ∀ (v260 : IVec S16 32) (k0_hw185 : k0_chk185 v260), ∀ a x, ((![v260] : Fin 1 → IVec S16 32) a x).toNat < S50048.size a := fun v260 k0_hw185 => k0_hw185

def k0_chk186 (v271 : IVec S16 32) : Prop :=
  (∀ a x, ((![v271] : Fin 1 → IVec S16 32) a x).toNat < S50048.size a)
theorem k0_idx181_inb : ∀ (v271 : IVec S16 32) (k0_hw186 : k0_chk186 v271), ∀ a x, ((![v271] : Fin 1 → IVec S16 32) a x).toNat < S50048.size a := fun v271 k0_hw186 => k0_hw186

def k0_chk187 (v275 : IVec S16 32) : Prop :=
  (∀ a x, ((![v275] : Fin 1 → IVec S16 32) a x).toNat < S50048.size a)
theorem k0_idx182_inb : ∀ (v275 : IVec S16 32) (k0_hw187 : k0_chk187 v275), ∀ a x, ((![v275] : Fin 1 → IVec S16 32) a x).toNat < S50048.size a := fun v275 k0_hw187 => k0_hw187

def k0_chk188 (v279 : IVec S16 32) : Prop :=
  (∀ a x, ((![v279] : Fin 1 → IVec S16 32) a x).toNat < S50048.size a)
theorem k0_idx183_inb : ∀ (v279 : IVec S16 32) (k0_hw188 : k0_chk188 v279), ∀ a x, ((![v279] : Fin 1 → IVec S16 32) a x).toNat < S50048.size a := fun v279 k0_hw188 => k0_hw188

def k0_chk189 (v283 : IVec S16 32) : Prop :=
  (∀ a x, ((![v283] : Fin 1 → IVec S16 32) a x).toNat < S50048.size a)
theorem k0_idx184_inb : ∀ (v283 : IVec S16 32) (k0_hw189 : k0_chk189 v283), ∀ a x, ((![v283] : Fin 1 → IVec S16 32) a x).toNat < S50048.size a := fun v283 k0_hw189 => k0_hw189

def k0_chk190 (v287 : IVec S16 32) : Prop :=
  (∀ a x, ((![v287] : Fin 1 → IVec S16 32) a x).toNat < S50048.size a)
theorem k0_idx185_inb : ∀ (v287 : IVec S16 32) (k0_hw190 : k0_chk190 v287), ∀ a x, ((![v287] : Fin 1 → IVec S16 32) a x).toNat < S50048.size a := fun v287 k0_hw190 => k0_hw190

def k0_chk191 (v291 : IVec S16 32) : Prop :=
  (∀ a x, ((![v291] : Fin 1 → IVec S16 32) a x).toNat < S50048.size a)
theorem k0_idx186_inb : ∀ (v291 : IVec S16 32) (k0_hw191 : k0_chk191 v291), ∀ a x, ((![v291] : Fin 1 → IVec S16 32) a x).toNat < S50048.size a := fun v291 k0_hw191 => k0_hw191

def k0_chk192 (v293 : IVec S16 32) : Prop :=
  (∀ a x, ((![v293] : Fin 1 → IVec S16 32) a x).toNat < S50048.size a)
theorem k0_idx187_inb : ∀ (v293 : IVec S16 32) (k0_hw192 : k0_chk192 v293), ∀ a x, ((![v293] : Fin 1 → IVec S16 32) a x).toNat < S50048.size a := fun v293 k0_hw192 => k0_hw192

def k0_chk193 (v295 : IVec S16 32) : Prop :=
  (∀ a x, ((![v295] : Fin 1 → IVec S16 32) a x).toNat < S50048.size a)
theorem k0_idx188_inb : ∀ (v295 : IVec S16 32) (k0_hw193 : k0_chk193 v295), ∀ a x, ((![v295] : Fin 1 → IVec S16 32) a x).toNat < S50048.size a := fun v295 k0_hw193 => k0_hw193

def k0_chk194 (v297 : IVec S16 32) : Prop :=
  (∀ a x, ((![v297] : Fin 1 → IVec S16 32) a x).toNat < S50048.size a)
theorem k0_idx189_inb : ∀ (v297 : IVec S16 32) (k0_hw194 : k0_chk194 v297), ∀ a x, ((![v297] : Fin 1 → IVec S16 32) a x).toNat < S50048.size a := fun v297 k0_hw194 => k0_hw194

def k0_chk195 (v299 : IVec S16 32) : Prop :=
  (∀ a x, ((![v299] : Fin 1 → IVec S16 32) a x).toNat < S50048.size a)
theorem k0_idx190_inb : ∀ (v299 : IVec S16 32) (k0_hw195 : k0_chk195 v299), ∀ a x, ((![v299] : Fin 1 → IVec S16 32) a x).toNat < S50048.size a := fun v299 k0_hw195 => k0_hw195

def k0_chk196 (v310 : IVec S16 32) : Prop :=
  (∀ a x, ((![v310] : Fin 1 → IVec S16 32) a x).toNat < S50048.size a)
theorem k0_idx191_inb : ∀ (v310 : IVec S16 32) (k0_hw196 : k0_chk196 v310), ∀ a x, ((![v310] : Fin 1 → IVec S16 32) a x).toNat < S50048.size a := fun v310 k0_hw196 => k0_hw196

def k0_chk197 (v314 : IVec S16 32) : Prop :=
  (∀ a x, ((![v314] : Fin 1 → IVec S16 32) a x).toNat < S50048.size a)
theorem k0_idx192_inb : ∀ (v314 : IVec S16 32) (k0_hw197 : k0_chk197 v314), ∀ a x, ((![v314] : Fin 1 → IVec S16 32) a x).toNat < S50048.size a := fun v314 k0_hw197 => k0_hw197

def k0_chk198 (v318 : IVec S16 32) : Prop :=
  (∀ a x, ((![v318] : Fin 1 → IVec S16 32) a x).toNat < S50048.size a)
theorem k0_idx193_inb : ∀ (v318 : IVec S16 32) (k0_hw198 : k0_chk198 v318), ∀ a x, ((![v318] : Fin 1 → IVec S16 32) a x).toNat < S50048.size a := fun v318 k0_hw198 => k0_hw198

def k0_chk199 (v322 : IVec S16 32) : Prop :=
  (∀ a x, ((![v322] : Fin 1 → IVec S16 32) a x).toNat < S50048.size a)
theorem k0_idx194_inb : ∀ (v322 : IVec S16 32) (k0_hw199 : k0_chk199 v322), ∀ a x, ((![v322] : Fin 1 → IVec S16 32) a x).toNat < S50048.size a := fun v322 k0_hw199 => k0_hw199

def k0_chk200 (v326 : IVec S16 32) : Prop :=
  (∀ a x, ((![v326] : Fin 1 → IVec S16 32) a x).toNat < S50048.size a)
theorem k0_idx195_inb : ∀ (v326 : IVec S16 32) (k0_hw200 : k0_chk200 v326), ∀ a x, ((![v326] : Fin 1 → IVec S16 32) a x).toNat < S50048.size a := fun v326 k0_hw200 => k0_hw200

def k0_chk201 (v330 : IVec S16 32) : Prop :=
  (∀ a x, ((![v330] : Fin 1 → IVec S16 32) a x).toNat < S50048.size a)
theorem k0_idx196_inb : ∀ (v330 : IVec S16 32) (k0_hw201 : k0_chk201 v330), ∀ a x, ((![v330] : Fin 1 → IVec S16 32) a x).toNat < S50048.size a := fun v330 k0_hw201 => k0_hw201

def k0_chk202 (v332 : IVec S16 32) : Prop :=
  (∀ a x, ((![v332] : Fin 1 → IVec S16 32) a x).toNat < S50048.size a)
theorem k0_idx197_inb : ∀ (v332 : IVec S16 32) (k0_hw202 : k0_chk202 v332), ∀ a x, ((![v332] : Fin 1 → IVec S16 32) a x).toNat < S50048.size a := fun v332 k0_hw202 => k0_hw202

def k0_chk203 (v334 : IVec S16 32) : Prop :=
  (∀ a x, ((![v334] : Fin 1 → IVec S16 32) a x).toNat < S50048.size a)
theorem k0_idx198_inb : ∀ (v334 : IVec S16 32) (k0_hw203 : k0_chk203 v334), ∀ a x, ((![v334] : Fin 1 → IVec S16 32) a x).toNat < S50048.size a := fun v334 k0_hw203 => k0_hw203

def k0_chk204 (v336 : IVec S16 32) : Prop :=
  (∀ a x, ((![v336] : Fin 1 → IVec S16 32) a x).toNat < S50048.size a)
theorem k0_idx199_inb : ∀ (v336 : IVec S16 32) (k0_hw204 : k0_chk204 v336), ∀ a x, ((![v336] : Fin 1 → IVec S16 32) a x).toNat < S50048.size a := fun v336 k0_hw204 => k0_hw204

def k0_chk205 (v338 : IVec S16 32) : Prop :=
  (∀ a x, ((![v338] : Fin 1 → IVec S16 32) a x).toNat < S50048.size a)
theorem k0_idx200_inb : ∀ (v338 : IVec S16 32) (k0_hw205 : k0_chk205 v338), ∀ a x, ((![v338] : Fin 1 → IVec S16 32) a x).toNat < S50048.size a := fun v338 k0_hw205 => k0_hw205
@[reducible] def k0_t15_loop (v354 : BitVec 32) : Scf.Loop 32 :=
  let c1_i32_150 : BitVec 32 := 1#32
  let c1_i32_149 : BitVec 32 := 1#32
  let v355 : BitVec 32 := Scalar.addi v354 c1_i32_149
  let v356 : BitVec 32 := Scalar.subi v355 c1_i32_150
  let c1_i32_152 : BitVec 32 := 1#32
  let v358 : BitVec 32 := Scalar.divsi v356 c1_i32_152
  let v359 : BitVec 32 := Scalar.muli v358 c1_i32_152
  let v360 : BitVec 32 := Scalar.addi c1_i32_150 v359
  let c1_i32_153 : BitVec 32 := 1#32
  ⟨c1_i32_150, v360, c1_i32_153⟩
def k0_cond2 (v188 : BitVec 32) (v227 : BitVec 32) (v266 : BitVec 32) (v305 : BitVec 32) (v344 : BitVec 32) : BitVec 1 :=
  let c0_i32_91 : BitVec 32 := 0#32
  let v189 : BitVec 32 := Scalar.maxsi c0_i32_91 v188
  let v228 : BitVec 32 := Scalar.maxsi v189 v227
  let v267 : BitVec 32 := Scalar.maxsi v228 v266
  let v306 : BitVec 32 := Scalar.maxsi v267 v305
  let v345 : BitVec 32 := Scalar.maxsi v306 v344
  let c0_i32_144 : BitVec 32 := 0#32
  let v346 : BitVec 1 := Scalar.cmpi .sgt v345 c0_i32_144
  let v347 : BitVec 32 := Scalar.extui v346
  let c0_i32_145 : BitVec 32 := 0#32
  let v348 : BitVec 1 := Scalar.cmpi .ne v347 c0_i32_145
  v348

def k0_chk207 (v188 : BitVec 32) (v227 : BitVec 32) (v266 : BitVec 32) (v305 : BitVec 32) (v344 : BitVec 32) (v422 : IVec S16 32) : Prop :=
  (∀ (k0_h2 : k0_cond2 v188 v227 v266 v305 v344 = 1#1), ∀ a x, ((![v422] : Fin 1 → IVec S16 32) a x).toNat < S50048.size a)
theorem k0_idx201_inb : ∀ (v188 : BitVec 32) (v227 : BitVec 32) (v266 : BitVec 32) (v305 : BitVec 32) (v344 : BitVec 32) (v422 : IVec S16 32) (k0_hw207 : k0_chk207 v188 v227 v266 v305 v344 v422), ∀ (k0_h2 : k0_cond2 v188 v227 v266 v305 v344 = 1#1), ∀ a x, ((![v422] : Fin 1 → IVec S16 32) a x).toNat < S50048.size a := fun v188 v227 v266 v305 v344 v422 k0_hw207 k0_h2 => k0_hw207 k0_h2

def k0_chk208 (v188 : BitVec 32) (v227 : BitVec 32) (v266 : BitVec 32) (v305 : BitVec 32) (v344 : BitVec 32) (v426 : IVec S16 32) : Prop :=
  (∀ (k0_h2 : k0_cond2 v188 v227 v266 v305 v344 = 1#1), ∀ a x, ((![v426] : Fin 1 → IVec S16 32) a x).toNat < S50048.size a)
theorem k0_idx202_inb : ∀ (v188 : BitVec 32) (v227 : BitVec 32) (v266 : BitVec 32) (v305 : BitVec 32) (v344 : BitVec 32) (v426 : IVec S16 32) (k0_hw208 : k0_chk208 v188 v227 v266 v305 v344 v426), ∀ (k0_h2 : k0_cond2 v188 v227 v266 v305 v344 = 1#1), ∀ a x, ((![v426] : Fin 1 → IVec S16 32) a x).toNat < S50048.size a := fun v188 v227 v266 v305 v344 v426 k0_hw208 k0_h2 => k0_hw208 k0_h2

def k0_chk209 (v188 : BitVec 32) (v227 : BitVec 32) (v266 : BitVec 32) (v305 : BitVec 32) (v344 : BitVec 32) (v430 : IVec S16 32) : Prop :=
  (∀ (k0_h2 : k0_cond2 v188 v227 v266 v305 v344 = 1#1), ∀ a x, ((![v430] : Fin 1 → IVec S16 32) a x).toNat < S50048.size a)
theorem k0_idx203_inb : ∀ (v188 : BitVec 32) (v227 : BitVec 32) (v266 : BitVec 32) (v305 : BitVec 32) (v344 : BitVec 32) (v430 : IVec S16 32) (k0_hw209 : k0_chk209 v188 v227 v266 v305 v344 v430), ∀ (k0_h2 : k0_cond2 v188 v227 v266 v305 v344 = 1#1), ∀ a x, ((![v430] : Fin 1 → IVec S16 32) a x).toNat < S50048.size a := fun v188 v227 v266 v305 v344 v430 k0_hw209 k0_h2 => k0_hw209 k0_h2

def k0_chk210 (v188 : BitVec 32) (v227 : BitVec 32) (v266 : BitVec 32) (v305 : BitVec 32) (v344 : BitVec 32) (v434 : IVec S16 32) : Prop :=
  (∀ (k0_h2 : k0_cond2 v188 v227 v266 v305 v344 = 1#1), ∀ a x, ((![v434] : Fin 1 → IVec S16 32) a x).toNat < S50048.size a)
theorem k0_idx204_inb : ∀ (v188 : BitVec 32) (v227 : BitVec 32) (v266 : BitVec 32) (v305 : BitVec 32) (v344 : BitVec 32) (v434 : IVec S16 32) (k0_hw210 : k0_chk210 v188 v227 v266 v305 v344 v434), ∀ (k0_h2 : k0_cond2 v188 v227 v266 v305 v344 = 1#1), ∀ a x, ((![v434] : Fin 1 → IVec S16 32) a x).toNat < S50048.size a := fun v188 v227 v266 v305 v344 v434 k0_hw210 k0_h2 => k0_hw210 k0_h2

def k0_chk211 (v188 : BitVec 32) (v227 : BitVec 32) (v266 : BitVec 32) (v305 : BitVec 32) (v344 : BitVec 32) (v438 : IVec S16 32) : Prop :=
  (∀ (k0_h2 : k0_cond2 v188 v227 v266 v305 v344 = 1#1), ∀ a x, ((![v438] : Fin 1 → IVec S16 32) a x).toNat < S50048.size a)
theorem k0_idx205_inb : ∀ (v188 : BitVec 32) (v227 : BitVec 32) (v266 : BitVec 32) (v305 : BitVec 32) (v344 : BitVec 32) (v438 : IVec S16 32) (k0_hw211 : k0_chk211 v188 v227 v266 v305 v344 v438), ∀ (k0_h2 : k0_cond2 v188 v227 v266 v305 v344 = 1#1), ∀ a x, ((![v438] : Fin 1 → IVec S16 32) a x).toNat < S50048.size a := fun v188 v227 v266 v305 v344 v438 k0_hw211 k0_h2 => k0_hw211 k0_h2

def k0_chk212 (v188 : BitVec 32) (v227 : BitVec 32) (v266 : BitVec 32) (v305 : BitVec 32) (v344 : BitVec 32) (v442 : IVec S16 32) : Prop :=
  (∀ (k0_h2 : k0_cond2 v188 v227 v266 v305 v344 = 1#1), ∀ a x, ((![v442] : Fin 1 → IVec S16 32) a x).toNat < S50048.size a)
theorem k0_idx206_inb : ∀ (v188 : BitVec 32) (v227 : BitVec 32) (v266 : BitVec 32) (v305 : BitVec 32) (v344 : BitVec 32) (v442 : IVec S16 32) (k0_hw212 : k0_chk212 v188 v227 v266 v305 v344 v442), ∀ (k0_h2 : k0_cond2 v188 v227 v266 v305 v344 = 1#1), ∀ a x, ((![v442] : Fin 1 → IVec S16 32) a x).toNat < S50048.size a := fun v188 v227 v266 v305 v344 v442 k0_hw212 k0_h2 => k0_hw212 k0_h2

def k0_chk213 (v188 : BitVec 32) (v227 : BitVec 32) (v266 : BitVec 32) (v305 : BitVec 32) (v344 : BitVec 32) (v444 : IVec S16 32) : Prop :=
  (∀ (k0_h2 : k0_cond2 v188 v227 v266 v305 v344 = 1#1), ∀ a x, ((![v444] : Fin 1 → IVec S16 32) a x).toNat < S50048.size a)
theorem k0_idx207_inb : ∀ (v188 : BitVec 32) (v227 : BitVec 32) (v266 : BitVec 32) (v305 : BitVec 32) (v344 : BitVec 32) (v444 : IVec S16 32) (k0_hw213 : k0_chk213 v188 v227 v266 v305 v344 v444), ∀ (k0_h2 : k0_cond2 v188 v227 v266 v305 v344 = 1#1), ∀ a x, ((![v444] : Fin 1 → IVec S16 32) a x).toNat < S50048.size a := fun v188 v227 v266 v305 v344 v444 k0_hw213 k0_h2 => k0_hw213 k0_h2

def k0_chk214 (v188 : BitVec 32) (v227 : BitVec 32) (v266 : BitVec 32) (v305 : BitVec 32) (v344 : BitVec 32) (v446 : IVec S16 32) : Prop :=
  (∀ (k0_h2 : k0_cond2 v188 v227 v266 v305 v344 = 1#1), ∀ a x, ((![v446] : Fin 1 → IVec S16 32) a x).toNat < S50048.size a)
theorem k0_idx208_inb : ∀ (v188 : BitVec 32) (v227 : BitVec 32) (v266 : BitVec 32) (v305 : BitVec 32) (v344 : BitVec 32) (v446 : IVec S16 32) (k0_hw214 : k0_chk214 v188 v227 v266 v305 v344 v446), ∀ (k0_h2 : k0_cond2 v188 v227 v266 v305 v344 = 1#1), ∀ a x, ((![v446] : Fin 1 → IVec S16 32) a x).toNat < S50048.size a := fun v188 v227 v266 v305 v344 v446 k0_hw214 k0_h2 => k0_hw214 k0_h2

def k0_chk215 (v188 : BitVec 32) (v227 : BitVec 32) (v266 : BitVec 32) (v305 : BitVec 32) (v344 : BitVec 32) (v448 : IVec S16 32) : Prop :=
  (∀ (k0_h2 : k0_cond2 v188 v227 v266 v305 v344 = 1#1), ∀ a x, ((![v448] : Fin 1 → IVec S16 32) a x).toNat < S50048.size a)
theorem k0_idx209_inb : ∀ (v188 : BitVec 32) (v227 : BitVec 32) (v266 : BitVec 32) (v305 : BitVec 32) (v344 : BitVec 32) (v448 : IVec S16 32) (k0_hw215 : k0_chk215 v188 v227 v266 v305 v344 v448), ∀ (k0_h2 : k0_cond2 v188 v227 v266 v305 v344 = 1#1), ∀ a x, ((![v448] : Fin 1 → IVec S16 32) a x).toNat < S50048.size a := fun v188 v227 v266 v305 v344 v448 k0_hw215 k0_h2 => k0_hw215 k0_h2

def k0_chk216 (v188 : BitVec 32) (v227 : BitVec 32) (v266 : BitVec 32) (v305 : BitVec 32) (v344 : BitVec 32) (v450 : IVec S16 32) : Prop :=
  (∀ (k0_h2 : k0_cond2 v188 v227 v266 v305 v344 = 1#1), ∀ a x, ((![v450] : Fin 1 → IVec S16 32) a x).toNat < S50048.size a)
theorem k0_idx210_inb : ∀ (v188 : BitVec 32) (v227 : BitVec 32) (v266 : BitVec 32) (v305 : BitVec 32) (v344 : BitVec 32) (v450 : IVec S16 32) (k0_hw216 : k0_chk216 v188 v227 v266 v305 v344 v450), ∀ (k0_h2 : k0_cond2 v188 v227 v266 v305 v344 = 1#1), ∀ a x, ((![v450] : Fin 1 → IVec S16 32) a x).toNat < S50048.size a := fun v188 v227 v266 v305 v344 v450 k0_hw216 k0_h2 => k0_hw216 k0_h2
@[reducible] def k0_t16_loop (v354 : BitVec 32) : Scf.Loop 32 :=
  let c1_i32_150 : BitVec 32 := 1#32
  let c1_i32_149 : BitVec 32 := 1#32
  let v355 : BitVec 32 := Scalar.addi v354 c1_i32_149
  let v356 : BitVec 32 := Scalar.subi v355 c1_i32_150
  let c1_i32_152 : BitVec 32 := 1#32
  let v358 : BitVec 32 := Scalar.divsi v356 c1_i32_152
  let v359 : BitVec 32 := Scalar.muli v358 c1_i32_152
  let v360 : BitVec 32 := Scalar.addi c1_i32_150 v359
  let v357 : BitVec 32 := Scalar.addi c1_i32_150 v356
  let c1_i32_154 : BitVec 32 := 1#32
  ⟨v360, v357, c1_i32_154⟩

def k0_chk206 (v188 : BitVec 32) (v227 : BitVec 32) (v266 : BitVec 32) (v305 : BitVec 32) (v344 : BitVec 32) (v354 : BitVec 32) : Prop :=
  (∀ (k0_h2 : k0_cond2 v188 v227 v266 v305 v344 = 1#1), (k0_t15_loop v354).OK) ∧
  (∀ (k0_h2 : k0_cond2 v188 v227 v266 v305 v344 = 1#1), (k0_t16_loop v354).OK)
theorem k0_t15_ok : ∀ (v188 : BitVec 32) (v227 : BitVec 32) (v266 : BitVec 32) (v305 : BitVec 32) (v344 : BitVec 32) (v354 : BitVec 32) (k0_hw206 : k0_chk206 v188 v227 v266 v305 v344 v354), ∀ (k0_h2 : k0_cond2 v188 v227 v266 v305 v344 = 1#1), (k0_t15_loop v354).OK := fun v188 v227 v266 v305 v344 v354 k0_hw206 k0_h2 => k0_hw206.1 k0_h2
theorem k0_t16_ok : ∀ (v188 : BitVec 32) (v227 : BitVec 32) (v266 : BitVec 32) (v305 : BitVec 32) (v344 : BitVec 32) (v354 : BitVec 32) (k0_hw206 : k0_chk206 v188 v227 v266 v305 v344 v354), ∀ (k0_h2 : k0_cond2 v188 v227 v266 v305 v344 = 1#1), (k0_t16_loop v354).OK := fun v188 v227 v266 v305 v344 v354 k0_hw206 k0_h2 => k0_hw206.2 k0_h2

def k0_chk217 (v188 : BitVec 32) (v227 : BitVec 32) (v266 : BitVec 32) (v305 : BitVec 32) (v344 : BitVec 32) (v422 : IVec S16 32) : Prop :=
  (∀ (k0_h2 : k0_cond2 v188 v227 v266 v305 v344 = 1#1), ∀ a x, ((![v422] : Fin 1 → IVec S16 32) a x).toNat < S50048.size a)
theorem k0_idx211_inb : ∀ (v188 : BitVec 32) (v227 : BitVec 32) (v266 : BitVec 32) (v305 : BitVec 32) (v344 : BitVec 32) (v422 : IVec S16 32) (k0_hw217 : k0_chk217 v188 v227 v266 v305 v344 v422), ∀ (k0_h2 : k0_cond2 v188 v227 v266 v305 v344 = 1#1), ∀ a x, ((![v422] : Fin 1 → IVec S16 32) a x).toNat < S50048.size a := fun v188 v227 v266 v305 v344 v422 k0_hw217 k0_h2 => k0_hw217 k0_h2

def k0_chk218 (v188 : BitVec 32) (v227 : BitVec 32) (v266 : BitVec 32) (v305 : BitVec 32) (v344 : BitVec 32) (v426 : IVec S16 32) : Prop :=
  (∀ (k0_h2 : k0_cond2 v188 v227 v266 v305 v344 = 1#1), ∀ a x, ((![v426] : Fin 1 → IVec S16 32) a x).toNat < S50048.size a)
theorem k0_idx212_inb : ∀ (v188 : BitVec 32) (v227 : BitVec 32) (v266 : BitVec 32) (v305 : BitVec 32) (v344 : BitVec 32) (v426 : IVec S16 32) (k0_hw218 : k0_chk218 v188 v227 v266 v305 v344 v426), ∀ (k0_h2 : k0_cond2 v188 v227 v266 v305 v344 = 1#1), ∀ a x, ((![v426] : Fin 1 → IVec S16 32) a x).toNat < S50048.size a := fun v188 v227 v266 v305 v344 v426 k0_hw218 k0_h2 => k0_hw218 k0_h2

def k0_chk219 (v188 : BitVec 32) (v227 : BitVec 32) (v266 : BitVec 32) (v305 : BitVec 32) (v344 : BitVec 32) (v430 : IVec S16 32) : Prop :=
  (∀ (k0_h2 : k0_cond2 v188 v227 v266 v305 v344 = 1#1), ∀ a x, ((![v430] : Fin 1 → IVec S16 32) a x).toNat < S50048.size a)
theorem k0_idx213_inb : ∀ (v188 : BitVec 32) (v227 : BitVec 32) (v266 : BitVec 32) (v305 : BitVec 32) (v344 : BitVec 32) (v430 : IVec S16 32) (k0_hw219 : k0_chk219 v188 v227 v266 v305 v344 v430), ∀ (k0_h2 : k0_cond2 v188 v227 v266 v305 v344 = 1#1), ∀ a x, ((![v430] : Fin 1 → IVec S16 32) a x).toNat < S50048.size a := fun v188 v227 v266 v305 v344 v430 k0_hw219 k0_h2 => k0_hw219 k0_h2

def k0_chk220 (v188 : BitVec 32) (v227 : BitVec 32) (v266 : BitVec 32) (v305 : BitVec 32) (v344 : BitVec 32) (v434 : IVec S16 32) : Prop :=
  (∀ (k0_h2 : k0_cond2 v188 v227 v266 v305 v344 = 1#1), ∀ a x, ((![v434] : Fin 1 → IVec S16 32) a x).toNat < S50048.size a)
theorem k0_idx214_inb : ∀ (v188 : BitVec 32) (v227 : BitVec 32) (v266 : BitVec 32) (v305 : BitVec 32) (v344 : BitVec 32) (v434 : IVec S16 32) (k0_hw220 : k0_chk220 v188 v227 v266 v305 v344 v434), ∀ (k0_h2 : k0_cond2 v188 v227 v266 v305 v344 = 1#1), ∀ a x, ((![v434] : Fin 1 → IVec S16 32) a x).toNat < S50048.size a := fun v188 v227 v266 v305 v344 v434 k0_hw220 k0_h2 => k0_hw220 k0_h2

def k0_chk221 (v188 : BitVec 32) (v227 : BitVec 32) (v266 : BitVec 32) (v305 : BitVec 32) (v344 : BitVec 32) (v438 : IVec S16 32) : Prop :=
  (∀ (k0_h2 : k0_cond2 v188 v227 v266 v305 v344 = 1#1), ∀ a x, ((![v438] : Fin 1 → IVec S16 32) a x).toNat < S50048.size a)
theorem k0_idx215_inb : ∀ (v188 : BitVec 32) (v227 : BitVec 32) (v266 : BitVec 32) (v305 : BitVec 32) (v344 : BitVec 32) (v438 : IVec S16 32) (k0_hw221 : k0_chk221 v188 v227 v266 v305 v344 v438), ∀ (k0_h2 : k0_cond2 v188 v227 v266 v305 v344 = 1#1), ∀ a x, ((![v438] : Fin 1 → IVec S16 32) a x).toNat < S50048.size a := fun v188 v227 v266 v305 v344 v438 k0_hw221 k0_h2 => k0_hw221 k0_h2

def k0_chk222 (v188 : BitVec 32) (v227 : BitVec 32) (v266 : BitVec 32) (v305 : BitVec 32) (v344 : BitVec 32) (v442 : IVec S16 32) : Prop :=
  (∀ (k0_h2 : k0_cond2 v188 v227 v266 v305 v344 = 1#1), ∀ a x, ((![v442] : Fin 1 → IVec S16 32) a x).toNat < S50048.size a)
theorem k0_idx216_inb : ∀ (v188 : BitVec 32) (v227 : BitVec 32) (v266 : BitVec 32) (v305 : BitVec 32) (v344 : BitVec 32) (v442 : IVec S16 32) (k0_hw222 : k0_chk222 v188 v227 v266 v305 v344 v442), ∀ (k0_h2 : k0_cond2 v188 v227 v266 v305 v344 = 1#1), ∀ a x, ((![v442] : Fin 1 → IVec S16 32) a x).toNat < S50048.size a := fun v188 v227 v266 v305 v344 v442 k0_hw222 k0_h2 => k0_hw222 k0_h2

def k0_chk223 (v188 : BitVec 32) (v227 : BitVec 32) (v266 : BitVec 32) (v305 : BitVec 32) (v344 : BitVec 32) (v444 : IVec S16 32) : Prop :=
  (∀ (k0_h2 : k0_cond2 v188 v227 v266 v305 v344 = 1#1), ∀ a x, ((![v444] : Fin 1 → IVec S16 32) a x).toNat < S50048.size a)
theorem k0_idx217_inb : ∀ (v188 : BitVec 32) (v227 : BitVec 32) (v266 : BitVec 32) (v305 : BitVec 32) (v344 : BitVec 32) (v444 : IVec S16 32) (k0_hw223 : k0_chk223 v188 v227 v266 v305 v344 v444), ∀ (k0_h2 : k0_cond2 v188 v227 v266 v305 v344 = 1#1), ∀ a x, ((![v444] : Fin 1 → IVec S16 32) a x).toNat < S50048.size a := fun v188 v227 v266 v305 v344 v444 k0_hw223 k0_h2 => k0_hw223 k0_h2

def k0_chk224 (v188 : BitVec 32) (v227 : BitVec 32) (v266 : BitVec 32) (v305 : BitVec 32) (v344 : BitVec 32) (v446 : IVec S16 32) : Prop :=
  (∀ (k0_h2 : k0_cond2 v188 v227 v266 v305 v344 = 1#1), ∀ a x, ((![v446] : Fin 1 → IVec S16 32) a x).toNat < S50048.size a)
theorem k0_idx218_inb : ∀ (v188 : BitVec 32) (v227 : BitVec 32) (v266 : BitVec 32) (v305 : BitVec 32) (v344 : BitVec 32) (v446 : IVec S16 32) (k0_hw224 : k0_chk224 v188 v227 v266 v305 v344 v446), ∀ (k0_h2 : k0_cond2 v188 v227 v266 v305 v344 = 1#1), ∀ a x, ((![v446] : Fin 1 → IVec S16 32) a x).toNat < S50048.size a := fun v188 v227 v266 v305 v344 v446 k0_hw224 k0_h2 => k0_hw224 k0_h2

def k0_chk225 (v188 : BitVec 32) (v227 : BitVec 32) (v266 : BitVec 32) (v305 : BitVec 32) (v344 : BitVec 32) (v448 : IVec S16 32) : Prop :=
  (∀ (k0_h2 : k0_cond2 v188 v227 v266 v305 v344 = 1#1), ∀ a x, ((![v448] : Fin 1 → IVec S16 32) a x).toNat < S50048.size a)
theorem k0_idx219_inb : ∀ (v188 : BitVec 32) (v227 : BitVec 32) (v266 : BitVec 32) (v305 : BitVec 32) (v344 : BitVec 32) (v448 : IVec S16 32) (k0_hw225 : k0_chk225 v188 v227 v266 v305 v344 v448), ∀ (k0_h2 : k0_cond2 v188 v227 v266 v305 v344 = 1#1), ∀ a x, ((![v448] : Fin 1 → IVec S16 32) a x).toNat < S50048.size a := fun v188 v227 v266 v305 v344 v448 k0_hw225 k0_h2 => k0_hw225 k0_h2

def k0_chk226 (v188 : BitVec 32) (v227 : BitVec 32) (v266 : BitVec 32) (v305 : BitVec 32) (v344 : BitVec 32) (v450 : IVec S16 32) : Prop :=
  (∀ (k0_h2 : k0_cond2 v188 v227 v266 v305 v344 = 1#1), ∀ a x, ((![v450] : Fin 1 → IVec S16 32) a x).toNat < S50048.size a)
theorem k0_idx220_inb : ∀ (v188 : BitVec 32) (v227 : BitVec 32) (v266 : BitVec 32) (v305 : BitVec 32) (v344 : BitVec 32) (v450 : IVec S16 32) (k0_hw226 : k0_chk226 v188 v227 v266 v305 v344 v450), ∀ (k0_h2 : k0_cond2 v188 v227 v266 v305 v344 = 1#1), ∀ a x, ((![v450] : Fin 1 → IVec S16 32) a x).toNat < S50048.size a := fun v188 v227 v266 v305 v344 v450 k0_hw226 k0_h2 => k0_hw226 k0_h2
@[reducible] def k0_t17_loop (v368 : BitVec 32) : Scf.Loop 32 :=
  let c1_i32_158 : BitVec 32 := 1#32
  let c1_i32_157 : BitVec 32 := 1#32
  let v369 : BitVec 32 := Scalar.addi v368 c1_i32_157
  let v370 : BitVec 32 := Scalar.subi v369 c1_i32_158
  let c1_i32_160 : BitVec 32 := 1#32
  let v372 : BitVec 32 := Scalar.divsi v370 c1_i32_160
  let v373 : BitVec 32 := Scalar.muli v372 c1_i32_160
  let v374 : BitVec 32 := Scalar.addi c1_i32_158 v373
  let c1_i32_161 : BitVec 32 := 1#32
  ⟨c1_i32_158, v374, c1_i32_161⟩

def k0_chk228 (v188 : BitVec 32) (v227 : BitVec 32) (v266 : BitVec 32) (v305 : BitVec 32) (v344 : BitVec 32) (v422 : IVec S16 32) : Prop :=
  (∀ (k0_h2 : k0_cond2 v188 v227 v266 v305 v344 = 1#1), ∀ a x, ((![v422] : Fin 1 → IVec S16 32) a x).toNat < S50048.size a)
theorem k0_idx221_inb : ∀ (v188 : BitVec 32) (v227 : BitVec 32) (v266 : BitVec 32) (v305 : BitVec 32) (v344 : BitVec 32) (v422 : IVec S16 32) (k0_hw228 : k0_chk228 v188 v227 v266 v305 v344 v422), ∀ (k0_h2 : k0_cond2 v188 v227 v266 v305 v344 = 1#1), ∀ a x, ((![v422] : Fin 1 → IVec S16 32) a x).toNat < S50048.size a := fun v188 v227 v266 v305 v344 v422 k0_hw228 k0_h2 => k0_hw228 k0_h2

def k0_chk229 (v188 : BitVec 32) (v227 : BitVec 32) (v266 : BitVec 32) (v305 : BitVec 32) (v344 : BitVec 32) (v426 : IVec S16 32) : Prop :=
  (∀ (k0_h2 : k0_cond2 v188 v227 v266 v305 v344 = 1#1), ∀ a x, ((![v426] : Fin 1 → IVec S16 32) a x).toNat < S50048.size a)
theorem k0_idx222_inb : ∀ (v188 : BitVec 32) (v227 : BitVec 32) (v266 : BitVec 32) (v305 : BitVec 32) (v344 : BitVec 32) (v426 : IVec S16 32) (k0_hw229 : k0_chk229 v188 v227 v266 v305 v344 v426), ∀ (k0_h2 : k0_cond2 v188 v227 v266 v305 v344 = 1#1), ∀ a x, ((![v426] : Fin 1 → IVec S16 32) a x).toNat < S50048.size a := fun v188 v227 v266 v305 v344 v426 k0_hw229 k0_h2 => k0_hw229 k0_h2

def k0_chk230 (v188 : BitVec 32) (v227 : BitVec 32) (v266 : BitVec 32) (v305 : BitVec 32) (v344 : BitVec 32) (v430 : IVec S16 32) : Prop :=
  (∀ (k0_h2 : k0_cond2 v188 v227 v266 v305 v344 = 1#1), ∀ a x, ((![v430] : Fin 1 → IVec S16 32) a x).toNat < S50048.size a)
theorem k0_idx223_inb : ∀ (v188 : BitVec 32) (v227 : BitVec 32) (v266 : BitVec 32) (v305 : BitVec 32) (v344 : BitVec 32) (v430 : IVec S16 32) (k0_hw230 : k0_chk230 v188 v227 v266 v305 v344 v430), ∀ (k0_h2 : k0_cond2 v188 v227 v266 v305 v344 = 1#1), ∀ a x, ((![v430] : Fin 1 → IVec S16 32) a x).toNat < S50048.size a := fun v188 v227 v266 v305 v344 v430 k0_hw230 k0_h2 => k0_hw230 k0_h2

def k0_chk231 (v188 : BitVec 32) (v227 : BitVec 32) (v266 : BitVec 32) (v305 : BitVec 32) (v344 : BitVec 32) (v434 : IVec S16 32) : Prop :=
  (∀ (k0_h2 : k0_cond2 v188 v227 v266 v305 v344 = 1#1), ∀ a x, ((![v434] : Fin 1 → IVec S16 32) a x).toNat < S50048.size a)
theorem k0_idx224_inb : ∀ (v188 : BitVec 32) (v227 : BitVec 32) (v266 : BitVec 32) (v305 : BitVec 32) (v344 : BitVec 32) (v434 : IVec S16 32) (k0_hw231 : k0_chk231 v188 v227 v266 v305 v344 v434), ∀ (k0_h2 : k0_cond2 v188 v227 v266 v305 v344 = 1#1), ∀ a x, ((![v434] : Fin 1 → IVec S16 32) a x).toNat < S50048.size a := fun v188 v227 v266 v305 v344 v434 k0_hw231 k0_h2 => k0_hw231 k0_h2

def k0_chk232 (v188 : BitVec 32) (v227 : BitVec 32) (v266 : BitVec 32) (v305 : BitVec 32) (v344 : BitVec 32) (v438 : IVec S16 32) : Prop :=
  (∀ (k0_h2 : k0_cond2 v188 v227 v266 v305 v344 = 1#1), ∀ a x, ((![v438] : Fin 1 → IVec S16 32) a x).toNat < S50048.size a)
theorem k0_idx225_inb : ∀ (v188 : BitVec 32) (v227 : BitVec 32) (v266 : BitVec 32) (v305 : BitVec 32) (v344 : BitVec 32) (v438 : IVec S16 32) (k0_hw232 : k0_chk232 v188 v227 v266 v305 v344 v438), ∀ (k0_h2 : k0_cond2 v188 v227 v266 v305 v344 = 1#1), ∀ a x, ((![v438] : Fin 1 → IVec S16 32) a x).toNat < S50048.size a := fun v188 v227 v266 v305 v344 v438 k0_hw232 k0_h2 => k0_hw232 k0_h2

def k0_chk233 (v188 : BitVec 32) (v227 : BitVec 32) (v266 : BitVec 32) (v305 : BitVec 32) (v344 : BitVec 32) (v442 : IVec S16 32) : Prop :=
  (∀ (k0_h2 : k0_cond2 v188 v227 v266 v305 v344 = 1#1), ∀ a x, ((![v442] : Fin 1 → IVec S16 32) a x).toNat < S50048.size a)
theorem k0_idx226_inb : ∀ (v188 : BitVec 32) (v227 : BitVec 32) (v266 : BitVec 32) (v305 : BitVec 32) (v344 : BitVec 32) (v442 : IVec S16 32) (k0_hw233 : k0_chk233 v188 v227 v266 v305 v344 v442), ∀ (k0_h2 : k0_cond2 v188 v227 v266 v305 v344 = 1#1), ∀ a x, ((![v442] : Fin 1 → IVec S16 32) a x).toNat < S50048.size a := fun v188 v227 v266 v305 v344 v442 k0_hw233 k0_h2 => k0_hw233 k0_h2

def k0_chk234 (v188 : BitVec 32) (v227 : BitVec 32) (v266 : BitVec 32) (v305 : BitVec 32) (v344 : BitVec 32) (v444 : IVec S16 32) : Prop :=
  (∀ (k0_h2 : k0_cond2 v188 v227 v266 v305 v344 = 1#1), ∀ a x, ((![v444] : Fin 1 → IVec S16 32) a x).toNat < S50048.size a)
theorem k0_idx227_inb : ∀ (v188 : BitVec 32) (v227 : BitVec 32) (v266 : BitVec 32) (v305 : BitVec 32) (v344 : BitVec 32) (v444 : IVec S16 32) (k0_hw234 : k0_chk234 v188 v227 v266 v305 v344 v444), ∀ (k0_h2 : k0_cond2 v188 v227 v266 v305 v344 = 1#1), ∀ a x, ((![v444] : Fin 1 → IVec S16 32) a x).toNat < S50048.size a := fun v188 v227 v266 v305 v344 v444 k0_hw234 k0_h2 => k0_hw234 k0_h2

def k0_chk235 (v188 : BitVec 32) (v227 : BitVec 32) (v266 : BitVec 32) (v305 : BitVec 32) (v344 : BitVec 32) (v446 : IVec S16 32) : Prop :=
  (∀ (k0_h2 : k0_cond2 v188 v227 v266 v305 v344 = 1#1), ∀ a x, ((![v446] : Fin 1 → IVec S16 32) a x).toNat < S50048.size a)
theorem k0_idx228_inb : ∀ (v188 : BitVec 32) (v227 : BitVec 32) (v266 : BitVec 32) (v305 : BitVec 32) (v344 : BitVec 32) (v446 : IVec S16 32) (k0_hw235 : k0_chk235 v188 v227 v266 v305 v344 v446), ∀ (k0_h2 : k0_cond2 v188 v227 v266 v305 v344 = 1#1), ∀ a x, ((![v446] : Fin 1 → IVec S16 32) a x).toNat < S50048.size a := fun v188 v227 v266 v305 v344 v446 k0_hw235 k0_h2 => k0_hw235 k0_h2

def k0_chk236 (v188 : BitVec 32) (v227 : BitVec 32) (v266 : BitVec 32) (v305 : BitVec 32) (v344 : BitVec 32) (v448 : IVec S16 32) : Prop :=
  (∀ (k0_h2 : k0_cond2 v188 v227 v266 v305 v344 = 1#1), ∀ a x, ((![v448] : Fin 1 → IVec S16 32) a x).toNat < S50048.size a)
theorem k0_idx229_inb : ∀ (v188 : BitVec 32) (v227 : BitVec 32) (v266 : BitVec 32) (v305 : BitVec 32) (v344 : BitVec 32) (v448 : IVec S16 32) (k0_hw236 : k0_chk236 v188 v227 v266 v305 v344 v448), ∀ (k0_h2 : k0_cond2 v188 v227 v266 v305 v344 = 1#1), ∀ a x, ((![v448] : Fin 1 → IVec S16 32) a x).toNat < S50048.size a := fun v188 v227 v266 v305 v344 v448 k0_hw236 k0_h2 => k0_hw236 k0_h2

def k0_chk237 (v188 : BitVec 32) (v227 : BitVec 32) (v266 : BitVec 32) (v305 : BitVec 32) (v344 : BitVec 32) (v450 : IVec S16 32) : Prop :=
  (∀ (k0_h2 : k0_cond2 v188 v227 v266 v305 v344 = 1#1), ∀ a x, ((![v450] : Fin 1 → IVec S16 32) a x).toNat < S50048.size a)
theorem k0_idx230_inb : ∀ (v188 : BitVec 32) (v227 : BitVec 32) (v266 : BitVec 32) (v305 : BitVec 32) (v344 : BitVec 32) (v450 : IVec S16 32) (k0_hw237 : k0_chk237 v188 v227 v266 v305 v344 v450), ∀ (k0_h2 : k0_cond2 v188 v227 v266 v305 v344 = 1#1), ∀ a x, ((![v450] : Fin 1 → IVec S16 32) a x).toNat < S50048.size a := fun v188 v227 v266 v305 v344 v450 k0_hw237 k0_h2 => k0_hw237 k0_h2
@[reducible] def k0_t18_loop (v368 : BitVec 32) : Scf.Loop 32 :=
  let c1_i32_158 : BitVec 32 := 1#32
  let c1_i32_157 : BitVec 32 := 1#32
  let v369 : BitVec 32 := Scalar.addi v368 c1_i32_157
  let v370 : BitVec 32 := Scalar.subi v369 c1_i32_158
  let c1_i32_160 : BitVec 32 := 1#32
  let v372 : BitVec 32 := Scalar.divsi v370 c1_i32_160
  let v373 : BitVec 32 := Scalar.muli v372 c1_i32_160
  let v374 : BitVec 32 := Scalar.addi c1_i32_158 v373
  let v371 : BitVec 32 := Scalar.addi c1_i32_158 v370
  let c1_i32_162 : BitVec 32 := 1#32
  ⟨v374, v371, c1_i32_162⟩

def k0_chk227 (v188 : BitVec 32) (v227 : BitVec 32) (v266 : BitVec 32) (v305 : BitVec 32) (v344 : BitVec 32) (v368 : BitVec 32) : Prop :=
  (∀ (k0_h2 : k0_cond2 v188 v227 v266 v305 v344 = 1#1), (k0_t17_loop v368).OK) ∧
  (∀ (k0_h2 : k0_cond2 v188 v227 v266 v305 v344 = 1#1), (k0_t18_loop v368).OK)
theorem k0_t17_ok : ∀ (v188 : BitVec 32) (v227 : BitVec 32) (v266 : BitVec 32) (v305 : BitVec 32) (v344 : BitVec 32) (v368 : BitVec 32) (k0_hw227 : k0_chk227 v188 v227 v266 v305 v344 v368), ∀ (k0_h2 : k0_cond2 v188 v227 v266 v305 v344 = 1#1), (k0_t17_loop v368).OK := fun v188 v227 v266 v305 v344 v368 k0_hw227 k0_h2 => k0_hw227.1 k0_h2
theorem k0_t18_ok : ∀ (v188 : BitVec 32) (v227 : BitVec 32) (v266 : BitVec 32) (v305 : BitVec 32) (v344 : BitVec 32) (v368 : BitVec 32) (k0_hw227 : k0_chk227 v188 v227 v266 v305 v344 v368), ∀ (k0_h2 : k0_cond2 v188 v227 v266 v305 v344 = 1#1), (k0_t18_loop v368).OK := fun v188 v227 v266 v305 v344 v368 k0_hw227 k0_h2 => k0_hw227.2 k0_h2

def k0_chk238 (v188 : BitVec 32) (v227 : BitVec 32) (v266 : BitVec 32) (v305 : BitVec 32) (v344 : BitVec 32) (v422 : IVec S16 32) : Prop :=
  (∀ (k0_h2 : k0_cond2 v188 v227 v266 v305 v344 = 1#1), ∀ a x, ((![v422] : Fin 1 → IVec S16 32) a x).toNat < S50048.size a)
theorem k0_idx231_inb : ∀ (v188 : BitVec 32) (v227 : BitVec 32) (v266 : BitVec 32) (v305 : BitVec 32) (v344 : BitVec 32) (v422 : IVec S16 32) (k0_hw238 : k0_chk238 v188 v227 v266 v305 v344 v422), ∀ (k0_h2 : k0_cond2 v188 v227 v266 v305 v344 = 1#1), ∀ a x, ((![v422] : Fin 1 → IVec S16 32) a x).toNat < S50048.size a := fun v188 v227 v266 v305 v344 v422 k0_hw238 k0_h2 => k0_hw238 k0_h2

def k0_chk239 (v188 : BitVec 32) (v227 : BitVec 32) (v266 : BitVec 32) (v305 : BitVec 32) (v344 : BitVec 32) (v426 : IVec S16 32) : Prop :=
  (∀ (k0_h2 : k0_cond2 v188 v227 v266 v305 v344 = 1#1), ∀ a x, ((![v426] : Fin 1 → IVec S16 32) a x).toNat < S50048.size a)
theorem k0_idx232_inb : ∀ (v188 : BitVec 32) (v227 : BitVec 32) (v266 : BitVec 32) (v305 : BitVec 32) (v344 : BitVec 32) (v426 : IVec S16 32) (k0_hw239 : k0_chk239 v188 v227 v266 v305 v344 v426), ∀ (k0_h2 : k0_cond2 v188 v227 v266 v305 v344 = 1#1), ∀ a x, ((![v426] : Fin 1 → IVec S16 32) a x).toNat < S50048.size a := fun v188 v227 v266 v305 v344 v426 k0_hw239 k0_h2 => k0_hw239 k0_h2

def k0_chk240 (v188 : BitVec 32) (v227 : BitVec 32) (v266 : BitVec 32) (v305 : BitVec 32) (v344 : BitVec 32) (v430 : IVec S16 32) : Prop :=
  (∀ (k0_h2 : k0_cond2 v188 v227 v266 v305 v344 = 1#1), ∀ a x, ((![v430] : Fin 1 → IVec S16 32) a x).toNat < S50048.size a)
theorem k0_idx233_inb : ∀ (v188 : BitVec 32) (v227 : BitVec 32) (v266 : BitVec 32) (v305 : BitVec 32) (v344 : BitVec 32) (v430 : IVec S16 32) (k0_hw240 : k0_chk240 v188 v227 v266 v305 v344 v430), ∀ (k0_h2 : k0_cond2 v188 v227 v266 v305 v344 = 1#1), ∀ a x, ((![v430] : Fin 1 → IVec S16 32) a x).toNat < S50048.size a := fun v188 v227 v266 v305 v344 v430 k0_hw240 k0_h2 => k0_hw240 k0_h2

def k0_chk241 (v188 : BitVec 32) (v227 : BitVec 32) (v266 : BitVec 32) (v305 : BitVec 32) (v344 : BitVec 32) (v434 : IVec S16 32) : Prop :=
  (∀ (k0_h2 : k0_cond2 v188 v227 v266 v305 v344 = 1#1), ∀ a x, ((![v434] : Fin 1 → IVec S16 32) a x).toNat < S50048.size a)
theorem k0_idx234_inb : ∀ (v188 : BitVec 32) (v227 : BitVec 32) (v266 : BitVec 32) (v305 : BitVec 32) (v344 : BitVec 32) (v434 : IVec S16 32) (k0_hw241 : k0_chk241 v188 v227 v266 v305 v344 v434), ∀ (k0_h2 : k0_cond2 v188 v227 v266 v305 v344 = 1#1), ∀ a x, ((![v434] : Fin 1 → IVec S16 32) a x).toNat < S50048.size a := fun v188 v227 v266 v305 v344 v434 k0_hw241 k0_h2 => k0_hw241 k0_h2

def k0_chk242 (v188 : BitVec 32) (v227 : BitVec 32) (v266 : BitVec 32) (v305 : BitVec 32) (v344 : BitVec 32) (v438 : IVec S16 32) : Prop :=
  (∀ (k0_h2 : k0_cond2 v188 v227 v266 v305 v344 = 1#1), ∀ a x, ((![v438] : Fin 1 → IVec S16 32) a x).toNat < S50048.size a)
theorem k0_idx235_inb : ∀ (v188 : BitVec 32) (v227 : BitVec 32) (v266 : BitVec 32) (v305 : BitVec 32) (v344 : BitVec 32) (v438 : IVec S16 32) (k0_hw242 : k0_chk242 v188 v227 v266 v305 v344 v438), ∀ (k0_h2 : k0_cond2 v188 v227 v266 v305 v344 = 1#1), ∀ a x, ((![v438] : Fin 1 → IVec S16 32) a x).toNat < S50048.size a := fun v188 v227 v266 v305 v344 v438 k0_hw242 k0_h2 => k0_hw242 k0_h2

def k0_chk243 (v188 : BitVec 32) (v227 : BitVec 32) (v266 : BitVec 32) (v305 : BitVec 32) (v344 : BitVec 32) (v442 : IVec S16 32) : Prop :=
  (∀ (k0_h2 : k0_cond2 v188 v227 v266 v305 v344 = 1#1), ∀ a x, ((![v442] : Fin 1 → IVec S16 32) a x).toNat < S50048.size a)
theorem k0_idx236_inb : ∀ (v188 : BitVec 32) (v227 : BitVec 32) (v266 : BitVec 32) (v305 : BitVec 32) (v344 : BitVec 32) (v442 : IVec S16 32) (k0_hw243 : k0_chk243 v188 v227 v266 v305 v344 v442), ∀ (k0_h2 : k0_cond2 v188 v227 v266 v305 v344 = 1#1), ∀ a x, ((![v442] : Fin 1 → IVec S16 32) a x).toNat < S50048.size a := fun v188 v227 v266 v305 v344 v442 k0_hw243 k0_h2 => k0_hw243 k0_h2

def k0_chk244 (v188 : BitVec 32) (v227 : BitVec 32) (v266 : BitVec 32) (v305 : BitVec 32) (v344 : BitVec 32) (v444 : IVec S16 32) : Prop :=
  (∀ (k0_h2 : k0_cond2 v188 v227 v266 v305 v344 = 1#1), ∀ a x, ((![v444] : Fin 1 → IVec S16 32) a x).toNat < S50048.size a)
theorem k0_idx237_inb : ∀ (v188 : BitVec 32) (v227 : BitVec 32) (v266 : BitVec 32) (v305 : BitVec 32) (v344 : BitVec 32) (v444 : IVec S16 32) (k0_hw244 : k0_chk244 v188 v227 v266 v305 v344 v444), ∀ (k0_h2 : k0_cond2 v188 v227 v266 v305 v344 = 1#1), ∀ a x, ((![v444] : Fin 1 → IVec S16 32) a x).toNat < S50048.size a := fun v188 v227 v266 v305 v344 v444 k0_hw244 k0_h2 => k0_hw244 k0_h2

def k0_chk245 (v188 : BitVec 32) (v227 : BitVec 32) (v266 : BitVec 32) (v305 : BitVec 32) (v344 : BitVec 32) (v446 : IVec S16 32) : Prop :=
  (∀ (k0_h2 : k0_cond2 v188 v227 v266 v305 v344 = 1#1), ∀ a x, ((![v446] : Fin 1 → IVec S16 32) a x).toNat < S50048.size a)
theorem k0_idx238_inb : ∀ (v188 : BitVec 32) (v227 : BitVec 32) (v266 : BitVec 32) (v305 : BitVec 32) (v344 : BitVec 32) (v446 : IVec S16 32) (k0_hw245 : k0_chk245 v188 v227 v266 v305 v344 v446), ∀ (k0_h2 : k0_cond2 v188 v227 v266 v305 v344 = 1#1), ∀ a x, ((![v446] : Fin 1 → IVec S16 32) a x).toNat < S50048.size a := fun v188 v227 v266 v305 v344 v446 k0_hw245 k0_h2 => k0_hw245 k0_h2

def k0_chk246 (v188 : BitVec 32) (v227 : BitVec 32) (v266 : BitVec 32) (v305 : BitVec 32) (v344 : BitVec 32) (v448 : IVec S16 32) : Prop :=
  (∀ (k0_h2 : k0_cond2 v188 v227 v266 v305 v344 = 1#1), ∀ a x, ((![v448] : Fin 1 → IVec S16 32) a x).toNat < S50048.size a)
theorem k0_idx239_inb : ∀ (v188 : BitVec 32) (v227 : BitVec 32) (v266 : BitVec 32) (v305 : BitVec 32) (v344 : BitVec 32) (v448 : IVec S16 32) (k0_hw246 : k0_chk246 v188 v227 v266 v305 v344 v448), ∀ (k0_h2 : k0_cond2 v188 v227 v266 v305 v344 = 1#1), ∀ a x, ((![v448] : Fin 1 → IVec S16 32) a x).toNat < S50048.size a := fun v188 v227 v266 v305 v344 v448 k0_hw246 k0_h2 => k0_hw246 k0_h2

def k0_chk247 (v188 : BitVec 32) (v227 : BitVec 32) (v266 : BitVec 32) (v305 : BitVec 32) (v344 : BitVec 32) (v450 : IVec S16 32) : Prop :=
  (∀ (k0_h2 : k0_cond2 v188 v227 v266 v305 v344 = 1#1), ∀ a x, ((![v450] : Fin 1 → IVec S16 32) a x).toNat < S50048.size a)
theorem k0_idx240_inb : ∀ (v188 : BitVec 32) (v227 : BitVec 32) (v266 : BitVec 32) (v305 : BitVec 32) (v344 : BitVec 32) (v450 : IVec S16 32) (k0_hw247 : k0_chk247 v188 v227 v266 v305 v344 v450), ∀ (k0_h2 : k0_cond2 v188 v227 v266 v305 v344 = 1#1), ∀ a x, ((![v450] : Fin 1 → IVec S16 32) a x).toNat < S50048.size a := fun v188 v227 v266 v305 v344 v450 k0_hw247 k0_h2 => k0_hw247 k0_h2
@[reducible] def k0_t19_loop (v382 : BitVec 32) : Scf.Loop 32 :=
  let c1_i32_166 : BitVec 32 := 1#32
  let c1_i32_165 : BitVec 32 := 1#32
  let v383 : BitVec 32 := Scalar.addi v382 c1_i32_165
  let v384 : BitVec 32 := Scalar.subi v383 c1_i32_166
  let c1_i32_168 : BitVec 32 := 1#32
  let v386 : BitVec 32 := Scalar.divsi v384 c1_i32_168
  let v387 : BitVec 32 := Scalar.muli v386 c1_i32_168
  let v388 : BitVec 32 := Scalar.addi c1_i32_166 v387
  let c1_i32_169 : BitVec 32 := 1#32
  ⟨c1_i32_166, v388, c1_i32_169⟩

def k0_chk249 (v188 : BitVec 32) (v227 : BitVec 32) (v266 : BitVec 32) (v305 : BitVec 32) (v344 : BitVec 32) (v422 : IVec S16 32) : Prop :=
  (∀ (k0_h2 : k0_cond2 v188 v227 v266 v305 v344 = 1#1), ∀ a x, ((![v422] : Fin 1 → IVec S16 32) a x).toNat < S50048.size a)
theorem k0_idx241_inb : ∀ (v188 : BitVec 32) (v227 : BitVec 32) (v266 : BitVec 32) (v305 : BitVec 32) (v344 : BitVec 32) (v422 : IVec S16 32) (k0_hw249 : k0_chk249 v188 v227 v266 v305 v344 v422), ∀ (k0_h2 : k0_cond2 v188 v227 v266 v305 v344 = 1#1), ∀ a x, ((![v422] : Fin 1 → IVec S16 32) a x).toNat < S50048.size a := fun v188 v227 v266 v305 v344 v422 k0_hw249 k0_h2 => k0_hw249 k0_h2

def k0_chk250 (v188 : BitVec 32) (v227 : BitVec 32) (v266 : BitVec 32) (v305 : BitVec 32) (v344 : BitVec 32) (v426 : IVec S16 32) : Prop :=
  (∀ (k0_h2 : k0_cond2 v188 v227 v266 v305 v344 = 1#1), ∀ a x, ((![v426] : Fin 1 → IVec S16 32) a x).toNat < S50048.size a)
theorem k0_idx242_inb : ∀ (v188 : BitVec 32) (v227 : BitVec 32) (v266 : BitVec 32) (v305 : BitVec 32) (v344 : BitVec 32) (v426 : IVec S16 32) (k0_hw250 : k0_chk250 v188 v227 v266 v305 v344 v426), ∀ (k0_h2 : k0_cond2 v188 v227 v266 v305 v344 = 1#1), ∀ a x, ((![v426] : Fin 1 → IVec S16 32) a x).toNat < S50048.size a := fun v188 v227 v266 v305 v344 v426 k0_hw250 k0_h2 => k0_hw250 k0_h2

def k0_chk251 (v188 : BitVec 32) (v227 : BitVec 32) (v266 : BitVec 32) (v305 : BitVec 32) (v344 : BitVec 32) (v430 : IVec S16 32) : Prop :=
  (∀ (k0_h2 : k0_cond2 v188 v227 v266 v305 v344 = 1#1), ∀ a x, ((![v430] : Fin 1 → IVec S16 32) a x).toNat < S50048.size a)
theorem k0_idx243_inb : ∀ (v188 : BitVec 32) (v227 : BitVec 32) (v266 : BitVec 32) (v305 : BitVec 32) (v344 : BitVec 32) (v430 : IVec S16 32) (k0_hw251 : k0_chk251 v188 v227 v266 v305 v344 v430), ∀ (k0_h2 : k0_cond2 v188 v227 v266 v305 v344 = 1#1), ∀ a x, ((![v430] : Fin 1 → IVec S16 32) a x).toNat < S50048.size a := fun v188 v227 v266 v305 v344 v430 k0_hw251 k0_h2 => k0_hw251 k0_h2

def k0_chk252 (v188 : BitVec 32) (v227 : BitVec 32) (v266 : BitVec 32) (v305 : BitVec 32) (v344 : BitVec 32) (v434 : IVec S16 32) : Prop :=
  (∀ (k0_h2 : k0_cond2 v188 v227 v266 v305 v344 = 1#1), ∀ a x, ((![v434] : Fin 1 → IVec S16 32) a x).toNat < S50048.size a)
theorem k0_idx244_inb : ∀ (v188 : BitVec 32) (v227 : BitVec 32) (v266 : BitVec 32) (v305 : BitVec 32) (v344 : BitVec 32) (v434 : IVec S16 32) (k0_hw252 : k0_chk252 v188 v227 v266 v305 v344 v434), ∀ (k0_h2 : k0_cond2 v188 v227 v266 v305 v344 = 1#1), ∀ a x, ((![v434] : Fin 1 → IVec S16 32) a x).toNat < S50048.size a := fun v188 v227 v266 v305 v344 v434 k0_hw252 k0_h2 => k0_hw252 k0_h2

def k0_chk253 (v188 : BitVec 32) (v227 : BitVec 32) (v266 : BitVec 32) (v305 : BitVec 32) (v344 : BitVec 32) (v438 : IVec S16 32) : Prop :=
  (∀ (k0_h2 : k0_cond2 v188 v227 v266 v305 v344 = 1#1), ∀ a x, ((![v438] : Fin 1 → IVec S16 32) a x).toNat < S50048.size a)
theorem k0_idx245_inb : ∀ (v188 : BitVec 32) (v227 : BitVec 32) (v266 : BitVec 32) (v305 : BitVec 32) (v344 : BitVec 32) (v438 : IVec S16 32) (k0_hw253 : k0_chk253 v188 v227 v266 v305 v344 v438), ∀ (k0_h2 : k0_cond2 v188 v227 v266 v305 v344 = 1#1), ∀ a x, ((![v438] : Fin 1 → IVec S16 32) a x).toNat < S50048.size a := fun v188 v227 v266 v305 v344 v438 k0_hw253 k0_h2 => k0_hw253 k0_h2

def k0_chk254 (v188 : BitVec 32) (v227 : BitVec 32) (v266 : BitVec 32) (v305 : BitVec 32) (v344 : BitVec 32) (v442 : IVec S16 32) : Prop :=
  (∀ (k0_h2 : k0_cond2 v188 v227 v266 v305 v344 = 1#1), ∀ a x, ((![v442] : Fin 1 → IVec S16 32) a x).toNat < S50048.size a)
theorem k0_idx246_inb : ∀ (v188 : BitVec 32) (v227 : BitVec 32) (v266 : BitVec 32) (v305 : BitVec 32) (v344 : BitVec 32) (v442 : IVec S16 32) (k0_hw254 : k0_chk254 v188 v227 v266 v305 v344 v442), ∀ (k0_h2 : k0_cond2 v188 v227 v266 v305 v344 = 1#1), ∀ a x, ((![v442] : Fin 1 → IVec S16 32) a x).toNat < S50048.size a := fun v188 v227 v266 v305 v344 v442 k0_hw254 k0_h2 => k0_hw254 k0_h2

def k0_chk255 (v188 : BitVec 32) (v227 : BitVec 32) (v266 : BitVec 32) (v305 : BitVec 32) (v344 : BitVec 32) (v444 : IVec S16 32) : Prop :=
  (∀ (k0_h2 : k0_cond2 v188 v227 v266 v305 v344 = 1#1), ∀ a x, ((![v444] : Fin 1 → IVec S16 32) a x).toNat < S50048.size a)
theorem k0_idx247_inb : ∀ (v188 : BitVec 32) (v227 : BitVec 32) (v266 : BitVec 32) (v305 : BitVec 32) (v344 : BitVec 32) (v444 : IVec S16 32) (k0_hw255 : k0_chk255 v188 v227 v266 v305 v344 v444), ∀ (k0_h2 : k0_cond2 v188 v227 v266 v305 v344 = 1#1), ∀ a x, ((![v444] : Fin 1 → IVec S16 32) a x).toNat < S50048.size a := fun v188 v227 v266 v305 v344 v444 k0_hw255 k0_h2 => k0_hw255 k0_h2

def k0_chk256 (v188 : BitVec 32) (v227 : BitVec 32) (v266 : BitVec 32) (v305 : BitVec 32) (v344 : BitVec 32) (v446 : IVec S16 32) : Prop :=
  (∀ (k0_h2 : k0_cond2 v188 v227 v266 v305 v344 = 1#1), ∀ a x, ((![v446] : Fin 1 → IVec S16 32) a x).toNat < S50048.size a)
theorem k0_idx248_inb : ∀ (v188 : BitVec 32) (v227 : BitVec 32) (v266 : BitVec 32) (v305 : BitVec 32) (v344 : BitVec 32) (v446 : IVec S16 32) (k0_hw256 : k0_chk256 v188 v227 v266 v305 v344 v446), ∀ (k0_h2 : k0_cond2 v188 v227 v266 v305 v344 = 1#1), ∀ a x, ((![v446] : Fin 1 → IVec S16 32) a x).toNat < S50048.size a := fun v188 v227 v266 v305 v344 v446 k0_hw256 k0_h2 => k0_hw256 k0_h2

def k0_chk257 (v188 : BitVec 32) (v227 : BitVec 32) (v266 : BitVec 32) (v305 : BitVec 32) (v344 : BitVec 32) (v448 : IVec S16 32) : Prop :=
  (∀ (k0_h2 : k0_cond2 v188 v227 v266 v305 v344 = 1#1), ∀ a x, ((![v448] : Fin 1 → IVec S16 32) a x).toNat < S50048.size a)
theorem k0_idx249_inb : ∀ (v188 : BitVec 32) (v227 : BitVec 32) (v266 : BitVec 32) (v305 : BitVec 32) (v344 : BitVec 32) (v448 : IVec S16 32) (k0_hw257 : k0_chk257 v188 v227 v266 v305 v344 v448), ∀ (k0_h2 : k0_cond2 v188 v227 v266 v305 v344 = 1#1), ∀ a x, ((![v448] : Fin 1 → IVec S16 32) a x).toNat < S50048.size a := fun v188 v227 v266 v305 v344 v448 k0_hw257 k0_h2 => k0_hw257 k0_h2

def k0_chk258 (v188 : BitVec 32) (v227 : BitVec 32) (v266 : BitVec 32) (v305 : BitVec 32) (v344 : BitVec 32) (v450 : IVec S16 32) : Prop :=
  (∀ (k0_h2 : k0_cond2 v188 v227 v266 v305 v344 = 1#1), ∀ a x, ((![v450] : Fin 1 → IVec S16 32) a x).toNat < S50048.size a)
theorem k0_idx250_inb : ∀ (v188 : BitVec 32) (v227 : BitVec 32) (v266 : BitVec 32) (v305 : BitVec 32) (v344 : BitVec 32) (v450 : IVec S16 32) (k0_hw258 : k0_chk258 v188 v227 v266 v305 v344 v450), ∀ (k0_h2 : k0_cond2 v188 v227 v266 v305 v344 = 1#1), ∀ a x, ((![v450] : Fin 1 → IVec S16 32) a x).toNat < S50048.size a := fun v188 v227 v266 v305 v344 v450 k0_hw258 k0_h2 => k0_hw258 k0_h2
@[reducible] def k0_t20_loop (v382 : BitVec 32) : Scf.Loop 32 :=
  let c1_i32_166 : BitVec 32 := 1#32
  let c1_i32_165 : BitVec 32 := 1#32
  let v383 : BitVec 32 := Scalar.addi v382 c1_i32_165
  let v384 : BitVec 32 := Scalar.subi v383 c1_i32_166
  let c1_i32_168 : BitVec 32 := 1#32
  let v386 : BitVec 32 := Scalar.divsi v384 c1_i32_168
  let v387 : BitVec 32 := Scalar.muli v386 c1_i32_168
  let v388 : BitVec 32 := Scalar.addi c1_i32_166 v387
  let v385 : BitVec 32 := Scalar.addi c1_i32_166 v384
  let c1_i32_170 : BitVec 32 := 1#32
  ⟨v388, v385, c1_i32_170⟩

def k0_chk248 (v188 : BitVec 32) (v227 : BitVec 32) (v266 : BitVec 32) (v305 : BitVec 32) (v344 : BitVec 32) (v382 : BitVec 32) : Prop :=
  (∀ (k0_h2 : k0_cond2 v188 v227 v266 v305 v344 = 1#1), (k0_t19_loop v382).OK) ∧
  (∀ (k0_h2 : k0_cond2 v188 v227 v266 v305 v344 = 1#1), (k0_t20_loop v382).OK)
theorem k0_t19_ok : ∀ (v188 : BitVec 32) (v227 : BitVec 32) (v266 : BitVec 32) (v305 : BitVec 32) (v344 : BitVec 32) (v382 : BitVec 32) (k0_hw248 : k0_chk248 v188 v227 v266 v305 v344 v382), ∀ (k0_h2 : k0_cond2 v188 v227 v266 v305 v344 = 1#1), (k0_t19_loop v382).OK := fun v188 v227 v266 v305 v344 v382 k0_hw248 k0_h2 => k0_hw248.1 k0_h2
theorem k0_t20_ok : ∀ (v188 : BitVec 32) (v227 : BitVec 32) (v266 : BitVec 32) (v305 : BitVec 32) (v344 : BitVec 32) (v382 : BitVec 32) (k0_hw248 : k0_chk248 v188 v227 v266 v305 v344 v382), ∀ (k0_h2 : k0_cond2 v188 v227 v266 v305 v344 = 1#1), (k0_t20_loop v382).OK := fun v188 v227 v266 v305 v344 v382 k0_hw248 k0_h2 => k0_hw248.2 k0_h2

def k0_chk259 (v188 : BitVec 32) (v227 : BitVec 32) (v266 : BitVec 32) (v305 : BitVec 32) (v344 : BitVec 32) (v422 : IVec S16 32) : Prop :=
  (∀ (k0_h2 : k0_cond2 v188 v227 v266 v305 v344 = 1#1), ∀ a x, ((![v422] : Fin 1 → IVec S16 32) a x).toNat < S50048.size a)
theorem k0_idx251_inb : ∀ (v188 : BitVec 32) (v227 : BitVec 32) (v266 : BitVec 32) (v305 : BitVec 32) (v344 : BitVec 32) (v422 : IVec S16 32) (k0_hw259 : k0_chk259 v188 v227 v266 v305 v344 v422), ∀ (k0_h2 : k0_cond2 v188 v227 v266 v305 v344 = 1#1), ∀ a x, ((![v422] : Fin 1 → IVec S16 32) a x).toNat < S50048.size a := fun v188 v227 v266 v305 v344 v422 k0_hw259 k0_h2 => k0_hw259 k0_h2

def k0_chk260 (v188 : BitVec 32) (v227 : BitVec 32) (v266 : BitVec 32) (v305 : BitVec 32) (v344 : BitVec 32) (v426 : IVec S16 32) : Prop :=
  (∀ (k0_h2 : k0_cond2 v188 v227 v266 v305 v344 = 1#1), ∀ a x, ((![v426] : Fin 1 → IVec S16 32) a x).toNat < S50048.size a)
theorem k0_idx252_inb : ∀ (v188 : BitVec 32) (v227 : BitVec 32) (v266 : BitVec 32) (v305 : BitVec 32) (v344 : BitVec 32) (v426 : IVec S16 32) (k0_hw260 : k0_chk260 v188 v227 v266 v305 v344 v426), ∀ (k0_h2 : k0_cond2 v188 v227 v266 v305 v344 = 1#1), ∀ a x, ((![v426] : Fin 1 → IVec S16 32) a x).toNat < S50048.size a := fun v188 v227 v266 v305 v344 v426 k0_hw260 k0_h2 => k0_hw260 k0_h2

def k0_chk261 (v188 : BitVec 32) (v227 : BitVec 32) (v266 : BitVec 32) (v305 : BitVec 32) (v344 : BitVec 32) (v430 : IVec S16 32) : Prop :=
  (∀ (k0_h2 : k0_cond2 v188 v227 v266 v305 v344 = 1#1), ∀ a x, ((![v430] : Fin 1 → IVec S16 32) a x).toNat < S50048.size a)
theorem k0_idx253_inb : ∀ (v188 : BitVec 32) (v227 : BitVec 32) (v266 : BitVec 32) (v305 : BitVec 32) (v344 : BitVec 32) (v430 : IVec S16 32) (k0_hw261 : k0_chk261 v188 v227 v266 v305 v344 v430), ∀ (k0_h2 : k0_cond2 v188 v227 v266 v305 v344 = 1#1), ∀ a x, ((![v430] : Fin 1 → IVec S16 32) a x).toNat < S50048.size a := fun v188 v227 v266 v305 v344 v430 k0_hw261 k0_h2 => k0_hw261 k0_h2

def k0_chk262 (v188 : BitVec 32) (v227 : BitVec 32) (v266 : BitVec 32) (v305 : BitVec 32) (v344 : BitVec 32) (v434 : IVec S16 32) : Prop :=
  (∀ (k0_h2 : k0_cond2 v188 v227 v266 v305 v344 = 1#1), ∀ a x, ((![v434] : Fin 1 → IVec S16 32) a x).toNat < S50048.size a)
theorem k0_idx254_inb : ∀ (v188 : BitVec 32) (v227 : BitVec 32) (v266 : BitVec 32) (v305 : BitVec 32) (v344 : BitVec 32) (v434 : IVec S16 32) (k0_hw262 : k0_chk262 v188 v227 v266 v305 v344 v434), ∀ (k0_h2 : k0_cond2 v188 v227 v266 v305 v344 = 1#1), ∀ a x, ((![v434] : Fin 1 → IVec S16 32) a x).toNat < S50048.size a := fun v188 v227 v266 v305 v344 v434 k0_hw262 k0_h2 => k0_hw262 k0_h2

def k0_chk263 (v188 : BitVec 32) (v227 : BitVec 32) (v266 : BitVec 32) (v305 : BitVec 32) (v344 : BitVec 32) (v438 : IVec S16 32) : Prop :=
  (∀ (k0_h2 : k0_cond2 v188 v227 v266 v305 v344 = 1#1), ∀ a x, ((![v438] : Fin 1 → IVec S16 32) a x).toNat < S50048.size a)
theorem k0_idx255_inb : ∀ (v188 : BitVec 32) (v227 : BitVec 32) (v266 : BitVec 32) (v305 : BitVec 32) (v344 : BitVec 32) (v438 : IVec S16 32) (k0_hw263 : k0_chk263 v188 v227 v266 v305 v344 v438), ∀ (k0_h2 : k0_cond2 v188 v227 v266 v305 v344 = 1#1), ∀ a x, ((![v438] : Fin 1 → IVec S16 32) a x).toNat < S50048.size a := fun v188 v227 v266 v305 v344 v438 k0_hw263 k0_h2 => k0_hw263 k0_h2

def k0_chk264 (v188 : BitVec 32) (v227 : BitVec 32) (v266 : BitVec 32) (v305 : BitVec 32) (v344 : BitVec 32) (v442 : IVec S16 32) : Prop :=
  (∀ (k0_h2 : k0_cond2 v188 v227 v266 v305 v344 = 1#1), ∀ a x, ((![v442] : Fin 1 → IVec S16 32) a x).toNat < S50048.size a)
theorem k0_idx256_inb : ∀ (v188 : BitVec 32) (v227 : BitVec 32) (v266 : BitVec 32) (v305 : BitVec 32) (v344 : BitVec 32) (v442 : IVec S16 32) (k0_hw264 : k0_chk264 v188 v227 v266 v305 v344 v442), ∀ (k0_h2 : k0_cond2 v188 v227 v266 v305 v344 = 1#1), ∀ a x, ((![v442] : Fin 1 → IVec S16 32) a x).toNat < S50048.size a := fun v188 v227 v266 v305 v344 v442 k0_hw264 k0_h2 => k0_hw264 k0_h2

def k0_chk265 (v188 : BitVec 32) (v227 : BitVec 32) (v266 : BitVec 32) (v305 : BitVec 32) (v344 : BitVec 32) (v444 : IVec S16 32) : Prop :=
  (∀ (k0_h2 : k0_cond2 v188 v227 v266 v305 v344 = 1#1), ∀ a x, ((![v444] : Fin 1 → IVec S16 32) a x).toNat < S50048.size a)
theorem k0_idx257_inb : ∀ (v188 : BitVec 32) (v227 : BitVec 32) (v266 : BitVec 32) (v305 : BitVec 32) (v344 : BitVec 32) (v444 : IVec S16 32) (k0_hw265 : k0_chk265 v188 v227 v266 v305 v344 v444), ∀ (k0_h2 : k0_cond2 v188 v227 v266 v305 v344 = 1#1), ∀ a x, ((![v444] : Fin 1 → IVec S16 32) a x).toNat < S50048.size a := fun v188 v227 v266 v305 v344 v444 k0_hw265 k0_h2 => k0_hw265 k0_h2

def k0_chk266 (v188 : BitVec 32) (v227 : BitVec 32) (v266 : BitVec 32) (v305 : BitVec 32) (v344 : BitVec 32) (v446 : IVec S16 32) : Prop :=
  (∀ (k0_h2 : k0_cond2 v188 v227 v266 v305 v344 = 1#1), ∀ a x, ((![v446] : Fin 1 → IVec S16 32) a x).toNat < S50048.size a)
theorem k0_idx258_inb : ∀ (v188 : BitVec 32) (v227 : BitVec 32) (v266 : BitVec 32) (v305 : BitVec 32) (v344 : BitVec 32) (v446 : IVec S16 32) (k0_hw266 : k0_chk266 v188 v227 v266 v305 v344 v446), ∀ (k0_h2 : k0_cond2 v188 v227 v266 v305 v344 = 1#1), ∀ a x, ((![v446] : Fin 1 → IVec S16 32) a x).toNat < S50048.size a := fun v188 v227 v266 v305 v344 v446 k0_hw266 k0_h2 => k0_hw266 k0_h2

def k0_chk267 (v188 : BitVec 32) (v227 : BitVec 32) (v266 : BitVec 32) (v305 : BitVec 32) (v344 : BitVec 32) (v448 : IVec S16 32) : Prop :=
  (∀ (k0_h2 : k0_cond2 v188 v227 v266 v305 v344 = 1#1), ∀ a x, ((![v448] : Fin 1 → IVec S16 32) a x).toNat < S50048.size a)
theorem k0_idx259_inb : ∀ (v188 : BitVec 32) (v227 : BitVec 32) (v266 : BitVec 32) (v305 : BitVec 32) (v344 : BitVec 32) (v448 : IVec S16 32) (k0_hw267 : k0_chk267 v188 v227 v266 v305 v344 v448), ∀ (k0_h2 : k0_cond2 v188 v227 v266 v305 v344 = 1#1), ∀ a x, ((![v448] : Fin 1 → IVec S16 32) a x).toNat < S50048.size a := fun v188 v227 v266 v305 v344 v448 k0_hw267 k0_h2 => k0_hw267 k0_h2

def k0_chk268 (v188 : BitVec 32) (v227 : BitVec 32) (v266 : BitVec 32) (v305 : BitVec 32) (v344 : BitVec 32) (v450 : IVec S16 32) : Prop :=
  (∀ (k0_h2 : k0_cond2 v188 v227 v266 v305 v344 = 1#1), ∀ a x, ((![v450] : Fin 1 → IVec S16 32) a x).toNat < S50048.size a)
theorem k0_idx260_inb : ∀ (v188 : BitVec 32) (v227 : BitVec 32) (v266 : BitVec 32) (v305 : BitVec 32) (v344 : BitVec 32) (v450 : IVec S16 32) (k0_hw268 : k0_chk268 v188 v227 v266 v305 v344 v450), ∀ (k0_h2 : k0_cond2 v188 v227 v266 v305 v344 = 1#1), ∀ a x, ((![v450] : Fin 1 → IVec S16 32) a x).toNat < S50048.size a := fun v188 v227 v266 v305 v344 v450 k0_hw268 k0_h2 => k0_hw268 k0_h2
@[reducible] def k0_t21_loop (v396 : BitVec 32) : Scf.Loop 32 :=
  let c1_i32_174 : BitVec 32 := 1#32
  let c1_i32_173 : BitVec 32 := 1#32
  let v397 : BitVec 32 := Scalar.addi v396 c1_i32_173
  let v398 : BitVec 32 := Scalar.subi v397 c1_i32_174
  let c1_i32_176 : BitVec 32 := 1#32
  let v400 : BitVec 32 := Scalar.divsi v398 c1_i32_176
  let v401 : BitVec 32 := Scalar.muli v400 c1_i32_176
  let v402 : BitVec 32 := Scalar.addi c1_i32_174 v401
  let c1_i32_177 : BitVec 32 := 1#32
  ⟨c1_i32_174, v402, c1_i32_177⟩

def k0_chk270 (v188 : BitVec 32) (v227 : BitVec 32) (v266 : BitVec 32) (v305 : BitVec 32) (v344 : BitVec 32) (v422 : IVec S16 32) : Prop :=
  (∀ (k0_h2 : k0_cond2 v188 v227 v266 v305 v344 = 1#1), ∀ a x, ((![v422] : Fin 1 → IVec S16 32) a x).toNat < S50048.size a)
theorem k0_idx261_inb : ∀ (v188 : BitVec 32) (v227 : BitVec 32) (v266 : BitVec 32) (v305 : BitVec 32) (v344 : BitVec 32) (v422 : IVec S16 32) (k0_hw270 : k0_chk270 v188 v227 v266 v305 v344 v422), ∀ (k0_h2 : k0_cond2 v188 v227 v266 v305 v344 = 1#1), ∀ a x, ((![v422] : Fin 1 → IVec S16 32) a x).toNat < S50048.size a := fun v188 v227 v266 v305 v344 v422 k0_hw270 k0_h2 => k0_hw270 k0_h2

def k0_chk271 (v188 : BitVec 32) (v227 : BitVec 32) (v266 : BitVec 32) (v305 : BitVec 32) (v344 : BitVec 32) (v426 : IVec S16 32) : Prop :=
  (∀ (k0_h2 : k0_cond2 v188 v227 v266 v305 v344 = 1#1), ∀ a x, ((![v426] : Fin 1 → IVec S16 32) a x).toNat < S50048.size a)
theorem k0_idx262_inb : ∀ (v188 : BitVec 32) (v227 : BitVec 32) (v266 : BitVec 32) (v305 : BitVec 32) (v344 : BitVec 32) (v426 : IVec S16 32) (k0_hw271 : k0_chk271 v188 v227 v266 v305 v344 v426), ∀ (k0_h2 : k0_cond2 v188 v227 v266 v305 v344 = 1#1), ∀ a x, ((![v426] : Fin 1 → IVec S16 32) a x).toNat < S50048.size a := fun v188 v227 v266 v305 v344 v426 k0_hw271 k0_h2 => k0_hw271 k0_h2

def k0_chk272 (v188 : BitVec 32) (v227 : BitVec 32) (v266 : BitVec 32) (v305 : BitVec 32) (v344 : BitVec 32) (v430 : IVec S16 32) : Prop :=
  (∀ (k0_h2 : k0_cond2 v188 v227 v266 v305 v344 = 1#1), ∀ a x, ((![v430] : Fin 1 → IVec S16 32) a x).toNat < S50048.size a)
theorem k0_idx263_inb : ∀ (v188 : BitVec 32) (v227 : BitVec 32) (v266 : BitVec 32) (v305 : BitVec 32) (v344 : BitVec 32) (v430 : IVec S16 32) (k0_hw272 : k0_chk272 v188 v227 v266 v305 v344 v430), ∀ (k0_h2 : k0_cond2 v188 v227 v266 v305 v344 = 1#1), ∀ a x, ((![v430] : Fin 1 → IVec S16 32) a x).toNat < S50048.size a := fun v188 v227 v266 v305 v344 v430 k0_hw272 k0_h2 => k0_hw272 k0_h2

def k0_chk273 (v188 : BitVec 32) (v227 : BitVec 32) (v266 : BitVec 32) (v305 : BitVec 32) (v344 : BitVec 32) (v434 : IVec S16 32) : Prop :=
  (∀ (k0_h2 : k0_cond2 v188 v227 v266 v305 v344 = 1#1), ∀ a x, ((![v434] : Fin 1 → IVec S16 32) a x).toNat < S50048.size a)
theorem k0_idx264_inb : ∀ (v188 : BitVec 32) (v227 : BitVec 32) (v266 : BitVec 32) (v305 : BitVec 32) (v344 : BitVec 32) (v434 : IVec S16 32) (k0_hw273 : k0_chk273 v188 v227 v266 v305 v344 v434), ∀ (k0_h2 : k0_cond2 v188 v227 v266 v305 v344 = 1#1), ∀ a x, ((![v434] : Fin 1 → IVec S16 32) a x).toNat < S50048.size a := fun v188 v227 v266 v305 v344 v434 k0_hw273 k0_h2 => k0_hw273 k0_h2

def k0_chk274 (v188 : BitVec 32) (v227 : BitVec 32) (v266 : BitVec 32) (v305 : BitVec 32) (v344 : BitVec 32) (v438 : IVec S16 32) : Prop :=
  (∀ (k0_h2 : k0_cond2 v188 v227 v266 v305 v344 = 1#1), ∀ a x, ((![v438] : Fin 1 → IVec S16 32) a x).toNat < S50048.size a)
theorem k0_idx265_inb : ∀ (v188 : BitVec 32) (v227 : BitVec 32) (v266 : BitVec 32) (v305 : BitVec 32) (v344 : BitVec 32) (v438 : IVec S16 32) (k0_hw274 : k0_chk274 v188 v227 v266 v305 v344 v438), ∀ (k0_h2 : k0_cond2 v188 v227 v266 v305 v344 = 1#1), ∀ a x, ((![v438] : Fin 1 → IVec S16 32) a x).toNat < S50048.size a := fun v188 v227 v266 v305 v344 v438 k0_hw274 k0_h2 => k0_hw274 k0_h2

def k0_chk275 (v188 : BitVec 32) (v227 : BitVec 32) (v266 : BitVec 32) (v305 : BitVec 32) (v344 : BitVec 32) (v442 : IVec S16 32) : Prop :=
  (∀ (k0_h2 : k0_cond2 v188 v227 v266 v305 v344 = 1#1), ∀ a x, ((![v442] : Fin 1 → IVec S16 32) a x).toNat < S50048.size a)
theorem k0_idx266_inb : ∀ (v188 : BitVec 32) (v227 : BitVec 32) (v266 : BitVec 32) (v305 : BitVec 32) (v344 : BitVec 32) (v442 : IVec S16 32) (k0_hw275 : k0_chk275 v188 v227 v266 v305 v344 v442), ∀ (k0_h2 : k0_cond2 v188 v227 v266 v305 v344 = 1#1), ∀ a x, ((![v442] : Fin 1 → IVec S16 32) a x).toNat < S50048.size a := fun v188 v227 v266 v305 v344 v442 k0_hw275 k0_h2 => k0_hw275 k0_h2

def k0_chk276 (v188 : BitVec 32) (v227 : BitVec 32) (v266 : BitVec 32) (v305 : BitVec 32) (v344 : BitVec 32) (v444 : IVec S16 32) : Prop :=
  (∀ (k0_h2 : k0_cond2 v188 v227 v266 v305 v344 = 1#1), ∀ a x, ((![v444] : Fin 1 → IVec S16 32) a x).toNat < S50048.size a)
theorem k0_idx267_inb : ∀ (v188 : BitVec 32) (v227 : BitVec 32) (v266 : BitVec 32) (v305 : BitVec 32) (v344 : BitVec 32) (v444 : IVec S16 32) (k0_hw276 : k0_chk276 v188 v227 v266 v305 v344 v444), ∀ (k0_h2 : k0_cond2 v188 v227 v266 v305 v344 = 1#1), ∀ a x, ((![v444] : Fin 1 → IVec S16 32) a x).toNat < S50048.size a := fun v188 v227 v266 v305 v344 v444 k0_hw276 k0_h2 => k0_hw276 k0_h2

def k0_chk277 (v188 : BitVec 32) (v227 : BitVec 32) (v266 : BitVec 32) (v305 : BitVec 32) (v344 : BitVec 32) (v446 : IVec S16 32) : Prop :=
  (∀ (k0_h2 : k0_cond2 v188 v227 v266 v305 v344 = 1#1), ∀ a x, ((![v446] : Fin 1 → IVec S16 32) a x).toNat < S50048.size a)
theorem k0_idx268_inb : ∀ (v188 : BitVec 32) (v227 : BitVec 32) (v266 : BitVec 32) (v305 : BitVec 32) (v344 : BitVec 32) (v446 : IVec S16 32) (k0_hw277 : k0_chk277 v188 v227 v266 v305 v344 v446), ∀ (k0_h2 : k0_cond2 v188 v227 v266 v305 v344 = 1#1), ∀ a x, ((![v446] : Fin 1 → IVec S16 32) a x).toNat < S50048.size a := fun v188 v227 v266 v305 v344 v446 k0_hw277 k0_h2 => k0_hw277 k0_h2

def k0_chk278 (v188 : BitVec 32) (v227 : BitVec 32) (v266 : BitVec 32) (v305 : BitVec 32) (v344 : BitVec 32) (v448 : IVec S16 32) : Prop :=
  (∀ (k0_h2 : k0_cond2 v188 v227 v266 v305 v344 = 1#1), ∀ a x, ((![v448] : Fin 1 → IVec S16 32) a x).toNat < S50048.size a)
theorem k0_idx269_inb : ∀ (v188 : BitVec 32) (v227 : BitVec 32) (v266 : BitVec 32) (v305 : BitVec 32) (v344 : BitVec 32) (v448 : IVec S16 32) (k0_hw278 : k0_chk278 v188 v227 v266 v305 v344 v448), ∀ (k0_h2 : k0_cond2 v188 v227 v266 v305 v344 = 1#1), ∀ a x, ((![v448] : Fin 1 → IVec S16 32) a x).toNat < S50048.size a := fun v188 v227 v266 v305 v344 v448 k0_hw278 k0_h2 => k0_hw278 k0_h2

def k0_chk279 (v188 : BitVec 32) (v227 : BitVec 32) (v266 : BitVec 32) (v305 : BitVec 32) (v344 : BitVec 32) (v450 : IVec S16 32) : Prop :=
  (∀ (k0_h2 : k0_cond2 v188 v227 v266 v305 v344 = 1#1), ∀ a x, ((![v450] : Fin 1 → IVec S16 32) a x).toNat < S50048.size a)
theorem k0_idx270_inb : ∀ (v188 : BitVec 32) (v227 : BitVec 32) (v266 : BitVec 32) (v305 : BitVec 32) (v344 : BitVec 32) (v450 : IVec S16 32) (k0_hw279 : k0_chk279 v188 v227 v266 v305 v344 v450), ∀ (k0_h2 : k0_cond2 v188 v227 v266 v305 v344 = 1#1), ∀ a x, ((![v450] : Fin 1 → IVec S16 32) a x).toNat < S50048.size a := fun v188 v227 v266 v305 v344 v450 k0_hw279 k0_h2 => k0_hw279 k0_h2
@[reducible] def k0_t22_loop (v396 : BitVec 32) : Scf.Loop 32 :=
  let c1_i32_174 : BitVec 32 := 1#32
  let c1_i32_173 : BitVec 32 := 1#32
  let v397 : BitVec 32 := Scalar.addi v396 c1_i32_173
  let v398 : BitVec 32 := Scalar.subi v397 c1_i32_174
  let c1_i32_176 : BitVec 32 := 1#32
  let v400 : BitVec 32 := Scalar.divsi v398 c1_i32_176
  let v401 : BitVec 32 := Scalar.muli v400 c1_i32_176
  let v402 : BitVec 32 := Scalar.addi c1_i32_174 v401
  let v399 : BitVec 32 := Scalar.addi c1_i32_174 v398
  let c1_i32_178 : BitVec 32 := 1#32
  ⟨v402, v399, c1_i32_178⟩

def k0_chk269 (v188 : BitVec 32) (v227 : BitVec 32) (v266 : BitVec 32) (v305 : BitVec 32) (v344 : BitVec 32) (v396 : BitVec 32) : Prop :=
  (∀ (k0_h2 : k0_cond2 v188 v227 v266 v305 v344 = 1#1), (k0_t21_loop v396).OK) ∧
  (∀ (k0_h2 : k0_cond2 v188 v227 v266 v305 v344 = 1#1), (k0_t22_loop v396).OK)
theorem k0_t21_ok : ∀ (v188 : BitVec 32) (v227 : BitVec 32) (v266 : BitVec 32) (v305 : BitVec 32) (v344 : BitVec 32) (v396 : BitVec 32) (k0_hw269 : k0_chk269 v188 v227 v266 v305 v344 v396), ∀ (k0_h2 : k0_cond2 v188 v227 v266 v305 v344 = 1#1), (k0_t21_loop v396).OK := fun v188 v227 v266 v305 v344 v396 k0_hw269 k0_h2 => k0_hw269.1 k0_h2
theorem k0_t22_ok : ∀ (v188 : BitVec 32) (v227 : BitVec 32) (v266 : BitVec 32) (v305 : BitVec 32) (v344 : BitVec 32) (v396 : BitVec 32) (k0_hw269 : k0_chk269 v188 v227 v266 v305 v344 v396), ∀ (k0_h2 : k0_cond2 v188 v227 v266 v305 v344 = 1#1), (k0_t22_loop v396).OK := fun v188 v227 v266 v305 v344 v396 k0_hw269 k0_h2 => k0_hw269.2 k0_h2

def k0_chk280 (v188 : BitVec 32) (v227 : BitVec 32) (v266 : BitVec 32) (v305 : BitVec 32) (v344 : BitVec 32) (v422 : IVec S16 32) : Prop :=
  (∀ (k0_h2 : k0_cond2 v188 v227 v266 v305 v344 = 1#1), ∀ a x, ((![v422] : Fin 1 → IVec S16 32) a x).toNat < S50048.size a)
theorem k0_idx271_inb : ∀ (v188 : BitVec 32) (v227 : BitVec 32) (v266 : BitVec 32) (v305 : BitVec 32) (v344 : BitVec 32) (v422 : IVec S16 32) (k0_hw280 : k0_chk280 v188 v227 v266 v305 v344 v422), ∀ (k0_h2 : k0_cond2 v188 v227 v266 v305 v344 = 1#1), ∀ a x, ((![v422] : Fin 1 → IVec S16 32) a x).toNat < S50048.size a := fun v188 v227 v266 v305 v344 v422 k0_hw280 k0_h2 => k0_hw280 k0_h2

def k0_chk281 (v188 : BitVec 32) (v227 : BitVec 32) (v266 : BitVec 32) (v305 : BitVec 32) (v344 : BitVec 32) (v426 : IVec S16 32) : Prop :=
  (∀ (k0_h2 : k0_cond2 v188 v227 v266 v305 v344 = 1#1), ∀ a x, ((![v426] : Fin 1 → IVec S16 32) a x).toNat < S50048.size a)
theorem k0_idx272_inb : ∀ (v188 : BitVec 32) (v227 : BitVec 32) (v266 : BitVec 32) (v305 : BitVec 32) (v344 : BitVec 32) (v426 : IVec S16 32) (k0_hw281 : k0_chk281 v188 v227 v266 v305 v344 v426), ∀ (k0_h2 : k0_cond2 v188 v227 v266 v305 v344 = 1#1), ∀ a x, ((![v426] : Fin 1 → IVec S16 32) a x).toNat < S50048.size a := fun v188 v227 v266 v305 v344 v426 k0_hw281 k0_h2 => k0_hw281 k0_h2

def k0_chk282 (v188 : BitVec 32) (v227 : BitVec 32) (v266 : BitVec 32) (v305 : BitVec 32) (v344 : BitVec 32) (v430 : IVec S16 32) : Prop :=
  (∀ (k0_h2 : k0_cond2 v188 v227 v266 v305 v344 = 1#1), ∀ a x, ((![v430] : Fin 1 → IVec S16 32) a x).toNat < S50048.size a)
theorem k0_idx273_inb : ∀ (v188 : BitVec 32) (v227 : BitVec 32) (v266 : BitVec 32) (v305 : BitVec 32) (v344 : BitVec 32) (v430 : IVec S16 32) (k0_hw282 : k0_chk282 v188 v227 v266 v305 v344 v430), ∀ (k0_h2 : k0_cond2 v188 v227 v266 v305 v344 = 1#1), ∀ a x, ((![v430] : Fin 1 → IVec S16 32) a x).toNat < S50048.size a := fun v188 v227 v266 v305 v344 v430 k0_hw282 k0_h2 => k0_hw282 k0_h2

def k0_chk283 (v188 : BitVec 32) (v227 : BitVec 32) (v266 : BitVec 32) (v305 : BitVec 32) (v344 : BitVec 32) (v434 : IVec S16 32) : Prop :=
  (∀ (k0_h2 : k0_cond2 v188 v227 v266 v305 v344 = 1#1), ∀ a x, ((![v434] : Fin 1 → IVec S16 32) a x).toNat < S50048.size a)
theorem k0_idx274_inb : ∀ (v188 : BitVec 32) (v227 : BitVec 32) (v266 : BitVec 32) (v305 : BitVec 32) (v344 : BitVec 32) (v434 : IVec S16 32) (k0_hw283 : k0_chk283 v188 v227 v266 v305 v344 v434), ∀ (k0_h2 : k0_cond2 v188 v227 v266 v305 v344 = 1#1), ∀ a x, ((![v434] : Fin 1 → IVec S16 32) a x).toNat < S50048.size a := fun v188 v227 v266 v305 v344 v434 k0_hw283 k0_h2 => k0_hw283 k0_h2

def k0_chk284 (v188 : BitVec 32) (v227 : BitVec 32) (v266 : BitVec 32) (v305 : BitVec 32) (v344 : BitVec 32) (v438 : IVec S16 32) : Prop :=
  (∀ (k0_h2 : k0_cond2 v188 v227 v266 v305 v344 = 1#1), ∀ a x, ((![v438] : Fin 1 → IVec S16 32) a x).toNat < S50048.size a)
theorem k0_idx275_inb : ∀ (v188 : BitVec 32) (v227 : BitVec 32) (v266 : BitVec 32) (v305 : BitVec 32) (v344 : BitVec 32) (v438 : IVec S16 32) (k0_hw284 : k0_chk284 v188 v227 v266 v305 v344 v438), ∀ (k0_h2 : k0_cond2 v188 v227 v266 v305 v344 = 1#1), ∀ a x, ((![v438] : Fin 1 → IVec S16 32) a x).toNat < S50048.size a := fun v188 v227 v266 v305 v344 v438 k0_hw284 k0_h2 => k0_hw284 k0_h2

def k0_chk285 (v188 : BitVec 32) (v227 : BitVec 32) (v266 : BitVec 32) (v305 : BitVec 32) (v344 : BitVec 32) (v442 : IVec S16 32) : Prop :=
  (∀ (k0_h2 : k0_cond2 v188 v227 v266 v305 v344 = 1#1), ∀ a x, ((![v442] : Fin 1 → IVec S16 32) a x).toNat < S50048.size a)
theorem k0_idx276_inb : ∀ (v188 : BitVec 32) (v227 : BitVec 32) (v266 : BitVec 32) (v305 : BitVec 32) (v344 : BitVec 32) (v442 : IVec S16 32) (k0_hw285 : k0_chk285 v188 v227 v266 v305 v344 v442), ∀ (k0_h2 : k0_cond2 v188 v227 v266 v305 v344 = 1#1), ∀ a x, ((![v442] : Fin 1 → IVec S16 32) a x).toNat < S50048.size a := fun v188 v227 v266 v305 v344 v442 k0_hw285 k0_h2 => k0_hw285 k0_h2

def k0_chk286 (v188 : BitVec 32) (v227 : BitVec 32) (v266 : BitVec 32) (v305 : BitVec 32) (v344 : BitVec 32) (v444 : IVec S16 32) : Prop :=
  (∀ (k0_h2 : k0_cond2 v188 v227 v266 v305 v344 = 1#1), ∀ a x, ((![v444] : Fin 1 → IVec S16 32) a x).toNat < S50048.size a)
theorem k0_idx277_inb : ∀ (v188 : BitVec 32) (v227 : BitVec 32) (v266 : BitVec 32) (v305 : BitVec 32) (v344 : BitVec 32) (v444 : IVec S16 32) (k0_hw286 : k0_chk286 v188 v227 v266 v305 v344 v444), ∀ (k0_h2 : k0_cond2 v188 v227 v266 v305 v344 = 1#1), ∀ a x, ((![v444] : Fin 1 → IVec S16 32) a x).toNat < S50048.size a := fun v188 v227 v266 v305 v344 v444 k0_hw286 k0_h2 => k0_hw286 k0_h2

def k0_chk287 (v188 : BitVec 32) (v227 : BitVec 32) (v266 : BitVec 32) (v305 : BitVec 32) (v344 : BitVec 32) (v446 : IVec S16 32) : Prop :=
  (∀ (k0_h2 : k0_cond2 v188 v227 v266 v305 v344 = 1#1), ∀ a x, ((![v446] : Fin 1 → IVec S16 32) a x).toNat < S50048.size a)
theorem k0_idx278_inb : ∀ (v188 : BitVec 32) (v227 : BitVec 32) (v266 : BitVec 32) (v305 : BitVec 32) (v344 : BitVec 32) (v446 : IVec S16 32) (k0_hw287 : k0_chk287 v188 v227 v266 v305 v344 v446), ∀ (k0_h2 : k0_cond2 v188 v227 v266 v305 v344 = 1#1), ∀ a x, ((![v446] : Fin 1 → IVec S16 32) a x).toNat < S50048.size a := fun v188 v227 v266 v305 v344 v446 k0_hw287 k0_h2 => k0_hw287 k0_h2

def k0_chk288 (v188 : BitVec 32) (v227 : BitVec 32) (v266 : BitVec 32) (v305 : BitVec 32) (v344 : BitVec 32) (v448 : IVec S16 32) : Prop :=
  (∀ (k0_h2 : k0_cond2 v188 v227 v266 v305 v344 = 1#1), ∀ a x, ((![v448] : Fin 1 → IVec S16 32) a x).toNat < S50048.size a)
theorem k0_idx279_inb : ∀ (v188 : BitVec 32) (v227 : BitVec 32) (v266 : BitVec 32) (v305 : BitVec 32) (v344 : BitVec 32) (v448 : IVec S16 32) (k0_hw288 : k0_chk288 v188 v227 v266 v305 v344 v448), ∀ (k0_h2 : k0_cond2 v188 v227 v266 v305 v344 = 1#1), ∀ a x, ((![v448] : Fin 1 → IVec S16 32) a x).toNat < S50048.size a := fun v188 v227 v266 v305 v344 v448 k0_hw288 k0_h2 => k0_hw288 k0_h2

def k0_chk289 (v188 : BitVec 32) (v227 : BitVec 32) (v266 : BitVec 32) (v305 : BitVec 32) (v344 : BitVec 32) (v450 : IVec S16 32) : Prop :=
  (∀ (k0_h2 : k0_cond2 v188 v227 v266 v305 v344 = 1#1), ∀ a x, ((![v450] : Fin 1 → IVec S16 32) a x).toNat < S50048.size a)
theorem k0_idx280_inb : ∀ (v188 : BitVec 32) (v227 : BitVec 32) (v266 : BitVec 32) (v305 : BitVec 32) (v344 : BitVec 32) (v450 : IVec S16 32) (k0_hw289 : k0_chk289 v188 v227 v266 v305 v344 v450), ∀ (k0_h2 : k0_cond2 v188 v227 v266 v305 v344 = 1#1), ∀ a x, ((![v450] : Fin 1 → IVec S16 32) a x).toNat < S50048.size a := fun v188 v227 v266 v305 v344 v450 k0_hw289 k0_h2 => k0_hw289 k0_h2
@[reducible] def k0_t23_loop (v410 : BitVec 32) : Scf.Loop 32 :=
  let c1_i32_182 : BitVec 32 := 1#32
  let c1_i32_181 : BitVec 32 := 1#32
  let v411 : BitVec 32 := Scalar.addi v410 c1_i32_181
  let v412 : BitVec 32 := Scalar.subi v411 c1_i32_182
  let c1_i32_184 : BitVec 32 := 1#32
  let v414 : BitVec 32 := Scalar.divsi v412 c1_i32_184
  let v415 : BitVec 32 := Scalar.muli v414 c1_i32_184
  let v416 : BitVec 32 := Scalar.addi c1_i32_182 v415
  let c1_i32_185 : BitVec 32 := 1#32
  ⟨c1_i32_182, v416, c1_i32_185⟩

def k0_chk291 (v188 : BitVec 32) (v227 : BitVec 32) (v266 : BitVec 32) (v305 : BitVec 32) (v344 : BitVec 32) (v422 : IVec S16 32) : Prop :=
  (∀ (k0_h2 : k0_cond2 v188 v227 v266 v305 v344 = 1#1), ∀ a x, ((![v422] : Fin 1 → IVec S16 32) a x).toNat < S50048.size a)
theorem k0_idx281_inb : ∀ (v188 : BitVec 32) (v227 : BitVec 32) (v266 : BitVec 32) (v305 : BitVec 32) (v344 : BitVec 32) (v422 : IVec S16 32) (k0_hw291 : k0_chk291 v188 v227 v266 v305 v344 v422), ∀ (k0_h2 : k0_cond2 v188 v227 v266 v305 v344 = 1#1), ∀ a x, ((![v422] : Fin 1 → IVec S16 32) a x).toNat < S50048.size a := fun v188 v227 v266 v305 v344 v422 k0_hw291 k0_h2 => k0_hw291 k0_h2

def k0_chk292 (v188 : BitVec 32) (v227 : BitVec 32) (v266 : BitVec 32) (v305 : BitVec 32) (v344 : BitVec 32) (v426 : IVec S16 32) : Prop :=
  (∀ (k0_h2 : k0_cond2 v188 v227 v266 v305 v344 = 1#1), ∀ a x, ((![v426] : Fin 1 → IVec S16 32) a x).toNat < S50048.size a)
theorem k0_idx282_inb : ∀ (v188 : BitVec 32) (v227 : BitVec 32) (v266 : BitVec 32) (v305 : BitVec 32) (v344 : BitVec 32) (v426 : IVec S16 32) (k0_hw292 : k0_chk292 v188 v227 v266 v305 v344 v426), ∀ (k0_h2 : k0_cond2 v188 v227 v266 v305 v344 = 1#1), ∀ a x, ((![v426] : Fin 1 → IVec S16 32) a x).toNat < S50048.size a := fun v188 v227 v266 v305 v344 v426 k0_hw292 k0_h2 => k0_hw292 k0_h2

def k0_chk293 (v188 : BitVec 32) (v227 : BitVec 32) (v266 : BitVec 32) (v305 : BitVec 32) (v344 : BitVec 32) (v430 : IVec S16 32) : Prop :=
  (∀ (k0_h2 : k0_cond2 v188 v227 v266 v305 v344 = 1#1), ∀ a x, ((![v430] : Fin 1 → IVec S16 32) a x).toNat < S50048.size a)
theorem k0_idx283_inb : ∀ (v188 : BitVec 32) (v227 : BitVec 32) (v266 : BitVec 32) (v305 : BitVec 32) (v344 : BitVec 32) (v430 : IVec S16 32) (k0_hw293 : k0_chk293 v188 v227 v266 v305 v344 v430), ∀ (k0_h2 : k0_cond2 v188 v227 v266 v305 v344 = 1#1), ∀ a x, ((![v430] : Fin 1 → IVec S16 32) a x).toNat < S50048.size a := fun v188 v227 v266 v305 v344 v430 k0_hw293 k0_h2 => k0_hw293 k0_h2

def k0_chk294 (v188 : BitVec 32) (v227 : BitVec 32) (v266 : BitVec 32) (v305 : BitVec 32) (v344 : BitVec 32) (v434 : IVec S16 32) : Prop :=
  (∀ (k0_h2 : k0_cond2 v188 v227 v266 v305 v344 = 1#1), ∀ a x, ((![v434] : Fin 1 → IVec S16 32) a x).toNat < S50048.size a)
theorem k0_idx284_inb : ∀ (v188 : BitVec 32) (v227 : BitVec 32) (v266 : BitVec 32) (v305 : BitVec 32) (v344 : BitVec 32) (v434 : IVec S16 32) (k0_hw294 : k0_chk294 v188 v227 v266 v305 v344 v434), ∀ (k0_h2 : k0_cond2 v188 v227 v266 v305 v344 = 1#1), ∀ a x, ((![v434] : Fin 1 → IVec S16 32) a x).toNat < S50048.size a := fun v188 v227 v266 v305 v344 v434 k0_hw294 k0_h2 => k0_hw294 k0_h2

def k0_chk295 (v188 : BitVec 32) (v227 : BitVec 32) (v266 : BitVec 32) (v305 : BitVec 32) (v344 : BitVec 32) (v438 : IVec S16 32) : Prop :=
  (∀ (k0_h2 : k0_cond2 v188 v227 v266 v305 v344 = 1#1), ∀ a x, ((![v438] : Fin 1 → IVec S16 32) a x).toNat < S50048.size a)
theorem k0_idx285_inb : ∀ (v188 : BitVec 32) (v227 : BitVec 32) (v266 : BitVec 32) (v305 : BitVec 32) (v344 : BitVec 32) (v438 : IVec S16 32) (k0_hw295 : k0_chk295 v188 v227 v266 v305 v344 v438), ∀ (k0_h2 : k0_cond2 v188 v227 v266 v305 v344 = 1#1), ∀ a x, ((![v438] : Fin 1 → IVec S16 32) a x).toNat < S50048.size a := fun v188 v227 v266 v305 v344 v438 k0_hw295 k0_h2 => k0_hw295 k0_h2

def k0_chk296 (v188 : BitVec 32) (v227 : BitVec 32) (v266 : BitVec 32) (v305 : BitVec 32) (v344 : BitVec 32) (v442 : IVec S16 32) : Prop :=
  (∀ (k0_h2 : k0_cond2 v188 v227 v266 v305 v344 = 1#1), ∀ a x, ((![v442] : Fin 1 → IVec S16 32) a x).toNat < S50048.size a)
theorem k0_idx286_inb : ∀ (v188 : BitVec 32) (v227 : BitVec 32) (v266 : BitVec 32) (v305 : BitVec 32) (v344 : BitVec 32) (v442 : IVec S16 32) (k0_hw296 : k0_chk296 v188 v227 v266 v305 v344 v442), ∀ (k0_h2 : k0_cond2 v188 v227 v266 v305 v344 = 1#1), ∀ a x, ((![v442] : Fin 1 → IVec S16 32) a x).toNat < S50048.size a := fun v188 v227 v266 v305 v344 v442 k0_hw296 k0_h2 => k0_hw296 k0_h2

def k0_chk297 (v188 : BitVec 32) (v227 : BitVec 32) (v266 : BitVec 32) (v305 : BitVec 32) (v344 : BitVec 32) (v444 : IVec S16 32) : Prop :=
  (∀ (k0_h2 : k0_cond2 v188 v227 v266 v305 v344 = 1#1), ∀ a x, ((![v444] : Fin 1 → IVec S16 32) a x).toNat < S50048.size a)
theorem k0_idx287_inb : ∀ (v188 : BitVec 32) (v227 : BitVec 32) (v266 : BitVec 32) (v305 : BitVec 32) (v344 : BitVec 32) (v444 : IVec S16 32) (k0_hw297 : k0_chk297 v188 v227 v266 v305 v344 v444), ∀ (k0_h2 : k0_cond2 v188 v227 v266 v305 v344 = 1#1), ∀ a x, ((![v444] : Fin 1 → IVec S16 32) a x).toNat < S50048.size a := fun v188 v227 v266 v305 v344 v444 k0_hw297 k0_h2 => k0_hw297 k0_h2

def k0_chk298 (v188 : BitVec 32) (v227 : BitVec 32) (v266 : BitVec 32) (v305 : BitVec 32) (v344 : BitVec 32) (v446 : IVec S16 32) : Prop :=
  (∀ (k0_h2 : k0_cond2 v188 v227 v266 v305 v344 = 1#1), ∀ a x, ((![v446] : Fin 1 → IVec S16 32) a x).toNat < S50048.size a)
theorem k0_idx288_inb : ∀ (v188 : BitVec 32) (v227 : BitVec 32) (v266 : BitVec 32) (v305 : BitVec 32) (v344 : BitVec 32) (v446 : IVec S16 32) (k0_hw298 : k0_chk298 v188 v227 v266 v305 v344 v446), ∀ (k0_h2 : k0_cond2 v188 v227 v266 v305 v344 = 1#1), ∀ a x, ((![v446] : Fin 1 → IVec S16 32) a x).toNat < S50048.size a := fun v188 v227 v266 v305 v344 v446 k0_hw298 k0_h2 => k0_hw298 k0_h2

def k0_chk299 (v188 : BitVec 32) (v227 : BitVec 32) (v266 : BitVec 32) (v305 : BitVec 32) (v344 : BitVec 32) (v448 : IVec S16 32) : Prop :=
  (∀ (k0_h2 : k0_cond2 v188 v227 v266 v305 v344 = 1#1), ∀ a x, ((![v448] : Fin 1 → IVec S16 32) a x).toNat < S50048.size a)
theorem k0_idx289_inb : ∀ (v188 : BitVec 32) (v227 : BitVec 32) (v266 : BitVec 32) (v305 : BitVec 32) (v344 : BitVec 32) (v448 : IVec S16 32) (k0_hw299 : k0_chk299 v188 v227 v266 v305 v344 v448), ∀ (k0_h2 : k0_cond2 v188 v227 v266 v305 v344 = 1#1), ∀ a x, ((![v448] : Fin 1 → IVec S16 32) a x).toNat < S50048.size a := fun v188 v227 v266 v305 v344 v448 k0_hw299 k0_h2 => k0_hw299 k0_h2

def k0_chk300 (v188 : BitVec 32) (v227 : BitVec 32) (v266 : BitVec 32) (v305 : BitVec 32) (v344 : BitVec 32) (v450 : IVec S16 32) : Prop :=
  (∀ (k0_h2 : k0_cond2 v188 v227 v266 v305 v344 = 1#1), ∀ a x, ((![v450] : Fin 1 → IVec S16 32) a x).toNat < S50048.size a)
theorem k0_idx290_inb : ∀ (v188 : BitVec 32) (v227 : BitVec 32) (v266 : BitVec 32) (v305 : BitVec 32) (v344 : BitVec 32) (v450 : IVec S16 32) (k0_hw300 : k0_chk300 v188 v227 v266 v305 v344 v450), ∀ (k0_h2 : k0_cond2 v188 v227 v266 v305 v344 = 1#1), ∀ a x, ((![v450] : Fin 1 → IVec S16 32) a x).toNat < S50048.size a := fun v188 v227 v266 v305 v344 v450 k0_hw300 k0_h2 => k0_hw300 k0_h2
@[reducible] def k0_t24_loop (v410 : BitVec 32) : Scf.Loop 32 :=
  let c1_i32_182 : BitVec 32 := 1#32
  let c1_i32_181 : BitVec 32 := 1#32
  let v411 : BitVec 32 := Scalar.addi v410 c1_i32_181
  let v412 : BitVec 32 := Scalar.subi v411 c1_i32_182
  let c1_i32_184 : BitVec 32 := 1#32
  let v414 : BitVec 32 := Scalar.divsi v412 c1_i32_184
  let v415 : BitVec 32 := Scalar.muli v414 c1_i32_184
  let v416 : BitVec 32 := Scalar.addi c1_i32_182 v415
  let v413 : BitVec 32 := Scalar.addi c1_i32_182 v412
  let c1_i32_186 : BitVec 32 := 1#32
  ⟨v416, v413, c1_i32_186⟩

def k0_chk290 (v188 : BitVec 32) (v227 : BitVec 32) (v266 : BitVec 32) (v305 : BitVec 32) (v344 : BitVec 32) (v410 : BitVec 32) : Prop :=
  (∀ (k0_h2 : k0_cond2 v188 v227 v266 v305 v344 = 1#1), (k0_t23_loop v410).OK) ∧
  (∀ (k0_h2 : k0_cond2 v188 v227 v266 v305 v344 = 1#1), (k0_t24_loop v410).OK)
theorem k0_t23_ok : ∀ (v188 : BitVec 32) (v227 : BitVec 32) (v266 : BitVec 32) (v305 : BitVec 32) (v344 : BitVec 32) (v410 : BitVec 32) (k0_hw290 : k0_chk290 v188 v227 v266 v305 v344 v410), ∀ (k0_h2 : k0_cond2 v188 v227 v266 v305 v344 = 1#1), (k0_t23_loop v410).OK := fun v188 v227 v266 v305 v344 v410 k0_hw290 k0_h2 => k0_hw290.1 k0_h2
theorem k0_t24_ok : ∀ (v188 : BitVec 32) (v227 : BitVec 32) (v266 : BitVec 32) (v305 : BitVec 32) (v344 : BitVec 32) (v410 : BitVec 32) (k0_hw290 : k0_chk290 v188 v227 v266 v305 v344 v410), ∀ (k0_h2 : k0_cond2 v188 v227 v266 v305 v344 = 1#1), (k0_t24_loop v410).OK := fun v188 v227 v266 v305 v344 v410 k0_hw290 k0_h2 => k0_hw290.2 k0_h2

def k0_chk301 (v188 : BitVec 32) (v227 : BitVec 32) (v266 : BitVec 32) (v305 : BitVec 32) (v344 : BitVec 32) (v422 : IVec S16 32) : Prop :=
  (∀ (k0_h2 : k0_cond2 v188 v227 v266 v305 v344 = 1#1), ∀ a x, ((![v422] : Fin 1 → IVec S16 32) a x).toNat < S50048.size a)
theorem k0_idx291_inb : ∀ (v188 : BitVec 32) (v227 : BitVec 32) (v266 : BitVec 32) (v305 : BitVec 32) (v344 : BitVec 32) (v422 : IVec S16 32) (k0_hw301 : k0_chk301 v188 v227 v266 v305 v344 v422), ∀ (k0_h2 : k0_cond2 v188 v227 v266 v305 v344 = 1#1), ∀ a x, ((![v422] : Fin 1 → IVec S16 32) a x).toNat < S50048.size a := fun v188 v227 v266 v305 v344 v422 k0_hw301 k0_h2 => k0_hw301 k0_h2

def k0_chk302 (v188 : BitVec 32) (v227 : BitVec 32) (v266 : BitVec 32) (v305 : BitVec 32) (v344 : BitVec 32) (v426 : IVec S16 32) : Prop :=
  (∀ (k0_h2 : k0_cond2 v188 v227 v266 v305 v344 = 1#1), ∀ a x, ((![v426] : Fin 1 → IVec S16 32) a x).toNat < S50048.size a)
theorem k0_idx292_inb : ∀ (v188 : BitVec 32) (v227 : BitVec 32) (v266 : BitVec 32) (v305 : BitVec 32) (v344 : BitVec 32) (v426 : IVec S16 32) (k0_hw302 : k0_chk302 v188 v227 v266 v305 v344 v426), ∀ (k0_h2 : k0_cond2 v188 v227 v266 v305 v344 = 1#1), ∀ a x, ((![v426] : Fin 1 → IVec S16 32) a x).toNat < S50048.size a := fun v188 v227 v266 v305 v344 v426 k0_hw302 k0_h2 => k0_hw302 k0_h2

def k0_chk303 (v188 : BitVec 32) (v227 : BitVec 32) (v266 : BitVec 32) (v305 : BitVec 32) (v344 : BitVec 32) (v430 : IVec S16 32) : Prop :=
  (∀ (k0_h2 : k0_cond2 v188 v227 v266 v305 v344 = 1#1), ∀ a x, ((![v430] : Fin 1 → IVec S16 32) a x).toNat < S50048.size a)
theorem k0_idx293_inb : ∀ (v188 : BitVec 32) (v227 : BitVec 32) (v266 : BitVec 32) (v305 : BitVec 32) (v344 : BitVec 32) (v430 : IVec S16 32) (k0_hw303 : k0_chk303 v188 v227 v266 v305 v344 v430), ∀ (k0_h2 : k0_cond2 v188 v227 v266 v305 v344 = 1#1), ∀ a x, ((![v430] : Fin 1 → IVec S16 32) a x).toNat < S50048.size a := fun v188 v227 v266 v305 v344 v430 k0_hw303 k0_h2 => k0_hw303 k0_h2

def k0_chk304 (v188 : BitVec 32) (v227 : BitVec 32) (v266 : BitVec 32) (v305 : BitVec 32) (v344 : BitVec 32) (v434 : IVec S16 32) : Prop :=
  (∀ (k0_h2 : k0_cond2 v188 v227 v266 v305 v344 = 1#1), ∀ a x, ((![v434] : Fin 1 → IVec S16 32) a x).toNat < S50048.size a)
theorem k0_idx294_inb : ∀ (v188 : BitVec 32) (v227 : BitVec 32) (v266 : BitVec 32) (v305 : BitVec 32) (v344 : BitVec 32) (v434 : IVec S16 32) (k0_hw304 : k0_chk304 v188 v227 v266 v305 v344 v434), ∀ (k0_h2 : k0_cond2 v188 v227 v266 v305 v344 = 1#1), ∀ a x, ((![v434] : Fin 1 → IVec S16 32) a x).toNat < S50048.size a := fun v188 v227 v266 v305 v344 v434 k0_hw304 k0_h2 => k0_hw304 k0_h2

def k0_chk305 (v188 : BitVec 32) (v227 : BitVec 32) (v266 : BitVec 32) (v305 : BitVec 32) (v344 : BitVec 32) (v438 : IVec S16 32) : Prop :=
  (∀ (k0_h2 : k0_cond2 v188 v227 v266 v305 v344 = 1#1), ∀ a x, ((![v438] : Fin 1 → IVec S16 32) a x).toNat < S50048.size a)
theorem k0_idx295_inb : ∀ (v188 : BitVec 32) (v227 : BitVec 32) (v266 : BitVec 32) (v305 : BitVec 32) (v344 : BitVec 32) (v438 : IVec S16 32) (k0_hw305 : k0_chk305 v188 v227 v266 v305 v344 v438), ∀ (k0_h2 : k0_cond2 v188 v227 v266 v305 v344 = 1#1), ∀ a x, ((![v438] : Fin 1 → IVec S16 32) a x).toNat < S50048.size a := fun v188 v227 v266 v305 v344 v438 k0_hw305 k0_h2 => k0_hw305 k0_h2

def k0_chk306 (v188 : BitVec 32) (v227 : BitVec 32) (v266 : BitVec 32) (v305 : BitVec 32) (v344 : BitVec 32) (v442 : IVec S16 32) : Prop :=
  (∀ (k0_h2 : k0_cond2 v188 v227 v266 v305 v344 = 1#1), ∀ a x, ((![v442] : Fin 1 → IVec S16 32) a x).toNat < S50048.size a)
theorem k0_idx296_inb : ∀ (v188 : BitVec 32) (v227 : BitVec 32) (v266 : BitVec 32) (v305 : BitVec 32) (v344 : BitVec 32) (v442 : IVec S16 32) (k0_hw306 : k0_chk306 v188 v227 v266 v305 v344 v442), ∀ (k0_h2 : k0_cond2 v188 v227 v266 v305 v344 = 1#1), ∀ a x, ((![v442] : Fin 1 → IVec S16 32) a x).toNat < S50048.size a := fun v188 v227 v266 v305 v344 v442 k0_hw306 k0_h2 => k0_hw306 k0_h2

def k0_chk307 (v188 : BitVec 32) (v227 : BitVec 32) (v266 : BitVec 32) (v305 : BitVec 32) (v344 : BitVec 32) (v444 : IVec S16 32) : Prop :=
  (∀ (k0_h2 : k0_cond2 v188 v227 v266 v305 v344 = 1#1), ∀ a x, ((![v444] : Fin 1 → IVec S16 32) a x).toNat < S50048.size a)
theorem k0_idx297_inb : ∀ (v188 : BitVec 32) (v227 : BitVec 32) (v266 : BitVec 32) (v305 : BitVec 32) (v344 : BitVec 32) (v444 : IVec S16 32) (k0_hw307 : k0_chk307 v188 v227 v266 v305 v344 v444), ∀ (k0_h2 : k0_cond2 v188 v227 v266 v305 v344 = 1#1), ∀ a x, ((![v444] : Fin 1 → IVec S16 32) a x).toNat < S50048.size a := fun v188 v227 v266 v305 v344 v444 k0_hw307 k0_h2 => k0_hw307 k0_h2

def k0_chk308 (v188 : BitVec 32) (v227 : BitVec 32) (v266 : BitVec 32) (v305 : BitVec 32) (v344 : BitVec 32) (v446 : IVec S16 32) : Prop :=
  (∀ (k0_h2 : k0_cond2 v188 v227 v266 v305 v344 = 1#1), ∀ a x, ((![v446] : Fin 1 → IVec S16 32) a x).toNat < S50048.size a)
theorem k0_idx298_inb : ∀ (v188 : BitVec 32) (v227 : BitVec 32) (v266 : BitVec 32) (v305 : BitVec 32) (v344 : BitVec 32) (v446 : IVec S16 32) (k0_hw308 : k0_chk308 v188 v227 v266 v305 v344 v446), ∀ (k0_h2 : k0_cond2 v188 v227 v266 v305 v344 = 1#1), ∀ a x, ((![v446] : Fin 1 → IVec S16 32) a x).toNat < S50048.size a := fun v188 v227 v266 v305 v344 v446 k0_hw308 k0_h2 => k0_hw308 k0_h2

def k0_chk309 (v188 : BitVec 32) (v227 : BitVec 32) (v266 : BitVec 32) (v305 : BitVec 32) (v344 : BitVec 32) (v448 : IVec S16 32) : Prop :=
  (∀ (k0_h2 : k0_cond2 v188 v227 v266 v305 v344 = 1#1), ∀ a x, ((![v448] : Fin 1 → IVec S16 32) a x).toNat < S50048.size a)
theorem k0_idx299_inb : ∀ (v188 : BitVec 32) (v227 : BitVec 32) (v266 : BitVec 32) (v305 : BitVec 32) (v344 : BitVec 32) (v448 : IVec S16 32) (k0_hw309 : k0_chk309 v188 v227 v266 v305 v344 v448), ∀ (k0_h2 : k0_cond2 v188 v227 v266 v305 v344 = 1#1), ∀ a x, ((![v448] : Fin 1 → IVec S16 32) a x).toNat < S50048.size a := fun v188 v227 v266 v305 v344 v448 k0_hw309 k0_h2 => k0_hw309 k0_h2

def k0_chk310 (v188 : BitVec 32) (v227 : BitVec 32) (v266 : BitVec 32) (v305 : BitVec 32) (v344 : BitVec 32) (v450 : IVec S16 32) : Prop :=
  (∀ (k0_h2 : k0_cond2 v188 v227 v266 v305 v344 = 1#1), ∀ a x, ((![v450] : Fin 1 → IVec S16 32) a x).toNat < S50048.size a)
theorem k0_idx300_inb : ∀ (v188 : BitVec 32) (v227 : BitVec 32) (v266 : BitVec 32) (v305 : BitVec 32) (v344 : BitVec 32) (v450 : IVec S16 32) (k0_hw310 : k0_chk310 v188 v227 v266 v305 v344 v450), ∀ (k0_h2 : k0_cond2 v188 v227 v266 v305 v344 = 1#1), ∀ a x, ((![v450] : Fin 1 → IVec S16 32) a x).toNat < S50048.size a := fun v188 v227 v266 v305 v344 v450 k0_hw310 k0_h2 => k0_hw310 k0_h2
def k0_off8 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c50000_i32_30 : BitVec 32 := 50000#32
  let v57 : BitVec 32 := Scalar.muli v1 c50000_i32_30
  ![v57.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S200000 : Shape := ⟨1, ![200000]⟩
abbrev S320000 : Shape := ⟨1, ![320000]⟩
abbrev S20x10000 : Shape := ⟨2, ![20, 10000]⟩
abbrev S10000x20 : Shape := ⟨2, ![10000, 20]⟩
abbrev S_ : Shape := ⟨0, ![]⟩
abbrev S320000x1 : Shape := ⟨2, ![320000, 1]⟩
abbrev S320000x20 : Shape := ⟨2, ![320000, 20]⟩
abbrev S8 : Shape := ⟨1, ![8]⟩
abbrev S8x1 : Shape := ⟨2, ![8, 1]⟩
abbrev S8x40000 : Shape := ⟨2, ![8, 40000]⟩
abbrev S80000x20 : Shape := ⟨2, ![80000, 20]⟩
abbrev S8x10000x20 : Shape := ⟨3, ![8, 10000, 20]⟩
abbrev S8x20x10000 : Shape := ⟨3, ![8, 20, 10000]⟩
abbrev S1600000 : Shape := ⟨1, ![1600000]⟩

abbrev nBuf : Space → Nat
  | .hbm => 33
  | .vmem => 0
  | .smem => 0
  | _ => 0

abbrev bufTy : (tb : Table) → Fin (tcTables nBuf tb) → BufTy
  | .hbm, ⟨0, _⟩ => ⟨S200000, .f32⟩
  | .hbm, ⟨1, _⟩ => ⟨S320000, .i32⟩
  | .hbm, ⟨2, _⟩ => ⟨S320000, .i32⟩
  | .hbm, ⟨3, _⟩ => ⟨S320000, .f32⟩
  | .hbm, ⟨4, _⟩ => ⟨S20x10000, .f32⟩
  | .hbm, ⟨5, _⟩ => ⟨S10000x20, .f32⟩
  | .hbm, ⟨6, _⟩ => ⟨S_, .i32⟩
  | .hbm, ⟨7, _⟩ => ⟨S320000, .i32⟩
  | .hbm, ⟨8, _⟩ => ⟨S320000, .i1⟩
  | .hbm, ⟨9, _⟩ => ⟨S_, .i32⟩
  | .hbm, ⟨10, _⟩ => ⟨S320000, .i32⟩
  | .hbm, ⟨11, _⟩ => ⟨S320000, .i32⟩
  | .hbm, ⟨12, _⟩ => ⟨S320000, .i32⟩
  | .hbm, ⟨13, _⟩ => ⟨S320000x1, .i32⟩
  | .hbm, ⟨14, _⟩ => ⟨S320000x20, .f32⟩
  | .hbm, ⟨15, _⟩ => ⟨S320000x1, .f32⟩
  | .hbm, ⟨16, _⟩ => ⟨S320000x20, .f32⟩
  | .hbm, ⟨17, _⟩ => ⟨S320000x20, .f32⟩
  | .hbm, ⟨18, _⟩ => ⟨S8, .i32⟩
  | .hbm, ⟨19, _⟩ => ⟨S8x1, .i32⟩
  | .hbm, ⟨20, _⟩ => ⟨S8x40000, .i32⟩
  | .hbm, ⟨21, _⟩ => ⟨S320000, .i32⟩
  | .hbm, ⟨22, _⟩ => ⟨S_, .i32⟩
  | .hbm, ⟨23, _⟩ => ⟨S320000, .i32⟩
  | .hbm, ⟨24, _⟩ => ⟨S320000, .i32⟩
  | .hbm, ⟨25, _⟩ => ⟨S320000, .i32⟩
  | .hbm, ⟨26, _⟩ => ⟨S_, .f32⟩
  | .hbm, ⟨27, _⟩ => ⟨S80000x20, .f32⟩
  | .hbm, ⟨28, _⟩ => ⟨S320000x1, .i32⟩
  | .hbm, ⟨29, _⟩ => ⟨S80000x20, .f32⟩
  | .hbm, ⟨30, _⟩ => ⟨S8x10000x20, .f32⟩
  | .hbm, ⟨31, _⟩ => ⟨S8x20x10000, .f32⟩
  | .hbm, ⟨32, _⟩ => ⟨S1600000, .f32⟩
  | _, _ => ⟨S200000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c_1 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]
-- ==== Degrees.lean ====
abbrev S320000 : Shape := ⟨1, ![320000]⟩
abbrev S10000 : Shape := ⟨1, ![10000]⟩
abbrev S10048 : Shape := ⟨1, ![10048]⟩
abbrev S_ : Shape := ⟨0, ![]⟩
abbrev S16 : Shape := ⟨1, ![16]⟩

abbrev nBuf : Table → Nat
  | .hbm => 3
  | .local .scVector .vmem => 3
  | _ => 0

abbrev bufTy : (tb : Table) → Fin (nBuf tb) → BufTy
  | .hbm, ⟨0, _⟩ => ⟨S320000, .i32⟩
  | .hbm, ⟨1, _⟩ => ⟨S320000, .f32⟩
  | .hbm, ⟨2, _⟩ => ⟨S320000, .f32⟩
  | .local .scVector .vmem, ⟨0, _⟩ => ⟨S10000, .i32⟩
  | .local .scVector .vmem, ⟨1, _⟩ => ⟨S10000, .f32⟩
  | .local .scVector .vmem, ⟨2, _⟩ => ⟨S10048, .f32⟩
  | _, _ => ⟨S320000, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 2 → Bool
  | ⟨0, _⟩ => false
  | ⟨1, _⟩ => false
  | _ => false

abbrev sig : RefSig :=
  ofTables nBuf rfl bufTy 4 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg0_scv : Ref sig .scVector := ⟨.hbm, 0, rfl⟩
abbrev main_arg1_scv : Ref sig .scVector := ⟨.hbm, 1, rfl⟩
abbrev main_v0_scv : Ref sig .scVector := ⟨.hbm, 2, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v2 : BitVec 32 := Scalar.muli v1 c10000_i32
  ![v2.toNat]
@[reducible] def k0_t1_loop : Scf.Loop 32 :=
  let c0_i32_0 : BitVec 32 := 0#32
  let c157_i32 : BitVec 32 := 157#32
  let v7 : BitVec 32 := Scalar.addi c0_i32_0 c157_i32
  let c1_i32 : BitVec 32 := 1#32
  ⟨c0_i32_0, v7, c1_i32⟩
def k0_off2 (k0_t1 : Fin k0_t1_loop.trips) (c0_i32_7 : BitVec 32) : Fin 1 → Nat :=
  let c0_i32_0 : BitVec 32 := 0#32
  let c1_i32 : BitVec 32 := 1#32
  let arg9 : BitVec 32 := Scf.iv c0_i32_0 c1_i32 k0_t1
  let c64_i32 : BitVec 32 := 64#32
  let v17 : BitVec 32 := Scalar.muli arg9 c64_i32
  let v18 : BitVec 32 := Scalar.addi v17 c0_i32_7
  let v19 : Index := Scalar.indexCast v18
  ![v19.toNat]
@[reducible] def k0_t2_loop : Scf.Loop 32 :=
  let c0_i32_3 : BitVec 32 := 0#32
  let c125_i32 : BitVec 32 := 125#32
  let v13 : BitVec 32 := Scalar.addi c0_i32_3 c125_i32
  let c1_i32_4 : BitVec 32 := 1#32
  ⟨c0_i32_3, v13, c1_i32_4⟩
def k0_off3 (k0_t2 : Fin k0_t2_loop.trips) : Fin 1 → Nat :=
  let c0_i32_3 : BitVec 32 := 0#32
  let c1_i32_4 : BitVec 32 := 1#32
  let arg9 : BitVec 32 := Scf.iv c0_i32_3 c1_i32_4 k0_t2
  let c80_i32 : BitVec 32 := 80#32
  let v16 : BitVec 32 := Scalar.muli arg9 c80_i32
  let c0_i32_7 : BitVec 32 := 0#32
  let v17 : BitVec 32 := Scalar.addi v16 c0_i32_7
  let v18 : Index := Scalar.indexCast v17
  ![v18.toNat]

def k0_chk1 (v19 : IVec S16 32) : Prop :=
  (∀ a x, ((![v19] : Fin 1 → IVec S16 32) a x).toNat < S10048.size a)
theorem k0_idx1_inb : ∀ (v19 : IVec S16 32) (k0_hw1 : k0_chk1 v19), ∀ a x, ((![v19] : Fin 1 → IVec S16 32) a x).toNat < S10048.size a := fun v19 k0_hw1 => k0_hw1
def k0_off4 (k0_t2 : Fin k0_t2_loop.trips) : Fin 1 → Nat :=
  let c0_i32_3 : BitVec 32 := 0#32
  let c1_i32_4 : BitVec 32 := 1#32
  let arg9 : BitVec 32 := Scf.iv c0_i32_3 c1_i32_4 k0_t2
  let c80_i32_11 : BitVec 32 := 80#32
  let v32 : BitVec 32 := Scalar.muli arg9 c80_i32_11
  let c16_i32_12 : BitVec 32 := 16#32
  let v33 : BitVec 32 := Scalar.addi v32 c16_i32_12
  let v34 : Index := Scalar.indexCast v33
  ![v34.toNat]

def k0_chk2 (v35 : IVec S16 32) : Prop :=
  (∀ a x, ((![v35] : Fin 1 → IVec S16 32) a x).toNat < S10048.size a)
theorem k0_idx2_inb : ∀ (v35 : IVec S16 32) (k0_hw2 : k0_chk2 v35), ∀ a x, ((![v35] : Fin 1 → IVec S16 32) a x).toNat < S10048.size a := fun v35 k0_hw2 => k0_hw2
def k0_off5 (k0_t2 : Fin k0_t2_loop.trips) : Fin 1 → Nat :=
  let c0_i32_3 : BitVec 32 := 0#32
  let c1_i32_4 : BitVec 32 := 1#32
  let arg9 : BitVec 32 := Scf.iv c0_i32_3 c1_i32_4 k0_t2
  let c80_i32_19 : BitVec 32 := 80#32
  let v48 : BitVec 32 := Scalar.muli arg9 c80_i32_19
  let c32_i32 : BitVec 32 := 32#32
  let v49 : BitVec 32 := Scalar.addi v48 c32_i32
  let v50 : Index := Scalar.indexCast v49
  ![v50.toNat]

def k0_chk3 (v51 : IVec S16 32) : Prop :=
  (∀ a x, ((![v51] : Fin 1 → IVec S16 32) a x).toNat < S10048.size a)
theorem k0_idx3_inb : ∀ (v51 : IVec S16 32) (k0_hw3 : k0_chk3 v51), ∀ a x, ((![v51] : Fin 1 → IVec S16 32) a x).toNat < S10048.size a := fun v51 k0_hw3 => k0_hw3
def k0_off6 (k0_t2 : Fin k0_t2_loop.trips) : Fin 1 → Nat :=
  let c0_i32_3 : BitVec 32 := 0#32
  let c1_i32_4 : BitVec 32 := 1#32
  let arg9 : BitVec 32 := Scf.iv c0_i32_3 c1_i32_4 k0_t2
  let c80_i32_26 : BitVec 32 := 80#32
  let v64 : BitVec 32 := Scalar.muli arg9 c80_i32_26
  let c48_i32 : BitVec 32 := 48#32
  let v65 : BitVec 32 := Scalar.addi v64 c48_i32
  let v66 : Index := Scalar.indexCast v65
  ![v66.toNat]

def k0_chk4 (v67 : IVec S16 32) : Prop :=
  (∀ a x, ((![v67] : Fin 1 → IVec S16 32) a x).toNat < S10048.size a)
theorem k0_idx4_inb : ∀ (v67 : IVec S16 32) (k0_hw4 : k0_chk4 v67), ∀ a x, ((![v67] : Fin 1 → IVec S16 32) a x).toNat < S10048.size a := fun v67 k0_hw4 => k0_hw4
def k0_off7 (k0_t2 : Fin k0_t2_loop.trips) : Fin 1 → Nat :=
  let c0_i32_3 : BitVec 32 := 0#32
  let c1_i32_4 : BitVec 32 := 1#32
  let arg9 : BitVec 32 := Scf.iv c0_i32_3 c1_i32_4 k0_t2
  let c80_i32_33 : BitVec 32 := 80#32
  let v80 : BitVec 32 := Scalar.muli arg9 c80_i32_33
  let c64_i32 : BitVec 32 := 64#32
  let v81 : BitVec 32 := Scalar.addi v80 c64_i32
  let v82 : Index := Scalar.indexCast v81
  ![v82.toNat]

def k0_chk5 (v83 : IVec S16 32) : Prop :=
  (∀ a x, ((![v83] : Fin 1 → IVec S16 32) a x).toNat < S10048.size a)
theorem k0_idx5_inb : ∀ (v83 : IVec S16 32) (k0_hw5 : k0_chk5 v83), ∀ a x, ((![v83] : Fin 1 → IVec S16 32) a x).toNat < S10048.size a := fun v83 k0_hw5 => k0_hw5
@[reducible] def k0_t3_loop (v104 : BitVec 32) : Scf.Loop 32 :=
  let c1_i32_46 : BitVec 32 := 1#32
  let c1_i32_45 : BitVec 32 := 1#32
  let v105 : BitVec 32 := Scalar.addi v104 c1_i32_45
  let v106 : BitVec 32 := Scalar.subi v105 c1_i32_46
  let c1_i32_48 : BitVec 32 := 1#32
  let v108 : BitVec 32 := Scalar.divsi v106 c1_i32_48
  let v109 : BitVec 32 := Scalar.muli v108 c1_i32_48
  let v110 : BitVec 32 := Scalar.addi c1_i32_46 v109
  let c1_i32_49 : BitVec 32 := 1#32
  ⟨c1_i32_46, v110, c1_i32_49⟩
def k0_cond1 (v30 : BitVec 32) (v46 : BitVec 32) (v62 : BitVec 32) (v78 : BitVec 32) (v94 : BitVec 32) : BitVec 1 :=
  let c0_i32_10 : BitVec 32 := 0#32
  let v31 : BitVec 32 := Scalar.maxsi c0_i32_10 v30
  let v47 : BitVec 32 := Scalar.maxsi v31 v46
  let v63 : BitVec 32 := Scalar.maxsi v47 v62
  let v79 : BitVec 32 := Scalar.maxsi v63 v78
  let v95 : BitVec 32 := Scalar.maxsi v79 v94
  let c0_i32_40 : BitVec 32 := 0#32
  let v96 : BitVec 1 := Scalar.cmpi .sgt v95 c0_i32_40
  let v97 : BitVec 32 := Scalar.extui v96
  let c0_i32_41 : BitVec 32 := 0#32
  let v98 : BitVec 1 := Scalar.cmpi .ne v97 c0_i32_41
  v98

@[reducible] def k0_t4_loop (v104 : BitVec 32) : Scf.Loop 32 :=
  let c1_i32_46 : BitVec 32 := 1#32
  let c1_i32_45 : BitVec 32 := 1#32
  let v105 : BitVec 32 := Scalar.addi v104 c1_i32_45
  let v106 : BitVec 32 := Scalar.subi v105 c1_i32_46
  let c1_i32_48 : BitVec 32 := 1#32
  let v108 : BitVec 32 := Scalar.divsi v106 c1_i32_48
  let v109 : BitVec 32 := Scalar.muli v108 c1_i32_48
  let v110 : BitVec 32 := Scalar.addi c1_i32_46 v109
  let v107 : BitVec 32 := Scalar.addi c1_i32_46 v106
  let c1_i32_50 : BitVec 32 := 1#32
  ⟨v110, v107, c1_i32_50⟩

def k0_chk6 (v19 : IVec S16 32) (v30 : BitVec 32) (v46 : BitVec 32) (v62 : BitVec 32) (v78 : BitVec 32) (v94 : BitVec 32) (v104 : BitVec 32) : Prop :=
  (∀ (k0_h1 : k0_cond1 v30 v46 v62 v78 v94 = 1#1), (k0_t3_loop v104).OK) ∧
  (∀ k0_t3 : Fin (k0_t3_loop v104).trips, ∀ (k0_h1 : k0_cond1 v30 v46 v62 v78 v94 = 1#1), ∀ a x, ((![v19] : Fin 1 → IVec S16 32) a x).toNat < S10048.size a) ∧
  (∀ (k0_h1 : k0_cond1 v30 v46 v62 v78 v94 = 1#1), (k0_t4_loop v104).OK) ∧
  (∀ k0_t4 : Fin (k0_t4_loop v104).trips, ∀ (k0_h1 : k0_cond1 v30 v46 v62 v78 v94 = 1#1), ∀ a x, ((![v19] : Fin 1 → IVec S16 32) a x).toNat < S10048.size a)
theorem k0_t3_ok : ∀ (v19 : IVec S16 32) (v30 : BitVec 32) (v46 : BitVec 32) (v62 : BitVec 32) (v78 : BitVec 32) (v94 : BitVec 32) (v104 : BitVec 32) (k0_hw6 : k0_chk6 v19 v30 v46 v62 v78 v94 v104), ∀ (k0_h1 : k0_cond1 v30 v46 v62 v78 v94 = 1#1), (k0_t3_loop v104).OK := fun v19 v30 v46 v62 v78 v94 v104 k0_hw6 k0_h1 => k0_hw6.1 k0_h1
theorem k0_idx6_inb : ∀ (v19 : IVec S16 32) (v30 : BitVec 32) (v46 : BitVec 32) (v62 : BitVec 32) (v78 : BitVec 32) (v94 : BitVec 32) (v104 : BitVec 32) (k0_hw6 : k0_chk6 v19 v30 v46 v62 v78 v94 v104) (k0_t3 : Fin (k0_t3_loop v104).trips), ∀ (k0_h1 : k0_cond1 v30 v46 v62 v78 v94 = 1#1), ∀ a x, ((![v19] : Fin 1 → IVec S16 32) a x).toNat < S10048.size a := fun v19 v30 v46 v62 v78 v94 v104 k0_hw6 k0_t3 k0_h1 => k0_hw6.2.1 k0_t3 k0_h1
theorem k0_t4_ok : ∀ (v19 : IVec S16 32) (v30 : BitVec 32) (v46 : BitVec 32) (v62 : BitVec 32) (v78 : BitVec 32) (v94 : BitVec 32) (v104 : BitVec 32) (k0_hw6 : k0_chk6 v19 v30 v46 v62 v78 v94 v104), ∀ (k0_h1 : k0_cond1 v30 v46 v62 v78 v94 = 1#1), (k0_t4_loop v104).OK := fun v19 v30 v46 v62 v78 v94 v104 k0_hw6 k0_h1 => k0_hw6.2.2.1 k0_h1
theorem k0_idx7_inb : ∀ (v19 : IVec S16 32) (v30 : BitVec 32) (v46 : BitVec 32) (v62 : BitVec 32) (v78 : BitVec 32) (v94 : BitVec 32) (v104 : BitVec 32) (k0_hw6 : k0_chk6 v19 v30 v46 v62 v78 v94 v104) (k0_t4 : Fin (k0_t4_loop v104).trips), ∀ (k0_h1 : k0_cond1 v30 v46 v62 v78 v94 = 1#1), ∀ a x, ((![v19] : Fin 1 → IVec S16 32) a x).toNat < S10048.size a := fun v19 v30 v46 v62 v78 v94 v104 k0_hw6 k0_t4 k0_h1 => k0_hw6.2.2.2 k0_t4 k0_h1
@[reducible] def k0_t5_loop (v118 : BitVec 32) : Scf.Loop 32 :=
  let c1_i32_54 : BitVec 32 := 1#32
  let c1_i32_53 : BitVec 32 := 1#32
  let v119 : BitVec 32 := Scalar.addi v118 c1_i32_53
  let v120 : BitVec 32 := Scalar.subi v119 c1_i32_54
  let c1_i32_56 : BitVec 32 := 1#32
  let v122 : BitVec 32 := Scalar.divsi v120 c1_i32_56
  let v123 : BitVec 32 := Scalar.muli v122 c1_i32_56
  let v124 : BitVec 32 := Scalar.addi c1_i32_54 v123
  let c1_i32_57 : BitVec 32 := 1#32
  ⟨c1_i32_54, v124, c1_i32_57⟩

@[reducible] def k0_t6_loop (v118 : BitVec 32) : Scf.Loop 32 :=
  let c1_i32_54 : BitVec 32 := 1#32
  let c1_i32_53 : BitVec 32 := 1#32
  let v119 : BitVec 32 := Scalar.addi v118 c1_i32_53
  let v120 : BitVec 32 := Scalar.subi v119 c1_i32_54
  let c1_i32_56 : BitVec 32 := 1#32
  let v122 : BitVec 32 := Scalar.divsi v120 c1_i32_56
  let v123 : BitVec 32 := Scalar.muli v122 c1_i32_56
  let v124 : BitVec 32 := Scalar.addi c1_i32_54 v123
  let v121 : BitVec 32 := Scalar.addi c1_i32_54 v120
  let c1_i32_58 : BitVec 32 := 1#32
  ⟨v124, v121, c1_i32_58⟩

def k0_chk7 (v30 : BitVec 32) (v35 : IVec S16 32) (v46 : BitVec 32) (v62 : BitVec 32) (v78 : BitVec 32) (v94 : BitVec 32) (v118 : BitVec 32) : Prop :=
  (∀ (k0_h1 : k0_cond1 v30 v46 v62 v78 v94 = 1#1), (k0_t5_loop v118).OK) ∧
  (∀ k0_t5 : Fin (k0_t5_loop v118).trips, ∀ (k0_h1 : k0_cond1 v30 v46 v62 v78 v94 = 1#1), ∀ a x, ((![v35] : Fin 1 → IVec S16 32) a x).toNat < S10048.size a) ∧
  (∀ (k0_h1 : k0_cond1 v30 v46 v62 v78 v94 = 1#1), (k0_t6_loop v118).OK) ∧
  (∀ k0_t6 : Fin (k0_t6_loop v118).trips, ∀ (k0_h1 : k0_cond1 v30 v46 v62 v78 v94 = 1#1), ∀ a x, ((![v35] : Fin 1 → IVec S16 32) a x).toNat < S10048.size a)
theorem k0_t5_ok : ∀ (v30 : BitVec 32) (v35 : IVec S16 32) (v46 : BitVec 32) (v62 : BitVec 32) (v78 : BitVec 32) (v94 : BitVec 32) (v118 : BitVec 32) (k0_hw7 : k0_chk7 v30 v35 v46 v62 v78 v94 v118), ∀ (k0_h1 : k0_cond1 v30 v46 v62 v78 v94 = 1#1), (k0_t5_loop v118).OK := fun v30 v35 v46 v62 v78 v94 v118 k0_hw7 k0_h1 => k0_hw7.1 k0_h1
theorem k0_idx8_inb : ∀ (v30 : BitVec 32) (v35 : IVec S16 32) (v46 : BitVec 32) (v62 : BitVec 32) (v78 : BitVec 32) (v94 : BitVec 32) (v118 : BitVec 32) (k0_hw7 : k0_chk7 v30 v35 v46 v62 v78 v94 v118) (k0_t5 : Fin (k0_t5_loop v118).trips), ∀ (k0_h1 : k0_cond1 v30 v46 v62 v78 v94 = 1#1), ∀ a x, ((![v35] : Fin 1 → IVec S16 32) a x).toNat < S10048.size a := fun v30 v35 v46 v62 v78 v94 v118 k0_hw7 k0_t5 k0_h1 => k0_hw7.2.1 k0_t5 k0_h1
theorem k0_t6_ok : ∀ (v30 : BitVec 32) (v35 : IVec S16 32) (v46 : BitVec 32) (v62 : BitVec 32) (v78 : BitVec 32) (v94 : BitVec 32) (v118 : BitVec 32) (k0_hw7 : k0_chk7 v30 v35 v46 v62 v78 v94 v118), ∀ (k0_h1 : k0_cond1 v30 v46 v62 v78 v94 = 1#1), (k0_t6_loop v118).OK := fun v30 v35 v46 v62 v78 v94 v118 k0_hw7 k0_h1 => k0_hw7.2.2.1 k0_h1
theorem k0_idx9_inb : ∀ (v30 : BitVec 32) (v35 : IVec S16 32) (v46 : BitVec 32) (v62 : BitVec 32) (v78 : BitVec 32) (v94 : BitVec 32) (v118 : BitVec 32) (k0_hw7 : k0_chk7 v30 v35 v46 v62 v78 v94 v118) (k0_t6 : Fin (k0_t6_loop v118).trips), ∀ (k0_h1 : k0_cond1 v30 v46 v62 v78 v94 = 1#1), ∀ a x, ((![v35] : Fin 1 → IVec S16 32) a x).toNat < S10048.size a := fun v30 v35 v46 v62 v78 v94 v118 k0_hw7 k0_t6 k0_h1 => k0_hw7.2.2.2 k0_t6 k0_h1
@[reducible] def k0_t7_loop (v132 : BitVec 32) : Scf.Loop 32 :=
  let c1_i32_62 : BitVec 32 := 1#32
  let c1_i32_61 : BitVec 32 := 1#32
  let v133 : BitVec 32 := Scalar.addi v132 c1_i32_61
  let v134 : BitVec 32 := Scalar.subi v133 c1_i32_62
  let c1_i32_64 : BitVec 32 := 1#32
  let v136 : BitVec 32 := Scalar.divsi v134 c1_i32_64
  let v137 : BitVec 32 := Scalar.muli v136 c1_i32_64
  let v138 : BitVec 32 := Scalar.addi c1_i32_62 v137
  let c1_i32_65 : BitVec 32 := 1#32
  ⟨c1_i32_62, v138, c1_i32_65⟩

@[reducible] def k0_t8_loop (v132 : BitVec 32) : Scf.Loop 32 :=
  let c1_i32_62 : BitVec 32 := 1#32
  let c1_i32_61 : BitVec 32 := 1#32
  let v133 : BitVec 32 := Scalar.addi v132 c1_i32_61
  let v134 : BitVec 32 := Scalar.subi v133 c1_i32_62
  let c1_i32_64 : BitVec 32 := 1#32
  let v136 : BitVec 32 := Scalar.divsi v134 c1_i32_64
  let v137 : BitVec 32 := Scalar.muli v136 c1_i32_64
  let v138 : BitVec 32 := Scalar.addi c1_i32_62 v137
  let v135 : BitVec 32 := Scalar.addi c1_i32_62 v134
  let c1_i32_66 : BitVec 32 := 1#32
  ⟨v138, v135, c1_i32_66⟩

def k0_chk8 (v30 : BitVec 32) (v46 : BitVec 32) (v51 : IVec S16 32) (v62 : BitVec 32) (v78 : BitVec 32) (v94 : BitVec 32) (v132 : BitVec 32) : Prop :=
  (∀ (k0_h1 : k0_cond1 v30 v46 v62 v78 v94 = 1#1), (k0_t7_loop v132).OK) ∧
  (∀ k0_t7 : Fin (k0_t7_loop v132).trips, ∀ (k0_h1 : k0_cond1 v30 v46 v62 v78 v94 = 1#1), ∀ a x, ((![v51] : Fin 1 → IVec S16 32) a x).toNat < S10048.size a) ∧
  (∀ (k0_h1 : k0_cond1 v30 v46 v62 v78 v94 = 1#1), (k0_t8_loop v132).OK) ∧
  (∀ k0_t8 : Fin (k0_t8_loop v132).trips, ∀ (k0_h1 : k0_cond1 v30 v46 v62 v78 v94 = 1#1), ∀ a x, ((![v51] : Fin 1 → IVec S16 32) a x).toNat < S10048.size a)
theorem k0_t7_ok : ∀ (v30 : BitVec 32) (v46 : BitVec 32) (v51 : IVec S16 32) (v62 : BitVec 32) (v78 : BitVec 32) (v94 : BitVec 32) (v132 : BitVec 32) (k0_hw8 : k0_chk8 v30 v46 v51 v62 v78 v94 v132), ∀ (k0_h1 : k0_cond1 v30 v46 v62 v78 v94 = 1#1), (k0_t7_loop v132).OK := fun v30 v46 v51 v62 v78 v94 v132 k0_hw8 k0_h1 => k0_hw8.1 k0_h1
theorem k0_idx10_inb : ∀ (v30 : BitVec 32) (v46 : BitVec 32) (v51 : IVec S16 32) (v62 : BitVec 32) (v78 : BitVec 32) (v94 : BitVec 32) (v132 : BitVec 32) (k0_hw8 : k0_chk8 v30 v46 v51 v62 v78 v94 v132) (k0_t7 : Fin (k0_t7_loop v132).trips), ∀ (k0_h1 : k0_cond1 v30 v46 v62 v78 v94 = 1#1), ∀ a x, ((![v51] : Fin 1 → IVec S16 32) a x).toNat < S10048.size a := fun v30 v46 v51 v62 v78 v94 v132 k0_hw8 k0_t7 k0_h1 => k0_hw8.2.1 k0_t7 k0_h1
theorem k0_t8_ok : ∀ (v30 : BitVec 32) (v46 : BitVec 32) (v51 : IVec S16 32) (v62 : BitVec 32) (v78 : BitVec 32) (v94 : BitVec 32) (v132 : BitVec 32) (k0_hw8 : k0_chk8 v30 v46 v51 v62 v78 v94 v132), ∀ (k0_h1 : k0_cond1 v30 v46 v62 v78 v94 = 1#1), (k0_t8_loop v132).OK := fun v30 v46 v51 v62 v78 v94 v132 k0_hw8 k0_h1 => k0_hw8.2.2.1 k0_h1
theorem k0_idx11_inb : ∀ (v30 : BitVec 32) (v46 : BitVec 32) (v51 : IVec S16 32) (v62 : BitVec 32) (v78 : BitVec 32) (v94 : BitVec 32) (v132 : BitVec 32) (k0_hw8 : k0_chk8 v30 v46 v51 v62 v78 v94 v132) (k0_t8 : Fin (k0_t8_loop v132).trips), ∀ (k0_h1 : k0_cond1 v30 v46 v62 v78 v94 = 1#1), ∀ a x, ((![v51] : Fin 1 → IVec S16 32) a x).toNat < S10048.size a := fun v30 v46 v51 v62 v78 v94 v132 k0_hw8 k0_t8 k0_h1 => k0_hw8.2.2.2 k0_t8 k0_h1
@[reducible] def k0_t9_loop (v146 : BitVec 32) : Scf.Loop 32 :=
  let c1_i32_70 : BitVec 32 := 1#32
  let c1_i32_69 : BitVec 32 := 1#32
  let v147 : BitVec 32 := Scalar.addi v146 c1_i32_69
  let v148 : BitVec 32 := Scalar.subi v147 c1_i32_70
  let c1_i32_72 : BitVec 32 := 1#32
  let v150 : BitVec 32 := Scalar.divsi v148 c1_i32_72
  let v151 : BitVec 32 := Scalar.muli v150 c1_i32_72
  let v152 : BitVec 32 := Scalar.addi c1_i32_70 v151
  let c1_i32_73 : BitVec 32 := 1#32
  ⟨c1_i32_70, v152, c1_i32_73⟩

@[reducible] def k0_t10_loop (v146 : BitVec 32) : Scf.Loop 32 :=
  let c1_i32_70 : BitVec 32 := 1#32
  let c1_i32_69 : BitVec 32 := 1#32
  let v147 : BitVec 32 := Scalar.addi v146 c1_i32_69
  let v148 : BitVec 32 := Scalar.subi v147 c1_i32_70
  let c1_i32_72 : BitVec 32 := 1#32
  let v150 : BitVec 32 := Scalar.divsi v148 c1_i32_72
  let v151 : BitVec 32 := Scalar.muli v150 c1_i32_72
  let v152 : BitVec 32 := Scalar.addi c1_i32_70 v151
  let v149 : BitVec 32 := Scalar.addi c1_i32_70 v148
  let c1_i32_74 : BitVec 32 := 1#32
  ⟨v152, v149, c1_i32_74⟩

def k0_chk9 (v30 : BitVec 32) (v46 : BitVec 32) (v62 : BitVec 32) (v67 : IVec S16 32) (v78 : BitVec 32) (v94 : BitVec 32) (v146 : BitVec 32) : Prop :=
  (∀ (k0_h1 : k0_cond1 v30 v46 v62 v78 v94 = 1#1), (k0_t9_loop v146).OK) ∧
  (∀ k0_t9 : Fin (k0_t9_loop v146).trips, ∀ (k0_h1 : k0_cond1 v30 v46 v62 v78 v94 = 1#1), ∀ a x, ((![v67] : Fin 1 → IVec S16 32) a x).toNat < S10048.size a) ∧
  (∀ (k0_h1 : k0_cond1 v30 v46 v62 v78 v94 = 1#1), (k0_t10_loop v146).OK) ∧
  (∀ k0_t10 : Fin (k0_t10_loop v146).trips, ∀ (k0_h1 : k0_cond1 v30 v46 v62 v78 v94 = 1#1), ∀ a x, ((![v67] : Fin 1 → IVec S16 32) a x).toNat < S10048.size a)
theorem k0_t9_ok : ∀ (v30 : BitVec 32) (v46 : BitVec 32) (v62 : BitVec 32) (v67 : IVec S16 32) (v78 : BitVec 32) (v94 : BitVec 32) (v146 : BitVec 32) (k0_hw9 : k0_chk9 v30 v46 v62 v67 v78 v94 v146), ∀ (k0_h1 : k0_cond1 v30 v46 v62 v78 v94 = 1#1), (k0_t9_loop v146).OK := fun v30 v46 v62 v67 v78 v94 v146 k0_hw9 k0_h1 => k0_hw9.1 k0_h1
theorem k0_idx12_inb : ∀ (v30 : BitVec 32) (v46 : BitVec 32) (v62 : BitVec 32) (v67 : IVec S16 32) (v78 : BitVec 32) (v94 : BitVec 32) (v146 : BitVec 32) (k0_hw9 : k0_chk9 v30 v46 v62 v67 v78 v94 v146) (k0_t9 : Fin (k0_t9_loop v146).trips), ∀ (k0_h1 : k0_cond1 v30 v46 v62 v78 v94 = 1#1), ∀ a x, ((![v67] : Fin 1 → IVec S16 32) a x).toNat < S10048.size a := fun v30 v46 v62 v67 v78 v94 v146 k0_hw9 k0_t9 k0_h1 => k0_hw9.2.1 k0_t9 k0_h1
theorem k0_t10_ok : ∀ (v30 : BitVec 32) (v46 : BitVec 32) (v62 : BitVec 32) (v67 : IVec S16 32) (v78 : BitVec 32) (v94 : BitVec 32) (v146 : BitVec 32) (k0_hw9 : k0_chk9 v30 v46 v62 v67 v78 v94 v146), ∀ (k0_h1 : k0_cond1 v30 v46 v62 v78 v94 = 1#1), (k0_t10_loop v146).OK := fun v30 v46 v62 v67 v78 v94 v146 k0_hw9 k0_h1 => k0_hw9.2.2.1 k0_h1
theorem k0_idx13_inb : ∀ (v30 : BitVec 32) (v46 : BitVec 32) (v62 : BitVec 32) (v67 : IVec S16 32) (v78 : BitVec 32) (v94 : BitVec 32) (v146 : BitVec 32) (k0_hw9 : k0_chk9 v30 v46 v62 v67 v78 v94 v146) (k0_t10 : Fin (k0_t10_loop v146).trips), ∀ (k0_h1 : k0_cond1 v30 v46 v62 v78 v94 = 1#1), ∀ a x, ((![v67] : Fin 1 → IVec S16 32) a x).toNat < S10048.size a := fun v30 v46 v62 v67 v78 v94 v146 k0_hw9 k0_t10 k0_h1 => k0_hw9.2.2.2 k0_t10 k0_h1
@[reducible] def k0_t11_loop (v160 : BitVec 32) : Scf.Loop 32 :=
  let c1_i32_78 : BitVec 32 := 1#32
  let c1_i32_77 : BitVec 32 := 1#32
  let v161 : BitVec 32 := Scalar.addi v160 c1_i32_77
  let v162 : BitVec 32 := Scalar.subi v161 c1_i32_78
  let c1_i32_80 : BitVec 32 := 1#32
  let v164 : BitVec 32 := Scalar.divsi v162 c1_i32_80
  let v165 : BitVec 32 := Scalar.muli v164 c1_i32_80
  let v166 : BitVec 32 := Scalar.addi c1_i32_78 v165
  let c1_i32_81 : BitVec 32 := 1#32
  ⟨c1_i32_78, v166, c1_i32_81⟩

@[reducible] def k0_t12_loop (v160 : BitVec 32) : Scf.Loop 32 :=
  let c1_i32_78 : BitVec 32 := 1#32
  let c1_i32_77 : BitVec 32 := 1#32
  let v161 : BitVec 32 := Scalar.addi v160 c1_i32_77
  let v162 : BitVec 32 := Scalar.subi v161 c1_i32_78
  let c1_i32_80 : BitVec 32 := 1#32
  let v164 : BitVec 32 := Scalar.divsi v162 c1_i32_80
  let v165 : BitVec 32 := Scalar.muli v164 c1_i32_80
  let v166 : BitVec 32 := Scalar.addi c1_i32_78 v165
  let v163 : BitVec 32 := Scalar.addi c1_i32_78 v162
  let c1_i32_82 : BitVec 32 := 1#32
  ⟨v166, v163, c1_i32_82⟩

def k0_chk10 (v30 : BitVec 32) (v46 : BitVec 32) (v62 : BitVec 32) (v78 : BitVec 32) (v83 : IVec S16 32) (v94 : BitVec 32) (v160 : BitVec 32) : Prop :=
  (∀ (k0_h1 : k0_cond1 v30 v46 v62 v78 v94 = 1#1), (k0_t11_loop v160).OK) ∧
  (∀ k0_t11 : Fin (k0_t11_loop v160).trips, ∀ (k0_h1 : k0_cond1 v30 v46 v62 v78 v94 = 1#1), ∀ a x, ((![v83] : Fin 1 → IVec S16 32) a x).toNat < S10048.size a) ∧
  (∀ (k0_h1 : k0_cond1 v30 v46 v62 v78 v94 = 1#1), (k0_t12_loop v160).OK) ∧
  (∀ k0_t12 : Fin (k0_t12_loop v160).trips, ∀ (k0_h1 : k0_cond1 v30 v46 v62 v78 v94 = 1#1), ∀ a x, ((![v83] : Fin 1 → IVec S16 32) a x).toNat < S10048.size a)
theorem k0_t11_ok : ∀ (v30 : BitVec 32) (v46 : BitVec 32) (v62 : BitVec 32) (v78 : BitVec 32) (v83 : IVec S16 32) (v94 : BitVec 32) (v160 : BitVec 32) (k0_hw10 : k0_chk10 v30 v46 v62 v78 v83 v94 v160), ∀ (k0_h1 : k0_cond1 v30 v46 v62 v78 v94 = 1#1), (k0_t11_loop v160).OK := fun v30 v46 v62 v78 v83 v94 v160 k0_hw10 k0_h1 => k0_hw10.1 k0_h1
theorem k0_idx14_inb : ∀ (v30 : BitVec 32) (v46 : BitVec 32) (v62 : BitVec 32) (v78 : BitVec 32) (v83 : IVec S16 32) (v94 : BitVec 32) (v160 : BitVec 32) (k0_hw10 : k0_chk10 v30 v46 v62 v78 v83 v94 v160) (k0_t11 : Fin (k0_t11_loop v160).trips), ∀ (k0_h1 : k0_cond1 v30 v46 v62 v78 v94 = 1#1), ∀ a x, ((![v83] : Fin 1 → IVec S16 32) a x).toNat < S10048.size a := fun v30 v46 v62 v78 v83 v94 v160 k0_hw10 k0_t11 k0_h1 => k0_hw10.2.1 k0_t11 k0_h1
theorem k0_t12_ok : ∀ (v30 : BitVec 32) (v46 : BitVec 32) (v62 : BitVec 32) (v78 : BitVec 32) (v83 : IVec S16 32) (v94 : BitVec 32) (v160 : BitVec 32) (k0_hw10 : k0_chk10 v30 v46 v62 v78 v83 v94 v160), ∀ (k0_h1 : k0_cond1 v30 v46 v62 v78 v94 = 1#1), (k0_t12_loop v160).OK := fun v30 v46 v62 v78 v83 v94 v160 k0_hw10 k0_h1 => k0_hw10.2.2.1 k0_h1
theorem k0_idx15_inb : ∀ (v30 : BitVec 32) (v46 : BitVec 32) (v62 : BitVec 32) (v78 : BitVec 32) (v83 : IVec S16 32) (v94 : BitVec 32) (v160 : BitVec 32) (k0_hw10 : k0_chk10 v30 v46 v62 v78 v83 v94 v160) (k0_t12 : Fin (k0_t12_loop v160).trips), ∀ (k0_h1 : k0_cond1 v30 v46 v62 v78 v94 = 1#1), ∀ a x, ((![v83] : Fin 1 → IVec S16 32) a x).toNat < S10048.size a := fun v30 v46 v62 v78 v83 v94 v160 k0_hw10 k0_t12 k0_h1 => k0_hw10.2.2.2 k0_t12 k0_h1
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== DegreesReferenceIdeal.lean ====
abbrev S320000 : Shape := ⟨1, ![320000]⟩
abbrev S32 : Shape := ⟨1, ![32]⟩
abbrev S32x1 : Shape := ⟨2, ![32, 1]⟩
abbrev S32x10000 : Shape := ⟨2, ![32, 10000]⟩
abbrev S_ : Shape := ⟨0, ![]⟩
abbrev S320000x1 : Shape := ⟨2, ![320000, 1]⟩

abbrev nBuf : Space → Nat
  | .hbm => 14
  | .vmem => 0
  | .smem => 0
  | _ => 0

abbrev bufTy : (tb : Table) → Fin (tcTables nBuf tb) → BufTy
  | .hbm, ⟨0, _⟩ => ⟨S320000, .i32⟩
  | .hbm, ⟨1, _⟩ => ⟨S320000, .f32⟩
  | .hbm, ⟨2, _⟩ => ⟨S32, .i32⟩
  | .hbm, ⟨3, _⟩ => ⟨S32x1, .i32⟩
  | .hbm, ⟨4, _⟩ => ⟨S32x10000, .i32⟩
  | .hbm, ⟨5, _⟩ => ⟨S320000, .i32⟩
  | .hbm, ⟨6, _⟩ => ⟨S_, .i32⟩
  | .hbm, ⟨7, _⟩ => ⟨S320000, .i32⟩
  | .hbm, ⟨8, _⟩ => ⟨S320000, .i32⟩
  | .hbm, ⟨9, _⟩ => ⟨S320000, .i32⟩
  | .hbm, ⟨10, _⟩ => ⟨S_, .f32⟩
  | .hbm, ⟨11, _⟩ => ⟨S320000, .f32⟩
  | .hbm, ⟨12, _⟩ => ⟨S320000x1, .i32⟩
  | .hbm, ⟨13, _⟩ => ⟨S320000, .f32⟩
  | _, _ => ⟨S320000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Project.lean ====
abbrev S10000x128 : Shape := ⟨2, ![10000, 128]⟩
abbrev S128x20 : Shape := ⟨2, ![128, 20]⟩
abbrev S20x10000 : Shape := ⟨2, ![20, 10000]⟩

abbrev nBuf : Space → Nat
  | .hbm => 3
  | .vmem => 3
  | .smem => 0
  | _ => 0

abbrev bufTy : (tb : Table) → Fin (tcTables nBuf tb) → BufTy
  | .hbm, ⟨0, _⟩ => ⟨S10000x128, .f32⟩
  | .hbm, ⟨1, _⟩ => ⟨S128x20, .f32⟩
  | .hbm, ⟨2, _⟩ => ⟨S20x10000, .f32⟩
  | .local _ .vmem, ⟨0, _⟩ => ⟨S10000x128, .f32⟩
  | .local _ .vmem, ⟨1, _⟩ => ⟨S128x20, .f32⟩
  | .local _ .vmem, ⟨2, _⟩ => ⟨S20x10000, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x20 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S20x10000 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ProjectReferenceIdeal.lean ====
abbrev S10000x128 : Shape := ⟨2, ![10000, 128]⟩
abbrev S128x20 : Shape := ⟨2, ![128, 20]⟩
abbrev S10000x20 : Shape := ⟨2, ![10000, 20]⟩
abbrev S20x10000 : Shape := ⟨2, ![20, 10000]⟩

abbrev nBuf : Space → Nat
  | .hbm => 4
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S128x20, .f32⟩
  | .hbm, ⟨2, _⟩ => ⟨S10000x20, .f32⟩
  | .hbm, ⟨3, _⟩ => ⟨S20x10000, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Scale.lean ====
abbrev S32x10000 : Shape := ⟨2, ![32, 10000]⟩
abbrev S20x10000 : Shape := ⟨2, ![20, 10000]⟩
abbrev S1x10000 : Shape := ⟨2, ![1, 10000]⟩
abbrev S10000 : Shape := ⟨1, ![10000]⟩

abbrev nBuf : Space → Nat
  | .hbm => 4
  | .vmem => 4
  | .smem => 0
  | _ => 0

abbrev bufTy : (tb : Table) → Fin (tcTables nBuf tb) → BufTy
  | .hbm, ⟨0, _⟩ => ⟨S32x10000, .f32⟩
  | .hbm, ⟨1, _⟩ => ⟨S20x10000, .f32⟩
  | .hbm, ⟨2, _⟩ => ⟨S1x10000, .f32⟩
  | .hbm, ⟨3, _⟩ => ⟨S20x10000, .f32⟩
  | .local _ .vmem, ⟨0, _⟩ => ⟨S32x10000, .f32⟩
  | .local _ .vmem, ⟨1, _⟩ => ⟨S20x10000, .f32⟩
  | .local _ .vmem, ⟨2, _⟩ => ⟨S1x10000, .f32⟩
  | .local _ .vmem, ⟨3, _⟩ => ⟨S20x10000, .f32⟩
  | _, _ => ⟨S32x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S32x10000 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S20x10000 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x10000 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S20x10000 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ScaleReferenceIdeal.lean ====
abbrev S32x10000 : Shape := ⟨2, ![32, 10000]⟩
abbrev S20x10000 : Shape := ⟨2, ![20, 10000]⟩
abbrev S_ : Shape := ⟨0, ![]⟩
abbrev S10000 : Shape := ⟨1, ![10000]⟩
abbrev S1x10000 : Shape := ⟨2, ![1, 10000]⟩

abbrev nBuf : Space → Nat
  | .hbm => 15
  | .vmem => 0
  | .smem => 0
  | _ => 0

abbrev bufTy : (tb : Table) → Fin (tcTables nBuf tb) → BufTy
  | .hbm, ⟨0, _⟩ => ⟨S32x10000, .f32⟩
  | .hbm, ⟨1, _⟩ => ⟨S20x10000, .f32⟩
  | .hbm, ⟨2, _⟩ => ⟨S_, .f32⟩
  | .hbm, ⟨3, _⟩ => ⟨S10000, .f32⟩
  | .hbm, ⟨4, _⟩ => ⟨S_, .f32⟩
  | .hbm, ⟨5, _⟩ => ⟨S10000, .f32⟩
  | .hbm, ⟨6, _⟩ => ⟨S10000, .f32⟩
  | .hbm, ⟨7, _⟩ => ⟨S10000, .f32⟩
  | .hbm, ⟨8, _⟩ => ⟨S_, .f32⟩
  | .hbm, ⟨9, _⟩ => ⟨S10000, .f32⟩
  | .hbm, ⟨10, _⟩ => ⟨S10000, .f32⟩
  | .hbm, ⟨11, _⟩ => ⟨S1x10000, .f32⟩
  | .hbm, ⟨12, _⟩ => ⟨S1x10000, .f32⟩
  | .hbm, ⟨13, _⟩ => ⟨S20x10000, .f32⟩
  | .hbm, ⟨14, _⟩ => ⟨S20x10000, .f32⟩
  | _, _ => ⟨S32x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== First.lean ====
abbrev S8x20x10000 : Shape := ⟨3, ![8, 20, 10000]⟩
abbrev S20x10000 : Shape := ⟨2, ![20, 10000]⟩
abbrev S1x10000 : Shape := ⟨2, ![1, 10000]⟩
abbrev S20x1 : Shape := ⟨2, ![20, 1]⟩
abbrev S20x20 : Shape := ⟨2, ![20, 20]⟩
abbrev S1x20x10000 : Shape := ⟨3, ![1, 20, 10000]⟩
abbrev S20 : Shape := ⟨1, ![20]⟩

abbrev nBuf : Space → Nat
  | .hbm => 10
  | .vmem => 10
  | .smem => 0
  | _ => 0

abbrev bufTy : (tb : Table) → Fin (tcTables nBuf tb) → BufTy
  | .hbm, ⟨0, _⟩ => ⟨S8x20x10000, .f32⟩
  | .hbm, ⟨1, _⟩ => ⟨S20x10000, .f32⟩
  | .hbm, ⟨2, _⟩ => ⟨S1x10000, .f32⟩
  | .hbm, ⟨3, _⟩ => ⟨S20x1, .f32⟩
  | .hbm, ⟨4, _⟩ => ⟨S20x1, .f32⟩
  | .hbm, ⟨5, _⟩ => ⟨S20x1, .f32⟩
  | .hbm, ⟨6, _⟩ => ⟨S20x20, .f32⟩
  | .hbm, ⟨7, _⟩ => ⟨S20x10000, .f32⟩
  | .hbm, ⟨8, _⟩ => ⟨S20x10000, .f32⟩
  | .hbm, ⟨9, _⟩ => ⟨S20x10000, .f32⟩
  | .local _ .vmem, ⟨0, _⟩ => ⟨S8x20x10000, .f32⟩
  | .local _ .vmem, ⟨1, _⟩ => ⟨S20x10000, .f32⟩
  | .local _ .vmem, ⟨2, _⟩ => ⟨S1x10000, .f32⟩
  | .local _ .vmem, ⟨3, _⟩ => ⟨S20x1, .f32⟩
  | .local _ .vmem, ⟨4, _⟩ => ⟨S20x1, .f32⟩
  | .local _ .vmem, ⟨5, _⟩ => ⟨S20x1, .f32⟩
  | .local _ .vmem, ⟨6, _⟩ => ⟨S20x20, .f32⟩
  | .local _ .vmem, ⟨7, _⟩ => ⟨S20x10000, .f32⟩
  | .local _ .vmem, ⟨8, _⟩ => ⟨S20x10000, .f32⟩
  | .local _ .vmem, ⟨9, _⟩ => ⟨S20x10000, .f32⟩
  | _, _ => ⟨S8x20x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S8x20x10000 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S20x10000 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x10000 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S20x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S20x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S20x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S20x20 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S20x10000 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S20x10000 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S20x10000 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== FirstReferenceIdeal.lean ====
abbrev S8x20x10000 : Shape := ⟨3, ![8, 20, 10000]⟩
abbrev S20x10000 : Shape := ⟨2, ![20, 10000]⟩
abbrev S1x10000 : Shape := ⟨2, ![1, 10000]⟩
abbrev S20x1 : Shape := ⟨2, ![20, 1]⟩
abbrev S20x20 : Shape := ⟨2, ![20, 20]⟩
abbrev S_ : Shape := ⟨0, ![]⟩
abbrev S20 : Shape := ⟨1, ![20]⟩

abbrev nBuf : Space → Nat
  | .hbm => 51
  | .vmem => 0
  | .smem => 0
  | _ => 0

abbrev bufTy : (tb : Table) → Fin (tcTables nBuf tb) → BufTy
  | .hbm, ⟨0, _⟩ => ⟨S8x20x10000, .f32⟩
  | .hbm, ⟨1, _⟩ => ⟨S20x10000, .f32⟩
  | .hbm, ⟨2, _⟩ => ⟨S1x10000, .f32⟩
  | .hbm, ⟨3, _⟩ => ⟨S20x1, .f32⟩
  | .hbm, ⟨4, _⟩ => ⟨S20x1, .f32⟩
  | .hbm, ⟨5, _⟩ => ⟨S20x1, .f32⟩
  | .hbm, ⟨6, _⟩ => ⟨S20x20, .f32⟩
  | .hbm, ⟨7, _⟩ => ⟨S_, .f32⟩
  | .hbm, ⟨8, _⟩ => ⟨S20x10000, .f32⟩
  | .hbm, ⟨9, _⟩ => ⟨S20x10000, .f32⟩
  | .hbm, ⟨10, _⟩ => ⟨S20x10000, .f32⟩
  | .hbm, ⟨11, _⟩ => ⟨S1x10000, .f32⟩
  | .hbm, ⟨12, _⟩ => ⟨S20x10000, .f32⟩
  | .hbm, ⟨13, _⟩ => ⟨S20x10000, .f32⟩
  | .hbm, ⟨14, _⟩ => ⟨S20x10000, .f32⟩
  | .hbm, ⟨15, _⟩ => ⟨S20x10000, .f32⟩
  | .hbm, ⟨16, _⟩ => ⟨S20x10000, .f32⟩
  | .hbm, ⟨17, _⟩ => ⟨S_, .f32⟩
  | .hbm, ⟨18, _⟩ => ⟨S20, .f32⟩
  | .hbm, ⟨19, _⟩ => ⟨S20x1, .f32⟩
  | .hbm, ⟨20, _⟩ => ⟨S_, .f32⟩
  | .hbm, ⟨21, _⟩ => ⟨S20x1, .f32⟩
  | .hbm, ⟨22, _⟩ => ⟨S20x1, .f32⟩
  | .hbm, ⟨23, _⟩ => ⟨S20x10000, .f32⟩
  | .hbm, ⟨24, _⟩ => ⟨S20x10000, .f32⟩
  | .hbm, ⟨25, _⟩ => ⟨S20x10000, .f32⟩
  | .hbm, ⟨26, _⟩ => ⟨S_, .f32⟩
  | .hbm, ⟨27, _⟩ => ⟨S20, .f32⟩
  | .hbm, ⟨28, _⟩ => ⟨S20x1, .f32⟩
  | .hbm, ⟨29, _⟩ => ⟨S_, .f32⟩
  | .hbm, ⟨30, _⟩ => ⟨S20x1, .f32⟩
  | .hbm, ⟨31, _⟩ => ⟨S20x1, .f32⟩
  | .hbm, ⟨32, _⟩ => ⟨S20x10000, .f32⟩
  | .hbm, ⟨33, _⟩ => ⟨S20x10000, .f32⟩
  | .hbm, ⟨34, _⟩ => ⟨S_, .f32⟩
  | .hbm, ⟨35, _⟩ => ⟨S20x1, .f32⟩
  | .hbm, ⟨36, _⟩ => ⟨S20x1, .f32⟩
  | .hbm, ⟨37, _⟩ => ⟨S20x1, .f32⟩
  | .hbm, ⟨38, _⟩ => ⟨S20x10000, .f32⟩
  | .hbm, ⟨39, _⟩ => ⟨S20x10000, .f32⟩
  | .hbm, ⟨40, _⟩ => ⟨S20x10000, .f32⟩
  | .hbm, ⟨41, _⟩ => ⟨S20x10000, .f32⟩
  | .hbm, ⟨42, _⟩ => ⟨S20x10000, .f32⟩
  | .hbm, ⟨43, _⟩ => ⟨S20x10000, .f32⟩
  | .hbm, ⟨44, _⟩ => ⟨S_, .f32⟩
  | .hbm, ⟨45, _⟩ => ⟨S20x10000, .f32⟩
  | .hbm, ⟨46, _⟩ => ⟨S20x10000, .f32⟩
  | .hbm, ⟨47, _⟩ => ⟨S20x10000, .f32⟩
  | .hbm, ⟨48, _⟩ => ⟨S20x10000, .f32⟩
  | .hbm, ⟨49, _⟩ => ⟨S20x10000, .f32⟩
  | .hbm, ⟨50, _⟩ => ⟨S20x10000, .f32⟩
  | _, _ => ⟨S8x20x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩

abbrev nD : Nat := 1
abbrev τ : Topo := Topo.v7x

variable {F : FTy → Type} [FloatOps F]
-- ==== Middle.lean ====
abbrev S8x20x10000 : Shape := ⟨3, ![8, 20, 10000]⟩
abbrev S20x10000 : Shape := ⟨2, ![20, 10000]⟩
abbrev S1x10000 : Shape := ⟨2, ![1, 10000]⟩
abbrev S20x1 : Shape := ⟨2, ![20, 1]⟩
abbrev S20x20 : Shape := ⟨2, ![20, 20]⟩
abbrev S1x20x10000 : Shape := ⟨3, ![1, 20, 10000]⟩
abbrev S20 : Shape := ⟨1, ![20]⟩

abbrev nBuf : Space → Nat
  | .hbm => 11
  | .vmem => 11
  | .smem => 0
  | _ => 0

abbrev bufTy : (tb : Table) → Fin (tcTables nBuf tb) → BufTy
  | .hbm, ⟨0, _⟩ => ⟨S8x20x10000, .f32⟩
  | .hbm, ⟨1, _⟩ => ⟨S20x10000, .f32⟩
  | .hbm, ⟨2, _⟩ => ⟨S1x10000, .f32⟩
  | .hbm, ⟨3, _⟩ => ⟨S20x1, .f32⟩
  | .hbm, ⟨4, _⟩ => ⟨S20x1, .f32⟩
  | .hbm, ⟨5, _⟩ => ⟨S20x1, .f32⟩
  | .hbm, ⟨6, _⟩ => ⟨S20x10000, .f32⟩
  | .hbm, ⟨7, _⟩ => ⟨S20x20, .f32⟩
  | .hbm, ⟨8, _⟩ => ⟨S20x10000, .f32⟩
  | .hbm, ⟨9, _⟩ => ⟨S20x10000, .f32⟩
  | .hbm, ⟨10, _⟩ => ⟨S20x10000, .f32⟩
  | .local _ .vmem, ⟨0, _⟩ => ⟨S8x20x10000, .f32⟩
  | .local _ .vmem, ⟨1, _⟩ => ⟨S20x10000, .f32⟩
  | .local _ .vmem, ⟨2, _⟩ => ⟨S1x10000, .f32⟩
  | .local _ .vmem, ⟨3, _⟩ => ⟨S20x1, .f32⟩
  | .local _ .vmem, ⟨4, _⟩ => ⟨S20x1, .f32⟩
  | .local _ .vmem, ⟨5, _⟩ => ⟨S20x1, .f32⟩
  | .local _ .vmem, ⟨6, _⟩ => ⟨S20x10000, .f32⟩
  | .local _ .vmem, ⟨7, _⟩ => ⟨S20x20, .f32⟩
  | .local _ .vmem, ⟨8, _⟩ => ⟨S20x10000, .f32⟩
  | .local _ .vmem, ⟨9, _⟩ => ⟨S20x10000, .f32⟩
  | .local _ .vmem, ⟨10, _⟩ => ⟨S20x10000, .f32⟩
  | _, _ => ⟨S8x20x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S8x20x10000 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S20x10000 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x10000 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S20x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S20x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S20x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S20x10000 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S20x20 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S20x10000 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S20x10000 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S20x10000 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== MiddleReferenceIdeal.lean ====
abbrev S8x20x10000 : Shape := ⟨3, ![8, 20, 10000]⟩
abbrev S20x10000 : Shape := ⟨2, ![20, 10000]⟩
abbrev S1x10000 : Shape := ⟨2, ![1, 10000]⟩
abbrev S20x1 : Shape := ⟨2, ![20, 1]⟩
abbrev S20x20 : Shape := ⟨2, ![20, 20]⟩
abbrev S_ : Shape := ⟨0, ![]⟩
abbrev S20 : Shape := ⟨1, ![20]⟩

abbrev nBuf : Space → Nat
  | .hbm => 56
  | .vmem => 0
  | .smem => 0
  | _ => 0

abbrev bufTy : (tb : Table) → Fin (tcTables nBuf tb) → BufTy
  | .hbm, ⟨0, _⟩ => ⟨S8x20x10000, .f32⟩
  | .hbm, ⟨1, _⟩ => ⟨S20x10000, .f32⟩
  | .hbm, ⟨2, _⟩ => ⟨S1x10000, .f32⟩
  | .hbm, ⟨3, _⟩ => ⟨S20x1, .f32⟩
  | .hbm, ⟨4, _⟩ => ⟨S20x1, .f32⟩
  | .hbm, ⟨5, _⟩ => ⟨S20x1, .f32⟩
  | .hbm, ⟨6, _⟩ => ⟨S20x10000, .f32⟩
  | .hbm, ⟨7, _⟩ => ⟨S20x20, .f32⟩
  | .hbm, ⟨8, _⟩ => ⟨S_, .f32⟩
  | .hbm, ⟨9, _⟩ => ⟨S20x10000, .f32⟩
  | .hbm, ⟨10, _⟩ => ⟨S20x10000, .f32⟩
  | .hbm, ⟨11, _⟩ => ⟨S20x10000, .f32⟩
  | .hbm, ⟨12, _⟩ => ⟨S1x10000, .f32⟩
  | .hbm, ⟨13, _⟩ => ⟨S20x10000, .f32⟩
  | .hbm, ⟨14, _⟩ => ⟨S20x10000, .f32⟩
  | .hbm, ⟨15, _⟩ => ⟨S20x10000, .f32⟩
  | .hbm, ⟨16, _⟩ => ⟨S20x10000, .f32⟩
  | .hbm, ⟨17, _⟩ => ⟨S20x10000, .f32⟩
  | .hbm, ⟨18, _⟩ => ⟨S_, .f32⟩
  | .hbm, ⟨19, _⟩ => ⟨S20, .f32⟩
  | .hbm, ⟨20, _⟩ => ⟨S20x1, .f32⟩
  | .hbm, ⟨21, _⟩ => ⟨S_, .f32⟩
  | .hbm, ⟨22, _⟩ => ⟨S20x1, .f32⟩
  | .hbm, ⟨23, _⟩ => ⟨S20x1, .f32⟩
  | .hbm, ⟨24, _⟩ => ⟨S20x10000, .f32⟩
  | .hbm, ⟨25, _⟩ => ⟨S20x10000, .f32⟩
  | .hbm, ⟨26, _⟩ => ⟨S20x10000, .f32⟩
  | .hbm, ⟨27, _⟩ => ⟨S_, .f32⟩
  | .hbm, ⟨28, _⟩ => ⟨S20, .f32⟩
  | .hbm, ⟨29, _⟩ => ⟨S20x1, .f32⟩
  | .hbm, ⟨30, _⟩ => ⟨S_, .f32⟩
  | .hbm, ⟨31, _⟩ => ⟨S20x1, .f32⟩
  | .hbm, ⟨32, _⟩ => ⟨S20x1, .f32⟩
  | .hbm, ⟨33, _⟩ => ⟨S20x10000, .f32⟩
  | .hbm, ⟨34, _⟩ => ⟨S20x10000, .f32⟩
  | .hbm, ⟨35, _⟩ => ⟨S_, .f32⟩
  | .hbm, ⟨36, _⟩ => ⟨S20x1, .f32⟩
  | .hbm, ⟨37, _⟩ => ⟨S20x1, .f32⟩
  | .hbm, ⟨38, _⟩ => ⟨S20x1, .f32⟩
  | .hbm, ⟨39, _⟩ => ⟨S20x10000, .f32⟩
  | .hbm, ⟨40, _⟩ => ⟨S20x10000, .f32⟩
  | .hbm, ⟨41, _⟩ => ⟨S20x10000, .f32⟩
  | .hbm, ⟨42, _⟩ => ⟨S20x10000, .f32⟩
  | .hbm, ⟨43, _⟩ => ⟨S20x10000, .f32⟩
  | .hbm, ⟨44, _⟩ => ⟨S20x10000, .f32⟩
  | .hbm, ⟨45, _⟩ => ⟨S_, .f32⟩
  | .hbm, ⟨46, _⟩ => ⟨S20x10000, .f32⟩
  | .hbm, ⟨47, _⟩ => ⟨S20x10000, .f32⟩
  | .hbm, ⟨48, _⟩ => ⟨S_, .f32⟩
  | .hbm, ⟨49, _⟩ => ⟨S20x10000, .f32⟩
  | .hbm, ⟨50, _⟩ => ⟨S20x10000, .f32⟩
  | .hbm, ⟨51, _⟩ => ⟨S20x10000, .f32⟩
  | .hbm, ⟨52, _⟩ => ⟨S20x10000, .f32⟩
  | .hbm, ⟨53, _⟩ => ⟨S20x10000, .f32⟩
  | .hbm, ⟨54, _⟩ => ⟨S20x10000, .f32⟩
  | .hbm, ⟨55, _⟩ => ⟨S20x10000, .f32⟩
  | _, _ => ⟨S8x20x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_5 : Ref sig .tc := ⟨.hbm, 45, rfl⟩
abbrev main_v31 : Ref sig .tc := ⟨.hbm, 46, rfl⟩
abbrev main_v32 : Ref sig .tc := ⟨.hbm, 47, rfl⟩
abbrev main_cst_6 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩

abbrev nD : Nat := 1
abbrev τ : Topo := Topo.v7x

variable {F : FTy → Type} [FloatOps F]
-- ==== Last.lean ====
abbrev S8x20x10000 : Shape := ⟨3, ![8, 20, 10000]⟩
abbrev S20x10000 : Shape := ⟨2, ![20, 10000]⟩
abbrev S1x10000 : Shape := ⟨2, ![1, 10000]⟩
abbrev S20x1 : Shape := ⟨2, ![20, 1]⟩
abbrev S1x4 : Shape := ⟨2, ![1, 4]⟩
abbrev S1x20x10000 : Shape := ⟨3, ![1, 20, 10000]⟩
abbrev S20 : Shape := ⟨1, ![20]⟩
abbrev S1 : Shape := ⟨1, ![1]⟩
abbrev S1x1 : Shape := ⟨2, ![1, 1]⟩

abbrev nBuf : Space → Nat
  | .hbm => 12
  | .vmem => 12
  | .smem => 0
  | _ => 0

abbrev bufTy : (tb : Table) → Fin (tcTables nBuf tb) → BufTy
  | .hbm, ⟨0, _⟩ => ⟨S8x20x10000, .f32⟩
  | .hbm, ⟨1, _⟩ => ⟨S20x10000, .f32⟩
  | .hbm, ⟨2, _⟩ => ⟨S1x10000, .f32⟩
  | .hbm, ⟨3, _⟩ => ⟨S20x1, .f32⟩
  | .hbm, ⟨4, _⟩ => ⟨S20x1, .f32⟩
  | .hbm, ⟨5, _⟩ => ⟨S20x1, .f32⟩
  | .hbm, ⟨6, _⟩ => ⟨S20x10000, .f32⟩
  | .hbm, ⟨7, _⟩ => ⟨S20x10000, .f32⟩
  | .hbm, ⟨8, _⟩ => ⟨S20x10000, .f32⟩
  | .hbm, ⟨9, _⟩ => ⟨S20x10000, .f32⟩
  | .hbm, ⟨10, _⟩ => ⟨S1x4, .f32⟩
  | .hbm, ⟨11, _⟩ => ⟨S20x10000, .f32⟩
  | .local _ .vmem, ⟨0, _⟩ => ⟨S8x20x10000, .f32⟩
  | .local _ .vmem, ⟨1, _⟩ => ⟨S20x10000, .f32⟩
  | .local _ .vmem, ⟨2, _⟩ => ⟨S1x10000, .f32⟩
  | .local _ .vmem, ⟨3, _⟩ => ⟨S20x1, .f32⟩
  | .local _ .vmem, ⟨4, _⟩ => ⟨S20x1, .f32⟩
  | .local _ .vmem, ⟨5, _⟩ => ⟨S20x1, .f32⟩
  | .local _ .vmem, ⟨6, _⟩ => ⟨S20x10000, .f32⟩
  | .local _ .vmem, ⟨7, _⟩ => ⟨S20x10000, .f32⟩
  | .local _ .vmem, ⟨8, _⟩ => ⟨S20x10000, .f32⟩
  | .local _ .vmem, ⟨9, _⟩ => ⟨S20x10000, .f32⟩
  | .local _ .vmem, ⟨10, _⟩ => ⟨S1x4, .f32⟩
  | .local _ .vmem, ⟨11, _⟩ => ⟨S20x10000, .f32⟩
  | _, _ => ⟨S8x20x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S8x20x10000 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S20x10000 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x10000 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S20x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S20x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S20x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S20x10000 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S20x10000 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S20x10000 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S20x10000 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x4 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S20x10000 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== LastReferenceIdeal.lean ====
abbrev S8x20x10000 : Shape := ⟨3, ![8, 20, 10000]⟩
abbrev S20x10000 : Shape := ⟨2, ![20, 10000]⟩
abbrev S1x10000 : Shape := ⟨2, ![1, 10000]⟩
abbrev S20x1 : Shape := ⟨2, ![20, 1]⟩
abbrev S1x4 : Shape := ⟨2, ![1, 4]⟩
abbrev S_ : Shape := ⟨0, ![]⟩
abbrev S20 : Shape := ⟨1, ![20]⟩
abbrev S1 : Shape := ⟨1, ![1]⟩
abbrev S1x1 : Shape := ⟨2, ![1, 1]⟩
abbrev S4 : Shape := ⟨1, ![4]⟩

abbrev nBuf : Space → Nat
  | .hbm => 89
  | .vmem => 0
  | .smem => 0
  | _ => 0

abbrev bufTy : (tb : Table) → Fin (tcTables nBuf tb) → BufTy
  | .hbm, ⟨0, _⟩ => ⟨S8x20x10000, .f32⟩
  | .hbm, ⟨1, _⟩ => ⟨S20x10000, .f32⟩
  | .hbm, ⟨2, _⟩ => ⟨S1x10000, .f32⟩
  | .hbm, ⟨3, _⟩ => ⟨S20x1, .f32⟩
  | .hbm, ⟨4, _⟩ => ⟨S20x1, .f32⟩
  | .hbm, ⟨5, _⟩ => ⟨S20x1, .f32⟩
  | .hbm, ⟨6, _⟩ => ⟨S20x10000, .f32⟩
  | .hbm, ⟨7, _⟩ => ⟨S20x10000, .f32⟩
  | .hbm, ⟨8, _⟩ => ⟨S20x10000, .f32⟩
  | .hbm, ⟨9, _⟩ => ⟨S20x10000, .f32⟩
  | .hbm, ⟨10, _⟩ => ⟨S1x4, .f32⟩
  | .hbm, ⟨11, _⟩ => ⟨S_, .f32⟩
  | .hbm, ⟨12, _⟩ => ⟨S20x10000, .f32⟩
  | .hbm, ⟨13, _⟩ => ⟨S20x10000, .f32⟩
  | .hbm, ⟨14, _⟩ => ⟨S20x10000, .f32⟩
  | .hbm, ⟨15, _⟩ => ⟨S1x10000, .f32⟩
  | .hbm, ⟨16, _⟩ => ⟨S20x10000, .f32⟩
  | .hbm, ⟨17, _⟩ => ⟨S20x10000, .f32⟩
  | .hbm, ⟨18, _⟩ => ⟨S20x10000, .f32⟩
  | .hbm, ⟨19, _⟩ => ⟨S20x10000, .f32⟩
  | .hbm, ⟨20, _⟩ => ⟨S20x10000, .f32⟩
  | .hbm, ⟨21, _⟩ => ⟨S_, .f32⟩
  | .hbm, ⟨22, _⟩ => ⟨S20, .f32⟩
  | .hbm, ⟨23, _⟩ => ⟨S20x1, .f32⟩
  | .hbm, ⟨24, _⟩ => ⟨S_, .f32⟩
  | .hbm, ⟨25, _⟩ => ⟨S20x1, .f32⟩
  | .hbm, ⟨26, _⟩ => ⟨S20x1, .f32⟩
  | .hbm, ⟨27, _⟩ => ⟨S20x10000, .f32⟩
  | .hbm, ⟨28, _⟩ => ⟨S20x10000, .f32⟩
  | .hbm, ⟨29, _⟩ => ⟨S20x10000, .f32⟩
  | .hbm, ⟨30, _⟩ => ⟨S_, .f32⟩
  | .hbm, ⟨31, _⟩ => ⟨S20, .f32⟩
  | .hbm, ⟨32, _⟩ => ⟨S20x1, .f32⟩
  | .hbm, ⟨33, _⟩ => ⟨S_, .f32⟩
  | .hbm, ⟨34, _⟩ => ⟨S20x1, .f32⟩
  | .hbm, ⟨35, _⟩ => ⟨S20x1, .f32⟩
  | .hbm, ⟨36, _⟩ => ⟨S20x10000, .f32⟩
  | .hbm, ⟨37, _⟩ => ⟨S20x10000, .f32⟩
  | .hbm, ⟨38, _⟩ => ⟨S_, .f32⟩
  | .hbm, ⟨39, _⟩ => ⟨S20x1, .f32⟩
  | .hbm, ⟨40, _⟩ => ⟨S20x1, .f32⟩
  | .hbm, ⟨41, _⟩ => ⟨S20x1, .f32⟩
  | .hbm, ⟨42, _⟩ => ⟨S20x10000, .f32⟩
  | .hbm, ⟨43, _⟩ => ⟨S20x10000, .f32⟩
  | .hbm, ⟨44, _⟩ => ⟨S20x10000, .f32⟩
  | .hbm, ⟨45, _⟩ => ⟨S20x10000, .f32⟩
  | .hbm, ⟨46, _⟩ => ⟨S20x10000, .f32⟩
  | .hbm, ⟨47, _⟩ => ⟨S20x10000, .f32⟩
  | .hbm, ⟨48, _⟩ => ⟨S_, .f32⟩
  | .hbm, ⟨49, _⟩ => ⟨S20x10000, .f32⟩
  | .hbm, ⟨50, _⟩ => ⟨S20x10000, .f32⟩
  | .hbm, ⟨51, _⟩ => ⟨S_, .f32⟩
  | .hbm, ⟨52, _⟩ => ⟨S20x10000, .f32⟩
  | .hbm, ⟨53, _⟩ => ⟨S20x10000, .f32⟩
  | .hbm, ⟨54, _⟩ => ⟨S20x10000, .f32⟩
  | .hbm, ⟨55, _⟩ => ⟨S_, .f32⟩
  | .hbm, ⟨56, _⟩ => ⟨S1, .f32⟩
  | .hbm, ⟨57, _⟩ => ⟨S_, .f32⟩
  | .hbm, ⟨58, _⟩ => ⟨S1, .f32⟩
  | .hbm, ⟨59, _⟩ => ⟨S1, .f32⟩
  | .hbm, ⟨60, _⟩ => ⟨S1x1, .f32⟩
  | .hbm, ⟨61, _⟩ => ⟨S1x4, .f32⟩
  | .hbm, ⟨62, _⟩ => ⟨S1x4, .f32⟩
  | .hbm, ⟨63, _⟩ => ⟨S1x4, .f32⟩
  | .hbm, ⟨64, _⟩ => ⟨S_, .f32⟩
  | .hbm, ⟨65, _⟩ => ⟨S1, .f32⟩
  | .hbm, ⟨66, _⟩ => ⟨S1x1, .f32⟩
  | .hbm, ⟨67, _⟩ => ⟨S1x4, .f32⟩
  | .hbm, ⟨68, _⟩ => ⟨S1x4, .f32⟩
  | .hbm, ⟨69, _⟩ => ⟨S4, .f32⟩
  | .hbm, ⟨70, _⟩ => ⟨S1, .f32⟩
  | .hbm, ⟨71, _⟩ => ⟨S_, .f32⟩
  | .hbm, ⟨72, _⟩ => ⟨S20x10000, .f32⟩
  | .hbm, ⟨73, _⟩ => ⟨S20x10000, .f32⟩
  | .hbm, ⟨74, _⟩ => ⟨S1, .f32⟩
  | .hbm, ⟨75, _⟩ => ⟨S_, .f32⟩
  | .hbm, ⟨76, _⟩ => ⟨S20x10000, .f32⟩
  | .hbm, ⟨77, _⟩ => ⟨S20x10000, .f32⟩
  | .hbm, ⟨78, _⟩ => ⟨S20x10000, .f32⟩
  | .hbm, ⟨79, _⟩ => ⟨S1, .f32⟩
  | .hbm, ⟨80, _⟩ => ⟨S_, .f32⟩
  | .hbm, ⟨81, _⟩ => ⟨S20x10000, .f32⟩
  | .hbm, ⟨82, _⟩ => ⟨S20x10000, .f32⟩
  | .hbm, ⟨83, _⟩ => ⟨S20x10000, .f32⟩
  | .hbm, ⟨84, _⟩ => ⟨S1, .f32⟩
  | .hbm, ⟨85, _⟩ => ⟨S_, .f32⟩
  | .hbm, ⟨86, _⟩ => ⟨S20x10000, .f32⟩
  | .hbm, ⟨87, _⟩ => ⟨S20x10000, .f32⟩
  | .hbm, ⟨88, _⟩ => ⟨S20x10000, .f32⟩
  | _, _ => ⟨S8x20x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_2 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_4 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_5 : Ref sig .tc := ⟨.hbm, 48, rfl⟩
abbrev main_v31 : Ref sig .tc := ⟨.hbm, 49, rfl⟩
abbrev main_v32 : Ref sig .tc := ⟨.hbm, 50, rfl⟩
abbrev main_cst_6 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_7 : Ref sig .tc := ⟨.hbm, 55, rfl⟩
abbrev main_v36 : Ref sig .tc := ⟨.hbm, 56, rfl⟩
abbrev main_cst_8 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩

abbrev nD : Nat := 1
abbrev τ : Topo := Topo.v7x

variable {F : FTy → Type} [FloatOps F]
-- ==== Proof.Account.lean ====
/-
  Accounts of an accumulator. A SparseCore tile's accumulator is a buffer of floats to which the program
  only ever adds; an account says what the additions have made of each element, in a commutative monoid in
  which the order of the additions is lost. At the ideal floats the monoid is the extended reals and an
  element IS its account; the trivial account, of which every element is a representative, is what a frame
  needs. `Good` is the program logic's judgement with an account in place of the accumulator's contents: its
  rules are plain implications, one per operation a tile's body uses.
-/
module

public import Idealize.ShloMosaic.Lib.SparseCore.Ops
public import Idealize.ShloMosaic.Lib.Scf
public import Idealize.ShloMosaic.Lib.Tactic
public import Idealize.ShloMosaic.PureOps

@[expose] public section

noncomputable section

namespace Cert.Proof.Account

open Idealize.ShloMosaic
open Idealize.SL Idealize.SL.RA Idealize.SL.BI
open scoped Idealize.SL.BI
open Idealize.SL.BI.BIBase Idealize.SL.BI.Laws Idealize.SL.ProofMode Idealize.SL.Sem

/-! ## Accounts -/

/-- An account of floats that are only added to: the sums in a commutative monoid, what one addend counts
    for, and which element stands for which sum. -/
structure Acct (F : FTy → Type) [FloatOps F] where
  M : Type
  inst : AddCommMonoid M
  val : F .f32 → M
  rep : F .f32 → M → Prop
  zero : rep (FloatOps.ofBits .f32 0x00000000#32) 0
  add : ∀ x s y, rep x s → rep (FloatOps.idxAddf x y) (s + val y)

attribute [instance] Acct.inst

/-- The trivial account: nothing is recorded. -/
def Acct.trivial (F : FTy → Type) [FloatOps F] : Acct F where
  M := Nat
  inst := inferInstance
  val := fun _ => 0
  rep := fun _ _ => True
  zero := True.intro
  add := fun _ _ _ _ => True.intro

variable {F : FTy → Type} [FloatOps F]

/-- What adding the lanes of `v` that `mask` selects, each at the element its lane of `idx` names, adds to
    the account of element `j`. -/
def deposit (A : Acct F) {d : Fin 1 → Nat} {n : Nat} (idx : IVec ⟨1, d⟩ 32) (v : Vec F ⟨1, d⟩ .f32) (mask : IVec ⟨1, d⟩ 1) :
    (⟨1, ![n]⟩ : Shape).Idx → A.M :=
  fun j => ∑ k : Fin (d 0), if mask (Shape.ofLane k) = 1 ∧ (j 0).val = (idx (Shape.ofLane k)).toNat then A.val (v (Shape.ofLane k)) else 0

/-- An indexed store with addition deposits its lanes. -/
theorem rep_storeIdx (A : Acct F) {d : Fin 1 → Nat} {n : Nat} (f : Vec F ⟨1, ![n]⟩ .f32) (S : (⟨1, ![n]⟩ : Shape).Idx → A.M)
    (hf : ∀ j, A.rep (f j) (S j)) (idxs : Fin 1 → IVec ⟨1, d⟩ 32) (v : Vec F ⟨1, d⟩ .f32) (mask : IVec ⟨1, d⟩ 1)
    (h : ∀ a x, (idxs a x).toNat < (⟨1, ![n]⟩ : Shape).size a) (j : (⟨1, ![n]⟩ : Shape).Idx) :
    A.rep (storeIdx (s := ⟨1, ![n]⟩) f idxs v mask true h j) (S j + deposit A (n := n) (idxs 0) v mask j) := by
  unfold storeIdx deposit
  rw [Fin.sum_univ_def]
  generalize List.finRange (d 0) = L
  induction L generalizing f S with
  | nil => simpa using hf j
  | cons k L ih =>
    rw [List.foldl_cons, List.map_cons, List.sum_cons, ← add_assoc]
    refine ih _ (fun j => S j + if mask (Shape.ofLane k) = 1 ∧ (j 0).val = (idxs 0 (Shape.ofLane k)).toNat then A.val (v (Shape.ofLane k)) else 0) (fun i => ?_)
    dsimp only
    by_cases hm : mask (Shape.ofLane k) = 1
    · rw [if_pos hm]
      by_cases hi : (i 0).val = (idxs 0 (Shape.ofLane k)).toNat
      · have hii : idxAt (s := ⟨1, ![n]⟩) idxs h (Shape.ofLane k) = i := by
          funext a; obtain rfl := Fin.eq_zero a; exact Fin.ext hi.symm
        have h1 : mask (Shape.ofLane k) = 1 ∧ (i 0).val = (idxs 0 (Shape.ofLane k)).toNat := ⟨hm, hi⟩
        have h2 : ∀ a, (i a).val = (idxAt (s := ⟨1, ![n]⟩) idxs h (Shape.ofLane k) a).val := fun a => by rw [hii]
        rw [if_pos h2, if_pos h1, if_pos rfl, hii]
        exact A.add _ _ _ (hf i)
      · have h1 : ¬ (mask (Shape.ofLane k) = 1 ∧ (i 0).val = (idxs 0 (Shape.ofLane k)).toNat) := fun hh => hi hh.2
        have h2 : ¬ ∀ a, (i a).val = (idxAt (s := ⟨1, ![n]⟩) idxs h (Shape.ofLane k) a).val := fun hh => hi (hh 0)
        rw [if_neg h2, if_neg h1, add_zero]
        exact hf i
    · have h1 : ¬ (mask (Shape.ofLane k) = 1 ∧ (i 0).val = (idxs 0 (Shape.ofLane k)).toNat) := fun hh => hm hh.1
      rw [if_neg hm, if_neg h1, add_zero]
      exact hf i

/-! ## Buffers by what their view reads -/

variable {nD : Nat} {τ : Topo} {sig : RefSig} {Ix : Type} [DecidableEq Ix]
variable {Name : Type} [DecidableEq Name]
variable {U : Type} [URA U] {Lvl : Type} [Preorder Lvl] {Λ : Labels}

local notation "𝕄" => MT nD τ sig Ix (Elt F) Name U Lvl

/-- A share of a memref's elements, reading `x`. -/
def Held (c : Thread nD τ) {sp : Space} {s : Shape} {e : EltTy} (m : Memref sig c.2.kind sp s e) (q : PosShare TreeShare)
    (x : s.Idx → Elt F e) : sProp 𝕄 :=
  iprop(∃ f : Buf (Elt F) (m.view.loc c), ⌜m.view.read (Elt F) f = x⌝ ∗ (m.view.loc c ↦[m.view.set]{q} f))

/-- All of a memref's elements, each representing its account. -/
def Booked (A : Acct F) (c : Thread nD τ) {sp : Space} {s : Shape} (m : Memref sig c.2.kind sp s .f32)
    (S : s.Idx → A.M) : sProp 𝕄 :=
  iprop(∃ x : s.Idx → Elt F .f32, ⌜∀ j, A.rep (x j) (S j)⌝ ∗ Held c m fullShare x)

/-- `R` holds a share of `m` reading `x` that it can lend. -/
def Lends (R : sProp 𝕄) (c : Thread nD τ) {sp : Space} {s : Shape} {e : EltTy} (m : Memref sig c.2.kind sp s e)
    (x : s.Idx → Elt F e) : Prop :=
  ∃ q, R ⊢ iprop(Held c m q x ∗ (Held c m q x -∗ R))

/-! ## The judgement -/

variable {defs : Defs nD τ sig (Elt F) Λ} {𝒱 : Variants} {c : Thread nD τ} {bd : Option 𝒱.V} {E : Set Name}
variable {A : Acct F} {n : Nat} {acc : Memref sig c.2.kind .vmem ⟨1, ![n]⟩ .f32}

/-- The program `p`, run holding `R` and the accumulator at account `S`, ends with a value and an account of
    which `Q` holds, holding `R` again. -/
def Good (defs : Defs nD τ sig (Elt F) Λ) (𝒱 : Variants) (c : Thread nD τ) (bd : Option 𝒱.V) (E : Set Name) (R : sProp 𝕄) (A : Acct F) {n : Nat}
    (acc : Memref sig c.2.kind .vmem ⟨1, ![n]⟩ .f32) {α : Type} (p : Prog (TpuEff nD τ sig (Elt F) Λ c.2) α)
    (S : (⟨1, ![n]⟩ : Shape).Idx → A.M) (Q : α → ((⟨1, ![n]⟩ : Shape).Idx → A.M) → Prop) : Prop :=
  iprop(R ∗ Booked A c acc S) ⊢ wp frame (wpE defs 𝒱 c bd) E p (fun v => iprop(∃ S', ⌜Q v S'⌝ ∗ R ∗ Booked A c acc S'))

variable {α β : Type} {S : (⟨1, ![n]⟩ : Shape).Idx → A.M}

theorem Good.mono {R : sProp 𝕄} {p : Prog (TpuEff nD τ sig (Elt F) Λ c.2) α} {Q Q' : α → ((⟨1, ![n]⟩ : Shape).Idx → A.M) → Prop}
    (h : Good (Ix := Ix) (Name := Name) (U := U) (Lvl := Lvl) defs 𝒱 c bd E R A acc p S Q) (hQ : ∀ v S', Q v S' → Q' v S') : Good (Ix := Ix) (Name := Name) (U := U) (Lvl := Lvl) defs 𝒱 c bd E R A acc p S Q' := by
  unfold Good
  refine BIBase.Entails.trans h (wp_mono _ _ _ fun v => ?_)
  iintro ⟨%S', %hq, H⟩
  iexists S'
  isplitr [H]
  · ipureintro; exact hQ _ _ hq
  · iexact H

theorem Good.pure {R : sProp 𝕄} {v : α} {Q : α → ((⟨1, ![n]⟩ : Shape).Idx → A.M) → Prop} (h : Q v S) :
    Good (Ix := Ix) (Name := Name) (U := U) (Lvl := Lvl) defs 𝒱 c bd E R A acc (Pure.pure v) S Q := by
  unfold Good
  rw [wp_pure]
  iintro H
  imodintro
  iexists S
  isplitr [H]
  · ipureintro; exact h
  · iexact H

theorem Good.entails {R : sProp 𝕄} {p : Prog (TpuEff nD τ sig (Elt F) Λ c.2) α} {Q : α → ((⟨1, ![n]⟩ : Shape).Idx → A.M) → Prop}
    (h : Good (Ix := Ix) (Name := Name) (U := U) (Lvl := Lvl) defs 𝒱 c bd E R A acc p S Q) :
    iprop(R ∗ Booked A c acc S) ⊢ wp frame (wpE defs 𝒱 c bd) E p (fun v => iprop(∃ S', ⌜Q v S'⌝ ∗ R ∗ Booked A c acc S')) := h

theorem Good.bind {R : sProp 𝕄} {p : Prog (TpuEff nD τ sig (Elt F) Λ c.2) α} {k : α → Prog (TpuEff nD τ sig (Elt F) Λ c.2) β}
    {Q : β → ((⟨1, ![n]⟩ : Shape).Idx → A.M) → Prop}
    (h : Good (Ix := Ix) (Name := Name) (U := U) (Lvl := Lvl) defs 𝒱 c bd E R A acc p S (fun v S' => Good (Ix := Ix) (Name := Name) (U := U) (Lvl := Lvl) defs 𝒱 c bd E R A acc (k v) S' Q)) :
    Good (Ix := Ix) (Name := Name) (U := U) (Lvl := Lvl) defs 𝒱 c bd E R A acc (p >>= k) S Q := by
  unfold Good
  rw [wp_bind]
  refine BIBase.Entails.trans h (wp_mono _ _ _ fun v => ?_)
  iintro ⟨%S', %hq, H⟩
  unfold Good at hq
  iapply hq
  iexact H

theorem Good.assume {R : sProp 𝕄} {P : Prop} {d : Decidable P} {Q : PLift P → ((⟨1, ![n]⟩ : Shape).Idx → A.M) → Prop} (h : P) (hQ : Q ⟨h⟩ S) :
    Good (Ix := Ix) (Name := Name) (U := U) (Lvl := Lvl) defs 𝒱 c bd E R A acc (Prog.lift (TpuEff.assume P d)) S Q := by
  unfold Good
  refine BIBase.Entails.trans ?_ (wp_assume 𝒱 c bd E h)
  exact Good.pure (Ix := Ix) (Name := Name) (U := U) (Lvl := Lvl) (defs := defs) (𝒱 := 𝒱) (bd := bd) (E := E) (R := R) (acc := acc) (v := (⟨h⟩ : PLift P)) hQ

theorem Good.dite {R : sProp 𝕄} {P : Prop} [Decidable P] {t : P → Prog (TpuEff nD τ sig (Elt F) Λ c.2) α} {e : ¬ P → Prog (TpuEff nD τ sig (Elt F) Λ c.2) α}
    {Q : α → ((⟨1, ![n]⟩ : Shape).Idx → A.M) → Prop} (h : P) (hQ : Good (Ix := Ix) (Name := Name) (U := U) (Lvl := Lvl) defs 𝒱 c bd E R A acc (t h) S Q) :
    Good (Ix := Ix) (Name := Name) (U := U) (Lvl := Lvl) defs 𝒱 c bd E R A acc (if h : P then t h else e h) S Q := by
  rw [dif_pos h]; exact hQ

/-- A load of a rectangle of a lent buffer. -/
theorem Good.load {R : sProp 𝕄} {sp : CoreSpace} {s : Shape} {e : EltTy} {m : Memref sig c.2.kind sp s e} {x : s.Idx → Elt F e} (hm : Lends (Ix := Ix) (Name := Name) (U := U) (Lvl := Lvl) R c m x)
    {r : Rect s} {hl : m.view.LoadsAt r.toLoadRect} {Q : (r.shape.Idx → Elt F e) → ((⟨1, ![n]⟩ : Shape).Idx → A.M) → Prop}
    (hQ : Q (fun i => x (r.emb i)) S) :
    Good (Ix := Ix) (Name := Name) (U := U) (Lvl := Lvl) defs 𝒱 c bd E R A acc (Prog.lift (.load m r.toLoadRect hl)) S Q := by
  obtain ⟨q, hR⟩ := hm
  unfold Held at hR
  unfold Good
  iintro ⟨HR, HA⟩
  ihave HR' := hR $$ HR
  icases HR' with ⟨⟨%f, %hf, Hm⟩, Hback⟩
  iapply (wp_load_rect 𝒱 c bd E (m := m) (r := r) (k := Prog.ret) (S := m.view.set) (q := q) (f := f)
    (by rw [View.set_slice]; exact Finset.map_subset_map.mpr (Finset.subset_univ _))) $$ Hm
  iintro Hm
  rw [show (m.access r).read (Elt F) f = fun i => x (r.emb i) by subst hf; rfl]
  iapply (Good.entails (Good.pure (Ix := Ix) (Name := Name) (U := U) (Lvl := Lvl) (defs := defs) (𝒱 := 𝒱) (c := c) (bd := bd) (E := E) (R := R) (A := A) (acc := acc) hQ))
  isplitl [Hm Hback]
  · iapply Hback
    iexists f
    isplitr [Hm]
    · ipureintro; exact hf
    · iexact Hm
  · iexact HA

/-- A load of words below a bound, with what is read as a name. -/
theorem Good.loadBelow {R : sProp 𝕄} {b : Nat} {sp : CoreSpace} {s : Shape} {m : Memref sig c.2.kind sp s .i32} {x : s.Idx → Elt F .i32}
    (hm : Lends (Ix := Ix) (Name := Name) (U := U) (Lvl := Lvl) R c m x) (hx : ∀ j, (show BitVec 32 from x j).toNat < b)
    {r : Rect s} {hl : m.view.LoadsAt r.toLoadRect} {Q : (r.shape.Idx → Elt F .i32) → ((⟨1, ![n]⟩ : Shape).Idx → A.M) → Prop}
    (hQ : ∀ v : r.shape.Idx → BitVec 32, v = (fun i => x (r.emb i)) → (∀ i, (v i).toNat < b) → Q v S) :
    Good (Ix := Ix) (Name := Name) (U := U) (Lvl := Lvl) defs 𝒱 c bd E R A acc (Prog.lift (.load m r.toLoadRect hl)) S Q :=
  Good.load hm (hQ _ rfl fun _ => hx _)

/-- A load, with what is read as a name. -/
theorem Good.loadNamed {R : sProp 𝕄} {sp : CoreSpace} {s : Shape} {e : EltTy} {m : Memref sig c.2.kind sp s e} {x : s.Idx → Elt F e}
    (hm : Lends (Ix := Ix) (Name := Name) (U := U) (Lvl := Lvl) R c m x)
    {r : Rect s} {hl : m.view.LoadsAt r.toLoadRect} {Q : (r.shape.Idx → Elt F e) → ((⟨1, ![n]⟩ : Shape).Idx → A.M) → Prop}
    (hQ : ∀ v : r.shape.Idx → Elt F e, v = (fun i => x (r.emb i)) → Q v S) :
    Good (Ix := Ix) (Name := Name) (U := U) (Lvl := Lvl) defs 𝒱 c bd E R A acc (Prog.lift (.load m r.toLoadRect hl)) S Q :=
  Good.load hm (hQ _ rfl)

theorem whole_set {κ : Kind} {sp : Space} {s : Shape} {e : EltTy} (m : Memref sig κ sp s e) : (m.access (.whole s)).set = m.view.set := by
  rw [View.set_slice, ← Rect.map_emb_univ, show (Finset.univ.map (Rect.whole s).emb) = Finset.univ from ?_]
  · rfl
  · ext j; simp only [Finset.mem_map, Finset.mem_univ, true_and, iff_true]; exact ⟨j, Rect.emb_whole_apply _ _⟩

theorem whole_read {κ : Kind} {sp : Space} {s : Shape} {e : EltTy} (m : Memref sig κ sp s e) (f : m.view.ty.Contents (Elt F)) :
    (m.access (.whole s)).read (Elt F) f = m.view.read (Elt F) f := by
  funext j
  show m.view.read (Elt F) f ((Rect.whole s).emb j) = _
  rw [Rect.emb_whole_apply]

/-- A gather out of a lent buffer. -/
theorem Good.loadIdx {R : sProp 𝕄} {s t : Shape} {e : EltTy} {m : Memref sig c.2.kind .vmem s e} {x : s.Idx → Elt F e} (hm : Lends (Ix := Ix) (Name := Name) (U := U) (Lvl := Lvl) R c m x)
    {idxs : Fin s.rank → IVec t 32} {h : ∀ a x, (idxs a x).toNat < s.size a} {hl : m.view.Loads}
    {Q : Vec F t e → ((⟨1, ![n]⟩ : Shape).Idx → A.M) → Prop}
    (hQ : Q (Idealize.ShloMosaic.loadIdx x idxs h) S) :
    Good (Ix := Ix) (Name := Name) (U := U) (Lvl := Lvl) defs 𝒱 c bd E R A acc (SparseCore.vectorLoadIdx m idxs h hl) S Q := by
  obtain ⟨q, hR⟩ := hm
  unfold Held at hR
  unfold Good
  rw [← bind_pure (SparseCore.vectorLoadIdx m idxs h hl)]
  iintro ⟨HR, HA⟩
  ihave HR' := hR $$ HR
  icases HR' with ⟨⟨%f, %hf, Hm⟩, Hback⟩
  iapply (SparseCore.wp_vectorLoadIdx 𝒱 c bd E (base := m) (idxs := idxs) (h := h) (hl := hl) (k := Pure.pure) (S := m.view.set) (q := q) (f := f)
    (le_of_eq (whole_set m))) $$ Hm
  iintro Hm
  rw [whole_read, hf]
  iapply (Good.entails (Good.pure (Ix := Ix) (Name := Name) (U := U) (Lvl := Lvl) (defs := defs) (𝒱 := 𝒱) (c := c) (bd := bd) (E := E) (R := R) (A := A) (acc := acc) hQ))
  isplitl [Hm Hback]
  · iapply Hback
    iexists f
    isplitr [Hm]
    · ipureintro; exact hf
    · iexact Hm
  · iexact HA

/-- An indexed store with addition into the accumulator. -/
theorem Good.storeIdx {R : sProp 𝕄} {d : Fin 1 → Nat} {ix : IVec ⟨1, d⟩ 32} {v : Vec F ⟨1, d⟩ .f32} {mask : IVec ⟨1, d⟩ 1}
    {h : ∀ a x, ((![ix] : Fin 1 → IVec ⟨1, d⟩ 32) a x).toNat < (⟨1, ![n]⟩ : Shape).size a} {hs : (acc.access (.whole ⟨1, ![n]⟩)).Stores Finset.univ}
    {Q : PUnit → ((⟨1, ![n]⟩ : Shape).Idx → A.M) → Prop} (hQ : Q ⟨⟩ (S + deposit A (n := n) ix v mask)) :
    Good (Ix := Ix) (Name := Name) (U := U) (Lvl := Lvl) defs 𝒱 c bd E R A acc (SparseCore.vectorStoreIdx acc ![ix] v mask true h hs) S Q := by
  have hB : Booked (Ix := Ix) (Name := Name) (U := U) (Lvl := Lvl) A c acc S
      ⊢ iprop(∃ x f, ⌜∀ j, A.rep (x j) (S j)⌝ ∗ ⌜acc.view.read (Elt F) f = x⌝
        ∗ ((acc.access (.whole ⟨1, ![n]⟩)).loc c ↦[(acc.access (.whole ⟨1, ![n]⟩)).set]{fullShare} f)) := by
    unfold Booked Held
    iintro ⟨%x, %hx, %f, %hf, Hm⟩
    iexists x
    iexists f
    rw [whole_set acc]
    isplitr [Hm]
    · ipureintro; exact hx
    · isplitr [Hm]
      · ipureintro; exact hf
      · iexact Hm
  unfold Good
  rw [← bind_pure (SparseCore.vectorStoreIdx acc ![ix] v mask true h hs)]
  iintro ⟨HR, HA⟩
  ihave HA' := hB $$ HA
  icases HA' with ⟨%x, %f, %hx, %hf, Hm⟩
  iapply (SparseCore.wp_vectorStoreIdx 𝒱 c bd E (base := acc) (idxs := ![ix]) (v := v) (mask := mask) (add := true) (h := h) (hs := hs) (k := Pure.pure) (f := f)) $$ Hm
  iintro Hm
  iapply (Good.entails (Good.pure (Ix := Ix) (Name := Name) (U := U) (Lvl := Lvl) (defs := defs) (𝒱 := 𝒱) (c := c) (bd := bd) (E := E) (R := R) (A := A) (acc := acc) hQ))
  isplitl [HR]
  · iexact HR
  · unfold Booked Held
    iexists (Idealize.ShloMosaic.storeIdx x ![ix] v mask true h)
    isplitr [Hm]
    · ipureintro
      exact fun j => rep_storeIdx A x S hx ![ix] v mask h j
    · iexists ((acc.access (.whole ⟨1, ![n]⟩)).write (Elt F) f (Idealize.ShloMosaic.storeIdx x ![ix] v mask true h) Finset.univ)
      isplitr [Hm]
      · ipureintro
        rw [← whole_read acc, View.read_write_univ]
      · rw [whole_read, hf, whole_set acc]
        iexact Hm

/-- An indexed store of which no lane is selected leaves the account as it is. -/
theorem Good.storeNone {R : sProp 𝕄} {d : Fin 1 → Nat} {ix : IVec ⟨1, d⟩ 32} {v : Vec F ⟨1, d⟩ .f32} {mask : IVec ⟨1, d⟩ 1}
    {h : ∀ a x, ((![ix] : Fin 1 → IVec ⟨1, d⟩ 32) a x).toNat < (⟨1, ![n]⟩ : Shape).size a} {hs : (acc.access (.whole ⟨1, ![n]⟩)).Stores Finset.univ}
    {Q : PUnit → ((⟨1, ![n]⟩ : Shape).Idx → A.M) → Prop} (hm : ∀ x, mask x ≠ 1) (hQ : Q ⟨⟩ S) :
    Good (Ix := Ix) (Name := Name) (U := U) (Lvl := Lvl) defs 𝒱 c bd E R A acc (SparseCore.vectorStoreIdx acc ![ix] v mask true h hs) S Q := by
  refine Good.storeIdx ?_
  rw [show deposit A (n := n) ix v mask = 0 from funext fun j =>
    Finset.sum_eq_zero fun k _ => if_neg fun hh => hm _ hh.1, add_zero]
  exact hQ

/-- A counted loop whose trip `k` adds `g k` to the account. -/
theorem Good.for {R : sProp 𝕄} {w : Nat} {σ : Type} (l : Scf.Loop w) {hok : l.OK} {init : σ}
    {body : Fin l.trips → σ → Prog (TpuEff nD τ sig (Elt F) Λ c.2) σ} (g : Fin l.trips → (⟨1, ![n]⟩ : Shape).Idx → A.M)
    (hbody : ∀ k a (S : (⟨1, ![n]⟩ : Shape).Idx → A.M), Good (Ix := Ix) (Name := Name) (U := U) (Lvl := Lvl) defs 𝒱 c bd E R A acc (body k a) S (fun _ S' => S' = S + g k))
    {Q : σ → ((⟨1, ![n]⟩ : Shape).Idx → A.M) → Prop} (hQ : ∀ a, Q a (S + ∑ k, g k)) :
    Good (Ix := Ix) (Name := Name) (U := U) (Lvl := Lvl) defs 𝒱 c bd E R A acc (Scf.Loop.for l hok init body) S Q := by
  unfold Good
  let T : Nat → (⟨1, ![n]⟩ : Shape).Idx → A.M := fun m => S + ∑ k : Fin l.trips, if k.val < m then g k else 0
  refine BIBase.Entails.trans ?_ (Scf.wp_for frame (wpE defs 𝒱 c bd) E l.lb l.ub l.st hok init body
    (fun m _ => iprop(R ∗ Booked A c acc (T m))) (fun k a => ?_))
  · iintro H
    isplitl [H]
    · have h0 : T 0 = S := by
        show S + _ = S
        simp
      rw [h0]; iexact H
    · iintro %a H
      iexists _
      isplitr [H]
      swap
      · iexact H
      · ipureintro
        have hT : T l.trips = S + ∑ k, g k := by
          show S + _ = S + _
          refine congrArg (S + ·) (Finset.sum_congr rfl fun k _ => if_pos k.isLt)
        exact hT ▸ hQ a
  · refine BIBase.Entails.trans (hbody k a (T k.val)) (wp_mono _ _ _ fun v => ?_)
    iintro ⟨%S', %hS, H⟩
    have hT : T (k.val + 1) = S' := by
      rw [hS]
      show S + _ = S + _ + _
      rw [add_assoc]
      refine congrArg (S + ·) ?_
      have hsing : g k = ∑ k' : Fin l.trips, if k' = k then g k' else 0 := by
        rw [Finset.sum_ite_eq' Finset.univ k g, if_pos (Finset.mem_univ k)]
      conv_rhs => rw [hsing]
      rw [← Finset.sum_add_distrib]
      refine Finset.sum_congr rfl fun k' _ => ?_
      by_cases h1 : k'.val < k.val
      · rw [if_pos (by omega), if_pos h1, if_neg (fun hh => by subst hh; omega), add_zero]
      · by_cases h2 : k' = k
        · subst h2; rw [if_pos (by omega), if_neg (by omega), if_pos rfl, zero_add]
        · have : k'.val ≠ k.val := fun hh => h2 (Fin.ext hh)
          rw [if_neg (by omega), if_neg h1, if_neg h2, add_zero]
    rw [hT]; iexact H

end Cert.Proof.Account
-- ==== Proof.Dup.lean ====
/-
  Sixteen edges at a time. The kernel numbers the lanes of a vector of target nodes by how often the node
  occurred up to them (1, 2, …), and adds the lanes in passes: pass `k` adds the lanes numbered `k`, so no two
  lanes of one pass name one element. Every lane is numbered between 1 and the largest number, and the passes
  run over exactly that range: together they add every lane once. This module states the numbering, the number of
  passes, and what the passes add, for any account.
-/
module

public import proofs.«01_k».proof.Proof.Account

@[expose] public section

noncomputable section

namespace Cert.Proof.Dup

open Idealize.ShloMosaic
open Cert.Proof.Account

/-- Sixteen lanes. -/
abbrev L16 : Shape := ⟨1, ![16]⟩

/-! ## The numbering of the lanes -/

/-- The number of a lane: how often its word occurs up to it. -/
abbrev counts (v : IVec L16 32) : IVec L16 32 := (scanCount (broadcast L16 1#1) v).2

theorem counts_bounds (v : IVec L16 32) (x : L16.Idx) : 1 ≤ (counts v x).toNat ∧ (counts v x).toNat ≤ 16 := by
  let T : Finset L16.Idx := Finset.univ.filter fun j => (L16.rowMajor j).val ≤ (L16.rowMajor x).val ∧ (broadcast L16 1#1 : IVec L16 1) j = 1 ∧ v j = v x
  have hc : counts v x = BitVec.ofNat 32 T.card := by
    show (if (broadcast L16 1#1 : IVec L16 1) x = 1 then BitVec.ofNat 32 T.card else 1) = _
    exact if_pos rfl
  have h1 : 1 ≤ T.card := Finset.card_pos.mpr ⟨x, Finset.mem_filter.mpr ⟨Finset.mem_univ x, le_refl _, rfl, rfl⟩⟩
  have h2 : T.card ≤ 16 := by
    refine (Finset.card_le_univ T).trans (le_of_eq ?_)
    rw [Shape.card_idx]; decide
  rw [hc, BitVec.toNat_ofNat]
  omega

/-- No lane is numbered zero. -/
theorem counts_ne_zero (v : IVec L16 32) (x : L16.Idx) : cmpi .eq (counts v) (broadcast L16 0#32) x ≠ 1 := by
  have h := (counts_bounds v x).1
  show BitVec.ofBool (counts v x == 0#32) ≠ 1
  have hne : counts v x ≠ 0#32 := by
    intro hh; rw [hh] at h; simp at h
  rw [beq_eq_false_iff_ne.mpr hne]; decide

/-! ## The largest number -/

/-- The largest number of a lane, as the kernel computes it: a running maximum on words whose sign bit is flipped before
    and after. -/
abbrev top (c : IVec L16 32) (h : ∀ a, (![15] : Fin 1 → Nat) a < L16.size a) : BitVec 32 :=
  extractAt ![15] (xori (scan .max (xori c (broadcast L16 2147483648#32))) (broadcast L16 2147483648#32)) h

theorem foldl_maxui {ι : Type} (g : ι → BitVec 32) (l : List ι) (a : BitVec 32) :
    let r := l.foldl (fun r k => ScanKind.step .max r (g k)) a
    (r = a ∨ ∃ k ∈ l, r = g k) ∧ a.toNat ≤ r.toNat ∧ ∀ k ∈ l, (g k).toNat ≤ r.toNat := by
  induction l generalizing a with
  | nil => simp
  | cons k l ih =>
    simp only [List.foldl_cons]
    have hstep : (ScanKind.step .max a (g k) = a ∨ ScanKind.step .max a (g k) = g k)
        ∧ a.toNat ≤ (ScanKind.step .max a (g k)).toNat ∧ (g k).toNat ≤ (ScanKind.step .max a (g k)).toNat := by
      have hs : ScanKind.step .max a (g k) = if (g k).ult a then a else g k := rfl
      rw [hs]
      by_cases hlt : (g k).ult a = true
      · rw [if_pos hlt]
        rw [BitVec.ult_eq_decide, decide_eq_true_eq] at hlt
        exact ⟨.inl rfl, le_refl _, hlt.le⟩
      · rw [if_neg hlt]
        rw [BitVec.ult_eq_decide, decide_eq_true_eq] at hlt
        exact ⟨.inr rfl, not_lt.mp hlt, le_refl _⟩
    obtain ⟨h1, h2, h3⟩ := ih (ScanKind.step .max a (g k))
    refine ⟨?_, hstep.2.1.trans h2, ?_⟩
    · rcases h1 with h1 | ⟨k', hk', h1⟩
      · rcases hstep.1 with h | h
        · exact .inl (h1.trans h)
        · exact .inr ⟨k, List.mem_cons_self, h1.trans h⟩
      · exact .inr ⟨k', List.mem_cons_of_mem _ hk', h1⟩
    · intro k' hk'
      rcases List.mem_cons.mp hk' with rfl | hk'
      · exact hstep.2.2.trans h2
      · exact h3 k' hk'

theorem flip_toNat (b : BitVec 32) (h : b.toNat ≤ 16) : (b ^^^ 2147483648#32).toNat = b.toNat + 2147483648 := by
  obtain ⟨k, hk, rfl⟩ : ∃ k, k ≤ 16 ∧ b = BitVec.ofNat 32 k := ⟨b.toNat, h, by simp⟩
  exact (by decide : ∀ k : Fin 17, (BitVec.ofNat 32 k.val ^^^ 2147483648#32).toNat = (BitVec.ofNat 32 k.val).toNat + 2147483648) ⟨k, by omega⟩

theorem flip_flip (b : BitVec 32) : (b ^^^ 2147483648#32) ^^^ 2147483648#32 = b := by
  rw [BitVec.xor_assoc, BitVec.xor_self, BitVec.xor_zero]

theorem top_bounds (c : IVec L16 32) (hc : ∀ x, 1 ≤ (c x).toNat ∧ (c x).toNat ≤ 16) (h : ∀ a, (![15] : Fin 1 → Nat) a < L16.size a) :
    (∀ x, (c x).toNat ≤ (top c h).toNat) ∧ 1 ≤ (top c h).toNat ∧ (top c h).toNat ≤ 16 := by
  let g : Fin 16 → BitVec 32 := fun k => c (Shape.ofLane (d := ![16]) k) ^^^ 2147483648#32
  let l := (List.finRange 16).filter fun k : Fin 16 => decide (0 < k.val ∧ k.val ≤ 15)
  let r := l.foldl (fun r k => ScanKind.step .max r (g k)) (g 0)
  have ht : top c h = r ^^^ 2147483648#32 := rfl
  obtain ⟨h1, h2, h3⟩ := foldl_maxui g l (g 0)
  have hall : ∀ k : Fin 16, (g k).toNat ≤ r.toNat := fun k => by
    by_cases hk : k = 0
    · subst hk; exact h2
    · refine h3 k (List.mem_filter.mpr ⟨List.mem_finRange k, ?_⟩)
      have : k.val ≠ 0 := fun hh => hk (Fin.ext hh)
      have := k.isLt
      exact decide_eq_true ⟨by omega, by omega⟩
  obtain ⟨k, hk⟩ : ∃ k, r = g k := by
    rcases h1 with h1 | ⟨k, _, h1⟩
    · exact ⟨0, h1⟩
    · exact ⟨k, h1⟩
  have htop : top c h = c (Shape.ofLane (d := ![16]) k) := by
    rw [ht, hk]; exact flip_flip _
  have hb := hc (Shape.ofLane (d := ![16]) k)
  refine ⟨fun x => ?_, by rw [htop]; exact hb.1, by rw [htop]; exact hb.2⟩
  have hx : x = Shape.ofLane (d := ![16]) (x 0) := by
    funext a; obtain rfl := Fin.eq_zero a; rfl
  have hle := hall (x 0)
  rw [hk] at hle
  have e1 := flip_toNat (c (Shape.ofLane (d := ![16]) (x 0))) (hc _).2
  have e2 := flip_toNat (c (Shape.ofLane (d := ![16]) k)) hb.2
  rw [htop]
  have : (c x).toNat = (c (Shape.ofLane (d := ![16]) (x 0))).toNat := congrArg (fun y => (c y).toNat) hx
  have hg1 : (g (x 0)).toNat = (c (Shape.ofLane (d := ![16]) (x 0))).toNat + 2147483648 := e1
  have hg2 : (g k).toNat = (c (Shape.ofLane (d := ![16]) k)).toNat + 2147483648 := e2
  omega

/-! ## The passes -/

/-- The loop over the passes `1 … m`. -/
@[reducible] def passLoop (m : BitVec 32) : Scf.Loop 32 :=
  ⟨1#32, Scalar.addi 1#32 (Scalar.muli (Scalar.divsi (Scalar.subi (Scalar.addi m 1#32) 1#32) 1#32) 1#32), 1#32⟩

/-- The loop over the passes left when their number is divided by one: none. -/
@[reducible] def restLoop (m : BitVec 32) : Scf.Loop 32 :=
  ⟨Scalar.addi 1#32 (Scalar.muli (Scalar.divsi (Scalar.subi (Scalar.addi m 1#32) 1#32) 1#32) 1#32),
    Scalar.addi 1#32 (Scalar.subi (Scalar.addi m 1#32) 1#32), 1#32⟩

theorem ub_eq (m : BitVec 32) (hm : m.toNat ≤ 16) :
    Scalar.addi 1#32 (Scalar.muli (Scalar.divsi (Scalar.subi (Scalar.addi m 1#32) 1#32) 1#32) 1#32) = BitVec.ofNat 32 (m.toNat + 1) := by
  obtain ⟨k, hk, rfl⟩ : ∃ k, k ≤ 16 ∧ m = BitVec.ofNat 32 k := ⟨m.toNat, hm, by simp⟩
  exact (by decide : ∀ k : Fin 17, Scalar.addi 1#32 (Scalar.muli (Scalar.divsi (Scalar.subi (Scalar.addi (BitVec.ofNat 32 k.val) 1#32) 1#32) 1#32) 1#32) = BitVec.ofNat 32 ((BitVec.ofNat 32 k.val).toNat + 1)) ⟨k, by omega⟩

theorem ub_eq' (m : BitVec 32) (hm : m.toNat ≤ 16) :
    Scalar.addi 1#32 (Scalar.subi (Scalar.addi m 1#32) 1#32) = BitVec.ofNat 32 (m.toNat + 1) := by
  obtain ⟨k, hk, rfl⟩ : ∃ k, k ≤ 16 ∧ m = BitVec.ofNat 32 k := ⟨m.toNat, hm, by simp⟩
  exact (by decide : ∀ k : Fin 17, Scalar.addi 1#32 (Scalar.subi (Scalar.addi (BitVec.ofNat 32 k.val) 1#32) 1#32) = BitVec.ofNat 32 ((BitVec.ofNat 32 k.val).toNat + 1)) ⟨k, by omega⟩

theorem passLoop_trips (m : BitVec 32) (hm : m.toNat ≤ 16) : (passLoop m).trips = m.toNat := by
  show Scf.trips 1#32 _ 1#32 = _
  rw [show (passLoop m).ub = _ from ub_eq m hm]
  generalize m.toNat = k at hm ⊢
  exact (by decide : ∀ k : Fin 17, Scf.trips 1#32 (BitVec.ofNat 32 (k.val + 1)) 1#32 = k.val) ⟨k, by omega⟩

theorem passLoop_ok (m : BitVec 32) (hm : m.toNat ≤ 16) : (passLoop m).OK := by
  show Scf.OK 1#32 _ 1#32
  rw [show (passLoop m).ub = _ from ub_eq m hm]
  generalize m.toNat = k at hm ⊢
  exact (by decide : ∀ k : Fin 17, Scf.OK 1#32 (BitVec.ofNat 32 (k.val + 1)) 1#32) ⟨k, by omega⟩

theorem restLoop_trips (m : BitVec 32) (hm : m.toNat ≤ 16) : (restLoop m).trips = 0 := by
  show Scf.trips _ _ 1#32 = _
  rw [show (restLoop m).lb = _ from ub_eq m hm, show (restLoop m).ub = _ from ub_eq' m hm]
  generalize m.toNat = k at hm ⊢
  exact (by decide : ∀ k : Fin 17, Scf.trips (BitVec.ofNat 32 (k.val + 1)) (BitVec.ofNat 32 (k.val + 1)) 1#32 = 0) ⟨k, by omega⟩

theorem restLoop_ok (m : BitVec 32) (hm : m.toNat ≤ 16) : (restLoop m).OK := by
  show Scf.OK _ _ 1#32
  rw [show (restLoop m).lb = _ from ub_eq m hm, show (restLoop m).ub = _ from ub_eq' m hm]
  generalize m.toNat = k at hm ⊢
  exact (by decide : ∀ k : Fin 17, Scf.OK (BitVec.ofNat 32 (k.val + 1)) (BitVec.ofNat 32 (k.val + 1)) 1#32) ⟨k, by omega⟩

/-- One of five numbers is positive, so their maximum is. -/
theorem some_pass (a b c d e : BitVec 32) (ha : 1 ≤ a.toNat ∧ a.toNat ≤ 16) (hb : 1 ≤ b.toNat ∧ b.toNat ≤ 16) (hc : 1 ≤ c.toNat ∧ c.toNat ≤ 16)
    (hd : 1 ≤ d.toNat ∧ d.toNat ≤ 16) (he : 1 ≤ e.toNat ∧ e.toNat ≤ 16) :
    Scalar.cmpi .ne (Scalar.extui (Scalar.cmpi .sgt (Scalar.maxsi (Scalar.maxsi (Scalar.maxsi (Scalar.maxsi (Scalar.maxsi 0#32 a) b) c) d) e) 0#32) : BitVec 32) 0#32 = 1#1 := by
  have key : ∀ x y : BitVec 32, 1 ≤ y.toNat ∧ y.toNat ≤ 16 → 1 ≤ (Scalar.maxsi x y).toInt := by
    intro x y hy
    have hyi : y.toInt = y.toNat := BitVec.toInt_eq_toNat_of_lt (by omega)
    show 1 ≤ (if y.slt x then x else y).toInt
    split
    · next hs =>
      rw [BitVec.slt_eq_decide, decide_eq_true_eq] at hs
      omega
    · omega
  have h := key (Scalar.maxsi (Scalar.maxsi (Scalar.maxsi (Scalar.maxsi 0#32 a) b) c) d) e he
  generalize Scalar.maxsi (Scalar.maxsi (Scalar.maxsi (Scalar.maxsi (Scalar.maxsi 0#32 a) b) c) d) e = m at h ⊢
  have hs : (0#32).slt m = true := by
    rw [BitVec.slt_eq_decide, decide_eq_true_eq]
    have : (0#32).toInt = 0 := by decide
    omega
  show BitVec.ofBool ((BitVec.setWidth 32 (BitVec.ofBool ((0#32).slt m))) != 0#32) = 1#1
  rw [hs]; decide

/-! ## Offsets into the blocks of the table and of the accumulator -/

theorem addi_toNat (v d : BitVec 32) (hv : v.toNat < 10000) (hd : d.toNat ≤ 40000) : (IntOp.addi v d).toNat = v.toNat + d.toNat := by
  show (v + d).toNat = _
  rw [BitVec.toNat_add]; omega

/-- A node's element in a block is in range. -/
theorem idx_ok (v : IVec L16 32) (hv : ∀ x, (v x).toNat < 10000) (d : BitVec 32) (hd : d.toNat ≤ 40000) :
    ∀ a x, ((![addi v (broadcast L16 d)] : Fin 1 → IVec L16 32) a x).toNat < (⟨1, ![50048]⟩ : Shape).size a := by
  intro a x
  obtain rfl := Fin.eq_zero a
  show (IntOp.addi (v x) d).toNat < 50048
  rw [addi_toNat _ _ (hv x) hd]
  have := hv x
  omega

variable {F : FTy → Type} [FloatOps F]

/-- An element of a table. -/
def at1 (n : Nat) : (⟨1, ![50048]⟩ : Shape).Idx :=
  fun a => ⟨n % 50048, by obtain rfl := Fin.eq_zero a; exact Nat.mod_lt _ (by decide)⟩

/-- What one edge adds in one block: its weight times its source's element, at its target. -/
def edge1 (A : Acct F) (tbl : Vec F ⟨1, ![50048]⟩ .f32) (d : Nat) (r c : BitVec 32) (w : F .f32) : (⟨1, ![50048]⟩ : Shape).Idx → A.M :=
  fun j => if (j 0).val = c.toNat + d then A.val (FloatOps.mulf (tbl (at1 (r.toNat + d))) w) else 0

/-- What one edge adds: its weight times its source's elements, at its target, in each of the five blocks. -/
def edge (A : Acct F) (tbl : Vec F ⟨1, ![50048]⟩ .f32) (r c : BitVec 32) (w : F .f32) : (⟨1, ![50048]⟩ : Shape).Idx → A.M :=
  edge1 A tbl 0 r c w + edge1 A tbl 10000 r c w + edge1 A tbl 20000 r c w + edge1 A tbl 30000 r c w + edge1 A tbl 40000 r c w

/-- What the lanes selected by `mask` add. -/
def pass (A : Acct F) (tbl : Vec F ⟨1, ![50048]⟩ .f32) (r c : IVec L16 32) (w : Vec F L16 .f32) (mask : IVec L16 1) :
    (⟨1, ![50048]⟩ : Shape).Idx → A.M :=
  ∑ k : Fin 16, if mask (Shape.ofLane (d := ![16]) k) = 1 then
    edge A tbl (r (Shape.ofLane (d := ![16]) k)) (c (Shape.ofLane (d := ![16]) k)) (w (Shape.ofLane (d := ![16]) k)) else 0

/-- What all lanes add. -/
def lanes (A : Acct F) (tbl : Vec F ⟨1, ![50048]⟩ .f32) (r c : IVec L16 32) (w : Vec F L16 .f32) : (⟨1, ![50048]⟩ : Shape).Idx → A.M :=
  ∑ k : Fin 16, edge A tbl (r (Shape.ofLane (d := ![16]) k)) (c (Shape.ofLane (d := ![16]) k)) (w (Shape.ofLane (d := ![16]) k))

/-- The `e`-th element of a chunk. -/
def nth (e : Nat) : (⟨1, ![4000]⟩ : Shape).Idx :=
  fun a => ⟨e % 4000, by obtain rfl := Fin.eq_zero a; exact Nat.mod_lt _ (by decide)⟩

/-- What the `e`-th edge of a chunk adds. -/
def edgeAt (A : Acct F) (tbl : Vec F ⟨1, ![50048]⟩ .f32) (r c : IVec ⟨1, ![4000]⟩ 32) (w : Vec F ⟨1, ![4000]⟩ .f32) (e : Nat) :
    (⟨1, ![50048]⟩ : Shape).Idx → A.M :=
  edge A tbl (r (nth e)) (c (nth e)) (w (nth e))

/-- Sixteen edges of a chunk, from an offset. -/
theorem lanes_at (A : Acct F) (tbl : Vec F ⟨1, ![50048]⟩ .f32) (r c : IVec ⟨1, ![4000]⟩ 32) (w : Vec F ⟨1, ![4000]⟩ .f32) (off : Fin 1 → Nat)
    (h : ∀ a, off a + L16.size a ≤ (⟨1, ![4000]⟩ : Shape).size a) :
    lanes A tbl (fun i => r ((Rect.unit (s := ⟨1, ![4000]⟩) off L16.size h).emb i)) (fun i => c ((Rect.unit (s := ⟨1, ![4000]⟩) off L16.size h).emb i))
        (fun i => w ((Rect.unit (s := ⟨1, ![4000]⟩) off L16.size h).emb i))
      = ∑ l ∈ Finset.range 16, edgeAt A tbl r c w (off 0 + l) := by
  rw [Finset.sum_range]
  unfold lanes edgeAt
  refine Finset.sum_congr rfl fun l _ => ?_
  have hx : (Rect.unit (s := ⟨1, ![4000]⟩) off L16.size h).emb (Shape.ofLane (d := ![16]) l) = nth (off 0 + l.val) := by
    funext a
    obtain rfl := Fin.eq_zero a
    refine Fin.ext ?_
    have h0 : off 0 + 16 ≤ 4000 := h 0
    show off 0 + 1 * l.val = (off 0 + l.val) % 4000
    rw [Nat.mod_eq_of_lt (by omega), Nat.one_mul]
  exact congrArg (fun x => edge A tbl (r x) (c x) (w x)) hx

/-- Eighty terms, sixteen at a time. -/
theorem sum_eighty {M : Type} [AddCommMonoid M] (f : Nat → M) (b : Nat) (S : M) :
    S + ∑ l ∈ Finset.range 16, f (b + 0 + l) + ∑ l ∈ Finset.range 16, f (b + 16 + l) + ∑ l ∈ Finset.range 16, f (b + 32 + l)
        + ∑ l ∈ Finset.range 16, f (b + 48 + l) + ∑ l ∈ Finset.range 16, f (b + 64 + l)
      = S + ∑ l ∈ Finset.range 80, f (b + l) := by
  have h : ∑ l ∈ Finset.range 80, f (b + l) = ∑ l ∈ Finset.range (16 + 16 + 16 + 16 + 16), f (b + l) := rfl
  simp only [h, Finset.sum_range_add, add_assoc, Nat.add_zero]
  simp only [← Nat.add_assoc 16, Nat.reduceAdd]

/-- Five vectors of a chunk's edges, one after the other. -/
theorem five_lanes (A : Acct F) (tbl : Vec F ⟨1, ![50048]⟩ .f32) (r c : IVec ⟨1, ![4000]⟩ 32) (w : Vec F ⟨1, ![4000]⟩ .f32) (b : Nat)
    {o0 o1 o2 o3 o4 : Fin 1 → Nat} (e0 : o0 = ![b + 16 * 0]) (e1 : o1 = ![b + 16 * 1]) (e2 : o2 = ![b + 16 * 2]) (e3 : o3 = ![b + 16 * 3])
    (e4 : o4 = ![b + 16 * 4]) (h0 : ∀ a, o0 a + L16.size a ≤ (⟨1, ![4000]⟩ : Shape).size a) (h1 : ∀ a, o1 a + L16.size a ≤ (⟨1, ![4000]⟩ : Shape).size a)
    (h2 : ∀ a, o2 a + L16.size a ≤ (⟨1, ![4000]⟩ : Shape).size a) (h3 : ∀ a, o3 a + L16.size a ≤ (⟨1, ![4000]⟩ : Shape).size a)
    (h4 : ∀ a, o4 a + L16.size a ≤ (⟨1, ![4000]⟩ : Shape).size a) (S : (⟨1, ![50048]⟩ : Shape).Idx → A.M) :
    S + lanes A tbl (fun i => r ((Rect.unit (s := ⟨1, ![4000]⟩) o0 L16.size h0).emb i)) (fun i => c ((Rect.unit (s := ⟨1, ![4000]⟩) o0 L16.size h0).emb i)) (fun i => w ((Rect.unit (s := ⟨1, ![4000]⟩) o0 L16.size h0).emb i))
      + lanes A tbl (fun i => r ((Rect.unit (s := ⟨1, ![4000]⟩) o1 L16.size h1).emb i)) (fun i => c ((Rect.unit (s := ⟨1, ![4000]⟩) o1 L16.size h1).emb i)) (fun i => w ((Rect.unit (s := ⟨1, ![4000]⟩) o1 L16.size h1).emb i))
      + lanes A tbl (fun i => r ((Rect.unit (s := ⟨1, ![4000]⟩) o2 L16.size h2).emb i)) (fun i => c ((Rect.unit (s := ⟨1, ![4000]⟩) o2 L16.size h2).emb i)) (fun i => w ((Rect.unit (s := ⟨1, ![4000]⟩) o2 L16.size h2).emb i))
      + lanes A tbl (fun i => r ((Rect.unit (s := ⟨1, ![4000]⟩) o3 L16.size h3).emb i)) (fun i => c ((Rect.unit (s := ⟨1, ![4000]⟩) o3 L16.size h3).emb i)) (fun i => w ((Rect.unit (s := ⟨1, ![4000]⟩) o3 L16.size h3).emb i))
      + lanes A tbl (fun i => r ((Rect.unit (s := ⟨1, ![4000]⟩) o4 L16.size h4).emb i)) (fun i => c ((Rect.unit (s := ⟨1, ![4000]⟩) o4 L16.size h4).emb i)) (fun i => w ((Rect.unit (s := ⟨1, ![4000]⟩) o4 L16.size h4).emb i))
      = S + ∑ l ∈ Finset.range 80, edgeAt A tbl r c w (b + l) := by
  rw [lanes_at, lanes_at, lanes_at, lanes_at, lanes_at, ← sum_eighty]
  subst e0 e1 e2 e3 e4
  rfl

/-- A sum by blocks. -/
theorem sum_blocks {M : Type} [AddCommMonoid M] (f : Nat → M) (m n : Nat) :
    ∑ k ∈ Finset.range m, ∑ l ∈ Finset.range n, f (k * n + l) = ∑ e ∈ Finset.range (m * n), f e := by
  induction m with
  | zero => simp
  | succ m ih => rw [Finset.sum_range_succ, ih, Nat.succ_mul, Finset.sum_range_add]

theorem deposit_eq (A : Acct F) (tbl : Vec F ⟨1, ![50048]⟩ .f32) (r c : IVec L16 32) (w : Vec F L16 .f32) (mask : IVec L16 1)
    (hr : ∀ x, (r x).toNat < 10000) (hc : ∀ x, (c x).toNat < 10000) (d : BitVec 32) (hd : d.toNat ≤ 40000)
    (h : ∀ a x, ((![addi r (broadcast L16 d)] : Fin 1 → IVec L16 32) a x).toNat < (⟨1, ![50048]⟩ : Shape).size a) :
    deposit A (n := 50048) (addi c (broadcast L16 d)) (mulf (loadIdx (s := ⟨1, ![50048]⟩) tbl ![addi r (broadcast L16 d)] h) w) mask
      = ∑ k : Fin 16, if mask (Shape.ofLane (d := ![16]) k) = 1 then
          edge1 A tbl d.toNat (r (Shape.ofLane (d := ![16]) k)) (c (Shape.ofLane (d := ![16]) k)) (w (Shape.ofLane (d := ![16]) k)) else 0 := by
  funext j
  rw [Finset.sum_apply]
  refine Finset.sum_congr rfl fun (k : Fin 16) _ => ?_
  have hci : (addi c (broadcast L16 d) (Shape.ofLane (d := ![16]) k)).toNat = (c (Shape.ofLane (d := ![16]) k)).toNat + d.toNat :=
    addi_toNat _ _ (hc _) hd
  have hri : idxAt (s := ⟨1, ![50048]⟩) ![addi r (broadcast L16 d)] h (Shape.ofLane (d := ![16]) k)
      = at1 ((r (Shape.ofLane (d := ![16]) k)).toNat + d.toNat) := by
    funext a
    obtain rfl := Fin.eq_zero a
    refine Fin.ext ?_
    show (IntOp.addi (r (Shape.ofLane (d := ![16]) k)) d).toNat = (_ + _) % 50048
    rw [addi_toNat _ _ (hr _) hd, Nat.mod_eq_of_lt]
    have := hr (Shape.ofLane (d := ![16]) k)
    omega
  by_cases hm : mask (Shape.ofLane (d := ![16]) k) = 1
  · rw [if_pos hm]
    unfold edge1
    rw [hci]
    by_cases hj : (j 0).val = (c (Shape.ofLane (d := ![16]) k)).toNat + d.toNat
    · rw [if_pos ⟨hm, hj⟩, if_pos hj]
      refine congrArg A.val ?_
      show FloatOps.mulf (tbl (idxAt (s := ⟨1, ![50048]⟩) ![addi r (broadcast L16 d)] h (Shape.ofLane (d := ![16]) k))) (w _) = _
      rw [hri]
    · rw [if_neg (fun hh => hj hh.2), if_neg hj]
  · rw [if_neg hm, if_neg (fun hh => hm hh.1)]
    rfl

/-- The five stores of a pass. -/
theorem five_deposits (A : Acct F) (tbl : Vec F ⟨1, ![50048]⟩ .f32) (r c : IVec L16 32) (w : Vec F L16 .f32) (mask : IVec L16 1)
    (hr : ∀ x, (r x).toNat < 10000) (hc : ∀ x, (c x).toNat < 10000) (h0 h1 h2 h3 h4) (S : (⟨1, ![50048]⟩ : Shape).Idx → A.M) :
    S + deposit A (n := 50048) (addi c (broadcast L16 0#32)) (mulf (loadIdx (s := ⟨1, ![50048]⟩) tbl ![addi r (broadcast L16 0#32)] h0) w) mask
      + deposit A (n := 50048) (addi c (broadcast L16 10000#32)) (mulf (loadIdx (s := ⟨1, ![50048]⟩) tbl ![addi r (broadcast L16 10000#32)] h1) w) mask
      + deposit A (n := 50048) (addi c (broadcast L16 20000#32)) (mulf (loadIdx (s := ⟨1, ![50048]⟩) tbl ![addi r (broadcast L16 20000#32)] h2) w) mask
      + deposit A (n := 50048) (addi c (broadcast L16 30000#32)) (mulf (loadIdx (s := ⟨1, ![50048]⟩) tbl ![addi r (broadcast L16 30000#32)] h3) w) mask
      + deposit A (n := 50048) (addi c (broadcast L16 40000#32)) (mulf (loadIdx (s := ⟨1, ![50048]⟩) tbl ![addi r (broadcast L16 40000#32)] h4) w) mask
      = S + pass A tbl r c w mask := by
  rw [deposit_eq A tbl r c w mask hr hc 0#32 (by decide), deposit_eq A tbl r c w mask hr hc 10000#32 (by decide),
    deposit_eq A tbl r c w mask hr hc 20000#32 (by decide), deposit_eq A tbl r c w mask hr hc 30000#32 (by decide),
    deposit_eq A tbl r c w mask hr hc 40000#32 (by decide)]
  simp only [add_assoc]
  refine congrArg (S + ·) ?_
  simp only [← add_assoc]
  unfold pass
  simp only [← Finset.sum_add_distrib]
  refine Finset.sum_congr rfl fun k _ => ?_
  by_cases hm : mask (Shape.ofLane (d := ![16]) k) = 1
  · simp only [if_pos hm]; rfl
  · simp only [if_neg hm, add_zero]

/-- What a mask lets through of what the lanes add. -/
def through {M : Type} [AddCommMonoid M] (g : Fin 16 → M) (mask : IVec L16 1) : M :=
  ∑ k : Fin 16, if mask (Shape.ofLane (d := ![16]) k) = 1 then g k else 0

/-- The passes together add every lane once. -/
theorem passes {M : Type} [AddCommMonoid M] (g : Fin 16 → M) (cnt : IVec L16 32) (m : BitVec 32)
    (hm : m.toNat ≤ 16) (h1 : ∀ x, 1 ≤ (cnt x).toNat) (h2 : ∀ x, (cnt x).toNat ≤ m.toNat) :
    ∑ k : Fin (passLoop m).trips, through g (cmpi .eq cnt (broadcast L16 (Scf.iv 1#32 1#32 k))) = ∑ l, g l := by
  unfold through
  rw [Finset.sum_comm]
  refine Finset.sum_congr rfl fun l _ => ?_
  have hlt : (cnt (Shape.ofLane (d := ![16]) l)).toNat - 1 < (passLoop m).trips := by
    rw [passLoop_trips m hm]
    have := h1 (Shape.ofLane (d := ![16]) l); have := h2 (Shape.ofLane (d := ![16]) l)
    omega
  rw [Finset.sum_eq_single ⟨_, hlt⟩]
  · refine if_pos ?_
    show BitVec.ofBool (cnt _ == Scf.iv 1#32 1#32 _) = 1
    have : cnt (Shape.ofLane (d := ![16]) l) = Scf.iv 1#32 1#32 ((cnt (Shape.ofLane (d := ![16]) l)).toNat - 1) := by
      refine BitVec.eq_of_toNat_eq ?_
      show _ = (1#32 + BitVec.ofNat 32 _ * 1#32).toNat
      have := h1 (Shape.ofLane (d := ![16]) l); have := h2 (Shape.ofLane (d := ![16]) l)
      rw [BitVec.mul_one, BitVec.toNat_add, BitVec.toNat_ofNat, BitVec.toNat_ofNat]
      omega
    rw [beq_iff_eq.mpr this]; rfl
  · intro k _ hk
    refine if_neg fun hh => hk (Fin.ext ?_)
    have he : cnt (Shape.ofLane (d := ![16]) l) = Scf.iv 1#32 1#32 k := by
      by_contra hne
      have : BitVec.ofBool (cnt (Shape.ofLane (d := ![16]) l) == Scf.iv 1#32 1#32 k) = 1 := hh
      rw [beq_eq_false_iff_ne.mpr hne] at this
      exact absurd this (by decide)
    have hk' : k.val < m.toNat := lt_of_lt_of_eq k.isLt (passLoop_trips m hm)
    have : (cnt (Shape.ofLane (d := ![16]) l)).toNat = (1#32 + BitVec.ofNat 32 k.val * 1#32).toNat := congrArg BitVec.toNat he
    rw [BitVec.mul_one, BitVec.toNat_add, BitVec.toNat_ofNat, BitVec.toNat_ofNat] at this
    show k.val = _ - 1
    omega
  · intro h; exact absurd (Finset.mem_univ _) h

/-! ## The loop over the passes, as a rule -/

section Rules
open Idealize.SL Idealize.SL.RA Idealize.SL.BI
open Idealize.SL.BI.BIBase Idealize.SL.BI.Laws Idealize.SL.ProofMode Idealize.SL.Sem

variable {nD : Nat} {τ : Topo} {sig : RefSig} {Ix : Type} [DecidableEq Ix]
variable {Name : Type} [DecidableEq Name]
variable {U : Type} [URA U] {Lvl : Type} [Preorder Lvl] {Λ : Labels}

local notation "𝕄" => MT nD τ sig Ix (Elt F) Name U Lvl

variable {defs : Defs nD τ sig (Elt F) Λ} {𝒱 : Variants} {c : Thread nD τ} {bd : Option 𝒱.V} {E : Set Name}
variable {n : Nat} {A : Acct F} {acc : Memref sig c.2.kind .vmem ⟨1, ![n]⟩ .f32} {S : (⟨1, ![n]⟩ : Shape).Idx → A.M}

/-- The store of a pass numbered zero leaves the account as it is. -/
theorem good_first {R : sProp 𝕄} {cw ix : IVec L16 32} {v : Vec F L16 .f32}
    {h : ∀ a x, ((![ix] : Fin 1 → IVec L16 32) a x).toNat < (⟨1, ![n]⟩ : Shape).size a} {hs : (acc.access (.whole ⟨1, ![n]⟩)).Stores Finset.univ}
    {Q : PUnit → ((⟨1, ![n]⟩ : Shape).Idx → A.M) → Prop} (hQ : Q ⟨⟩ S) :
    Good (Ix := Ix) (Name := Name) (U := U) (Lvl := Lvl) defs 𝒱 c bd E R A acc
      (SparseCore.vectorStoreIdx acc ![ix] v (cmpi .eq (counts cw) (broadcast L16 0#32)) true h hs) S Q :=
  Good.storeNone (counts_ne_zero cw) hQ

/-- The passes over one vector of lanes add what each of its lanes adds. -/
theorem good_all {R : sProp 𝕄} {σ : Type} (cw : IVec L16 32) (g : Fin 16 → (⟨1, ![n]⟩ : Shape).Idx → A.M)
    {h15 : ∀ a, (![15] : Fin 1 → Nat) a < L16.size a} {hok : (passLoop (top (counts cw) h15)).OK} {init : σ}
    {body : Fin (passLoop (top (counts cw) h15)).trips → σ → Prog (TpuEff nD τ sig (Elt F) Λ c.2) σ}
    (hbody : ∀ k a (S : (⟨1, ![n]⟩ : Shape).Idx → A.M), Good (Ix := Ix) (Name := Name) (U := U) (Lvl := Lvl) defs 𝒱 c bd E R A acc (body k a) S
      (fun _ S' => S' = S + through g (cmpi .eq (counts cw) (broadcast L16 (Scf.iv 1#32 1#32 k)))))
    {Q : σ → ((⟨1, ![n]⟩ : Shape).Idx → A.M) → Prop} (hQ : ∀ a, Q a (S + ∑ l, g l)) :
    Good (Ix := Ix) (Name := Name) (U := U) (Lvl := Lvl) defs 𝒱 c bd E R A acc (Scf.Loop.for (passLoop (top (counts cw) h15)) hok init body) S Q := by
  have hb := top_bounds (counts cw) (counts_bounds cw) h15
  refine Good.for _ (fun k => through g (cmpi .eq (counts cw) (broadcast L16 (Scf.iv 1#32 1#32 k)))) hbody (fun a => ?_)
  rw [passes g (counts cw) _ hb.2.2 (fun x => (counts_bounds cw x).1) hb.1]
  exact hQ a

/-- The passes over one vector of edges add each of its edges. -/
theorem good_passes {R : sProp 𝕄} {σ : Type} {acc : Memref sig c.2.kind .vmem ⟨1, ![50048]⟩ .f32} {S : (⟨1, ![50048]⟩ : Shape).Idx → A.M} (tbl : Vec F ⟨1, ![50048]⟩ .f32) (rw cw : IVec L16 32) (ww : Vec F L16 .f32)
    {h15 : ∀ a, (![15] : Fin 1 → Nat) a < L16.size a} {hok : (passLoop (top (counts cw) h15)).OK} {init : σ}
    {body : Fin (passLoop (top (counts cw) h15)).trips → σ → Prog (TpuEff nD τ sig (Elt F) Λ c.2) σ}
    (hbody : ∀ k a (S : (⟨1, ![50048]⟩ : Shape).Idx → A.M), Good (Ix := Ix) (Name := Name) (U := U) (Lvl := Lvl) defs 𝒱 c bd E R A acc (body k a) S
      (fun _ S' => S' = S + pass A tbl rw cw ww (cmpi .eq (counts cw) (broadcast L16 (Scf.iv 1#32 1#32 k)))))
    {Q : σ → ((⟨1, ![50048]⟩ : Shape).Idx → A.M) → Prop} (hQ : ∀ a, Q a (S + lanes A tbl rw cw ww)) :
    Good (Ix := Ix) (Name := Name) (U := U) (Lvl := Lvl) defs 𝒱 c bd E R A acc (Scf.Loop.for (passLoop (top (counts cw) h15)) hok init body) S Q :=
  good_all cw _ hbody hQ

/-- The passes left over are none. -/
theorem good_rest {R : sProp 𝕄} {σ : Type} {cw : IVec L16 32}
    {h15 : ∀ a, (![15] : Fin 1 → Nat) a < L16.size a} {hok : (restLoop (top (counts cw) h15)).OK} {init : σ}
    {body : Fin (restLoop (top (counts cw) h15)).trips → σ → Prog (TpuEff nD τ sig (Elt F) Λ c.2) σ}
    {Q : σ → ((⟨1, ![n]⟩ : Shape).Idx → A.M) → Prop} (hQ : ∀ a, Q a S) :
    Good (Ix := Ix) (Name := Name) (U := U) (Lvl := Lvl) defs 𝒱 c bd E R A acc (Scf.Loop.for (restLoop (top (counts cw) h15)) hok init body) S Q := by
  have hb := top_bounds (counts cw) (counts_bounds cw) h15
  have h0 := restLoop_trips _ hb.2.2
  refine Good.for _ (fun _ => 0) (fun k => absurd (lt_of_lt_of_eq k.isLt h0) (Nat.not_lt_zero _)) (fun a => ?_)
  rw [Finset.sum_const_zero, add_zero]
  exact hQ a

end Rules

end Cert.Proof.Dup
-- ==== Proof.Edge.lean ====
module

public import proofs.«01_k».proof.Defs
public import proofs.«01_k».proof.Proof.Gen.KernelIdeal
public import proofs.«01_k».proof.Proof.Gen.KernelIdeal.Skeleton
public import proofs.«01_k».proof.Proof.Dup

@[expose] public section

noncomputable section

namespace Cert.Proof.Edge

open Idealize.ShloMosaic
open Idealize.SL Idealize.SL.RA Idealize.SL.BI
open Idealize.SL.BI.BIBase Idealize.SL.BI.Laws Idealize.SL.ProofMode Idealize.SL.Sem
open Cert.KernelIdeal Cert.KernelIdeal.Facts₀ Cert.KernelIdeal.Facts
open Cert.Proof.Account Cert.Proof.Dup

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-- The tile at grid point `i` of device `d`. -/
abbrev tile (d : Dev nD) (i : grid0.Coords) : Thread nD τ := (d, .scVector ((i 0).castLE hcore0) ((i 1).castLE hsub0))

section Trip
variable {defs : Defs nD τ sig (Elt F) Λ₀} {𝒱 : Variants} {bd : Option 𝒱.V} {E : Set Name} {A : Acct F} {d : Dev nD}
variable (i : grid0.Coords) (arg2 : Memref sig .scVector .hbm S200000 .f32) (harg2 : arg2.IsWhole) (arg3 : Memref sig .scVector .hbm S320000 .i32) (harg3 : arg3.IsWhole) (arg4 : Memref sig .scVector .hbm S320000 .i32) (harg4 : arg4.IsWhole) (arg5 : Memref sig .scVector .hbm S320000 .f32) (harg5 : arg5.IsWhole) (arg6 : Memref sig .scVector .hbm S1600000 .f32) (harg6 : arg6.IsWhole) (arg7 : Memref sig .scVector .vmem S50048 .f32) (harg7 : arg7.IsWhole) (arg8 : Memref sig .scVector .vmem S50048 .f32) (harg8 : arg8.IsWhole) (arg9 : Memref sig .scVector .vmem S4000 .i32) (harg9 : arg9.IsWhole) (arg10 : Memref sig .scVector .vmem S4000 .i32) (harg10 : arg10.IsWhole) (arg11 : Memref sig .scVector .vmem S4000 .f32) (harg11 : arg11.IsWhole) (arg12 : Memref sig .scVector .vmem S4000 .i32) (harg12 : arg12.IsWhole) (arg13 : Memref sig .scVector .vmem S4000 .i32) (harg13 : arg13.IsWhole) (arg14 : Memref sig .scVector .vmem S4000 .f32) (harg14 : arg14.IsWhole) (arg15 : DmaSems sig S_) (arg16 : DmaSems sig S_) (arg17 : DmaSems sig S_) (v58_r0 : DmaSems sig S_)

theorem top_range (v : IVec L16 32) (h : ∀ a, (![15] : Fin 1 → Nat) a < L16.size a) :
    1 ≤ (top (counts v) h).toNat ∧ (top (counts v) h).toNat ≤ 16 := (top_bounds (counts v) (counts_bounds v) h).2

set_option maxHeartbeats 40000000 in
/-- One trip of the first loop over a chunk adds the chunk's next eighty edges. -/
theorem trip_t3 {R : sProp 𝕄} (tbl : Vec F S50048 .f32) (rv cv : Vec F S4000 .i32) (wv : Vec F S4000 .f32)
    (hT : Lends (Ix := Ix) (Name := Name) (U := U) (Lvl := Lvl) R (tile d i) arg7 tbl)
    (hR : Lends (Ix := Ix) (Name := Name) (U := U) (Lvl := Lvl) R (tile d i) arg9 rv)
    (hC : Lends (Ix := Ix) (Name := Name) (U := U) (Lvl := Lvl) R (tile d i) arg10 cv)
    (hW : Lends (Ix := Ix) (Name := Name) (U := U) (Lvl := Lvl) R (tile d i) arg11 wv)
    (hr : ∀ x, (show BitVec 32 from rv x).toNat < 10000) (hc : ∀ x, (show BitVec 32 from cv x).toNat < 10000)
    (c0 c1 : BitVec 32) (k) (S : S50048.Idx → A.M) {Q : BitVec 32 → (S50048.Idx → A.M) → Prop}
    (hQ : ∀ v, Q v (S + ∑ l ∈ Finset.range 80, edgeAt A tbl rv cv wv (80 * k.val + l))) :
    Good (Ix := Ix) (Name := Name) (U := U) (Lvl := Lvl) defs 𝒱 (tile d i) bd E R A arg8
      (k0_part8 (F := F) i arg2 harg2 arg3 harg3 arg4 harg4 arg5 harg5 arg6 harg6 arg7 harg7 arg8 harg8 arg9 harg9 arg10 harg10 arg11 harg11 arg12 harg12 arg13 harg13 arg14 harg14 arg15 arg16 arg17 v58_r0 c0 c1 k) S Q := by
  delta k0_part8
  conv => arg 9; zeta
  repeat' (first
    | (with_reducible refine Good.dite ?_ ?_); focus (delta k0_cond1; exact some_pass _ _ _ _ _ (top_range _ _) (top_range _ _) (top_range _ _) (top_range _ _) (top_range _ _))
    | with_reducible apply Good.bind
    | with_reducible refine Good.loadBelow hR hr (fun _ _ _ => ?_)
    | with_reducible refine Good.loadBelow hC hc (fun _ _ _ => ?_)
    | with_reducible refine Good.loadNamed hW (fun _ _ => ?_)
    | with_reducible refine Good.loadIdx hT ?_
    | with_reducible refine good_first ?_
    | with_reducible refine Good.storeIdx ?_
    | (with_reducible refine Good.assume ?_ ?_); focus (first
        | exact idx_ok _ (by assumption) _ (by decide)
        | exact fun _ => idx_ok _ (by assumption) _ (by decide)
        | exact And.intro (fun _ => passLoop_ok _ (top_range _ _).2) (fun _ => restLoop_ok _ (top_range _ _).2))
    | (with_reducible apply good_passes tbl) <;> with_reducible intros
    | with_reducible refine good_rest (fun _ => ?_)
    | with_reducible refine Good.pure ?_
    | exact five_deposits _ _ _ _ _ _ (by assumption) (by assumption) _ _ _ _ _ _
    | (delta k0_part2; conv => arg 9; zeta)
    | (delta k0_part3; conv => arg 9; zeta)
    | (delta k0_part4; conv => arg 9; zeta)
    | (delta k0_part5; conv => arg 9; zeta)
    | (delta k0_part6; conv => arg 9; zeta)
    | (delta k0_part7; conv => arg 9; zeta)
    | (delta k0_part1; conv => arg 9; zeta))
  subst_vars
  exact cast (congrArg (Q _) (five_lanes A tbl _ _ _ (80 * k.val) (Gen.k0_off5_eq k 0) (Gen.k0_off5_eq k 1) (Gen.k0_off5_eq k 2) (Gen.k0_off5_eq k 3) (Gen.k0_off5_eq k 4)
    _ _ _ _ _ S).symm) (hQ _)

set_option maxHeartbeats 40000000 in
/-- One trip of the second loop over a chunk adds the chunk's next eighty edges. -/
theorem trip_t14 {R : sProp 𝕄} (tbl : Vec F S50048 .f32) (rv cv : Vec F S4000 .i32) (wv : Vec F S4000 .f32)
    (hT : Lends (Ix := Ix) (Name := Name) (U := U) (Lvl := Lvl) R (tile d i) arg7 tbl)
    (hR : Lends (Ix := Ix) (Name := Name) (U := U) (Lvl := Lvl) R (tile d i) arg12 rv)
    (hC : Lends (Ix := Ix) (Name := Name) (U := U) (Lvl := Lvl) R (tile d i) arg13 cv)
    (hW : Lends (Ix := Ix) (Name := Name) (U := U) (Lvl := Lvl) R (tile d i) arg14 wv)
    (hr : ∀ x, (show BitVec 32 from rv x).toNat < 10000) (hc : ∀ x, (show BitVec 32 from cv x).toNat < 10000)
    (c0 c1 : BitVec 32) (k) (S : S50048.Idx → A.M) {Q : BitVec 32 → (S50048.Idx → A.M) → Prop}
    (hQ : ∀ v, Q v (S + ∑ l ∈ Finset.range 80, edgeAt A tbl rv cv wv (80 * k.val + l))) :
    Good (Ix := Ix) (Name := Name) (U := U) (Lvl := Lvl) defs 𝒱 (tile d i) bd E R A arg8
      (k0_part16 (F := F) i arg2 harg2 arg3 harg3 arg4 harg4 arg5 harg5 arg6 harg6 arg7 harg7 arg8 harg8 arg9 harg9 arg10 harg10 arg11 harg11 arg12 harg12 arg13 harg13 arg14 harg14 arg15 arg16 arg17 v58_r0 c0 c1 k) S Q := by
  delta k0_part16
  conv => arg 9; zeta
  repeat' (first
    | (with_reducible refine Good.dite ?_ ?_); focus (delta k0_cond2; exact some_pass _ _ _ _ _ (top_range _ _) (top_range _ _) (top_range _ _) (top_range _ _) (top_range _ _))
    | with_reducible apply Good.bind
    | with_reducible refine Good.loadBelow hR hr (fun _ _ _ => ?_)
    | with_reducible refine Good.loadBelow hC hc (fun _ _ _ => ?_)
    | with_reducible refine Good.loadNamed hW (fun _ _ => ?_)
    | with_reducible refine Good.loadIdx hT ?_
    | with_reducible refine good_first ?_
    | with_reducible refine Good.storeIdx ?_
    | (with_reducible refine Good.assume ?_ ?_); focus (first
        | exact idx_ok _ (by assumption) _ (by decide)
        | exact fun _ => idx_ok _ (by assumption) _ (by decide)
        | exact And.intro (fun _ => passLoop_ok _ (top_range _ _).2) (fun _ => restLoop_ok _ (top_range _ _).2))
    | (with_reducible apply good_passes tbl) <;> with_reducible intros
    | with_reducible refine good_rest (fun _ => ?_)
    | with_reducible refine Good.pure ?_
    | exact five_deposits _ _ _ _ _ _ (by assumption) (by assumption) _ _ _ _ _ _
    | (delta k0_part10; conv => arg 9; zeta)
    | (delta k0_part11; conv => arg 9; zeta)
    | (delta k0_part12; conv => arg 9; zeta)
    | (delta k0_part13; conv => arg 9; zeta)
    | (delta k0_part14; conv => arg 9; zeta)
    | (delta k0_part15; conv => arg 9; zeta)
    | (delta k0_part9; conv => arg 9; zeta))
  subst_vars
  exact cast (congrArg (Q _) (five_lanes A tbl _ _ _ (80 * k.val) (Gen.k0_off7_eq k 0) (Gen.k0_off7_eq k 1) (Gen.k0_off7_eq k 2) (Gen.k0_off7_eq k 3) (Gen.k0_off7_eq k 4)
    _ _ _ _ _ S).symm) (hQ _)

end Trip

end Cert.Proof.Edge
-- ==== Proof.Moves.lean ====
/-
  Copies into a tile's memory, by what the buffers read: one copy alone on its semaphore, and two or three copies
  on one semaphore that are waited for together (a stretch of the edge list: columns and weights, or rows, columns
  and weights). Then a buffer written by rectangles, and an accumulator zeroed.
-/
module

public import proofs.«01_k».proof.Proof.Account
public import Idealize.ShloMosaic.Lib.Batch

@[expose] public section

noncomputable section

namespace Cert.Proof.Moves

open Idealize.ShloMosaic Idealize.ShloMosaic.Transfers
open Idealize.SL Idealize.SL.RA Idealize.SL.BI
open scoped Idealize.SL.BI
open Idealize.SL.BI.BIBase Idealize.SL.BI.Laws Idealize.SL.ProofMode Idealize.SL.Sem
open Cert.Proof.Account

variable {F : FTy → Type} [FloatOps F]
variable {nD : Nat} {τ : Topo} {sig : RefSig} {Ix : Type} [DecidableEq Ix]
variable {Name : Type} [DecidableEq Name] [Infinite Name]
variable {U : Type} [URA U] {Lvl : Type} [Preorder Lvl] {Λ : Labels}

local notation "𝕄" => MT nD τ sig Ix (Elt F) Name U Lvl

variable {defs : Defs nD τ sig (Elt F) Λ} {𝒱 : Variants} {c : Thread nD τ} {bd : Option 𝒱.V}

/-- A share of a memref's elements at contents `f`. -/
abbrev Lent (c : Thread nD τ) {sp : Space} {s : Shape} {e : EltTy} (m : Memref sig c.2.kind sp s e) (q : PosShare TreeShare)
    (f : Buf (Elt F) (m.view.loc c)) : sProp 𝕄 :=
  (m.view.loc c ↦[m.view.set]{q} f)

/-- A rectangle of a memref is lent out of the memref, which comes back with it. -/
theorem lend_slice {sp : Space} {s : Shape} {e : EltTy} {m : Memref sig c.2.kind sp s e} {q : PosShare TreeShare}
    {f : Buf (Elt F) (m.view.loc c)} (r : Rect s) (h : ∀ a, r.stride a = 1) :
    Lent (Ix := Ix) (Name := Name) (U := U) (Lvl := Lvl) c m q f
      ⊢ iprop(Lent c (m.slice r h) q f ∗ (Lent c (m.slice r h) q f -∗ Lent c m q f)) := by
  have hs : (m.slice r h).view.set ⊆ m.view.set := by
    show (m.view.slice r).set ⊆ _
    rw [View.set_slice]
    exact Finset.map_subset_map.mpr (Finset.subset_univ _)
  unfold Lent
  iintro H
  ihave H' := (pointsTo_split_subset (ℓ := m.view.loc c) (q := q) (f := f) hs).1 $$ H
  icases H' with ⟨Hi, Hr⟩
  isplitl [Hi]
  · iexact Hi
  · iintro Hi
    iapply (pointsTo_split_subset (ℓ := m.view.loc c) (q := q) (f := f) hs).2
    isplitl [Hi]
    · iexact Hi
    · iexact Hr

/-- What a copy of `src` into `dst` delivers: `dst` reading what `src` reads, and `src` back. -/
def Landed (c : Thread nD τ) {sp sp' : Space} {s : Shape} {e : EltTy} (src : Memref sig c.2.kind sp s e)
    (dst : Memref sig c.2.kind sp' s e) (q : PosShare TreeShare) (f : Buf (Elt F) (src.view.loc c)) : sProp 𝕄 :=
  iprop(Held c dst fullShare (src.view.read (Elt F) f) ∗ Lent c src q f)

instance Landed_storable {sp sp' : Space} {s : Shape} {e : EltTy} (src : Memref sig c.2.kind sp s e)
    (dst : Memref sig c.2.kind sp' s e) (q : PosShare TreeShare) (f : Buf (Elt F) (src.view.loc c)) :
    Storable (upEmb : UEmb _ 𝕄) (Landed (Ix := Ix) (Name := Name) (U := U) (Lvl := Lvl) c src dst q f) := by
  unfold Landed Held Lent; infer_instance

variable (EC : UEmb Counters (MT nD τ sig Ix (Elt F) Name U Lvl)) (ι : Ix)

section Steps
variable {α : Type} {Q : α → sProp (MT nD τ sig Ix (Elt F) Name U Lvl)} {n N : ℕ}

/-- One copy of a batch is started. -/
theorem start [EC.LandsIn (upEmb : UEmb _ (MT nD τ sig Ix (Elt F) Name U Lvl))] {sp sp' : Space} {s : Shape} {e : EltTy} {src : Memref sig c.2.kind sp s e} {dst : Memref sig c.2.kind sp' s e}
    {sem : DmaSem sig} {hsrc : src.view.WordExact} {hdst : dst.view.WordExact} {hsem}
    {k : PUnit → Prog (TpuEff nD τ sig (Elt F) Λ c.2) α} {q : PosShare TreeShare} {f : Buf (Elt F) (src.view.loc c)}
    {x : s.Idx → Elt F e} {D : Fin n → sProp 𝕄} {j : ℕ} (hN : dst.view.dmaCredit = N) (hj : j < n)
    (hD : Landed (Ix := Ix) (Name := Name) (U := U) (Lvl := Lvl) c src dst q f ⊢ D ⟨j, hj⟩) :
    iprop(Lent c src q f ∗ Held c dst fullShare x ∗ Batch EC c (.dma sem) ι N D j 0)
      ⊢ iprop((Batch EC c (.dma sem) ι N D (j + 1) 0 -∗ wp frame (wpE defs 𝒱 c bd) Set.univ (k ⟨⟩) Q)
          -∗ wp frame (wpE defs 𝒱 c bd) Set.univ (Prog.lift (.enqueueDma src (.here dst) (.dma sem) hsrc hdst hsem) >>= k) Q) := by
  unfold Held Lent
  iintro ⟨Hs, ⟨%g, %hg, Hd⟩, HB⟩ Hk
  iapply (wp_dmaBatch EC 𝒱 c bd (src := src) (dst := dst) (Sd := dst.view.set) (q := q) (fs := f) (fd := g) (D := D) (j := j) (u := 0) ι N (show dst.view.amount (.dma sem) = N from hN)
    (Finset.Subset.refl _) hj (Nat.zero_le _) (BIBase.Entails.trans (by
      unfold Landed Held Lent
      iintro ⟨Hd, Hs⟩
      isplitl [Hd]
      · iexists _
        isplitr [Hd]
        swap
        · iexact Hd
        · ipureintro; exact View.read_write_univ ..
      · iexact Hs) hD)) $$ [Hs Hd HB]
  · isplitl [Hs]; · iexact Hs
    isplitl [Hd]; · iexact Hd
    iexact HB
  · iintro HB
    iapply Hk
    iexact HB

/-- The three copies that bring a chunk, started on one semaphore. -/
def Chunk (c : Thread nD τ) {sp sp' : Space} {s : Shape} {e₁ e₂ e₃ : EltTy} (s₁ : Memref sig c.2.kind sp s e₁) (s₂ : Memref sig c.2.kind sp s e₂) (s₃ : Memref sig c.2.kind sp s e₃)
    (d₁ : Memref sig c.2.kind sp' s e₁) (d₂ : Memref sig c.2.kind sp' s e₂) (d₃ : Memref sig c.2.kind sp' s e₃)
    (q : PosShare TreeShare) (f₁ : Buf (Elt F) (s₁.view.loc c)) (f₂ : Buf (Elt F) (s₂.view.loc c)) (f₃ : Buf (Elt F) (s₃.view.loc c)) : Fin 3 → sProp 𝕄
  | 0 => Landed c s₁ d₁ q f₁
  | 1 => Landed c s₂ d₂ q f₂
  | 2 => Landed c s₃ d₃ q f₃

variable {sp sp' : Space} {s : Shape} {e₁ e₂ e₃ : EltTy} {s₁ : Memref sig c.2.kind sp s e₁} {s₂ : Memref sig c.2.kind sp s e₂} {s₃ : Memref sig c.2.kind sp s e₃}
    {d₁ : Memref sig c.2.kind sp' s e₁} {d₂ : Memref sig c.2.kind sp' s e₂} {d₃ : Memref sig c.2.kind sp' s e₃}
    {q : PosShare TreeShare} {f₁ : Buf (Elt F) (s₁.view.loc c)} {f₂ : Buf (Elt F) (s₂.view.loc c)} {f₃ : Buf (Elt F) (s₃.view.loc c)}

instance Chunk_storable (t : Fin 3) : Storable (upEmb : UEmb _ 𝕄) (Chunk (Ix := Ix) (Name := Name) (U := U) (Lvl := Lvl) c s₁ s₂ s₃ d₁ d₂ d₃ q f₁ f₂ f₃ t) := by
  match t with
  | 0 => exact Landed_storable _ _ _ _
  | 1 => exact Landed_storable _ _ _ _
  | 2 => exact Landed_storable _ _ _ _

/-- A chunk's three copies are started. -/
theorem start_chunk [EC.LandsIn (upEmb : UEmb _ (MT nD τ sig Ix (Elt F) Name U Lvl))] {sem : DmaSem sig} {w₁ w₂ w₃ w₄ w₅ w₆ w₇ w₈ w₉}
    {k : Prog (TpuEff nD τ sig (Elt F) Λ c.2) α} {x₁ : s.Idx → Elt F e₁} {x₂ : s.Idx → Elt F e₂} {x₃ : s.Idx → Elt F e₃}
    (h₁ : d₁.view.dmaCredit = N) (h₂ : d₂.view.dmaCredit = N) (h₃ : d₃.view.dmaCredit = N) :
    iprop((Lent c s₁ q f₁ ∗ Lent c s₂ q f₂ ∗ Lent c s₃ q f₃) ∗ (Held c d₁ fullShare x₁ ∗ Held c d₂ fullShare x₂ ∗ Held c d₃ fullShare x₃)
        ∗ semVal (c, .dma sem) 0)
      ⊢ iprop((Batch EC c (.dma sem) ι N (Chunk c s₁ s₂ s₃ d₁ d₂ d₃ q f₁ f₂ f₃) 3 0 -∗ wp frame (wpE defs 𝒱 c bd) Set.univ k Q)
          -∗ wp frame (wpE defs 𝒱 c bd) Set.univ (Prog.lift (.enqueueDma s₁ (.here d₁) (.dma sem) w₁ w₂ w₃) >>= fun _ =>
              Prog.lift (.enqueueDma s₂ (.here d₂) (.dma sem) w₄ w₅ w₆) >>= fun _ =>
              Prog.lift (.enqueueDma s₃ (.here d₃) (.dma sem) w₇ w₈ w₉) >>= fun _ => k) Q) := by
  iintro ⟨⟨Hs1, Hs2, Hs3⟩, ⟨Hd1, Hd2, Hd3⟩, Hv⟩ Hk
  imod (batch_alloc' EC c (sm := .dma sem) ι N (Chunk c s₁ s₂ s₃ d₁ d₂ d₃ q f₁ f₂ f₃)) $$ Hv with HB
  iapply (start EC ι (N := N) (D := Chunk c s₁ s₂ s₃ d₁ d₂ d₃ q f₁ f₂ f₃) (j := 0) h₁ (by decide) (Entails.refl _)) $$ [Hs1 Hd1 HB]
  · isplitl [Hs1]; · iexact Hs1
    isplitl [Hd1]; · iexact Hd1
    iexact HB
  iintro HB
  iapply (start EC ι (N := N) (D := Chunk c s₁ s₂ s₃ d₁ d₂ d₃ q f₁ f₂ f₃) (j := 1) h₂ (by decide) (Entails.refl _)) $$ [Hs2 Hd2 HB]
  · isplitl [Hs2]; · iexact Hs2
    isplitl [Hd2]; · iexact Hd2
    iexact HB
  iintro HB
  iapply (start EC ι (N := N) (D := Chunk c s₁ s₂ s₃ d₁ d₂ d₃ q f₁ f₂ f₃) (j := 2) h₃ (by decide) (Entails.refl _)) $$ [Hs3 Hd3 HB]
  · isplitl [Hs3]; · iexact Hs3
    isplitl [Hd3]; · iexact Hd3
    iexact HB
  iintro HB
  iapply Hk
  iexact HB

/-- What a core owes, and the waits it has made: all of them at `ι`, besides those before. -/
def Owed (c : Thread nD τ) (ι : Ix) (O : CellTallies nD τ sig Ix) (W : Waits sig Ix) : sProp 𝕄 :=
  iprop(∃ W', ⌜∀ p ∈ W', p ∈ W ∨ p.2 = ι⌝ ∗ owes c O W')

variable {O : CellTallies nD τ sig Ix} {W : Waits sig Ix}

/-- A chunk's three copies are waited for. -/
theorem wait_chunk [EC.LandsIn (upEmb : UEmb _ (MT nD τ sig Ix (Elt F) Name U Lvl))] {sem : DmaSem sig} {t₁ t₂ t₃ : Shape} {g₁ g₂ g₃ : EltTy} {a₁ : Memref sig c.2.kind sp t₁ g₁} {a₂ : Memref sig c.2.kind sp t₂ g₂} {a₃ : Memref sig c.2.kind sp t₃ g₃} {w₁ w₂ w₃ w₄ w₅ w₆}
    {k : Prog (TpuEff nD τ sig (Elt F) Λ c.2) α}
    (h₁ : d₁.view.dmaCredit = N) (h₂ : d₂.view.dmaCredit = N) (h₃ : d₃.view.dmaCredit = N) (hN : 0 < N) :
    iprop(MayWaits c ι O ∗ Batch EC c (.dma sem) ι N (Chunk c s₁ s₂ s₃ d₁ d₂ d₃ q f₁ f₂ f₃) 3 0 ∗ Owed c ι O W)
      ⊢ iprop((iprop((Held c d₁ fullShare (s₁.view.read (Elt F) f₁) ∗ Held c d₂ fullShare (s₂.view.read (Elt F) f₂) ∗ Held c d₃ fullShare (s₃.view.read (Elt F) f₃))
              ∗ (Lent c s₁ q f₁ ∗ Lent c s₂ q f₂ ∗ Lent c s₃ q f₃) ∗ semVal (c, .dma sem) 0 ∗ Owed c ι O W) -∗ wp frame (wpE defs 𝒱 c bd) Set.univ k Q)
          -∗ wp frame (wpE defs 𝒱 c bd) Set.univ (Prog.lift (.waitDma2 sem a₁ d₁ w₁ w₂) >>= fun _ =>
              Prog.lift (.waitDma2 sem a₂ d₂ w₃ w₄) >>= fun _ =>
              Prog.lift (.waitDma2 sem a₃ d₃ w₅ w₆) >>= fun _ => k) Q) := by
  iintro ⟨#Hm, HB, HO⟩ Hk
  unfold Owed
  icases HO with ⟨%W', %hW, HO⟩
  ihave #Hmw := (MayWaits.elim (c := c) (ι := ι) (O := O) (.dma sem)) $$ Hm
  iapply (wp_waitBatchO EC 𝒱 c bd (n := 3) (srcw := a₁) (dstw := d₁) (hsrc := w₁) (hdst := w₂) ι h₁ (D := Chunk c s₁ s₂ s₃ d₁ d₂ d₃ q f₁ f₂ f₃) (u := 0) (by omega)) $$ [HB HO]
  · isplitl [HB]; · iexact HB
    isplitl [HO]; · iexact HO
    iexact Hmw
  iintro ⟨HB, HO⟩
  iapply (wp_waitBatchO EC 𝒱 c bd (n := 3) (srcw := a₂) (dstw := d₂) (hsrc := w₃) (hdst := w₄) ι h₂ (D := Chunk c s₁ s₂ s₃ d₁ d₂ d₃ q f₁ f₂ f₃) (u := 0 + N) (by omega)) $$ [HB HO]
  · isplitl [HB]; · iexact HB
    isplitl [HO]; · iexact HO
    iexact Hmw
  iintro ⟨HB, HO⟩
  iapply (wp_waitBatchLastO EC 𝒱 c bd (n := 3) (srcw := a₃) (dstw := d₃) (hsrc := w₅) (hdst := w₆) ι h₃ hN (D := Chunk c s₁ s₂ s₃ d₁ d₂ d₃ q f₁ f₂ f₃) (u := 0 + N + N) (by omega)) $$ [HB HO]
  · isplitl [HB]; · iexact HB
    isplitl [HO]; · iexact HO
    iexact Hmw
  iintro ⟨HD, Hv, HO⟩
  iapply Hk
  have hsplit : bigSep Finset.univ (Chunk (Ix := Ix) (Name := Name) (U := U) (Lvl := Lvl) c s₁ s₂ s₃ d₁ d₂ d₃ q f₁ f₂ f₃)
      ⊢ iprop(Landed c s₁ d₁ q f₁ ∗ Landed c s₂ d₂ q f₂ ∗ Landed c s₃ d₃ q f₃) := by
    rw [show (Finset.univ : Finset (Fin 3)) = insert 0 (insert 1 {2}) by decide, bigSep_insert (by decide), bigSep_insert (by decide), bigSep_singleton]
    exact Entails.refl _
  ihave HD' := hsplit $$ HD
  unfold Landed
  icases HD' with ⟨⟨Hd1, Hs1⟩, ⟨Hd2, Hs2⟩, ⟨Hd3, Hs3⟩⟩
  isplitl [Hd1 Hd2 Hd3]
  · isplitl [Hd1]; · iexact Hd1
    isplitl [Hd2]; · iexact Hd2
    iexact Hd3
  isplitl [Hs1 Hs2 Hs3]
  · isplitl [Hs1]; · iexact Hs1
    isplitl [Hs2]; · iexact Hs2
    iexact Hs3
  isplitl [Hv]; · iexact Hv
  iexists _
  isplitr [HO]
  swap
  · iexact HO
  · ipureintro
    intro p hp
    simp only [Set.mem_insert_iff, Finset.mem_insert] at hp
    rcases hp with rfl | rfl | rfl | hp
    · exact .inr rfl
    · exact .inr rfl
    · exact .inr rfl
    · exact hW p hp

/-- Two copies started on one semaphore. -/
def Pair (c : Thread nD τ) {sp sp' : Space} {s : Shape} {e₁ e₂ : EltTy} (s₁ : Memref sig c.2.kind sp s e₁) (s₂ : Memref sig c.2.kind sp s e₂)
    (d₁ : Memref sig c.2.kind sp' s e₁) (d₂ : Memref sig c.2.kind sp' s e₂)
    (q : PosShare TreeShare) (f₁ : Buf (Elt F) (s₁.view.loc c)) (f₂ : Buf (Elt F) (s₂.view.loc c)) : Fin 2 → sProp 𝕄
  | 0 => Landed c s₁ d₁ q f₁
  | 1 => Landed c s₂ d₂ q f₂

instance Pair_storable (t : Fin 2) : Storable (upEmb : UEmb _ 𝕄) (Pair (Ix := Ix) (Name := Name) (U := U) (Lvl := Lvl) c s₁ s₂ d₁ d₂ q f₁ f₂ t) := by
  match t with
  | 0 => exact Landed_storable _ _ _ _
  | 1 => exact Landed_storable _ _ _ _

/-- Two copies are started. -/
theorem start_pair [EC.LandsIn (upEmb : UEmb _ (MT nD τ sig Ix (Elt F) Name U Lvl))] {sem : DmaSem sig} {w₁ w₂ w₃ w₄ w₅ w₆}
    {k : Prog (TpuEff nD τ sig (Elt F) Λ c.2) α} {x₁ : s.Idx → Elt F e₁} {x₂ : s.Idx → Elt F e₂}
    (h₁ : d₁.view.dmaCredit = N) (h₂ : d₂.view.dmaCredit = N) :
    iprop((Lent c s₁ q f₁ ∗ Lent c s₂ q f₂) ∗ (Held c d₁ fullShare x₁ ∗ Held c d₂ fullShare x₂) ∗ semVal (c, .dma sem) 0)
      ⊢ iprop((Batch EC c (.dma sem) ι N (Pair c s₁ s₂ d₁ d₂ q f₁ f₂) 2 0 -∗ wp frame (wpE defs 𝒱 c bd) Set.univ k Q)
          -∗ wp frame (wpE defs 𝒱 c bd) Set.univ (Prog.lift (.enqueueDma s₁ (.here d₁) (.dma sem) w₁ w₂ w₃) >>= fun _ =>
              Prog.lift (.enqueueDma s₂ (.here d₂) (.dma sem) w₄ w₅ w₆) >>= fun _ => k) Q) := by
  iintro ⟨⟨Hs1, Hs2⟩, ⟨Hd1, Hd2⟩, Hv⟩ Hk
  imod (batch_alloc' EC c (sm := .dma sem) ι N (Pair c s₁ s₂ d₁ d₂ q f₁ f₂)) $$ Hv with HB
  iapply (start EC ι (N := N) (D := Pair c s₁ s₂ d₁ d₂ q f₁ f₂) (j := 0) h₁ (by decide) (Entails.refl _)) $$ [Hs1 Hd1 HB]
  · isplitl [Hs1]; · iexact Hs1
    isplitl [Hd1]; · iexact Hd1
    iexact HB
  iintro HB
  iapply (start EC ι (N := N) (D := Pair c s₁ s₂ d₁ d₂ q f₁ f₂) (j := 1) h₂ (by decide) (Entails.refl _)) $$ [Hs2 Hd2 HB]
  · isplitl [Hs2]; · iexact Hs2
    isplitl [Hd2]; · iexact Hd2
    iexact HB
  iintro HB
  iapply Hk
  iexact HB

/-- Two copies are waited for. -/
theorem wait_pair [EC.LandsIn (upEmb : UEmb _ (MT nD τ sig Ix (Elt F) Name U Lvl))] {sem : DmaSem sig} {t₁ t₂ : Shape} {g₁ g₂ : EltTy} {a₁ : Memref sig c.2.kind sp t₁ g₁} {a₂ : Memref sig c.2.kind sp t₂ g₂} {w₁ w₂ w₃ w₄}
    {k : Prog (TpuEff nD τ sig (Elt F) Λ c.2) α} (h₁ : d₁.view.dmaCredit = N) (h₂ : d₂.view.dmaCredit = N) (hN : 0 < N) :
    iprop(MayWaits c ι O ∗ Batch EC c (.dma sem) ι N (Pair c s₁ s₂ d₁ d₂ q f₁ f₂) 2 0 ∗ Owed c ι O W)
      ⊢ iprop((iprop((Held c d₁ fullShare (s₁.view.read (Elt F) f₁) ∗ Held c d₂ fullShare (s₂.view.read (Elt F) f₂))
              ∗ (Lent c s₁ q f₁ ∗ Lent c s₂ q f₂) ∗ semVal (c, .dma sem) 0 ∗ Owed c ι O W) -∗ wp frame (wpE defs 𝒱 c bd) Set.univ k Q)
          -∗ wp frame (wpE defs 𝒱 c bd) Set.univ (Prog.lift (.waitDma2 sem a₁ d₁ w₁ w₂) >>= fun _ =>
              Prog.lift (.waitDma2 sem a₂ d₂ w₃ w₄) >>= fun _ => k) Q) := by
  iintro ⟨#Hm, HB, HO⟩ Hk
  unfold Owed
  icases HO with ⟨%W', %hW, HO⟩
  ihave #Hmw := (MayWaits.elim (c := c) (ι := ι) (O := O) (.dma sem)) $$ Hm
  iapply (wp_waitBatchO EC 𝒱 c bd (n := 2) (srcw := a₁) (dstw := d₁) (hsrc := w₁) (hdst := w₂) ι h₁ (D := Pair c s₁ s₂ d₁ d₂ q f₁ f₂) (u := 0) (by omega)) $$ [HB HO]
  · isplitl [HB]; · iexact HB
    isplitl [HO]; · iexact HO
    iexact Hmw
  iintro ⟨HB, HO⟩
  iapply (wp_waitBatchLastO EC 𝒱 c bd (n := 2) (srcw := a₂) (dstw := d₂) (hsrc := w₃) (hdst := w₄) ι h₂ hN (D := Pair c s₁ s₂ d₁ d₂ q f₁ f₂) (u := 0 + N) (by omega)) $$ [HB HO]
  · isplitl [HB]; · iexact HB
    isplitl [HO]; · iexact HO
    iexact Hmw
  iintro ⟨HD, Hv, HO⟩
  iapply Hk
  have hsplit : bigSep Finset.univ (Pair (Ix := Ix) (Name := Name) (U := U) (Lvl := Lvl) c s₁ s₂ d₁ d₂ q f₁ f₂)
      ⊢ iprop(Landed c s₁ d₁ q f₁ ∗ Landed c s₂ d₂ q f₂) := by
    rw [show (Finset.univ : Finset (Fin 2)) = insert 0 {1} by decide, bigSep_insert (by decide), bigSep_singleton]
    exact Entails.refl _
  ihave HD' := hsplit $$ HD
  unfold Landed
  icases HD' with ⟨⟨Hd1, Hs1⟩, ⟨Hd2, Hs2⟩⟩
  isplitl [Hd1 Hd2]
  · isplitl [Hd1]; · iexact Hd1
    iexact Hd2
  isplitl [Hs1 Hs2]
  · isplitl [Hs1]; · iexact Hs1
    iexact Hs2
  isplitl [Hv]; · iexact Hv
  iexists _
  isplitr [HO]
  swap
  · iexact HO
  · ipureintro
    intro p hp
    simp only [Set.mem_insert_iff, Finset.mem_insert] at hp
    rcases hp with rfl | rfl | hp
    · exact .inr rfl
    · exact .inr rfl
    · exact hW p hp

/-- One copy alone on its semaphore is started. -/
theorem start_one [EC.LandsIn (upEmb : UEmb _ (MT nD τ sig Ix (Elt F) Name U Lvl))] {e : EltTy} {src : Memref sig c.2.kind sp s e} {dst : Memref sig c.2.kind sp' s e} {sem : DmaSem sig} {w₁ w₂ w₃}
    {k : PUnit → Prog (TpuEff nD τ sig (Elt F) Λ c.2) α} {f : Buf (Elt F) (src.view.loc c)} {x : s.Idx → Elt F e} :
    iprop(Lent c src q f ∗ Held c dst fullShare x ∗ semVal (c, .dma sem) 0)
      ⊢ iprop((Batch EC c (.dma sem) ι dst.view.dmaCredit (fun _ : Fin 1 => Landed c src dst q f) 1 0 -∗ wp frame (wpE defs 𝒱 c bd) Set.univ (k ⟨⟩) Q)
          -∗ wp frame (wpE defs 𝒱 c bd) Set.univ (Prog.lift (.enqueueDma src (.here dst) (.dma sem) w₁ w₂ w₃) >>= k) Q) := by
  iintro ⟨Hs, Hd, Hv⟩ Hk
  imod (batch_alloc' EC c (sm := .dma sem) ι dst.view.dmaCredit (fun _ : Fin 1 => Landed c src dst q f)) $$ Hv with HB
  iapply (start EC ι (N := dst.view.dmaCredit) (D := fun _ : Fin 1 => Landed c src dst q f) (j := 0) rfl (by decide) (Entails.refl _)) $$ [Hs Hd HB]
  · isplitl [Hs]; · iexact Hs
    isplitl [Hd]; · iexact Hd
    iexact HB
  iintro HB
  iapply Hk
  iexact HB

/-- One copy alone on its semaphore is waited for. -/
theorem wait_one [EC.LandsIn (upEmb : UEmb _ (MT nD τ sig Ix (Elt F) Name U Lvl))] {e : EltTy} {src : Memref sig c.2.kind sp s e} {dst : Memref sig c.2.kind sp' s e} {sem : DmaSem sig}
    {t : Shape} {g : EltTy} {a : Memref sig c.2.kind sp t g} {w₁ w₂}
    {k : PUnit → Prog (TpuEff nD τ sig (Elt F) Λ c.2) α} {f : Buf (Elt F) (src.view.loc c)} (hN : 0 < dst.view.dmaCredit) :
    iprop(MayWaits c ι O ∗ Batch EC c (.dma sem) ι dst.view.dmaCredit (fun _ : Fin 1 => Landed c src dst q f) 1 0 ∗ Owed c ι O W)
      ⊢ iprop((iprop(Held c dst fullShare (src.view.read (Elt F) f) ∗ Lent c src q f ∗ semVal (c, .dma sem) 0 ∗ Owed c ι O W) -∗ wp frame (wpE defs 𝒱 c bd) Set.univ (k ⟨⟩) Q)
          -∗ wp frame (wpE defs 𝒱 c bd) Set.univ (Prog.lift (.waitDma2 sem a dst w₁ w₂) >>= k) Q) := by
  iintro ⟨#Hm, HB, HO⟩ Hk
  unfold Owed
  icases HO with ⟨%W', %hW, HO⟩
  ihave #Hmw := (MayWaits.elim (c := c) (ι := ι) (O := O) (.dma sem)) $$ Hm
  iapply (wp_waitBatchLastO EC 𝒱 c bd (n := 1) (srcw := a) (dstw := dst) (hsrc := w₁) (hdst := w₂) ι rfl hN (D := fun _ : Fin 1 => Landed c src dst q f) (u := 0) (by omega)) $$ [HB HO]
  · isplitl [HB]; · iexact HB
    isplitl [HO]; · iexact HO
    iexact Hmw
  iintro ⟨HD, Hv, HO⟩
  iapply Hk
  have hone : bigSep Finset.univ (fun _ : Fin 1 => Landed (Ix := Ix) (Name := Name) (U := U) (Lvl := Lvl) c src dst q f) ⊢ Landed c src dst q f := by
    rw [show (Finset.univ : Finset (Fin 1)) = {0} by decide, bigSep_singleton]
  ihave HD' := hone $$ HD
  unfold Landed
  icases HD' with ⟨Hd, Hs⟩
  isplitl [Hd]; · iexact Hd
  isplitl [Hs]; · iexact Hs
  isplitl [Hv]; · iexact Hv
  iexists _
  isplitr [HO]
  swap
  · iexact HO
  · ipureintro
    intro p hp
    simp only [Set.mem_insert_iff, Finset.mem_insert] at hp
    rcases hp with rfl | hp
    · exact .inr rfl
    · exact hW p hp

end Steps

/-! ## Buffers -/

section Buffers

/-- All of a memref's elements, reading anything. -/
def Free (c : Thread nD τ) {sp : Space} {s : Shape} {e : EltTy} (m : Memref sig c.2.kind sp s e) : sProp 𝕄 :=
  iprop(∃ x, Held c m fullShare x)

theorem Free.of {sp : Space} {s : Shape} {e : EltTy} {m : Memref sig c.2.kind sp s e} {x : s.Idx → Elt F e} :
    Held (Ix := Ix) (Name := Name) (U := U) (Lvl := Lvl) c m fullShare x ⊢ Free c m := by
  unfold Free
  iintro H
  iexists x
  iexact H

/-- A rectangle of a held buffer can be written whole: the buffer then reads there what was written. -/
theorem open_slice {sp : Space} {s : Shape} {e : EltTy} {m : Memref sig c.2.kind sp s e} {x : s.Idx → Elt F e} (r : Rect s) (h : ∀ a, r.stride a = 1) :
    Held (Ix := Ix) (Name := Name) (U := U) (Lvl := Lvl) c m fullShare x
      ⊢ iprop((∃ y, Held c (m.slice r h) fullShare y)
        ∗ (∀ z, Held c (m.slice r h) fullShare z -∗ ∃ x', ⌜∀ j, x' (r.emb j) = z j⌝ ∗ Held c m fullShare x')) := by
  have hs : (m.slice r h).view.set ⊆ m.view.set := by
    show (m.view.slice r).set ⊆ _
    rw [View.set_slice]
    exact Finset.map_subset_map.mpr (Finset.subset_univ _)
  unfold Held
  iintro ⟨%f, %hf, H⟩
  ihave H' := (pointsTo_split_subset (ℓ := m.view.loc c) (q := fullShare) (f := f) hs).1 $$ H
  icases H' with ⟨Hi, Hr⟩
  isplitl [Hi]
  · iexists (m.slice r h).view.read (Elt F) f
    iexists f
    isplitr [Hi]
    · ipureintro; rfl
    · iexact Hi
  · iintro %z ⟨%g, %hg, Hi⟩
    ihave H := (pointsTo_join (ℓ := m.view.loc c) (q := fullShare) (f := f) (g := g) (I := m.view.set \ (m.slice r h).view.set) (J := (m.slice r h).view.set)
      Finset.sdiff_disjoint) $$ [Hr Hi]
    · isplitl [Hr]
      · iexact Hr
      · iexact Hi
    iexists (m.view.read (Elt F) ((m.slice r h).view.set.piecewise g f))
    isplitr [H]
    · ipureintro
      intro j
      rw [← hg]
      show (m.slice r h).view.read (Elt F) ((m.slice r h).view.set.piecewise g f) j = (m.slice r h).view.read (Elt F) g j
      exact congrFun (View.read_congr (v := (m.slice r h).view) fun i hi => Finset.piecewise_eq_of_mem (s := (m.slice r h).view.set) g f hi) j
    · iexists ((m.slice r h).view.set.piecewise g f)
      isplitr [H]
      · ipureintro; rfl
      · rw [Finset.sdiff_union_of_subset hs]
        iexact H

variable {E : Set Name}

/-- Sixteen elements of the accumulator are zeroed (and read first, to no end). -/
theorem zero_lanes {size : Nat} {α : Type} {Q : α → sProp (MT nD τ sig Ix (Elt F) Name U Lvl)} {acc : Memref sig c.2.kind .vmem ⟨1, ![size]⟩ .f32} {x : (⟨1, ![size]⟩ : Shape).Idx → F .f32}
    {off : Fin 1 → Nat} {hin : ∀ a, off a + (⟨1, ![16]⟩ : Shape).size a ≤ (⟨1, ![size]⟩ : Shape).size a} {hl hs hm}
    {k : Prog (TpuEff nD τ sig (Elt F) Λ c.2) α} (n : Nat) (ho : off = ![n]) (hx : ∀ j, (j 0).val < n → x j = FloatOps.ofBits .f32 0#32) :
    Held (Ix := Ix) (Name := Name) (U := U) (Lvl := Lvl) c acc fullShare x
      ⊢ iprop((∀ x', ⌜∀ j, (j 0).val < n + 16 → x' j = FloatOps.ofBits .f32 0#32⌝ -∗ Held c acc fullShare x' -∗ wp frame (wpE defs 𝒱 c bd) E k Q)
        -∗ wp frame (wpE defs 𝒱 c bd) E (Prog.lift (.load acc (Rect.unit (s := ⟨1, ![size]⟩) off (⟨1, ![16]⟩ : Shape).size hin).toLoadRect hl) >>= fun _ =>
          Prog.lift (.store acc (Rect.unit (s := ⟨1, ![size]⟩) off (⟨1, ![16]⟩ : Shape).size hin) (broadcast ⟨1, ![16]⟩ (Scalar.ofBits (F := F) .f32 0#32)) Finset.univ hs hm) >>= fun _ => k) Q) := by
  subst ho
  unfold Held
  have hsub : (acc.access (Rect.unit (s := ⟨1, ![size]⟩) ![n] (⟨1, ![16]⟩ : Shape).size hin)).set ⊆ acc.view.set := by
    rw [View.set_slice]; exact Finset.map_subset_map.mpr (Finset.subset_univ _)
  iintro ⟨%f, %hf, H⟩ Hk
  iapply (wp_load_rect 𝒱 c bd E (m := acc) (r := Rect.unit (s := ⟨1, ![size]⟩) ![n] (⟨1, ![16]⟩ : Shape).size hin) (S := acc.view.set) (q := fullShare) (f := f) hsub) $$ H
  iintro H
  iapply (wp_store 𝒱 c bd E (m := acc) (r := Rect.unit (s := ⟨1, ![size]⟩) ![n] (⟨1, ![16]⟩ : Shape).size hin) (Mk := Finset.univ) (k := fun _ => k) (S := acc.view.set) (f := f) hsub) $$ H
  iintro H
  iapply Hk
  swap
  · iexists _
    isplitr [H]
    swap
    · iexact H
    · ipureintro; rfl
  · ipureintro
    intro j hj
    by_cases hlt : (j 0).val < n
    · have hn : j ∉ Finset.univ.map (Rect.unit (s := ⟨1, ![size]⟩) ![n] (⟨1, ![16]⟩ : Shape).size hin).emb := by
        intro hmem
        obtain ⟨i, -, rfl⟩ := Finset.mem_map.mp hmem
        have : ((Rect.unit (s := ⟨1, ![size]⟩) ![n] (⟨1, ![16]⟩ : Shape).size hin).emb i 0).val = n + 1 * (i 0).val := rfl
        omega
      refine (View.read_slice_write_of_not_mem (v := acc.view) _ f _ Finset.univ hn).trans ?_
      exact (congrFun hf j).trans (hx j hlt)
    · let i : (⟨1, ![16]⟩ : Shape).Idx := fun a => ⟨(j 0).val - n, by obtain rfl := Fin.eq_zero a; show _ < 16; omega⟩
      have hi : (Rect.unit (s := ⟨1, ![size]⟩) ![n] (⟨1, ![16]⟩ : Shape).size hin).emb i = j := by
        funext a
        obtain rfl := Fin.eq_zero a
        refine Fin.ext ?_
        show n + 1 * ((j 0).val - n) = (j 0).val
        omega
      rw [← hi]
      exact View.read_slice_write_emb (v := acc.view) _ f _ (Finset.mem_univ i)

end Buffers

end Cert.Proof.Moves
-- ==== Proof.Body.lean ====
/-
  One tile's run of the edge call: its block of features is brought into the tile's memory, the accumulator is
  zeroed, the ten chunks of the tile's edges go through two sets of buffers in turn, and the accumulator is
  copied out to the tile's stretch of the result.
-/
module

public import proofs.«01_k».proof.Proof.Edge
public import proofs.«01_k».proof.Proof.Moves

@[expose] public section

noncomputable section

namespace Cert.Proof.Body

open Idealize.ShloMosaic Idealize.ShloMosaic.Transfers
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Facts₀ Cert.KernelIdeal.Facts
open Cert.Proof.Account Cert.Proof.Dup Cert.Proof.Edge Cert.Proof.Moves

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-! ## Where the copies read and write -/

/-- The group of edges of the tile at `i`. -/
abbrev group (i : grid0.Coords) : Nat := (16 * (i 0).val + (i 1).val) / 4

theorem off1_eq : ∀ i : grid0.Coords, k0_off1 i = ![50000 * ((16 * (i 0).val + (i 1).val) % 4)] := by decide +kernel
theorem off3_eq : ∀ i : grid0.Coords, k0_off3 i = ![40000 * group i + 8000 * (0 % 5)] := by decide +kernel
theorem off4_eq : ∀ (i : grid0.Coords) (t : Fin k0_t2_loop.trips), k0_off4 i t = ![40000 * group i + (8000 * t.val + 4000)] := by decide +kernel
theorem off6_eq : ∀ (i : grid0.Coords) (t : Fin k0_t2_loop.trips), k0_off6 i t = ![40000 * group i + 8000 * ((t.val + 1) % 5)] := by decide +kernel

/-! ## The loops over a chunk -/

section Run
variable {defs : Defs nD τ sig (Elt F) Λ₀} {𝒱 : Variants} {bd : Option 𝒱.V} {A : Acct F} {d : Dev nD}
variable (i : grid0.Coords) (arg2 : Memref sig .scVector .hbm S200000 .f32) (harg2 : arg2.IsWhole) (arg3 : Memref sig .scVector .hbm S320000 .i32) (harg3 : arg3.IsWhole) (arg4 : Memref sig .scVector .hbm S320000 .i32) (harg4 : arg4.IsWhole) (arg5 : Memref sig .scVector .hbm S320000 .f32) (harg5 : arg5.IsWhole) (arg6 : Memref sig .scVector .hbm S1600000 .f32) (harg6 : arg6.IsWhole) (arg7 : Memref sig .scVector .vmem S50048 .f32) (harg7 : arg7.IsWhole) (arg8 : Memref sig .scVector .vmem S50048 .f32) (harg8 : arg8.IsWhole) (arg9 : Memref sig .scVector .vmem S4000 .i32) (harg9 : arg9.IsWhole) (arg10 : Memref sig .scVector .vmem S4000 .i32) (harg10 : arg10.IsWhole) (arg11 : Memref sig .scVector .vmem S4000 .f32) (harg11 : arg11.IsWhole) (arg12 : Memref sig .scVector .vmem S4000 .i32) (harg12 : arg12.IsWhole) (arg13 : Memref sig .scVector .vmem S4000 .i32) (harg13 : arg13.IsWhole) (arg14 : Memref sig .scVector .vmem S4000 .f32) (harg14 : arg14.IsWhole) (arg15 : DmaSems sig S_) (arg16 : DmaSems sig S_) (arg17 : DmaSems sig S_) (v58_r0 : DmaSems sig S_)

/-- What the edges of a chunk add. -/
def chunkSum (A : Acct F) (tbl : Vec F S50048 .f32) (r c : Vec F S4000 .i32) (w : Vec F S4000 .f32) : S50048.Idx → A.M :=
  ∑ e ∈ Finset.range 4000, edgeAt A tbl r c w e

/-- The features and a chunk's rows, columns and weights, as the loop over the chunk reads them. -/
def Inputs (T : Thread nD τ) {sp : Space} (mt : Memref sig T.2.kind sp S50048 .f32) (mr mc : Memref sig T.2.kind sp S4000 .i32) (mw : Memref sig T.2.kind sp S4000 .f32)
    (tbl : Vec F S50048 .f32) (r c : Vec F S4000 .i32) (w : Vec F S4000 .f32) : sProp 𝕄 :=
  iprop(Held T mt fullShare tbl ∗ Held T mr fullShare r ∗ Held T mc fullShare c ∗ Held T mw fullShare w)

section Lends
variable {T : Thread nD τ} {sp : Space} {mt : Memref sig T.2.kind sp S50048 .f32} {mr mc : Memref sig T.2.kind sp S4000 .i32} {mw : Memref sig T.2.kind sp S4000 .f32}
    {tbl : Vec F S50048 .f32} {r c : Vec F S4000 .i32} {w : Vec F S4000 .f32}

theorem lends_table : Lends (Ix := Ix) (Name := Name) (U := U) (Lvl := Lvl) (Inputs T mt mr mc mw tbl r c w) T mt tbl := by
  refine ⟨fullShare, ?_⟩
  unfold Inputs
  iintro ⟨Ht, Hr, Hc, Hw⟩
  isplitl [Ht]; · iexact Ht
  iintro Ht
  isplitl [Ht]; · iexact Ht
  isplitl [Hr]; · iexact Hr
  isplitl [Hc]; · iexact Hc
  iexact Hw

theorem lends_rows : Lends (Ix := Ix) (Name := Name) (U := U) (Lvl := Lvl) (Inputs T mt mr mc mw tbl r c w) T mr r := by
  refine ⟨fullShare, ?_⟩
  unfold Inputs
  iintro ⟨Ht, Hr, Hc, Hw⟩
  isplitl [Hr]; · iexact Hr
  iintro Hr
  isplitl [Ht]; · iexact Ht
  isplitl [Hr]; · iexact Hr
  isplitl [Hc]; · iexact Hc
  iexact Hw

theorem lends_cols : Lends (Ix := Ix) (Name := Name) (U := U) (Lvl := Lvl) (Inputs T mt mr mc mw tbl r c w) T mc c := by
  refine ⟨fullShare, ?_⟩
  unfold Inputs
  iintro ⟨Ht, Hr, Hc, Hw⟩
  isplitl [Hc]; · iexact Hc
  iintro Hc
  isplitl [Ht]; · iexact Ht
  isplitl [Hr]; · iexact Hr
  isplitl [Hc]; · iexact Hc
  iexact Hw

theorem lends_weights : Lends (Ix := Ix) (Name := Name) (U := U) (Lvl := Lvl) (Inputs T mt mr mc mw tbl r c w) T mw w := by
  refine ⟨fullShare, ?_⟩
  unfold Inputs
  iintro ⟨Ht, Hr, Hc, Hw⟩
  isplitl [Hw]; · iexact Hw
  iintro Hw
  isplitl [Ht]; · iexact Ht
  isplitl [Hr]; · iexact Hr
  isplitl [Hc]; · iexact Hc
  iexact Hw

end Lends

/-- Fifty trips of eighty edges are the chunk. -/
theorem fifty_trips {n : Nat} (hn : n = 50) (A : Acct F) (tbl : Vec F S50048 .f32) (r c : Vec F S4000 .i32) (w : Vec F S4000 .f32) :
    ∑ k : Fin n, ∑ l ∈ Finset.range 80, edgeAt A tbl r c w (80 * k.val + l) = chunkSum A tbl r c w := by
  subst hn
  unfold chunkSum
  rw [← Finset.sum_range (fun k => ∑ l ∈ Finset.range 80, edgeAt A tbl r c w (80 * k + l)), show 4000 = 50 * 80 from rfl, ← sum_blocks]
  refine Finset.sum_congr rfl fun k _ => Finset.sum_congr rfl fun l _ => ?_
  rw [Nat.mul_comm]

/-- The first loop over a chunk. -/
theorem loop_t3 (tbl : Vec F S50048 .f32) (rv cv : Vec F S4000 .i32) (wv : Vec F S4000 .f32)
    (hr : ∀ x, (show BitVec 32 from rv x).toNat < 10000) (hc : ∀ x, (show BitVec 32 from cv x).toNat < 10000)
    (c0 c1 init : BitVec 32) (S : S50048.Idx → A.M) :
    iprop(Inputs (tile d i) arg7 arg9 arg10 arg11 tbl rv cv wv ∗ Booked (Ix := Ix) (Name := Name) (U := U) (Lvl := Lvl) A (tile d i) arg8 S)
      ⊢ wp frame (wpE defs 𝒱 (tile d i) bd) Set.univ (Scf.Loop.for k0_t3_loop k0_t3_ok init fun k _ => do
          let v : BitVec 32 ← k0_part8 (F := F) i arg2 harg2 arg3 harg3 arg4 harg4 arg5 harg5 arg6 harg6 arg7 harg7 arg8 harg8 arg9 harg9 arg10 harg10 arg11 harg11 arg12 harg12 arg13 harg13 arg14 harg14 arg15 arg16 arg17 v58_r0 c0 c1 k
          pure v) (fun _ => iprop(Inputs (tile d i) arg7 arg9 arg10 arg11 tbl rv cv wv ∗ Booked A (tile d i) arg8 (S + chunkSum A tbl rv cv wv))) := by
  refine BIBase.Entails.trans (Good.entails (Good.for (Ix := Ix) (Name := Name) (U := U) (Lvl := Lvl) k0_t3_loop (fun k => ∑ l ∈ Finset.range 80, edgeAt A tbl rv cv wv (80 * k.val + l)) (fun k a S => ?_)
    (Q := fun _ S' => S' = S + chunkSum A tbl rv cv wv) (fun _ => by rw [fifty_trips (by decide)]))) (wp_mono _ _ _ fun v => ?_)
  · exact trip_t3 i arg2 harg2 arg3 harg3 arg4 harg4 arg5 harg5 arg6 harg6 arg7 harg7 arg8 harg8 arg9 harg9 arg10 harg10 arg11 harg11 arg12 harg12 arg13 harg13 arg14 harg14 arg15 arg16 arg17 v58_r0 tbl rv cv wv lends_table lends_rows lends_cols lends_weights hr hc c0 c1 k S (fun v => rfl)
  · iintro ⟨%S', %hS, H⟩
    rw [← hS]
    iexact H

/-- The second loop over a chunk. -/
theorem loop_t14 (tbl : Vec F S50048 .f32) (rv cv : Vec F S4000 .i32) (wv : Vec F S4000 .f32)
    (hr : ∀ x, (show BitVec 32 from rv x).toNat < 10000) (hc : ∀ x, (show BitVec 32 from cv x).toNat < 10000)
    (c0 c1 init : BitVec 32) (S : S50048.Idx → A.M) :
    iprop(Inputs (tile d i) arg7 arg12 arg13 arg14 tbl rv cv wv ∗ Booked (Ix := Ix) (Name := Name) (U := U) (Lvl := Lvl) A (tile d i) arg8 S)
      ⊢ wp frame (wpE defs 𝒱 (tile d i) bd) Set.univ (Scf.Loop.for k0_t14_loop k0_t14_ok init fun k _ => do
          let v : BitVec 32 ← k0_part16 (F := F) i arg2 harg2 arg3 harg3 arg4 harg4 arg5 harg5 arg6 harg6 arg7 harg7 arg8 harg8 arg9 harg9 arg10 harg10 arg11 harg11 arg12 harg12 arg13 harg13 arg14 harg14 arg15 arg16 arg17 v58_r0 c0 c1 k
          pure v) (fun _ => iprop(Inputs (tile d i) arg7 arg12 arg13 arg14 tbl rv cv wv ∗ Booked A (tile d i) arg8 (S + chunkSum A tbl rv cv wv))) := by
  refine BIBase.Entails.trans (Good.entails (Good.for (Ix := Ix) (Name := Name) (U := U) (Lvl := Lvl) k0_t14_loop (fun k => ∑ l ∈ Finset.range 80, edgeAt A tbl rv cv wv (80 * k.val + l)) (fun k a S => ?_)
    (Q := fun _ S' => S' = S + chunkSum A tbl rv cv wv) (fun _ => by rw [fifty_trips (by decide)]))) (wp_mono _ _ _ fun v => ?_)
  · exact trip_t14 i arg2 harg2 arg3 harg3 arg4 harg4 arg5 harg5 arg6 harg6 arg7 harg7 arg8 harg8 arg9 harg9 arg10 harg10 arg11 harg11 arg12 harg12 arg13 harg13 arg14 harg14 arg15 arg16 arg17 v58_r0 tbl rv cv wv lends_table lends_rows lends_cols lends_weights hr hc c0 c1 k S (fun v => rfl)
  · iintro ⟨%S', %hS, H⟩
    rw [← hS]
    iexact H

/-! ## Chunks of the edge list -/

/-- The `n`-th edge. -/
def far (n : Nat) : S320000.Idx := fun a => ⟨n % 320000, by obtain rfl := Fin.eq_zero a; exact Nat.mod_lt _ (by decide)⟩

/-- The chunk of an edge array that starts at edge `b`. -/
def chunkAt {e : EltTy} (x : S320000.Idx → Elt F e) (b : Nat) : S4000.Idx → Elt F e := fun j => x (far (b + (j 0).val))

/-- What the `n`-th edge adds. -/
def edgeOf (A : Acct F) (tbl : Vec F S50048 .f32) (r c : Vec F S320000 .i32) (w : Vec F S320000 .f32) (n : Nat) : S50048.Idx → A.M :=
  edge A tbl (r (far n)) (c (far n)) (w (far n))

theorem chunkSum_at (A : Acct F) (tbl : Vec F S50048 .f32) (r c : Vec F S320000 .i32) (w : Vec F S320000 .f32) (b : Nat) :
    chunkSum A tbl (chunkAt r b) (chunkAt c b) (chunkAt w b) = ∑ e ∈ Finset.range 4000, edgeOf A tbl r c w (b + e) := by
  unfold chunkSum
  refine Finset.sum_congr rfl fun e he => ?_
  have hn : b + (nth e 0).val = b + e := by
    show b + e % 4000 = _
    rw [Nat.mod_eq_of_lt (Finset.mem_range.mp he)]
  unfold edgeAt edgeOf chunkAt
  rw [hn]

/-- Shares of the rows, columns and weights. -/
def Three (T : Thread nD τ) {sp : Space} {s : Shape} (m₁ m₂ : Memref sig T.2.kind sp s .i32) (m₃ : Memref sig T.2.kind sp s .f32) (q : PosShare TreeShare)
    (f₁ : Buf (Elt F) (m₁.view.loc T)) (f₂ : Buf (Elt F) (m₂.view.loc T)) (f₃ : Buf (Elt F) (m₃.view.loc T)) : sProp 𝕄 :=
  iprop(Lent T m₁ q f₁ ∗ Lent T m₂ q f₂ ∗ Lent T m₃ q f₃)

section Fly
variable (EC : UEmb Counters (MT nD τ sig Ix (Elt F) Name U Lvl)) (ι : Ix) (N : Nat)
variable {defs : Defs nD τ sig (Elt F) Λ₀} {𝒱 : Variants} {bd : Option 𝒱.V} {T : Thread nD τ} {α : Type}
variable {m₁ m₂ : Memref sig T.2.kind .hbm S320000 .i32} {m₃ : Memref sig T.2.kind .hbm S320000 .f32}
variable {d₁ d₂ : Memref sig T.2.kind .vmem S4000 .i32} {d₃ : Memref sig T.2.kind .vmem S4000 .f32} {sem : DmaSem sig} {q : PosShare TreeShare}
variable {f₁ : Buf (Elt F) (m₁.view.loc T)} {f₂ : Buf (Elt F) (m₂.view.loc T)} {f₃ : Buf (Elt F) (m₃.view.loc T)}

/-- A chunk on its way: the copies from edge `b` on into `d₁`, `d₂`, `d₃`, and the way back to the lent shares. -/
def Flying (T : Thread nD τ) (m₁ m₂ : Memref sig T.2.kind .hbm S320000 .i32) (m₃ : Memref sig T.2.kind .hbm S320000 .f32)
    (d₁ d₂ : Memref sig T.2.kind .vmem S4000 .i32) (d₃ : Memref sig T.2.kind .vmem S4000 .f32) (sem : DmaSem sig) (q : PosShare TreeShare)
    (f₁ : Buf (Elt F) (m₁.view.loc T)) (f₂ : Buf (Elt F) (m₂.view.loc T)) (f₃ : Buf (Elt F) (m₃.view.loc T)) (b : Nat) : sProp 𝕄 :=
  iprop(∃ (off : Fin 1 → Nat) (hin : ∀ a, off a + S4000.size a ≤ S320000.size a), ⌜off = ![b]⌝
    ∗ Batch EC T (.dma sem) ι N (Chunk T (m₁.slice (Rect.unit (s := S320000) off S4000.size hin) (fun _ => rfl)) (m₂.slice (Rect.unit (s := S320000) off S4000.size hin) (fun _ => rfl))
        (m₃.slice (Rect.unit (s := S320000) off S4000.size hin) (fun _ => rfl)) d₁ d₂ d₃ q f₁ f₂ f₃) 3 0
    ∗ (iprop(Lent T (m₁.slice (Rect.unit (s := S320000) off S4000.size hin) (fun _ => rfl)) q f₁ ∗ Lent T (m₂.slice (Rect.unit (s := S320000) off S4000.size hin) (fun _ => rfl)) q f₂
        ∗ Lent T (m₃.slice (Rect.unit (s := S320000) off S4000.size hin) (fun _ => rfl)) q f₃) -∗ Three T m₁ m₂ m₃ q f₁ f₂ f₃))

/-- Buffers for a chunk, reading anything. -/
def Room (T : Thread nD τ) (d₁ d₂ : Memref sig T.2.kind .vmem S4000 .i32) (d₃ : Memref sig T.2.kind .vmem S4000 .f32) : sProp 𝕄 :=
  iprop(Free T d₁ ∗ Free T d₂ ∗ Free T d₃)

theorem fly [Infinite Name] [EC.LandsIn (upEmb : UEmb _ (MT nD τ sig Ix (Elt F) Name U Lvl))] {Q : α → sProp (MT nD τ sig Ix (Elt F) Name U Lvl)}
    {k : Prog (TpuEff nD τ sig (Elt F) Λ₀ T.2) α} {off : Fin 1 → Nat} {hin : ∀ a, off a + S4000.size a ≤ S320000.size a} {w₁ w₂ w₃ w₄ w₅ w₆ w₇ w₈ w₉} (b : Nat) (ho : off = ![b])
    (h₁ : d₁.view.dmaCredit = N) (h₂ : d₂.view.dmaCredit = N) (h₃ : d₃.view.dmaCredit = N) :
    iprop(Three T m₁ m₂ m₃ q f₁ f₂ f₃ ∗ Room T d₁ d₂ d₃ ∗ semVal (T, .dma sem) 0)
      ⊢ iprop((Flying EC ι N T m₁ m₂ m₃ d₁ d₂ d₃ sem q f₁ f₂ f₃ b -∗ wp frame (wpE defs 𝒱 T bd) Set.univ k Q)
        -∗ wp frame (wpE defs 𝒱 T bd) Set.univ (Prog.lift (.enqueueDma (m₁.slice (Rect.unit (s := S320000) off S4000.size hin) (fun _ => rfl)) (.here d₁) (.dma sem) w₁ w₂ w₃) >>= fun _ =>
            Prog.lift (.enqueueDma (m₂.slice (Rect.unit (s := S320000) off S4000.size hin) (fun _ => rfl)) (.here d₂) (.dma sem) w₄ w₅ w₆) >>= fun _ =>
            Prog.lift (.enqueueDma (m₃.slice (Rect.unit (s := S320000) off S4000.size hin) (fun _ => rfl)) (.here d₃) (.dma sem) w₇ w₈ w₉) >>= fun _ => k) Q) := by
  unfold Three Room Free
  iintro ⟨⟨Hs1, Hs2, Hs3⟩, ⟨⟨%x1, Hd1⟩, ⟨%x2, Hd2⟩, ⟨%x3, Hd3⟩⟩, Hv⟩ Hk
  ihave Hs1' := (lend_slice (Rect.unit (s := S320000) off S4000.size hin) (fun _ => rfl)) $$ Hs1
  icases Hs1' with ⟨Hs1, Hb1⟩
  ihave Hs2' := (lend_slice (Rect.unit (s := S320000) off S4000.size hin) (fun _ => rfl)) $$ Hs2
  icases Hs2' with ⟨Hs2, Hb2⟩
  ihave Hs3' := (lend_slice (Rect.unit (s := S320000) off S4000.size hin) (fun _ => rfl)) $$ Hs3
  icases Hs3' with ⟨Hs3, Hb3⟩
  iapply (start_chunk EC ι (N := N) (x₁ := x1) (x₂ := x2) (x₃ := x3) h₁ h₂ h₃) $$ [Hs1 Hs2 Hs3 Hd1 Hd2 Hd3 Hv]
  · isplitl [Hs1 Hs2 Hs3]
    · isplitl [Hs1]; · iexact Hs1
      isplitl [Hs2]; · iexact Hs2
      iexact Hs3
    isplitl [Hd1 Hd2 Hd3]
    · isplitl [Hd1]; · iexact Hd1
      isplitl [Hd2]; · iexact Hd2
      iexact Hd3
    iexact Hv
  iintro HB
  iapply Hk
  unfold Flying Three
  iexists off
  iexists hin
  isplitr [HB Hb1 Hb2 Hb3]
  · ipureintro; exact ho
  isplitl [HB]; · iexact HB
  iintro ⟨Hs1, Hs2, Hs3⟩
  isplitl [Hs1 Hb1]
  · iapply Hb1; iexact Hs1
  isplitl [Hs2 Hb2]
  · iapply Hb2; iexact Hs2
  · iapply Hb3; iexact Hs3

theorem slice_chunkAt {e : EltTy} (m : Memref sig T.2.kind .hbm S320000 e) (f : Buf (Elt F) (m.view.loc T)) {off : Fin 1 → Nat}
    (hin : ∀ a, off a + S4000.size a ≤ S320000.size a) (b : Nat) (ho : off = ![b]) :
    (m.slice (Rect.unit (s := S320000) off S4000.size hin) (fun _ => rfl)).view.read (Elt F) f = chunkAt (m.view.read (Elt F) f) b := by
  subst ho
  funext j
  show m.view.read (Elt F) f ((Rect.unit (s := S320000) ![b] S4000.size hin).emb j) = m.view.read (Elt F) f (far (b + (j 0).val))
  refine congrArg (m.view.read (Elt F) f) (funext fun a => ?_)
  obtain rfl := Fin.eq_zero a
  refine Fin.ext ?_
  show b + 1 * (j 0).val = (b + (j 0).val) % 320000
  have h0 : b + 4000 ≤ 320000 := hin 0
  have hj : (j 0).val < 4000 := (j 0).isLt
  rw [Nat.mod_eq_of_lt (by omega)]
  omega

variable {O : CellTallies nD τ sig Ix} {W : Waits sig Ix}

theorem land [Infinite Name] [EC.LandsIn (upEmb : UEmb _ (MT nD τ sig Ix (Elt F) Name U Lvl))] {Q : α → sProp (MT nD τ sig Ix (Elt F) Name U Lvl)}
    {k : Prog (TpuEff nD τ sig (Elt F) Λ₀ T.2) α} {a₁ a₂ : Memref sig T.2.kind .hbm S4000 .i32} {a₃ : Memref sig T.2.kind .hbm S4000 .f32} {w₁ w₂ w₃ w₄ w₅ w₆} (b : Nat)
    (h₁ : d₁.view.dmaCredit = N) (h₂ : d₂.view.dmaCredit = N) (h₃ : d₃.view.dmaCredit = N) (hN : 0 < N) :
    iprop(MayWaits T ι O ∗ Flying EC ι N T m₁ m₂ m₃ d₁ d₂ d₃ sem q f₁ f₂ f₃ b ∗ Owed T ι O W)
      ⊢ iprop((iprop((Held T d₁ fullShare (chunkAt (m₁.view.read (Elt F) f₁) b) ∗ Held T d₂ fullShare (chunkAt (m₂.view.read (Elt F) f₂) b) ∗ Held T d₃ fullShare (chunkAt (m₃.view.read (Elt F) f₃) b))
            ∗ Three T m₁ m₂ m₃ q f₁ f₂ f₃ ∗ semVal (T, .dma sem) 0 ∗ Owed T ι O W) -∗ wp frame (wpE defs 𝒱 T bd) Set.univ k Q)
          -∗ wp frame (wpE defs 𝒱 T bd) Set.univ (Prog.lift (.waitDma2 sem a₁ d₁ w₁ w₂) >>= fun _ =>
              Prog.lift (.waitDma2 sem a₂ d₂ w₃ w₄) >>= fun _ =>
              Prog.lift (.waitDma2 sem a₃ d₃ w₅ w₆) >>= fun _ => k) Q) := by
  unfold Flying
  iintro ⟨#Hm, ⟨%off, %hin, %ho, HB, Hback⟩, HO⟩ Hk
  iapply (wait_chunk EC ι (N := N) h₁ h₂ h₃ hN) $$ [HB HO]
  · isplitr; · iexact Hm
    isplitl [HB]; · iexact HB
    iexact HO
  iintro ⟨Hd, Hs, Hv, HO⟩
  rw [slice_chunkAt m₁ f₁ hin b ho, slice_chunkAt m₂ f₂ hin b ho, slice_chunkAt m₃ f₃ hin b ho]
  iapply Hk
  isplitl [Hd]; · iexact Hd
  isplitl [Hs Hback]
  · iapply Hback; iexact Hs
  isplitl [Hv]; · iexact Hv
  iexact HO

end Fly

variable (EC : UEmb Counters (MT nD τ sig Ix (Elt F) Name U Lvl)) (ι : Ix)

/-! ## The parts of the body -/

/-- The tile's block of the features, and the part of the tile's memory it is copied to. -/
abbrev featSrc : Memref sig .scVector .hbm S50000 .f32 := arg2.slice (Rect.unit (s := S200000) (k0_off1 i) S50000.size (k0_off1_inb i)) (fun _ => rfl)
abbrev featDst : Memref sig .scVector .vmem S50000 .f32 := arg7.slice (Rect.unit (s := S50048) ![0] S50000.size inb_S50048_S50000_0) (fun _ => rfl)

set_option maxHeartbeats 4000000 in
/-- The accumulator is zeroed while the features are on their way. -/
theorem part18_run [Infinite Name] [EC.LandsIn (upEmb : UEmb _ (MT nD τ sig Ix (Elt F) Name U Lvl))] (q : PosShare TreeShare) (f : Buf (Elt F) (arg2.view.loc (tile d i))) :
    iprop(Lent (tile d i) arg2 q f ∗ Free (tile d i) arg7 ∗ Free (tile d i) arg8 ∗ semVal (tile d i, .dma arg15.sem) 0)
      ⊢ wp frame (wpE defs 𝒱 (tile d i) bd) Set.univ (k0_part18 (F := F) i arg2 harg2 arg3 harg3 arg4 harg4 arg5 harg5 arg6 harg6 arg7 harg7 arg8 harg8 arg9 harg9 arg10 harg10 arg11 harg11 arg12 harg12 arg13 harg13 arg14 harg14 arg15 arg16 arg17 v58_r0)
        (fun _ => iprop(Batch EC (tile d i) (.dma arg15.sem) ι (featDst arg7).view.dmaCredit (fun _ : Fin 1 => Landed (tile d i) (featSrc i arg2) (featDst arg7) q f) 1 0
          ∗ (Lent (tile d i) (featSrc i arg2) q f -∗ Lent (tile d i) arg2 q f)
          ∗ (∀ z, Held (tile d i) (featDst arg7) fullShare z -∗ ∃ x' : S50048.Idx → F .f32, ⌜∀ j, x' ((Rect.unit (s := S50048) ![0] S50000.size inb_S50048_S50000_0).emb j) = z j⌝ ∗ Held (tile d i) arg7 fullShare x')
          ∗ Booked A (tile d i) arg8 0)) := by
  delta k0_part18
  conv => zeta
  unfold Free
  iintro ⟨Hs, ⟨%x7, H7⟩, ⟨%x8, H8⟩, Hv⟩
  ihave Hs' := (lend_slice (Rect.unit (s := S200000) (k0_off1 i) S50000.size (k0_off1_inb i)) (fun _ => rfl)) $$ Hs
  icases Hs' with ⟨Hs, Hsb⟩
  ihave H7' := (open_slice (Rect.unit (s := S50048) ![0] S50000.size inb_S50048_S50000_0) (fun _ => rfl)) $$ H7
  icases H7' with ⟨⟨%y, H7⟩, H7b⟩
  iapply (start_one EC ι (c := tile d i) (src := featSrc i arg2) (dst := featDst arg7) (x := y)) $$ [Hs H7 Hv]
  · isplitl [Hs]; · iexact Hs
    isplitl [H7]; · iexact H7
    iexact Hv
  iintro HB
  rw [wp_bind]
  iapply (Scf.wp_for frame (wpE defs 𝒱 (tile d i) bd) Set.univ k0_t1_loop.lb k0_t1_loop.ub k0_t1_loop.st k0_t1_ok _ _
    (fun m _ => iprop(∃ x : S50048.Idx → F .f32, ⌜∀ j, (j 0).val < 64 * m → x j = FloatOps.ofBits .f32 0#32⌝ ∗ Held (tile d i) arg8 fullShare x)) ?_) $$ [H8 HB Hsb H7b]
  · intro k a
    iintro ⟨%x, %hx, H8⟩
    iapply (zero_lanes (c := tile d i) (acc := arg8) (off := k0_off2 k 0#32) (n := 64 * k.val + 0) (by exact Gen.k0_off2_eq k 0) hx) $$ H8
    iintro %x1 %h1 H8
    iapply (zero_lanes (c := tile d i) (acc := arg8) (off := k0_off2 k 16#32) (n := 64 * k.val + 16) (by exact Gen.k0_off2_eq k 1) h1) $$ H8
    iintro %x2 %h2 H8
    iapply (zero_lanes (c := tile d i) (acc := arg8) (off := k0_off2 k 32#32) (n := 64 * k.val + 32) (by exact Gen.k0_off2_eq k 2) h2) $$ H8
    iintro %x3 %h3 H8
    iapply (zero_lanes (c := tile d i) (acc := arg8) (off := k0_off2 k 48#32) (n := 64 * k.val + 48) (by exact Gen.k0_off2_eq k 3) h3) $$ H8
    iintro %x4 %h4 H8
    rw [wp_pure]
    imodintro
    iexists x4
    isplitr [H8]
    · ipureintro
      intro j hj
      exact h4 j (by omega)
    · iexact H8
  · isplitl [H8]
    · iexists x8
      isplitr [H8]
      · ipureintro; intro j hj; exact absurd hj (by omega)
      · iexact H8
    · iintro %a ⟨%x, %hx, H8⟩
      rw [wp_pure]
      imodintro
      isplitl [HB]; · iexact HB
      isplitl [Hsb]; · iexact Hsb
      isplitl [H7b]; · iexact H7b
      unfold Booked
      iexists x
      isplitr [H8]
      swap
      · iexact H8
      · ipureintro
        intro j
        have hj : (j 0).val < 50048 := (j 0).isLt
        have ht : k0_t1_loop.trips = 782 := by decide
        have h0 : x j = FloatOps.ofBits .f32 0#32 := hx j (by change (j 0).val < 64 * k0_t1_loop.trips; omega)
        rw [h0]
        exact A.zero

end Run

end Cert.Proof.Body
-- ==== Proof.Tile.lean ====
/-
  One tile's run of the edge call, part by part: the ten chunks in turn through the two sets of buffers, then
  the accumulator out.
-/
module

public import proofs.«01_k».proof.Proof.Body

@[expose] public section

noncomputable section

namespace Cert.Proof.Body

open Idealize.ShloMosaic Idealize.ShloMosaic.Transfers
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Facts₀ Cert.KernelIdeal.Facts
open Cert.Proof.Account Cert.Proof.Dup Cert.Proof.Edge Cert.Proof.Moves

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

section Run
variable {defs : Defs nD τ sig (Elt F) Λ₀} {𝒱 : Variants} {bd : Option 𝒱.V} {A : Acct F} {d : Dev nD}
variable (i : grid0.Coords) (arg2 : Memref sig .scVector .hbm S200000 .f32) (harg2 : arg2.IsWhole) (arg3 : Memref sig .scVector .hbm S320000 .i32) (harg3 : arg3.IsWhole) (arg4 : Memref sig .scVector .hbm S320000 .i32) (harg4 : arg4.IsWhole) (arg5 : Memref sig .scVector .hbm S320000 .f32) (harg5 : arg5.IsWhole) (arg6 : Memref sig .scVector .hbm S1600000 .f32) (harg6 : arg6.IsWhole) (arg7 : Memref sig .scVector .vmem S50048 .f32) (harg7 : arg7.IsWhole) (arg8 : Memref sig .scVector .vmem S50048 .f32) (harg8 : arg8.IsWhole) (arg9 : Memref sig .scVector .vmem S4000 .i32) (harg9 : arg9.IsWhole) (arg10 : Memref sig .scVector .vmem S4000 .i32) (harg10 : arg10.IsWhole) (arg11 : Memref sig .scVector .vmem S4000 .f32) (harg11 : arg11.IsWhole) (arg12 : Memref sig .scVector .vmem S4000 .i32) (harg12 : arg12.IsWhole) (arg13 : Memref sig .scVector .vmem S4000 .i32) (harg13 : arg13.IsWhole) (arg14 : Memref sig .scVector .vmem S4000 .f32) (harg14 : arg14.IsWhole) (arg15 : DmaSems sig S_) (arg16 : DmaSems sig S_) (arg17 : DmaSems sig S_) (v58_r0 : DmaSems sig S_)
variable (EC : UEmb Counters (MT nD τ sig Ix (Elt F) Name U Lvl)) (ι : Ix) (N : Nat)
variable {O : CellTallies nD τ sig Ix} {W : Waits sig Ix}
variable {f3 : Buf (Elt F) (arg3.view.loc (tile d i))} {f4 : Buf (Elt F) (arg4.view.loc (tile d i))} {f5 : Buf (Elt F) (arg5.view.loc (tile d i))} {qa qb : PosShare TreeShare}

/-- The chunk that starts at edge `b`, on its way to the first set of buffers. -/
abbrev FlyA (b : Nat) : sProp 𝕄 := Flying EC ι N (tile d i) arg3 arg4 arg5 arg9 arg10 arg11 arg16.sem qa f3 f4 f5 b
/-- The chunk that starts at edge `b`, on its way to the second set of buffers. -/
abbrev FlyB (b : Nat) : sProp 𝕄 := Flying EC ι N (tile d i) arg3 arg4 arg5 arg12 arg13 arg14 arg17.sem qb f3 f4 f5 b

/-- What the edges from `b` on, a chunk of them, add. -/
abbrev sumAt (A : Acct F) (tbl : Vec F S50048 .f32) (f3 : Buf (Elt F) (arg3.view.loc (tile d i))) (f4 : Buf (Elt F) (arg4.view.loc (tile d i))) (f5 : Buf (Elt F) (arg5.view.loc (tile d i))) (b : Nat) : S50048.Idx → A.M :=
  ∑ e ∈ Finset.range 4000, edgeOf A tbl (arg3.view.read (Elt F) f3) (arg4.view.read (Elt F) f4) (arg5.view.read (Elt F) f5) (b + e)

set_option maxHeartbeats 4000000 in
/-- The next odd chunk is started, the even one that was on its way is waited for and added. -/
theorem part17_run [Infinite Name] [EC.LandsIn (upEmb : UEmb _ (MT nD τ sig Ix (Elt F) Name U Lvl))]
    (h9 : arg9.view.dmaCredit = N) (h10 : arg10.view.dmaCredit = N) (h11 : arg11.view.dmaCredit = N)
    (h12 : arg12.view.dmaCredit = N) (h13 : arg13.view.dmaCredit = N) (h14 : arg14.view.dmaCredit = N) (hN : 0 < N)
    (hr : ∀ x, (show BitVec 32 from arg3.view.read (Elt F) f3 x).toNat < 10000) (hc : ∀ x, (show BitVec 32 from arg4.view.read (Elt F) f4 x).toNat < 10000)
    (tbl : Vec F S50048 .f32) (S : S50048.Idx → A.M) (b : Nat) (v18 c0 c1 : BitVec 32) (t : Fin k0_t2_loop.trips) :
    iprop(MayWaits (tile d i) ι O ∗ FlyA (f3 := f3) (f4 := f4) (f5 := f5) (qa := qa) (d := d) i arg3 arg4 arg5 arg9 arg10 arg11 arg16 EC ι N b
        ∗ Three (tile d i) arg3 arg4 arg5 qb f3 f4 f5 ∗ Room (tile d i) arg12 arg13 arg14 ∗ semVal (tile d i, .dma arg17.sem) 0
        ∗ Owed (tile d i) ι O W ∗ Held (tile d i) arg7 fullShare tbl ∗ Booked A (tile d i) arg8 S)
      ⊢ wp frame (wpE defs 𝒱 (tile d i) bd) Set.univ (k0_part17 (F := F) i arg2 harg2 arg3 harg3 arg4 harg4 arg5 harg5 arg6 harg6 arg7 harg7 arg8 harg8 arg9 harg9 arg10 harg10 arg11 harg11 arg12 harg12 arg13 harg13 arg14 harg14 arg15 arg16 arg17 v58_r0 v18 c0 c1 t)
        (fun _ => iprop(FlyB (f3 := f3) (f4 := f4) (f5 := f5) (qb := qb) (d := d) i arg3 arg4 arg5 arg12 arg13 arg14 arg17 EC ι N (40000 * group i + (8000 * t.val + 4000))
          ∗ Three (tile d i) arg3 arg4 arg5 qa f3 f4 f5 ∗ Room (tile d i) arg9 arg10 arg11 ∗ semVal (tile d i, .dma arg16.sem) 0
          ∗ Owed (tile d i) ι O W ∗ Held (tile d i) arg7 fullShare tbl ∗ Booked A (tile d i) arg8 (S + sumAt i arg3 arg4 arg5 A tbl f3 f4 f5 b))) := by
  delta k0_part17
  conv => zeta
  iintro ⟨#Hm, HA, Hs, Hd, Hv, HO, HT, HS⟩
  iapply (fly EC ι N (T := tile d i) (40000 * group i + (8000 * t.val + 4000)) (off4_eq i t) h12 h13 h14) $$ [Hs Hd Hv]
  · isplitl [Hs]; · iexact Hs
    isplitl [Hd]; · iexact Hd
    iexact Hv
  iintro HB
  iapply (land EC ι N (T := tile d i) b h9 h10 h11 hN) $$ [HA HO]
  · isplitr; · iexact Hm
    isplitl [HA]; · iexact HA
    iexact HO
  iintro ⟨⟨H9, H10, H11⟩, Hs, Hv, HO⟩
  rw [wp_bind]
  iapply (wp_wand frame (wpE defs 𝒱 (tile d i) bd) Set.univ) $$ [HT H9 H10 H11 HS]
  · iapply (loop_t3 i arg2 harg2 arg3 harg3 arg4 harg4 arg5 harg5 arg6 harg6 arg7 harg7 arg8 harg8 arg9 harg9 arg10 harg10 arg11 harg11 arg12 harg12 arg13 harg13 arg14 harg14 arg15 arg16 arg17 v58_r0 tbl (chunkAt (arg3.view.read (Elt F) f3) b) (chunkAt (arg4.view.read (Elt F) f4) b) (chunkAt (arg5.view.read (Elt F) f5) b) (fun x => hr _) (fun x => hc _) _ _ _ S)
    unfold Inputs
    isplitl [HT H9 H10 H11]
    · isplitl [HT]; · iexact HT
      isplitl [H9]; · iexact H9
      isplitl [H10]; · iexact H10
      iexact H11
    · iexact HS
  iintro %v ⟨HI, HS⟩
  unfold Inputs
  icases HI with ⟨HT, H9, H10, H11⟩
  rw [wp_pure]
  imodintro
  isplitl [HB]; · iexact HB
  isplitl [Hs]; · iexact Hs
  isplitl [H9 H10 H11]
  · unfold Room
    isplitl [H9]; · iapply Free.of; iexact H9
    isplitl [H10]; · iapply Free.of; iexact H10
    iapply Free.of; iexact H11
  isplitl [Hv]; · iexact Hv
  isplitl [HO]; · iexact HO
  isplitl [HT]; · iexact HT
  rw [chunkSum_at]
  iexact HS

/-- What the first `n` edges of the tile's group add. -/
abbrev firstEdges (A : Acct F) (tbl : Vec F S50048 .f32) (f3 : Buf (Elt F) (arg3.view.loc (tile d i))) (f4 : Buf (Elt F) (arg4.view.loc (tile d i))) (f5 : Buf (Elt F) (arg5.view.loc (tile d i))) (n : Nat) : S50048.Idx → A.M :=
  ∑ e ∈ Finset.range n, edgeOf A tbl (arg3.view.read (Elt F) f3) (arg4.view.read (Elt F) f4) (arg5.view.read (Elt F) f5) (40000 * group i + e)

theorem two_chunks {M : Type} [AddCommMonoid M] (g : Nat → M) (G : Nat) {m : Nat} (hm : m < 5) :
    ∑ e ∈ Finset.range (8000 * m), g (G + e) + ∑ e ∈ Finset.range 4000, g (G + 8000 * (m % 5) + e) + ∑ e ∈ Finset.range 4000, g (G + (8000 * m + 4000) + e)
      = ∑ e ∈ Finset.range (8000 * (m + 1)), g (G + e) := by
  rw [show 8000 * (m + 1) = 8000 * m + 4000 + 4000 by omega, Finset.sum_range_add, Finset.sum_range_add, Nat.mod_eq_of_lt hm]
  simp only [Nat.add_assoc]

/-- Between two trips of the chunk loop: the next even chunk on its way, the other set of buffers free, the
    accumulator at the edges of the chunks so far. -/
def Between (A : Acct F) (tbl : Vec F S50048 .f32) (f3 : Buf (Elt F) (arg3.view.loc (tile d i))) (f4 : Buf (Elt F) (arg4.view.loc (tile d i))) (f5 : Buf (Elt F) (arg5.view.loc (tile d i)))
    (qa qb : PosShare TreeShare) (O : CellTallies nD τ sig Ix) (W : Waits sig Ix) (m : Nat) : sProp 𝕄 :=
  iprop(FlyA (f3 := f3) (f4 := f4) (f5 := f5) (qa := qa) (d := d) i arg3 arg4 arg5 arg9 arg10 arg11 arg16 EC ι N (40000 * group i + 8000 * (m % 5))
    ∗ Three (tile d i) arg3 arg4 arg5 qb f3 f4 f5 ∗ Room (tile d i) arg12 arg13 arg14 ∗ semVal (tile d i, .dma arg17.sem) 0
    ∗ Owed (tile d i) ι O W ∗ Held (tile d i) arg7 fullShare tbl ∗ Booked A (tile d i) arg8 (firstEdges i arg3 arg4 arg5 A tbl f3 f4 f5 (8000 * m)))

abbrev accSrc : Memref sig .scVector .vmem S50000 .f32 := arg8.slice (Rect.unit (s := S50048) ![0] S50000.size inb_S50048_S50000_0) (fun _ => rfl)
abbrev outDst : Memref sig .scVector .hbm S50000 .f32 := arg6.slice (Rect.unit (s := S1600000) (k0_off8 i) S50000.size (k0_off8_inb i)) (fun _ => rfl)

theorem head_val (j : S50000.Idx) : ((Rect.unit (s := S50048) ![0] S50000.size inb_S50048_S50000_0).emb j 0).val = (j 0).val := by
  show 0 + 1 * (j 0).val = _
  omega

set_option maxHeartbeats 4000000 in
/-- The ten chunks, and the accumulator on its way out. -/
theorem part19_run [Infinite Name] [EC.LandsIn (upEmb : UEmb _ (MT nD τ sig Ix (Elt F) Name U Lvl))]
    (h9 : arg9.view.dmaCredit = N) (h10 : arg10.view.dmaCredit = N) (h11 : arg11.view.dmaCredit = N)
    (h12 : arg12.view.dmaCredit = N) (h13 : arg13.view.dmaCredit = N) (h14 : arg14.view.dmaCredit = N) (hN : 0 < N)
    (hr : ∀ x, (show BitVec 32 from arg3.view.read (Elt F) f3 x).toNat < 10000) (hc : ∀ x, (show BitVec 32 from arg4.view.read (Elt F) f4 x).toNat < 10000)
    (q : PosShare TreeShare) (f2 : Buf (Elt F) (arg2.view.loc (tile d i))) (v1 v18 v28 : BitVec 32) (x6 : S50000.Idx → F .f32) :
    iprop(MayWaits (tile d i) ι O
        ∗ (Batch EC (tile d i) (.dma arg15.sem) ι (featDst arg7).view.dmaCredit (fun _ : Fin 1 => Landed (tile d i) (featSrc i arg2) (featDst arg7) q f2) 1 0
          ∗ (Lent (tile d i) (featSrc i arg2) q f2 -∗ Lent (tile d i) arg2 q f2)
          ∗ (∀ z, Held (tile d i) (featDst arg7) fullShare z -∗ ∃ x' : S50048.Idx → F .f32, ⌜∀ j, x' ((Rect.unit (s := S50048) ![0] S50000.size inb_S50048_S50000_0).emb j) = z j⌝ ∗ Held (tile d i) arg7 fullShare x')
          ∗ Booked A (tile d i) arg8 0)
        ∗ (Three (tile d i) arg3 arg4 arg5 qa f3 f4 f5 ∗ Room (tile d i) arg9 arg10 arg11 ∗ semVal (tile d i, .dma arg16.sem) 0)
        ∗ (Three (tile d i) arg3 arg4 arg5 qb f3 f4 f5 ∗ Room (tile d i) arg12 arg13 arg14 ∗ semVal (tile d i, .dma arg17.sem) 0)
        ∗ Held (tile d i) (outDst i arg6) fullShare x6 ∗ semVal (tile d i, .dma v58_r0.sem) 0 ∗ Owed (tile d i) ι O W)
      ⊢ wp frame (wpE defs 𝒱 (tile d i) bd) Set.univ (k0_part19 (F := F) i arg2 harg2 arg3 harg3 arg4 harg4 arg5 harg5 arg6 harg6 arg7 harg7 arg8 harg8 arg9 harg9 arg10 harg10 arg11 harg11 arg12 harg12 arg13 harg13 arg14 harg14 arg15 arg16 arg17 v58_r0 v1 v18 v28)
        (fun _ => iprop(∃ tbl f8, ⌜∀ j, tbl ((Rect.unit (s := S50048) ![0] S50000.size inb_S50048_S50000_0).emb j) = (featSrc i arg2).view.read (Elt F) f2 j⌝
          ∗ ⌜∀ j, A.rep ((accSrc arg8).view.read (Elt F) f8 j) (firstEdges i arg3 arg4 arg5 A tbl f3 f4 f5 40000 ((Rect.unit (s := S50048) ![0] S50000.size inb_S50048_S50000_0).emb j))⌝
          ∗ Batch EC (tile d i) (.dma v58_r0.sem) ι (outDst i arg6).view.dmaCredit (fun _ : Fin 1 => Landed (tile d i) (accSrc arg8) (outDst i arg6) fullShare f8) 1 0
          ∗ (Lent (tile d i) (accSrc arg8) fullShare f8 -∗ Lent (tile d i) arg8 fullShare f8)
          ∗ Lent (tile d i) arg2 q f2 ∗ Held (tile d i) arg7 fullShare tbl ∗ semVal (tile d i, .dma arg15.sem) 0
          ∗ (Three (tile d i) arg3 arg4 arg5 qa f3 f4 f5 ∗ Room (tile d i) arg9 arg10 arg11 ∗ semVal (tile d i, .dma arg16.sem) 0)
          ∗ (Three (tile d i) arg3 arg4 arg5 qb f3 f4 f5 ∗ Room (tile d i) arg12 arg13 arg14 ∗ semVal (tile d i, .dma arg17.sem) 0)
          ∗ Owed (tile d i) ι O W)) := by
  delta k0_part19
  conv => zeta
  iintro ⟨#Hm, ⟨HF, H2b, H7b, HS⟩, ⟨Hsa, Hda, Hva⟩, ⟨Hsb, Hdb, Hvb⟩, H6, Hv6, HO⟩
  iapply (wait_one EC ι (c := tile d i) (src := featSrc i arg2) (dst := featDst arg7) (View.dmaCredit_pos _ (by decide))) $$ [HF HO]
  · isplitr; · iexact Hm
    isplitl [HF]; · iexact HF
    iexact HO
  iintro ⟨H7, H2, Hv15, HO⟩
  ihave H2 := H2b $$ H2
  ihave H7 := H7b $$ %_ H7
  icases H7 with ⟨%tbl, %htbl, H7⟩
  iapply (fly EC ι N (T := tile d i) (40000 * group i + 8000 * (0 % 5)) (off3_eq i) h9 h10 h11) $$ [Hsa Hda Hva]
  · isplitl [Hsa]; · iexact Hsa
    isplitl [Hda]; · iexact Hda
    iexact Hva
  iintro HA
  rw [wp_bind]
  iapply (Scf.wp_for frame (wpE defs 𝒱 (tile d i) bd) Set.univ k0_t2_loop.lb k0_t2_loop.ub k0_t2_loop.st k0_t2_ok _ _
    (fun m _ => iprop(MayWaits (tile d i) ι O ∗ Between i arg3 arg4 arg5 arg7 arg8 arg9 arg10 arg11 arg12 arg13 arg14 arg16 arg17 EC ι N A tbl f3 f4 f5 qa qb O W m)) ?_) $$ [HA Hsb Hdb Hvb HO H7 HS H2 Hv15 H6 Hv6]
  · intro t a
    have ht : t.val < 5 := t.isLt
    unfold Between
    iintro ⟨#Hm, HA, Hs, Hd, Hv, HO, HT, HS⟩
    rw [wp_bind]
    iapply (wp_wand frame (wpE defs 𝒱 (tile d i) bd) Set.univ) $$ [HA Hs Hd Hv HO HT HS]
    · iapply (part17_run i arg2 harg2 arg3 harg3 arg4 harg4 arg5 harg5 arg6 harg6 arg7 harg7 arg8 harg8 arg9 harg9 arg10 harg10 arg11 harg11 arg12 harg12 arg13 harg13 arg14 harg14 arg15 arg16 arg17 v58_r0 EC ι N h9 h10 h11 h12 h13 h14 hN hr hc tbl (firstEdges i arg3 arg4 arg5 A tbl f3 f4 f5 (8000 * t.val)) (40000 * group i + 8000 * (t.val % 5)))
      isplitr; · iexact Hm
      isplitl [HA]; · iexact HA
      isplitl [Hs]; · iexact Hs
      isplitl [Hd]; · iexact Hd
      isplitl [Hv]; · iexact Hv
      isplitl [HO]; · iexact HO
      isplitl [HT]; · iexact HT
      iexact HS
    iintro %v ⟨HB, Hs, Hd, Hv, HO, HT, HS⟩
    obtain ⟨v81, v86, v87⟩ := v
    iapply (fly EC ι N (T := tile d i) (40000 * group i + 8000 * ((t.val + 1) % 5)) (off6_eq i t) h9 h10 h11) $$ [Hs Hd Hv]
    · isplitl [Hs]; · iexact Hs
      isplitl [Hd]; · iexact Hd
      iexact Hv
    iintro HA
    iapply (land EC ι N (T := tile d i) (40000 * group i + (8000 * t.val + 4000)) h12 h13 h14 hN) $$ [HB HO]
    · isplitr; · iexact Hm
      isplitl [HB]; · iexact HB
      iexact HO
    iintro ⟨⟨H12, H13, H14⟩, Hs, Hv, HO⟩
    rw [wp_bind]
    iapply (wp_wand frame (wpE defs 𝒱 (tile d i) bd) Set.univ) $$ [HT H12 H13 H14 HS]
    · iapply (loop_t14 i arg2 harg2 arg3 harg3 arg4 harg4 arg5 harg5 arg6 harg6 arg7 harg7 arg8 harg8 arg9 harg9 arg10 harg10 arg11 harg11 arg12 harg12 arg13 harg13 arg14 harg14 arg15 arg16 arg17 v58_r0 tbl (chunkAt (arg3.view.read (Elt F) f3) (40000 * group i + (8000 * t.val + 4000))) (chunkAt (arg4.view.read (Elt F) f4) (40000 * group i + (8000 * t.val + 4000))) (chunkAt (arg5.view.read (Elt F) f5) (40000 * group i + (8000 * t.val + 4000))) (fun x => hr _) (fun x => hc _) _ _ _ _)
      unfold Inputs
      isplitl [HT H12 H13 H14]
      · isplitl [HT]; · iexact HT
        isplitl [H12]; · iexact H12
        isplitl [H13]; · iexact H13
        iexact H14
      · iexact HS
    iintro %v ⟨HI, HS⟩
    unfold Inputs
    icases HI with ⟨HT, H12, H13, H14⟩
    rw [wp_pure]
    imodintro
    isplitr; · iexact Hm
    isplitl [HA]; · iexact HA
    isplitl [Hs]; · iexact Hs
    isplitl [H12 H13 H14]
    · unfold Room
      isplitl [H12]; · iapply Free.of; iexact H12
      isplitl [H13]; · iapply Free.of; iexact H13
      iapply Free.of; iexact H14
    isplitl [Hv]; · iexact Hv
    isplitl [HO]; · iexact HO
    isplitl [HT]; · iexact HT
    rw [chunkSum_at, two_chunks (edgeOf A tbl (arg3.view.read (Elt F) f3) (arg4.view.read (Elt F) f4) (arg5.view.read (Elt F) f5)) (40000 * group i) ht]
    iexact HS
  · isplitl [HA Hsb Hdb Hvb HO H7 HS]
    · isplitr; · iexact Hm
      unfold Between
      isplitl [HA]; · iexact HA
      isplitl [Hsb]; · iexact Hsb
      isplitl [Hdb]; · iexact Hdb
      isplitl [Hvb]; · iexact Hvb
      isplitl [HO]; · iexact HO
      isplitl [H7]; · iexact H7
      rw [show firstEdges i arg3 arg4 arg5 A tbl f3 f4 f5 (8000 * 0) = 0 from Finset.sum_range_zero _]
      iexact HS
    · iintro %a ⟨-, HZ⟩
      unfold Between
      icases HZ with ⟨HA, Hsb, Hdb, Hvb, HO, H7, HS⟩
      iapply (land EC ι N (T := tile d i) (40000 * group i + 8000 * (k0_t2_loop.trips % 5)) h9 h10 h11 hN) $$ [HA HO]
      · isplitr; · iexact Hm
        isplitl [HA]; · iexact HA
        iexact HO
      iintro ⟨⟨H9, H10, H11⟩, Hsa, Hva, HO⟩
      unfold Booked
      icases HS with ⟨%x8, %hx8, HS⟩
      have hHeld : Held (Ix := Ix) (Name := Name) (U := U) (Lvl := Lvl) (tile d i) arg8 fullShare x8 ⊢ iprop(∃ f, ⌜arg8.view.read (Elt F) f = x8⌝ ∗ Lent (tile d i) arg8 fullShare f) := by
        unfold Held Lent; exact BIBase.Entails.rfl
      ihave HS' := hHeld $$ HS
      icases HS' with ⟨%f8, %hf8, HS⟩
      ihave HS' := (lend_slice (Rect.unit (s := S50048) ![0] S50000.size inb_S50048_S50000_0) (fun _ => rfl)) $$ HS
      icases HS' with ⟨HS, HSb⟩
      iapply (start_one EC ι (c := tile d i) (src := accSrc arg8) (dst := outDst i arg6) (x := x6)) $$ [HS H6 Hv6]
      · isplitl [HS]; · iexact HS
        isplitl [H6]; · iexact H6
        iexact Hv6
      iintro HB
      rw [wp_pure]
      imodintro
      iexists tbl
      iexists f8
      isplitr; · ipureintro; exact htbl
      isplitr
      · ipureintro
        intro j
        subst hf8
        exact hx8 _
      isplitl [HB]; · iexact HB
      isplitl [HSb]; · iexact HSb
      isplitl [H2]; · iexact H2
      isplitl [H7]; · iexact H7
      isplitl [Hv15]; · iexact Hv15
      isplitl [Hsa H9 H10 H11 Hva]
      · isplitl [Hsa]; · iexact Hsa
        isplitl [H9 H10 H11]
        · unfold Room
          isplitl [H9]; · iapply Free.of; iexact H9
          isplitl [H10]; · iapply Free.of; iexact H10
          iapply Free.of; iexact H11
        iexact Hva
      isplitl [Hsb Hdb Hvb]
      · isplitl [Hsb]; · iexact Hsb
        isplitl [Hdb]; · iexact Hdb
        iexact Hvb
      iexact HO

/-- The `n`-th feature word. -/
def farT (n : Nat) : S200000.Idx := fun a => ⟨n % 200000, by obtain rfl := Fin.eq_zero a; exact Nat.mod_lt _ (by decide)⟩

/-- The table of features that starts at word `b`. -/
def tableAt (x : S200000.Idx → F .f32) (b : Nat) : Vec F S50048 .f32 := fun j => x (farT (b + (j 0).val))

/-- What the tile of group `g` with feature block `b` adds up, element by element of its accumulator. -/
def tileSum (A : Acct F) (x : S200000.Idx → F .f32) (r c : Vec F S320000 .i32) (w : Vec F S320000 .f32) (g b : Nat) : S50048.Idx → A.M :=
  ∑ e ∈ Finset.range 40000, edgeOf A (tableAt x (50000 * b)) r c w (40000 * g + e)

/-- Only the table's first fifty thousand words are read. -/
theorem edge_congr (A : Acct F) {t t' : Vec F S50048 .f32} (h : ∀ n, n < 50000 → t (at1 n) = t' (at1 n)) {r : BitVec 32} (hr : r.toNat < 10000) (c : BitVec 32) (w : F .f32) :
    edge A t r c w = edge A t' r c w := by
  unfold edge edge1
  rw [h (r.toNat + 0) (by omega), h (r.toNat + 10000) (by omega), h (r.toNat + 20000) (by omega), h (r.toNat + 30000) (by omega), h (r.toNat + 40000) (by omega)]

theorem table_eq {T : Thread nD τ} {m : Memref sig T.2.kind .hbm S200000 .f32} (f : Buf (Elt F) (m.view.loc T)) {off : Fin 1 → Nat} (hin : ∀ a, off a + S50000.size a ≤ S200000.size a)
    {b : Nat} (ho : off = ![b]) {tbl : Vec F S50048 .f32}
    (h : ∀ j, tbl ((Rect.unit (s := S50048) ![0] S50000.size inb_S50048_S50000_0).emb j) = (m.slice (Rect.unit (s := S200000) off S50000.size hin) (fun _ => rfl)).view.read (Elt F) f j) (n : Nat) (hn : n < 50000) :
    tbl (at1 n) = tableAt (m.view.read (Elt F) f) b (at1 n) := by
  subst ho
  let j : S50000.Idx := fun a => ⟨n, by obtain rfl := Fin.eq_zero a; exact hn⟩
  have h1 : (Rect.unit (s := S50048) ![0] S50000.size inb_S50048_S50000_0).emb j = at1 n := by
    funext a
    obtain rfl := Fin.eq_zero a
    refine Fin.ext ?_
    show 0 + 1 * n = n % 50048
    rw [Nat.mod_eq_of_lt (by omega)]; omega
  rw [← h1, h j]
  show m.view.read (Elt F) f ((Rect.unit (s := S200000) ![b] S50000.size hin).emb j) = m.view.read (Elt F) f (farT _)
  refine congrArg (m.view.read (Elt F) f) (funext fun a => ?_)
  obtain rfl := Fin.eq_zero a
  refine Fin.ext ?_
  show b + 1 * n = (b + ((Rect.unit (s := S50048) ![0] S50000.size inb_S50048_S50000_0).emb j 0).val) % 200000
  rw [head_val]
  show b + 1 * n = (b + n) % 200000
  have h0 : b + 50000 ≤ 200000 := hin 0
  rw [Nat.mod_eq_of_lt (by omega)]
  omega

/-- The tile's own memory, semaphores at zero, and shares of what it reads. -/
def Gear (q : PosShare TreeShare) (f2 : Buf (Elt F) (arg2.view.loc (tile d i))) (f3 : Buf (Elt F) (arg3.view.loc (tile d i))) (f4 : Buf (Elt F) (arg4.view.loc (tile d i))) (f5 : Buf (Elt F) (arg5.view.loc (tile d i)))
    (qa qb : PosShare TreeShare) : sProp 𝕄 :=
  iprop((Lent (tile d i) arg2 q f2 ∗ Free (tile d i) arg7 ∗ Free (tile d i) arg8 ∗ semVal (tile d i, .dma arg15.sem) 0)
    ∗ (Three (tile d i) arg3 arg4 arg5 qa f3 f4 f5 ∗ Room (tile d i) arg9 arg10 arg11 ∗ semVal (tile d i, .dma arg16.sem) 0)
    ∗ (Three (tile d i) arg3 arg4 arg5 qb f3 f4 f5 ∗ Room (tile d i) arg12 arg13 arg14 ∗ semVal (tile d i, .dma arg17.sem) 0)
    ∗ semVal (tile d i, .dma v58_r0.sem) 0)

set_option maxHeartbeats 4000000 in
/-- The tile's run: its stretch of the result ends at its sums, everything else as it was. -/
theorem body_run [Infinite Name] [EC.LandsIn (upEmb : UEmb _ (MT nD τ sig Ix (Elt F) Name U Lvl))]
    (h9 : arg9.view.dmaCredit = N) (h10 : arg10.view.dmaCredit = N) (h11 : arg11.view.dmaCredit = N)
    (h12 : arg12.view.dmaCredit = N) (h13 : arg13.view.dmaCredit = N) (h14 : arg14.view.dmaCredit = N) (hN : 0 < N)
    (hr : ∀ x, (show BitVec 32 from arg3.view.read (Elt F) f3 x).toNat < 10000) (hc : ∀ x, (show BitVec 32 from arg4.view.read (Elt F) f4 x).toNat < 10000)
    (q : PosShare TreeShare) (f2 : Buf (Elt F) (arg2.view.loc (tile d i))) :
    iprop((MayWaits (tile d i) ι O : sProp 𝕄) ∗ Gear i arg2 arg3 arg4 arg5 arg7 arg8 arg9 arg10 arg11 arg12 arg13 arg14 arg15 arg16 arg17 v58_r0 q f2 f3 f4 f5 qa qb
        ∗ Free (tile d i) (outDst i arg6) ∗ Owed (tile d i) ι O W)
      ⊢ wp frame (wpE defs 𝒱 (tile d i) bd) Set.univ (cc0__edge_body (F := F) i arg2 harg2 arg3 harg3 arg4 harg4 arg5 harg5 arg6 harg6 arg7 harg7 arg8 harg8 arg9 harg9 arg10 harg10 arg11 harg11 arg12 harg12 arg13 harg13 arg14 harg14 arg15 arg16 arg17 v58_r0)
        (fun _ => iprop(Gear (Ix := Ix) (Name := Name) (U := U) (Lvl := Lvl) i arg2 arg3 arg4 arg5 arg7 arg8 arg9 arg10 arg11 arg12 arg13 arg14 arg15 arg16 arg17 v58_r0 q f2 f3 f4 f5 qa qb
          ∗ Booked A (tile d i) (outDst i arg6) (fun j => tileSum A (arg2.view.read (Elt F) f2) (arg3.view.read (Elt F) f3) (arg4.view.read (Elt F) f4) (arg5.view.read (Elt F) f5)
              (group i) ((16 * (i 0).val + (i 1).val) % 4) ((Rect.unit (s := S50048) ![0] S50000.size inb_S50048_S50000_0).emb j))
          ∗ Owed (tile d i) ι O W)) := by
  delta cc0__edge_body
  conv => zeta
  unfold Gear
  iintro ⟨#Hm, ⟨Hf, Ha, Hb, Hv⟩, H6, HO⟩
  rw [wp_bind]
  iapply (wp_wand frame (wpE defs 𝒱 (tile d i) bd) Set.univ) $$ [Hf]
  · iapply (part18_run i arg2 harg2 arg3 harg3 arg4 harg4 arg5 harg5 arg6 harg6 arg7 harg7 arg8 harg8 arg9 harg9 arg10 harg10 arg11 harg11 arg12 harg12 arg13 harg13 arg14 harg14 arg15 arg16 arg17 v58_r0 EC ι (A := A) q f2)
    iexact Hf
  iintro %v HF
  obtain ⟨v1, v18, v28⟩ := v
  have hFree : Free (F := F) (Ix := Ix) (Name := Name) (U := U) (Lvl := Lvl) (tile d i) (outDst i arg6) ⊢ iprop(∃ x : S50000.Idx → F .f32, Held (tile d i) (outDst i arg6) fullShare x) := by
    unfold Free; exact BIBase.Entails.refl
  ihave H6 := hFree $$ H6
  icases H6 with ⟨%x6, H6⟩
  dsimp only
  rw [wp_bind]
  iapply (wp_wand frame (wpE defs 𝒱 (tile d i) bd) Set.univ) $$ [HF Ha Hb H6 Hv HO]
  · iapply (part19_run i arg2 harg2 arg3 harg3 arg4 harg4 arg5 harg5 arg6 harg6 arg7 harg7 arg8 harg8 arg9 harg9 arg10 harg10 arg11 harg11 arg12 harg12 arg13 harg13 arg14 harg14 arg15 arg16 arg17 v58_r0 EC ι N h9 h10 h11 h12 h13 h14 hN hr hc q f2 v1 v18 v28 x6)
    isplitr; · iexact Hm
    isplitl [HF]; · iexact HF
    isplitl [Ha]; · iexact Ha
    isplitl [Hb]; · iexact Hb
    isplitl [H6]; · iexact H6
    isplitl [Hv]; · iexact Hv
    iexact HO
  iintro %u ⟨%tbl, %f8, %htbl, %hf8, HB, HSb, H2, H7, Hv15, Ha, Hb, HO⟩
  iapply (wait_one EC ι (c := tile d i) (src := accSrc arg8) (dst := outDst i arg6) (View.dmaCredit_pos _ (by decide))) $$ [HB HO]
  · isplitr; · iexact Hm
    isplitl [HB]; · iexact HB
    iexact HO
  iintro ⟨H6, H8, Hv, HO⟩
  ihave H8 := HSb $$ H8
  rw [wp_pure]
  imodintro
  isplitl [H2 H7 H8 Hv15 Ha Hb Hv]
  · isplitl [H2 H7 H8 Hv15]
    · isplitl [H2]; · iexact H2
      isplitl [H7]; · iapply Free.of; iexact H7
      isplitl [H8]
      · iapply (Free.of (x := arg8.view.read (Elt F) f8))
        unfold Held Lent
        iexists f8
        isplitr
        · ipureintro; rfl
        · iexact H8
      iexact Hv15
    isplitl [Ha]; · iexact Ha
    isplitl [Hb]; · iexact Hb
    iexact Hv
  isplitr [HO]
  · unfold Booked
    iexists ((accSrc arg8).view.read (Elt F) f8)
    isplitr
    · ipureintro
      intro j
      have h := hf8 j
      have he : firstEdges i arg3 arg4 arg5 A tbl f3 f4 f5 40000 = tileSum A (arg2.view.read (Elt F) f2) (arg3.view.read (Elt F) f3) (arg4.view.read (Elt F) f4) (arg5.view.read (Elt F) f5)
              (group i) ((16 * (i 0).val + (i 1).val) % 4) :=
        Finset.sum_congr rfl fun e _ => edge_congr A (fun n hn => table_eq (T := tile d i) f2 (k0_off1_inb i) (off1_eq i) htbl n hn) (hr _) _ _
      rw [he] at h
      exact h
    · iexact H6
  · iexact HO

end Run

end Cert.Proof.Body
-- ==== Proof.Deal.lean ====
/-
  A call's arrays and its thirty-two tiles: read shares dealt out and taken back, an array cut into one piece per tile
  and joined again, and a tile's whole buffers.
-/
module

public import proofs.«01_k».proof.Proof.Moves
public import Idealize.ShloMosaic.Lib.SparseCore.Ops
public import Idealize.ShloMosaic.Lib.SparseCore.Quiescent
public import Idealize.ShloMosaic.Lib.Ring

@[expose] public section

noncomputable section

namespace Cert.Proof.Deal

open Idealize.ShloMosaic
open Idealize.SL Idealize.SL.RA Idealize.SL.BI
open scoped Idealize.SL.BI
open Idealize.SL.BI.BIBase Idealize.SL.BI.Laws Idealize.SL.ProofMode Idealize.SL.Sem
open Cert.Proof.Account Cert.Proof.Moves

variable {nD : Nat} {τ : Topo} {sig : RefSig} {F : FTy → Type}
variable {Ix : Type} [DecidableEq Ix] {Name : Type} [DecidableEq Name] {U : Type} [URA U] {Lvl : Type} [Preorder Lvl]

local notation "𝕄" => MT nD τ sig Ix (Elt F) Name U Lvl

/-! ## Whole buffers -/

/-- A whole buffer at some contents. -/
abbrev Any (c : Thread nD τ) (b : Ref sig c.2.kind) : sProp 𝕄 := iprop(∃ f, c.loc b ↦{fullShare} f)

/-- It reads something, and the other way round. -/
theorem free_of_any (c : Thread nD τ) (b : Ref sig c.2.kind) : (Any c b : sProp 𝕄) ⊢ Free c (Memref.whole b) := by
  unfold Free Held
  iintro ⟨%f, H⟩
  iexists _
  iexists f
  isplitr
  · ipureintro; rfl
  · rw [View.set_whole]
    iexact H

theorem any_of_free (c : Thread nD τ) (b : Ref sig c.2.kind) : (Free c (Memref.whole b) : sProp 𝕄) ⊢ Any c b := by
  unfold Free Held
  iintro ⟨%x, %f, -, H⟩
  iexists f
  rw [View.set_whole]
  iexact H

theorem lent_whole (c : Thread nD τ) (b : Ref sig c.2.kind) (q : PosShare TreeShare) (f : Buf (Elt F) (c.loc b)) :
    (Lent c (Memref.whole b) q f : sProp 𝕄) = (c.loc b ↦{q} f) := by
  unfold Lent
  rw [View.set_whole]

/-! ## Read shares -/

/-- Tile `n`'s read share. -/
abbrev tok (n : Fin 32) : PosShare TreeShare := Transfers.shareTokN fullShare n.val

theorem toks (ℓ : Loc nD τ sig) (f : Buf (Elt F) ℓ) :
    (ℓ ↦{fullShare} f : sProp 𝕄) ⊣⊢ iprop((ℓ ↦{Transfers.shareDrop fullShare 32} f) ∗ bigSep Finset.univ fun n : Fin 32 => ℓ ↦{tok n} f) := by
  have h : (ℓ ↦{fullShare} f : sProp 𝕄) ⊣⊢ iprop((ℓ ↦{Transfers.shareDrop fullShare 32} f) ∗ bigSep (Finset.range 32) fun i => ℓ ↦{Transfers.shareTokN fullShare i} f) :=
    Transfers.pointsTo_toks_range (ℓ := ℓ) (S := Finset.univ) (f := f) fullShare 32
  rw [← Ring.bigSep_fin_eq_range 32 (fun n : Fin 32 => (ℓ ↦{tok n} f : sProp 𝕄)) (fun i => (ℓ ↦{Transfers.shareTokN fullShare i} f : sProp 𝕄)) (fun _ _ => rfl)] at h
  exact h

/-- The number of the tile on subcore `i` of core `c`. -/
abbrev num (c : Fin 2) (i : Fin 16) : Fin 32 := finProdFinEquiv (c, i)

theorem bigSep_num (Φ : Fin 32 → sProp 𝕄) :
    (bigSep Finset.univ fun c : Fin 2 => bigSep Finset.univ fun i : Fin 16 => Φ (num c i)) = bigSep Finset.univ Φ := by
  rw [BI.bigSep_univ_equiv (finProdFinEquiv (m := 2) (n := 16)) Φ, BI.bigSep_univ_prod]

/-! ## An array in pieces -/

section Pieces
variable {ℓ : Loc nD τ sig} (piece : Fin 32 → Finset (Idx ℓ)) (hdis : ∀ i j, i ≠ j → Disjoint (piece i) (piece j)) (hall : Finset.univ.biUnion piece = Finset.univ)
include hdis hall

theorem cut (f : Buf (Elt F) ℓ) : (ℓ ↦{fullShare} f : sProp 𝕄) = bigSep Finset.univ fun n : Fin 32 => ℓ ↦[piece n]{fullShare} f := by
  rw [← pointsTo_biUnion Finset.univ (ℓ := ℓ) piece (fun i _ j _ h => hdis i j h), hall]

/-- Pieces each with a property of the piece alone are an array with the property of every piece. -/
theorem join (R : Fin 32 → Buf (Elt F) ℓ → Prop) (hR : ∀ n f g, (∀ i ∈ piece n, g i = f i) → R n f → R n g) (f₀ : Buf (Elt F) ℓ) :
    (bigSep Finset.univ fun n : Fin 32 => iprop(∃ f : Buf (Elt F) ℓ, ⌜R n f⌝ ∗ ℓ ↦[piece n]{fullShare} f))
      ⊢ (iprop(∃ f, ⌜∀ n, R n f⌝ ∗ ℓ ↦{fullShare} f) : sProp 𝕄) := by
  haveI : Nonempty (Buf (Elt F) ℓ) := ⟨f₀⟩
  refine (bigSep_exists_pi Finset.univ (fun n (f : Buf (Elt F) ℓ) => iprop(⌜R n f⌝ ∗ ℓ ↦[piece n]{fullShare} f))).trans ?_
  iintro ⟨%fs, H⟩
  ihave H' := (bigSep_pure_sep Finset.univ (fun n : Fin 32 => R n (fs n)) (fun n => ℓ ↦[piece n]{fullShare} (fs n))) $$ H
  icases H' with ⟨%hs, H⟩
  ihave H' := (pointsTo_biUnion_join (ℓ := ℓ) (q := fullShare) (Val := Elt F) Finset.univ piece fs f₀ (fun i _ j _ h => hdis i j h)) $$ H
  icases H' with ⟨%g, %hg, Hg⟩
  rw [hall]
  iexists g
  isplitr
  · ipureintro
    intro n
    exact hR n (fs n) g (fun i hi => hg n (Finset.mem_univ _) i hi) (hs n (Finset.mem_univ _))
  · iexact Hg

end Pieces

/-! ## What a run leaves -/

/-- An array held whole is what the memory has. -/
theorem whole_agree (s' : Phys nD τ sig (Elt F)) (ℓ : Loc nD τ sig) (f : Buf (Elt F) ℓ) :
    (iprop((ℓ ↦{fullShare} f) ∗ SI s') : sProp 𝕄) ⊢ iprop(⌜s'.mem.mem ℓ = f⌝ ∗ SI s') := by
  iintro ⟨H, HSI⟩
  ihave H' := (persistent_entails_right (SI_pointsTo_agree (st := s') (ℓ := ℓ) (I := Finset.univ) (q := fullShare) (f := f))) $$ [HSI H]
  · isplitl [HSI] <;> iassumption
  icases H' with ⟨%h, HSI, -⟩
  isplitr
  · ipureintro
    exact funext fun (i : Idx ℓ) => h i (by simp)
  · iexact HSI

end Cert.Proof.Deal

end
-- ==== Proof.Launch.lean ====
/-
  The launch of the edge call: thirty-two tiles, each with read shares of the features and of the edge list and
  with its own stretch of the result, and what the whole run leaves.
-/
module

public import proofs.«01_k».proof.Proof.Tile
public import proofs.«01_k».proof.Proof.Deal
public import Idealize.ShloMosaic.Lib.SparseCore.Quiescent
public import Idealize.ShloMosaic.Lib.SparseCore.Ops
public import Idealize.ShloMosaic.Lib.Pipeline.Kit

@[expose] public section

noncomputable section

namespace Cert.Proof.Launch

open Cert.KernelIdeal Cert.KernelIdeal.Facts₀ Cert.KernelIdeal.Facts
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Account Cert.Proof.Edge Cert.Proof.Moves Cert.Proof.Body Cert.Proof.Deal

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL
/-- Where the copies count. -/
def EC : UEmb Counters (MT nD τ sig (HIx 1) (Elt F) ℕ UU ℕ) := (UEmb.inr : UEmb Counters (UH × Counters)).trans uEmb
instance EC_landsIn : (EC (F := F)).LandsIn (upEmb : UEmb _ (MT nD τ sig (HIx 1) (Elt F) ℕ UU ℕ)) := by unfold EC; infer_instance

/-! ## The arrays and the tiles' stretches of the result -/

variable (m : (ℓ : Loc nD τ sig) → Buf (Elt F) ℓ) (ρ : Dev nD → PrngReg)

abbrev xLoc (d : Dev nD) : Loc nD τ sig := (SparseCore.T d).loc main_arg0
abbrev rLoc (d : Dev nD) : Loc nD τ sig := (SparseCore.T d).loc main_arg1
abbrev cLoc (d : Dev nD) : Loc nD τ sig := (SparseCore.T d).loc main_arg2
abbrev wLoc (d : Dev nD) : Loc nD τ sig := (SparseCore.T d).loc main_arg3
abbrev oLoc (d : Dev nD) : Loc nD τ sig := (SparseCore.T d).loc main_v0

theorem div32 : 32 ∣ S1600000.size 0 := ⟨50000, rfl⟩
/-- The stretch of the result that tile `n` writes. -/
abbrev stretch (n : Fin 32) : Rect S1600000 := Rect.part (s := S1600000) (a₀ := 0) div32 n
abbrev stretchSet (n : Fin 32) : Finset S1600000.Idx := (stretch n).set
/-- The `j`-th element of tile `n`'s stretch. -/
def outAt (n : Fin 32) (j : S50000.Idx) : S1600000.Idx := fun a => ⟨50000 * n.val + (j 0).val, by
  obtain rfl := Fin.eq_zero a
  have h := n.isLt; have h' : (j 0).val < 50000 := (j 0).isLt
  show _ < 1600000
  omega⟩

variable [FloatOps F]

/-- What tile `n` leaves at the `j`-th element of its stretch, in the account. -/
def sumAtTile (A : Acct F) (d : Dev nD) (n : Fin 32) (j : S50000.Idx) : A.M :=
  tileSum A (m (xLoc d)) (m (rLoc d)) (m (cLoc d)) (m (wLoc d)) (n.val / 4) (n.val % 4) ((Rect.unit (s := S50048) ![0] S50000.size inb_S50048_S50000_0).emb j)

/-- Tile `n`'s read shares. -/
abbrev reads (d : Dev nD) (q : PosShare TreeShare) : sProp 𝕄 :=
  iprop((xLoc d ↦{q} m (xLoc d)) ∗ (rLoc d ↦{q} m (rLoc d)) ∗ (cLoc d ↦{q} m (cLoc d)) ∗ (wLoc d ↦{q} m (wLoc d)))
abbrev stretchPts (d : Dev nD) (n : Fin 32) (f : Buf (Elt F) (oLoc d)) : sProp 𝕄 := oLoc d ↦[stretchSet n]{fullShare} f
abbrev given (d : Dev nD) (n : Fin 32) : sProp 𝕄 := iprop(reads m d (tok n) ∗ stretchPts d n (m (oLoc d)))
abbrev taken (A : Acct F) (d : Dev nD) (n : Fin 32) : sProp 𝕄 :=
  iprop(reads m d (tok n) ∗ ∃ f : Buf (Elt F) (oLoc d), ⌜∀ j, A.rep (f (outAt n j)) (sumAtTile m A d n j)⌝ ∗ stretchPts d n f)

variable (A : Acct F)

/-- What the handshakes carry: each core takes what its sixteen tiles take and brings back what they bring back. -/
def P : (K (F := F)).Pay (nD := nD) (Val := Elt F) (Name := ℕ) (U := UU) where
  st := fun q d c => match q with | 0 => bigSep Finset.univ fun i : Fin 16 => given m d (num c i)
  dn := fun q d c => match q with | 0 => bigSep Finset.univ fun i : Fin 16 => taken m A d (num c i)
  go := fun q d c i => match q with | 0 => given m d (num c i)
  td := fun q d c i => match q with | 0 => taken m A d (num c i)
  x := fun _ _ => iprop(emp)

instance P_storable : (P (F := F) m A).IsStorable where
  st q d c := match q with
    | 0 => (inferInstance : BI.Storable (upEmb : UEmb _ 𝕄) (bigSep Finset.univ fun i : Fin 16 => given m d (num c i)))
  dn q d c := match q with
    | 0 => (inferInstance : BI.Storable (upEmb : UEmb _ 𝕄) (bigSep Finset.univ fun i : Fin 16 => taken m A d (num c i)))
  go q d c i := match q with
    | 0 => (inferInstance : BI.Storable (upEmb : UEmb _ 𝕄) (given m d (num c i)))
  td q d c i := match q with
    | 0 => (inferInstance : BI.Storable (upEmb : UEmb _ 𝕄) (taken m A d (num c i)))

/-- Every edge joins two of the ten thousand nodes. -/
def InRange : Prop := ∀ (d : Dev nD) (e : S320000.Idx), (m (rLoc d) e).toNat < 10000 ∧ (m (cLoc d) e).toNat < 10000

/-! ## One tile -/

section Tile

variable (d : Dev nD) (L : grid0.Coords)

abbrev cV (L : grid0.Coords) : Fin τ.nSC := (L 0).castLE hcore0
abbrev jV (L : grid0.Coords) : Fin τ.nSub := (L 1).castLE hsub0
abbrev VT (d : Dev nD) (L : grid0.Coords) : Thread nD τ := V d (cV L) (jV L)
/-- The number of the tile at grid point `L`. -/
abbrev numL (L : grid0.Coords) : Fin 32 := num (L 0) (L 1)

theorem numL_val : (numL L).val = 16 * (L 0).val + (L 1).val := by
  show (L 1).val + 16 * (L 0).val = _
  omega

/-- The tile's scratch buffers. -/
abbrev scratch : Fin 8 → Ref sig .scVector := ![cc0_scratch0, cc0_scratch1, cc0_scratch2, cc0_scratch3, cc0_scratch4, cc0_scratch5, cc0_scratch6, cc0_scratch7]
theorem scratch_inj : Function.Injective scratch := by decide
abbrev sref (c : Fin τ.nSC) (i : Fin τ.nSub) (k : Fin 8) : DevRef τ sig := (Proc.scVector c i).devRef (scratch k)
/-- The tile's semaphores. -/
abbrev dcell (d : Dev nD) (c : Fin τ.nSC) (i : Fin τ.nSub) (k : Fin 4) : GSem nD τ sig := (V d c i, .dma (⟨k.val, k.isLt⟩ : DmaSem sig))

omit [FloatOps F] in
theorem ownSems0_V :
    (ownSems0 (VT d L) : sProp 𝕄)
      = iprop((semVal (VT d L, SemLoc.dma cc0_scratch8.sem) 0 ∗ semVal (VT d L, SemLoc.dma cc0_scratch9.sem) 0
            ∗ semVal (VT d L, SemLoc.dma cc0_scratch10.sem) 0 ∗ semVal (VT d L, SemLoc.dma cc0_scoped0.sem) 0)
          ∗ bigSep ((ownCells (VT d L)) \ Finset.univ.image (dcell d (cV L) (jV L))) fun g => semVal g 0) := by
  unfold SparseCore.Cfg.ownSems0
  rw [SparseCore.bigSep_sdiff_split' (t := Finset.univ.image (dcell d (cV L) (jV L)))
      (Finset.image_subset_iff.mpr fun k _ => mem_ownCells.mpr ⟨rfl, (show ∀ s : DmaSem sig, (SemLoc.dma s : SemLoc sig).isScoped .scVector = true by decide) _⟩),
    SparseCore.bigSep_image_of_injOn (fun a _ b _ h => by
      have := congrArg (fun g : GSem nD τ sig => g.2) h
      simp only [SemLoc.dma.injEq, Fin.mk.injEq] at this; exact Fin.ext this)]
  rw [show (Finset.univ : Finset (Fin 4)) = {0, 1, 2, 3} by decide,
    SparseCore.bigSep_insert' (by decide), SparseCore.bigSep_insert' (by decide), SparseCore.bigSep_insert' (by decide), bigSep_singleton]
  rfl

omit [FloatOps F] in
theorem ownBufs_V :
    (ownBufs (VT d L) : sProp 𝕄)
      = iprop((Any (VT d L) cc0_scratch0 ∗ Any (VT d L) cc0_scratch1 ∗ Any (VT d L) cc0_scratch2 ∗ Any (VT d L) cc0_scratch3
            ∗ Any (VT d L) cc0_scratch4 ∗ Any (VT d L) cc0_scratch5 ∗ Any (VT d L) cc0_scratch6 ∗ Any (VT d L) cc0_scratch7)
          ∗ bigSep ((ownRefs (τ := τ) (.scVector (cV L) (jV L))) \ Finset.univ.image (sref (cV L) (jV L)))
              fun b => iprop(∃ f, ((d, b) : Loc nD τ sig) ↦{fullShare} f)) := by
  unfold SparseCore.Cfg.ownBufs
  rw [SparseCore.bigSep_sdiff_split' (t := Finset.univ.image (sref (cV L) (jV L)))
      (Finset.image_subset_iff.mpr fun k _ => SparseCore.Cfg.mem_ownRefs_of_owner (p := Proc.scVector (cV L) (jV L)) (b := sref (cV L) (jV L) k) (by fin_cases k <;> rfl)),
    SparseCore.bigSep_image_of_injOn (fun a _ b _ h => scratch_inj (Proc.devRef_injective _ h))]
  rw [show (Finset.univ : Finset (Fin 8)) = {0, 1, 2, 3, 4, 5, 6, 7} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]
  rfl

/-- The tile's stretch of the result, as the body slices it. -/
abbrev outL : Memref sig .scVector .hbm S50000 .f32 := outDst L (Memref.whole main_v0_scv)

omit [FloatOps F] in
theorem rect_eq : Rect.unit (s := S1600000) (k0_off8 L) S50000.size (k0_off8_inb L) = stretch (numL L) := by
  unfold stretch Rect.part Rect.block
  congr 1 <;> funext a <;> obtain rfl := Fin.eq_zero a
  · rw [Gen.k0_off8_eq]
    have h := numL_val L
    show 800000 * (L 0).val + 50000 * (L 1).val = (numL L).val * 50000
    omega
  · rfl

omit [FloatOps F] in
theorem set_out : (outL L).view.set = stretchSet (numL L) := by
  show ((View.whole (main_v0_scv : Ref sig .scVector)).slice (Rect.unit (s := S1600000) (k0_off8 L) S50000.size (k0_off8_inb L))).set = _
  rw [View.set_slice, rect_eq]
  exact Finset.map_refl

omit [FloatOps F] in
theorem read_out (f : Buf (Elt F) (oLoc d)) (j : S50000.Idx) : (outL L).view.read (Elt F) f j = f (outAt (numL L) j) := by
  show f ((Rect.unit (s := S1600000) (k0_off8 L) S50000.size (k0_off8_inb L)).emb j) = _
  refine congrArg f (funext fun a => ?_)
  obtain rfl := Fin.eq_zero a
  refine Fin.ext ?_
  show k0_off8 L 0 + 1 * (j 0).val = 50000 * (numL L).val + (j 0).val
  rw [Gen.k0_off8_eq, numL_val]
  show 800000 * (L 0).val + 50000 * (L 1).val + 1 * (j 0).val = _
  omega

omit [FloatOps F] in
theorem out_free (f : Buf (Elt F) (oLoc d)) : (stretchPts d (numL L) f : sProp 𝕄) ⊢ Free (VT d L) (outL L) := by
  unfold Free Held stretchPts
  rw [← set_out]
  iintro H
  iexists _
  iexists f
  isplitr
  · ipureintro; rfl
  · iexact H

theorem out_booked : Booked (Ix := HIx 1) (Name := ℕ) (U := UU) (Lvl := ℕ) A (VT d L) (outL L) (sumAtTile m A d (numL L))
    ⊢ iprop(∃ f : Buf (Elt F) (oLoc d), ⌜∀ j, A.rep (f (outAt (numL L) j)) (sumAtTile m A d (numL L) j)⌝ ∗ stretchPts d (numL L) f) := by
  unfold Booked Held stretchPts
  rw [← set_out]
  iintro ⟨%x, %hx, %f, %hf, H⟩
  iexists f
  isplitr
  · ipureintro
    intro j
    have h := hx j
    rw [← hf, read_out] at h
    exact h
  · iexact H

omit [FloatOps F] in
/-- A share as two read shares and the rest. -/
theorem two_shares {ℓ : Loc nD τ sig} (q : PosShare TreeShare) (f : Buf (Elt F) ℓ) :
    (ℓ ↦{q} f : sProp 𝕄) ⊣⊢ iprop((ℓ ↦{Transfers.shareDrop q 2} f) ∗ (ℓ ↦{Transfers.shareTokN q 0} f) ∗ (ℓ ↦{Transfers.shareTokN q 1} f)) := by
  have h : (ℓ ↦{q} f : sProp 𝕄) ⊣⊢ iprop((ℓ ↦{Transfers.shareDrop q 2} f) ∗ bigSep (Finset.range 2) fun i => ℓ ↦{Transfers.shareTokN q i} f) :=
    Transfers.pointsTo_toks_range (ℓ := ℓ) (S := Finset.univ) (f := f) q 2
  rw [show Finset.range 2 = {0, 1} by decide, SparseCore.bigSep_insert' (by decide), bigSep_singleton] at h
  exact h

/-- The tile's memory and read shares, as its run holds them. -/
abbrev gear (q : PosShare TreeShare) : sProp 𝕄 :=
  Gear (Ix := HIx 1) (Name := ℕ) (U := UU) (Lvl := ℕ) L (Memref.whole main_arg0_scv) (Memref.whole main_arg1_scv) (Memref.whole main_arg2_scv) (Memref.whole main_arg3_scv)
    (Memref.whole cc0_scratch0) (Memref.whole cc0_scratch1) (Memref.whole cc0_scratch2) (Memref.whole cc0_scratch3) (Memref.whole cc0_scratch4)
    (Memref.whole cc0_scratch5) (Memref.whole cc0_scratch6) (Memref.whole cc0_scratch7) cc0_scratch8 cc0_scratch9 cc0_scratch10 cc0_scoped0
    q (d := d) (m (xLoc d)) (m (rLoc d)) (m (cLoc d)) (m (wLoc d)) (Transfers.shareTokN q 0) (Transfers.shareTokN q 1)

/-- What stays aside of the edge list's shares. -/
abbrev aside (q : PosShare TreeShare) : sProp 𝕄 :=
  iprop((rLoc d ↦{Transfers.shareDrop q 2} m (rLoc d)) ∗ (cLoc d ↦{Transfers.shareDrop q 2} m (cLoc d)) ∗ (wLoc d ↦{Transfers.shareDrop q 2} m (wLoc d)))

abbrev bufs : sProp 𝕄 :=
  iprop(Any (VT d L) cc0_scratch0 ∗ Any (VT d L) cc0_scratch1 ∗ Any (VT d L) cc0_scratch2 ∗ Any (VT d L) cc0_scratch3
    ∗ Any (VT d L) cc0_scratch4 ∗ Any (VT d L) cc0_scratch5 ∗ Any (VT d L) cc0_scratch6 ∗ Any (VT d L) cc0_scratch7)
abbrev sems : sProp 𝕄 :=
  iprop(semVal (VT d L, SemLoc.dma cc0_scratch8.sem) 0 ∗ semVal (VT d L, SemLoc.dma cc0_scratch9.sem) 0
    ∗ semVal (VT d L, SemLoc.dma cc0_scratch10.sem) 0 ∗ semVal (VT d L, SemLoc.dma cc0_scoped0.sem) 0)

omit [FloatOps F] in
theorem gear_of (q : PosShare TreeShare) : iprop(reads m d q ∗ bufs d L ∗ sems d L) ⊢ iprop(gear m d L q ∗ aside m d q) := by
  unfold gear Gear Three Room
  rw [lent_whole, lent_whole, lent_whole, lent_whole, lent_whole, lent_whole, lent_whole]
  iintro ⟨⟨Hx, Hr, Hc, Hw⟩, ⟨B0, B1, B2, B3, B4, B5, B6, B7⟩, ⟨S8, S9, S10, S0⟩⟩
  ihave Hr' := (two_shares q (m (rLoc d))).1 $$ Hr
  icases Hr' with ⟨Hr, Hr0, Hr1⟩
  ihave Hc' := (two_shares q (m (cLoc d))).1 $$ Hc
  icases Hc' with ⟨Hc, Hc0, Hc1⟩
  ihave Hw' := (two_shares q (m (wLoc d))).1 $$ Hw
  icases Hw' with ⟨Hw, Hw0, Hw1⟩
  isplitr [Hr Hc Hw]
  · isplitl [Hx B0 B1 S8]
    · isplitl [Hx]; · iexact Hx
      isplitl [B0]; · iapply (free_of_any _ cc0_scratch0); iexact B0
      isplitl [B1]; · iapply (free_of_any _ cc0_scratch1); iexact B1
      iexact S8
    isplitl [Hr0 Hc0 Hw0 B2 B3 B4 S9]
    · isplitl [Hr0 Hc0 Hw0]
      · isplitl [Hr0]; · iexact Hr0
        isplitl [Hc0]; · iexact Hc0
        iexact Hw0
      isplitl [B2 B3 B4]
      · isplitl [B2]; · iapply (free_of_any _ cc0_scratch2); iexact B2
        isplitl [B3]; · iapply (free_of_any _ cc0_scratch3); iexact B3
        iapply (free_of_any _ cc0_scratch4); iexact B4
      iexact S9
    isplitl [Hr1 Hc1 Hw1 B5 B6 B7 S10]
    · isplitl [Hr1 Hc1 Hw1]
      · isplitl [Hr1]; · iexact Hr1
        isplitl [Hc1]; · iexact Hc1
        iexact Hw1
      isplitl [B5 B6 B7]
      · isplitl [B5]; · iapply (free_of_any _ cc0_scratch5); iexact B5
        isplitl [B6]; · iapply (free_of_any _ cc0_scratch6); iexact B6
        iapply (free_of_any _ cc0_scratch7); iexact B7
      iexact S10
    iexact S0
  · isplitl [Hr]; · iexact Hr
    isplitl [Hc]; · iexact Hc
    iexact Hw

omit [FloatOps F] in
theorem of_gear (q : PosShare TreeShare) : iprop(gear m d L q ∗ aside m d q) ⊢ iprop(reads m d q ∗ bufs d L ∗ sems d L) := by
  unfold gear Gear Three Room
  rw [lent_whole, lent_whole, lent_whole, lent_whole, lent_whole, lent_whole, lent_whole]
  iintro ⟨⟨⟨Hx, B0, B1, S8⟩, ⟨⟨Hr0, Hc0, Hw0⟩, ⟨B2, B3, B4⟩, S9⟩, ⟨⟨Hr1, Hc1, Hw1⟩, ⟨B5, B6, B7⟩, S10⟩, S0⟩, ⟨Hr, Hc, Hw⟩⟩
  isplitl [Hx Hr0 Hr1 Hr Hc0 Hc1 Hc Hw0 Hw1 Hw]
  · isplitl [Hx]; · iexact Hx
    isplitl [Hr0 Hr1 Hr]
    · iapply (two_shares q (m (rLoc d))).2
      isplitl [Hr]; · iexact Hr
      isplitl [Hr0]; · iexact Hr0
      iexact Hr1
    isplitl [Hc0 Hc1 Hc]
    · iapply (two_shares q (m (cLoc d))).2
      isplitl [Hc]; · iexact Hc
      isplitl [Hc0]; · iexact Hc0
      iexact Hc1
    iapply (two_shares q (m (wLoc d))).2
    isplitl [Hw]; · iexact Hw
    isplitl [Hw0]; · iexact Hw0
    iexact Hw1
  isplitl [B0 B1 B2 B3 B4 B5 B6 B7]
  · isplitl [B0]; · iapply (any_of_free _ cc0_scratch0); iexact B0
    isplitl [B1]; · iapply (any_of_free _ cc0_scratch1); iexact B1
    isplitl [B2]; · iapply (any_of_free _ cc0_scratch2); iexact B2
    isplitl [B3]; · iapply (any_of_free _ cc0_scratch3); iexact B3
    isplitl [B4]; · iapply (any_of_free _ cc0_scratch4); iexact B4
    isplitl [B5]; · iapply (any_of_free _ cc0_scratch5); iexact B5
    isplitl [B6]; · iapply (any_of_free _ cc0_scratch6); iexact B6
    iapply (any_of_free _ cc0_scratch7); iexact B7
  isplitl [S8]; · iexact S8
  isplitl [S9]; · iexact S9
  isplitl [S10]; · iexact S10
  iexact S0

/-- The task at grid point `L`. -/
theorem tile_body (hF : (K (F := F)).Facts) (hpre : InRange m) (O : CellTallies nD τ sig (HIx 1)) (W : Waits sig (HIx 1)) (hO : ∀ g, O g none = 0) :
    iprop(levAts (K (F := F)).L (K (F := F)).lev ∗ emp ∗ given m d (numL L)
        ∗ scopedBufs (VT d L) ∗ scopedSems0 (VT d L) ∗ owes (VT d L) O W)
      ⊢ wp frame (wpE (defs₀ (F := F)) 𝒱₀ (VT d L) none) Set.univ
          (cc0__edge_body L (Memref.whole main_arg0_scv) (Memref.isWhole_whole _) (Memref.whole main_arg1_scv) (Memref.isWhole_whole _) (Memref.whole main_arg2_scv) (Memref.isWhole_whole _) (Memref.whole main_arg3_scv) (Memref.isWhole_whole _) (Memref.whole main_v0_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scoped0)
          fun _ => iprop(taken m A d (numL L) ∗ scopedBufs (VT d L) ∗ scopedSems0 (VT d L)
            ∗ ∃ W', ⌜∀ p ∈ W', p ∈ W ∨ p.2 = none ∨ p.2 = some (0 : Fin 1)⌝ ∗ owes (VT d L) O W') := by
  rw [(K (F := F)).scopedBufs_V hF d (cV L) (jV L), SparseCore.Cfg.scopedSems0_V (Val := Elt F) d (cV L) (jV L), ownSems0_V, ownBufs_V]
  iintro ⟨#Hlv, -, ⟨Hreads, Hout⟩, ⟨HB, Hbufs⟩, ⟨HS, Hsems⟩, HO⟩
  ihave Hmw := (show levAts (K (F := F)).L (K (F := F)).lev ⊢ Transfers.MayWaits (VT d L) (default : HIx 1) O from
    (K (F := F)).mayWaits_none (thr := VT d L) hO) $$ Hlv
  ihave Hg := (gear_of m d L (tok (numL L))) $$ [Hreads HB HS]
  · isplitl [Hreads]; · iexact Hreads
    isplitl [HB]; · iexact HB
    iexact HS
  icases Hg with ⟨Hg, Haside⟩
  iapply (wp_wand_r Idealize.ShloMosaic.frame (wpE (defs₀ (F := F)) 𝒱₀ (VT d L) none) Set.univ)
  isplitl [Hg Hout HO Hmw]
  · iapply (body_run (F := F) (Ix := HIx 1) (Name := ℕ) (U := UU) (Lvl := ℕ) (A := A) (d := d) L (Memref.whole main_arg0_scv) (Memref.isWhole_whole _) (Memref.whole main_arg1_scv) (Memref.isWhole_whole _) (Memref.whole main_arg2_scv) (Memref.isWhole_whole _) (Memref.whole main_arg3_scv) (Memref.isWhole_whole _) (Memref.whole main_v0_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scoped0
      EC default (Memref.whole cc0_scratch2 : Memref sig .scVector .vmem S4000 .i32).view.dmaCredit (O := O) (W := W)
      (f3 := m (rLoc d)) (f4 := m (cLoc d)) (f5 := m (wLoc d)) (qa := Transfers.shareTokN (tok (numL L)) 0) (qb := Transfers.shareTokN (tok (numL L)) 1)
      rfl rfl rfl rfl rfl rfl (View.dmaCredit_pos _ (by decide))
      (fun e => (hpre d e).1) (fun e => (hpre d e).2) (tok (numL L)) (m (xLoc d)))
    isplitl [Hmw]; · iexact Hmw
    isplitl [Hg]; · iexact Hg
    isplitl [Hout]; · iapply (out_free d L _); iexact Hout
    unfold Owed
    iexists W
    isplitr
    · ipureintro; intro p hp; exact .inl hp
    · iexact HO
  iintro %_ ⟨Hg, Hb, HO⟩
  ihave Hg' := (of_gear m d L (tok (numL L))) $$ [Hg Haside]
  · isplitl [Hg]; · iexact Hg
    iexact Haside
  icases Hg' with ⟨Hreads, HB, HS⟩
  have hsum : (fun j => tileSum A (m (xLoc d)) (m (rLoc d)) (m (cLoc d)) (m (wLoc d)) (group L) ((16 * (L 0).val + (L 1).val) % 4) ((Rect.unit (s := S50048) ![0] S50000.size inb_S50048_S50000_0).emb j)) = sumAtTile m A d (numL L) := by
    unfold sumAtTile
    rw [numL_val]
    rfl
  isplitl [Hreads Hb]
  · isplitl [Hreads]; · iexact Hreads
    iapply (out_booked m A d L)
    rw [← hsum]
    iexact Hb
  isplitl [HB Hbufs]
  · isplitl [HB]; · iexact HB
    iexact Hbufs
  isplitl [HS Hsems]
  · isplitl [HS]; · iexact HS
    iexact Hsems
  unfold Owed
  icases HO with ⟨%W', %hW', HO⟩
  iexists W'
  isplitr
  · ipureintro
    intro p hp
    rcases hW' p hp with h | h
    · exact .inl h
    · exact .inr (.inl h)
  · iexact HO

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__edge_body (coordsV c s) (Memref.whole main_arg0_scv) (Memref.isWhole_whole _) (Memref.whole main_arg1_scv) (Memref.isWhole_whole _) (Memref.whole main_arg2_scv) (Memref.isWhole_whole _) (Memref.whole main_arg3_scv) (Memref.isWhole_whole _) (Memref.whole main_v0_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scoped0) ⟨⟩ c s := rfl

theorem tileObl (hF : (K (F := F)).Facts) (hpre : InRange m) : (K (F := F)).TileObl (D (F := F)) 𝒱 (P m A) v₀ 0 := by
  intro d c i O W hO _ _
  simp only [show (P m A).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m A d (coordsV ⟨_, hci.1⟩ ⟨_, hci.2⟩) hF hpre O W hO

end Tile

theorem vecSplit : (K (F := F)).VecSplit' (P m A) 0 := by
  intro d c
  show (bigSep Finset.univ fun i : Fin 16 => given m d (num c i)) ⊢ |={Set.univ}=> iprop(
      (bigSep Finset.univ fun i : Fin 16 => given m d (num c i))
      ∗ ((bigSep Finset.univ fun i : Fin 16 => taken m A d (num c i)) -∗ bigSep Finset.univ fun i : Fin 16 => taken m A d (num c i)))
  iintro H; imodintro
  isplitl [H]; · iexact H
  iintro H
  iexact H

/-! ## The arrays dealt to the tiles and gathered again -/

omit [FloatOps F] in
theorem disjoint_stretches (i j : Fin 32) (h : i ≠ j) : Disjoint (stretchSet i) (stretchSet j) := Rect.part_disjoint div32 h

/-- What the whole result satisfies. -/
def Summed (d : Dev nD) (f : Buf (Elt F) (oLoc d)) : Prop := ∀ (n : Fin 32) (j : S50000.Idx), A.rep (f (outAt n j)) (sumAtTile m A d n j)

omit [FloatOps F] in
theorem outAt_mem (n : Fin 32) (j : S50000.Idx) : outAt n j ∈ stretchSet n := by
  rw [stretchSet, stretch, Rect.part, Rect.block, Rect.mem_set_unit]
  intro a
  obtain rfl := Fin.eq_zero a
  have h : (j 0).val < 50000 := (j 0).isLt
  show n.val * 50000 ≤ 50000 * n.val + (j 0).val ∧ 50000 * n.val + (j 0).val < n.val * 50000 + 50000
  omega

theorem out_join (d : Dev nD) :
    (bigSep Finset.univ fun n : Fin 32 => iprop(∃ f : Buf (Elt F) (oLoc d), ⌜∀ j, A.rep (f (outAt n j)) (sumAtTile m A d n j)⌝ ∗ stretchPts d n f))
      ⊢ (iprop(∃ f, ⌜Summed m A d f⌝ ∗ oLoc d ↦{fullShare} f) : sProp 𝕄) := by
  exact join (ℓ := oLoc d) stretchSet disjoint_stretches (Rect.biUnion_part div32) (fun n f => ∀ j, A.rep (f (outAt n j)) (sumAtTile m A d n j))
    (fun n f g h hf j => by rw [h _ (outAt_mem n j)]; exact hf j) (m (oLoc d))

/-- The arrays whole are what the tiles take, and the rest of the read shares. -/
abbrev spare (d : Dev nD) : sProp 𝕄 := reads m d (Transfers.shareDrop fullShare 32)

theorem deal (d : Dev nD) : iprop(reads m d fullShare ∗ oLoc d ↦{fullShare} m (oLoc d))
    ⊢ (iprop(spare m d ∗ bigSep Finset.univ fun n : Fin 32 => given m d n) : sProp 𝕄) := by
  rw [bigSep_sep', bigSep_sep', bigSep_sep', bigSep_sep', cut (ℓ := oLoc d) stretchSet disjoint_stretches (Rect.biUnion_part div32)]
  iintro ⟨⟨Hx, Hr, Hc, Hw⟩, Ho⟩
  ihave Hx' := (toks (xLoc d) (m (xLoc d))).1 $$ Hx
  icases Hx' with ⟨Hx, Hxs⟩
  ihave Hr' := (toks (rLoc d) (m (rLoc d))).1 $$ Hr
  icases Hr' with ⟨Hr, Hrs⟩
  ihave Hc' := (toks (cLoc d) (m (cLoc d))).1 $$ Hc
  icases Hc' with ⟨Hc, Hcs⟩
  ihave Hw' := (toks (wLoc d) (m (wLoc d))).1 $$ Hw
  icases Hw' with ⟨Hw, Hws⟩
  isplitl [Hx Hr Hc Hw]
  · isplitl [Hx]; · iexact Hx
    isplitl [Hr]; · iexact Hr
    isplitl [Hc]; · iexact Hc
    iexact Hw
  isplitr [Ho]
  · isplitl [Hxs]; · iexact Hxs
    isplitl [Hrs]; · iexact Hrs
    isplitl [Hcs]; · iexact Hcs
    iexact Hws
  · iexact Ho

abbrev FIN (d : Dev nD) : sProp 𝕄 := iprop(reads m d fullShare ∗ ∃ f, ⌜Summed m A d f⌝ ∗ oLoc d ↦{fullShare} f)

theorem gather (d : Dev nD) : (iprop(spare m d ∗ bigSep Finset.univ fun n : Fin 32 => taken m A d n) : sProp 𝕄) ⊢ FIN m A d := by
  rw [bigSep_sep', bigSep_sep', bigSep_sep', bigSep_sep']
  iintro ⟨⟨Hx, Hr, Hc, Hw⟩, ⟨Hxs, Hrs, Hcs, Hws⟩, Ho⟩
  isplitr [Ho]
  · isplitl [Hx Hxs]
    · iapply (toks (xLoc d) (m (xLoc d))).2
      isplitl [Hx]; · iexact Hx
      iexact Hxs
    isplitl [Hr Hrs]
    · iapply (toks (rLoc d) (m (rLoc d))).2
      isplitl [Hr]; · iexact Hr
      iexact Hrs
    isplitl [Hc Hcs]
    · iapply (toks (cLoc d) (m (cLoc d))).2
      isplitl [Hc]; · iexact Hc
      iexact Hcs
    iapply (toks (wLoc d) (m (wLoc d))).2
    isplitl [Hw]; · iexact Hw
    iexact Hws
  · iapply (out_join m A d)
    iexact Ho

/-! ## The launch state -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m A).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m A).x q thr) = bigSep Finset.univ fun _ => iprop(emp) from
    bigSep_congr fun _ _ => bigSep_univ_of_subsingleton (0 : Fin 1), bigSep_emp']
  iempintro

/-! ## The TensorCore's program -/

omit [FloatOps F] in
theorem unscopedBufs_eq (d : Dev nD) (W : (b : Ref sig .tc) → Buf (Elt F) ((d.tc : Thread nD τ).loc b)) :
    (unscopedBufs d W : sProp 𝕄) = iprop((xLoc d ↦{fullShare} W main_arg0) ∗ (rLoc d ↦{fullShare} W main_arg1) ∗ (cLoc d ↦{fullShare} W main_arg2)
      ∗ (wLoc d ↦{fullShare} W main_arg3) ∗ oLoc d ↦{fullShare} W main_v0) := by
  unfold unscopedBufs
  rw [show (Finset.univ.filter fun b : Ref sig .tc => ¬ b.isScoped) = {main_arg0, main_arg1, main_arg2, main_arg3, main_v0} by decide,
    SparseCore.bigSep_insert' (by decide), SparseCore.bigSep_insert' (by decide), SparseCore.bigSep_insert' (by decide), SparseCore.bigSep_insert' (by decide), bigSep_singleton]

theorem st0_eq (d : Dev nD) : (bigSep Finset.univ fun c : Fin ((K (F := F)).nCore 0) => (P m A).st 0 d c) = bigSep Finset.univ fun n : Fin 32 => given m d n :=
  bigSep_num (fun n => given m d n)
theorem dn0_eq (d : Dev nD) : (bigSep Finset.univ fun c : Fin ((K (F := F)).nCore 0) => (P m A).dn 0 d c) = bigSep Finset.univ fun n : Fin 32 => taken m A d n :=
  bigSep_num (fun n => taken m A d n)

theorem hmain (κ : GSem nD τ sig → ℕ) (d : Dev nD) :
    iprop((K (F := F)).ctx EH (P m A) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m A d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hx, Hr, Hc, Hw, Ho⟩, Hts, -⟩, -⟩
  ihave Hd := (deal m d) $$ [Hx Hr Hc Hw Ho]
  · isplitr [Ho]
    · isplitl [Hx]; · iexact Hx
      isplitl [Hr]; · iexact Hr
      isplitl [Hc]; · iexact Hc
      iexact Hw
    · iexact Ho
  icases Hd with ⟨Hspare, Hgiven⟩
  iapply ((K (F := F)).wp_run (D (F := F)) 𝒱 (EH := EH) (P := P m A) κ d 0) $$ [Hst Hgiven Hspare Hb Hts]
  isplitr; · iexact Hctx
  isplitl [Hst]; · iexact Hst
  isplitl [Hgiven]
  · rw [st0_eq]
    iexact Hgiven
  iintro ⟨Hst, Hdn⟩
  ihave Htaken := (Entails.of_eq (dn0_eq m A d)) $$ Hdn
  imodintro
  isplitl [Hst]; · iexact Hst
  isplitr [Hb Hts]
  · iapply (gather m A d)
    isplitl [Hspare]; · iexact Hspare
    iexact Htaken
  isplitl [Hb] <;> iassumption

/-! ## What the whole run leaves -/

def fq (d : Dev nD) (s' : Phys nD τ sig (Elt F)) : Prop :=
  s'.mem.mem (xLoc d) = m (xLoc d) ∧ s'.mem.mem (rLoc d) = m (rLoc d) ∧ s'.mem.mem (cLoc d) = m (cLoc d) ∧ s'.mem.mem (wLoc d) = m (wLoc d)
    ∧ Summed m A d (s'.mem.mem (oLoc d))

theorem hfin (d : Dev nD) (s' : Phys nD τ sig (Elt F)) : iprop(FIN m A d ∗ SI s') ⊢ (⌜fq m A d s'⌝ : sProp 𝕄) := by
  iintro ⟨⟨⟨Hx, Hr, Hc, Hw⟩, ⟨%f, %hf, Ho⟩⟩, HSI⟩
  ihave H := (whole_agree s' (xLoc d) (m (xLoc d))) $$ [Hx HSI]
  · isplitl [Hx] <;> iassumption
  icases H with ⟨%h1, HSI⟩
  ihave H := (whole_agree s' (rLoc d) (m (rLoc d))) $$ [Hr HSI]
  · isplitl [Hr] <;> iassumption
  icases H with ⟨%h2, HSI⟩
  ihave H := (whole_agree s' (cLoc d) (m (cLoc d))) $$ [Hc HSI]
  · isplitl [Hc] <;> iassumption
  icases H with ⟨%h3, HSI⟩
  ihave H := (whole_agree s' (wLoc d) (m (wLoc d))) $$ [Hw HSI]
  · isplitl [Hw] <;> iassumption
  icases H with ⟨%h4, HSI⟩
  ihave H := (whole_agree s' (oLoc d) f) $$ [Ho HSI]
  · isplitl [Ho] <;> iassumption
  icases H with ⟨%h5, HSI⟩
  ipureintro
  exact ⟨h1, h2, h3, h4, h5 ▸ hf⟩

/-- After the run: the arguments are unchanged, the result is the tiles' sums, every semaphore is at zero. -/
def QC : PUnit × MemSt nD τ sig (Elt F) → Prop := fun r =>
  (∀ c : Dev nD, r.2.mem (xLoc c) = m (xLoc c) ∧ r.2.mem (rLoc c) = m (rLoc c) ∧ r.2.mem (cLoc c) = m (cLoc c) ∧ r.2.mem (wLoc c) = m (wLoc c)
    ∧ Summed m A c (r.2.mem (oLoc c))) ∧ r.2.sem = fun _ => 0

theorem run_main [∀ e, Nonempty (Elt F e)] (hpre : InRange m) :
    θ_run (Cert.KernelIdeal.defs (F := F)) (Cert.KernelIdeal.threads (F := F)) ⟨m, fun _ => 0, ρ⟩ (QC m A) :=
  SparseCore.Cfg.θ_run_sc_quiescent (K := K (F := F)) (D := D (F := F)) (𝒱 := 𝒱) (EH := EH) (P := P m A) (A := ∅) facts v₀
    (fun q hq => match q with | 0 => nomatch hq)
    (fun q _ => match q with | 0 => tileObl m A facts hpre)
    (fun q _ => match q with | 0 => SparseCore.Cfg.VecSplit.of_plain (vecSplit m A))
    m ρ main (fun _ => iprop(emp)) (FIN m A) (u₀ (F := F)) (sep_elim_left.trans (hu₀ m A)) (hmain m ρ A) (fq m A) (hfin m A) (QC m A) (fun _ h hz => ⟨h, hz⟩)

end Cert.Proof.Launch

end
-- ==== Proof.Value.lean ====
/-
  What the kernel's result and the reference's result have in common: at block `g` of edges, feature `k` and
  target `v`, the sum over the block's edges into `v` of the edge's weight times its source's feature `k`.
-/
module

public import proofs.«01_k».proof.Proof.Launch
public import proofs.«01_k».proof.Proof.Gen.ReferenceIdeal
public import Idealize.ShloMosaic.Lib.Routing.Ops
public import Idealize.ShloMosaic.Lib.Routing.OpsPair
public import Idealize.ShloMosaic.Lib.Pointwise.Tactic
public import Idealize.ShloMosaic.Lib.Pointwise.Reshape
public import Idealize.ShloMosaic.Lib.Pointwise.IndexBridge

@[expose] public section

noncomputable section

namespace Cert.Proof.Value

open Cert.ReferenceIdeal Cert.ReferenceIdeal.Facts₀
open Idealize.ShloMosaic
open Cert.Proof.Account

/-- The account at the ideal floats: an element is its own account. -/
def ideal : Acct Ideal where
  M := EReal
  inst := inferInstance
  val := fun x => x
  rep := fun x s => x = s
  zero := Ideal.ofBits_zero_f32
  add := fun x s y (h : x = s) => by
    subst h
    rfl

/-- The sum over a block of forty thousand edges: those into `v` count their weight times feature `k` of their source. -/
def part (x : S200000.Idx → EReal) (r c : IVec S320000 32) (w : S320000.Idx → EReal) (g k v : Nat) : EReal :=
  ∑ e ∈ Finset.range 40000, if (c (Body.far (40000 * g + e))).toNat = v then
    x (Body.farT (10000 * k + (r (Body.far (40000 * g + e))).toNat)) * w (Body.far (40000 * g + e)) else 0

/-! ## The kernel's side -/

theorem edge1_ideal (tbl : Vec Ideal ⟨1, ![50048]⟩ .f32) (d : Nat) (r c : BitVec 32) (w : EReal) (j : (⟨1, ![50048]⟩ : Shape).Idx) :
    Dup.edge1 ideal tbl d r c w j = if (j 0).val = c.toNat + d then tbl (Dup.at1 (r.toNat + d)) * w else (0 : EReal) := rfl

theorem pick (y : EReal) {d : Nat} (hd : d < 5) :
    (if 0 = d then y else 0) + (if 1 = d then y else 0) + (if 2 = d then y else 0) + (if 3 = d then y else 0) + (if 4 = d then y else 0) = y := by
  interval_cases d <;> simp

/-- One edge at block `d` of a tile's accumulator. -/
theorem edge_at (tbl : Vec Ideal ⟨1, ![50048]⟩ .f32) (r c : BitVec 32) (w : EReal) (j : (⟨1, ![50048]⟩ : Shape).Idx) {d v : Nat} (hd : d < 5) (hv : v < 10000)
    (hj : (j 0).val = 10000 * d + v) (hc : c.toNat < 10000) :
    Dup.edge ideal tbl r c w j = if c.toNat = v then tbl (Dup.at1 (10000 * d + r.toNat)) * w else (0 : EReal) := by
  show (Dup.edge1 ideal tbl 0 r c w j + Dup.edge1 ideal tbl 10000 r c w j + Dup.edge1 ideal tbl 20000 r c w j
    + Dup.edge1 ideal tbl 30000 r c w j + Dup.edge1 ideal tbl 40000 r c w j : EReal) = _
  have key : ∀ d' : Nat, d' < 5 → Dup.edge1 ideal tbl (10000 * d') r c w j = if d' = d then (if c.toNat = v then tbl (Dup.at1 (10000 * d + r.toNat)) * w else (0 : EReal)) else (0 : EReal) := by
    intro d' h'
    rw [edge1_ideal, hj]
    by_cases h : d' = d
    · subst h
      rw [if_pos rfl, Nat.add_comm r.toNat]
      by_cases hcv : c.toNat = v
      · rw [if_pos hcv, if_pos (by omega)]
      · rw [if_neg hcv, if_neg (by omega)]
    · rw [if_neg h, if_neg (by omega)]
  rw [show Dup.edge1 ideal tbl 0 r c w j = _ from key 0 (by omega), show Dup.edge1 ideal tbl 10000 r c w j = _ from key 1 (by omega),
    show Dup.edge1 ideal tbl 20000 r c w j = _ from key 2 (by omega), show Dup.edge1 ideal tbl 30000 r c w j = _ from key 3 (by omega),
    show Dup.edge1 ideal tbl 40000 r c w j = _ from key 4 (by omega)]
  exact pick _ hd

/-- A tile's sum is the common one. -/
theorem tileSum_at (x : S200000.Idx → EReal) (r c : IVec S320000 32) (w : S320000.Idx → EReal) {g b d v : Nat} (hb : b < 4) (hd : d < 5) (hv : v < 10000)
    (hr : ∀ e, (r e).toNat < 10000) (hc : ∀ e, (c e).toNat < 10000) (j : (⟨1, ![50048]⟩ : Shape).Idx) (hj : (j 0).val = 10000 * d + v) :
    Body.tileSum (F := Ideal) ideal x r c w g b j = part x r c w g (5 * b + d) v := by
  show (∑ e ∈ Finset.range 40000, Body.edgeOf ideal (Body.tableAt (F := Ideal) x (50000 * b)) r c w (40000 * g + e)) j = _
  rw [Finset.sum_apply]
  refine Finset.sum_congr rfl fun e _ => ?_
  refine (edge_at _ _ _ _ j hd hv hj (hc _)).trans ?_
  have hre := hr (Body.far (40000 * g + e))
  by_cases h : (c (Body.far (40000 * g + e))).toNat = v
  · rw [if_pos h, if_pos h]
    refine congrArg (· * w _) (congrArg x ?_)
    show Body.farT (50000 * b + (10000 * d + (r (Body.far (40000 * g + e))).toNat) % 50048) = _
    rw [Nat.mod_eq_of_lt (by omega), show 50000 * b + (10000 * d + (r (Body.far (40000 * g + e))).toNat) = 10000 * (5 * b + d) + (r (Body.far (40000 * g + e))).toNat by omega]
  · rw [if_neg h, if_neg h]

/-! ## The reference's side -/

/-- Which of the eighty thousand sums an edge belongs to: its block and its target. -/
def target (c : IVec S320000 32) : IVec S320000x1 32 :=
  broadcastInDim S320000x1 ![0] bcast_S320000_S320000x1_0 (addi (muli (shapeCast _ (broadcastInDim S8x40000 ![0, 1] bcast_S8x1_S8x40000_0_1 (broadcastInDim S8x1 ![0] bcast_S8_S8x1_0 (iotaInDim S8 32 0))) shapeCasts_S8x40000_S320000) (broadcastInDim S320000 ![] bcast_S_S320000 (constantI S_ 32 10000#32))) c)

/-- An edge's source. -/
def source (r : IVec S320000 32) : IVec S320000x1 32 :=
  broadcastInDim S320000x1 ![0] bcast_S320000_S320000x1_0 (select (cmpi .slt r (broadcastInDim S320000 ![] bcast_S_S320000 (constantI S_ 32 0#32))) (addi r (broadcastInDim S320000 ![] bcast_S_S320000 (constantI S_ 32 10000#32))) r)

/-- The features, one row per node. -/
def feats (x : S200000.Idx → EReal) : S10000x20.Idx → EReal :=
  transpose S10000x20 [1, 0] (shapeCast _ x shapeCasts_S200000_S20x10000) transposes_S20x10000_S10000x20_1_0

/-- An edge's message. -/
def msg (x : S200000.Idx → EReal) (r : IVec S320000 32) (w : S320000.Idx → EReal) : FVec Ideal S320000x20 .f32 :=
  mulf (Host.gather gather_S10000x20_S320000x1_S320000x20_1_0_n_n_0_1_120 (feats x) (source r)) (broadcastInDim S320000x20 ![0, 1] bcast_S320000x1_S320000x20_0_1 (broadcastInDim S320000x1 ![0] bcast_S320000_S320000x1_0 w))

/-- The messages summed. -/
def sums (x : S200000.Idx → EReal) (r c : IVec S320000 32) (w : S320000.Idx → EReal) : FVec Ideal S80000x20 .f32 :=
  Host.scatterAdd scatter_S80000x20_S320000x1_S320000x20_1_0_0_1 (broadcastInDim S80000x20 ![] bcast_S_S80000x20 (constant S_ .f32 0x00000000#32)) (target c) (msg x r w)

/-- The reference's result. -/
def result (x : S200000.Idx → EReal) (r c : IVec S320000 32) (w : S320000.Idx → EReal) : FVec Ideal S1600000 .f32 :=
  shapeCast _ (transpose S8x20x10000 [0, 2, 1] (shapeCast _ (sums x r c w) shapeCasts_S80000x20_S8x10000x20) transposes_S8x10000x20_S8x20x10000_0_2_1) shapeCasts_S8x20x10000_S1600000

theorem target_at (c : IVec S320000 32) (hc : ∀ e, (c e).toNat < 10000) (e : Fin 320000) :
    (target c (ix2 e 0)).toNat = 10000 * (e.val / 40000) + (c (ix1 e)).toNat := by
  unfold target
  pointwise
  have hce := hc (ix1 e)
  have he := e.isLt
  show (BitVec.ofNat 32 (e.val / 40000) * 10000#32 + c (ix1 e)).toNat = _
  rw [BitVec.toNat_add, BitVec.toNat_mul, BitVec.toNat_ofNat, BitVec.toNat_ofNat]
  omega

theorem source_at (r : IVec S320000 32) (hr : ∀ e, (r e).toNat < 10000) (e : Fin 320000) : source r (ix2 e 0) = r (ix1 e) := by
  unfold source
  pointwise
  have h := hr (ix1 e)
  have hneg : IntOp.cmpi .slt (r (ix1 e)) 0#32 = 0#1 := by
    show BitVec.ofBool ((r (ix1 e)).slt 0#32) = 0#1
    rw [show (r (ix1 e)).slt 0#32 = false by
      rw [BitVec.slt_eq_decide, BitVec.toInt_eq_toNat_cond, if_pos (by omega)]
      simp]
    rfl
  rw [hneg]
  rfl

set_option maxRecDepth 4000 in
theorem feats_at (x : S200000.Idx → EReal) (n : Fin 10000) (k : Fin 20) : feats x (ix2 n k) = x (Body.farT (10000 * k.val + n.val)) := by
  unfold feats
  pointwise
  have hn := n.isLt
  have hk := k.isLt
  refine congrArg x (funext fun a => Fin.ext ?_)
  obtain rfl := Fin.eq_zero a
  show k.val * 10000 + n.val = (10000 * k.val + n.val) % 200000
  omega

theorem msg_at (x : S200000.Idx → EReal) (r : IVec S320000 32) (w : S320000.Idx → EReal) (hr : ∀ e, (r e).toNat < 10000) (e : Fin 320000) (k : Fin 20) :
    msg x r w (ix2 e k) = x (Body.farT (10000 * k.val + (r (ix1 e)).toNat)) * w (ix1 e) := by
  unfold msg
  pointwise
  have h := hr (ix1 e)
  rw [ix2_eq_valueIdx, Routing.gather_row gather_S10000x20_S320000x1_S320000x20_1_0_n_n_0_1_120 rfl rfl rfl rfl rfl (feats x) (source r) e k ⟨(r (ix1 e)).toNat, h⟩
    (by rw [← ix2_eq_valueIdx, source_at r hr]; simp) (by omega), ← ix2_eq_valueIdx, feats_at]

theorem result_at (x : S200000.Idx → EReal) (r c : IVec S320000 32) (w : S320000.Idx → EReal) (g : Fin 8) (k : Fin 20) (v : Fin 10000) (p : S1600000.Idx)
    (hp : (p 0).val = 200000 * g.val + 10000 * k.val + v.val) : result x r c w p = sums x r c w (ix2 ⟨10000 * g.val + v.val, by omega⟩ k) := by
  unfold result
  pointwise
  have hg := g.isLt
  have hk := k.isLt
  have hv := v.isLt
  have e1 : (p 0).val / 200000 * 10000 + (p 0).val % 10000 = 10000 * g.val + v.val := by omega
  have e2 : (p 0).val / 10000 % 20 = k.val := by omega
  simp only [e1, e2]

/-- Where an update of the sum over rows lands. -/
theorem lands (d : ScatterDims S80000x20 S320000x1 S320000x20) (hu : d.updateWindowDims = [1]) (hiw : d.insertedWindowDims = [0])
    (hsd : d.scatterDimsToOperandDims = [0]) (hivd : d.indexVectorDim = 1) (idx : IVec S320000x1 32) (e : Fin 320000) (k' : Fin 20) (n : Fin 80000) (k : Fin 20) :
    d.resultIdx? (ix2 e k') idx = some (ix2 n k) ↔ (idx (ix2 e 0)).toInt = (n.val : Int) ∧ k' = k := by
  have hm : (0 : Fin 2) ∈ d.scatterDimsToOperandDims := by rw [hsd]; exact List.mem_singleton.2 rfl
  have hkept : d.sKept = [1] := by
    show S80000x20.kept d.insertedWindowDims = _
    rw [hiw]
    rfl
  have hwin0 : d.window (ix2 e k') 0 = 0 := by
    unfold ScatterDims.window
    rw [dif_neg (by rw [hkept]; decide)]
  have e0 : ∀ X : Fin 2, X = 0 → (ix2 e k' X).val = e.val := fun X h => by subst h; rfl
  have e1 : ∀ X : Fin 2, X = 1 → (ix2 e k' X).val = k'.val := fun X h => by subst h; rfl
  have hwin1 : d.window (ix2 e k') 1 = k'.val := by
    unfold ScatterDims.window
    rw [dif_pos (by rw [hkept]; exact List.mem_singleton.2 rfl)]
    refine e1 _ ?_
    have hk1 : ∀ k ∈ d.updateWindowDims, k = (1 : Fin 2) := fun k hk => by rw [hu] at hk; exact List.mem_singleton.1 hk
    exact hk1 _ (List.getElem_mem _)
  have hstart1 : d.start (ix2 e k') idx 1 = 0 := by
    unfold ScatterDims.start
    rw [dif_neg fun h => by rw [hsd] at h; exact absurd (List.mem_singleton.1 h) (by decide : (1 : Fin 2) ≠ 0)]
  have hstart0 : d.start (ix2 e k') idx 0 = (idx (ix2 e 0)).toInt := by
    unfold ScatterDims.start
    rw [dif_pos hm]
    have hk0 : ∀ k ∈ d.uScatter, k = (0 : Fin 2) := fun k hk => by
      have hk' : k ∉ d.updateWindowDims := of_decide_eq_true (List.mem_filter.1 hk).2
      rw [hu] at hk'
      have h1 : k.val ≠ 1 := fun e => hk' (List.mem_singleton.2 (Fin.ext e))
      have h2 : k.val < 2 := k.isLt
      exact Fin.ext (by show k.val = 0; omega)
    have hsi : d.siIdx (ix2 e k') ⟨d.scatterDimsToOperandDims.idxOf 0, List.idxOf_lt_length_iff.2 hm⟩ = ix2 e 0 := by
      funext b'
      apply Fin.ext
      match b' with
      | ⟨0, _⟩ =>
        unfold ScatterDims.siIdx
        rw [dif_neg (by rw [hivd]; exact Nat.zero_ne_one)]
        unfold ScatterDims.siCoord
        simp only [Fin.val_cast]
        exact e0 _ (hk0 _ (List.getElem_mem _))
      | ⟨1, _⟩ =>
        unfold ScatterDims.siIdx
        rw [dif_pos (by rw [hivd])]
        show List.idxOf (0 : Fin 2) d.scatterDimsToOperandDims = 0
        rw [hsd]; simp
    rw [hsi]
  rw [Routing.resultIdx?_eq_some]
  have h2 : (∀ a, d.start (ix2 e k') idx a + (d.window (ix2 e k') a : Int) = ((ix2 n k a).val : Int))
      ↔ d.start (ix2 e k') idx 0 + (d.window (ix2 e k') 0 : Int) = (n.val : Int) ∧ d.start (ix2 e k') idx 1 + (d.window (ix2 e k') 1 : Int) = (k.val : Int) :=
    ⟨fun h => ⟨h 0, h 1⟩, fun h a => match a with | ⟨0, _⟩ => h.1 | ⟨1, _⟩ => h.2⟩
  rw [h2, hstart0, hwin0, hstart1, hwin1, Fin.ext_iff]
  omega

/-- One edge's share of one of the sums. -/
def share (x : S200000.Idx → EReal) (r c : IVec S320000 32) (w : S320000.Idx → EReal) (g k v e : Nat) : EReal :=
  if e / 40000 = g ∧ (c (Body.far e)).toNat = v then x (Body.farT (10000 * k + (r (Body.far e)).toNat)) * w (Body.far e) else 0

theorem share_zero (x : S200000.Idx → EReal) (r c : IVec S320000 32) (w : S320000.Idx → EReal) {g : Nat} (k v : Nat) {e : Nat} (h : ¬ e / 40000 = g) :
    share x r c w g k v e = 0 :=
  if_neg fun h' => h h'.1

theorem far_val (e : Fin 320000) : Body.far e.val = ix1 e :=
  funext fun a => by obtain rfl := Fin.eq_zero a; exact Fin.ext (Nat.mod_eq_of_lt e.isLt)

theorem row_at (x : S200000.Idx → EReal) (r c : IVec S320000 32) (w : S320000.Idx → EReal) (hr : ∀ e, (r e).toNat < 10000) (hc : ∀ e, (c e).toNat < 10000)
    (g : Fin 8) (k : Fin 20) (v : Fin 10000) (h : 10000 * g.val + v.val < 80000) (e : Fin 320000) :
    (∑ k' : Fin 20, if scatter_S80000x20_S320000x1_S320000x20_1_0_0_1.resultIdx? (ix2 e k') (target c) = some (ix2 ⟨10000 * g.val + v.val, h⟩ k) then msg x r w (ix2 e k') else (0 : EReal))
      = share x r c w g.val k.val v.val e.val := by
  have hce := hc (ix1 e)
  have he := e.isLt
  have ht : (target c (ix2 e 0)).toInt = ((10000 * (e.val / 40000) + (c (ix1 e)).toNat : Nat) : Int) := by
    rw [BitVec.toInt_eq_toNat_cond, target_at c hc e, if_pos (by omega)]
  have hiff : ∀ k' : Fin 20, scatter_S80000x20_S320000x1_S320000x20_1_0_0_1.resultIdx? (ix2 e k') (target c) = some (ix2 ⟨10000 * g.val + v.val, h⟩ k)
      ↔ (e.val / 40000 = g.val ∧ (c (ix1 e)).toNat = v.val) ∧ k' = k := fun k' => by
    rw [lands _ rfl rfl rfl rfl, ht]
    have hv := v.isLt
    show ((10000 * (e.val / 40000) + (c (ix1 e)).toNat : Nat) : Int) = ((10000 * g.val + v.val : Nat) : Int) ∧ k' = k ↔ _
    rw [Int.ofNat_inj]
    exact and_congr_left' (by omega)
  unfold share
  rw [far_val]
  simp only [hiff]
  by_cases hb : e.val / 40000 = g.val ∧ (c (ix1 e)).toNat = v.val
  · simp only [hb, and_self, true_and]
    rw [Finset.sum_ite_eq' Finset.univ k]
    simp only [Finset.mem_univ, if_true]
    exact msg_at x r w hr e k
  · simp only [hb, false_and, if_false, Finset.sum_const_zero]

theorem sums_at (x : S200000.Idx → EReal) (r c : IVec S320000 32) (w : S320000.Idx → EReal) (hr : ∀ e, (r e).toNat < 10000) (hc : ∀ e, (c e).toNat < 10000)
    (g : Fin 8) (k : Fin 20) (v : Fin 10000) (h : 10000 * g.val + v.val < 80000) : sums x r c w (ix2 ⟨10000 * g.val + v.val, h⟩ k) = part x r c w g.val k.val v.val := by
  have hg := g.isLt
  show (Ideal.ofBits .f32 0x00000000#32 : EReal) + ∑ j ∈ Finset.univ.filter (fun j => scatter_S80000x20_S320000x1_S320000x20_1_0_0_1.resultIdx? j (target c) = some (ix2 ⟨10000 * g.val + v.val, h⟩ k)), msg x r w j = _
  rw [Ideal.ofBits_zero_f32, zero_add, Finset.sum_filter, sum_idx2]
  rw [Finset.sum_congr rfl fun e _ => row_at x r c w hr hc g k v h e]
  rw [Fin.sum_univ_eq_sum_range (fun e => share x r c w g.val k.val v.val e) 320000]
  have hsub : Finset.Ico (40000 * g.val) (40000 * g.val + 40000) ⊆ Finset.range 320000 := fun e he => by
    rw [Finset.mem_Ico] at he; rw [Finset.mem_range]; omega
  rw [← Finset.sum_subset hsub fun e _ he => share_zero x r c w _ _ fun hb => he (by rw [Finset.mem_Ico]; omega)]
  rw [Finset.sum_Ico_eq_sum_range, Nat.add_sub_cancel_left]
  refine Finset.sum_congr rfl fun e he => ?_
  have he' := Finset.mem_range.mp he
  unfold share
  rw [show (40000 * g.val + e) / 40000 = g.val by omega]
  simp only [true_and]

/-! ## The two agree -/

/-- What the kernel leaves in its result is the reference's result. -/
theorem result_eq (m : (ℓ : Loc Cert.KernelIdeal.nD Cert.KernelIdeal.τ Cert.KernelIdeal.sig) → Buf (Elt Ideal) ℓ) (hm : Launch.InRange m) (d : Dev Cert.KernelIdeal.nD)
    (f : S1600000.Idx → EReal) (hf : Launch.Summed m ideal d f) : f = result (m (Launch.xLoc d)) (m (Launch.rLoc d)) (m (Launch.cLoc d)) (m (Launch.wLoc d)) := by
  funext p
  have hr : ∀ e, (m (Launch.rLoc d) e).toNat < 10000 := fun e => (hm d e).1
  have hc : ∀ e, (m (Launch.cLoc d) e).toNat < 10000 := fun e => (hm d e).2
  have hp : (p 0).val < 1600000 := (p 0).isLt
  have hn : (p 0).val / 50000 < 32 := by omega
  let j : (⟨1, ![50000]⟩ : Shape).Idx := ix1 ⟨(p 0).val % 50000, Nat.mod_lt _ (by omega)⟩
  have hj : (j 0).val = (p 0).val % 50000 := rfl
  have hpj : p = Launch.outAt ⟨(p 0).val / 50000, hn⟩ j := funext fun a => by
    obtain rfl := Fin.eq_zero a
    refine Fin.ext ?_
    show (p 0).val = 50000 * ((p 0).val / 50000) + (p 0).val % 50000
    omega
  have h1 : f (Launch.outAt ⟨(p 0).val / 50000, hn⟩ j) = Launch.sumAtTile m ideal d ⟨(p 0).val / 50000, hn⟩ j := hf _ _
  rw [← hpj] at h1
  rw [h1, result_at _ _ _ _ ⟨(p 0).val / 200000, by omega⟩ ⟨(p 0).val / 10000 % 20, by omega⟩ ⟨(p 0).val % 10000, by omega⟩ p (by show (p 0).val = 200000 * ((p 0).val / 200000) + 10000 * ((p 0).val / 10000 % 20) + (p 0).val % 10000; omega),
    sums_at _ _ _ _ hr hc]
  refine (tileSum_at _ _ _ _ (d := (p 0).val / 10000 % 5) (v := (p 0).val % 10000) (by show (p 0).val / 50000 % 4 < 4; omega) (by omega) (by omega) hr hc _
    ((Body.head_val j).trans (by rw [hj]; omega))).trans ?_
  show part _ _ _ _ ((p 0).val / 50000 / 4) (5 * ((p 0).val / 50000 % 4) + (p 0).val / 10000 % 5) ((p 0).val % 10000) = part _ _ _ _ ((p 0).val / 200000) ((p 0).val / 10000 % 20) ((p 0).val % 10000)
  rw [show (p 0).val / 50000 / 4 = (p 0).val / 200000 by omega, show 5 * ((p 0).val / 50000 % 4) + (p 0).val / 10000 % 5 = (p 0).val / 10000 % 20 by omega]

end Cert.Proof.Value

end
-- ==== Proof.Count.lean ====
/-
  Sixteen edges at a time, counted: each edge adds its weight at its target, in passes as in the edge call, and
  one trip of the degree call's loop adds the tile's next eighty edges.
-/
module

public import proofs.«01_k».proof.Defs
public import proofs.«01_k».proof.Proof.Gen.DegreesIdeal
public import proofs.«01_k».proof.Proof.Gen.DegreesIdeal.Skeleton
public import proofs.«01_k».proof.Proof.Dup

@[expose] public section

noncomputable section

namespace Cert.Proof.Count

open Idealize.ShloMosaic
open Idealize.SL Idealize.SL.RA Idealize.SL.BI
open Idealize.SL.BI.BIBase Idealize.SL.BI.Laws Idealize.SL.ProofMode Idealize.SL.Sem
open Cert.DegreesIdeal Cert.DegreesIdeal.Facts₀ Cert.DegreesIdeal.Facts
open Cert.Proof.Account Cert.Proof.Dup

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-! ## What the edges add -/

/-- What one edge adds: its weight, at its target. -/
def count (A : Acct F) (c : BitVec 32) (w : F .f32) : S10048.Idx → A.M :=
  fun j => if (j 0).val = c.toNat then A.val w else 0

/-- The `e`-th of a tile's edges. -/
def nth (e : Nat) : S10000.Idx := fun a => ⟨e % 10000, by obtain rfl := Fin.eq_zero a; exact Nat.mod_lt _ (by decide)⟩

/-- What the `e`-th of a tile's edges adds. -/
def countAt (A : Acct F) (c : IVec S10000 32) (w : Vec F S10000 .f32) (e : Nat) : S10048.Idx → A.M :=
  count A (c (nth e)) (w (nth e))

/-- What the lanes of a vector add, one by one. -/
abbrev lane (A : Acct F) (c : IVec L16 32) (w : Vec F L16 .f32) (k : Fin 16) : S10048.Idx → A.M :=
  count A (c (Shape.ofLane (d := ![16]) k)) (w (Shape.ofLane (d := ![16]) k))

theorem below_ok (c : IVec L16 32) (h : ∀ x, (c x).toNat < 10000) : ∀ a x, ((![c] : Fin 1 → IVec L16 32) a x).toNat < S10048.size a := by
  intro a x
  obtain rfl := Fin.eq_zero a
  exact lt_trans (h x) (by decide)

/-- A store with a mask adds what the mask lets through. -/
theorem deposit_through (A : Acct F) (c : IVec L16 32) (w : Vec F L16 .f32) (mask : IVec L16 1) (S : S10048.Idx → A.M) :
    S + deposit A (n := 10048) c w mask = S + through (lane A c w) mask := by
  refine congrArg (S + ·) (funext fun j => ?_)
  unfold through
  rw [Finset.sum_apply]
  refine Finset.sum_congr rfl fun (k : Fin 16) _ => ?_
  by_cases hm : mask (Shape.ofLane (d := ![16]) k) = 1
  · rw [if_pos hm]
    unfold lane count
    by_cases hj : (j 0).val = (c (Shape.ofLane (d := ![16]) k)).toNat
    · rw [if_pos ⟨hm, hj⟩, if_pos hj]
    · rw [if_neg (fun hh => hj hh.2), if_neg hj]
  · rw [if_neg hm, if_neg (fun hh => hm hh.1)]
    rfl

/-- Sixteen of a tile's edges, from an offset. -/
theorem lanes_at (A : Acct F) (c : IVec S10000 32) (w : Vec F S10000 .f32) {off : Fin 1 → Nat} (b : Nat) (ho : off = ![b])
    (h : ∀ a, off a + L16.size a ≤ S10000.size a) :
    ∑ l, lane A (fun i => c ((Rect.unit (s := S10000) off L16.size h).emb i)) (fun i => w ((Rect.unit (s := S10000) off L16.size h).emb i)) l
      = ∑ l ∈ Finset.range 16, countAt A c w (b + l) := by
  subst ho
  rw [Finset.sum_range]
  refine Finset.sum_congr rfl fun l _ => ?_
  have hx : (Rect.unit (s := S10000) ![b] L16.size h).emb (Shape.ofLane (d := ![16]) l) = nth (b + l.val) := by
    funext a
    obtain rfl := Fin.eq_zero a
    refine Fin.ext ?_
    have h0 : b + 16 ≤ 10000 := h 0
    show b + 1 * l.val = (b + l.val) % 10000
    rw [Nat.mod_eq_of_lt (by omega), Nat.one_mul]
  exact congrArg (fun x => count A (c x) (w x)) hx

/-! ## One trip -/

/-- The tile at grid point `i` of device `d`. -/
abbrev tile (d : Dev nD) (i : grid0.Coords) : Thread nD τ := (d, .scVector ((i 0).castLE hcore0) ((i 1).castLE hsub0))

theorem top_range (v : IVec L16 32) (h : ∀ a, (![15] : Fin 1 → Nat) a < L16.size a) :
    1 ≤ (top (counts v) h).toNat ∧ (top (counts v) h).toNat ≤ 16 := (top_bounds (counts v) (counts_bounds v) h).2

section Trip
variable {defs : Defs nD τ sig (Elt F) Λ₀} {𝒱 : Variants} {bd : Option 𝒱.V} {E : Set Name} {A : Acct F} {d : Dev nD}
variable (i : grid0.Coords) (arg2 : Memref sig .scVector .hbm S320000 .i32) (harg2 : arg2.IsWhole) (arg3 : Memref sig .scVector .hbm S320000 .f32) (harg3 : arg3.IsWhole) (arg4 : Memref sig .scVector .hbm S320000 .f32) (harg4 : arg4.IsWhole) (arg5 : Memref sig .scVector .vmem S10000 .i32) (harg5 : arg5.IsWhole) (arg6 : Memref sig .scVector .vmem S10000 .f32) (harg6 : arg6.IsWhole) (arg7 : Memref sig .scVector .vmem S10048 .f32) (harg7 : arg7.IsWhole) (arg8 : DmaSems sig S_) (v16_r0 : DmaSems sig S_)

/-- The passes over one vector of edges count each of its edges. -/
theorem good_counts {c : Thread nD τ} {acc : Memref sig c.2.kind .vmem S10048 .f32} {S : S10048.Idx → A.M} {R : sProp 𝕄} {σ : Type} (cw : IVec L16 32) (ww : Vec F L16 .f32)
    {h15 : ∀ a, (![15] : Fin 1 → Nat) a < L16.size a} {hok : (passLoop (top (counts cw) h15)).OK} {init : σ}
    {body : Fin (passLoop (top (counts cw) h15)).trips → σ → Prog (TpuEff nD τ sig (Elt F) Λ₀ c.2) σ}
    (hbody : ∀ k a (S : S10048.Idx → A.M), Good (Ix := Ix) (Name := Name) (U := U) (Lvl := Lvl) defs 𝒱 c bd E R A acc (body k a) S
      (fun _ S' => S' = S + through (lane A cw ww) (cmpi .eq (counts cw) (broadcast L16 (Scf.iv 1#32 1#32 k)))))
    {Q : σ → (S10048.Idx → A.M) → Prop} (hQ : ∀ a, Q a (S + ∑ l, lane A cw ww l)) :
    Good (Ix := Ix) (Name := Name) (U := U) (Lvl := Lvl) defs 𝒱 c bd E R A acc (Scf.Loop.for (passLoop (top (counts cw) h15)) hok init body) S Q :=
  good_all cw _ hbody hQ

set_option maxHeartbeats 40000000 in
/-- One trip of the loop over the tile's edges adds the next eighty. -/
theorem trip {R : sProp 𝕄} (cv : Vec F S10000 .i32) (wv : Vec F S10000 .f32)
    (hC : Lends (Ix := Ix) (Name := Name) (U := U) (Lvl := Lvl) R (tile d i) arg5 cv)
    (hW : Lends (Ix := Ix) (Name := Name) (U := U) (Lvl := Lvl) R (tile d i) arg6 wv)
    (hc : ∀ x, (show BitVec 32 from cv x).toNat < 10000)
    (k) (v : BitVec 32) (S : S10048.Idx → A.M) {Q : BitVec 32 → (S10048.Idx → A.M) → Prop}
    (hQ : ∀ v, Q v (S + ∑ l ∈ Finset.range 80, countAt A cv wv (80 * k.val + l))) :
    Good (Ix := Ix) (Name := Name) (U := U) (Lvl := Lvl) defs 𝒱 (tile d i) bd E R A arg7
      (Gen.k0_t2_body (F := F) i arg2 harg2 arg3 harg3 arg4 harg4 arg5 harg5 arg6 harg6 arg7 harg7 arg8 v16_r0 k v) S Q := by
  delta Gen.k0_t2_body Gen.k0_t7_body Gen.k0_t8_body Gen.k0_t9_body Gen.k0_t10_body Gen.k0_t11_body Gen.k0_t12_body
    Gen.k0_pay5 Gen.k0_pay6 Gen.k0_pay7 Gen.k0_pay8 Gen.k0_pay9 Gen.k0_pay10 Gen.k0_pay12 Gen.k0_pay13
  conv => arg 9; zeta
  beta_reduce
  repeat' (first
    | (with_reducible refine Good.dite ?_ ?_); focus (delta k0_cond1; exact some_pass _ _ _ _ _ (top_range _ _) (top_range _ _) (top_range _ _) (top_range _ _) (top_range _ _))
    | with_reducible apply Good.bind
    | with_reducible refine Good.loadBelow hC hc (fun _ _ _ => ?_)
    | with_reducible refine Good.loadNamed hW (fun _ _ => ?_)
    | with_reducible refine good_first ?_
    | with_reducible refine Good.storeIdx ?_
    | (with_reducible refine Good.assume ?_ ?_); focus (first
        | exact below_ok _ (by assumption)
        | exact ⟨fun _ => passLoop_ok _ (top_range _ _).2, fun _ _ => below_ok _ (by assumption), fun _ => restLoop_ok _ (top_range _ _).2, fun _ _ => below_ok _ (by assumption)⟩)
    | (with_reducible apply good_counts) <;> with_reducible intros
    | with_reducible refine good_rest (fun _ => ?_)
    | with_reducible refine Good.pure ?_
    | exact deposit_through _ _ _ _ _
    | (delta k0_part2; conv => arg 9; zeta)
    | (delta k0_part3; conv => arg 9; zeta)
    | (delta k0_part1; conv => arg 9; zeta))
  subst_vars
  refine cast (congrArg (Q _) ?_) (hQ _)
  rw [lanes_at A _ _ _ (Gen.k0_off3_eq k), lanes_at A _ _ _ (Gen.k0_off4_eq k), lanes_at A _ _ _ (Gen.k0_off5_eq k), lanes_at A _ _ _ (Gen.k0_off6_eq k), lanes_at A _ _ _ (Gen.k0_off7_eq k)]
  exact (sum_eighty (countAt A cv wv) (80 * k.val) S).symm

end Trip

end Cert.Proof.Count
-- ==== Proof.Tally.lean ====
/-
  One tile's run of the degree call: its ten thousand edges' targets and weights are brought into the tile's memory
  while the accumulator is zeroed, the edges are counted, and the accumulator is copied out to the tile's stretch of
  the result.
-/
module

public import proofs.«01_k».proof.Proof.Count
public import proofs.«01_k».proof.Proof.Moves

@[expose] public section

noncomputable section

namespace Cert.Proof.Tally

open Idealize.ShloMosaic Idealize.ShloMosaic.Transfers
open Idealize.SL Idealize.SL.RA Idealize.SL.BI
open scoped Idealize.SL.BI
open Idealize.SL.BI.BIBase Idealize.SL.BI.Laws Idealize.SL.ProofMode Idealize.SL.Sem
open Cert.DegreesIdeal Cert.DegreesIdeal.Facts₀ Cert.DegreesIdeal.Facts
open Cert.Proof.Account Cert.Proof.Dup Cert.Proof.Count Cert.Proof.Moves

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-- The number of the tile at `i`. -/
abbrev wid (i : grid0.Coords) : Nat := 16 * (i 0).val + (i 1).val

theorem off1_eq (i : grid0.Coords) : k0_off1 i = ![10000 * wid i] := by
  rw [Gen.k0_off1_eq]
  exact congrArg (fun n => ![n]) (by unfold wid; omega)

/-- The `n`-th edge. -/
def far (n : Nat) : S320000.Idx := fun a => ⟨n % 320000, by obtain rfl := Fin.eq_zero a; exact Nat.mod_lt _ (by decide)⟩

/-- The stretch of an edge array that starts at edge `b`. -/
def stretchAt {e : EltTy} (x : S320000.Idx → Elt F e) (b : Nat) : S10000.Idx → Elt F e := fun j => x (far (b + (j 0).val))

/-- What tile `n` adds up, element by element of its accumulator. -/
def tileCount (A : Acct F) (c : Vec F S320000 .i32) (w : Vec F S320000 .f32) (n : Nat) : S10048.Idx → A.M :=
  ∑ e ∈ Finset.range 10000, count A (c (far (10000 * n + e))) (w (far (10000 * n + e)))

theorem sum_stretch (A : Acct F) (c : Vec F S320000 .i32) (w : Vec F S320000 .f32) (n : Nat) :
    ∑ e ∈ Finset.range 10000, countAt A (stretchAt c (10000 * n)) (stretchAt w (10000 * n)) e = tileCount A c w n := by
  refine Finset.sum_congr rfl fun e he => ?_
  have hn : 10000 * n + (Count.nth e 0).val = 10000 * n + e := by
    show 10000 * n + e % 10000 = _
    rw [Nat.mod_eq_of_lt (Finset.mem_range.mp he)]
  unfold countAt stretchAt
  rw [hn]

/-- A hundred and twenty-five trips of eighty edges are the stretch. -/
theorem all_trips {n : Nat} (hn : n = 125) (A : Acct F) (c : Vec F S10000 .i32) (w : Vec F S10000 .f32) :
    ∑ k : Fin n, ∑ l ∈ Finset.range 80, countAt A c w (80 * k.val + l) = ∑ e ∈ Finset.range 10000, countAt A c w e := by
  subst hn
  rw [← Finset.sum_range (fun k => ∑ l ∈ Finset.range 80, countAt A c w (80 * k + l)), show 10000 = 125 * 80 from rfl, ← sum_blocks]
  refine Finset.sum_congr rfl fun k _ => Finset.sum_congr rfl fun l _ => ?_
  rw [Nat.mul_comm]

theorem slice_stretchAt {T : Thread nD τ} {e : EltTy} (m : Memref sig T.2.kind .hbm S320000 e) (f : Buf (Elt F) (m.view.loc T)) {off : Fin 1 → Nat}
    (hin : ∀ a, off a + S10000.size a ≤ S320000.size a) (b : Nat) (ho : off = ![b]) :
    (m.slice (Rect.unit (s := S320000) off S10000.size hin) (fun _ => rfl)).view.read (Elt F) f = stretchAt (m.view.read (Elt F) f) b := by
  subst ho
  funext j
  show m.view.read (Elt F) f ((Rect.unit (s := S320000) ![b] S10000.size hin).emb j) = m.view.read (Elt F) f (far (b + (j 0).val))
  refine congrArg (m.view.read (Elt F) f) (funext fun a => ?_)
  obtain rfl := Fin.eq_zero a
  refine Fin.ext ?_
  show b + 1 * (j 0).val = (b + (j 0).val) % 320000
  have h0 : b + 10000 ≤ 320000 := hin 0
  have hj : (j 0).val < 10000 := (j 0).isLt
  rw [Nat.mod_eq_of_lt (by omega)]
  omega

section Run
variable {defs : Defs nD τ sig (Elt F) Λ₀} {𝒱 : Variants} {bd : Option 𝒱.V} {A : Acct F} {d : Dev nD}
variable (i : grid0.Coords) (arg2 : Memref sig .scVector .hbm S320000 .i32) (harg2 : arg2.IsWhole) (arg3 : Memref sig .scVector .hbm S320000 .f32) (harg3 : arg3.IsWhole) (arg4 : Memref sig .scVector .hbm S320000 .f32) (harg4 : arg4.IsWhole) (arg5 : Memref sig .scVector .vmem S10000 .i32) (harg5 : arg5.IsWhole) (arg6 : Memref sig .scVector .vmem S10000 .f32) (harg6 : arg6.IsWhole) (arg7 : Memref sig .scVector .vmem S10048 .f32) (harg7 : arg7.IsWhole) (arg8 : DmaSems sig S_) (v16_r0 : DmaSems sig S_)

/-- The loop over the tile's edges. -/
theorem loop_run (cv : Vec F S10000 .i32) (wv : Vec F S10000 .f32) (hc : ∀ x, (show BitVec 32 from cv x).toNat < 10000) (init : BitVec 32) (S : S10048.Idx → A.M) :
    iprop((Held (tile d i) arg5 fullShare cv ∗ Held (tile d i) arg6 fullShare wv) ∗ Booked (Ix := Ix) (Name := Name) (U := U) (Lvl := Lvl) A (tile d i) arg7 S)
      ⊢ wp frame (wpE defs 𝒱 (tile d i) bd) Set.univ (Scf.Loop.for k0_t2_loop k0_t2_ok init (Gen.k0_t2_body (F := F) i arg2 harg2 arg3 harg3 arg4 harg4 arg5 harg5 arg6 harg6 arg7 harg7 arg8 v16_r0))
        (fun _ => iprop((Held (tile d i) arg5 fullShare cv ∗ Held (tile d i) arg6 fullShare wv) ∗ Booked A (tile d i) arg7 (S + ∑ e ∈ Finset.range 10000, countAt A cv wv e))) := by
  refine BIBase.Entails.trans (Good.entails (Good.for (Ix := Ix) (Name := Name) (U := U) (Lvl := Lvl) k0_t2_loop (fun k => ∑ l ∈ Finset.range 80, countAt A cv wv (80 * k.val + l)) (fun k a S => ?_)
    (Q := fun _ S' => S' = S + ∑ e ∈ Finset.range 10000, countAt A cv wv e) (fun _ => by rw [all_trips (by decide)]))) (wp_mono _ _ _ fun v => ?_)
  · refine trip i arg2 harg2 arg3 harg3 arg4 harg4 arg5 harg5 arg6 harg6 arg7 harg7 arg8 v16_r0 cv wv ⟨fullShare, ?_⟩ ⟨fullShare, ?_⟩ hc k a S (fun v => rfl)
    · iintro ⟨Hc, Hw⟩
      isplitl [Hc]; · iexact Hc
      iintro Hc
      isplitl [Hc]; · iexact Hc
      iexact Hw
    · iintro ⟨Hc, Hw⟩
      isplitl [Hw]; · iexact Hw
      iintro Hw
      isplitl [Hc]; · iexact Hc
      iexact Hw
  · iintro ⟨%S', %hS, H⟩
    rw [← hS]
    iexact H

/-- The accumulator is zeroed. -/
theorem zero_run [Infinite Name] (init : BitVec 32) :
    (Free (tile d i) arg7 : sProp 𝕄)
      ⊢ wp frame (wpE defs 𝒱 (tile d i) bd) Set.univ (Scf.Loop.for k0_t1_loop k0_t1_ok init (Gen.k0_t1_body (F := F) i arg2 harg2 arg3 harg3 arg4 harg4 arg5 harg5 arg6 harg6 arg7 harg7 arg8 v16_r0))
        (fun _ => Booked A (tile d i) arg7 0) := by
  delta Gen.k0_t1_body Gen.k0_pay1 Gen.k0_pay2 Gen.k0_pay3 Gen.k0_pay4
  conv => zeta
  unfold Free
  iintro ⟨%x7, H7⟩
  iapply (Scf.wp_for frame (wpE defs 𝒱 (tile d i) bd) Set.univ k0_t1_loop.lb k0_t1_loop.ub k0_t1_loop.st k0_t1_ok _ _
    (fun m _ => iprop(∃ x : S10048.Idx → F .f32, ⌜∀ j, (j 0).val < 64 * m → x j = FloatOps.ofBits .f32 0#32⌝ ∗ Held (tile d i) arg7 fullShare x)) ?_) $$ [H7]
  · intro k a
    iintro ⟨%x, %hx, H⟩
    iapply (zero_lanes (c := tile d i) (acc := arg7) (off := k0_off2 k 0#32) (n := 64 * k.val + 0) (by exact Gen.k0_off2_eq k 0) hx) $$ H
    iintro %x1 %h1 H
    iapply (zero_lanes (c := tile d i) (acc := arg7) (off := k0_off2 k 16#32) (n := 64 * k.val + 16) (by exact Gen.k0_off2_eq k 1) h1) $$ H
    iintro %x2 %h2 H
    iapply (zero_lanes (c := tile d i) (acc := arg7) (off := k0_off2 k 32#32) (n := 64 * k.val + 32) (by exact Gen.k0_off2_eq k 2) h2) $$ H
    iintro %x3 %h3 H
    iapply (zero_lanes (c := tile d i) (acc := arg7) (off := k0_off2 k 48#32) (n := 64 * k.val + 48) (by exact Gen.k0_off2_eq k 3) h3) $$ H
    iintro %x4 %h4 H
    rw [wp_pure]
    imodintro
    iexists x4
    isplitr [H]
    · ipureintro
      intro j hj
      exact h4 j (by omega)
    · iexact H
  · isplitl [H7]
    · iexists x7
      isplitr [H7]
      · ipureintro; intro j hj; exact absurd hj (by omega)
      · iexact H7
    · iintro %a ⟨%x, %hx, H⟩
      unfold Booked
      iexists x
      isplitr [H]
      swap
      · iexact H
      · ipureintro
        intro j
        have hj : (j 0).val < 10048 := (j 0).isLt
        have ht : k0_t1_loop.trips = 157 := by decide
        have h0 : x j = FloatOps.ofBits .f32 0#32 := hx j (by change (j 0).val < 64 * k0_t1_loop.trips; omega)
        rw [h0]
        exact A.zero

/-- The tile's accumulator without its last words, and the tile's stretch of the result. -/
abbrev accSrc : Memref sig .scVector .vmem S10000 .f32 := arg7.slice (Rect.unit (s := S10048) ![0] S10000.size inb_S10048_S10000_0) (fun _ => rfl)
abbrev outDst : Memref sig .scVector .hbm S10000 .f32 := arg4.slice (Rect.unit (s := S320000) (k0_off1 i) S10000.size (k0_off1_inb i)) (fun _ => rfl)

/-- The tile's own memory, semaphores at zero, and shares of what it reads. -/
def Gear (q : PosShare TreeShare) (f2 : Buf (Elt F) (arg2.view.loc (tile d i))) (f3 : Buf (Elt F) (arg3.view.loc (tile d i))) : sProp 𝕄 :=
  iprop((Lent (tile d i) arg2 q f2 ∗ Lent (tile d i) arg3 q f3) ∗ (Free (tile d i) arg5 ∗ Free (tile d i) arg6 ∗ Free (tile d i) arg7)
    ∗ semVal (tile d i, .dma arg8.sem) 0 ∗ semVal (tile d i, .dma v16_r0.sem) 0)

variable (EC : UEmb Counters (MT nD τ sig Ix (Elt F) Name U Lvl)) (ι : Ix) (N : Nat) {O : CellTallies nD τ sig Ix} {W : Waits sig Ix}

set_option maxHeartbeats 4000000 in
/-- The tile's run: its stretch of the result ends at its sums, everything else as it was. -/
theorem body_run [Infinite Name] [EC.LandsIn (upEmb : UEmb _ (MT nD τ sig Ix (Elt F) Name U Lvl))]
    (h5 : arg5.view.dmaCredit = N) (h6 : arg6.view.dmaCredit = N) (hN : 0 < N)
    (q : PosShare TreeShare) (f2 : Buf (Elt F) (arg2.view.loc (tile d i))) (f3 : Buf (Elt F) (arg3.view.loc (tile d i)))
    (hc : ∀ x, (show BitVec 32 from arg2.view.read (Elt F) f2 x).toNat < 10000) :
    iprop((MayWaits (tile d i) ι O : sProp 𝕄) ∗ Gear i arg2 arg3 arg5 arg6 arg7 arg8 v16_r0 q f2 f3 ∗ Free (tile d i) (outDst i arg4) ∗ Owed (tile d i) ι O W)
      ⊢ wp frame (wpE defs 𝒱 (tile d i) bd) Set.univ (cc0__deg_body (F := F) i arg2 harg2 arg3 harg3 arg4 harg4 arg5 harg5 arg6 harg6 arg7 harg7 arg8 v16_r0)
        (fun _ => iprop(Gear (Ix := Ix) (Name := Name) (U := U) (Lvl := Lvl) i arg2 arg3 arg5 arg6 arg7 arg8 v16_r0 q f2 f3
          ∗ Booked A (tile d i) (outDst i arg4) (fun j => tileCount A (arg2.view.read (Elt F) f2) (arg3.view.read (Elt F) f3) (wid i) ((Rect.unit (s := S10048) ![0] S10000.size inb_S10048_S10000_0).emb j))
          ∗ Owed (tile d i) ι O W)) := by
  rw [Gen.cc0__deg_body_eq_skeleton]
  delta Gen.cc0__deg_body_skel
  conv => zeta
  unfold Gear
  have open5 : Free (F := F) (Ix := Ix) (Name := Name) (U := U) (Lvl := Lvl) (tile d i) arg5 ⊢ iprop(∃ x : S10000.Idx → Elt F .i32, Held (tile d i) arg5 fullShare x) := by
    unfold Free; exact BIBase.Entails.refl
  have open6 : Free (F := F) (Ix := Ix) (Name := Name) (U := U) (Lvl := Lvl) (tile d i) arg6 ⊢ iprop(∃ x : S10000.Idx → F .f32, Held (tile d i) arg6 fullShare x) := by
    unfold Free; exact BIBase.Entails.refl
  have open4 : Free (F := F) (Ix := Ix) (Name := Name) (U := U) (Lvl := Lvl) (tile d i) (outDst i arg4) ⊢ iprop(∃ x : S10000.Idx → F .f32, Held (tile d i) (outDst i arg4) fullShare x) := by
    unfold Free; exact BIBase.Entails.refl
  iintro ⟨#Hm, ⟨⟨H2, H3⟩, ⟨H5, H6, H7⟩, Hv, Hu⟩, H4, HO⟩
  ihave H5 := open5 $$ H5
  icases H5 with ⟨%x5, H5⟩
  ihave H6 := open6 $$ H6
  icases H6 with ⟨%x6, H6⟩
  ihave H4 := open4 $$ H4
  icases H4 with ⟨%x4, H4⟩
  ihave H2' := (lend_slice (Rect.unit (s := S320000) (k0_off1 i) S10000.size (k0_off1_inb i)) (fun _ => rfl)) $$ H2
  icases H2' with ⟨H2, H2b⟩
  ihave H3' := (lend_slice (Rect.unit (s := S320000) (k0_off1 i) S10000.size (k0_off1_inb i)) (fun _ => rfl)) $$ H3
  icases H3' with ⟨H3, H3b⟩
  iapply (start_pair EC ι (c := tile d i) (N := N) (x₁ := x5) (x₂ := x6) h5 h6) $$ [H2 H3 H5 H6 Hv]
  · isplitl [H2 H3]
    · isplitl [H2]; · iexact H2
      iexact H3
    isplitl [H5 H6]
    · isplitl [H5]; · iexact H5
      iexact H6
    iexact Hv
  iintro HB
  rw [wp_bind]
  iapply (wp_wand frame (wpE defs 𝒱 (tile d i) bd) Set.univ) $$ [H7]
  · iapply (zero_run i arg2 harg2 arg3 harg3 arg4 harg4 arg5 harg5 arg6 harg6 arg7 harg7 arg8 v16_r0 (A := A) _)
    iexact H7
  iintro %v0 H7
  iapply (wait_pair EC ι (c := tile d i) (N := N) h5 h6 hN) $$ [HB HO]
  · isplitr; · iexact Hm
    isplitl [HB]; · iexact HB
    iexact HO
  iintro ⟨⟨H5, H6⟩, ⟨H2, H3⟩, Hv, HO⟩
  rw [slice_stretchAt (T := tile d i) arg2 f2 (k0_off1_inb i) _ (off1_eq i), slice_stretchAt (T := tile d i) arg3 f3 (k0_off1_inb i) _ (off1_eq i)]
  rw [wp_bind]
  iapply (wp_wand frame (wpE defs 𝒱 (tile d i) bd) Set.univ) $$ [H5 H6 H7]
  · iapply (loop_run i arg2 harg2 arg3 harg3 arg4 harg4 arg5 harg5 arg6 harg6 arg7 harg7 arg8 v16_r0 (stretchAt (arg2.view.read (Elt F) f2) (10000 * wid i)) (stretchAt (arg3.view.read (Elt F) f3) (10000 * wid i)) (fun x => hc _) _ _)
    isplitl [H5 H6]
    · isplitl [H5]; · iexact H5
      iexact H6
    iexact H7
  iintro %v1 ⟨⟨H5, H6⟩, H7⟩
  rw [sum_stretch, zero_add]
  unfold Booked
  icases H7 with ⟨%x7, %hx7, H7⟩
  have hHeld : Held (Ix := Ix) (Name := Name) (U := U) (Lvl := Lvl) (tile d i) arg7 fullShare x7 ⊢ iprop(∃ f, ⌜arg7.view.read (Elt F) f = x7⌝ ∗ Lent (tile d i) arg7 fullShare f) := by
    unfold Held Lent; exact BIBase.Entails.rfl
  ihave H7' := hHeld $$ H7
  icases H7' with ⟨%f7, %hf7, H7⟩
  ihave H7' := (lend_slice (Rect.unit (s := S10048) ![0] S10000.size inb_S10048_S10000_0) (fun _ => rfl)) $$ H7
  icases H7' with ⟨H7, H7b⟩
  iapply (start_one EC ι (c := tile d i) (src := accSrc arg7) (dst := outDst i arg4) (x := x4)) $$ [H7 H4 Hu]
  · isplitl [H7]; · iexact H7
    isplitl [H4]; · iexact H4
    iexact Hu
  iintro HB
  iapply (wait_one EC ι (c := tile d i) (src := accSrc arg7) (dst := outDst i arg4) (View.dmaCredit_pos _ (by decide))) $$ [HB HO]
  · isplitr; · iexact Hm
    isplitl [HB]; · iexact HB
    iexact HO
  iintro ⟨H4, H7, Hu, HO⟩
  ihave H7 := H7b $$ H7
  rw [wp_pure]
  imodintro
  isplitr [H4 HO]
  · isplitl [H2 H2b H3 H3b]
    · isplitl [H2 H2b]
      · iapply H2b; iexact H2
      · iapply H3b; iexact H3
    isplitl [H5 H6 H7]
    · isplitl [H5]; · iapply Free.of; iexact H5
      isplitl [H6]; · iapply Free.of; iexact H6
      iapply (Free.of (x := arg7.view.read (Elt F) f7))
      unfold Held Lent
      iexists f7
      isplitr
      · ipureintro; rfl
      · iexact H7
    isplitl [Hv]; · iexact Hv
    iexact Hu
  isplitr [HO]
  · iexists ((accSrc arg7).view.read (Elt F) f7)
    isplitr
    · ipureintro
      intro j
      subst hf7
      exact hx7 _
    · iexact H4
  · iexact HO

end Run

end Cert.Proof.Tally
-- ==== Proof.TallyLaunch.lean ====
/-
  The launch of the degree call: thirty-two tiles, each with read shares of the edges' targets and weights and with
  its own stretch of the result, and what the whole run leaves.
-/
module

public import proofs.«01_k».proof.Proof.Tally
public import proofs.«01_k».proof.Proof.Deal
public import Idealize.ShloMosaic.Lib.SparseCore.Quiescent
public import Idealize.ShloMosaic.Lib.SparseCore.Ops
public import Idealize.ShloMosaic.Lib.Pipeline.Kit

@[expose] public section

noncomputable section

namespace Cert.Proof.TallyLaunch

open Cert.DegreesIdeal Cert.DegreesIdeal.Facts₀ Cert.DegreesIdeal.Facts
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Account Cert.Proof.Moves Cert.Proof.Tally Cert.Proof.Deal

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL
/-- Where the copies count. -/
def EC : UEmb Counters (MT nD τ sig (HIx 1) (Elt F) ℕ UU ℕ) := (UEmb.inr : UEmb Counters (UH × Counters)).trans uEmb
instance EC_landsIn : (EC (F := F)).LandsIn (upEmb : UEmb _ (MT nD τ sig (HIx 1) (Elt F) ℕ UU ℕ)) := by unfold EC; infer_instance

/-! ## The arrays and the tiles' stretches of the result -/

variable (m : (ℓ : Loc nD τ sig) → Buf (Elt F) ℓ) (ρ : Dev nD → PrngReg)

abbrev cLoc (d : Dev nD) : Loc nD τ sig := (SparseCore.T d).loc main_arg0
abbrev wLoc (d : Dev nD) : Loc nD τ sig := (SparseCore.T d).loc main_arg1
abbrev oLoc (d : Dev nD) : Loc nD τ sig := (SparseCore.T d).loc main_v0

theorem div32 : 32 ∣ S320000.size 0 := ⟨10000, rfl⟩
/-- The stretch of the result that tile `n` writes. -/
abbrev stretch (n : Fin 32) : Rect S320000 := Rect.part (s := S320000) (a₀ := 0) div32 n
abbrev stretchSet (n : Fin 32) : Finset S320000.Idx := (stretch n).set
theorem disjoint_stretches (i j : Fin 32) (h : i ≠ j) : Disjoint (stretchSet i) (stretchSet j) := Rect.part_disjoint div32 h

/-- The `j`-th element of tile `n`'s stretch. -/
def outAt (n : Fin 32) (j : S10000.Idx) : S320000.Idx := fun a => ⟨10000 * n.val + (j 0).val, by
  obtain rfl := Fin.eq_zero a
  have h := n.isLt; have h' : (j 0).val < 10000 := (j 0).isLt
  show _ < 320000
  omega⟩

theorem outAt_mem (n : Fin 32) (j : S10000.Idx) : outAt n j ∈ stretchSet n := by
  rw [stretchSet, stretch, Rect.part, Rect.block, Rect.mem_set_unit]
  intro a
  obtain rfl := Fin.eq_zero a
  have h : (j 0).val < 10000 := (j 0).isLt
  show n.val * 10000 ≤ 10000 * n.val + (j 0).val ∧ 10000 * n.val + (j 0).val < n.val * 10000 + 10000
  omega

variable [FloatOps F]

/-- What tile `n` leaves at the `j`-th element of its stretch, in the account. -/
def sumAtTile (A : Acct F) (d : Dev nD) (n : Fin 32) (j : S10000.Idx) : A.M :=
  tileCount A (m (cLoc d)) (m (wLoc d)) n.val ((Rect.unit (s := S10048) ![0] S10000.size inb_S10048_S10000_0).emb j)

/-- Tile `n`'s read shares. -/
abbrev reads (d : Dev nD) (q : PosShare TreeShare) : sProp 𝕄 := iprop((cLoc d ↦{q} m (cLoc d)) ∗ (wLoc d ↦{q} m (wLoc d)))
abbrev stretchPts (d : Dev nD) (n : Fin 32) (f : Buf (Elt F) (oLoc d)) : sProp 𝕄 := oLoc d ↦[stretchSet n]{fullShare} f
abbrev given (d : Dev nD) (n : Fin 32) : sProp 𝕄 := iprop(reads m d (tok n) ∗ stretchPts d n (m (oLoc d)))
abbrev taken (A : Acct F) (d : Dev nD) (n : Fin 32) : sProp 𝕄 :=
  iprop(reads m d (tok n) ∗ ∃ f : Buf (Elt F) (oLoc d), ⌜∀ j, A.rep (f (outAt n j)) (sumAtTile m A d n j)⌝ ∗ stretchPts d n f)

variable (A : Acct F)

/-- What the handshakes carry: each core takes what its sixteen tiles take and brings back what they bring back. -/
def P : (K (F := F)).Pay (nD := nD) (Val := Elt F) (Name := ℕ) (U := UU) where
  st := fun q d c => match q with | 0 => bigSep Finset.univ fun i : Fin 16 => given m d (num c i)
  dn := fun q d c => match q with | 0 => bigSep Finset.univ fun i : Fin 16 => taken m A d (num c i)
  go := fun q d c i => match q with | 0 => given m d (num c i)
  td := fun q d c i => match q with | 0 => taken m A d (num c i)
  x := fun _ _ => iprop(emp)

instance P_storable : (P (F := F) m A).IsStorable where
  st q d c := match q with
    | 0 => (inferInstance : BI.Storable (upEmb : UEmb _ 𝕄) (bigSep Finset.univ fun i : Fin 16 => given m d (num c i)))
  dn q d c := match q with
    | 0 => (inferInstance : BI.Storable (upEmb : UEmb _ 𝕄) (bigSep Finset.univ fun i : Fin 16 => taken m A d (num c i)))
  go q d c i := match q with
    | 0 => (inferInstance : BI.Storable (upEmb : UEmb _ 𝕄) (given m d (num c i)))
  td q d c i := match q with
    | 0 => (inferInstance : BI.Storable (upEmb : UEmb _ 𝕄) (taken m A d (num c i)))

/-- Every edge's target is one of the ten thousand nodes. -/
def InRange : Prop := ∀ (d : Dev nD) (e : S320000.Idx), (m (cLoc d) e).toNat < 10000

/-! ## One tile -/

section Tile

variable (d : Dev nD) (L : grid0.Coords)

abbrev cV (L : grid0.Coords) : Fin τ.nSC := (L 0).castLE hcore0
abbrev jV (L : grid0.Coords) : Fin τ.nSub := (L 1).castLE hsub0
abbrev VT (d : Dev nD) (L : grid0.Coords) : Thread nD τ := V d (cV L) (jV L)
/-- The number of the tile at grid point `L`. -/
abbrev numL (L : grid0.Coords) : Fin 32 := num (L 0) (L 1)

theorem numL_val : (numL L).val = 16 * (L 0).val + (L 1).val := by
  show (L 1).val + 16 * (L 0).val = _
  omega

/-- The tile's scratch buffers. -/
abbrev scratch : Fin 3 → Ref sig .scVector := ![cc0_scratch0, cc0_scratch1, cc0_scratch2]
theorem scratch_inj : Function.Injective scratch := by decide
abbrev sref (c : Fin τ.nSC) (i : Fin τ.nSub) (k : Fin 3) : DevRef τ sig := (Proc.scVector c i).devRef (scratch k)
/-- The tile's semaphores. -/
abbrev dcell (d : Dev nD) (c : Fin τ.nSC) (i : Fin τ.nSub) (k : Fin 2) : GSem nD τ sig := (V d c i, .dma (⟨k.val, k.isLt⟩ : DmaSem sig))

abbrev bufs : sProp 𝕄 := iprop(Any (VT d L) cc0_scratch0 ∗ Any (VT d L) cc0_scratch1 ∗ Any (VT d L) cc0_scratch2)
abbrev sems : sProp 𝕄 := iprop(semVal (VT d L, SemLoc.dma cc0_scratch3.sem) 0 ∗ semVal (VT d L, SemLoc.dma cc0_scoped0.sem) 0)

omit [FloatOps F] in
theorem ownSems0_V :
    (ownSems0 (VT d L) : sProp 𝕄) = iprop(sems d L ∗ bigSep ((ownCells (VT d L)) \ Finset.univ.image (dcell d (cV L) (jV L))) fun g => semVal g 0) := by
  unfold SparseCore.Cfg.ownSems0
  rw [SparseCore.bigSep_sdiff_split' (t := Finset.univ.image (dcell d (cV L) (jV L)))
      (Finset.image_subset_iff.mpr fun k _ => mem_ownCells.mpr ⟨rfl, (show ∀ s : DmaSem sig, (SemLoc.dma s : SemLoc sig).isScoped .scVector = true by decide) _⟩),
    SparseCore.bigSep_image_of_injOn (fun a _ b _ h => by
      have := congrArg (fun g : GSem nD τ sig => g.2) h
      simp only [SemLoc.dma.injEq, Fin.mk.injEq] at this; exact Fin.ext this)]
  rw [show (Finset.univ : Finset (Fin 2)) = {0, 1} by decide, SparseCore.bigSep_insert' (by decide), bigSep_singleton]
  rfl

omit [FloatOps F] in
theorem ownBufs_V :
    (ownBufs (VT d L) : sProp 𝕄)
      = iprop(bufs d L ∗ bigSep ((ownRefs (τ := τ) (.scVector (cV L) (jV L))) \ Finset.univ.image (sref (cV L) (jV L)))
              fun b => iprop(∃ f, ((d, b) : Loc nD τ sig) ↦{fullShare} f)) := by
  unfold SparseCore.Cfg.ownBufs
  rw [SparseCore.bigSep_sdiff_split' (t := Finset.univ.image (sref (cV L) (jV L)))
      (Finset.image_subset_iff.mpr fun k _ => SparseCore.Cfg.mem_ownRefs_of_owner (p := Proc.scVector (cV L) (jV L)) (b := sref (cV L) (jV L) k) (by fin_cases k <;> rfl)),
    SparseCore.bigSep_image_of_injOn (fun a _ b _ h => scratch_inj (Proc.devRef_injective _ h))]
  rw [show (Finset.univ : Finset (Fin 3)) = {0, 1, 2} by decide, SparseCore.bigSep_insert' (by decide), SparseCore.bigSep_insert' (by decide), bigSep_singleton]
  rfl

/-- The tile's stretch of the result, as the body slices it. -/
abbrev outL : Memref sig .scVector .hbm S10000 .f32 := outDst L (Memref.whole main_v0_scv)

omit [FloatOps F] in
theorem rect_eq : Rect.unit (s := S320000) (k0_off1 L) S10000.size (k0_off1_inb L) = stretch (numL L) := by
  unfold stretch Rect.part Rect.block
  congr 1 <;> funext a <;> obtain rfl := Fin.eq_zero a
  · rw [off1_eq]
    show 10000 * (16 * (L 0).val + (L 1).val) = (numL L).val * 10000
    rw [numL_val]
    omega
  · rfl

omit [FloatOps F] in
theorem set_out : (outL L).view.set = stretchSet (numL L) := by
  show ((View.whole (main_v0_scv : Ref sig .scVector)).slice (Rect.unit (s := S320000) (k0_off1 L) S10000.size (k0_off1_inb L))).set = _
  rw [View.set_slice, rect_eq]
  exact Finset.map_refl

omit [FloatOps F] in
theorem read_out (f : Buf (Elt F) (oLoc d)) (j : S10000.Idx) : (outL L).view.read (Elt F) f j = f (outAt (numL L) j) := by
  show f ((Rect.unit (s := S320000) (k0_off1 L) S10000.size (k0_off1_inb L)).emb j) = _
  refine congrArg f (funext fun a => ?_)
  obtain rfl := Fin.eq_zero a
  refine Fin.ext ?_
  show k0_off1 L 0 + 1 * (j 0).val = 10000 * (numL L).val + (j 0).val
  rw [off1_eq, numL_val]
  show 10000 * (16 * (L 0).val + (L 1).val) + 1 * (j 0).val = _
  omega

omit [FloatOps F] in
theorem out_free (f : Buf (Elt F) (oLoc d)) : (stretchPts d (numL L) f : sProp 𝕄) ⊢ Free (VT d L) (outL L) := by
  unfold Free Held stretchPts
  rw [← set_out]
  iintro H
  iexists _
  iexists f
  isplitr
  · ipureintro; rfl
  · iexact H

theorem out_booked : Booked (Ix := HIx 1) (Name := ℕ) (U := UU) (Lvl := ℕ) A (VT d L) (outL L) (sumAtTile m A d (numL L))
    ⊢ iprop(∃ f : Buf (Elt F) (oLoc d), ⌜∀ j, A.rep (f (outAt (numL L) j)) (sumAtTile m A d (numL L) j)⌝ ∗ stretchPts d (numL L) f) := by
  unfold Booked Held stretchPts
  rw [← set_out]
  iintro ⟨%x, %hx, %f, %hf, H⟩
  iexists f
  isplitr
  · ipureintro
    intro j
    have h := hx j
    rw [← hf, read_out] at h
    exact h
  · iexact H

/-- The tile's memory and read shares, as its run holds them. -/
abbrev gear (q : PosShare TreeShare) : sProp 𝕄 :=
  Gear (Ix := HIx 1) (Name := ℕ) (U := UU) (Lvl := ℕ) L (Memref.whole main_arg0_scv) (Memref.whole main_arg1_scv)
    (Memref.whole cc0_scratch0) (Memref.whole cc0_scratch1) (Memref.whole cc0_scratch2) cc0_scratch3 cc0_scoped0
    q (d := d) (m (cLoc d)) (m (wLoc d))

omit [FloatOps F] in
theorem gear_of (q : PosShare TreeShare) : iprop(reads m d q ∗ bufs d L ∗ sems d L) ⊢ gear m d L q := by
  unfold gear Gear
  rw [lent_whole, lent_whole]
  iintro ⟨⟨Hc, Hw⟩, ⟨B0, B1, B2⟩, ⟨S3, S0⟩⟩
  isplitl [Hc Hw]
  · isplitl [Hc]; · iexact Hc
    iexact Hw
  isplitl [B0 B1 B2]
  · isplitl [B0]; · iapply (free_of_any _ cc0_scratch0); iexact B0
    isplitl [B1]; · iapply (free_of_any _ cc0_scratch1); iexact B1
    iapply (free_of_any _ cc0_scratch2); iexact B2
  isplitl [S3]; · iexact S3
  iexact S0

omit [FloatOps F] in
theorem of_gear (q : PosShare TreeShare) : gear m d L q ⊢ iprop(reads m d q ∗ bufs d L ∗ sems d L) := by
  unfold gear Gear
  rw [lent_whole, lent_whole]
  iintro ⟨⟨Hc, Hw⟩, ⟨B0, B1, B2⟩, S3, S0⟩
  isplitl [Hc Hw]
  · isplitl [Hc]; · iexact Hc
    iexact Hw
  isplitl [B0 B1 B2]
  · isplitl [B0]; · iapply (any_of_free _ cc0_scratch0); iexact B0
    isplitl [B1]; · iapply (any_of_free _ cc0_scratch1); iexact B1
    iapply (any_of_free _ cc0_scratch2); iexact B2
  isplitl [S3]; · iexact S3
  iexact S0

/-- The task at grid point `L`. -/
theorem tile_body (hF : (K (F := F)).Facts) (hpre : InRange m) (O : CellTallies nD τ sig (HIx 1)) (W : Waits sig (HIx 1)) (hO : ∀ g, O g none = 0) :
    iprop(levAts (K (F := F)).L (K (F := F)).lev ∗ emp ∗ given m d (numL L)
        ∗ scopedBufs (VT d L) ∗ scopedSems0 (VT d L) ∗ owes (VT d L) O W)
      ⊢ wp frame (wpE (defs₀ (F := F)) 𝒱₀ (VT d L) none) Set.univ
          (cc0__deg_body L (Memref.whole main_arg0_scv) (Memref.isWhole_whole _) (Memref.whole main_arg1_scv) (Memref.isWhole_whole _) (Memref.whole main_v0_scv) (Memref.isWhole_whole _) (Memref.whole cc0_scratch0) (Memref.isWhole_whole _) (Memref.whole cc0_scratch1) (Memref.isWhole_whole _) (Memref.whole cc0_scratch2) (Memref.isWhole_whole _) cc0_scratch3 cc0_scoped0)
          fun _ => iprop(taken m A d (numL L) ∗ scopedBufs (VT d L) ∗ scopedSems0 (VT d L)
            ∗ ∃ W', ⌜∀ p ∈ W', p ∈ W ∨ p.2 = none ∨ p.2 = some (0 : Fin 1)⌝ ∗ owes (VT d L) O W') := by
  rw [(K (F := F)).scopedBufs_V hF d (cV L) (jV L), SparseCore.Cfg.scopedSems0_V (Val := Elt F) d (cV L) (jV L), ownSems0_V, ownBufs_V]
  iintro ⟨#Hlv, -, ⟨Hreads, Hout⟩, ⟨HB, Hbufs⟩, ⟨HS, Hsems⟩, HO⟩
  ihave Hmw := (show levAts (K (F := F)).L (K (F := F)).lev ⊢ Transfers.MayWaits (VT d L) (default : HIx 1) O from
    (K (F := F)).mayWaits_none (thr := VT d L) hO) $$ Hlv
  ihave Hg := (gear_of m d L (tok (numL L))) $$ [Hreads HB HS]
  · isplitl [Hreads]; · iexact Hreads
    isplitl [HB]; · iexact HB
    iexact HS
  iapply (wp_wand_r Idealize.ShloMosaic.frame (wpE (defs₀ (F := F)) 𝒱₀ (VT d L) none) Set.univ)
  isplitl [Hg Hout HO Hmw]
  · iapply (body_run (F := F) (Ix := HIx 1) (Name := ℕ) (U := UU) (Lvl := ℕ) (A := A) (d := d) L (Memref.whole main_arg0_scv) (Memref.isWhole_whole _) (Memref.whole main_arg1_scv) (Memref.isWhole_whole _) (Memref.whole main_v0_scv) (Memref.isWhole_whole _) (Memref.whole cc0_scratch0) (Memref.isWhole_whole _) (Memref.whole cc0_scratch1) (Memref.isWhole_whole _) (Memref.whole cc0_scratch2) (Memref.isWhole_whole _) cc0_scratch3 cc0_scoped0
      EC default (Memref.whole cc0_scratch0 : Memref sig .scVector .vmem S10000 .i32).view.dmaCredit (O := O) (W := W)
      rfl rfl (View.dmaCredit_pos _ (by decide)) (tok (numL L)) (m (cLoc d)) (m (wLoc d)) (fun e => hpre d e))
    isplitl [Hmw]; · iexact Hmw
    isplitl [Hg]; · iexact Hg
    isplitl [Hout]; · iapply (out_free d L _); iexact Hout
    unfold Owed
    iexists W
    isplitr
    · ipureintro; intro p hp; exact .inl hp
    · iexact HO
  iintro %_ ⟨Hg, Hb, HO⟩
  ihave Hg' := (of_gear m d L (tok (numL L))) $$ Hg
  icases Hg' with ⟨Hreads, HB, HS⟩
  have hsum : (fun j => tileCount A (m (cLoc d)) (m (wLoc d)) (wid L) ((Rect.unit (s := S10048) ![0] S10000.size inb_S10048_S10000_0).emb j)) = sumAtTile m A d (numL L) := by
    unfold sumAtTile
    rw [numL_val]
    rfl
  isplitl [Hreads Hb]
  · isplitl [Hreads]; · iexact Hreads
    iapply (out_booked m A d L)
    rw [← hsum]
    iexact Hb
  isplitl [HB Hbufs]
  · isplitl [HB]; · iexact HB
    iexact Hbufs
  isplitl [HS Hsems]
  · isplitl [HS]; · iexact HS
    iexact Hsems
  unfold Owed
  icases HO with ⟨%W', %hW', HO⟩
  iexists W'
  isplitr
  · ipureintro
    intro p hp
    rcases hW' p hp with h | h
    · exact .inl h
    · exact .inr (.inl h)
  · iexact HO

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__deg_body (coordsV c s) (Memref.whole main_arg0_scv) (Memref.isWhole_whole _) (Memref.whole main_arg1_scv) (Memref.isWhole_whole _) (Memref.whole main_v0_scv) (Memref.isWhole_whole _) (Memref.whole cc0_scratch0) (Memref.isWhole_whole _) (Memref.whole cc0_scratch1) (Memref.isWhole_whole _) (Memref.whole cc0_scratch2) (Memref.isWhole_whole _) cc0_scratch3 cc0_scoped0) ⟨⟩ c s := rfl

theorem tileObl (hF : (K (F := F)).Facts) (hpre : InRange m) : (K (F := F)).TileObl (D (F := F)) 𝒱 (P m A) v₀ 0 := by
  intro d c i O W hO _ _
  simp only [show (P m A).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m A d (coordsV ⟨_, hci.1⟩ ⟨_, hci.2⟩) hF hpre O W hO

end Tile

theorem vecSplit : (K (F := F)).VecSplit' (P m A) 0 := by
  intro d c
  show (bigSep Finset.univ fun i : Fin 16 => given m d (num c i)) ⊢ |={Set.univ}=> iprop(
      (bigSep Finset.univ fun i : Fin 16 => given m d (num c i))
      ∗ ((bigSep Finset.univ fun i : Fin 16 => taken m A d (num c i)) -∗ bigSep Finset.univ fun i : Fin 16 => taken m A d (num c i)))
  iintro H; imodintro
  isplitl [H]; · iexact H
  iintro H
  iexact H

/-! ## The arrays dealt to the tiles and gathered again -/

/-- What the whole result satisfies. -/
def Summed (d : Dev nD) (f : Buf (Elt F) (oLoc d)) : Prop := ∀ (n : Fin 32) (j : S10000.Idx), A.rep (f (outAt n j)) (sumAtTile m A d n j)

/-- The rest of the read shares. -/
abbrev spare (d : Dev nD) : sProp 𝕄 := reads m d (Transfers.shareDrop fullShare 32)

theorem deal (d : Dev nD) : iprop(reads m d fullShare ∗ oLoc d ↦{fullShare} m (oLoc d))
    ⊢ (iprop(spare m d ∗ bigSep Finset.univ fun n : Fin 32 => given m d n) : sProp 𝕄) := by
  rw [bigSep_sep', bigSep_sep', cut (ℓ := oLoc d) stretchSet disjoint_stretches (Rect.biUnion_part div32)]
  iintro ⟨⟨Hc, Hw⟩, Ho⟩
  ihave Hc' := (toks (cLoc d) (m (cLoc d))).1 $$ Hc
  icases Hc' with ⟨Hc, Hcs⟩
  ihave Hw' := (toks (wLoc d) (m (wLoc d))).1 $$ Hw
  icases Hw' with ⟨Hw, Hws⟩
  isplitl [Hc Hw]
  · isplitl [Hc]; · iexact Hc
    iexact Hw
  isplitr [Ho]
  · isplitl [Hcs]; · iexact Hcs
    iexact Hws
  · iexact Ho

abbrev FIN (d : Dev nD) : sProp 𝕄 := iprop(reads m d fullShare ∗ ∃ f, ⌜Summed m A d f⌝ ∗ oLoc d ↦{fullShare} f)

theorem gather (d : Dev nD) : (iprop(spare m d ∗ bigSep Finset.univ fun n : Fin 32 => taken m A d n) : sProp 𝕄) ⊢ FIN m A d := by
  rw [bigSep_sep', bigSep_sep']
  iintro ⟨⟨Hc, Hw⟩, ⟨Hcs, Hws⟩, Ho⟩
  isplitr [Ho]
  · isplitl [Hc Hcs]
    · iapply (toks (cLoc d) (m (cLoc d))).2
      isplitl [Hc]; · iexact Hc
      iexact Hcs
    iapply (toks (wLoc d) (m (wLoc d))).2
    isplitl [Hw]; · iexact Hw
    iexact Hws
  · iapply (join (ℓ := oLoc d) stretchSet disjoint_stretches (Rect.biUnion_part div32) (fun n f => ∀ j, A.rep (f (outAt n j)) (sumAtTile m A d n j))
      (fun n f g h hf j => by rw [h _ (outAt_mem n j)]; exact hf j) (m (oLoc d)))
    iexact Ho

/-! ## The launch state -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m A).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m A).x q thr) = bigSep Finset.univ fun _ => iprop(emp) from
    bigSep_congr fun _ _ => bigSep_univ_of_subsingleton (0 : Fin 1), bigSep_emp']
  iempintro

/-! ## The TensorCore's program -/

omit [FloatOps F] in
theorem unscopedBufs_eq (d : Dev nD) (W : (b : Ref sig .tc) → Buf (Elt F) ((d.tc : Thread nD τ).loc b)) :
    (unscopedBufs d W : sProp 𝕄) = iprop((cLoc d ↦{fullShare} W main_arg0) ∗ (wLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

theorem st0_eq (d : Dev nD) : (bigSep Finset.univ fun c : Fin ((K (F := F)).nCore 0) => (P m A).st 0 d c) = bigSep Finset.univ fun n : Fin 32 => given m d n :=
  bigSep_num (fun n => given m d n)
theorem dn0_eq (d : Dev nD) : (bigSep Finset.univ fun c : Fin ((K (F := F)).nCore 0) => (P m A).dn 0 d c) = bigSep Finset.univ fun n : Fin 32 => taken m A d n :=
  bigSep_num (fun n => taken m A d n)

theorem hmain (κ : GSem nD τ sig → ℕ) (d : Dev nD) :
    iprop((K (F := F)).ctx EH (P m A) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m A d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hc, Hw, Ho⟩, Hts, -⟩, -⟩
  ihave Hd := (deal m d) $$ [Hc Hw Ho]
  · isplitr [Ho]
    · isplitl [Hc]; · iexact Hc
      iexact Hw
    · iexact Ho
  icases Hd with ⟨Hspare, Hgiven⟩
  iapply ((K (F := F)).wp_run (D (F := F)) 𝒱 (EH := EH) (P := P m A) κ d 0) $$ [Hst Hgiven Hspare Hb Hts]
  isplitr; · iexact Hctx
  isplitl [Hst]; · iexact Hst
  isplitl [Hgiven]
  · rw [st0_eq]
    iexact Hgiven
  iintro ⟨Hst, Hdn⟩
  ihave Htaken := (Entails.of_eq (dn0_eq m A d)) $$ Hdn
  imodintro
  isplitl [Hst]; · iexact Hst
  isplitr [Hb Hts]
  · iapply (gather m A d)
    isplitl [Hspare]; · iexact Hspare
    iexact Htaken
  isplitl [Hb] <;> iassumption

/-! ## What the whole run leaves -/

def fq (d : Dev nD) (s' : Phys nD τ sig (Elt F)) : Prop :=
  s'.mem.mem (cLoc d) = m (cLoc d) ∧ s'.mem.mem (wLoc d) = m (wLoc d) ∧ Summed m A d (s'.mem.mem (oLoc d))

theorem hfin (d : Dev nD) (s' : Phys nD τ sig (Elt F)) : iprop(FIN m A d ∗ SI s') ⊢ (⌜fq m A d s'⌝ : sProp 𝕄) := by
  iintro ⟨⟨⟨Hc, Hw⟩, ⟨%f, %hf, Ho⟩⟩, HSI⟩
  ihave H := (whole_agree s' (cLoc d) (m (cLoc d))) $$ [Hc HSI]
  · isplitl [Hc] <;> iassumption
  icases H with ⟨%h1, HSI⟩
  ihave H := (whole_agree s' (wLoc d) (m (wLoc d))) $$ [Hw HSI]
  · isplitl [Hw] <;> iassumption
  icases H with ⟨%h2, HSI⟩
  ihave H := (whole_agree s' (oLoc d) f) $$ [Ho HSI]
  · isplitl [Ho] <;> iassumption
  icases H with ⟨%h3, HSI⟩
  ipureintro
  exact ⟨h1, h2, h3 ▸ hf⟩

/-- After the run: the arguments are unchanged, the result is the tiles' sums, every semaphore is at zero. -/
def QC : PUnit × MemSt nD τ sig (Elt F) → Prop := fun r =>
  (∀ c : Dev nD, r.2.mem (cLoc c) = m (cLoc c) ∧ r.2.mem (wLoc c) = m (wLoc c) ∧ Summed m A c (r.2.mem (oLoc c))) ∧ r.2.sem = fun _ => 0

theorem run_main [∀ e, Nonempty (Elt F e)] (hpre : InRange m) :
    θ_run (Cert.DegreesIdeal.defs (F := F)) (Cert.DegreesIdeal.threads (F := F)) ⟨m, fun _ => 0, ρ⟩ (QC m A) :=
  SparseCore.Cfg.θ_run_sc_quiescent (K := K (F := F)) (D := D (F := F)) (𝒱 := 𝒱) (EH := EH) (P := P m A) (A := ∅) facts v₀
    (fun q hq => match q with | 0 => nomatch hq)
    (fun q _ => match q with | 0 => tileObl m A facts hpre)
    (fun q _ => match q with | 0 => SparseCore.Cfg.VecSplit.of_plain (vecSplit m A))
    m ρ main (fun _ => iprop(emp)) (FIN m A) (u₀ (F := F)) (sep_elim_left.trans (hu₀ m A)) (hmain m ρ A) (fq m A) (hfin m A) (QC m A) (fun _ h hz => ⟨h, hz⟩)

end Cert.Proof.TallyLaunch

end
-- ==== Proof.TallyValue.lean ====
/-
  What the degree call's result and its reference's have in common: at tile `n` and target `v`, the sum of the weights
  of the tile's edges into `v`.
-/
module

public import proofs.«01_k».proof.Proof.TallyLaunch
public import proofs.«01_k».proof.Proof.Value
public import proofs.«01_k».proof.Proof.Gen.DegreesReferenceIdeal
public import Idealize.ShloMosaic.Lib.Routing.Ops
public import Idealize.ShloMosaic.Lib.Routing.OpsPair
public import Idealize.ShloMosaic.Lib.Pointwise.Tactic
public import Idealize.ShloMosaic.Lib.Pointwise.Reshape
public import Idealize.ShloMosaic.Lib.Pointwise.IndexBridge

@[expose] public section

noncomputable section

namespace Cert.Proof.TallyValue

open Cert.DegreesReferenceIdeal Cert.DegreesReferenceIdeal.Facts₀
open Idealize.ShloMosaic
open Cert.Proof.Account Cert.Proof.Tally

/-- The sum over a tile's ten thousand edges: the weights of those into `v`. -/
def part (c : IVec S320000 32) (w : S320000.Idx → EReal) (n v : Nat) : EReal :=
  ∑ e ∈ Finset.range 10000, if (c (far (10000 * n + e))).toNat = v then w (far (10000 * n + e)) else 0

/-- A tile's sum is the common one. -/
theorem tileCount_at (c : IVec S320000 32) (w : S320000.Idx → EReal) (n v : Nat) (j : (⟨1, ![10048]⟩ : Shape).Idx) (hj : (j 0).val = v) :
    tileCount (F := Ideal) Value.ideal c w n j = part c w n v := by
  show (∑ e ∈ Finset.range 10000, Count.count (F := Ideal) Value.ideal (c (far (10000 * n + e))) (w (far (10000 * n + e)))) j = _
  rw [Finset.sum_apply]
  refine Finset.sum_congr rfl fun e _ => ?_
  show (if (j 0).val = (c (far (10000 * n + e))).toNat then w (far (10000 * n + e)) else (0 : EReal)) = _
  rw [hj]
  exact if_congr eq_comm rfl rfl

/-! ## The reference's side -/

/-- Which sum an edge belongs to: its tile and its target. -/
def target (c : IVec S320000 32) : IVec S320000x1 32 :=
  broadcastInDim S320000x1 ![0] bcast_S320000_S320000x1_0 (addi (muli (shapeCast _ (broadcastInDim S32x10000 ![0, 1] bcast_S32x1_S32x10000_0_1 (broadcastInDim S32x1 ![0] bcast_S32_S32x1_0 (iotaInDim S32 32 0))) shapeCasts_S32x10000_S320000) (broadcastInDim S320000 ![] bcast_S_S320000 (constantI S_ 32 10000#32))) c)

/-- The reference's result. -/
def result (c : IVec S320000 32) (w : S320000.Idx → EReal) : FVec Ideal S320000 .f32 :=
  Host.scatterAdd scatter_S320000_S320000x1_S320000_n_0_0_1 (broadcastInDim S320000 ![] bcast_S_S320000 (constant S_ .f32 0x00000000#32)) (target c) w

theorem target_at (c : IVec S320000 32) (hc : ∀ e, (c e).toNat < 10000) (e : Fin 320000) :
    (target c (ix2 e 0)).toNat = 10000 * (e.val / 10000) + (c (ix1 e)).toNat := by
  unfold target
  pointwise
  have hce := hc (ix1 e)
  have he := e.isLt
  show (BitVec.ofNat 32 (e.val / 10000) * 10000#32 + c (ix1 e)).toNat = _
  rw [BitVec.toNat_add, BitVec.toNat_mul, BitVec.toNat_ofNat, BitVec.toNat_ofNat]
  omega

/-- Where a weight lands: at the position that its index says. -/
theorem lands (d : ScatterDims S320000 S320000x1 S320000) (hu : d.updateWindowDims = []) (hiw : d.insertedWindowDims = [0])
    (hsd : d.scatterDimsToOperandDims = [0]) (hivd : d.indexVectorDim = 1) (idx : IVec S320000x1 32) (e n : Fin 320000) :
    d.resultIdx? (ix1 e) idx = some (ix1 n) ↔ (idx (ix2 e 0)).toInt = (n.val : Int) := by
  have hm : (0 : Fin 1) ∈ d.scatterDimsToOperandDims := by rw [hsd]; exact List.mem_singleton.2 rfl
  have hwin : d.window (ix1 e) 0 = 0 := by
    unfold ScatterDims.window
    rw [dif_neg fun h => (of_decide_eq_true (List.mem_filter.1 h).2) (by rw [hiw]; exact List.mem_singleton.2 rfl)]
  have e0 : ∀ X : Fin 1, (ix1 e X).val = e.val := fun X => by obtain rfl := Fin.eq_zero X; rfl
  have hstart : d.start (ix1 e) idx 0 = (idx (ix2 e 0)).toInt := by
    unfold ScatterDims.start
    rw [dif_pos hm]
    have hsi : d.siIdx (ix1 e) ⟨d.scatterDimsToOperandDims.idxOf 0, List.idxOf_lt_length_iff.2 hm⟩ = ix2 e 0 := by
      funext b'
      apply Fin.ext
      match b' with
      | ⟨0, _⟩ =>
        unfold ScatterDims.siIdx
        rw [dif_neg (by rw [hivd]; exact Nat.zero_ne_one)]
        unfold ScatterDims.siCoord
        simp only [Fin.val_cast]
        exact e0 _
      | ⟨1, _⟩ =>
        unfold ScatterDims.siIdx
        rw [dif_pos (by rw [hivd])]
        show List.idxOf (0 : Fin 1) d.scatterDimsToOperandDims = 0
        rw [hsd]; simp
    rw [hsi]
  rw [Routing.resultIdx?_eq_some]
  have h1 : (∀ a, d.start (ix1 e) idx a + (d.window (ix1 e) a : Int) = ((ix1 n a).val : Int))
      ↔ d.start (ix1 e) idx 0 + (d.window (ix1 e) 0 : Int) = (n.val : Int) :=
    ⟨fun h => h 0, fun h a => match a with | ⟨0, _⟩ => h⟩
  rw [h1, hstart, hwin]
  omega

/-- One edge's share of one of the sums. -/
def share (c : IVec S320000 32) (w : S320000.Idx → EReal) (n v e : Nat) : EReal :=
  if e / 10000 = n ∧ (c (far e)).toNat = v then w (far e) else 0

theorem share_zero (c : IVec S320000 32) (w : S320000.Idx → EReal) {n : Nat} (v : Nat) {e : Nat} (h : ¬ e / 10000 = n) : share c w n v e = 0 :=
  if_neg fun h' => h h'.1

theorem far_val (e : Fin 320000) : far e.val = ix1 e :=
  funext fun a => by obtain rfl := Fin.eq_zero a; exact Fin.ext (Nat.mod_eq_of_lt e.isLt)

theorem share_at (c : IVec S320000 32) (w : S320000.Idx → EReal) (hc : ∀ e, (c e).toNat < 10000) {n v : Nat} (hv : v < 10000) (h : 10000 * n + v < 320000) (e : Fin 320000) :
    (if scatter_S320000_S320000x1_S320000_n_0_0_1.resultIdx? (ix1 e) (target c) = some (ix1 ⟨10000 * n + v, h⟩) then w (ix1 e) else (0 : EReal)) = share c w n v e.val := by
  have hce := hc (ix1 e)
  have he := e.isLt
  have ht : (target c (ix2 e 0)).toInt = ((10000 * (e.val / 10000) + (c (ix1 e)).toNat : Nat) : Int) := by
    rw [BitVec.toInt_eq_toNat_cond, target_at c hc e, if_pos (by omega)]
  have hiff : scatter_S320000_S320000x1_S320000_n_0_0_1.resultIdx? (ix1 e) (target c) = some (ix1 ⟨10000 * n + v, h⟩)
      ↔ e.val / 10000 = n ∧ (c (ix1 e)).toNat = v := by
    rw [lands _ rfl rfl rfl rfl, ht]
    show ((10000 * (e.val / 10000) + (c (ix1 e)).toNat : Nat) : Int) = ((10000 * n + v : Nat) : Int) ↔ _
    rw [Int.ofNat_inj]
    omega
  unfold share
  rw [far_val]
  exact if_congr hiff rfl rfl

theorem sum_edges (g : S320000.Idx → EReal) : ∑ j, g j = ∑ e : Fin 320000, g (ix1 e) :=
  (Fintype.sum_equiv (⟨fun e => ix1 e, fun j => j 0, fun _ => rfl, fun j => funext fun a => by obtain rfl := Fin.eq_zero a; rfl⟩ : Fin 320000 ≃ S320000.Idx) _ _ fun _ => rfl).symm

theorem result_at (c : IVec S320000 32) (w : S320000.Idx → EReal) (hc : ∀ e, (c e).toNat < 10000) {n v : Nat} (hv : v < 10000) (h : 10000 * n + v < 320000) :
    result c w (ix1 ⟨10000 * n + v, h⟩) = part c w n v := by
  show (Ideal.ofBits .f32 0x00000000#32 : EReal) + ∑ j ∈ Finset.univ.filter (fun j => scatter_S320000_S320000x1_S320000_n_0_0_1.resultIdx? j (target c) = some (ix1 ⟨10000 * n + v, h⟩)), w j = _
  rw [Ideal.ofBits_zero_f32, zero_add, Finset.sum_filter]
  rw [sum_edges, Finset.sum_congr rfl fun e _ => share_at c w hc hv h e]
  rw [Fin.sum_univ_eq_sum_range (fun e => share c w n v e) 320000]
  have hsub : Finset.Ico (10000 * n) (10000 * n + 10000) ⊆ Finset.range 320000 := fun e he => by
    rw [Finset.mem_Ico] at he; rw [Finset.mem_range]; omega
  rw [← Finset.sum_subset hsub fun e _ he => share_zero c w _ fun hb => he (by rw [Finset.mem_Ico]; omega)]
  rw [Finset.sum_Ico_eq_sum_range, Nat.add_sub_cancel_left]
  refine Finset.sum_congr rfl fun e he => ?_
  have he' := Finset.mem_range.mp he
  unfold share
  rw [show (10000 * n + e) / 10000 = n by omega]
  simp only [true_and]

/-! ## The two agree -/

/-- What the kernel leaves in its result is the reference's result. -/
theorem result_eq (m : (ℓ : Loc Cert.DegreesIdeal.nD Cert.DegreesIdeal.τ Cert.DegreesIdeal.sig) → Buf (Elt Ideal) ℓ) (hm : TallyLaunch.InRange m) (d : Dev Cert.DegreesIdeal.nD)
    (f : S320000.Idx → EReal) (hf : TallyLaunch.Summed m Value.ideal d f) : f = result (m (TallyLaunch.cLoc d)) (m (TallyLaunch.wLoc d)) := by
  funext p
  have hp : (p 0).val < 320000 := (p 0).isLt
  have hn : (p 0).val / 10000 < 32 := by omega
  have hv : (p 0).val % 10000 < 10000 := Nat.mod_lt _ (by omega)
  have hnv : 10000 * ((p 0).val / 10000) + (p 0).val % 10000 = (p 0).val := by omega
  have hpj : p = TallyLaunch.outAt ⟨(p 0).val / 10000, hn⟩ (ix1 ⟨(p 0).val % 10000, hv⟩) := funext fun a => by
    obtain rfl := Fin.eq_zero a
    exact Fin.ext hnv.symm
  have hpi : p = ix1 ⟨10000 * ((p 0).val / 10000) + (p 0).val % 10000, by omega⟩ := funext fun a => by
    obtain rfl := Fin.eq_zero a
    exact Fin.ext hnv.symm
  have h1 : f (TallyLaunch.outAt ⟨(p 0).val / 10000, hn⟩ (ix1 ⟨(p 0).val % 10000, hv⟩)) = TallyLaunch.sumAtTile m Value.ideal d ⟨(p 0).val / 10000, hn⟩ (ix1 ⟨(p 0).val % 10000, hv⟩) := hf _ _
  rw [← hpj] at h1
  rw [h1]
  refine (tileCount_at _ _ _ _ _ ?_).trans ((result_at _ _ (hm d) hv _).symm.trans (congrArg _ hpi.symm))
  show 0 + 1 * ((p 0).val % 10000) = _
  omega

end Cert.Proof.TallyValue

end
-- ==== Proof.Layers.lean ====
/-
  The calls that work on whole arrays: the first product, the scaling by the degrees' inverse roots, a layer's
  normalisation with the next product (without and with the residual), and the last layer with the weighted sum of
  the layers. Each theorem says that what the call leaves in a result is what the reference returns there.
-/
module

public import proofs.«01_k».proof.Proof.Gen.ProjectIdeal.Value
public import proofs.«01_k».proof.Proof.Gen.ProjectReferenceIdeal.Run
public import proofs.«01_k».proof.Proof.Gen.ScaleIdeal.Value
public import proofs.«01_k».proof.Proof.Gen.ScaleReferenceIdeal.Run
public import proofs.«01_k».proof.Proof.Gen.FirstIdeal.Value
public import proofs.«01_k».proof.Proof.Gen.FirstReferenceIdeal.Run
public import proofs.«01_k».proof.Proof.Gen.MiddleIdeal.Value
public import proofs.«01_k».proof.Proof.Gen.MiddleReferenceIdeal.Run
public import proofs.«01_k».proof.Proof.Gen.LastIdeal.Value
public import proofs.«01_k».proof.Proof.Gen.LastReferenceIdeal.Run
public import Idealize.ShloMosaic.Lib.Pointwise.Tactic
public import Idealize.ShloMosaic.Lib.Pointwise.Reshape
public import Idealize.ShloMosaic.Lib.Pointwise.Reduce
public import Idealize.ShloMosaic.Lib.Pointwise.Contract

@[expose] public section

noncomputable section

namespace Cert.Proof.Layers

open Idealize.ShloMosaic Idealize.SL.Sem

section Project
open Cert.ProjectReferenceIdeal Cert.ProjectReferenceIdeal.Gen

/-- The product is the reference's, transposed. -/
theorem project (x : S10000x128.Idx → EReal) (w : S128x20.Idx → EReal) :
    transpose S20x10000 [1, 0] (Host.dotGeneral (F := Ideal) (φ₁ := .f32) (φ₂ := .f32) dot_S10000x128_S128x20_S10000x20_1_0_0_1_n_n none x w) transposes_S10000x20_S20x10000_1_0
      = Cert.ProjectIdeal.Value.G2 (F := Ideal) x w := by
  funext j
  unfold Cert.ProjectIdeal.Value.G2
  unfold_payloads
  pointwise
  exact Finset.sum_congr rfl fun _ _ => mul_comm _ _

end Project

section Scale
open Cert.ScaleReferenceIdeal Cert.ScaleReferenceIdeal.Gen

/-- The inverse root of one plus the summed degrees. -/
theorem scale_root (p : S32x10000.Idx → EReal) (h : S20x10000.Idx → EReal) :
    broadcastInDim S1x10000 ![1] bcast_S10000_S1x10000_1 (Host.divf (F := Ideal) (φ := .f32) (broadcastInDim S10000 ![] bcast_S_S10000 (constant S_ .f32 0x3F800000#32)) (Host.sqrt (addf (broadcastInDim S10000 ![] bcast_S_S10000 (constant S_ .f32 0x3F800000#32)) (Host.reduceAdd p (constant S_ .f32 0x00000000#32) reducesTo_S32x10000_S10000_d0 h_S_))))
      = Cert.ScaleIdeal.Value.G2 (F := Ideal) p h := by
  funext j
  unfold Cert.ScaleIdeal.Value.G2
  unfold_payloads
  pointwise
  rw [add_comm]

/-- The features scaled by it. -/
theorem scale_features (p : S32x10000.Idx → EReal) (h : S20x10000.Idx → EReal) :
    mulf (F := Ideal) (φ := .f32) h (broadcastInDim S20x10000 ![0, 1] bcast_S1x10000_S20x10000_0_1 (Cert.ScaleIdeal.Value.G2 (F := Ideal) p h))
      = Cert.ScaleIdeal.Value.G3 (F := Ideal) p h := by
  funext j
  unfold Cert.ScaleIdeal.Value.G3 Cert.ScaleIdeal.Value.G2
  unfold_payloads
  pointwise

end Scale

section First
open Cert.FirstReferenceIdeal Cert.FirstReferenceIdeal.Value

/-- The first layer: the layer's output, its product with the next weights, and that product scaled. -/
theorem first (m : (ℓ : Loc nD τ sig) → Buf (Elt Ideal) ℓ) (c : Dev nD)
    (p : S8x20x10000.Idx → EReal) (h : S20x10000.Idx → EReal) (d : S1x10000.Idx → EReal) (b g t : S20x1.Idx → EReal) (w : S20x20.Idx → EReal)
    (h0 : m ((c.tc : Thread nD τ).loc main_arg0) = p) (h1 : m ((c.tc : Thread nD τ).loc main_arg1) = h) (h2 : m ((c.tc : Thread nD τ).loc main_arg2) = d)
    (h3 : m ((c.tc : Thread nD τ).loc main_arg3) = b) (h4 : m ((c.tc : Thread nD τ).loc main_arg4) = g) (h5 : m ((c.tc : Thread nD τ).loc main_arg5) = t)
    (h6 : m ((c.tc : Thread nD τ).loc main_arg6) = w) :
    res_out0 m c = Cert.FirstIdeal.Value.G7 (F := Ideal) p h d b g t w
    ∧ res_out1 m c = Cert.FirstIdeal.Value.G8 (F := Ideal) p h d b g t w
    ∧ res_out2 m c = Cert.FirstIdeal.Value.G9 (F := Ideal) p h d b g t w := by
  unfold res_out0 res_out1 res_out2 res_main_v32 res_main_v33 res_main_v36 Cert.FirstIdeal.Value.G7 Cert.FirstIdeal.Value.G8 Cert.FirstIdeal.Value.G9
  simp only [h0, h1, h2, h3, h4, h5, h6]
  refine ⟨funext fun j => ?_, funext fun j => ?_, funext fun j => ?_⟩
  all_goals
    unfold_payloads
    pointwise
    simp only [Fin.sum_univ_eight]

end First

section Middle
open Cert.MiddleReferenceIdeal Cert.MiddleReferenceIdeal.Value

/-- A middle layer: the same with seven tenths of the layer before added to the output. -/
theorem middle (m : (ℓ : Loc nD τ sig) → Buf (Elt Ideal) ℓ) (c : Dev nD)
    (p : S8x20x10000.Idx → EReal) (h : S20x10000.Idx → EReal) (d : S1x10000.Idx → EReal) (b g t : S20x1.Idx → EReal) (q : S20x10000.Idx → EReal) (w : S20x20.Idx → EReal)
    (h0 : m ((c.tc : Thread nD τ).loc main_arg0) = p) (h1 : m ((c.tc : Thread nD τ).loc main_arg1) = h) (h2 : m ((c.tc : Thread nD τ).loc main_arg2) = d)
    (h3 : m ((c.tc : Thread nD τ).loc main_arg3) = b) (h4 : m ((c.tc : Thread nD τ).loc main_arg4) = g) (h5 : m ((c.tc : Thread nD τ).loc main_arg5) = t)
    (h6 : m ((c.tc : Thread nD τ).loc main_arg6) = q) (h7 : m ((c.tc : Thread nD τ).loc main_arg7) = w) :
    res_out0 m c = Cert.MiddleIdeal.Value.G8 (F := Ideal) p h d b g t q w
    ∧ res_out1 m c = Cert.MiddleIdeal.Value.G9 (F := Ideal) p h d b g t q w
    ∧ res_out2 m c = Cert.MiddleIdeal.Value.G10 (F := Ideal) p h d b g t q w := by
  unfold res_out0 res_out1 res_out2 res_main_v35 res_main_v36 res_main_v39 Cert.MiddleIdeal.Value.G8 Cert.MiddleIdeal.Value.G9 Cert.MiddleIdeal.Value.G10
  simp only [h0, h1, h2, h3, h4, h5, h6, h7]
  refine ⟨funext fun j => ?_, funext fun j => ?_, funext fun j => ?_⟩
  all_goals
    unfold_payloads
    pointwise
    simp only [Fin.sum_univ_eight]

end Middle

section Last
open Cert.LastReferenceIdeal Cert.LastReferenceIdeal.Value

/-- The greatest of the layers' weights, over the one row of them. -/
theorem greatest (w : S1x4.Idx → EReal) (b : EReal) :
    Finset.fold max b w {i | Gen.reducesTo_S1x4_S1_d1.drop i = ix1 0} = Finset.fold max b (fun x : Fin 4 => w (ix2 0 x)) Finset.univ := by
  have e (i : S1x4.Idx) : Gen.reducesTo_S1x4_S1_d1.drop i = ix1 0 := by
    funext a
    match a with
    | ⟨0, _⟩ => exact Subsingleton.elim (α := Fin 1) _ _
  have h : ({i | Gen.reducesTo_S1x4_S1_d1.drop i = ix1 0} : Finset S1x4.Idx) = Finset.univ.image fun x : Fin 4 => (ix2 0 x : S1x4.Idx) := by
    ext i
    simp only [e, Finset.mem_filter, Finset.mem_univ, Finset.mem_image, true_and, true_iff]
    refine ⟨i 1, funext fun a => ?_⟩
    match a with
    | ⟨0, _⟩ => exact Subsingleton.elim (α := Fin 1) _ _
    | ⟨1, _⟩ => rfl
  rw [h, Finset.fold_image fun x _ y _ e => congrFun e 1]
  rfl

/-- The last layer, and the four layers' outputs summed with the softmax of their weights. -/
theorem last (m : (ℓ : Loc nD τ sig) → Buf (Elt Ideal) ℓ) (c : Dev nD)
    (p : S8x20x10000.Idx → EReal) (h : S20x10000.Idx → EReal) (d : S1x10000.Idx → EReal) (b g t : S20x1.Idx → EReal) (q x y z : S20x10000.Idx → EReal) (w : S1x4.Idx → EReal)
    (h0 : m ((c.tc : Thread nD τ).loc main_arg0) = p) (h1 : m ((c.tc : Thread nD τ).loc main_arg1) = h) (h2 : m ((c.tc : Thread nD τ).loc main_arg2) = d)
    (h3 : m ((c.tc : Thread nD τ).loc main_arg3) = b) (h4 : m ((c.tc : Thread nD τ).loc main_arg4) = g) (h5 : m ((c.tc : Thread nD τ).loc main_arg5) = t)
    (h6 : m ((c.tc : Thread nD τ).loc main_arg6) = q) (h7 : m ((c.tc : Thread nD τ).loc main_arg7) = x) (h8 : m ((c.tc : Thread nD τ).loc main_arg8) = y)
    (h9 : m ((c.tc : Thread nD τ).loc main_arg9) = z) (h10 : m ((c.tc : Thread nD τ).loc main_arg10) = w) :
    res_out0 m c = Cert.LastIdeal.Value.G11 (F := Ideal) p h d b g t q x y z w := by
  unfold res_out0 res_main_v66 Cert.LastIdeal.Value.G11
  simp only [h0, h1, h2, h3, h4, h5, h6, h7, h8, h9, h10]
  funext j
  unfold_payloads
  pointwise
  simp only [Fin.sum_univ_eight]
  refine congrArg₂ (· + ·) (congrArg₂ (· + ·) (congrArg₂ (· + ·) ?_ ?_) ?_) ?_
  all_goals
    rw [mul_comm]
    exact congrArg₂ (· * ·) rfl (congrArg₂ Ideal.div (congrArg Ideal.exp (congrArg₂ (· - ·) rfl (congrArg₂ max rfl (greatest w _))))
      (Finset.sum_congr rfl fun _ _ => congrArg Ideal.exp (congrArg₂ (· - ·) rfl (congrArg₂ max rfl (greatest w _)))))

end Last

end Cert.Proof.Layers

end
-- ==== Proof.lean ====
/-
  The claims of this directory: both prints of each call run to a quiescent end with their arguments unchanged, so
  does the reference, and the call's results and the reference's are the same arrays. The edge call's tile is in
  Proof/Dup.lean, Proof/Edge.lean, Proof/Moves.lean, Proof/Body.lean and Proof/Tile.lean, its launch in
  Proof/Launch.lean (what the launches share in Proof/Deal.lean) and the two results' common form in Proof/Value.lean.
  The degree call's are in Proof/Count.lean, Proof/Tally.lean, Proof/TallyLaunch.lean and Proof/TallyValue.lean. The
  calls that work on whole arrays are in Proof/Layers.lean.
-/
module

public import proofs.«01_k».proof.Proof.Gen.Project
public import proofs.«01_k».proof.Proof.Gen.ProjectIdeal
public import proofs.«01_k».proof.Proof.Gen.Project.Frame
public import proofs.«01_k».proof.Proof.Gen.ProjectIdeal.Frame
public import proofs.«01_k».proof.Proof.Gen.ProjectIdeal.Value
public import proofs.«01_k».proof.Proof.Gen.ProjectReferenceIdeal.Run
public import proofs.«01_k».proof.Proof.Gen.Scale
public import proofs.«01_k».proof.Proof.Gen.ScaleIdeal
public import proofs.«01_k».proof.Proof.Gen.Scale.Frame
public import proofs.«01_k».proof.Proof.Gen.ScaleIdeal.Frame
public import proofs.«01_k».proof.Proof.Gen.ScaleIdeal.Value
public import proofs.«01_k».proof.Proof.Gen.ScaleReferenceIdeal.Run
public import proofs.«01_k».proof.Proof.Gen.First
public import proofs.«01_k».proof.Proof.Gen.FirstIdeal
public import proofs.«01_k».proof.Proof.Gen.First.Frame
public import proofs.«01_k».proof.Proof.Gen.FirstIdeal.Frame
public import proofs.«01_k».proof.Proof.Gen.FirstIdeal.Value
public import proofs.«01_k».proof.Proof.Gen.FirstReferenceIdeal.Run
public import proofs.«01_k».proof.Proof.Gen.Middle
public import proofs.«01_k».proof.Proof.Gen.MiddleIdeal
public import proofs.«01_k».proof.Proof.Gen.Middle.Frame
public import proofs.«01_k».proof.Proof.Gen.MiddleIdeal.Frame
public import proofs.«01_k».proof.Proof.Gen.MiddleIdeal.Value
public import proofs.«01_k».proof.Proof.Gen.MiddleReferenceIdeal.Run
public import proofs.«01_k».proof.Proof.Gen.Last
public import proofs.«01_k».proof.Proof.Gen.LastIdeal
public import proofs.«01_k».proof.Proof.Gen.Last.Frame
public import proofs.«01_k».proof.Proof.Gen.LastIdeal.Frame
public import proofs.«01_k».proof.Proof.Gen.LastIdeal.Value
public import proofs.«01_k».proof.Proof.Gen.LastReferenceIdeal.Run
public import proofs.«01_k».proof.Proof.Gen.Degrees
public import proofs.«01_k».proof.Proof.Gen.DegreesIdeal
public import proofs.«01_k».proof.Proof.Gen.Degrees.Skeleton
public import proofs.«01_k».proof.Proof.Gen.DegreesIdeal.Skeleton
public import proofs.«01_k».proof.Proof.Gen.DegreesReferenceIdeal.Run
public import proofs.«01_k».proof.Proof.Gen.Pre_columns_in_range
public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_edges_in_range
public import proofs.«01_k».proof.Proof.Value
public import proofs.«01_k».proof.Proof.TallyValue
public import proofs.«01_k».proof.Proof.Layers
public import Idealize.ShloMosaic.Adequacy
public import Idealize.ShloMosaic.Lib.Quiescent
public import Idealize.ShloMosaic.Init

@[expose] public section

noncomputable section

namespace Cert.Proof

open Idealize.ShloMosaic Idealize.SL.Sem
open Cert.Proof.Account

theorem andi_ofBool (p q : Bool) : IntOp.andi (BitVec.ofBool p) (BitVec.ofBool q) = BitVec.ofBool (p && q) := by
  cases p <;> cases q <;> decide

theorem ofBool_eq_one (p : Bool) : (BitVec.ofBool p = 1#1) ↔ p = true := by cases p <;> decide

/-- The edge call's precondition, read: every source and every target is a node. -/
theorem ranges {F : FTy → Type} [FloatOps F] (x : Cert.Pre_edges_in_range.S200000.Idx → F .f32) (r c : IVec Cert.Pre_edges_in_range.S320000 32)
    (w : Cert.Pre_edges_in_range.S320000.Idx → F .f32) (h : Cert.Pre_edges_in_range.fn (F := F) x r c w = fun _ => 1#1) (e : Cert.Pre_edges_in_range.S320000.Idx) :
    (r e).toNat < 10000 ∧ (c e).toNat < 10000 := by
  have h' := congrFun h e
  simp only [Cert.Pre_edges_in_range.fn, andi, cmpi, broadcastInDim, constantI] at h'
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at h'
  omega

theorem frame_kernel : Cert.quiescent_Kernel := fun m ρ h =>
  (θ_run Cert.KernelIdeal.defs _ _).mono (fun _ h => ⟨fun c => ⟨(h.1 c).1, (h.1 c).2.1, (h.1 c).2.2.1, (h.1 c).2.2.2.1⟩, h.2⟩)
    (Launch.run_main (F := Bits) m ρ (Acct.trivial Bits) fun d e => ranges _ _ _ _ (h d) e)

theorem frame_ideal : Cert.quiescent_KernelIdeal := fun m ρ h =>
  (θ_run Cert.KernelIdeal.defs _ _).mono (fun _ h => ⟨fun c => ⟨(h.1 c).1, (h.1 c).2.1, (h.1 c).2.2.1, (h.1 c).2.2.2.1⟩, h.2⟩)
    (Launch.run_main (F := Ideal) m ρ Value.ideal fun d e => ranges _ _ _ _ (h d) e)

theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

theorem algebraic : Cert.algebraic_KernelIdeal_ReferenceIdeal := by
  intro m ρ m' ρ' hpre hagree
  have hm : Launch.InRange (F := Ideal) m := fun d e => ranges _ _ _ _ (hpre d) e
  refine ⟨fun c => Value.result (m (Launch.xLoc c)) (m (Launch.rLoc c)) (m (Launch.cLoc c)) (m (Launch.wLoc c)),
    (θ_run Cert.KernelIdeal.defs _ _).mono (fun _ h c => ?_) (Launch.run_main (F := Ideal) m ρ Value.ideal hm),
    (θ_run Cert.ReferenceIdeal.defs _ _).mono (fun _ h c => ?_) (Cert.ReferenceIdeal.Value.run (F := Ideal) m' ρ')⟩
  · obtain ⟨hx, hr, hc, hw, hs⟩ := h.1 c
    exact ⟨Value.result_eq m hm c _ hs, hx, hr, hc, hw⟩
  · obtain ⟨hv, hargs⟩ := h c
    obtain ⟨ax, ar, ac, aw⟩ := hagree c
    refine ⟨hv.trans ?_, hargs⟩
    rw [ax, ar, ac, aw]
    rfl

/-- The degree call's precondition, read: every target is a node. -/
theorem columns {F : FTy → Type} [FloatOps F] (c : IVec Cert.Pre_columns_in_range.S320000 32) (w : Cert.Pre_columns_in_range.S320000.Idx → F .f32)
    (h : Cert.Pre_columns_in_range.fn (F := F) c w = fun _ => 1#1) (e : Cert.Pre_columns_in_range.S320000.Idx) : (c e).toNat < 10000 := by
  have h' := congrFun h e
  simp only [Cert.Pre_columns_in_range.fn, andi, cmpi, broadcastInDim, constantI] at h'
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at h'
  omega

theorem frame_degrees : Cert.quiescent_Degrees := fun m ρ h =>
  (θ_run Cert.DegreesIdeal.defs _ _).mono (fun _ h => ⟨fun c => ⟨(h.1 c).1, (h.1 c).2.1⟩, h.2⟩)
    (TallyLaunch.run_main (F := Bits) m ρ (Acct.trivial Bits) fun d e => columns _ _ (h d) e)

theorem frame_ideal_degrees : Cert.quiescent_DegreesIdeal := fun m ρ h =>
  (θ_run Cert.DegreesIdeal.defs _ _).mono (fun _ h => ⟨fun c => ⟨(h.1 c).1, (h.1 c).2.1⟩, h.2⟩)
    (TallyLaunch.run_main (F := Ideal) m ρ Value.ideal fun d e => columns _ _ (h d) e)

theorem frame_reference_degrees : Cert.quiescent_DegreesReferenceIdeal := fun m ρ _ =>
  (θ_run Cert.DegreesReferenceIdeal.defs _ _).mono (fun r h => ⟨fun c => (h c).2, Idealize.ShloMosaic.sem_eq_zero_of_no_sems (by decide) r.2⟩)
    (Cert.DegreesReferenceIdeal.Value.run (F := Ideal) m ρ)

theorem algebraic_degrees : Cert.algebraic_DegreesIdeal_DegreesReferenceIdeal := by
  intro m ρ m' ρ' hpre hagree
  have hm : TallyLaunch.InRange (F := Ideal) m := fun d e => columns _ _ (hpre d) e
  refine ⟨fun c => TallyValue.result (m (TallyLaunch.cLoc c)) (m (TallyLaunch.wLoc c)),
    (θ_run Cert.DegreesIdeal.defs _ _).mono (fun _ h c => ?_) (TallyLaunch.run_main (F := Ideal) m ρ Value.ideal hm),
    (θ_run Cert.DegreesReferenceIdeal.defs _ _).mono (fun _ h c => ?_) (Cert.DegreesReferenceIdeal.Value.run (F := Ideal) m' ρ')⟩
  · obtain ⟨hc, hw, hs⟩ := h.1 c
    exact ⟨TallyValue.result_eq m hm c _ hs, hc, hw⟩
  · obtain ⟨hv, hargs⟩ := h c
    obtain ⟨ac, aw⟩ := hagree c
    refine ⟨hv.trans ?_, hargs⟩
    rw [ac, aw]
    rfl

theorem frame_reference_project : Cert.quiescent_ProjectReferenceIdeal := fun m ρ _ =>
  (θ_run Cert.ProjectReferenceIdeal.defs _ _).mono (fun r h => ⟨fun c => (h c).2, Idealize.ShloMosaic.sem_eq_zero_of_no_sems (by decide) r.2⟩)
    (Cert.ProjectReferenceIdeal.Value.run (F := Ideal) m ρ)

theorem frame_reference_scale : Cert.quiescent_ScaleReferenceIdeal := fun m ρ _ =>
  (θ_run Cert.ScaleReferenceIdeal.defs _ _).mono (fun r h => ⟨fun c => (h c).2.2, Idealize.ShloMosaic.sem_eq_zero_of_no_sems (by decide) r.2⟩)
    (Cert.ScaleReferenceIdeal.Value.run (F := Ideal) m ρ)

theorem frame_reference_first : Cert.quiescent_FirstReferenceIdeal := fun m ρ _ =>
  (θ_run Cert.FirstReferenceIdeal.defs _ _).mono (fun r h => ⟨fun c => (h c).2.2.2, Idealize.ShloMosaic.sem_eq_zero_of_no_sems (by decide) r.2⟩)
    (Cert.FirstReferenceIdeal.Value.run (F := Ideal) m ρ)

theorem frame_reference_middle : Cert.quiescent_MiddleReferenceIdeal := fun m ρ _ =>
  (θ_run Cert.MiddleReferenceIdeal.defs _ _).mono (fun r h => ⟨fun c => (h c).2.2.2, Idealize.ShloMosaic.sem_eq_zero_of_no_sems (by decide) r.2⟩)
    (Cert.MiddleReferenceIdeal.Value.run (F := Ideal) m ρ)

theorem frame_reference_last : Cert.quiescent_LastReferenceIdeal := fun m ρ _ =>
  (θ_run Cert.LastReferenceIdeal.defs _ _).mono (fun r h => ⟨fun c => (h c).2, Idealize.ShloMosaic.sem_eq_zero_of_no_sems (by decide) r.2⟩)
    (Cert.LastReferenceIdeal.Value.run (F := Ideal) m ρ)

theorem algebraic_project : Cert.algebraic_ProjectIdeal_ProjectReferenceIdeal := by
  intro m ρ m' ρ' _ agree
  refine ⟨_, Cert.ProjectIdeal.Value.run m ρ, (θ_run Cert.ProjectReferenceIdeal.defs _ _).mono (fun _ h c => ?_) (Cert.ProjectReferenceIdeal.Value.run m' ρ')⟩
  obtain ⟨a0, a1⟩ := agree c
  obtain ⟨v, args⟩ := h c
  rw [a0, a1] at v
  exact ⟨v.trans (Layers.project _ _), args⟩

theorem algebraic_scale : Cert.algebraic_ScaleIdeal_ScaleReferenceIdeal := by
  intro m ρ m' ρ' _ agree
  refine ⟨_, _, Cert.ScaleIdeal.Value.run m ρ, (θ_run Cert.ScaleReferenceIdeal.defs _ _).mono (fun _ h c => ?_) (Cert.ScaleReferenceIdeal.Value.run m' ρ')⟩
  obtain ⟨a0, a1⟩ := agree c
  obtain ⟨v, w, args⟩ := h c
  rw [a0] at v
  rw [a0, a1] at w
  exact ⟨v.trans (Layers.scale_root _ (m ((c.tc : Thread Cert.ScaleIdeal.nD Cert.ScaleIdeal.τ).loc Cert.ScaleIdeal.main_arg1))),
    w.trans ((congrArg _ (congrArg _ (Layers.scale_root _ (m ((c.tc : Thread Cert.ScaleIdeal.nD Cert.ScaleIdeal.τ).loc Cert.ScaleIdeal.main_arg1))))).trans (Layers.scale_features _ _)), args⟩

theorem algebraic_first : Cert.algebraic_FirstIdeal_FirstReferenceIdeal := by
  intro m ρ m' ρ' _ agree
  refine ⟨_, _, _, Cert.FirstIdeal.Value.run m ρ, (θ_run Cert.FirstReferenceIdeal.defs _ _).mono (fun _ h c => ?_) (Cert.FirstReferenceIdeal.Value.run m' ρ')⟩
  obtain ⟨a0, a1, a2, a3, a4, a5, a6⟩ := agree c
  obtain ⟨e, f, g⟩ := Layers.first m' c _ _ _ _ _ _ _ a0 a1 a2 a3 a4 a5 a6
  obtain ⟨u, v, w, args⟩ := h c
  exact ⟨u.trans e, v.trans f, w.trans g, args⟩

theorem algebraic_middle : Cert.algebraic_MiddleIdeal_MiddleReferenceIdeal := by
  intro m ρ m' ρ' _ agree
  refine ⟨_, _, _, Cert.MiddleIdeal.Value.run m ρ, (θ_run Cert.MiddleReferenceIdeal.defs _ _).mono (fun _ h c => ?_) (Cert.MiddleReferenceIdeal.Value.run m' ρ')⟩
  obtain ⟨a0, a1, a2, a3, a4, a5, a6, a7⟩ := agree c
  obtain ⟨e, f, g⟩ := Layers.middle m' c _ _ _ _ _ _ _ _ a0 a1 a2 a3 a4 a5 a6 a7
  obtain ⟨u, v, w, args⟩ := h c
  exact ⟨u.trans e, v.trans f, w.trans g, args⟩

theorem algebraic_last : Cert.algebraic_LastIdeal_LastReferenceIdeal := by
  intro m ρ m' ρ' _ agree
  refine ⟨_, Cert.LastIdeal.Value.run m ρ, (θ_run Cert.LastReferenceIdeal.defs _ _).mono (fun _ h c => ?_) (Cert.LastReferenceIdeal.Value.run m' ρ')⟩
  obtain ⟨a0, a1, a2, a3, a4, a5, a6, a7, a8, a9, a10⟩ := agree c
  obtain ⟨v, args⟩ := h c
  exact ⟨v.trans (Layers.last m' c _ _ _ _ _ _ _ _ _ _ _ a0 a1 a2 a3 a4 a5 a6 a7 a8 a9 a10), args⟩

theorem claim : Cert.Claim := ⟨Cert.Kernel.Gen.facts, Cert.KernelIdeal.Gen.facts, Cert.ReferenceIdeal.Gen.facts,
  Cert.Degrees.Gen.facts, Cert.DegreesIdeal.Gen.facts, Cert.DegreesReferenceIdeal.Gen.facts,
  Cert.Project.Gen.facts, Cert.ProjectIdeal.Gen.facts, Cert.ProjectReferenceIdeal.Gen.facts, Cert.Scale.Gen.facts, Cert.ScaleIdeal.Gen.facts, Cert.ScaleReferenceIdeal.Gen.facts, Cert.First.Gen.facts, Cert.FirstIdeal.Gen.facts, Cert.FirstReferenceIdeal.Gen.facts, Cert.Middle.Gen.facts, Cert.MiddleIdeal.Gen.facts, Cert.MiddleReferenceIdeal.Gen.facts, Cert.Last.Gen.facts, Cert.LastIdeal.Gen.facts, Cert.LastReferenceIdeal.Gen.facts,
  Cert.Pre_edges_in_range.Gen.facts, Cert.Pre_columns_in_range.Gen.facts,
  frame_kernel, frame_ideal, frame_reference, fun m ρ _ => frame_reference m ρ trivial,
  frame_degrees, frame_ideal_degrees, frame_reference_degrees, fun m ρ _ => frame_reference_degrees m ρ trivial,
  fun m ρ _ => Cert.Project.Gen.frame m ρ, fun m ρ _ => Cert.ProjectIdeal.Gen.frame m ρ, frame_reference_project,
  fun m ρ _ => Cert.Scale.Gen.frame m ρ, fun m ρ _ => Cert.ScaleIdeal.Gen.frame m ρ, frame_reference_scale,
  fun m ρ _ => Cert.First.Gen.frame m ρ, fun m ρ _ => Cert.FirstIdeal.Gen.frame m ρ, frame_reference_first,
  fun m ρ _ => Cert.Middle.Gen.frame m ρ, fun m ρ _ => Cert.MiddleIdeal.Gen.frame m ρ, frame_reference_middle,
  fun m ρ _ => Cert.Last.Gen.frame m ρ, fun m ρ _ => Cert.LastIdeal.Gen.frame m ρ, frame_reference_last,
  trivial, algebraic, trivial, algebraic_degrees, trivial, algebraic_project, trivial, algebraic_scale, trivial, algebraic_first, trivial, algebraic_middle, trivial, algebraic_last⟩

end Cert.Proof

end
